-- ==== Defs.lean ====
def Pre_Swiglu (m : (ℓ : Loc Cert.Swiglu.nD Cert.Swiglu.τ Cert.Swiglu.sig) → Buf (Elt Bits) ℓ) : Prop :=
  True

def Pre_SwigluIdeal (m : (ℓ : Loc Cert.SwigluIdeal.nD Cert.SwigluIdeal.τ Cert.SwigluIdeal.sig) → Buf (Elt Ideal) ℓ) : Prop :=
  True

def Pre_SwigluIdeal_finite_swiglu [hPre_finite_swiglu : Cert.Pre_finite_swiglu.Facts] (m : (ℓ : Loc Cert.SwigluIdeal.nD Cert.SwigluIdeal.τ Cert.SwigluIdeal.sig) → Buf (Elt Ideal) ℓ) : Prop :=
  ∀ c : Dev Cert.SwigluIdeal.nD,
    (Cert.Pre_finite_swiglu.fn (F := Ideal) (m ((c.tc : Thread Cert.SwigluIdeal.nD Cert.SwigluIdeal.τ).loc Cert.SwigluIdeal.main_arg0)) (m ((c.tc : Thread Cert.SwigluIdeal.nD Cert.SwigluIdeal.τ).loc Cert.SwigluIdeal.main_arg1)) (m ((c.tc : Thread Cert.SwigluIdeal.nD Cert.SwigluIdeal.τ).loc Cert.SwigluIdeal.main_arg2)) (m ((c.tc : Thread Cert.SwigluIdeal.nD Cert.SwigluIdeal.τ).loc Cert.SwigluIdeal.main_arg3))).1 = (fun _ => 1#1)
    ∧ (Cert.Pre_finite_swiglu.fn (F := Ideal) (m ((c.tc : Thread Cert.SwigluIdeal.nD Cert.SwigluIdeal.τ).loc Cert.SwigluIdeal.main_arg0)) (m ((c.tc : Thread Cert.SwigluIdeal.nD Cert.SwigluIdeal.τ).loc Cert.SwigluIdeal.main_arg1)) (m ((c.tc : Thread Cert.SwigluIdeal.nD Cert.SwigluIdeal.τ).loc Cert.SwigluIdeal.main_arg2)) (m ((c.tc : Thread Cert.SwigluIdeal.nD Cert.SwigluIdeal.τ).loc Cert.SwigluIdeal.main_arg3))).2.1 = (fun _ => 1#1)
    ∧ (Cert.Pre_finite_swiglu.fn (F := Ideal) (m ((c.tc : Thread Cert.SwigluIdeal.nD Cert.SwigluIdeal.τ).loc Cert.SwigluIdeal.main_arg0)) (m ((c.tc : Thread Cert.SwigluIdeal.nD Cert.SwigluIdeal.τ).loc Cert.SwigluIdeal.main_arg1)) (m ((c.tc : Thread Cert.SwigluIdeal.nD Cert.SwigluIdeal.τ).loc Cert.SwigluIdeal.main_arg2)) (m ((c.tc : Thread Cert.SwigluIdeal.nD Cert.SwigluIdeal.τ).loc Cert.SwigluIdeal.main_arg3))).2.2 = (fun _ => 1#1)

def Pre_SwigluRefIdeal (m : (ℓ : Loc Cert.SwigluRefIdeal.nD Cert.SwigluRefIdeal.τ Cert.SwigluRefIdeal.sig) → Buf (Elt Ideal) ℓ) : Prop :=
  True

def Pre_SwigluRefIdeal_finite_swiglu [hPre_finite_swiglu : Cert.Pre_finite_swiglu.Facts] (m : (ℓ : Loc Cert.SwigluRefIdeal.nD Cert.SwigluRefIdeal.τ Cert.SwigluRefIdeal.sig) → Buf (Elt Ideal) ℓ) : Prop :=
  ∀ c : Dev Cert.SwigluRefIdeal.nD,
    (Cert.Pre_finite_swiglu.fn (F := Ideal) (m ((c.tc : Thread Cert.SwigluRefIdeal.nD Cert.SwigluRefIdeal.τ).loc Cert.SwigluRefIdeal.main_arg0)) (m ((c.tc : Thread Cert.SwigluRefIdeal.nD Cert.SwigluRefIdeal.τ).loc Cert.SwigluRefIdeal.main_arg1)) (m ((c.tc : Thread Cert.SwigluRefIdeal.nD Cert.SwigluRefIdeal.τ).loc Cert.SwigluRefIdeal.main_arg2)) (m ((c.tc : Thread Cert.SwigluRefIdeal.nD Cert.SwigluRefIdeal.τ).loc Cert.SwigluRefIdeal.main_arg3))).1 = (fun _ => 1#1)
    ∧ (Cert.Pre_finite_swiglu.fn (F := Ideal) (m ((c.tc : Thread Cert.SwigluRefIdeal.nD Cert.SwigluRefIdeal.τ).loc Cert.SwigluRefIdeal.main_arg0)) (m ((c.tc : Thread Cert.SwigluRefIdeal.nD Cert.SwigluRefIdeal.τ).loc Cert.SwigluRefIdeal.main_arg1)) (m ((c.tc : Thread Cert.SwigluRefIdeal.nD Cert.SwigluRefIdeal.τ).loc Cert.SwigluRefIdeal.main_arg2)) (m ((c.tc : Thread Cert.SwigluRefIdeal.nD Cert.SwigluRefIdeal.τ).loc Cert.SwigluRefIdeal.main_arg3))).2.1 = (fun _ => 1#1)
    ∧ (Cert.Pre_finite_swiglu.fn (F := Ideal) (m ((c.tc : Thread Cert.SwigluRefIdeal.nD Cert.SwigluRefIdeal.τ).loc Cert.SwigluRefIdeal.main_arg0)) (m ((c.tc : Thread Cert.SwigluRefIdeal.nD Cert.SwigluRefIdeal.τ).loc Cert.SwigluRefIdeal.main_arg1)) (m ((c.tc : Thread Cert.SwigluRefIdeal.nD Cert.SwigluRefIdeal.τ).loc Cert.SwigluRefIdeal.main_arg2)) (m ((c.tc : Thread Cert.SwigluRefIdeal.nD Cert.SwigluRefIdeal.τ).loc Cert.SwigluRefIdeal.main_arg3))).2.2 = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_attn [hPre_finite_attn : Cert.Pre_finite_attn.Facts] (m : (ℓ : Loc Cert.AttnIdeal.nD Cert.AttnIdeal.τ Cert.AttnIdeal.sig) → Buf (Elt Ideal) ℓ) : Prop :=
  ∀ c : Dev Cert.AttnIdeal.nD,
    (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).1 = (fun _ => 1#1)
    ∧ (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.1 = (fun _ => 1#1)
    ∧ (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.2.1 = (fun _ => 1#1)
    ∧ (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.2.2.1 = (fun _ => 1#1)
    ∧ (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.2.2.2.1 = (fun _ => 1#1)
    ∧ (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.2.2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_attn [hPre_finite_attn : Cert.Pre_finite_attn.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).1 = (fun _ => 1#1)
    ∧ (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.1 = (fun _ => 1#1)
    ∧ (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.2.1 = (fun _ => 1#1)
    ∧ (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.2.2.1 = (fun _ => 1#1)
    ∧ (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.2.2.2.1 = (fun _ => 1#1)
    ∧ (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.2.2.2.2 = (fun _ => 1#1)

def Pre_FfNorm (m : (ℓ : Loc Cert.FfNorm.nD Cert.FfNorm.τ Cert.FfNorm.sig) → Buf (Elt Bits) ℓ) : Prop :=
  True

def Pre_FfNormIdeal (m : (ℓ : Loc Cert.FfNormIdeal.nD Cert.FfNormIdeal.τ Cert.FfNormIdeal.sig) → Buf (Elt Ideal) ℓ) : Prop :=
  True

def Pre_FfNormIdeal_finite_ffnorm [hPre_finite_ffnorm : Cert.Pre_finite_ffnorm.Facts] (m : (ℓ : Loc Cert.FfNormIdeal.nD Cert.FfNormIdeal.τ Cert.FfNormIdeal.sig) → Buf (Elt Ideal) ℓ) : Prop :=
  ∀ c : Dev Cert.FfNormIdeal.nD,
    (Cert.Pre_finite_ffnorm.fn (F := Ideal) (m ((c.tc : Thread Cert.FfNormIdeal.nD Cert.FfNormIdeal.τ).loc Cert.FfNormIdeal.main_arg0)) (m ((c.tc : Thread Cert.FfNormIdeal.nD Cert.FfNormIdeal.τ).loc Cert.FfNormIdeal.main_arg1)) (m ((c.tc : Thread Cert.FfNormIdeal.nD Cert.FfNormIdeal.τ).loc Cert.FfNormIdeal.main_arg2)) (m ((c.tc : Thread Cert.FfNormIdeal.nD Cert.FfNormIdeal.τ).loc Cert.FfNormIdeal.main_arg3)) (m ((c.tc : Thread Cert.FfNormIdeal.nD Cert.FfNormIdeal.τ).loc Cert.FfNormIdeal.main_arg4)) (m ((c.tc : Thread Cert.FfNormIdeal.nD Cert.FfNormIdeal.τ).loc Cert.FfNormIdeal.main_arg5)) (m ((c.tc : Thread Cert.FfNormIdeal.nD Cert.FfNormIdeal.τ).loc Cert.FfNormIdeal.main_arg6))).1 = (fun _ => 1#1)
    ∧ (Cert.Pre_finite_ffnorm.fn (F := Ideal) (m ((c.tc : Thread Cert.FfNormIdeal.nD Cert.FfNormIdeal.τ).loc Cert.FfNormIdeal.main_arg0)) (m ((c.tc : Thread Cert.FfNormIdeal.nD Cert.FfNormIdeal.τ).loc Cert.FfNormIdeal.main_arg1)) (m ((c.tc : Thread Cert.FfNormIdeal.nD Cert.FfNormIdeal.τ).loc Cert.FfNormIdeal.main_arg2)) (m ((c.tc : Thread Cert.FfNormIdeal.nD Cert.FfNormIdeal.τ).loc Cert.FfNormIdeal.main_arg3)) (m ((c.tc : Thread Cert.FfNormIdeal.nD Cert.FfNormIdeal.τ).loc Cert.FfNormIdeal.main_arg4)) (m ((c.tc : Thread Cert.FfNormIdeal.nD Cert.FfNormIdeal.τ).loc Cert.FfNormIdeal.main_arg5)) (m ((c.tc : Thread Cert.FfNormIdeal.nD Cert.FfNormIdeal.τ).loc Cert.FfNormIdeal.main_arg6))).2.1 = (fun _ => 1#1)
    ∧ (Cert.Pre_finite_ffnorm.fn (F := Ideal) (m ((c.tc : Thread Cert.FfNormIdeal.nD Cert.FfNormIdeal.τ).loc Cert.FfNormIdeal.main_arg0)) (m ((c.tc : Thread Cert.FfNormIdeal.nD Cert.FfNormIdeal.τ).loc Cert.FfNormIdeal.main_arg1)) (m ((c.tc : Thread Cert.FfNormIdeal.nD Cert.FfNormIdeal.τ).loc Cert.FfNormIdeal.main_arg2)) (m ((c.tc : Thread Cert.FfNormIdeal.nD Cert.FfNormIdeal.τ).loc Cert.FfNormIdeal.main_arg3)) (m ((c.tc : Thread Cert.FfNormIdeal.nD Cert.FfNormIdeal.τ).loc Cert.FfNormIdeal.main_arg4)) (m ((c.tc : Thread Cert.FfNormIdeal.nD Cert.FfNormIdeal.τ).loc Cert.FfNormIdeal.main_arg5)) (m ((c.tc : Thread Cert.FfNormIdeal.nD Cert.FfNormIdeal.τ).loc Cert.FfNormIdeal.main_arg6))).2.2.1 = (fun _ => 1#1)
    ∧ (Cert.Pre_finite_ffnorm.fn (F := Ideal) (m ((c.tc : Thread Cert.FfNormIdeal.nD Cert.FfNormIdeal.τ).loc Cert.FfNormIdeal.main_arg0)) (m ((c.tc : Thread Cert.FfNormIdeal.nD Cert.FfNormIdeal.τ).loc Cert.FfNormIdeal.main_arg1)) (m ((c.tc : Thread Cert.FfNormIdeal.nD Cert.FfNormIdeal.τ).loc Cert.FfNormIdeal.main_arg2)) (m ((c.tc : Thread Cert.FfNormIdeal.nD Cert.FfNormIdeal.τ).loc Cert.FfNormIdeal.main_arg3)) (m ((c.tc : Thread Cert.FfNormIdeal.nD Cert.FfNormIdeal.τ).loc Cert.FfNormIdeal.main_arg4)) (m ((c.tc : Thread Cert.FfNormIdeal.nD Cert.FfNormIdeal.τ).loc Cert.FfNormIdeal.main_arg5)) (m ((c.tc : Thread Cert.FfNormIdeal.nD Cert.FfNormIdeal.τ).loc Cert.FfNormIdeal.main_arg6))).2.2.2.1 = (fun _ => 1#1)
    ∧ (Cert.Pre_finite_ffnorm.fn (F := Ideal) (m ((c.tc : Thread Cert.FfNormIdeal.nD Cert.FfNormIdeal.τ).loc Cert.FfNormIdeal.main_arg0)) (m ((c.tc : Thread Cert.FfNormIdeal.nD Cert.FfNormIdeal.τ).loc Cert.FfNormIdeal.main_arg1)) (m ((c.tc : Thread Cert.FfNormIdeal.nD Cert.FfNormIdeal.τ).loc Cert.FfNormIdeal.main_arg2)) (m ((c.tc : Thread Cert.FfNormIdeal.nD Cert.FfNormIdeal.τ).loc Cert.FfNormIdeal.main_arg3)) (m ((c.tc : Thread Cert.FfNormIdeal.nD Cert.FfNormIdeal.τ).loc Cert.FfNormIdeal.main_arg4)) (m ((c.tc : Thread Cert.FfNormIdeal.nD Cert.FfNormIdeal.τ).loc Cert.FfNormIdeal.main_arg5)) (m ((c.tc : Thread Cert.FfNormIdeal.nD Cert.FfNormIdeal.τ).loc Cert.FfNormIdeal.main_arg6))).2.2.2.2.1 = (fun _ => 1#1)
    ∧ (Cert.Pre_finite_ffnorm.fn (F := Ideal) (m ((c.tc : Thread Cert.FfNormIdeal.nD Cert.FfNormIdeal.τ).loc Cert.FfNormIdeal.main_arg0)) (m ((c.tc : Thread Cert.FfNormIdeal.nD Cert.FfNormIdeal.τ).loc Cert.FfNormIdeal.main_arg1)) (m ((c.tc : Thread Cert.FfNormIdeal.nD Cert.FfNormIdeal.τ).loc Cert.FfNormIdeal.main_arg2)) (m ((c.tc : Thread Cert.FfNormIdeal.nD Cert.FfNormIdeal.τ).loc Cert.FfNormIdeal.main_arg3)) (m ((c.tc : Thread Cert.FfNormIdeal.nD Cert.FfNormIdeal.τ).loc Cert.FfNormIdeal.main_arg4)) (m ((c.tc : Thread Cert.FfNormIdeal.nD Cert.FfNormIdeal.τ).loc Cert.FfNormIdeal.main_arg5)) (m ((c.tc : Thread Cert.FfNormIdeal.nD Cert.FfNormIdeal.τ).loc Cert.FfNormIdeal.main_arg6))).2.2.2.2.2 = (fun _ => 1#1)

def Pre_FfNormRefIdeal (m : (ℓ : Loc Cert.FfNormRefIdeal.nD Cert.FfNormRefIdeal.τ Cert.FfNormRefIdeal.sig) → Buf (Elt Ideal) ℓ) : Prop :=
  True

def Pre_FfNormRefIdeal_finite_ffnorm [hPre_finite_ffnorm : Cert.Pre_finite_ffnorm.Facts] (m : (ℓ : Loc Cert.FfNormRefIdeal.nD Cert.FfNormRefIdeal.τ Cert.FfNormRefIdeal.sig) → Buf (Elt Ideal) ℓ) : Prop :=
  ∀ c : Dev Cert.FfNormRefIdeal.nD,
    (Cert.Pre_finite_ffnorm.fn (F := Ideal) (m ((c.tc : Thread Cert.FfNormRefIdeal.nD Cert.FfNormRefIdeal.τ).loc Cert.FfNormRefIdeal.main_arg0)) (m ((c.tc : Thread Cert.FfNormRefIdeal.nD Cert.FfNormRefIdeal.τ).loc Cert.FfNormRefIdeal.main_arg1)) (m ((c.tc : Thread Cert.FfNormRefIdeal.nD Cert.FfNormRefIdeal.τ).loc Cert.FfNormRefIdeal.main_arg2)) (m ((c.tc : Thread Cert.FfNormRefIdeal.nD Cert.FfNormRefIdeal.τ).loc Cert.FfNormRefIdeal.main_arg3)) (m ((c.tc : Thread Cert.FfNormRefIdeal.nD Cert.FfNormRefIdeal.τ).loc Cert.FfNormRefIdeal.main_arg4)) (m ((c.tc : Thread Cert.FfNormRefIdeal.nD Cert.FfNormRefIdeal.τ).loc Cert.FfNormRefIdeal.main_arg5)) (m ((c.tc : Thread Cert.FfNormRefIdeal.nD Cert.FfNormRefIdeal.τ).loc Cert.FfNormRefIdeal.main_arg6))).1 = (fun _ => 1#1)
    ∧ (Cert.Pre_finite_ffnorm.fn (F := Ideal) (m ((c.tc : Thread Cert.FfNormRefIdeal.nD Cert.FfNormRefIdeal.τ).loc Cert.FfNormRefIdeal.main_arg0)) (m ((c.tc : Thread Cert.FfNormRefIdeal.nD Cert.FfNormRefIdeal.τ).loc Cert.FfNormRefIdeal.main_arg1)) (m ((c.tc : Thread Cert.FfNormRefIdeal.nD Cert.FfNormRefIdeal.τ).loc Cert.FfNormRefIdeal.main_arg2)) (m ((c.tc : Thread Cert.FfNormRefIdeal.nD Cert.FfNormRefIdeal.τ).loc Cert.FfNormRefIdeal.main_arg3)) (m ((c.tc : Thread Cert.FfNormRefIdeal.nD Cert.FfNormRefIdeal.τ).loc Cert.FfNormRefIdeal.main_arg4)) (m ((c.tc : Thread Cert.FfNormRefIdeal.nD Cert.FfNormRefIdeal.τ).loc Cert.FfNormRefIdeal.main_arg5)) (m ((c.tc : Thread Cert.FfNormRefIdeal.nD Cert.FfNormRefIdeal.τ).loc Cert.FfNormRefIdeal.main_arg6))).2.1 = (fun _ => 1#1)
    ∧ (Cert.Pre_finite_ffnorm.fn (F := Ideal) (m ((c.tc : Thread Cert.FfNormRefIdeal.nD Cert.FfNormRefIdeal.τ).loc Cert.FfNormRefIdeal.main_arg0)) (m ((c.tc : Thread Cert.FfNormRefIdeal.nD Cert.FfNormRefIdeal.τ).loc Cert.FfNormRefIdeal.main_arg1)) (m ((c.tc : Thread Cert.FfNormRefIdeal.nD Cert.FfNormRefIdeal.τ).loc Cert.FfNormRefIdeal.main_arg2)) (m ((c.tc : Thread Cert.FfNormRefIdeal.nD Cert.FfNormRefIdeal.τ).loc Cert.FfNormRefIdeal.main_arg3)) (m ((c.tc : Thread Cert.FfNormRefIdeal.nD Cert.FfNormRefIdeal.τ).loc Cert.FfNormRefIdeal.main_arg4)) (m ((c.tc : Thread Cert.FfNormRefIdeal.nD Cert.FfNormRefIdeal.τ).loc Cert.FfNormRefIdeal.main_arg5)) (m ((c.tc : Thread Cert.FfNormRefIdeal.nD Cert.FfNormRefIdeal.τ).loc Cert.FfNormRefIdeal.main_arg6))).2.2.1 = (fun _ => 1#1)
    ∧ (Cert.Pre_finite_ffnorm.fn (F := Ideal) (m ((c.tc : Thread Cert.FfNormRefIdeal.nD Cert.FfNormRefIdeal.τ).loc Cert.FfNormRefIdeal.main_arg0)) (m ((c.tc : Thread Cert.FfNormRefIdeal.nD Cert.FfNormRefIdeal.τ).loc Cert.FfNormRefIdeal.main_arg1)) (m ((c.tc : Thread Cert.FfNormRefIdeal.nD Cert.FfNormRefIdeal.τ).loc Cert.FfNormRefIdeal.main_arg2)) (m ((c.tc : Thread Cert.FfNormRefIdeal.nD Cert.FfNormRefIdeal.τ).loc Cert.FfNormRefIdeal.main_arg3)) (m ((c.tc : Thread Cert.FfNormRefIdeal.nD Cert.FfNormRefIdeal.τ).loc Cert.FfNormRefIdeal.main_arg4)) (m ((c.tc : Thread Cert.FfNormRefIdeal.nD Cert.FfNormRefIdeal.τ).loc Cert.FfNormRefIdeal.main_arg5)) (m ((c.tc : Thread Cert.FfNormRefIdeal.nD Cert.FfNormRefIdeal.τ).loc Cert.FfNormRefIdeal.main_arg6))).2.2.2.1 = (fun _ => 1#1)
    ∧ (Cert.Pre_finite_ffnorm.fn (F := Ideal) (m ((c.tc : Thread Cert.FfNormRefIdeal.nD Cert.FfNormRefIdeal.τ).loc Cert.FfNormRefIdeal.main_arg0)) (m ((c.tc : Thread Cert.FfNormRefIdeal.nD Cert.FfNormRefIdeal.τ).loc Cert.FfNormRefIdeal.main_arg1)) (m ((c.tc : Thread Cert.FfNormRefIdeal.nD Cert.FfNormRefIdeal.τ).loc Cert.FfNormRefIdeal.main_arg2)) (m ((c.tc : Thread Cert.FfNormRefIdeal.nD Cert.FfNormRefIdeal.τ).loc Cert.FfNormRefIdeal.main_arg3)) (m ((c.tc : Thread Cert.FfNormRefIdeal.nD Cert.FfNormRefIdeal.τ).loc Cert.FfNormRefIdeal.main_arg4)) (m ((c.tc : Thread Cert.FfNormRefIdeal.nD Cert.FfNormRefIdeal.τ).loc Cert.FfNormRefIdeal.main_arg5)) (m ((c.tc : Thread Cert.FfNormRefIdeal.nD Cert.FfNormRefIdeal.τ).loc Cert.FfNormRefIdeal.main_arg6))).2.2.2.2.1 = (fun _ => 1#1)
    ∧ (Cert.Pre_finite_ffnorm.fn (F := Ideal) (m ((c.tc : Thread Cert.FfNormRefIdeal.nD Cert.FfNormRefIdeal.τ).loc Cert.FfNormRefIdeal.main_arg0)) (m ((c.tc : Thread Cert.FfNormRefIdeal.nD Cert.FfNormRefIdeal.τ).loc Cert.FfNormRefIdeal.main_arg1)) (m ((c.tc : Thread Cert.FfNormRefIdeal.nD Cert.FfNormRefIdeal.τ).loc Cert.FfNormRefIdeal.main_arg2)) (m ((c.tc : Thread Cert.FfNormRefIdeal.nD Cert.FfNormRefIdeal.τ).loc Cert.FfNormRefIdeal.main_arg3)) (m ((c.tc : Thread Cert.FfNormRefIdeal.nD Cert.FfNormRefIdeal.τ).loc Cert.FfNormRefIdeal.main_arg4)) (m ((c.tc : Thread Cert.FfNormRefIdeal.nD Cert.FfNormRefIdeal.τ).loc Cert.FfNormRefIdeal.main_arg5)) (m ((c.tc : Thread Cert.FfNormRefIdeal.nD Cert.FfNormRefIdeal.τ).loc Cert.FfNormRefIdeal.main_arg6))).2.2.2.2.2 = (fun _ => 1#1)

def Pre_QNorm (m : (ℓ : Loc Cert.QNorm.nD Cert.QNorm.τ Cert.QNorm.sig) → Buf (Elt Bits) ℓ) : Prop :=
  True

def Pre_QNormIdeal (m : (ℓ : Loc Cert.QNormIdeal.nD Cert.QNormIdeal.τ Cert.QNormIdeal.sig) → Buf (Elt Ideal) ℓ) : Prop :=
  True

def Pre_QNormIdeal_finite_qnorm [hPre_finite_qnorm : Cert.Pre_finite_qnorm.Facts] (m : (ℓ : Loc Cert.QNormIdeal.nD Cert.QNormIdeal.τ Cert.QNormIdeal.sig) → Buf (Elt Ideal) ℓ) : Prop :=
  ∀ c : Dev Cert.QNormIdeal.nD,
    (Cert.Pre_finite_qnorm.fn (F := Ideal) (m ((c.tc : Thread Cert.QNormIdeal.nD Cert.QNormIdeal.τ).loc Cert.QNormIdeal.main_arg0)) (m ((c.tc : Thread Cert.QNormIdeal.nD Cert.QNormIdeal.τ).loc Cert.QNormIdeal.main_arg1)) (m ((c.tc : Thread Cert.QNormIdeal.nD Cert.QNormIdeal.τ).loc Cert.QNormIdeal.main_arg2)) (m ((c.tc : Thread Cert.QNormIdeal.nD Cert.QNormIdeal.τ).loc Cert.QNormIdeal.main_arg3))).1 = (fun _ => 1#1)
    ∧ (Cert.Pre_finite_qnorm.fn (F := Ideal) (m ((c.tc : Thread Cert.QNormIdeal.nD Cert.QNormIdeal.τ).loc Cert.QNormIdeal.main_arg0)) (m ((c.tc : Thread Cert.QNormIdeal.nD Cert.QNormIdeal.τ).loc Cert.QNormIdeal.main_arg1)) (m ((c.tc : Thread Cert.QNormIdeal.nD Cert.QNormIdeal.τ).loc Cert.QNormIdeal.main_arg2)) (m ((c.tc : Thread Cert.QNormIdeal.nD Cert.QNormIdeal.τ).loc Cert.QNormIdeal.main_arg3))).2.1 = (fun _ => 1#1)
    ∧ (Cert.Pre_finite_qnorm.fn (F := Ideal) (m ((c.tc : Thread Cert.QNormIdeal.nD Cert.QNormIdeal.τ).loc Cert.QNormIdeal.main_arg0)) (m ((c.tc : Thread Cert.QNormIdeal.nD Cert.QNormIdeal.τ).loc Cert.QNormIdeal.main_arg1)) (m ((c.tc : Thread Cert.QNormIdeal.nD Cert.QNormIdeal.τ).loc Cert.QNormIdeal.main_arg2)) (m ((c.tc : Thread Cert.QNormIdeal.nD Cert.QNormIdeal.τ).loc Cert.QNormIdeal.main_arg3))).2.2.1 = (fun _ => 1#1)
    ∧ (Cert.Pre_finite_qnorm.fn (F := Ideal) (m ((c.tc : Thread Cert.QNormIdeal.nD Cert.QNormIdeal.τ).loc Cert.QNormIdeal.main_arg0)) (m ((c.tc : Thread Cert.QNormIdeal.nD Cert.QNormIdeal.τ).loc Cert.QNormIdeal.main_arg1)) (m ((c.tc : Thread Cert.QNormIdeal.nD Cert.QNormIdeal.τ).loc Cert.QNormIdeal.main_arg2)) (m ((c.tc : Thread Cert.QNormIdeal.nD Cert.QNormIdeal.τ).loc Cert.QNormIdeal.main_arg3))).2.2.2 = (fun _ => 1#1)

def Pre_QNormRefIdeal (m : (ℓ : Loc Cert.QNormRefIdeal.nD Cert.QNormRefIdeal.τ Cert.QNormRefIdeal.sig) → Buf (Elt Ideal) ℓ) : Prop :=
  True

def Pre_QNormRefIdeal_finite_qnorm [hPre_finite_qnorm : Cert.Pre_finite_qnorm.Facts] (m : (ℓ : Loc Cert.QNormRefIdeal.nD Cert.QNormRefIdeal.τ Cert.QNormRefIdeal.sig) → Buf (Elt Ideal) ℓ) : Prop :=
  ∀ c : Dev Cert.QNormRefIdeal.nD,
    (Cert.Pre_finite_qnorm.fn (F := Ideal) (m ((c.tc : Thread Cert.QNormRefIdeal.nD Cert.QNormRefIdeal.τ).loc Cert.QNormRefIdeal.main_arg0)) (m ((c.tc : Thread Cert.QNormRefIdeal.nD Cert.QNormRefIdeal.τ).loc Cert.QNormRefIdeal.main_arg1)) (m ((c.tc : Thread Cert.QNormRefIdeal.nD Cert.QNormRefIdeal.τ).loc Cert.QNormRefIdeal.main_arg2)) (m ((c.tc : Thread Cert.QNormRefIdeal.nD Cert.QNormRefIdeal.τ).loc Cert.QNormRefIdeal.main_arg3))).1 = (fun _ => 1#1)
    ∧ (Cert.Pre_finite_qnorm.fn (F := Ideal) (m ((c.tc : Thread Cert.QNormRefIdeal.nD Cert.QNormRefIdeal.τ).loc Cert.QNormRefIdeal.main_arg0)) (m ((c.tc : Thread Cert.QNormRefIdeal.nD Cert.QNormRefIdeal.τ).loc Cert.QNormRefIdeal.main_arg1)) (m ((c.tc : Thread Cert.QNormRefIdeal.nD Cert.QNormRefIdeal.τ).loc Cert.QNormRefIdeal.main_arg2)) (m ((c.tc : Thread Cert.QNormRefIdeal.nD Cert.QNormRefIdeal.τ).loc Cert.QNormRefIdeal.main_arg3))).2.1 = (fun _ => 1#1)
    ∧ (Cert.Pre_finite_qnorm.fn (F := Ideal) (m ((c.tc : Thread Cert.QNormRefIdeal.nD Cert.QNormRefIdeal.τ).loc Cert.QNormRefIdeal.main_arg0)) (m ((c.tc : Thread Cert.QNormRefIdeal.nD Cert.QNormRefIdeal.τ).loc Cert.QNormRefIdeal.main_arg1)) (m ((c.tc : Thread Cert.QNormRefIdeal.nD Cert.QNormRefIdeal.τ).loc Cert.QNormRefIdeal.main_arg2)) (m ((c.tc : Thread Cert.QNormRefIdeal.nD Cert.QNormRefIdeal.τ).loc Cert.QNormRefIdeal.main_arg3))).2.2.1 = (fun _ => 1#1)
    ∧ (Cert.Pre_finite_qnorm.fn (F := Ideal) (m ((c.tc : Thread Cert.QNormRefIdeal.nD Cert.QNormRefIdeal.τ).loc Cert.QNormRefIdeal.main_arg0)) (m ((c.tc : Thread Cert.QNormRefIdeal.nD Cert.QNormRefIdeal.τ).loc Cert.QNormRefIdeal.main_arg1)) (m ((c.tc : Thread Cert.QNormRefIdeal.nD Cert.QNormRefIdeal.τ).loc Cert.QNormRefIdeal.main_arg2)) (m ((c.tc : Thread Cert.QNormRefIdeal.nD Cert.QNormRefIdeal.τ).loc Cert.QNormRefIdeal.main_arg3))).2.2.2 = (fun _ => 1#1)

def Pre_KvNorm (m : (ℓ : Loc Cert.KvNorm.nD Cert.KvNorm.τ Cert.KvNorm.sig) → Buf (Elt Bits) ℓ) : Prop :=
  True

def Pre_KvNormIdeal (m : (ℓ : Loc Cert.KvNormIdeal.nD Cert.KvNormIdeal.τ Cert.KvNormIdeal.sig) → Buf (Elt Ideal) ℓ) : Prop :=
  True

def Pre_KvNormIdeal_finite_kvnorm [hPre_finite_kvnorm : Cert.Pre_finite_kvnorm.Facts] (m : (ℓ : Loc Cert.KvNormIdeal.nD Cert.KvNormIdeal.τ Cert.KvNormIdeal.sig) → Buf (Elt Ideal) ℓ) : Prop :=
  ∀ c : Dev Cert.KvNormIdeal.nD,
    (Cert.Pre_finite_kvnorm.fn (F := Ideal) (m ((c.tc : Thread Cert.KvNormIdeal.nD Cert.KvNormIdeal.τ).loc Cert.KvNormIdeal.main_arg0)) (m ((c.tc : Thread Cert.KvNormIdeal.nD Cert.KvNormIdeal.τ).loc Cert.KvNormIdeal.main_arg1)) (m ((c.tc : Thread Cert.KvNormIdeal.nD Cert.KvNormIdeal.τ).loc Cert.KvNormIdeal.main_arg2)) (m ((c.tc : Thread Cert.KvNormIdeal.nD Cert.KvNormIdeal.τ).loc Cert.KvNormIdeal.main_arg3)) (m ((c.tc : Thread Cert.KvNormIdeal.nD Cert.KvNormIdeal.τ).loc Cert.KvNormIdeal.main_arg4))).1 = (fun _ => 1#1)
    ∧ (Cert.Pre_finite_kvnorm.fn (F := Ideal) (m ((c.tc : Thread Cert.KvNormIdeal.nD Cert.KvNormIdeal.τ).loc Cert.KvNormIdeal.main_arg0)) (m ((c.tc : Thread Cert.KvNormIdeal.nD Cert.KvNormIdeal.τ).loc Cert.KvNormIdeal.main_arg1)) (m ((c.tc : Thread Cert.KvNormIdeal.nD Cert.KvNormIdeal.τ).loc Cert.KvNormIdeal.main_arg2)) (m ((c.tc : Thread Cert.KvNormIdeal.nD Cert.KvNormIdeal.τ).loc Cert.KvNormIdeal.main_arg3)) (m ((c.tc : Thread Cert.KvNormIdeal.nD Cert.KvNormIdeal.τ).loc Cert.KvNormIdeal.main_arg4))).2.1 = (fun _ => 1#1)
    ∧ (Cert.Pre_finite_kvnorm.fn (F := Ideal) (m ((c.tc : Thread Cert.KvNormIdeal.nD Cert.KvNormIdeal.τ).loc Cert.KvNormIdeal.main_arg0)) (m ((c.tc : Thread Cert.KvNormIdeal.nD Cert.KvNormIdeal.τ).loc Cert.KvNormIdeal.main_arg1)) (m ((c.tc : Thread Cert.KvNormIdeal.nD Cert.KvNormIdeal.τ).loc Cert.KvNormIdeal.main_arg2)) (m ((c.tc : Thread Cert.KvNormIdeal.nD Cert.KvNormIdeal.τ).loc Cert.KvNormIdeal.main_arg3)) (m ((c.tc : Thread Cert.KvNormIdeal.nD Cert.KvNormIdeal.τ).loc Cert.KvNormIdeal.main_arg4))).2.2.1 = (fun _ => 1#1)
    ∧ (Cert.Pre_finite_kvnorm.fn (F := Ideal) (m ((c.tc : Thread Cert.KvNormIdeal.nD Cert.KvNormIdeal.τ).loc Cert.KvNormIdeal.main_arg0)) (m ((c.tc : Thread Cert.KvNormIdeal.nD Cert.KvNormIdeal.τ).loc Cert.KvNormIdeal.main_arg1)) (m ((c.tc : Thread Cert.KvNormIdeal.nD Cert.KvNormIdeal.τ).loc Cert.KvNormIdeal.main_arg2)) (m ((c.tc : Thread Cert.KvNormIdeal.nD Cert.KvNormIdeal.τ).loc Cert.KvNormIdeal.main_arg3)) (m ((c.tc : Thread Cert.KvNormIdeal.nD Cert.KvNormIdeal.τ).loc Cert.KvNormIdeal.main_arg4))).2.2.2.1 = (fun _ => 1#1)
    ∧ (Cert.Pre_finite_kvnorm.fn (F := Ideal) (m ((c.tc : Thread Cert.KvNormIdeal.nD Cert.KvNormIdeal.τ).loc Cert.KvNormIdeal.main_arg0)) (m ((c.tc : Thread Cert.KvNormIdeal.nD Cert.KvNormIdeal.τ).loc Cert.KvNormIdeal.main_arg1)) (m ((c.tc : Thread Cert.KvNormIdeal.nD Cert.KvNormIdeal.τ).loc Cert.KvNormIdeal.main_arg2)) (m ((c.tc : Thread Cert.KvNormIdeal.nD Cert.KvNormIdeal.τ).loc Cert.KvNormIdeal.main_arg3)) (m ((c.tc : Thread Cert.KvNormIdeal.nD Cert.KvNormIdeal.τ).loc Cert.KvNormIdeal.main_arg4))).2.2.2.2 = (fun _ => 1#1)

def Pre_KvNormRefIdeal (m : (ℓ : Loc Cert.KvNormRefIdeal.nD Cert.KvNormRefIdeal.τ Cert.KvNormRefIdeal.sig) → Buf (Elt Ideal) ℓ) : Prop :=
  True

def Pre_KvNormRefIdeal_finite_kvnorm [hPre_finite_kvnorm : Cert.Pre_finite_kvnorm.Facts] (m : (ℓ : Loc Cert.KvNormRefIdeal.nD Cert.KvNormRefIdeal.τ Cert.KvNormRefIdeal.sig) → Buf (Elt Ideal) ℓ) : Prop :=
  ∀ c : Dev Cert.KvNormRefIdeal.nD,
    (Cert.Pre_finite_kvnorm.fn (F := Ideal) (m ((c.tc : Thread Cert.KvNormRefIdeal.nD Cert.KvNormRefIdeal.τ).loc Cert.KvNormRefIdeal.main_arg0)) (m ((c.tc : Thread Cert.KvNormRefIdeal.nD Cert.KvNormRefIdeal.τ).loc Cert.KvNormRefIdeal.main_arg1)) (m ((c.tc : Thread Cert.KvNormRefIdeal.nD Cert.KvNormRefIdeal.τ).loc Cert.KvNormRefIdeal.main_arg2)) (m ((c.tc : Thread Cert.KvNormRefIdeal.nD Cert.KvNormRefIdeal.τ).loc Cert.KvNormRefIdeal.main_arg3)) (m ((c.tc : Thread Cert.KvNormRefIdeal.nD Cert.KvNormRefIdeal.τ).loc Cert.KvNormRefIdeal.main_arg4))).1 = (fun _ => 1#1)
    ∧ (Cert.Pre_finite_kvnorm.fn (F := Ideal) (m ((c.tc : Thread Cert.KvNormRefIdeal.nD Cert.KvNormRefIdeal.τ).loc Cert.KvNormRefIdeal.main_arg0)) (m ((c.tc : Thread Cert.KvNormRefIdeal.nD Cert.KvNormRefIdeal.τ).loc Cert.KvNormRefIdeal.main_arg1)) (m ((c.tc : Thread Cert.KvNormRefIdeal.nD Cert.KvNormRefIdeal.τ).loc Cert.KvNormRefIdeal.main_arg2)) (m ((c.tc : Thread Cert.KvNormRefIdeal.nD Cert.KvNormRefIdeal.τ).loc Cert.KvNormRefIdeal.main_arg3)) (m ((c.tc : Thread Cert.KvNormRefIdeal.nD Cert.KvNormRefIdeal.τ).loc Cert.KvNormRefIdeal.main_arg4))).2.1 = (fun _ => 1#1)
    ∧ (Cert.Pre_finite_kvnorm.fn (F := Ideal) (m ((c.tc : Thread Cert.KvNormRefIdeal.nD Cert.KvNormRefIdeal.τ).loc Cert.KvNormRefIdeal.main_arg0)) (m ((c.tc : Thread Cert.KvNormRefIdeal.nD Cert.KvNormRefIdeal.τ).loc Cert.KvNormRefIdeal.main_arg1)) (m ((c.tc : Thread Cert.KvNormRefIdeal.nD Cert.KvNormRefIdeal.τ).loc Cert.KvNormRefIdeal.main_arg2)) (m ((c.tc : Thread Cert.KvNormRefIdeal.nD Cert.KvNormRefIdeal.τ).loc Cert.KvNormRefIdeal.main_arg3)) (m ((c.tc : Thread Cert.KvNormRefIdeal.nD Cert.KvNormRefIdeal.τ).loc Cert.KvNormRefIdeal.main_arg4))).2.2.1 = (fun _ => 1#1)
    ∧ (Cert.Pre_finite_kvnorm.fn (F := Ideal) (m ((c.tc : Thread Cert.KvNormRefIdeal.nD Cert.KvNormRefIdeal.τ).loc Cert.KvNormRefIdeal.main_arg0)) (m ((c.tc : Thread Cert.KvNormRefIdeal.nD Cert.KvNormRefIdeal.τ).loc Cert.KvNormRefIdeal.main_arg1)) (m ((c.tc : Thread Cert.KvNormRefIdeal.nD Cert.KvNormRefIdeal.τ).loc Cert.KvNormRefIdeal.main_arg2)) (m ((c.tc : Thread Cert.KvNormRefIdeal.nD Cert.KvNormRefIdeal.τ).loc Cert.KvNormRefIdeal.main_arg3)) (m ((c.tc : Thread Cert.KvNormRefIdeal.nD Cert.KvNormRefIdeal.τ).loc Cert.KvNormRefIdeal.main_arg4))).2.2.2.1 = (fun _ => 1#1)
    ∧ (Cert.Pre_finite_kvnorm.fn (F := Ideal) (m ((c.tc : Thread Cert.KvNormRefIdeal.nD Cert.KvNormRefIdeal.τ).loc Cert.KvNormRefIdeal.main_arg0)) (m ((c.tc : Thread Cert.KvNormRefIdeal.nD Cert.KvNormRefIdeal.τ).loc Cert.KvNormRefIdeal.main_arg1)) (m ((c.tc : Thread Cert.KvNormRefIdeal.nD Cert.KvNormRefIdeal.τ).loc Cert.KvNormRefIdeal.main_arg2)) (m ((c.tc : Thread Cert.KvNormRefIdeal.nD Cert.KvNormRefIdeal.τ).loc Cert.KvNormRefIdeal.main_arg3)) (m ((c.tc : Thread Cert.KvNormRefIdeal.nD Cert.KvNormRefIdeal.τ).loc Cert.KvNormRefIdeal.main_arg4))).2.2.2.2 = (fun _ => 1#1)

def Pre_InNorm (m : (ℓ : Loc Cert.InNorm.nD Cert.InNorm.τ Cert.InNorm.sig) → Buf (Elt Bits) ℓ) : Prop :=
  True

def Pre_InNormIdeal (m : (ℓ : Loc Cert.InNormIdeal.nD Cert.InNormIdeal.τ Cert.InNormIdeal.sig) → Buf (Elt Ideal) ℓ) : Prop :=
  True

def Pre_InNormIdeal_finite_innorm [hPre_finite_innorm : Cert.Pre_finite_innorm.Facts] (m : (ℓ : Loc Cert.InNormIdeal.nD Cert.InNormIdeal.τ Cert.InNormIdeal.sig) → Buf (Elt Ideal) ℓ) : Prop :=
  ∀ c : Dev Cert.InNormIdeal.nD,
    (Cert.Pre_finite_innorm.fn (F := Ideal) (m ((c.tc : Thread Cert.InNormIdeal.nD Cert.InNormIdeal.τ).loc Cert.InNormIdeal.main_arg0)) (m ((c.tc : Thread Cert.InNormIdeal.nD Cert.InNormIdeal.τ).loc Cert.InNormIdeal.main_arg1)) (m ((c.tc : Thread Cert.InNormIdeal.nD Cert.InNormIdeal.τ).loc Cert.InNormIdeal.main_arg2)) (m ((c.tc : Thread Cert.InNormIdeal.nD Cert.InNormIdeal.τ).loc Cert.InNormIdeal.main_arg3)) (m ((c.tc : Thread Cert.InNormIdeal.nD Cert.InNormIdeal.τ).loc Cert.InNormIdeal.main_arg4)) (m ((c.tc : Thread Cert.InNormIdeal.nD Cert.InNormIdeal.τ).loc Cert.InNormIdeal.main_arg5)) (m ((c.tc : Thread Cert.InNormIdeal.nD Cert.InNormIdeal.τ).loc Cert.InNormIdeal.main_arg6)) (m ((c.tc : Thread Cert.InNormIdeal.nD Cert.InNormIdeal.τ).loc Cert.InNormIdeal.main_arg7))).1 = (fun _ => 1#1)
    ∧ (Cert.Pre_finite_innorm.fn (F := Ideal) (m ((c.tc : Thread Cert.InNormIdeal.nD Cert.InNormIdeal.τ).loc Cert.InNormIdeal.main_arg0)) (m ((c.tc : Thread Cert.InNormIdeal.nD Cert.InNormIdeal.τ).loc Cert.InNormIdeal.main_arg1)) (m ((c.tc : Thread Cert.InNormIdeal.nD Cert.InNormIdeal.τ).loc Cert.InNormIdeal.main_arg2)) (m ((c.tc : Thread Cert.InNormIdeal.nD Cert.InNormIdeal.τ).loc Cert.InNormIdeal.main_arg3)) (m ((c.tc : Thread Cert.InNormIdeal.nD Cert.InNormIdeal.τ).loc Cert.InNormIdeal.main_arg4)) (m ((c.tc : Thread Cert.InNormIdeal.nD Cert.InNormIdeal.τ).loc Cert.InNormIdeal.main_arg5)) (m ((c.tc : Thread Cert.InNormIdeal.nD Cert.InNormIdeal.τ).loc Cert.InNormIdeal.main_arg6)) (m ((c.tc : Thread Cert.InNormIdeal.nD Cert.InNormIdeal.τ).loc Cert.InNormIdeal.main_arg7))).2.1 = (fun _ => 1#1)
    ∧ (Cert.Pre_finite_innorm.fn (F := Ideal) (m ((c.tc : Thread Cert.InNormIdeal.nD Cert.InNormIdeal.τ).loc Cert.InNormIdeal.main_arg0)) (m ((c.tc : Thread Cert.InNormIdeal.nD Cert.InNormIdeal.τ).loc Cert.InNormIdeal.main_arg1)) (m ((c.tc : Thread Cert.InNormIdeal.nD Cert.InNormIdeal.τ).loc Cert.InNormIdeal.main_arg2)) (m ((c.tc : Thread Cert.InNormIdeal.nD Cert.InNormIdeal.τ).loc Cert.InNormIdeal.main_arg3)) (m ((c.tc : Thread Cert.InNormIdeal.nD Cert.InNormIdeal.τ).loc Cert.InNormIdeal.main_arg4)) (m ((c.tc : Thread Cert.InNormIdeal.nD Cert.InNormIdeal.τ).loc Cert.InNormIdeal.main_arg5)) (m ((c.tc : Thread Cert.InNormIdeal.nD Cert.InNormIdeal.τ).loc Cert.InNormIdeal.main_arg6)) (m ((c.tc : Thread Cert.InNormIdeal.nD Cert.InNormIdeal.τ).loc Cert.InNormIdeal.main_arg7))).2.2.1 = (fun _ => 1#1)
    ∧ (Cert.Pre_finite_innorm.fn (F := Ideal) (m ((c.tc : Thread Cert.InNormIdeal.nD Cert.InNormIdeal.τ).loc Cert.InNormIdeal.main_arg0)) (m ((c.tc : Thread Cert.InNormIdeal.nD Cert.InNormIdeal.τ).loc Cert.InNormIdeal.main_arg1)) (m ((c.tc : Thread Cert.InNormIdeal.nD Cert.InNormIdeal.τ).loc Cert.InNormIdeal.main_arg2)) (m ((c.tc : Thread Cert.InNormIdeal.nD Cert.InNormIdeal.τ).loc Cert.InNormIdeal.main_arg3)) (m ((c.tc : Thread Cert.InNormIdeal.nD Cert.InNormIdeal.τ).loc Cert.InNormIdeal.main_arg4)) (m ((c.tc : Thread Cert.InNormIdeal.nD Cert.InNormIdeal.τ).loc Cert.InNormIdeal.main_arg5)) (m ((c.tc : Thread Cert.InNormIdeal.nD Cert.InNormIdeal.τ).loc Cert.InNormIdeal.main_arg6)) (m ((c.tc : Thread Cert.InNormIdeal.nD Cert.InNormIdeal.τ).loc Cert.InNormIdeal.main_arg7))).2.2.2.1 = (fun _ => 1#1)
    ∧ (Cert.Pre_finite_innorm.fn (F := Ideal) (m ((c.tc : Thread Cert.InNormIdeal.nD Cert.InNormIdeal.τ).loc Cert.InNormIdeal.main_arg0)) (m ((c.tc : Thread Cert.InNormIdeal.nD Cert.InNormIdeal.τ).loc Cert.InNormIdeal.main_arg1)) (m ((c.tc : Thread Cert.InNormIdeal.nD Cert.InNormIdeal.τ).loc Cert.InNormIdeal.main_arg2)) (m ((c.tc : Thread Cert.InNormIdeal.nD Cert.InNormIdeal.τ).loc Cert.InNormIdeal.main_arg3)) (m ((c.tc : Thread Cert.InNormIdeal.nD Cert.InNormIdeal.τ).loc Cert.InNormIdeal.main_arg4)) (m ((c.tc : Thread Cert.InNormIdeal.nD Cert.InNormIdeal.τ).loc Cert.InNormIdeal.main_arg5)) (m ((c.tc : Thread Cert.InNormIdeal.nD Cert.InNormIdeal.τ).loc Cert.InNormIdeal.main_arg6)) (m ((c.tc : Thread Cert.InNormIdeal.nD Cert.InNormIdeal.τ).loc Cert.InNormIdeal.main_arg7))).2.2.2.2.1 = (fun _ => 1#1)
    ∧ (Cert.Pre_finite_innorm.fn (F := Ideal) (m ((c.tc : Thread Cert.InNormIdeal.nD Cert.InNormIdeal.τ).loc Cert.InNormIdeal.main_arg0)) (m ((c.tc : Thread Cert.InNormIdeal.nD Cert.InNormIdeal.τ).loc Cert.InNormIdeal.main_arg1)) (m ((c.tc : Thread Cert.InNormIdeal.nD Cert.InNormIdeal.τ).loc Cert.InNormIdeal.main_arg2)) (m ((c.tc : Thread Cert.InNormIdeal.nD Cert.InNormIdeal.τ).loc Cert.InNormIdeal.main_arg3)) (m ((c.tc : Thread Cert.InNormIdeal.nD Cert.InNormIdeal.τ).loc Cert.InNormIdeal.main_arg4)) (m ((c.tc : Thread Cert.InNormIdeal.nD Cert.InNormIdeal.τ).loc Cert.InNormIdeal.main_arg5)) (m ((c.tc : Thread Cert.InNormIdeal.nD Cert.InNormIdeal.τ).loc Cert.InNormIdeal.main_arg6)) (m ((c.tc : Thread Cert.InNormIdeal.nD Cert.InNormIdeal.τ).loc Cert.InNormIdeal.main_arg7))).2.2.2.2.2.1 = (fun _ => 1#1)
    ∧ (Cert.Pre_finite_innorm.fn (F := Ideal) (m ((c.tc : Thread Cert.InNormIdeal.nD Cert.InNormIdeal.τ).loc Cert.InNormIdeal.main_arg0)) (m ((c.tc : Thread Cert.InNormIdeal.nD Cert.InNormIdeal.τ).loc Cert.InNormIdeal.main_arg1)) (m ((c.tc : Thread Cert.InNormIdeal.nD Cert.InNormIdeal.τ).loc Cert.InNormIdeal.main_arg2)) (m ((c.tc : Thread Cert.InNormIdeal.nD Cert.InNormIdeal.τ).loc Cert.InNormIdeal.main_arg3)) (m ((c.tc : Thread Cert.InNormIdeal.nD Cert.InNormIdeal.τ).loc Cert.InNormIdeal.main_arg4)) (m ((c.tc : Thread Cert.InNormIdeal.nD Cert.InNormIdeal.τ).loc Cert.InNormIdeal.main_arg5)) (m ((c.tc : Thread Cert.InNormIdeal.nD Cert.InNormIdeal.τ).loc Cert.InNormIdeal.main_arg6)) (m ((c.tc : Thread Cert.InNormIdeal.nD Cert.InNormIdeal.τ).loc Cert.InNormIdeal.main_arg7))).2.2.2.2.2.2 = (fun _ => 1#1)

def Pre_InNormRefIdeal (m : (ℓ : Loc Cert.InNormRefIdeal.nD Cert.InNormRefIdeal.τ Cert.InNormRefIdeal.sig) → Buf (Elt Ideal) ℓ) : Prop :=
  True

def Pre_InNormRefIdeal_finite_innorm [hPre_finite_innorm : Cert.Pre_finite_innorm.Facts] (m : (ℓ : Loc Cert.InNormRefIdeal.nD Cert.InNormRefIdeal.τ Cert.InNormRefIdeal.sig) → Buf (Elt Ideal) ℓ) : Prop :=
  ∀ c : Dev Cert.InNormRefIdeal.nD,
    (Cert.Pre_finite_innorm.fn (F := Ideal) (m ((c.tc : Thread Cert.InNormRefIdeal.nD Cert.InNormRefIdeal.τ).loc Cert.InNormRefIdeal.main_arg0)) (m ((c.tc : Thread Cert.InNormRefIdeal.nD Cert.InNormRefIdeal.τ).loc Cert.InNormRefIdeal.main_arg1)) (m ((c.tc : Thread Cert.InNormRefIdeal.nD Cert.InNormRefIdeal.τ).loc Cert.InNormRefIdeal.main_arg2)) (m ((c.tc : Thread Cert.InNormRefIdeal.nD Cert.InNormRefIdeal.τ).loc Cert.InNormRefIdeal.main_arg3)) (m ((c.tc : Thread Cert.InNormRefIdeal.nD Cert.InNormRefIdeal.τ).loc Cert.InNormRefIdeal.main_arg4)) (m ((c.tc : Thread Cert.InNormRefIdeal.nD Cert.InNormRefIdeal.τ).loc Cert.InNormRefIdeal.main_arg5)) (m ((c.tc : Thread Cert.InNormRefIdeal.nD Cert.InNormRefIdeal.τ).loc Cert.InNormRefIdeal.main_arg6)) (m ((c.tc : Thread Cert.InNormRefIdeal.nD Cert.InNormRefIdeal.τ).loc Cert.InNormRefIdeal.main_arg7))).1 = (fun _ => 1#1)
    ∧ (Cert.Pre_finite_innorm.fn (F := Ideal) (m ((c.tc : Thread Cert.InNormRefIdeal.nD Cert.InNormRefIdeal.τ).loc Cert.InNormRefIdeal.main_arg0)) (m ((c.tc : Thread Cert.InNormRefIdeal.nD Cert.InNormRefIdeal.τ).loc Cert.InNormRefIdeal.main_arg1)) (m ((c.tc : Thread Cert.InNormRefIdeal.nD Cert.InNormRefIdeal.τ).loc Cert.InNormRefIdeal.main_arg2)) (m ((c.tc : Thread Cert.InNormRefIdeal.nD Cert.InNormRefIdeal.τ).loc Cert.InNormRefIdeal.main_arg3)) (m ((c.tc : Thread Cert.InNormRefIdeal.nD Cert.InNormRefIdeal.τ).loc Cert.InNormRefIdeal.main_arg4)) (m ((c.tc : Thread Cert.InNormRefIdeal.nD Cert.InNormRefIdeal.τ).loc Cert.InNormRefIdeal.main_arg5)) (m ((c.tc : Thread Cert.InNormRefIdeal.nD Cert.InNormRefIdeal.τ).loc Cert.InNormRefIdeal.main_arg6)) (m ((c.tc : Thread Cert.InNormRefIdeal.nD Cert.InNormRefIdeal.τ).loc Cert.InNormRefIdeal.main_arg7))).2.1 = (fun _ => 1#1)
    ∧ (Cert.Pre_finite_innorm.fn (F := Ideal) (m ((c.tc : Thread Cert.InNormRefIdeal.nD Cert.InNormRefIdeal.τ).loc Cert.InNormRefIdeal.main_arg0)) (m ((c.tc : Thread Cert.InNormRefIdeal.nD Cert.InNormRefIdeal.τ).loc Cert.InNormRefIdeal.main_arg1)) (m ((c.tc : Thread Cert.InNormRefIdeal.nD Cert.InNormRefIdeal.τ).loc Cert.InNormRefIdeal.main_arg2)) (m ((c.tc : Thread Cert.InNormRefIdeal.nD Cert.InNormRefIdeal.τ).loc Cert.InNormRefIdeal.main_arg3)) (m ((c.tc : Thread Cert.InNormRefIdeal.nD Cert.InNormRefIdeal.τ).loc Cert.InNormRefIdeal.main_arg4)) (m ((c.tc : Thread Cert.InNormRefIdeal.nD Cert.InNormRefIdeal.τ).loc Cert.InNormRefIdeal.main_arg5)) (m ((c.tc : Thread Cert.InNormRefIdeal.nD Cert.InNormRefIdeal.τ).loc Cert.InNormRefIdeal.main_arg6)) (m ((c.tc : Thread Cert.InNormRefIdeal.nD Cert.InNormRefIdeal.τ).loc Cert.InNormRefIdeal.main_arg7))).2.2.1 = (fun _ => 1#1)
    ∧ (Cert.Pre_finite_innorm.fn (F := Ideal) (m ((c.tc : Thread Cert.InNormRefIdeal.nD Cert.InNormRefIdeal.τ).loc Cert.InNormRefIdeal.main_arg0)) (m ((c.tc : Thread Cert.InNormRefIdeal.nD Cert.InNormRefIdeal.τ).loc Cert.InNormRefIdeal.main_arg1)) (m ((c.tc : Thread Cert.InNormRefIdeal.nD Cert.InNormRefIdeal.τ).loc Cert.InNormRefIdeal.main_arg2)) (m ((c.tc : Thread Cert.InNormRefIdeal.nD Cert.InNormRefIdeal.τ).loc Cert.InNormRefIdeal.main_arg3)) (m ((c.tc : Thread Cert.InNormRefIdeal.nD Cert.InNormRefIdeal.τ).loc Cert.InNormRefIdeal.main_arg4)) (m ((c.tc : Thread Cert.InNormRefIdeal.nD Cert.InNormRefIdeal.τ).loc Cert.InNormRefIdeal.main_arg5)) (m ((c.tc : Thread Cert.InNormRefIdeal.nD Cert.InNormRefIdeal.τ).loc Cert.InNormRefIdeal.main_arg6)) (m ((c.tc : Thread Cert.InNormRefIdeal.nD Cert.InNormRefIdeal.τ).loc Cert.InNormRefIdeal.main_arg7))).2.2.2.1 = (fun _ => 1#1)
    ∧ (Cert.Pre_finite_innorm.fn (F := Ideal) (m ((c.tc : Thread Cert.InNormRefIdeal.nD Cert.InNormRefIdeal.τ).loc Cert.InNormRefIdeal.main_arg0)) (m ((c.tc : Thread Cert.InNormRefIdeal.nD Cert.InNormRefIdeal.τ).loc Cert.InNormRefIdeal.main_arg1)) (m ((c.tc : Thread Cert.InNormRefIdeal.nD Cert.InNormRefIdeal.τ).loc Cert.InNormRefIdeal.main_arg2)) (m ((c.tc : Thread Cert.InNormRefIdeal.nD Cert.InNormRefIdeal.τ).loc Cert.InNormRefIdeal.main_arg3)) (m ((c.tc : Thread Cert.InNormRefIdeal.nD Cert.InNormRefIdeal.τ).loc Cert.InNormRefIdeal.main_arg4)) (m ((c.tc : Thread Cert.InNormRefIdeal.nD Cert.InNormRefIdeal.τ).loc Cert.InNormRefIdeal.main_arg5)) (m ((c.tc : Thread Cert.InNormRefIdeal.nD Cert.InNormRefIdeal.τ).loc Cert.InNormRefIdeal.main_arg6)) (m ((c.tc : Thread Cert.InNormRefIdeal.nD Cert.InNormRefIdeal.τ).loc Cert.InNormRefIdeal.main_arg7))).2.2.2.2.1 = (fun _ => 1#1)
    ∧ (Cert.Pre_finite_innorm.fn (F := Ideal) (m ((c.tc : Thread Cert.InNormRefIdeal.nD Cert.InNormRefIdeal.τ).loc Cert.InNormRefIdeal.main_arg0)) (m ((c.tc : Thread Cert.InNormRefIdeal.nD Cert.InNormRefIdeal.τ).loc Cert.InNormRefIdeal.main_arg1)) (m ((c.tc : Thread Cert.InNormRefIdeal.nD Cert.InNormRefIdeal.τ).loc Cert.InNormRefIdeal.main_arg2)) (m ((c.tc : Thread Cert.InNormRefIdeal.nD Cert.InNormRefIdeal.τ).loc Cert.InNormRefIdeal.main_arg3)) (m ((c.tc : Thread Cert.InNormRefIdeal.nD Cert.InNormRefIdeal.τ).loc Cert.InNormRefIdeal.main_arg4)) (m ((c.tc : Thread Cert.InNormRefIdeal.nD Cert.InNormRefIdeal.τ).loc Cert.InNormRefIdeal.main_arg5)) (m ((c.tc : Thread Cert.InNormRefIdeal.nD Cert.InNormRefIdeal.τ).loc Cert.InNormRefIdeal.main_arg6)) (m ((c.tc : Thread Cert.InNormRefIdeal.nD Cert.InNormRefIdeal.τ).loc Cert.InNormRefIdeal.main_arg7))).2.2.2.2.2.1 = (fun _ => 1#1)
    ∧ (Cert.Pre_finite_innorm.fn (F := Ideal) (m ((c.tc : Thread Cert.InNormRefIdeal.nD Cert.InNormRefIdeal.τ).loc Cert.InNormRefIdeal.main_arg0)) (m ((c.tc : Thread Cert.InNormRefIdeal.nD Cert.InNormRefIdeal.τ).loc Cert.InNormRefIdeal.main_arg1)) (m ((c.tc : Thread Cert.InNormRefIdeal.nD Cert.InNormRefIdeal.τ).loc Cert.InNormRefIdeal.main_arg2)) (m ((c.tc : Thread Cert.InNormRefIdeal.nD Cert.InNormRefIdeal.τ).loc Cert.InNormRefIdeal.main_arg3)) (m ((c.tc : Thread Cert.InNormRefIdeal.nD Cert.InNormRefIdeal.τ).loc Cert.InNormRefIdeal.main_arg4)) (m ((c.tc : Thread Cert.InNormRefIdeal.nD Cert.InNormRefIdeal.τ).loc Cert.InNormRefIdeal.main_arg5)) (m ((c.tc : Thread Cert.InNormRefIdeal.nD Cert.InNormRefIdeal.τ).loc Cert.InNormRefIdeal.main_arg6)) (m ((c.tc : Thread Cert.InNormRefIdeal.nD Cert.InNormRefIdeal.τ).loc Cert.InNormRefIdeal.main_arg7))).2.2.2.2.2.2 = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_finite_loss [hPre_finite_loss : Cert.Pre_finite_loss.Facts] (m : (ℓ : Loc Cert.LossIdeal.nD Cert.LossIdeal.τ Cert.LossIdeal.sig) → Buf (Elt Ideal) ℓ) : Prop :=
  ∀ c : Dev Cert.LossIdeal.nD,
    (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))).1 = (fun _ => 1#1)
    ∧ (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))).2.1 = (fun _ => 1#1)
    ∧ (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))).2.2.1 = (fun _ => 1#1)
    ∧ (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))).2.2.2.1 = (fun _ => 1#1)
    ∧ (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))).2.2.2.2 = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_finite_loss [hPre_finite_loss : Cert.Pre_finite_loss.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))).1 = (fun _ => 1#1)
    ∧ (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))).2.1 = (fun _ => 1#1)
    ∧ (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))).2.2.1 = (fun _ => 1#1)
    ∧ (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))).2.2.2.1 = (fun _ => 1#1)
    ∧ (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))).2.2.2.2 = (fun _ => 1#1)

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjIdeal_finite_outproj [hPre_finite_outproj : Cert.Pre_finite_outproj.Facts] (m : (ℓ : Loc Cert.OutProjIdeal.nD Cert.OutProjIdeal.τ Cert.OutProjIdeal.sig) → Buf (Elt Ideal) ℓ) : Prop :=
  ∀ c : Dev Cert.OutProjIdeal.nD,
    (Cert.Pre_finite_outproj.fn (F := Ideal) (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)) (m ((c.tc : Thread Cert.OutProjIdeal.nD Cert.OutProjIdeal.τ).loc Cert.OutProjIdeal.main_arg2))).1 = (fun _ => 1#1)
    ∧ (Cert.Pre_finite_outproj.fn (F := Ideal) (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)) (m ((c.tc : Thread Cert.OutProjIdeal.nD Cert.OutProjIdeal.τ).loc Cert.OutProjIdeal.main_arg2))).2.1 = (fun _ => 1#1)
    ∧ (Cert.Pre_finite_outproj.fn (F := Ideal) (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)) (m ((c.tc : Thread Cert.OutProjIdeal.nD Cert.OutProjIdeal.τ).loc Cert.OutProjIdeal.main_arg2))).2.2 = (fun _ => 1#1)

def Pre_OutProjRefIdeal (m : (ℓ : Loc Cert.OutProjRefIdeal.nD Cert.OutProjRefIdeal.τ Cert.OutProjRefIdeal.sig) → Buf (Elt Ideal) ℓ) : Prop :=
  True

def Pre_OutProjRefIdeal_finite_outproj [hPre_finite_outproj : Cert.Pre_finite_outproj.Facts] (m : (ℓ : Loc Cert.OutProjRefIdeal.nD Cert.OutProjRefIdeal.τ Cert.OutProjRefIdeal.sig) → Buf (Elt Ideal) ℓ) : Prop :=
  ∀ c : Dev Cert.OutProjRefIdeal.nD,
    (Cert.Pre_finite_outproj.fn (F := Ideal) (m ((c.tc : Thread Cert.OutProjRefIdeal.nD Cert.OutProjRefIdeal.τ).loc Cert.OutProjRefIdeal.main_arg0)) (m ((c.tc : Thread Cert.OutProjRefIdeal.nD Cert.OutProjRefIdeal.τ).loc Cert.OutProjRefIdeal.main_arg1)) (m ((c.tc : Thread Cert.OutProjRefIdeal.nD Cert.OutProjRefIdeal.τ).loc Cert.OutProjRefIdeal.main_arg2))).1 = (fun _ => 1#1)
    ∧ (Cert.Pre_finite_outproj.fn (F := Ideal) (m ((c.tc : Thread Cert.OutProjRefIdeal.nD Cert.OutProjRefIdeal.τ).loc Cert.OutProjRefIdeal.main_arg0)) (m ((c.tc : Thread Cert.OutProjRefIdeal.nD Cert.OutProjRefIdeal.τ).loc Cert.OutProjRefIdeal.main_arg1)) (m ((c.tc : Thread Cert.OutProjRefIdeal.nD Cert.OutProjRefIdeal.τ).loc Cert.OutProjRefIdeal.main_arg2))).2.1 = (fun _ => 1#1)
    ∧ (Cert.Pre_finite_outproj.fn (F := Ideal) (m ((c.tc : Thread Cert.OutProjRefIdeal.nD Cert.OutProjRefIdeal.τ).loc Cert.OutProjRefIdeal.main_arg0)) (m ((c.tc : Thread Cert.OutProjRefIdeal.nD Cert.OutProjRefIdeal.τ).loc Cert.OutProjRefIdeal.main_arg1)) (m ((c.tc : Thread Cert.OutProjRefIdeal.nD Cert.OutProjRefIdeal.τ).loc Cert.OutProjRefIdeal.main_arg2))).2.2 = (fun _ => 1#1)

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeRefIdeal (m : (ℓ : Loc Cert.RopeRefIdeal.nD Cert.RopeRefIdeal.τ Cert.RopeRefIdeal.sig) → Buf (Elt Ideal) ℓ) : Prop :=
  True

def Pre_Flash (m : (ℓ : Loc Cert.Flash.nD Cert.Flash.τ Cert.Flash.sig) → Buf (Elt Bits) ℓ) : Prop :=
  True

def Pre_FlashIdeal (m : (ℓ : Loc Cert.FlashIdeal.nD Cert.FlashIdeal.τ Cert.FlashIdeal.sig) → Buf (Elt Ideal) ℓ) : Prop :=
  True

def Pre_FlashIdeal_finite_attn_fwd [hPre_finite_attn_fwd : Cert.Pre_finite_attn_fwd.Facts] (m : (ℓ : Loc Cert.FlashIdeal.nD Cert.FlashIdeal.τ Cert.FlashIdeal.sig) → Buf (Elt Ideal) ℓ) : Prop :=
  ∀ c : Dev Cert.FlashIdeal.nD,
    (Cert.Pre_finite_attn_fwd.fn (F := Ideal) (m ((c.tc : Thread Cert.FlashIdeal.nD Cert.FlashIdeal.τ).loc Cert.FlashIdeal.main_arg0)) (m ((c.tc : Thread Cert.FlashIdeal.nD Cert.FlashIdeal.τ).loc Cert.FlashIdeal.main_arg1)) (m ((c.tc : Thread Cert.FlashIdeal.nD Cert.FlashIdeal.τ).loc Cert.FlashIdeal.main_arg2)) (m ((c.tc : Thread Cert.FlashIdeal.nD Cert.FlashIdeal.τ).loc Cert.FlashIdeal.main_arg3)) (m ((c.tc : Thread Cert.FlashIdeal.nD Cert.FlashIdeal.τ).loc Cert.FlashIdeal.main_arg4))).1 = (fun _ => 1#1)
    ∧ (Cert.Pre_finite_attn_fwd.fn (F := Ideal) (m ((c.tc : Thread Cert.FlashIdeal.nD Cert.FlashIdeal.τ).loc Cert.FlashIdeal.main_arg0)) (m ((c.tc : Thread Cert.FlashIdeal.nD Cert.FlashIdeal.τ).loc Cert.FlashIdeal.main_arg1)) (m ((c.tc : Thread Cert.FlashIdeal.nD Cert.FlashIdeal.τ).loc Cert.FlashIdeal.main_arg2)) (m ((c.tc : Thread Cert.FlashIdeal.nD Cert.FlashIdeal.τ).loc Cert.FlashIdeal.main_arg3)) (m ((c.tc : Thread Cert.FlashIdeal.nD Cert.FlashIdeal.τ).loc Cert.FlashIdeal.main_arg4))).2.1 = (fun _ => 1#1)
    ∧ (Cert.Pre_finite_attn_fwd.fn (F := Ideal) (m ((c.tc : Thread Cert.FlashIdeal.nD Cert.FlashIdeal.τ).loc Cert.FlashIdeal.main_arg0)) (m ((c.tc : Thread Cert.FlashIdeal.nD Cert.FlashIdeal.τ).loc Cert.FlashIdeal.main_arg1)) (m ((c.tc : Thread Cert.FlashIdeal.nD Cert.FlashIdeal.τ).loc Cert.FlashIdeal.main_arg2)) (m ((c.tc : Thread Cert.FlashIdeal.nD Cert.FlashIdeal.τ).loc Cert.FlashIdeal.main_arg3)) (m ((c.tc : Thread Cert.FlashIdeal.nD Cert.FlashIdeal.τ).loc Cert.FlashIdeal.main_arg4))).2.2.1 = (fun _ => 1#1)
    ∧ (Cert.Pre_finite_attn_fwd.fn (F := Ideal) (m ((c.tc : Thread Cert.FlashIdeal.nD Cert.FlashIdeal.τ).loc Cert.FlashIdeal.main_arg0)) (m ((c.tc : Thread Cert.FlashIdeal.nD Cert.FlashIdeal.τ).loc Cert.FlashIdeal.main_arg1)) (m ((c.tc : Thread Cert.FlashIdeal.nD Cert.FlashIdeal.τ).loc Cert.FlashIdeal.main_arg2)) (m ((c.tc : Thread Cert.FlashIdeal.nD Cert.FlashIdeal.τ).loc Cert.FlashIdeal.main_arg3)) (m ((c.tc : Thread Cert.FlashIdeal.nD Cert.FlashIdeal.τ).loc Cert.FlashIdeal.main_arg4))).2.2.2.1 = (fun _ => 1#1)
    ∧ (Cert.Pre_finite_attn_fwd.fn (F := Ideal) (m ((c.tc : Thread Cert.FlashIdeal.nD Cert.FlashIdeal.τ).loc Cert.FlashIdeal.main_arg0)) (m ((c.tc : Thread Cert.FlashIdeal.nD Cert.FlashIdeal.τ).loc Cert.FlashIdeal.main_arg1)) (m ((c.tc : Thread Cert.FlashIdeal.nD Cert.FlashIdeal.τ).loc Cert.FlashIdeal.main_arg2)) (m ((c.tc : Thread Cert.FlashIdeal.nD Cert.FlashIdeal.τ).loc Cert.FlashIdeal.main_arg3)) (m ((c.tc : Thread Cert.FlashIdeal.nD Cert.FlashIdeal.τ).loc Cert.FlashIdeal.main_arg4))).2.2.2.2 = (fun _ => 1#1)

def Pre_FlashRefIdeal (m : (ℓ : Loc Cert.FlashRefIdeal.nD Cert.FlashRefIdeal.τ Cert.FlashRefIdeal.sig) → Buf (Elt Ideal) ℓ) : Prop :=
  True

def Pre_FlashRefIdeal_finite_attn_fwd [hPre_finite_attn_fwd : Cert.Pre_finite_attn_fwd.Facts] (m : (ℓ : Loc Cert.FlashRefIdeal.nD Cert.FlashRefIdeal.τ Cert.FlashRefIdeal.sig) → Buf (Elt Ideal) ℓ) : Prop :=
  ∀ c : Dev Cert.FlashRefIdeal.nD,
    (Cert.Pre_finite_attn_fwd.fn (F := Ideal) (m ((c.tc : Thread Cert.FlashRefIdeal.nD Cert.FlashRefIdeal.τ).loc Cert.FlashRefIdeal.main_arg0)) (m ((c.tc : Thread Cert.FlashRefIdeal.nD Cert.FlashRefIdeal.τ).loc Cert.FlashRefIdeal.main_arg1)) (m ((c.tc : Thread Cert.FlashRefIdeal.nD Cert.FlashRefIdeal.τ).loc Cert.FlashRefIdeal.main_arg2)) (m ((c.tc : Thread Cert.FlashRefIdeal.nD Cert.FlashRefIdeal.τ).loc Cert.FlashRefIdeal.main_arg3)) (m ((c.tc : Thread Cert.FlashRefIdeal.nD Cert.FlashRefIdeal.τ).loc Cert.FlashRefIdeal.main_arg4))).1 = (fun _ => 1#1)
    ∧ (Cert.Pre_finite_attn_fwd.fn (F := Ideal) (m ((c.tc : Thread Cert.FlashRefIdeal.nD Cert.FlashRefIdeal.τ).loc Cert.FlashRefIdeal.main_arg0)) (m ((c.tc : Thread Cert.FlashRefIdeal.nD Cert.FlashRefIdeal.τ).loc Cert.FlashRefIdeal.main_arg1)) (m ((c.tc : Thread Cert.FlashRefIdeal.nD Cert.FlashRefIdeal.τ).loc Cert.FlashRefIdeal.main_arg2)) (m ((c.tc : Thread Cert.FlashRefIdeal.nD Cert.FlashRefIdeal.τ).loc Cert.FlashRefIdeal.main_arg3)) (m ((c.tc : Thread Cert.FlashRefIdeal.nD Cert.FlashRefIdeal.τ).loc Cert.FlashRefIdeal.main_arg4))).2.1 = (fun _ => 1#1)
    ∧ (Cert.Pre_finite_attn_fwd.fn (F := Ideal) (m ((c.tc : Thread Cert.FlashRefIdeal.nD Cert.FlashRefIdeal.τ).loc Cert.FlashRefIdeal.main_arg0)) (m ((c.tc : Thread Cert.FlashRefIdeal.nD Cert.FlashRefIdeal.τ).loc Cert.FlashRefIdeal.main_arg1)) (m ((c.tc : Thread Cert.FlashRefIdeal.nD Cert.FlashRefIdeal.τ).loc Cert.FlashRefIdeal.main_arg2)) (m ((c.tc : Thread Cert.FlashRefIdeal.nD Cert.FlashRefIdeal.τ).loc Cert.FlashRefIdeal.main_arg3)) (m ((c.tc : Thread Cert.FlashRefIdeal.nD Cert.FlashRefIdeal.τ).loc Cert.FlashRefIdeal.main_arg4))).2.2.1 = (fun _ => 1#1)
    ∧ (Cert.Pre_finite_attn_fwd.fn (F := Ideal) (m ((c.tc : Thread Cert.FlashRefIdeal.nD Cert.FlashRefIdeal.τ).loc Cert.FlashRefIdeal.main_arg0)) (m ((c.tc : Thread Cert.FlashRefIdeal.nD Cert.FlashRefIdeal.τ).loc Cert.FlashRefIdeal.main_arg1)) (m ((c.tc : Thread Cert.FlashRefIdeal.nD Cert.FlashRefIdeal.τ).loc Cert.FlashRefIdeal.main_arg2)) (m ((c.tc : Thread Cert.FlashRefIdeal.nD Cert.FlashRefIdeal.τ).loc Cert.FlashRefIdeal.main_arg3)) (m ((c.tc : Thread Cert.FlashRefIdeal.nD Cert.FlashRefIdeal.τ).loc Cert.FlashRefIdeal.main_arg4))).2.2.2.1 = (fun _ => 1#1)
    ∧ (Cert.Pre_finite_attn_fwd.fn (F := Ideal) (m ((c.tc : Thread Cert.FlashRefIdeal.nD Cert.FlashRefIdeal.τ).loc Cert.FlashRefIdeal.main_arg0)) (m ((c.tc : Thread Cert.FlashRefIdeal.nD Cert.FlashRefIdeal.τ).loc Cert.FlashRefIdeal.main_arg1)) (m ((c.tc : Thread Cert.FlashRefIdeal.nD Cert.FlashRefIdeal.τ).loc Cert.FlashRefIdeal.main_arg2)) (m ((c.tc : Thread Cert.FlashRefIdeal.nD Cert.FlashRefIdeal.τ).loc Cert.FlashRefIdeal.main_arg3)) (m ((c.tc : Thread Cert.FlashRefIdeal.nD Cert.FlashRefIdeal.τ).loc Cert.FlashRefIdeal.main_arg4))).2.2.2.2 = (fun _ => 1#1)

def Pre_Latents (m : (ℓ : Loc Cert.Latents.nD Cert.Latents.τ Cert.Latents.sig) → Buf (Elt Bits) ℓ) : Prop :=
  True

def Pre_LatentsIdeal (m : (ℓ : Loc Cert.LatentsIdeal.nD Cert.LatentsIdeal.τ Cert.LatentsIdeal.sig) → Buf (Elt Ideal) ℓ) : Prop :=
  True

def Pre_LatentsRefIdeal (m : (ℓ : Loc Cert.LatentsRefIdeal.nD Cert.LatentsRefIdeal.τ Cert.LatentsRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamIdeal_a_core [hPre_a_core : Cert.Pre_a_core.Facts] (m : (ℓ : Loc Cert.AdamIdeal.nD Cert.AdamIdeal.τ Cert.AdamIdeal.sig) → Buf (Elt Ideal) ℓ) : Prop :=
  ∀ c : Dev Cert.AdamIdeal.nD,
    (Cert.Pre_a_core.fn (F := Ideal) (m ((c.tc : Thread Cert.AdamIdeal.nD Cert.AdamIdeal.τ).loc Cert.AdamIdeal.main_arg0)) (m ((c.tc : Thread Cert.AdamIdeal.nD Cert.AdamIdeal.τ).loc Cert.AdamIdeal.main_arg1)) (m ((c.tc : Thread Cert.AdamIdeal.nD Cert.AdamIdeal.τ).loc Cert.AdamIdeal.main_arg2)) (m ((c.tc : Thread Cert.AdamIdeal.nD Cert.AdamIdeal.τ).loc Cert.AdamIdeal.main_arg3)) (m ((c.tc : Thread Cert.AdamIdeal.nD Cert.AdamIdeal.τ).loc Cert.AdamIdeal.main_arg4))) = (fun _ => 1#1)

def Pre_AdamRefIdeal (m : (ℓ : Loc Cert.AdamRefIdeal.nD Cert.AdamRefIdeal.τ Cert.AdamRefIdeal.sig) → Buf (Elt Ideal) ℓ) : Prop :=
  True

def Pre_AdamRefIdeal_a_core [hPre_a_core : Cert.Pre_a_core.Facts] (m : (ℓ : Loc Cert.AdamRefIdeal.nD Cert.AdamRefIdeal.τ Cert.AdamRefIdeal.sig) → Buf (Elt Ideal) ℓ) : Prop :=
  ∀ c : Dev Cert.AdamRefIdeal.nD,
    (Cert.Pre_a_core.fn (F := Ideal) (m ((c.tc : Thread Cert.AdamRefIdeal.nD Cert.AdamRefIdeal.τ).loc Cert.AdamRefIdeal.main_arg0)) (m ((c.tc : Thread Cert.AdamRefIdeal.nD Cert.AdamRefIdeal.τ).loc Cert.AdamRefIdeal.main_arg1)) (m ((c.tc : Thread Cert.AdamRefIdeal.nD Cert.AdamRefIdeal.τ).loc Cert.AdamRefIdeal.main_arg2)) (m ((c.tc : Thread Cert.AdamRefIdeal.nD Cert.AdamRefIdeal.τ).loc Cert.AdamRefIdeal.main_arg3)) (m ((c.tc : Thread Cert.AdamRefIdeal.nD Cert.AdamRefIdeal.τ).loc Cert.AdamRefIdeal.main_arg4))) = (fun _ => 1#1)

def Pre_Sibling (m : (ℓ : Loc Cert.Sibling.nD Cert.Sibling.τ Cert.Sibling.sig) → Buf (Elt Bits) ℓ) : Prop :=
  True

def Pre_SiblingIdeal (m : (ℓ : Loc Cert.SiblingIdeal.nD Cert.SiblingIdeal.τ Cert.SiblingIdeal.sig) → Buf (Elt Ideal) ℓ) : Prop :=
  True

def Pre_SiblingRefIdeal (m : (ℓ : Loc Cert.SiblingRefIdeal.nD Cert.SiblingRefIdeal.τ Cert.SiblingRefIdeal.sig) → Buf (Elt Ideal) ℓ) : Prop :=
  True

def quiescent_Swiglu [hSwiglu : Cert.Swiglu.Facts] : Prop :=
  ∀ (m : (ℓ : Loc Cert.Swiglu.nD Cert.Swiglu.τ Cert.Swiglu.sig) → Buf (Elt Bits) ℓ) (g : Dev Cert.Swiglu.nD → PrngReg), Pre_Swiglu m →
    θ_run (Cert.Swiglu.defs (F := Bits)) (onTc (τ := Cert.Swiglu.τ) (Cert.Swiglu.main (F := Bits))) ⟨m, fun _ => 0, g⟩ (fun r => (∀ c : Dev Cert.Swiglu.nD,
      r.2.mem ((c.tc : Thread Cert.Swiglu.nD Cert.Swiglu.τ).loc Cert.Swiglu.main_arg0) = m ((c.tc : Thread Cert.Swiglu.nD Cert.Swiglu.τ).loc Cert.Swiglu.main_arg0)
      ∧ r.2.mem ((c.tc : Thread Cert.Swiglu.nD Cert.Swiglu.τ).loc Cert.Swiglu.main_arg1) = m ((c.tc : Thread Cert.Swiglu.nD Cert.Swiglu.τ).loc Cert.Swiglu.main_arg1)
      ∧ r.2.mem ((c.tc : Thread Cert.Swiglu.nD Cert.Swiglu.τ).loc Cert.Swiglu.main_arg2) = m ((c.tc : Thread Cert.Swiglu.nD Cert.Swiglu.τ).loc Cert.Swiglu.main_arg2)
      ∧ r.2.mem ((c.tc : Thread Cert.Swiglu.nD Cert.Swiglu.τ).loc Cert.Swiglu.main_arg3) = m ((c.tc : Thread Cert.Swiglu.nD Cert.Swiglu.τ).loc Cert.Swiglu.main_arg3))
      ∧ r.2.sem = fun _ => 0)

def quiescent_SwigluIdeal [hSwigluIdeal : Cert.SwigluIdeal.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
      ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
      ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2)
      ∧ r.2.mem ((c.tc : Thread Cert.SwigluIdeal.nD Cert.SwigluIdeal.τ).loc Cert.SwigluIdeal.main_arg3) = m ((c.tc : Thread Cert.SwigluIdeal.nD Cert.SwigluIdeal.τ).loc Cert.SwigluIdeal.main_arg3))
      ∧ r.2.sem = fun _ => 0)

def quiescent_SwigluIdeal_pre_finite_swiglu [hSwigluIdeal : Cert.SwigluIdeal.Facts] [hPre_finite_swiglu : Cert.Pre_finite_swiglu.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal_finite_swiglu m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
      ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
      ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2)
      ∧ r.2.mem ((c.tc : Thread Cert.SwigluIdeal.nD Cert.SwigluIdeal.τ).loc Cert.SwigluIdeal.main_arg3) = m ((c.tc : Thread Cert.SwigluIdeal.nD Cert.SwigluIdeal.τ).loc Cert.SwigluIdeal.main_arg3))
      ∧ r.2.sem = fun _ => 0)

def quiescent_SwigluRefIdeal [hSwigluRefIdeal : Cert.SwigluRefIdeal.Facts] : Prop :=
  ∀ (m : (ℓ : Loc Cert.SwigluRefIdeal.nD Cert.SwigluRefIdeal.τ Cert.SwigluRefIdeal.sig) → Buf (Elt Ideal) ℓ) (g : Dev Cert.SwigluRefIdeal.nD → PrngReg), Pre_SwigluRefIdeal m →
    θ_run (Cert.SwigluRefIdeal.defs (F := Ideal)) (onTc (τ := Cert.SwigluRefIdeal.τ) (Cert.SwigluRefIdeal.main (F := Ideal))) ⟨m, fun _ => 0, g⟩ (fun r => (∀ c : Dev Cert.SwigluRefIdeal.nD,
      r.2.mem ((c.tc : Thread Cert.SwigluRefIdeal.nD Cert.SwigluRefIdeal.τ).loc Cert.SwigluRefIdeal.main_arg0) = m ((c.tc : Thread Cert.SwigluRefIdeal.nD Cert.SwigluRefIdeal.τ).loc Cert.SwigluRefIdeal.main_arg0)
      ∧ r.2.mem ((c.tc : Thread Cert.SwigluRefIdeal.nD Cert.SwigluRefIdeal.τ).loc Cert.SwigluRefIdeal.main_arg1) = m ((c.tc : Thread Cert.SwigluRefIdeal.nD Cert.SwigluRefIdeal.τ).loc Cert.SwigluRefIdeal.main_arg1)
      ∧ r.2.mem ((c.tc : Thread Cert.SwigluRefIdeal.nD Cert.SwigluRefIdeal.τ).loc Cert.SwigluRefIdeal.main_arg2) = m ((c.tc : Thread Cert.SwigluRefIdeal.nD Cert.SwigluRefIdeal.τ).loc Cert.SwigluRefIdeal.main_arg2)
      ∧ r.2.mem ((c.tc : Thread Cert.SwigluRefIdeal.nD Cert.SwigluRefIdeal.τ).loc Cert.SwigluRefIdeal.main_arg3) = m ((c.tc : Thread Cert.SwigluRefIdeal.nD Cert.SwigluRefIdeal.τ).loc Cert.SwigluRefIdeal.main_arg3))
      ∧ r.2.sem = fun _ => 0)

def quiescent_SwigluRefIdeal_pre_finite_swiglu [hSwigluRefIdeal : Cert.SwigluRefIdeal.Facts] [hPre_finite_swiglu : Cert.Pre_finite_swiglu.Facts] : Prop :=
  ∀ (m : (ℓ : Loc Cert.SwigluRefIdeal.nD Cert.SwigluRefIdeal.τ Cert.SwigluRefIdeal.sig) → Buf (Elt Ideal) ℓ) (g : Dev Cert.SwigluRefIdeal.nD → PrngReg), Pre_SwigluRefIdeal_finite_swiglu m →
    θ_run (Cert.SwigluRefIdeal.defs (F := Ideal)) (onTc (τ := Cert.SwigluRefIdeal.τ) (Cert.SwigluRefIdeal.main (F := Ideal))) ⟨m, fun _ => 0, g⟩ (fun r => (∀ c : Dev Cert.SwigluRefIdeal.nD,
      r.2.mem ((c.tc : Thread Cert.SwigluRefIdeal.nD Cert.SwigluRefIdeal.τ).loc Cert.SwigluRefIdeal.main_arg0) = m ((c.tc : Thread Cert.SwigluRefIdeal.nD Cert.SwigluRefIdeal.τ).loc Cert.SwigluRefIdeal.main_arg0)
      ∧ r.2.mem ((c.tc : Thread Cert.SwigluRefIdeal.nD Cert.SwigluRefIdeal.τ).loc Cert.SwigluRefIdeal.main_arg1) = m ((c.tc : Thread Cert.SwigluRefIdeal.nD Cert.SwigluRefIdeal.τ).loc Cert.SwigluRefIdeal.main_arg1)
      ∧ r.2.mem ((c.tc : Thread Cert.SwigluRefIdeal.nD Cert.SwigluRefIdeal.τ).loc Cert.SwigluRefIdeal.main_arg2) = m ((c.tc : Thread Cert.SwigluRefIdeal.nD Cert.SwigluRefIdeal.τ).loc Cert.SwigluRefIdeal.main_arg2)
      ∧ r.2.mem ((c.tc : Thread Cert.SwigluRefIdeal.nD Cert.SwigluRefIdeal.τ).loc Cert.SwigluRefIdeal.main_arg3) = m ((c.tc : Thread Cert.SwigluRefIdeal.nD Cert.SwigluRefIdeal.τ).loc Cert.SwigluRefIdeal.main_arg3))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnIdeal_pre_finite_attn [hAttnIdeal : Cert.AttnIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_attn m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_AttnRefIdeal_pre_finite_attn [hAttnRefIdeal : Cert.AttnRefIdeal.Facts] [hPre_finite_attn : Cert.Pre_finite_attn.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_attn m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_FfNorm [hFfNorm : Cert.FfNorm.Facts] : Prop :=
  ∀ (m : (ℓ : Loc Cert.FfNorm.nD Cert.FfNorm.τ Cert.FfNorm.sig) → Buf (Elt Bits) ℓ) (g : Dev Cert.FfNorm.nD → PrngReg), Pre_FfNorm m →
    θ_run (Cert.FfNorm.defs (F := Bits)) (onTc (τ := Cert.FfNorm.τ) (Cert.FfNorm.main (F := Bits))) ⟨m, fun _ => 0, g⟩ (fun r => (∀ c : Dev Cert.FfNorm.nD,
      r.2.mem ((c.tc : Thread Cert.FfNorm.nD Cert.FfNorm.τ).loc Cert.FfNorm.main_arg0) = m ((c.tc : Thread Cert.FfNorm.nD Cert.FfNorm.τ).loc Cert.FfNorm.main_arg0)
      ∧ r.2.mem ((c.tc : Thread Cert.FfNorm.nD Cert.FfNorm.τ).loc Cert.FfNorm.main_arg1) = m ((c.tc : Thread Cert.FfNorm.nD Cert.FfNorm.τ).loc Cert.FfNorm.main_arg1)
      ∧ r.2.mem ((c.tc : Thread Cert.FfNorm.nD Cert.FfNorm.τ).loc Cert.FfNorm.main_arg2) = m ((c.tc : Thread Cert.FfNorm.nD Cert.FfNorm.τ).loc Cert.FfNorm.main_arg2)
      ∧ r.2.mem ((c.tc : Thread Cert.FfNorm.nD Cert.FfNorm.τ).loc Cert.FfNorm.main_arg3) = m ((c.tc : Thread Cert.FfNorm.nD Cert.FfNorm.τ).loc Cert.FfNorm.main_arg3)
      ∧ r.2.mem ((c.tc : Thread Cert.FfNorm.nD Cert.FfNorm.τ).loc Cert.FfNorm.main_arg4) = m ((c.tc : Thread Cert.FfNorm.nD Cert.FfNorm.τ).loc Cert.FfNorm.main_arg4)
      ∧ r.2.mem ((c.tc : Thread Cert.FfNorm.nD Cert.FfNorm.τ).loc Cert.FfNorm.main_arg5) = m ((c.tc : Thread Cert.FfNorm.nD Cert.FfNorm.τ).loc Cert.FfNorm.main_arg5)
      ∧ r.2.mem ((c.tc : Thread Cert.FfNorm.nD Cert.FfNorm.τ).loc Cert.FfNorm.main_arg6) = m ((c.tc : Thread Cert.FfNorm.nD Cert.FfNorm.τ).loc Cert.FfNorm.main_arg6))
      ∧ r.2.sem = fun _ => 0)

def quiescent_FfNormIdeal [hFfNormIdeal : Cert.FfNormIdeal.Facts] : Prop :=
  ∀ (m : (ℓ : Loc Cert.FfNormIdeal.nD Cert.FfNormIdeal.τ Cert.FfNormIdeal.sig) → Buf (Elt Ideal) ℓ) (g : Dev Cert.FfNormIdeal.nD → PrngReg), Pre_FfNormIdeal m →
    θ_run (Cert.FfNormIdeal.defs (F := Ideal)) (onTc (τ := Cert.FfNormIdeal.τ) (Cert.FfNormIdeal.main (F := Ideal))) ⟨m, fun _ => 0, g⟩ (fun r => (∀ c : Dev Cert.FfNormIdeal.nD,
      r.2.mem ((c.tc : Thread Cert.FfNormIdeal.nD Cert.FfNormIdeal.τ).loc Cert.FfNormIdeal.main_arg0) = m ((c.tc : Thread Cert.FfNormIdeal.nD Cert.FfNormIdeal.τ).loc Cert.FfNormIdeal.main_arg0)
      ∧ r.2.mem ((c.tc : Thread Cert.FfNormIdeal.nD Cert.FfNormIdeal.τ).loc Cert.FfNormIdeal.main_arg1) = m ((c.tc : Thread Cert.FfNormIdeal.nD Cert.FfNormIdeal.τ).loc Cert.FfNormIdeal.main_arg1)
      ∧ r.2.mem ((c.tc : Thread Cert.FfNormIdeal.nD Cert.FfNormIdeal.τ).loc Cert.FfNormIdeal.main_arg2) = m ((c.tc : Thread Cert.FfNormIdeal.nD Cert.FfNormIdeal.τ).loc Cert.FfNormIdeal.main_arg2)
      ∧ r.2.mem ((c.tc : Thread Cert.FfNormIdeal.nD Cert.FfNormIdeal.τ).loc Cert.FfNormIdeal.main_arg3) = m ((c.tc : Thread Cert.FfNormIdeal.nD Cert.FfNormIdeal.τ).loc Cert.FfNormIdeal.main_arg3)
      ∧ r.2.mem ((c.tc : Thread Cert.FfNormIdeal.nD Cert.FfNormIdeal.τ).loc Cert.FfNormIdeal.main_arg4) = m ((c.tc : Thread Cert.FfNormIdeal.nD Cert.FfNormIdeal.τ).loc Cert.FfNormIdeal.main_arg4)
      ∧ r.2.mem ((c.tc : Thread Cert.FfNormIdeal.nD Cert.FfNormIdeal.τ).loc Cert.FfNormIdeal.main_arg5) = m ((c.tc : Thread Cert.FfNormIdeal.nD Cert.FfNormIdeal.τ).loc Cert.FfNormIdeal.main_arg5)
      ∧ r.2.mem ((c.tc : Thread Cert.FfNormIdeal.nD Cert.FfNormIdeal.τ).loc Cert.FfNormIdeal.main_arg6) = m ((c.tc : Thread Cert.FfNormIdeal.nD Cert.FfNormIdeal.τ).loc Cert.FfNormIdeal.main_arg6))
      ∧ r.2.sem = fun _ => 0)

def quiescent_FfNormIdeal_pre_finite_ffnorm [hFfNormIdeal : Cert.FfNormIdeal.Facts] [hPre_finite_ffnorm : Cert.Pre_finite_ffnorm.Facts] : Prop :=
  ∀ (m : (ℓ : Loc Cert.FfNormIdeal.nD Cert.FfNormIdeal.τ Cert.FfNormIdeal.sig) → Buf (Elt Ideal) ℓ) (g : Dev Cert.FfNormIdeal.nD → PrngReg), Pre_FfNormIdeal_finite_ffnorm m →
    θ_run (Cert.FfNormIdeal.defs (F := Ideal)) (onTc (τ := Cert.FfNormIdeal.τ) (Cert.FfNormIdeal.main (F := Ideal))) ⟨m, fun _ => 0, g⟩ (fun r => (∀ c : Dev Cert.FfNormIdeal.nD,
      r.2.mem ((c.tc : Thread Cert.FfNormIdeal.nD Cert.FfNormIdeal.τ).loc Cert.FfNormIdeal.main_arg0) = m ((c.tc : Thread Cert.FfNormIdeal.nD Cert.FfNormIdeal.τ).loc Cert.FfNormIdeal.main_arg0)
      ∧ r.2.mem ((c.tc : Thread Cert.FfNormIdeal.nD Cert.FfNormIdeal.τ).loc Cert.FfNormIdeal.main_arg1) = m ((c.tc : Thread Cert.FfNormIdeal.nD Cert.FfNormIdeal.τ).loc Cert.FfNormIdeal.main_arg1)
      ∧ r.2.mem ((c.tc : Thread Cert.FfNormIdeal.nD Cert.FfNormIdeal.τ).loc Cert.FfNormIdeal.main_arg2) = m ((c.tc : Thread Cert.FfNormIdeal.nD Cert.FfNormIdeal.τ).loc Cert.FfNormIdeal.main_arg2)
      ∧ r.2.mem ((c.tc : Thread Cert.FfNormIdeal.nD Cert.FfNormIdeal.τ).loc Cert.FfNormIdeal.main_arg3) = m ((c.tc : Thread Cert.FfNormIdeal.nD Cert.FfNormIdeal.τ).loc Cert.FfNormIdeal.main_arg3)
      ∧ r.2.mem ((c.tc : Thread Cert.FfNormIdeal.nD Cert.FfNormIdeal.τ).loc Cert.FfNormIdeal.main_arg4) = m ((c.tc : Thread Cert.FfNormIdeal.nD Cert.FfNormIdeal.τ).loc Cert.FfNormIdeal.main_arg4)
      ∧ r.2.mem ((c.tc : Thread Cert.FfNormIdeal.nD Cert.FfNormIdeal.τ).loc Cert.FfNormIdeal.main_arg5) = m ((c.tc : Thread Cert.FfNormIdeal.nD Cert.FfNormIdeal.τ).loc Cert.FfNormIdeal.main_arg5)
      ∧ r.2.mem ((c.tc : Thread Cert.FfNormIdeal.nD Cert.FfNormIdeal.τ).loc Cert.FfNormIdeal.main_arg6) = m ((c.tc : Thread Cert.FfNormIdeal.nD Cert.FfNormIdeal.τ).loc Cert.FfNormIdeal.main_arg6))
      ∧ r.2.sem = fun _ => 0)

def quiescent_FfNormRefIdeal [hFfNormRefIdeal : Cert.FfNormRefIdeal.Facts] : Prop :=
  ∀ (m : (ℓ : Loc Cert.FfNormRefIdeal.nD Cert.FfNormRefIdeal.τ Cert.FfNormRefIdeal.sig) → Buf (Elt Ideal) ℓ) (g : Dev Cert.FfNormRefIdeal.nD → PrngReg), Pre_FfNormRefIdeal m →
    θ_run (Cert.FfNormRefIdeal.defs (F := Ideal)) (onTc (τ := Cert.FfNormRefIdeal.τ) (Cert.FfNormRefIdeal.main (F := Ideal))) ⟨m, fun _ => 0, g⟩ (fun r => (∀ c : Dev Cert.FfNormRefIdeal.nD,
      r.2.mem ((c.tc : Thread Cert.FfNormRefIdeal.nD Cert.FfNormRefIdeal.τ).loc Cert.FfNormRefIdeal.main_arg0) = m ((c.tc : Thread Cert.FfNormRefIdeal.nD Cert.FfNormRefIdeal.τ).loc Cert.FfNormRefIdeal.main_arg0)
      ∧ r.2.mem ((c.tc : Thread Cert.FfNormRefIdeal.nD Cert.FfNormRefIdeal.τ).loc Cert.FfNormRefIdeal.main_arg1) = m ((c.tc : Thread Cert.FfNormRefIdeal.nD Cert.FfNormRefIdeal.τ).loc Cert.FfNormRefIdeal.main_arg1)
      ∧ r.2.mem ((c.tc : Thread Cert.FfNormRefIdeal.nD Cert.FfNormRefIdeal.τ).loc Cert.FfNormRefIdeal.main_arg2) = m ((c.tc : Thread Cert.FfNormRefIdeal.nD Cert.FfNormRefIdeal.τ).loc Cert.FfNormRefIdeal.main_arg2)
      ∧ r.2.mem ((c.tc : Thread Cert.FfNormRefIdeal.nD Cert.FfNormRefIdeal.τ).loc Cert.FfNormRefIdeal.main_arg3) = m ((c.tc : Thread Cert.FfNormRefIdeal.nD Cert.FfNormRefIdeal.τ).loc Cert.FfNormRefIdeal.main_arg3)
      ∧ r.2.mem ((c.tc : Thread Cert.FfNormRefIdeal.nD Cert.FfNormRefIdeal.τ).loc Cert.FfNormRefIdeal.main_arg4) = m ((c.tc : Thread Cert.FfNormRefIdeal.nD Cert.FfNormRefIdeal.τ).loc Cert.FfNormRefIdeal.main_arg4)
      ∧ r.2.mem ((c.tc : Thread Cert.FfNormRefIdeal.nD Cert.FfNormRefIdeal.τ).loc Cert.FfNormRefIdeal.main_arg5) = m ((c.tc : Thread Cert.FfNormRefIdeal.nD Cert.FfNormRefIdeal.τ).loc Cert.FfNormRefIdeal.main_arg5)
      ∧ r.2.mem ((c.tc : Thread Cert.FfNormRefIdeal.nD Cert.FfNormRefIdeal.τ).loc Cert.FfNormRefIdeal.main_arg6) = m ((c.tc : Thread Cert.FfNormRefIdeal.nD Cert.FfNormRefIdeal.τ).loc Cert.FfNormRefIdeal.main_arg6))
      ∧ r.2.sem = fun _ => 0)

def quiescent_FfNormRefIdeal_pre_finite_ffnorm [hFfNormRefIdeal : Cert.FfNormRefIdeal.Facts] [hPre_finite_ffnorm : Cert.Pre_finite_ffnorm.Facts] : Prop :=
  ∀ (m : (ℓ : Loc Cert.FfNormRefIdeal.nD Cert.FfNormRefIdeal.τ Cert.FfNormRefIdeal.sig) → Buf (Elt Ideal) ℓ) (g : Dev Cert.FfNormRefIdeal.nD → PrngReg), Pre_FfNormRefIdeal_finite_ffnorm m →
    θ_run (Cert.FfNormRefIdeal.defs (F := Ideal)) (onTc (τ := Cert.FfNormRefIdeal.τ) (Cert.FfNormRefIdeal.main (F := Ideal))) ⟨m, fun _ => 0, g⟩ (fun r => (∀ c : Dev Cert.FfNormRefIdeal.nD,
      r.2.mem ((c.tc : Thread Cert.FfNormRefIdeal.nD Cert.FfNormRefIdeal.τ).loc Cert.FfNormRefIdeal.main_arg0) = m ((c.tc : Thread Cert.FfNormRefIdeal.nD Cert.FfNormRefIdeal.τ).loc Cert.FfNormRefIdeal.main_arg0)
      ∧ r.2.mem ((c.tc : Thread Cert.FfNormRefIdeal.nD Cert.FfNormRefIdeal.τ).loc Cert.FfNormRefIdeal.main_arg1) = m ((c.tc : Thread Cert.FfNormRefIdeal.nD Cert.FfNormRefIdeal.τ).loc Cert.FfNormRefIdeal.main_arg1)
      ∧ r.2.mem ((c.tc : Thread Cert.FfNormRefIdeal.nD Cert.FfNormRefIdeal.τ).loc Cert.FfNormRefIdeal.main_arg2) = m ((c.tc : Thread Cert.FfNormRefIdeal.nD Cert.FfNormRefIdeal.τ).loc Cert.FfNormRefIdeal.main_arg2)
      ∧ r.2.mem ((c.tc : Thread Cert.FfNormRefIdeal.nD Cert.FfNormRefIdeal.τ).loc Cert.FfNormRefIdeal.main_arg3) = m ((c.tc : Thread Cert.FfNormRefIdeal.nD Cert.FfNormRefIdeal.τ).loc Cert.FfNormRefIdeal.main_arg3)
      ∧ r.2.mem ((c.tc : Thread Cert.FfNormRefIdeal.nD Cert.FfNormRefIdeal.τ).loc Cert.FfNormRefIdeal.main_arg4) = m ((c.tc : Thread Cert.FfNormRefIdeal.nD Cert.FfNormRefIdeal.τ).loc Cert.FfNormRefIdeal.main_arg4)
      ∧ r.2.mem ((c.tc : Thread Cert.FfNormRefIdeal.nD Cert.FfNormRefIdeal.τ).loc Cert.FfNormRefIdeal.main_arg5) = m ((c.tc : Thread Cert.FfNormRefIdeal.nD Cert.FfNormRefIdeal.τ).loc Cert.FfNormRefIdeal.main_arg5)
      ∧ r.2.mem ((c.tc : Thread Cert.FfNormRefIdeal.nD Cert.FfNormRefIdeal.τ).loc Cert.FfNormRefIdeal.main_arg6) = m ((c.tc : Thread Cert.FfNormRefIdeal.nD Cert.FfNormRefIdeal.τ).loc Cert.FfNormRefIdeal.main_arg6))
      ∧ r.2.sem = fun _ => 0)

def quiescent_QNorm [hQNorm : Cert.QNorm.Facts] : Prop :=
  ∀ (m : (ℓ : Loc Cert.QNorm.nD Cert.QNorm.τ Cert.QNorm.sig) → Buf (Elt Bits) ℓ) (g : Dev Cert.QNorm.nD → PrngReg), Pre_QNorm m →
    θ_run (Cert.QNorm.defs (F := Bits)) (onTc (τ := Cert.QNorm.τ) (Cert.QNorm.main (F := Bits))) ⟨m, fun _ => 0, g⟩ (fun r => (∀ c : Dev Cert.QNorm.nD,
      r.2.mem ((c.tc : Thread Cert.QNorm.nD Cert.QNorm.τ).loc Cert.QNorm.main_arg0) = m ((c.tc : Thread Cert.QNorm.nD Cert.QNorm.τ).loc Cert.QNorm.main_arg0)
      ∧ r.2.mem ((c.tc : Thread Cert.QNorm.nD Cert.QNorm.τ).loc Cert.QNorm.main_arg1) = m ((c.tc : Thread Cert.QNorm.nD Cert.QNorm.τ).loc Cert.QNorm.main_arg1)
      ∧ r.2.mem ((c.tc : Thread Cert.QNorm.nD Cert.QNorm.τ).loc Cert.QNorm.main_arg2) = m ((c.tc : Thread Cert.QNorm.nD Cert.QNorm.τ).loc Cert.QNorm.main_arg2)
      ∧ r.2.mem ((c.tc : Thread Cert.QNorm.nD Cert.QNorm.τ).loc Cert.QNorm.main_arg3) = m ((c.tc : Thread Cert.QNorm.nD Cert.QNorm.τ).loc Cert.QNorm.main_arg3))
      ∧ r.2.sem = fun _ => 0)

def quiescent_QNormIdeal [hQNormIdeal : Cert.QNormIdeal.Facts] : Prop :=
  ∀ (m : (ℓ : Loc Cert.QNormIdeal.nD Cert.QNormIdeal.τ Cert.QNormIdeal.sig) → Buf (Elt Ideal) ℓ) (g : Dev Cert.QNormIdeal.nD → PrngReg), Pre_QNormIdeal m →
    θ_run (Cert.QNormIdeal.defs (F := Ideal)) (onTc (τ := Cert.QNormIdeal.τ) (Cert.QNormIdeal.main (F := Ideal))) ⟨m, fun _ => 0, g⟩ (fun r => (∀ c : Dev Cert.QNormIdeal.nD,
      r.2.mem ((c.tc : Thread Cert.QNormIdeal.nD Cert.QNormIdeal.τ).loc Cert.QNormIdeal.main_arg0) = m ((c.tc : Thread Cert.QNormIdeal.nD Cert.QNormIdeal.τ).loc Cert.QNormIdeal.main_arg0)
      ∧ r.2.mem ((c.tc : Thread Cert.QNormIdeal.nD Cert.QNormIdeal.τ).loc Cert.QNormIdeal.main_arg1) = m ((c.tc : Thread Cert.QNormIdeal.nD Cert.QNormIdeal.τ).loc Cert.QNormIdeal.main_arg1)
      ∧ r.2.mem ((c.tc : Thread Cert.QNormIdeal.nD Cert.QNormIdeal.τ).loc Cert.QNormIdeal.main_arg2) = m ((c.tc : Thread Cert.QNormIdeal.nD Cert.QNormIdeal.τ).loc Cert.QNormIdeal.main_arg2)
      ∧ r.2.mem ((c.tc : Thread Cert.QNormIdeal.nD Cert.QNormIdeal.τ).loc Cert.QNormIdeal.main_arg3) = m ((c.tc : Thread Cert.QNormIdeal.nD Cert.QNormIdeal.τ).loc Cert.QNormIdeal.main_arg3))
      ∧ r.2.sem = fun _ => 0)

def quiescent_QNormIdeal_pre_finite_qnorm [hQNormIdeal : Cert.QNormIdeal.Facts] [hPre_finite_qnorm : Cert.Pre_finite_qnorm.Facts] : Prop :=
  ∀ (m : (ℓ : Loc Cert.QNormIdeal.nD Cert.QNormIdeal.τ Cert.QNormIdeal.sig) → Buf (Elt Ideal) ℓ) (g : Dev Cert.QNormIdeal.nD → PrngReg), Pre_QNormIdeal_finite_qnorm m →
    θ_run (Cert.QNormIdeal.defs (F := Ideal)) (onTc (τ := Cert.QNormIdeal.τ) (Cert.QNormIdeal.main (F := Ideal))) ⟨m, fun _ => 0, g⟩ (fun r => (∀ c : Dev Cert.QNormIdeal.nD,
      r.2.mem ((c.tc : Thread Cert.QNormIdeal.nD Cert.QNormIdeal.τ).loc Cert.QNormIdeal.main_arg0) = m ((c.tc : Thread Cert.QNormIdeal.nD Cert.QNormIdeal.τ).loc Cert.QNormIdeal.main_arg0)
      ∧ r.2.mem ((c.tc : Thread Cert.QNormIdeal.nD Cert.QNormIdeal.τ).loc Cert.QNormIdeal.main_arg1) = m ((c.tc : Thread Cert.QNormIdeal.nD Cert.QNormIdeal.τ).loc Cert.QNormIdeal.main_arg1)
      ∧ r.2.mem ((c.tc : Thread Cert.QNormIdeal.nD Cert.QNormIdeal.τ).loc Cert.QNormIdeal.main_arg2) = m ((c.tc : Thread Cert.QNormIdeal.nD Cert.QNormIdeal.τ).loc Cert.QNormIdeal.main_arg2)
      ∧ r.2.mem ((c.tc : Thread Cert.QNormIdeal.nD Cert.QNormIdeal.τ).loc Cert.QNormIdeal.main_arg3) = m ((c.tc : Thread Cert.QNormIdeal.nD Cert.QNormIdeal.τ).loc Cert.QNormIdeal.main_arg3))
      ∧ r.2.sem = fun _ => 0)

def quiescent_QNormRefIdeal [hQNormRefIdeal : Cert.QNormRefIdeal.Facts] : Prop :=
  ∀ (m : (ℓ : Loc Cert.QNormRefIdeal.nD Cert.QNormRefIdeal.τ Cert.QNormRefIdeal.sig) → Buf (Elt Ideal) ℓ) (g : Dev Cert.QNormRefIdeal.nD → PrngReg), Pre_QNormRefIdeal m →
    θ_run (Cert.QNormRefIdeal.defs (F := Ideal)) (onTc (τ := Cert.QNormRefIdeal.τ) (Cert.QNormRefIdeal.main (F := Ideal))) ⟨m, fun _ => 0, g⟩ (fun r => (∀ c : Dev Cert.QNormRefIdeal.nD,
      r.2.mem ((c.tc : Thread Cert.QNormRefIdeal.nD Cert.QNormRefIdeal.τ).loc Cert.QNormRefIdeal.main_arg0) = m ((c.tc : Thread Cert.QNormRefIdeal.nD Cert.QNormRefIdeal.τ).loc Cert.QNormRefIdeal.main_arg0)
      ∧ r.2.mem ((c.tc : Thread Cert.QNormRefIdeal.nD Cert.QNormRefIdeal.τ).loc Cert.QNormRefIdeal.main_arg1) = m ((c.tc : Thread Cert.QNormRefIdeal.nD Cert.QNormRefIdeal.τ).loc Cert.QNormRefIdeal.main_arg1)
      ∧ r.2.mem ((c.tc : Thread Cert.QNormRefIdeal.nD Cert.QNormRefIdeal.τ).loc Cert.QNormRefIdeal.main_arg2) = m ((c.tc : Thread Cert.QNormRefIdeal.nD Cert.QNormRefIdeal.τ).loc Cert.QNormRefIdeal.main_arg2)
      ∧ r.2.mem ((c.tc : Thread Cert.QNormRefIdeal.nD Cert.QNormRefIdeal.τ).loc Cert.QNormRefIdeal.main_arg3) = m ((c.tc : Thread Cert.QNormRefIdeal.nD Cert.QNormRefIdeal.τ).loc Cert.QNormRefIdeal.main_arg3))
      ∧ r.2.sem = fun _ => 0)

def quiescent_QNormRefIdeal_pre_finite_qnorm [hQNormRefIdeal : Cert.QNormRefIdeal.Facts] [hPre_finite_qnorm : Cert.Pre_finite_qnorm.Facts] : Prop :=
  ∀ (m : (ℓ : Loc Cert.QNormRefIdeal.nD Cert.QNormRefIdeal.τ Cert.QNormRefIdeal.sig) → Buf (Elt Ideal) ℓ) (g : Dev Cert.QNormRefIdeal.nD → PrngReg), Pre_QNormRefIdeal_finite_qnorm m →
    θ_run (Cert.QNormRefIdeal.defs (F := Ideal)) (onTc (τ := Cert.QNormRefIdeal.τ) (Cert.QNormRefIdeal.main (F := Ideal))) ⟨m, fun _ => 0, g⟩ (fun r => (∀ c : Dev Cert.QNormRefIdeal.nD,
      r.2.mem ((c.tc : Thread Cert.QNormRefIdeal.nD Cert.QNormRefIdeal.τ).loc Cert.QNormRefIdeal.main_arg0) = m ((c.tc : Thread Cert.QNormRefIdeal.nD Cert.QNormRefIdeal.τ).loc Cert.QNormRefIdeal.main_arg0)
      ∧ r.2.mem ((c.tc : Thread Cert.QNormRefIdeal.nD Cert.QNormRefIdeal.τ).loc Cert.QNormRefIdeal.main_arg1) = m ((c.tc : Thread Cert.QNormRefIdeal.nD Cert.QNormRefIdeal.τ).loc Cert.QNormRefIdeal.main_arg1)
      ∧ r.2.mem ((c.tc : Thread Cert.QNormRefIdeal.nD Cert.QNormRefIdeal.τ).loc Cert.QNormRefIdeal.main_arg2) = m ((c.tc : Thread Cert.QNormRefIdeal.nD Cert.QNormRefIdeal.τ).loc Cert.QNormRefIdeal.main_arg2)
      ∧ r.2.mem ((c.tc : Thread Cert.QNormRefIdeal.nD Cert.QNormRefIdeal.τ).loc Cert.QNormRefIdeal.main_arg3) = m ((c.tc : Thread Cert.QNormRefIdeal.nD Cert.QNormRefIdeal.τ).loc Cert.QNormRefIdeal.main_arg3))
      ∧ r.2.sem = fun _ => 0)

def quiescent_KvNorm [hKvNorm : Cert.KvNorm.Facts] : Prop :=
  ∀ (m : (ℓ : Loc Cert.KvNorm.nD Cert.KvNorm.τ Cert.KvNorm.sig) → Buf (Elt Bits) ℓ) (g : Dev Cert.KvNorm.nD → PrngReg), Pre_KvNorm m →
    θ_run (Cert.KvNorm.defs (F := Bits)) (onTc (τ := Cert.KvNorm.τ) (Cert.KvNorm.main (F := Bits))) ⟨m, fun _ => 0, g⟩ (fun r => (∀ c : Dev Cert.KvNorm.nD,
      r.2.mem ((c.tc : Thread Cert.KvNorm.nD Cert.KvNorm.τ).loc Cert.KvNorm.main_arg0) = m ((c.tc : Thread Cert.KvNorm.nD Cert.KvNorm.τ).loc Cert.KvNorm.main_arg0)
      ∧ r.2.mem ((c.tc : Thread Cert.KvNorm.nD Cert.KvNorm.τ).loc Cert.KvNorm.main_arg1) = m ((c.tc : Thread Cert.KvNorm.nD Cert.KvNorm.τ).loc Cert.KvNorm.main_arg1)
      ∧ r.2.mem ((c.tc : Thread Cert.KvNorm.nD Cert.KvNorm.τ).loc Cert.KvNorm.main_arg2) = m ((c.tc : Thread Cert.KvNorm.nD Cert.KvNorm.τ).loc Cert.KvNorm.main_arg2)
      ∧ r.2.mem ((c.tc : Thread Cert.KvNorm.nD Cert.KvNorm.τ).loc Cert.KvNorm.main_arg3) = m ((c.tc : Thread Cert.KvNorm.nD Cert.KvNorm.τ).loc Cert.KvNorm.main_arg3)
      ∧ r.2.mem ((c.tc : Thread Cert.KvNorm.nD Cert.KvNorm.τ).loc Cert.KvNorm.main_arg4) = m ((c.tc : Thread Cert.KvNorm.nD Cert.KvNorm.τ).loc Cert.KvNorm.main_arg4))
      ∧ r.2.sem = fun _ => 0)

def quiescent_KvNormIdeal [hKvNormIdeal : Cert.KvNormIdeal.Facts] : Prop :=
  ∀ (m : (ℓ : Loc Cert.KvNormIdeal.nD Cert.KvNormIdeal.τ Cert.KvNormIdeal.sig) → Buf (Elt Ideal) ℓ) (g : Dev Cert.KvNormIdeal.nD → PrngReg), Pre_KvNormIdeal m →
    θ_run (Cert.KvNormIdeal.defs (F := Ideal)) (onTc (τ := Cert.KvNormIdeal.τ) (Cert.KvNormIdeal.main (F := Ideal))) ⟨m, fun _ => 0, g⟩ (fun r => (∀ c : Dev Cert.KvNormIdeal.nD,
      r.2.mem ((c.tc : Thread Cert.KvNormIdeal.nD Cert.KvNormIdeal.τ).loc Cert.KvNormIdeal.main_arg0) = m ((c.tc : Thread Cert.KvNormIdeal.nD Cert.KvNormIdeal.τ).loc Cert.KvNormIdeal.main_arg0)
      ∧ r.2.mem ((c.tc : Thread Cert.KvNormIdeal.nD Cert.KvNormIdeal.τ).loc Cert.KvNormIdeal.main_arg1) = m ((c.tc : Thread Cert.KvNormIdeal.nD Cert.KvNormIdeal.τ).loc Cert.KvNormIdeal.main_arg1)
      ∧ r.2.mem ((c.tc : Thread Cert.KvNormIdeal.nD Cert.KvNormIdeal.τ).loc Cert.KvNormIdeal.main_arg2) = m ((c.tc : Thread Cert.KvNormIdeal.nD Cert.KvNormIdeal.τ).loc Cert.KvNormIdeal.main_arg2)
      ∧ r.2.mem ((c.tc : Thread Cert.KvNormIdeal.nD Cert.KvNormIdeal.τ).loc Cert.KvNormIdeal.main_arg3) = m ((c.tc : Thread Cert.KvNormIdeal.nD Cert.KvNormIdeal.τ).loc Cert.KvNormIdeal.main_arg3)
      ∧ r.2.mem ((c.tc : Thread Cert.KvNormIdeal.nD Cert.KvNormIdeal.τ).loc Cert.KvNormIdeal.main_arg4) = m ((c.tc : Thread Cert.KvNormIdeal.nD Cert.KvNormIdeal.τ).loc Cert.KvNormIdeal.main_arg4))
      ∧ r.2.sem = fun _ => 0)

def quiescent_KvNormIdeal_pre_finite_kvnorm [hKvNormIdeal : Cert.KvNormIdeal.Facts] [hPre_finite_kvnorm : Cert.Pre_finite_kvnorm.Facts] : Prop :=
  ∀ (m : (ℓ : Loc Cert.KvNormIdeal.nD Cert.KvNormIdeal.τ Cert.KvNormIdeal.sig) → Buf (Elt Ideal) ℓ) (g : Dev Cert.KvNormIdeal.nD → PrngReg), Pre_KvNormIdeal_finite_kvnorm m →
    θ_run (Cert.KvNormIdeal.defs (F := Ideal)) (onTc (τ := Cert.KvNormIdeal.τ) (Cert.KvNormIdeal.main (F := Ideal))) ⟨m, fun _ => 0, g⟩ (fun r => (∀ c : Dev Cert.KvNormIdeal.nD,
      r.2.mem ((c.tc : Thread Cert.KvNormIdeal.nD Cert.KvNormIdeal.τ).loc Cert.KvNormIdeal.main_arg0) = m ((c.tc : Thread Cert.KvNormIdeal.nD Cert.KvNormIdeal.τ).loc Cert.KvNormIdeal.main_arg0)
      ∧ r.2.mem ((c.tc : Thread Cert.KvNormIdeal.nD Cert.KvNormIdeal.τ).loc Cert.KvNormIdeal.main_arg1) = m ((c.tc : Thread Cert.KvNormIdeal.nD Cert.KvNormIdeal.τ).loc Cert.KvNormIdeal.main_arg1)
      ∧ r.2.mem ((c.tc : Thread Cert.KvNormIdeal.nD Cert.KvNormIdeal.τ).loc Cert.KvNormIdeal.main_arg2) = m ((c.tc : Thread Cert.KvNormIdeal.nD Cert.KvNormIdeal.τ).loc Cert.KvNormIdeal.main_arg2)
      ∧ r.2.mem ((c.tc : Thread Cert.KvNormIdeal.nD Cert.KvNormIdeal.τ).loc Cert.KvNormIdeal.main_arg3) = m ((c.tc : Thread Cert.KvNormIdeal.nD Cert.KvNormIdeal.τ).loc Cert.KvNormIdeal.main_arg3)
      ∧ r.2.mem ((c.tc : Thread Cert.KvNormIdeal.nD Cert.KvNormIdeal.τ).loc Cert.KvNormIdeal.main_arg4) = m ((c.tc : Thread Cert.KvNormIdeal.nD Cert.KvNormIdeal.τ).loc Cert.KvNormIdeal.main_arg4))
      ∧ r.2.sem = fun _ => 0)

def quiescent_KvNormRefIdeal [hKvNormRefIdeal : Cert.KvNormRefIdeal.Facts] : Prop :=
  ∀ (m : (ℓ : Loc Cert.KvNormRefIdeal.nD Cert.KvNormRefIdeal.τ Cert.KvNormRefIdeal.sig) → Buf (Elt Ideal) ℓ) (g : Dev Cert.KvNormRefIdeal.nD → PrngReg), Pre_KvNormRefIdeal m →
    θ_run (Cert.KvNormRefIdeal.defs (F := Ideal)) (onTc (τ := Cert.KvNormRefIdeal.τ) (Cert.KvNormRefIdeal.main (F := Ideal))) ⟨m, fun _ => 0, g⟩ (fun r => (∀ c : Dev Cert.KvNormRefIdeal.nD,
      r.2.mem ((c.tc : Thread Cert.KvNormRefIdeal.nD Cert.KvNormRefIdeal.τ).loc Cert.KvNormRefIdeal.main_arg0) = m ((c.tc : Thread Cert.KvNormRefIdeal.nD Cert.KvNormRefIdeal.τ).loc Cert.KvNormRefIdeal.main_arg0)
      ∧ r.2.mem ((c.tc : Thread Cert.KvNormRefIdeal.nD Cert.KvNormRefIdeal.τ).loc Cert.KvNormRefIdeal.main_arg1) = m ((c.tc : Thread Cert.KvNormRefIdeal.nD Cert.KvNormRefIdeal.τ).loc Cert.KvNormRefIdeal.main_arg1)
      ∧ r.2.mem ((c.tc : Thread Cert.KvNormRefIdeal.nD Cert.KvNormRefIdeal.τ).loc Cert.KvNormRefIdeal.main_arg2) = m ((c.tc : Thread Cert.KvNormRefIdeal.nD Cert.KvNormRefIdeal.τ).loc Cert.KvNormRefIdeal.main_arg2)
      ∧ r.2.mem ((c.tc : Thread Cert.KvNormRefIdeal.nD Cert.KvNormRefIdeal.τ).loc Cert.KvNormRefIdeal.main_arg3) = m ((c.tc : Thread Cert.KvNormRefIdeal.nD Cert.KvNormRefIdeal.τ).loc Cert.KvNormRefIdeal.main_arg3)
      ∧ r.2.mem ((c.tc : Thread Cert.KvNormRefIdeal.nD Cert.KvNormRefIdeal.τ).loc Cert.KvNormRefIdeal.main_arg4) = m ((c.tc : Thread Cert.KvNormRefIdeal.nD Cert.KvNormRefIdeal.τ).loc Cert.KvNormRefIdeal.main_arg4))
      ∧ r.2.sem = fun _ => 0)

def quiescent_KvNormRefIdeal_pre_finite_kvnorm [hKvNormRefIdeal : Cert.KvNormRefIdeal.Facts] [hPre_finite_kvnorm : Cert.Pre_finite_kvnorm.Facts] : Prop :=
  ∀ (m : (ℓ : Loc Cert.KvNormRefIdeal.nD Cert.KvNormRefIdeal.τ Cert.KvNormRefIdeal.sig) → Buf (Elt Ideal) ℓ) (g : Dev Cert.KvNormRefIdeal.nD → PrngReg), Pre_KvNormRefIdeal_finite_kvnorm m →
    θ_run (Cert.KvNormRefIdeal.defs (F := Ideal)) (onTc (τ := Cert.KvNormRefIdeal.τ) (Cert.KvNormRefIdeal.main (F := Ideal))) ⟨m, fun _ => 0, g⟩ (fun r => (∀ c : Dev Cert.KvNormRefIdeal.nD,
      r.2.mem ((c.tc : Thread Cert.KvNormRefIdeal.nD Cert.KvNormRefIdeal.τ).loc Cert.KvNormRefIdeal.main_arg0) = m ((c.tc : Thread Cert.KvNormRefIdeal.nD Cert.KvNormRefIdeal.τ).loc Cert.KvNormRefIdeal.main_arg0)
      ∧ r.2.mem ((c.tc : Thread Cert.KvNormRefIdeal.nD Cert.KvNormRefIdeal.τ).loc Cert.KvNormRefIdeal.main_arg1) = m ((c.tc : Thread Cert.KvNormRefIdeal.nD Cert.KvNormRefIdeal.τ).loc Cert.KvNormRefIdeal.main_arg1)
      ∧ r.2.mem ((c.tc : Thread Cert.KvNormRefIdeal.nD Cert.KvNormRefIdeal.τ).loc Cert.KvNormRefIdeal.main_arg2) = m ((c.tc : Thread Cert.KvNormRefIdeal.nD Cert.KvNormRefIdeal.τ).loc Cert.KvNormRefIdeal.main_arg2)
      ∧ r.2.mem ((c.tc : Thread Cert.KvNormRefIdeal.nD Cert.KvNormRefIdeal.τ).loc Cert.KvNormRefIdeal.main_arg3) = m ((c.tc : Thread Cert.KvNormRefIdeal.nD Cert.KvNormRefIdeal.τ).loc Cert.KvNormRefIdeal.main_arg3)
      ∧ r.2.mem ((c.tc : Thread Cert.KvNormRefIdeal.nD Cert.KvNormRefIdeal.τ).loc Cert.KvNormRefIdeal.main_arg4) = m ((c.tc : Thread Cert.KvNormRefIdeal.nD Cert.KvNormRefIdeal.τ).loc Cert.KvNormRefIdeal.main_arg4))
      ∧ r.2.sem = fun _ => 0)

def quiescent_InNorm [hInNorm : Cert.InNorm.Facts] : Prop :=
  ∀ (m : (ℓ : Loc Cert.InNorm.nD Cert.InNorm.τ Cert.InNorm.sig) → Buf (Elt Bits) ℓ) (g : Dev Cert.InNorm.nD → PrngReg), Pre_InNorm m →
    θ_run (Cert.InNorm.defs (F := Bits)) (onTc (τ := Cert.InNorm.τ) (Cert.InNorm.main (F := Bits))) ⟨m, fun _ => 0, g⟩ (fun r => (∀ c : Dev Cert.InNorm.nD,
      r.2.mem ((c.tc : Thread Cert.InNorm.nD Cert.InNorm.τ).loc Cert.InNorm.main_arg0) = m ((c.tc : Thread Cert.InNorm.nD Cert.InNorm.τ).loc Cert.InNorm.main_arg0)
      ∧ r.2.mem ((c.tc : Thread Cert.InNorm.nD Cert.InNorm.τ).loc Cert.InNorm.main_arg1) = m ((c.tc : Thread Cert.InNorm.nD Cert.InNorm.τ).loc Cert.InNorm.main_arg1)
      ∧ r.2.mem ((c.tc : Thread Cert.InNorm.nD Cert.InNorm.τ).loc Cert.InNorm.main_arg2) = m ((c.tc : Thread Cert.InNorm.nD Cert.InNorm.τ).loc Cert.InNorm.main_arg2)
      ∧ r.2.mem ((c.tc : Thread Cert.InNorm.nD Cert.InNorm.τ).loc Cert.InNorm.main_arg3) = m ((c.tc : Thread Cert.InNorm.nD Cert.InNorm.τ).loc Cert.InNorm.main_arg3)
      ∧ r.2.mem ((c.tc : Thread Cert.InNorm.nD Cert.InNorm.τ).loc Cert.InNorm.main_arg4) = m ((c.tc : Thread Cert.InNorm.nD Cert.InNorm.τ).loc Cert.InNorm.main_arg4)
      ∧ r.2.mem ((c.tc : Thread Cert.InNorm.nD Cert.InNorm.τ).loc Cert.InNorm.main_arg5) = m ((c.tc : Thread Cert.InNorm.nD Cert.InNorm.τ).loc Cert.InNorm.main_arg5)
      ∧ r.2.mem ((c.tc : Thread Cert.InNorm.nD Cert.InNorm.τ).loc Cert.InNorm.main_arg6) = m ((c.tc : Thread Cert.InNorm.nD Cert.InNorm.τ).loc Cert.InNorm.main_arg6)
      ∧ r.2.mem ((c.tc : Thread Cert.InNorm.nD Cert.InNorm.τ).loc Cert.InNorm.main_arg7) = m ((c.tc : Thread Cert.InNorm.nD Cert.InNorm.τ).loc Cert.InNorm.main_arg7))
      ∧ r.2.sem = fun _ => 0)

def quiescent_InNormIdeal [hInNormIdeal : Cert.InNormIdeal.Facts] : Prop :=
  ∀ (m : (ℓ : Loc Cert.InNormIdeal.nD Cert.InNormIdeal.τ Cert.InNormIdeal.sig) → Buf (Elt Ideal) ℓ) (g : Dev Cert.InNormIdeal.nD → PrngReg), Pre_InNormIdeal m →
    θ_run (Cert.InNormIdeal.defs (F := Ideal)) (onTc (τ := Cert.InNormIdeal.τ) (Cert.InNormIdeal.main (F := Ideal))) ⟨m, fun _ => 0, g⟩ (fun r => (∀ c : Dev Cert.InNormIdeal.nD,
      r.2.mem ((c.tc : Thread Cert.InNormIdeal.nD Cert.InNormIdeal.τ).loc Cert.InNormIdeal.main_arg0) = m ((c.tc : Thread Cert.InNormIdeal.nD Cert.InNormIdeal.τ).loc Cert.InNormIdeal.main_arg0)
      ∧ r.2.mem ((c.tc : Thread Cert.InNormIdeal.nD Cert.InNormIdeal.τ).loc Cert.InNormIdeal.main_arg1) = m ((c.tc : Thread Cert.InNormIdeal.nD Cert.InNormIdeal.τ).loc Cert.InNormIdeal.main_arg1)
      ∧ r.2.mem ((c.tc : Thread Cert.InNormIdeal.nD Cert.InNormIdeal.τ).loc Cert.InNormIdeal.main_arg2) = m ((c.tc : Thread Cert.InNormIdeal.nD Cert.InNormIdeal.τ).loc Cert.InNormIdeal.main_arg2)
      ∧ r.2.mem ((c.tc : Thread Cert.InNormIdeal.nD Cert.InNormIdeal.τ).loc Cert.InNormIdeal.main_arg3) = m ((c.tc : Thread Cert.InNormIdeal.nD Cert.InNormIdeal.τ).loc Cert.InNormIdeal.main_arg3)
      ∧ r.2.mem ((c.tc : Thread Cert.InNormIdeal.nD Cert.InNormIdeal.τ).loc Cert.InNormIdeal.main_arg4) = m ((c.tc : Thread Cert.InNormIdeal.nD Cert.InNormIdeal.τ).loc Cert.InNormIdeal.main_arg4)
      ∧ r.2.mem ((c.tc : Thread Cert.InNormIdeal.nD Cert.InNormIdeal.τ).loc Cert.InNormIdeal.main_arg5) = m ((c.tc : Thread Cert.InNormIdeal.nD Cert.InNormIdeal.τ).loc Cert.InNormIdeal.main_arg5)
      ∧ r.2.mem ((c.tc : Thread Cert.InNormIdeal.nD Cert.InNormIdeal.τ).loc Cert.InNormIdeal.main_arg6) = m ((c.tc : Thread Cert.InNormIdeal.nD Cert.InNormIdeal.τ).loc Cert.InNormIdeal.main_arg6)
      ∧ r.2.mem ((c.tc : Thread Cert.InNormIdeal.nD Cert.InNormIdeal.τ).loc Cert.InNormIdeal.main_arg7) = m ((c.tc : Thread Cert.InNormIdeal.nD Cert.InNormIdeal.τ).loc Cert.InNormIdeal.main_arg7))
      ∧ r.2.sem = fun _ => 0)

def quiescent_InNormIdeal_pre_finite_innorm [hInNormIdeal : Cert.InNormIdeal.Facts] [hPre_finite_innorm : Cert.Pre_finite_innorm.Facts] : Prop :=
  ∀ (m : (ℓ : Loc Cert.InNormIdeal.nD Cert.InNormIdeal.τ Cert.InNormIdeal.sig) → Buf (Elt Ideal) ℓ) (g : Dev Cert.InNormIdeal.nD → PrngReg), Pre_InNormIdeal_finite_innorm m →
    θ_run (Cert.InNormIdeal.defs (F := Ideal)) (onTc (τ := Cert.InNormIdeal.τ) (Cert.InNormIdeal.main (F := Ideal))) ⟨m, fun _ => 0, g⟩ (fun r => (∀ c : Dev Cert.InNormIdeal.nD,
      r.2.mem ((c.tc : Thread Cert.InNormIdeal.nD Cert.InNormIdeal.τ).loc Cert.InNormIdeal.main_arg0) = m ((c.tc : Thread Cert.InNormIdeal.nD Cert.InNormIdeal.τ).loc Cert.InNormIdeal.main_arg0)
      ∧ r.2.mem ((c.tc : Thread Cert.InNormIdeal.nD Cert.InNormIdeal.τ).loc Cert.InNormIdeal.main_arg1) = m ((c.tc : Thread Cert.InNormIdeal.nD Cert.InNormIdeal.τ).loc Cert.InNormIdeal.main_arg1)
      ∧ r.2.mem ((c.tc : Thread Cert.InNormIdeal.nD Cert.InNormIdeal.τ).loc Cert.InNormIdeal.main_arg2) = m ((c.tc : Thread Cert.InNormIdeal.nD Cert.InNormIdeal.τ).loc Cert.InNormIdeal.main_arg2)
      ∧ r.2.mem ((c.tc : Thread Cert.InNormIdeal.nD Cert.InNormIdeal.τ).loc Cert.InNormIdeal.main_arg3) = m ((c.tc : Thread Cert.InNormIdeal.nD Cert.InNormIdeal.τ).loc Cert.InNormIdeal.main_arg3)
      ∧ r.2.mem ((c.tc : Thread Cert.InNormIdeal.nD Cert.InNormIdeal.τ).loc Cert.InNormIdeal.main_arg4) = m ((c.tc : Thread Cert.InNormIdeal.nD Cert.InNormIdeal.τ).loc Cert.InNormIdeal.main_arg4)
      ∧ r.2.mem ((c.tc : Thread Cert.InNormIdeal.nD Cert.InNormIdeal.τ).loc Cert.InNormIdeal.main_arg5) = m ((c.tc : Thread Cert.InNormIdeal.nD Cert.InNormIdeal.τ).loc Cert.InNormIdeal.main_arg5)
      ∧ r.2.mem ((c.tc : Thread Cert.InNormIdeal.nD Cert.InNormIdeal.τ).loc Cert.InNormIdeal.main_arg6) = m ((c.tc : Thread Cert.InNormIdeal.nD Cert.InNormIdeal.τ).loc Cert.InNormIdeal.main_arg6)
      ∧ r.2.mem ((c.tc : Thread Cert.InNormIdeal.nD Cert.InNormIdeal.τ).loc Cert.InNormIdeal.main_arg7) = m ((c.tc : Thread Cert.InNormIdeal.nD Cert.InNormIdeal.τ).loc Cert.InNormIdeal.main_arg7))
      ∧ r.2.sem = fun _ => 0)

def quiescent_InNormRefIdeal [hInNormRefIdeal : Cert.InNormRefIdeal.Facts] : Prop :=
  ∀ (m : (ℓ : Loc Cert.InNormRefIdeal.nD Cert.InNormRefIdeal.τ Cert.InNormRefIdeal.sig) → Buf (Elt Ideal) ℓ) (g : Dev Cert.InNormRefIdeal.nD → PrngReg), Pre_InNormRefIdeal m →
    θ_run (Cert.InNormRefIdeal.defs (F := Ideal)) (onTc (τ := Cert.InNormRefIdeal.τ) (Cert.InNormRefIdeal.main (F := Ideal))) ⟨m, fun _ => 0, g⟩ (fun r => (∀ c : Dev Cert.InNormRefIdeal.nD,
      r.2.mem ((c.tc : Thread Cert.InNormRefIdeal.nD Cert.InNormRefIdeal.τ).loc Cert.InNormRefIdeal.main_arg0) = m ((c.tc : Thread Cert.InNormRefIdeal.nD Cert.InNormRefIdeal.τ).loc Cert.InNormRefIdeal.main_arg0)
      ∧ r.2.mem ((c.tc : Thread Cert.InNormRefIdeal.nD Cert.InNormRefIdeal.τ).loc Cert.InNormRefIdeal.main_arg1) = m ((c.tc : Thread Cert.InNormRefIdeal.nD Cert.InNormRefIdeal.τ).loc Cert.InNormRefIdeal.main_arg1)
      ∧ r.2.mem ((c.tc : Thread Cert.InNormRefIdeal.nD Cert.InNormRefIdeal.τ).loc Cert.InNormRefIdeal.main_arg2) = m ((c.tc : Thread Cert.InNormRefIdeal.nD Cert.InNormRefIdeal.τ).loc Cert.InNormRefIdeal.main_arg2)
      ∧ r.2.mem ((c.tc : Thread Cert.InNormRefIdeal.nD Cert.InNormRefIdeal.τ).loc Cert.InNormRefIdeal.main_arg3) = m ((c.tc : Thread Cert.InNormRefIdeal.nD Cert.InNormRefIdeal.τ).loc Cert.InNormRefIdeal.main_arg3)
      ∧ r.2.mem ((c.tc : Thread Cert.InNormRefIdeal.nD Cert.InNormRefIdeal.τ).loc Cert.InNormRefIdeal.main_arg4) = m ((c.tc : Thread Cert.InNormRefIdeal.nD Cert.InNormRefIdeal.τ).loc Cert.InNormRefIdeal.main_arg4)
      ∧ r.2.mem ((c.tc : Thread Cert.InNormRefIdeal.nD Cert.InNormRefIdeal.τ).loc Cert.InNormRefIdeal.main_arg5) = m ((c.tc : Thread Cert.InNormRefIdeal.nD Cert.InNormRefIdeal.τ).loc Cert.InNormRefIdeal.main_arg5)
      ∧ r.2.mem ((c.tc : Thread Cert.InNormRefIdeal.nD Cert.InNormRefIdeal.τ).loc Cert.InNormRefIdeal.main_arg6) = m ((c.tc : Thread Cert.InNormRefIdeal.nD Cert.InNormRefIdeal.τ).loc Cert.InNormRefIdeal.main_arg6)
      ∧ r.2.mem ((c.tc : Thread Cert.InNormRefIdeal.nD Cert.InNormRefIdeal.τ).loc Cert.InNormRefIdeal.main_arg7) = m ((c.tc : Thread Cert.InNormRefIdeal.nD Cert.InNormRefIdeal.τ).loc Cert.InNormRefIdeal.main_arg7))
      ∧ r.2.sem = fun _ => 0)

def quiescent_InNormRefIdeal_pre_finite_innorm [hInNormRefIdeal : Cert.InNormRefIdeal.Facts] [hPre_finite_innorm : Cert.Pre_finite_innorm.Facts] : Prop :=
  ∀ (m : (ℓ : Loc Cert.InNormRefIdeal.nD Cert.InNormRefIdeal.τ Cert.InNormRefIdeal.sig) → Buf (Elt Ideal) ℓ) (g : Dev Cert.InNormRefIdeal.nD → PrngReg), Pre_InNormRefIdeal_finite_innorm m →
    θ_run (Cert.InNormRefIdeal.defs (F := Ideal)) (onTc (τ := Cert.InNormRefIdeal.τ) (Cert.InNormRefIdeal.main (F := Ideal))) ⟨m, fun _ => 0, g⟩ (fun r => (∀ c : Dev Cert.InNormRefIdeal.nD,
      r.2.mem ((c.tc : Thread Cert.InNormRefIdeal.nD Cert.InNormRefIdeal.τ).loc Cert.InNormRefIdeal.main_arg0) = m ((c.tc : Thread Cert.InNormRefIdeal.nD Cert.InNormRefIdeal.τ).loc Cert.InNormRefIdeal.main_arg0)
      ∧ r.2.mem ((c.tc : Thread Cert.InNormRefIdeal.nD Cert.InNormRefIdeal.τ).loc Cert.InNormRefIdeal.main_arg1) = m ((c.tc : Thread Cert.InNormRefIdeal.nD Cert.InNormRefIdeal.τ).loc Cert.InNormRefIdeal.main_arg1)
      ∧ r.2.mem ((c.tc : Thread Cert.InNormRefIdeal.nD Cert.InNormRefIdeal.τ).loc Cert.InNormRefIdeal.main_arg2) = m ((c.tc : Thread Cert.InNormRefIdeal.nD Cert.InNormRefIdeal.τ).loc Cert.InNormRefIdeal.main_arg2)
      ∧ r.2.mem ((c.tc : Thread Cert.InNormRefIdeal.nD Cert.InNormRefIdeal.τ).loc Cert.InNormRefIdeal.main_arg3) = m ((c.tc : Thread Cert.InNormRefIdeal.nD Cert.InNormRefIdeal.τ).loc Cert.InNormRefIdeal.main_arg3)
      ∧ r.2.mem ((c.tc : Thread Cert.InNormRefIdeal.nD Cert.InNormRefIdeal.τ).loc Cert.InNormRefIdeal.main_arg4) = m ((c.tc : Thread Cert.InNormRefIdeal.nD Cert.InNormRefIdeal.τ).loc Cert.InNormRefIdeal.main_arg4)
      ∧ r.2.mem ((c.tc : Thread Cert.InNormRefIdeal.nD Cert.InNormRefIdeal.τ).loc Cert.InNormRefIdeal.main_arg5) = m ((c.tc : Thread Cert.InNormRefIdeal.nD Cert.InNormRefIdeal.τ).loc Cert.InNormRefIdeal.main_arg5)
      ∧ r.2.mem ((c.tc : Thread Cert.InNormRefIdeal.nD Cert.InNormRefIdeal.τ).loc Cert.InNormRefIdeal.main_arg6) = m ((c.tc : Thread Cert.InNormRefIdeal.nD Cert.InNormRefIdeal.τ).loc Cert.InNormRefIdeal.main_arg6)
      ∧ r.2.mem ((c.tc : Thread Cert.InNormRefIdeal.nD Cert.InNormRefIdeal.τ).loc Cert.InNormRefIdeal.main_arg7) = m ((c.tc : Thread Cert.InNormRefIdeal.nD Cert.InNormRefIdeal.τ).loc Cert.InNormRefIdeal.main_arg7))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossIdeal_pre_finite_loss [hLossIdeal : Cert.LossIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg), Pre_LossIdeal_finite_loss m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_LossRefIdeal_pre_finite_loss [hLossRefIdeal : Cert.LossRefIdeal.Facts] [hPre_finite_loss : Cert.Pre_finite_loss.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_finite_loss m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjIdeal_pre_finite_outproj [hOutProjIdeal : Cert.OutProjIdeal.Facts] [hPre_finite_outproj : Cert.Pre_finite_outproj.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal_finite_outproj m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_OutProjRefIdeal_pre_finite_outproj [hOutProjRefIdeal : Cert.OutProjRefIdeal.Facts] [hPre_finite_outproj : Cert.Pre_finite_outproj.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal_finite_outproj m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0)
      ∧ r.2.mem ((c.tc : Thread Cert.Rope.nD Cert.Rope.τ).loc Cert.Rope.main_arg1) = m ((c.tc : Thread Cert.Rope.nD Cert.Rope.τ).loc Cert.Rope.main_arg1)
      ∧ r.2.mem ((c.tc : Thread Cert.Rope.nD Cert.Rope.τ).loc Cert.Rope.main_arg2) = m ((c.tc : Thread Cert.Rope.nD Cert.Rope.τ).loc Cert.Rope.main_arg2)
      ∧ r.2.mem ((c.tc : Thread Cert.Rope.nD Cert.Rope.τ).loc Cert.Rope.main_arg3) = m ((c.tc : Thread Cert.Rope.nD Cert.Rope.τ).loc Cert.Rope.main_arg3)
      ∧ r.2.mem ((c.tc : Thread Cert.Rope.nD Cert.Rope.τ).loc Cert.Rope.main_arg4) = m ((c.tc : Thread Cert.Rope.nD Cert.Rope.τ).loc Cert.Rope.main_arg4))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
      ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1)
      ∧ r.2.mem ((c.tc : Thread Cert.RopeIdeal.nD Cert.RopeIdeal.τ).loc Cert.RopeIdeal.main_arg2) = m ((c.tc : Thread Cert.RopeIdeal.nD Cert.RopeIdeal.τ).loc Cert.RopeIdeal.main_arg2)
      ∧ r.2.mem ((c.tc : Thread Cert.RopeIdeal.nD Cert.RopeIdeal.τ).loc Cert.RopeIdeal.main_arg3) = m ((c.tc : Thread Cert.RopeIdeal.nD Cert.RopeIdeal.τ).loc Cert.RopeIdeal.main_arg3)
      ∧ r.2.mem ((c.tc : Thread Cert.RopeIdeal.nD Cert.RopeIdeal.τ).loc Cert.RopeIdeal.main_arg4) = m ((c.tc : Thread Cert.RopeIdeal.nD Cert.RopeIdeal.τ).loc Cert.RopeIdeal.main_arg4))
      ∧ r.2.sem = fun _ => 0)

def quiescent_RopeRefIdeal [hRopeRefIdeal : Cert.RopeRefIdeal.Facts] : Prop :=
  ∀ (m : (ℓ : Loc Cert.RopeRefIdeal.nD Cert.RopeRefIdeal.τ Cert.RopeRefIdeal.sig) → Buf (Elt Ideal) ℓ) (g : Dev Cert.RopeRefIdeal.nD → PrngReg), Pre_RopeRefIdeal m →
    θ_run (Cert.RopeRefIdeal.defs (F := Ideal)) (onTc (τ := Cert.RopeRefIdeal.τ) (Cert.RopeRefIdeal.main (F := Ideal))) ⟨m, fun _ => 0, g⟩ (fun r => (∀ c : Dev Cert.RopeRefIdeal.nD,
      r.2.mem ((c.tc : Thread Cert.RopeRefIdeal.nD Cert.RopeRefIdeal.τ).loc Cert.RopeRefIdeal.main_arg0) = m ((c.tc : Thread Cert.RopeRefIdeal.nD Cert.RopeRefIdeal.τ).loc Cert.RopeRefIdeal.main_arg0)
      ∧ r.2.mem ((c.tc : Thread Cert.RopeRefIdeal.nD Cert.RopeRefIdeal.τ).loc Cert.RopeRefIdeal.main_arg1) = m ((c.tc : Thread Cert.RopeRefIdeal.nD Cert.RopeRefIdeal.τ).loc Cert.RopeRefIdeal.main_arg1)
      ∧ r.2.mem ((c.tc : Thread Cert.RopeRefIdeal.nD Cert.RopeRefIdeal.τ).loc Cert.RopeRefIdeal.main_arg2) = m ((c.tc : Thread Cert.RopeRefIdeal.nD Cert.RopeRefIdeal.τ).loc Cert.RopeRefIdeal.main_arg2)
      ∧ r.2.mem ((c.tc : Thread Cert.RopeRefIdeal.nD Cert.RopeRefIdeal.τ).loc Cert.RopeRefIdeal.main_arg3) = m ((c.tc : Thread Cert.RopeRefIdeal.nD Cert.RopeRefIdeal.τ).loc Cert.RopeRefIdeal.main_arg3)
      ∧ r.2.mem ((c.tc : Thread Cert.RopeRefIdeal.nD Cert.RopeRefIdeal.τ).loc Cert.RopeRefIdeal.main_arg4) = m ((c.tc : Thread Cert.RopeRefIdeal.nD Cert.RopeRefIdeal.τ).loc Cert.RopeRefIdeal.main_arg4))
      ∧ r.2.sem = fun _ => 0)

def quiescent_Flash [hFlash : Cert.Flash.Facts] : Prop :=
  ∀ (m : (ℓ : Loc Cert.Flash.nD Cert.Flash.τ Cert.Flash.sig) → Buf (Elt Bits) ℓ) (g : Dev Cert.Flash.nD → PrngReg), Pre_Flash m →
    θ_run (Cert.Flash.defs (F := Bits)) (onTc (τ := Cert.Flash.τ) (Cert.Flash.main (F := Bits))) ⟨m, fun _ => 0, g⟩ (fun r => (∀ c : Dev Cert.Flash.nD,
      r.2.mem ((c.tc : Thread Cert.Flash.nD Cert.Flash.τ).loc Cert.Flash.main_arg0) = m ((c.tc : Thread Cert.Flash.nD Cert.Flash.τ).loc Cert.Flash.main_arg0)
      ∧ r.2.mem ((c.tc : Thread Cert.Flash.nD Cert.Flash.τ).loc Cert.Flash.main_arg1) = m ((c.tc : Thread Cert.Flash.nD Cert.Flash.τ).loc Cert.Flash.main_arg1)
      ∧ r.2.mem ((c.tc : Thread Cert.Flash.nD Cert.Flash.τ).loc Cert.Flash.main_arg2) = m ((c.tc : Thread Cert.Flash.nD Cert.Flash.τ).loc Cert.Flash.main_arg2)
      ∧ r.2.mem ((c.tc : Thread Cert.Flash.nD Cert.Flash.τ).loc Cert.Flash.main_arg3) = m ((c.tc : Thread Cert.Flash.nD Cert.Flash.τ).loc Cert.Flash.main_arg3)
      ∧ r.2.mem ((c.tc : Thread Cert.Flash.nD Cert.Flash.τ).loc Cert.Flash.main_arg4) = m ((c.tc : Thread Cert.Flash.nD Cert.Flash.τ).loc Cert.Flash.main_arg4))
      ∧ r.2.sem = fun _ => 0)

def quiescent_FlashIdeal [hFlashIdeal : Cert.FlashIdeal.Facts] : Prop :=
  ∀ (m : (ℓ : Loc Cert.FlashIdeal.nD Cert.FlashIdeal.τ Cert.FlashIdeal.sig) → Buf (Elt Ideal) ℓ) (g : Dev Cert.FlashIdeal.nD → PrngReg), Pre_FlashIdeal m →
    θ_run (Cert.FlashIdeal.defs (F := Ideal)) (onTc (τ := Cert.FlashIdeal.τ) (Cert.FlashIdeal.main (F := Ideal))) ⟨m, fun _ => 0, g⟩ (fun r => (∀ c : Dev Cert.FlashIdeal.nD,
      r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
      ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
      ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2)
      ∧ r.2.mem ((c.tc : Thread Cert.FlashIdeal.nD Cert.FlashIdeal.τ).loc Cert.FlashIdeal.main_arg3) = m ((c.tc : Thread Cert.FlashIdeal.nD Cert.FlashIdeal.τ).loc Cert.FlashIdeal.main_arg3)
      ∧ r.2.mem ((c.tc : Thread Cert.FlashIdeal.nD Cert.FlashIdeal.τ).loc Cert.FlashIdeal.main_arg4) = m ((c.tc : Thread Cert.FlashIdeal.nD Cert.FlashIdeal.τ).loc Cert.FlashIdeal.main_arg4))
      ∧ r.2.sem = fun _ => 0)

def quiescent_FlashIdeal_pre_finite_attn_fwd [hFlashIdeal : Cert.FlashIdeal.Facts] [hPre_finite_attn_fwd : Cert.Pre_finite_attn_fwd.Facts] : Prop :=
  ∀ (m : (ℓ : Loc Cert.FlashIdeal.nD Cert.FlashIdeal.τ Cert.FlashIdeal.sig) → Buf (Elt Ideal) ℓ) (g : Dev Cert.FlashIdeal.nD → PrngReg), Pre_FlashIdeal_finite_attn_fwd m →
    θ_run (Cert.FlashIdeal.defs (F := Ideal)) (onTc (τ := Cert.FlashIdeal.τ) (Cert.FlashIdeal.main (F := Ideal))) ⟨m, fun _ => 0, g⟩ (fun r => (∀ c : Dev Cert.FlashIdeal.nD,
      r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
      ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
      ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2)
      ∧ r.2.mem ((c.tc : Thread Cert.FlashIdeal.nD Cert.FlashIdeal.τ).loc Cert.FlashIdeal.main_arg3) = m ((c.tc : Thread Cert.FlashIdeal.nD Cert.FlashIdeal.τ).loc Cert.FlashIdeal.main_arg3)
      ∧ r.2.mem ((c.tc : Thread Cert.FlashIdeal.nD Cert.FlashIdeal.τ).loc Cert.FlashIdeal.main_arg4) = m ((c.tc : Thread Cert.FlashIdeal.nD Cert.FlashIdeal.τ).loc Cert.FlashIdeal.main_arg4))
      ∧ r.2.sem = fun _ => 0)

def quiescent_FlashRefIdeal [hFlashRefIdeal : Cert.FlashRefIdeal.Facts] : Prop :=
  ∀ (m : (ℓ : Loc Cert.FlashRefIdeal.nD Cert.FlashRefIdeal.τ Cert.FlashRefIdeal.sig) → Buf (Elt Ideal) ℓ) (g : Dev Cert.FlashRefIdeal.nD → PrngReg), Pre_FlashRefIdeal m →
    θ_run (Cert.FlashRefIdeal.defs (F := Ideal)) (onTc (τ := Cert.FlashRefIdeal.τ) (Cert.FlashRefIdeal.main (F := Ideal))) ⟨m, fun _ => 0, g⟩ (fun r => (∀ c : Dev Cert.FlashRefIdeal.nD,
      r.2.mem ((c.tc : Thread Cert.FlashRefIdeal.nD Cert.FlashRefIdeal.τ).loc Cert.FlashRefIdeal.main_arg0) = m ((c.tc : Thread Cert.FlashRefIdeal.nD Cert.FlashRefIdeal.τ).loc Cert.FlashRefIdeal.main_arg0)
      ∧ r.2.mem ((c.tc : Thread Cert.FlashRefIdeal.nD Cert.FlashRefIdeal.τ).loc Cert.FlashRefIdeal.main_arg1) = m ((c.tc : Thread Cert.FlashRefIdeal.nD Cert.FlashRefIdeal.τ).loc Cert.FlashRefIdeal.main_arg1)
      ∧ r.2.mem ((c.tc : Thread Cert.FlashRefIdeal.nD Cert.FlashRefIdeal.τ).loc Cert.FlashRefIdeal.main_arg2) = m ((c.tc : Thread Cert.FlashRefIdeal.nD Cert.FlashRefIdeal.τ).loc Cert.FlashRefIdeal.main_arg2)
      ∧ r.2.mem ((c.tc : Thread Cert.FlashRefIdeal.nD Cert.FlashRefIdeal.τ).loc Cert.FlashRefIdeal.main_arg3) = m ((c.tc : Thread Cert.FlashRefIdeal.nD Cert.FlashRefIdeal.τ).loc Cert.FlashRefIdeal.main_arg3)
      ∧ r.2.mem ((c.tc : Thread Cert.FlashRefIdeal.nD Cert.FlashRefIdeal.τ).loc Cert.FlashRefIdeal.main_arg4) = m ((c.tc : Thread Cert.FlashRefIdeal.nD Cert.FlashRefIdeal.τ).loc Cert.FlashRefIdeal.main_arg4))
      ∧ r.2.sem = fun _ => 0)

def quiescent_FlashRefIdeal_pre_finite_attn_fwd [hFlashRefIdeal : Cert.FlashRefIdeal.Facts] [hPre_finite_attn_fwd : Cert.Pre_finite_attn_fwd.Facts] : Prop :=
  ∀ (m : (ℓ : Loc Cert.FlashRefIdeal.nD Cert.FlashRefIdeal.τ Cert.FlashRefIdeal.sig) → Buf (Elt Ideal) ℓ) (g : Dev Cert.FlashRefIdeal.nD → PrngReg), Pre_FlashRefIdeal_finite_attn_fwd m →
    θ_run (Cert.FlashRefIdeal.defs (F := Ideal)) (onTc (τ := Cert.FlashRefIdeal.τ) (Cert.FlashRefIdeal.main (F := Ideal))) ⟨m, fun _ => 0, g⟩ (fun r => (∀ c : Dev Cert.FlashRefIdeal.nD,
      r.2.mem ((c.tc : Thread Cert.FlashRefIdeal.nD Cert.FlashRefIdeal.τ).loc Cert.FlashRefIdeal.main_arg0) = m ((c.tc : Thread Cert.FlashRefIdeal.nD Cert.FlashRefIdeal.τ).loc Cert.FlashRefIdeal.main_arg0)
      ∧ r.2.mem ((c.tc : Thread Cert.FlashRefIdeal.nD Cert.FlashRefIdeal.τ).loc Cert.FlashRefIdeal.main_arg1) = m ((c.tc : Thread Cert.FlashRefIdeal.nD Cert.FlashRefIdeal.τ).loc Cert.FlashRefIdeal.main_arg1)
      ∧ r.2.mem ((c.tc : Thread Cert.FlashRefIdeal.nD Cert.FlashRefIdeal.τ).loc Cert.FlashRefIdeal.main_arg2) = m ((c.tc : Thread Cert.FlashRefIdeal.nD Cert.FlashRefIdeal.τ).loc Cert.FlashRefIdeal.main_arg2)
      ∧ r.2.mem ((c.tc : Thread Cert.FlashRefIdeal.nD Cert.FlashRefIdeal.τ).loc Cert.FlashRefIdeal.main_arg3) = m ((c.tc : Thread Cert.FlashRefIdeal.nD Cert.FlashRefIdeal.τ).loc Cert.FlashRefIdeal.main_arg3)
      ∧ r.2.mem ((c.tc : Thread Cert.FlashRefIdeal.nD Cert.FlashRefIdeal.τ).loc Cert.FlashRefIdeal.main_arg4) = m ((c.tc : Thread Cert.FlashRefIdeal.nD Cert.FlashRefIdeal.τ).loc Cert.FlashRefIdeal.main_arg4))
      ∧ r.2.sem = fun _ => 0)

def quiescent_Latents [hLatents : Cert.Latents.Facts] : Prop :=
  ∀ (m : (ℓ : Loc Cert.Latents.nD Cert.Latents.τ Cert.Latents.sig) → Buf (Elt Bits) ℓ) (g : Dev Cert.Latents.nD → PrngReg), Pre_Latents m →
    θ_run (Cert.Latents.defs (F := Bits)) (onTc (τ := Cert.Latents.τ) (Cert.Latents.main (F := Bits))) ⟨m, fun _ => 0, g⟩ (fun r => (∀ c : Dev Cert.Latents.nD,
      r.2.mem ((c.tc : Thread Cert.Latents.nD Cert.Latents.τ).loc Cert.Latents.main_arg0) = m ((c.tc : Thread Cert.Latents.nD Cert.Latents.τ).loc Cert.Latents.main_arg0)
      ∧ r.2.mem ((c.tc : Thread Cert.Latents.nD Cert.Latents.τ).loc Cert.Latents.main_arg1) = m ((c.tc : Thread Cert.Latents.nD Cert.Latents.τ).loc Cert.Latents.main_arg1)
      ∧ r.2.mem ((c.tc : Thread Cert.Latents.nD Cert.Latents.τ).loc Cert.Latents.main_arg2) = m ((c.tc : Thread Cert.Latents.nD Cert.Latents.τ).loc Cert.Latents.main_arg2)
      ∧ r.2.mem ((c.tc : Thread Cert.Latents.nD Cert.Latents.τ).loc Cert.Latents.main_arg3) = m ((c.tc : Thread Cert.Latents.nD Cert.Latents.τ).loc Cert.Latents.main_arg3)
      ∧ r.2.mem ((c.tc : Thread Cert.Latents.nD Cert.Latents.τ).loc Cert.Latents.main_arg4) = m ((c.tc : Thread Cert.Latents.nD Cert.Latents.τ).loc Cert.Latents.main_arg4))
      ∧ r.2.sem = fun _ => 0)

def quiescent_LatentsIdeal [hLatentsIdeal : Cert.LatentsIdeal.Facts] : Prop :=
  ∀ (m : (ℓ : Loc Cert.LatentsIdeal.nD Cert.LatentsIdeal.τ Cert.LatentsIdeal.sig) → Buf (Elt Ideal) ℓ) (g : Dev Cert.LatentsIdeal.nD → PrngReg), Pre_LatentsIdeal m →
    θ_run (Cert.LatentsIdeal.defs (F := Ideal)) (onTc (τ := Cert.LatentsIdeal.τ) (Cert.LatentsIdeal.main (F := Ideal))) ⟨m, fun _ => 0, g⟩ (fun r => (∀ c : Dev Cert.LatentsIdeal.nD,
      r.2.mem ((c.tc : Thread Cert.LatentsIdeal.nD Cert.LatentsIdeal.τ).loc Cert.LatentsIdeal.main_arg0) = m ((c.tc : Thread Cert.LatentsIdeal.nD Cert.LatentsIdeal.τ).loc Cert.LatentsIdeal.main_arg0)
      ∧ r.2.mem ((c.tc : Thread Cert.LatentsIdeal.nD Cert.LatentsIdeal.τ).loc Cert.LatentsIdeal.main_arg1) = m ((c.tc : Thread Cert.LatentsIdeal.nD Cert.LatentsIdeal.τ).loc Cert.LatentsIdeal.main_arg1)
      ∧ r.2.mem ((c.tc : Thread Cert.LatentsIdeal.nD Cert.LatentsIdeal.τ).loc Cert.LatentsIdeal.main_arg2) = m ((c.tc : Thread Cert.LatentsIdeal.nD Cert.LatentsIdeal.τ).loc Cert.LatentsIdeal.main_arg2)
      ∧ r.2.mem ((c.tc : Thread Cert.LatentsIdeal.nD Cert.LatentsIdeal.τ).loc Cert.LatentsIdeal.main_arg3) = m ((c.tc : Thread Cert.LatentsIdeal.nD Cert.LatentsIdeal.τ).loc Cert.LatentsIdeal.main_arg3)
      ∧ r.2.mem ((c.tc : Thread Cert.LatentsIdeal.nD Cert.LatentsIdeal.τ).loc Cert.LatentsIdeal.main_arg4) = m ((c.tc : Thread Cert.LatentsIdeal.nD Cert.LatentsIdeal.τ).loc Cert.LatentsIdeal.main_arg4))
      ∧ r.2.sem = fun _ => 0)

def quiescent_LatentsRefIdeal [hLatentsRefIdeal : Cert.LatentsRefIdeal.Facts] : Prop :=
  ∀ (m : (ℓ : Loc Cert.LatentsRefIdeal.nD Cert.LatentsRefIdeal.τ Cert.LatentsRefIdeal.sig) → Buf (Elt Ideal) ℓ) (g : Dev Cert.LatentsRefIdeal.nD → PrngReg), Pre_LatentsRefIdeal m →
    θ_run (Cert.LatentsRefIdeal.defs (F := Ideal)) (onTc (τ := Cert.LatentsRefIdeal.τ) (Cert.LatentsRefIdeal.main (F := Ideal))) ⟨m, fun _ => 0, g⟩ (fun r => (∀ c : Dev Cert.LatentsRefIdeal.nD,
      r.2.mem ((c.tc : Thread Cert.LatentsRefIdeal.nD Cert.LatentsRefIdeal.τ).loc Cert.LatentsRefIdeal.main_arg0) = m ((c.tc : Thread Cert.LatentsRefIdeal.nD Cert.LatentsRefIdeal.τ).loc Cert.LatentsRefIdeal.main_arg0)
      ∧ r.2.mem ((c.tc : Thread Cert.LatentsRefIdeal.nD Cert.LatentsRefIdeal.τ).loc Cert.LatentsRefIdeal.main_arg1) = m ((c.tc : Thread Cert.LatentsRefIdeal.nD Cert.LatentsRefIdeal.τ).loc Cert.LatentsRefIdeal.main_arg1)
      ∧ r.2.mem ((c.tc : Thread Cert.LatentsRefIdeal.nD Cert.LatentsRefIdeal.τ).loc Cert.LatentsRefIdeal.main_arg2) = m ((c.tc : Thread Cert.LatentsRefIdeal.nD Cert.LatentsRefIdeal.τ).loc Cert.LatentsRefIdeal.main_arg2)
      ∧ r.2.mem ((c.tc : Thread Cert.LatentsRefIdeal.nD Cert.LatentsRefIdeal.τ).loc Cert.LatentsRefIdeal.main_arg3) = m ((c.tc : Thread Cert.LatentsRefIdeal.nD Cert.LatentsRefIdeal.τ).loc Cert.LatentsRefIdeal.main_arg3)
      ∧ r.2.mem ((c.tc : Thread Cert.LatentsRefIdeal.nD Cert.LatentsRefIdeal.τ).loc Cert.LatentsRefIdeal.main_arg4) = m ((c.tc : Thread Cert.LatentsRefIdeal.nD Cert.LatentsRefIdeal.τ).loc Cert.LatentsRefIdeal.main_arg4))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4)
      ∧ r.2.mem ((c.tc : Thread Cert.Up.nD Cert.Up.τ).loc Cert.Up.main_arg5) = m ((c.tc : Thread Cert.Up.nD Cert.Up.τ).loc Cert.Up.main_arg5))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
      ∧ r.2.mem ((c.tc : Thread Cert.UpIdeal.nD Cert.UpIdeal.τ).loc Cert.UpIdeal.main_arg5) = m ((c.tc : Thread Cert.UpIdeal.nD Cert.UpIdeal.τ).loc Cert.UpIdeal.main_arg5))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4)
      ∧ r.2.mem ((c.tc : Thread Cert.UpRefIdeal.nD Cert.UpRefIdeal.τ).loc Cert.UpRefIdeal.main_arg5) = m ((c.tc : Thread Cert.UpRefIdeal.nD Cert.UpRefIdeal.τ).loc Cert.UpRefIdeal.main_arg5))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3)
      ∧ r.2.mem ((c.tc : Thread Cert.Adam.nD Cert.Adam.τ).loc Cert.Adam.main_arg4) = m ((c.tc : Thread Cert.Adam.nD Cert.Adam.τ).loc Cert.Adam.main_arg4))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3)
      ∧ r.2.mem ((c.tc : Thread Cert.AdamIdeal.nD Cert.AdamIdeal.τ).loc Cert.AdamIdeal.main_arg4) = m ((c.tc : Thread Cert.AdamIdeal.nD Cert.AdamIdeal.τ).loc Cert.AdamIdeal.main_arg4))
      ∧ r.2.sem = fun _ => 0)

def quiescent_AdamIdeal_pre_a_core [hAdamIdeal : Cert.AdamIdeal.Facts] [hPre_a_core : Cert.Pre_a_core.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal_a_core m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3)
      ∧ r.2.mem ((c.tc : Thread Cert.AdamIdeal.nD Cert.AdamIdeal.τ).loc Cert.AdamIdeal.main_arg4) = m ((c.tc : Thread Cert.AdamIdeal.nD Cert.AdamIdeal.τ).loc Cert.AdamIdeal.main_arg4))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3)
      ∧ r.2.mem ((c.tc : Thread Cert.AdamRefIdeal.nD Cert.AdamRefIdeal.τ).loc Cert.AdamRefIdeal.main_arg4) = m ((c.tc : Thread Cert.AdamRefIdeal.nD Cert.AdamRefIdeal.τ).loc Cert.AdamRefIdeal.main_arg4))
      ∧ r.2.sem = fun _ => 0)

def quiescent_AdamRefIdeal_pre_a_core [hAdamRefIdeal : Cert.AdamRefIdeal.Facts] [hPre_a_core : Cert.Pre_a_core.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal_a_core m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3)
      ∧ r.2.mem ((c.tc : Thread Cert.AdamRefIdeal.nD Cert.AdamRefIdeal.τ).loc Cert.AdamRefIdeal.main_arg4) = m ((c.tc : Thread Cert.AdamRefIdeal.nD Cert.AdamRefIdeal.τ).loc Cert.AdamRefIdeal.main_arg4))
      ∧ r.2.sem = fun _ => 0)

def quiescent_Sibling [hSibling : Cert.Sibling.Facts] : Prop :=
  ∀ (m : (ℓ : Loc Cert.Sibling.nD Cert.Sibling.τ Cert.Sibling.sig) → Buf (Elt Bits) ℓ) (g : Dev Cert.Sibling.nD → PrngReg), Pre_Sibling m →
    θ_run (Cert.Sibling.defs (F := Bits)) (onTc (τ := Cert.Sibling.τ) (Cert.Sibling.main (F := Bits))) ⟨m, fun _ => 0, g⟩ (fun r => (∀ c : Dev Cert.Sibling.nD,
      r.2.mem ((c.tc : Thread Cert.Sibling.nD Cert.Sibling.τ).loc Cert.Sibling.main_arg0) = m ((c.tc : Thread Cert.Sibling.nD Cert.Sibling.τ).loc Cert.Sibling.main_arg0))
      ∧ r.2.sem = fun _ => 0)

def quiescent_SiblingIdeal [hSiblingIdeal : Cert.SiblingIdeal.Facts] : Prop :=
  ∀ (m : (ℓ : Loc Cert.SiblingIdeal.nD Cert.SiblingIdeal.τ Cert.SiblingIdeal.sig) → Buf (Elt Ideal) ℓ) (g : Dev Cert.SiblingIdeal.nD → PrngReg), Pre_SiblingIdeal m →
    θ_run (Cert.SiblingIdeal.defs (F := Ideal)) (onTc (τ := Cert.SiblingIdeal.τ) (Cert.SiblingIdeal.main (F := Ideal))) ⟨m, fun _ => 0, g⟩ (fun r => (∀ c : Dev Cert.SiblingIdeal.nD,
      r.2.mem ((c.tc : Thread Cert.SiblingIdeal.nD Cert.SiblingIdeal.τ).loc Cert.SiblingIdeal.main_arg0) = m ((c.tc : Thread Cert.SiblingIdeal.nD Cert.SiblingIdeal.τ).loc Cert.SiblingIdeal.main_arg0))
      ∧ r.2.sem = fun _ => 0)

def quiescent_SiblingRefIdeal [hSiblingRefIdeal : Cert.SiblingRefIdeal.Facts] : Prop :=
  ∀ (m : (ℓ : Loc Cert.SiblingRefIdeal.nD Cert.SiblingRefIdeal.τ Cert.SiblingRefIdeal.sig) → Buf (Elt Ideal) ℓ) (g : Dev Cert.SiblingRefIdeal.nD → PrngReg), Pre_SiblingRefIdeal m →
    θ_run (Cert.SiblingRefIdeal.defs (F := Ideal)) (onTc (τ := Cert.SiblingRefIdeal.τ) (Cert.SiblingRefIdeal.main (F := Ideal))) ⟨m, fun _ => 0, g⟩ (fun r => (∀ c : Dev Cert.SiblingRefIdeal.nD,
      r.2.mem ((c.tc : Thread Cert.SiblingRefIdeal.nD Cert.SiblingRefIdeal.τ).loc Cert.SiblingRefIdeal.main_arg0) = m ((c.tc : Thread Cert.SiblingRefIdeal.nD Cert.SiblingRefIdeal.τ).loc Cert.SiblingRefIdeal.main_arg0))
      ∧ r.2.sem = fun _ => 0)

def preserves_Swiglu_SwigluIdeal : Prop :=
  True

def algebraic_SwigluIdeal_SwigluRefIdeal_pre_finite_swiglu [hSwigluIdeal : Cert.SwigluIdeal.Facts] [hSwigluRefIdeal : Cert.SwigluRefIdeal.Facts] [hPre_finite_swiglu : Cert.Pre_finite_swiglu.Facts] : Prop :=
  ∀ (m : (ℓ : Loc Cert.SwigluIdeal.nD Cert.SwigluIdeal.τ Cert.SwigluIdeal.sig) → Buf (Elt Ideal) ℓ) (g : Dev Cert.SwigluIdeal.nD → PrngReg)
    (m' : (ℓ : Loc Cert.SwigluRefIdeal.nD Cert.SwigluRefIdeal.τ Cert.SwigluRefIdeal.sig) → Buf (Elt Ideal) ℓ) (g' : Dev Cert.SwigluRefIdeal.nD → PrngReg), Pre_SwigluIdeal_finite_swiglu m →
    (∀ c : Dev Cert.SwigluIdeal.nD,
      m' ((c.tc : Thread Cert.SwigluRefIdeal.nD Cert.SwigluRefIdeal.τ).loc Cert.SwigluRefIdeal.main_arg0) = m ((c.tc : Thread Cert.SwigluIdeal.nD Cert.SwigluIdeal.τ).loc Cert.SwigluIdeal.main_arg0)
      ∧ m' ((c.tc : Thread Cert.SwigluRefIdeal.nD Cert.SwigluRefIdeal.τ).loc Cert.SwigluRefIdeal.main_arg1) = m ((c.tc : Thread Cert.SwigluIdeal.nD Cert.SwigluIdeal.τ).loc Cert.SwigluIdeal.main_arg1)
      ∧ m' ((c.tc : Thread Cert.SwigluRefIdeal.nD Cert.SwigluRefIdeal.τ).loc Cert.SwigluRefIdeal.main_arg2) = m ((c.tc : Thread Cert.SwigluIdeal.nD Cert.SwigluIdeal.τ).loc Cert.SwigluIdeal.main_arg2)
      ∧ m' ((c.tc : Thread Cert.SwigluRefIdeal.nD Cert.SwigluRefIdeal.τ).loc Cert.SwigluRefIdeal.main_arg3) = m ((c.tc : Thread Cert.SwigluIdeal.nD Cert.SwigluIdeal.τ).loc Cert.SwigluIdeal.main_arg3)) →
    ∃ (v0 : (c : Dev Cert.SwigluIdeal.nD) → Buf (Elt Ideal) ((c.tc : Thread Cert.SwigluIdeal.nD Cert.SwigluIdeal.τ).loc Cert.SwigluIdeal.main_v0_0)) (v1 : (c : Dev Cert.SwigluIdeal.nD) → Buf (Elt Ideal) ((c.tc : Thread Cert.SwigluIdeal.nD Cert.SwigluIdeal.τ).loc Cert.SwigluIdeal.main_v0_1)),
      θ_run (Cert.SwigluIdeal.defs (F := Ideal)) (onTc (τ := Cert.SwigluIdeal.τ) (Cert.SwigluIdeal.main (F := Ideal))) ⟨m, fun _ => 0, g⟩ (fun r => ∀ c : Dev Cert.SwigluIdeal.nD,
          r.2.mem ((c.tc : Thread Cert.SwigluIdeal.nD Cert.SwigluIdeal.τ).loc Cert.SwigluIdeal.main_v0_0) = v0 c
          ∧ r.2.mem ((c.tc : Thread Cert.SwigluIdeal.nD Cert.SwigluIdeal.τ).loc Cert.SwigluIdeal.main_v0_1) = v1 c
          ∧ r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
          ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
          ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2)
          ∧ r.2.mem ((c.tc : Thread Cert.SwigluIdeal.nD Cert.SwigluIdeal.τ).loc Cert.SwigluIdeal.main_arg3) = m ((c.tc : Thread Cert.SwigluIdeal.nD Cert.SwigluIdeal.τ).loc Cert.SwigluIdeal.main_arg3))
      ∧ θ_run (Cert.SwigluRefIdeal.defs (F := Ideal)) (onTc (τ := Cert.SwigluRefIdeal.τ) (Cert.SwigluRefIdeal.main (F := Ideal))) ⟨m', fun _ => 0, g'⟩ (fun r => ∀ c : Dev Cert.SwigluRefIdeal.nD,
          r.2.mem ((c.tc : Thread Cert.SwigluRefIdeal.nD Cert.SwigluRefIdeal.τ).loc Cert.SwigluRefIdeal.main_v11) = v0 c
          ∧ r.2.mem ((c.tc : Thread Cert.SwigluRefIdeal.nD Cert.SwigluRefIdeal.τ).loc Cert.SwigluRefIdeal.main_v12) = v1 c
          ∧ r.2.mem ((c.tc : Thread Cert.SwigluRefIdeal.nD Cert.SwigluRefIdeal.τ).loc Cert.SwigluRefIdeal.main_arg0) = m' ((c.tc : Thread Cert.SwigluRefIdeal.nD Cert.SwigluRefIdeal.τ).loc Cert.SwigluRefIdeal.main_arg0)
          ∧ r.2.mem ((c.tc : Thread Cert.SwigluRefIdeal.nD Cert.SwigluRefIdeal.τ).loc Cert.SwigluRefIdeal.main_arg1) = m' ((c.tc : Thread Cert.SwigluRefIdeal.nD Cert.SwigluRefIdeal.τ).loc Cert.SwigluRefIdeal.main_arg1)
          ∧ r.2.mem ((c.tc : Thread Cert.SwigluRefIdeal.nD Cert.SwigluRefIdeal.τ).loc Cert.SwigluRefIdeal.main_arg2) = m' ((c.tc : Thread Cert.SwigluRefIdeal.nD Cert.SwigluRefIdeal.τ).loc Cert.SwigluRefIdeal.main_arg2)
          ∧ r.2.mem ((c.tc : Thread Cert.SwigluRefIdeal.nD Cert.SwigluRefIdeal.τ).loc Cert.SwigluRefIdeal.main_arg3) = m' ((c.tc : Thread Cert.SwigluRefIdeal.nD Cert.SwigluRefIdeal.τ).loc Cert.SwigluRefIdeal.main_arg3))

def preserves_Attn_AttnIdeal : Prop :=
  True

def algebraic_AttnIdeal_AttnRefIdeal_pre_finite_attn [hAttnIdeal : Cert.AttnIdeal.Facts] [hAttnRefIdeal : Cert.AttnRefIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_attn m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)) →
    ∃ (v0 : (c : Dev Cert.AttnIdeal.nD) → Buf (Elt Ideal) ((c.tc : Thread Cert.AttnIdeal.nD Cert.AttnIdeal.τ).loc Cert.AttnIdeal.main_v108)) (v1 : (c : Dev Cert.AttnIdeal.nD) → Buf (Elt Ideal) ((c.tc : Thread Cert.AttnIdeal.nD Cert.AttnIdeal.τ).loc Cert.AttnIdeal.main_v109)) (v2 : (c : Dev Cert.AttnIdeal.nD) → Buf (Elt Ideal) ((c.tc : Thread Cert.AttnIdeal.nD Cert.AttnIdeal.τ).loc Cert.AttnIdeal.main_v110)) (v3 : (c : Dev Cert.AttnIdeal.nD) → Buf (Elt Ideal) ((c.tc : Thread Cert.AttnIdeal.nD Cert.AttnIdeal.τ).loc Cert.AttnIdeal.main_v112)) (v4 : (c : Dev Cert.AttnIdeal.nD) → Buf (Elt Ideal) ((c.tc : Thread Cert.AttnIdeal.nD Cert.AttnIdeal.τ).loc Cert.AttnIdeal.main_v113)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v108) = v0 c
          ∧ r.2.mem ((c.tc : Thread Cert.AttnIdeal.nD Cert.AttnIdeal.τ).loc Cert.AttnIdeal.main_v109) = v1 c
          ∧ r.2.mem ((c.tc : Thread Cert.AttnIdeal.nD Cert.AttnIdeal.τ).loc Cert.AttnIdeal.main_v110) = v2 c
          ∧ r.2.mem ((c.tc : Thread Cert.AttnIdeal.nD Cert.AttnIdeal.τ).loc Cert.AttnIdeal.main_v112) = v3 c
          ∧ r.2.mem ((c.tc : Thread Cert.AttnIdeal.nD Cert.AttnIdeal.τ).loc Cert.AttnIdeal.main_v113) = v4 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v70) = v0 c
          ∧ r.2.mem ((c.tc : Thread Cert.AttnRefIdeal.nD Cert.AttnRefIdeal.τ).loc Cert.AttnRefIdeal.main_v65) = v1 c
          ∧ r.2.mem ((c.tc : Thread Cert.AttnRefIdeal.nD Cert.AttnRefIdeal.τ).loc Cert.AttnRefIdeal.main_v68) = v2 c
          ∧ r.2.mem ((c.tc : Thread Cert.AttnRefIdeal.nD Cert.AttnRefIdeal.τ).loc Cert.AttnRefIdeal.main_v66) = v3 c
          ∧ r.2.mem ((c.tc : Thread Cert.AttnRefIdeal.nD Cert.AttnRefIdeal.τ).loc Cert.AttnRefIdeal.main_v48) = v4 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5))

def preserves_FfNorm_FfNormIdeal : Prop :=
  True

def algebraic_FfNormIdeal_FfNormRefIdeal_pre_finite_ffnorm [hFfNormIdeal : Cert.FfNormIdeal.Facts] [hFfNormRefIdeal : Cert.FfNormRefIdeal.Facts] [hPre_finite_ffnorm : Cert.Pre_finite_ffnorm.Facts] : Prop :=
  ∀ (m : (ℓ : Loc Cert.FfNormIdeal.nD Cert.FfNormIdeal.τ Cert.FfNormIdeal.sig) → Buf (Elt Ideal) ℓ) (g : Dev Cert.FfNormIdeal.nD → PrngReg)
    (m' : (ℓ : Loc Cert.FfNormRefIdeal.nD Cert.FfNormRefIdeal.τ Cert.FfNormRefIdeal.sig) → Buf (Elt Ideal) ℓ) (g' : Dev Cert.FfNormRefIdeal.nD → PrngReg), Pre_FfNormIdeal_finite_ffnorm m →
    (∀ c : Dev Cert.FfNormIdeal.nD,
      m' ((c.tc : Thread Cert.FfNormRefIdeal.nD Cert.FfNormRefIdeal.τ).loc Cert.FfNormRefIdeal.main_arg0) = m ((c.tc : Thread Cert.FfNormIdeal.nD Cert.FfNormIdeal.τ).loc Cert.FfNormIdeal.main_arg0)
      ∧ m' ((c.tc : Thread Cert.FfNormRefIdeal.nD Cert.FfNormRefIdeal.τ).loc Cert.FfNormRefIdeal.main_arg1) = m ((c.tc : Thread Cert.FfNormIdeal.nD Cert.FfNormIdeal.τ).loc Cert.FfNormIdeal.main_arg1)
      ∧ m' ((c.tc : Thread Cert.FfNormRefIdeal.nD Cert.FfNormRefIdeal.τ).loc Cert.FfNormRefIdeal.main_arg2) = m ((c.tc : Thread Cert.FfNormIdeal.nD Cert.FfNormIdeal.τ).loc Cert.FfNormIdeal.main_arg2)
      ∧ m' ((c.tc : Thread Cert.FfNormRefIdeal.nD Cert.FfNormRefIdeal.τ).loc Cert.FfNormRefIdeal.main_arg3) = m ((c.tc : Thread Cert.FfNormIdeal.nD Cert.FfNormIdeal.τ).loc Cert.FfNormIdeal.main_arg3)
      ∧ m' ((c.tc : Thread Cert.FfNormRefIdeal.nD Cert.FfNormRefIdeal.τ).loc Cert.FfNormRefIdeal.main_arg4) = m ((c.tc : Thread Cert.FfNormIdeal.nD Cert.FfNormIdeal.τ).loc Cert.FfNormIdeal.main_arg4)
      ∧ m' ((c.tc : Thread Cert.FfNormRefIdeal.nD Cert.FfNormRefIdeal.τ).loc Cert.FfNormRefIdeal.main_arg5) = m ((c.tc : Thread Cert.FfNormIdeal.nD Cert.FfNormIdeal.τ).loc Cert.FfNormIdeal.main_arg5)
      ∧ m' ((c.tc : Thread Cert.FfNormRefIdeal.nD Cert.FfNormRefIdeal.τ).loc Cert.FfNormRefIdeal.main_arg6) = m ((c.tc : Thread Cert.FfNormIdeal.nD Cert.FfNormIdeal.τ).loc Cert.FfNormIdeal.main_arg6)) →
    ∃ (v0 : (c : Dev Cert.FfNormIdeal.nD) → Buf (Elt Ideal) ((c.tc : Thread Cert.FfNormIdeal.nD Cert.FfNormIdeal.τ).loc Cert.FfNormIdeal.main_v5_0)) (v1 : (c : Dev Cert.FfNormIdeal.nD) → Buf (Elt Ideal) ((c.tc : Thread Cert.FfNormIdeal.nD Cert.FfNormIdeal.τ).loc Cert.FfNormIdeal.main_v5_1)) (v2 : (c : Dev Cert.FfNormIdeal.nD) → Buf (Elt Ideal) ((c.tc : Thread Cert.FfNormIdeal.nD Cert.FfNormIdeal.τ).loc Cert.FfNormIdeal.main_v5_2)),
      θ_run (Cert.FfNormIdeal.defs (F := Ideal)) (onTc (τ := Cert.FfNormIdeal.τ) (Cert.FfNormIdeal.main (F := Ideal))) ⟨m, fun _ => 0, g⟩ (fun r => ∀ c : Dev Cert.FfNormIdeal.nD,
          r.2.mem ((c.tc : Thread Cert.FfNormIdeal.nD Cert.FfNormIdeal.τ).loc Cert.FfNormIdeal.main_v5_0) = v0 c
          ∧ r.2.mem ((c.tc : Thread Cert.FfNormIdeal.nD Cert.FfNormIdeal.τ).loc Cert.FfNormIdeal.main_v5_1) = v1 c
          ∧ r.2.mem ((c.tc : Thread Cert.FfNormIdeal.nD Cert.FfNormIdeal.τ).loc Cert.FfNormIdeal.main_v5_2) = v2 c
          ∧ r.2.mem ((c.tc : Thread Cert.FfNormIdeal.nD Cert.FfNormIdeal.τ).loc Cert.FfNormIdeal.main_arg0) = m ((c.tc : Thread Cert.FfNormIdeal.nD Cert.FfNormIdeal.τ).loc Cert.FfNormIdeal.main_arg0)
          ∧ r.2.mem ((c.tc : Thread Cert.FfNormIdeal.nD Cert.FfNormIdeal.τ).loc Cert.FfNormIdeal.main_arg1) = m ((c.tc : Thread Cert.FfNormIdeal.nD Cert.FfNormIdeal.τ).loc Cert.FfNormIdeal.main_arg1)
          ∧ r.2.mem ((c.tc : Thread Cert.FfNormIdeal.nD Cert.FfNormIdeal.τ).loc Cert.FfNormIdeal.main_arg2) = m ((c.tc : Thread Cert.FfNormIdeal.nD Cert.FfNormIdeal.τ).loc Cert.FfNormIdeal.main_arg2)
          ∧ r.2.mem ((c.tc : Thread Cert.FfNormIdeal.nD Cert.FfNormIdeal.τ).loc Cert.FfNormIdeal.main_arg3) = m ((c.tc : Thread Cert.FfNormIdeal.nD Cert.FfNormIdeal.τ).loc Cert.FfNormIdeal.main_arg3)
          ∧ r.2.mem ((c.tc : Thread Cert.FfNormIdeal.nD Cert.FfNormIdeal.τ).loc Cert.FfNormIdeal.main_arg4) = m ((c.tc : Thread Cert.FfNormIdeal.nD Cert.FfNormIdeal.τ).loc Cert.FfNormIdeal.main_arg4)
          ∧ r.2.mem ((c.tc : Thread Cert.FfNormIdeal.nD Cert.FfNormIdeal.τ).loc Cert.FfNormIdeal.main_arg5) = m ((c.tc : Thread Cert.FfNormIdeal.nD Cert.FfNormIdeal.τ).loc Cert.FfNormIdeal.main_arg5)
          ∧ r.2.mem ((c.tc : Thread Cert.FfNormIdeal.nD Cert.FfNormIdeal.τ).loc Cert.FfNormIdeal.main_arg6) = m ((c.tc : Thread Cert.FfNormIdeal.nD Cert.FfNormIdeal.τ).loc Cert.FfNormIdeal.main_arg6))
      ∧ θ_run (Cert.FfNormRefIdeal.defs (F := Ideal)) (onTc (τ := Cert.FfNormRefIdeal.τ) (Cert.FfNormRefIdeal.main (F := Ideal))) ⟨m', fun _ => 0, g'⟩ (fun r => ∀ c : Dev Cert.FfNormRefIdeal.nD,
          r.2.mem ((c.tc : Thread Cert.FfNormRefIdeal.nD Cert.FfNormRefIdeal.τ).loc Cert.FfNormRefIdeal.main_v43) = v0 c
          ∧ r.2.mem ((c.tc : Thread Cert.FfNormRefIdeal.nD Cert.FfNormRefIdeal.τ).loc Cert.FfNormRefIdeal.main_v44) = v1 c
          ∧ r.2.mem ((c.tc : Thread Cert.FfNormRefIdeal.nD Cert.FfNormRefIdeal.τ).loc Cert.FfNormRefIdeal.main_v45) = v2 c
          ∧ r.2.mem ((c.tc : Thread Cert.FfNormRefIdeal.nD Cert.FfNormRefIdeal.τ).loc Cert.FfNormRefIdeal.main_arg0) = m' ((c.tc : Thread Cert.FfNormRefIdeal.nD Cert.FfNormRefIdeal.τ).loc Cert.FfNormRefIdeal.main_arg0)
          ∧ r.2.mem ((c.tc : Thread Cert.FfNormRefIdeal.nD Cert.FfNormRefIdeal.τ).loc Cert.FfNormRefIdeal.main_arg1) = m' ((c.tc : Thread Cert.FfNormRefIdeal.nD Cert.FfNormRefIdeal.τ).loc Cert.FfNormRefIdeal.main_arg1)
          ∧ r.2.mem ((c.tc : Thread Cert.FfNormRefIdeal.nD Cert.FfNormRefIdeal.τ).loc Cert.FfNormRefIdeal.main_arg2) = m' ((c.tc : Thread Cert.FfNormRefIdeal.nD Cert.FfNormRefIdeal.τ).loc Cert.FfNormRefIdeal.main_arg2)
          ∧ r.2.mem ((c.tc : Thread Cert.FfNormRefIdeal.nD Cert.FfNormRefIdeal.τ).loc Cert.FfNormRefIdeal.main_arg3) = m' ((c.tc : Thread Cert.FfNormRefIdeal.nD Cert.FfNormRefIdeal.τ).loc Cert.FfNormRefIdeal.main_arg3)
          ∧ r.2.mem ((c.tc : Thread Cert.FfNormRefIdeal.nD Cert.FfNormRefIdeal.τ).loc Cert.FfNormRefIdeal.main_arg4) = m' ((c.tc : Thread Cert.FfNormRefIdeal.nD Cert.FfNormRefIdeal.τ).loc Cert.FfNormRefIdeal.main_arg4)
          ∧ r.2.mem ((c.tc : Thread Cert.FfNormRefIdeal.nD Cert.FfNormRefIdeal.τ).loc Cert.FfNormRefIdeal.main_arg5) = m' ((c.tc : Thread Cert.FfNormRefIdeal.nD Cert.FfNormRefIdeal.τ).loc Cert.FfNormRefIdeal.main_arg5)
          ∧ r.2.mem ((c.tc : Thread Cert.FfNormRefIdeal.nD Cert.FfNormRefIdeal.τ).loc Cert.FfNormRefIdeal.main_arg6) = m' ((c.tc : Thread Cert.FfNormRefIdeal.nD Cert.FfNormRefIdeal.τ).loc Cert.FfNormRefIdeal.main_arg6))

def preserves_QNorm_QNormIdeal : Prop :=
  True

def algebraic_QNormIdeal_QNormRefIdeal_pre_finite_qnorm [hQNormIdeal : Cert.QNormIdeal.Facts] [hQNormRefIdeal : Cert.QNormRefIdeal.Facts] [hPre_finite_qnorm : Cert.Pre_finite_qnorm.Facts] : Prop :=
  ∀ (m : (ℓ : Loc Cert.QNormIdeal.nD Cert.QNormIdeal.τ Cert.QNormIdeal.sig) → Buf (Elt Ideal) ℓ) (g : Dev Cert.QNormIdeal.nD → PrngReg)
    (m' : (ℓ : Loc Cert.QNormRefIdeal.nD Cert.QNormRefIdeal.τ Cert.QNormRefIdeal.sig) → Buf (Elt Ideal) ℓ) (g' : Dev Cert.QNormRefIdeal.nD → PrngReg), Pre_QNormIdeal_finite_qnorm m →
    (∀ c : Dev Cert.QNormIdeal.nD,
      m' ((c.tc : Thread Cert.QNormRefIdeal.nD Cert.QNormRefIdeal.τ).loc Cert.QNormRefIdeal.main_arg0) = m ((c.tc : Thread Cert.QNormIdeal.nD Cert.QNormIdeal.τ).loc Cert.QNormIdeal.main_arg0)
      ∧ m' ((c.tc : Thread Cert.QNormRefIdeal.nD Cert.QNormRefIdeal.τ).loc Cert.QNormRefIdeal.main_arg1) = m ((c.tc : Thread Cert.QNormIdeal.nD Cert.QNormIdeal.τ).loc Cert.QNormIdeal.main_arg1)
      ∧ m' ((c.tc : Thread Cert.QNormRefIdeal.nD Cert.QNormRefIdeal.τ).loc Cert.QNormRefIdeal.main_arg2) = m ((c.tc : Thread Cert.QNormIdeal.nD Cert.QNormIdeal.τ).loc Cert.QNormIdeal.main_arg2)
      ∧ m' ((c.tc : Thread Cert.QNormRefIdeal.nD Cert.QNormRefIdeal.τ).loc Cert.QNormRefIdeal.main_arg3) = m ((c.tc : Thread Cert.QNormIdeal.nD Cert.QNormIdeal.τ).loc Cert.QNormIdeal.main_arg3)) →
    ∃ (v0 : (c : Dev Cert.QNormIdeal.nD) → Buf (Elt Ideal) ((c.tc : Thread Cert.QNormIdeal.nD Cert.QNormIdeal.τ).loc Cert.QNormIdeal.main_v9_0)) (v1 : (c : Dev Cert.QNormIdeal.nD) → Buf (Elt Ideal) ((c.tc : Thread Cert.QNormIdeal.nD Cert.QNormIdeal.τ).loc Cert.QNormIdeal.main_v9_1)),
      θ_run (Cert.QNormIdeal.defs (F := Ideal)) (onTc (τ := Cert.QNormIdeal.τ) (Cert.QNormIdeal.main (F := Ideal))) ⟨m, fun _ => 0, g⟩ (fun r => ∀ c : Dev Cert.QNormIdeal.nD,
          r.2.mem ((c.tc : Thread Cert.QNormIdeal.nD Cert.QNormIdeal.τ).loc Cert.QNormIdeal.main_v9_0) = v0 c
          ∧ r.2.mem ((c.tc : Thread Cert.QNormIdeal.nD Cert.QNormIdeal.τ).loc Cert.QNormIdeal.main_v9_1) = v1 c
          ∧ r.2.mem ((c.tc : Thread Cert.QNormIdeal.nD Cert.QNormIdeal.τ).loc Cert.QNormIdeal.main_arg0) = m ((c.tc : Thread Cert.QNormIdeal.nD Cert.QNormIdeal.τ).loc Cert.QNormIdeal.main_arg0)
          ∧ r.2.mem ((c.tc : Thread Cert.QNormIdeal.nD Cert.QNormIdeal.τ).loc Cert.QNormIdeal.main_arg1) = m ((c.tc : Thread Cert.QNormIdeal.nD Cert.QNormIdeal.τ).loc Cert.QNormIdeal.main_arg1)
          ∧ r.2.mem ((c.tc : Thread Cert.QNormIdeal.nD Cert.QNormIdeal.τ).loc Cert.QNormIdeal.main_arg2) = m ((c.tc : Thread Cert.QNormIdeal.nD Cert.QNormIdeal.τ).loc Cert.QNormIdeal.main_arg2)
          ∧ r.2.mem ((c.tc : Thread Cert.QNormIdeal.nD Cert.QNormIdeal.τ).loc Cert.QNormIdeal.main_arg3) = m ((c.tc : Thread Cert.QNormIdeal.nD Cert.QNormIdeal.τ).loc Cert.QNormIdeal.main_arg3))
      ∧ θ_run (Cert.QNormRefIdeal.defs (F := Ideal)) (onTc (τ := Cert.QNormRefIdeal.τ) (Cert.QNormRefIdeal.main (F := Ideal))) ⟨m', fun _ => 0, g'⟩ (fun r => ∀ c : Dev Cert.QNormRefIdeal.nD,
          r.2.mem ((c.tc : Thread Cert.QNormRefIdeal.nD Cert.QNormRefIdeal.τ).loc Cert.QNormRefIdeal.main_v41) = v0 c
          ∧ r.2.mem ((c.tc : Thread Cert.QNormRefIdeal.nD Cert.QNormRefIdeal.τ).loc Cert.QNormRefIdeal.main_v42) = v1 c
          ∧ r.2.mem ((c.tc : Thread Cert.QNormRefIdeal.nD Cert.QNormRefIdeal.τ).loc Cert.QNormRefIdeal.main_arg0) = m' ((c.tc : Thread Cert.QNormRefIdeal.nD Cert.QNormRefIdeal.τ).loc Cert.QNormRefIdeal.main_arg0)
          ∧ r.2.mem ((c.tc : Thread Cert.QNormRefIdeal.nD Cert.QNormRefIdeal.τ).loc Cert.QNormRefIdeal.main_arg1) = m' ((c.tc : Thread Cert.QNormRefIdeal.nD Cert.QNormRefIdeal.τ).loc Cert.QNormRefIdeal.main_arg1)
          ∧ r.2.mem ((c.tc : Thread Cert.QNormRefIdeal.nD Cert.QNormRefIdeal.τ).loc Cert.QNormRefIdeal.main_arg2) = m' ((c.tc : Thread Cert.QNormRefIdeal.nD Cert.QNormRefIdeal.τ).loc Cert.QNormRefIdeal.main_arg2)
          ∧ r.2.mem ((c.tc : Thread Cert.QNormRefIdeal.nD Cert.QNormRefIdeal.τ).loc Cert.QNormRefIdeal.main_arg3) = m' ((c.tc : Thread Cert.QNormRefIdeal.nD Cert.QNormRefIdeal.τ).loc Cert.QNormRefIdeal.main_arg3))

def preserves_KvNorm_KvNormIdeal : Prop :=
  True

def algebraic_KvNormIdeal_KvNormRefIdeal_pre_finite_kvnorm [hKvNormIdeal : Cert.KvNormIdeal.Facts] [hKvNormRefIdeal : Cert.KvNormRefIdeal.Facts] [hPre_finite_kvnorm : Cert.Pre_finite_kvnorm.Facts] : Prop :=
  ∀ (m : (ℓ : Loc Cert.KvNormIdeal.nD Cert.KvNormIdeal.τ Cert.KvNormIdeal.sig) → Buf (Elt Ideal) ℓ) (g : Dev Cert.KvNormIdeal.nD → PrngReg)
    (m' : (ℓ : Loc Cert.KvNormRefIdeal.nD Cert.KvNormRefIdeal.τ Cert.KvNormRefIdeal.sig) → Buf (Elt Ideal) ℓ) (g' : Dev Cert.KvNormRefIdeal.nD → PrngReg), Pre_KvNormIdeal_finite_kvnorm m →
    (∀ c : Dev Cert.KvNormIdeal.nD,
      m' ((c.tc : Thread Cert.KvNormRefIdeal.nD Cert.KvNormRefIdeal.τ).loc Cert.KvNormRefIdeal.main_arg0) = m ((c.tc : Thread Cert.KvNormIdeal.nD Cert.KvNormIdeal.τ).loc Cert.KvNormIdeal.main_arg0)
      ∧ m' ((c.tc : Thread Cert.KvNormRefIdeal.nD Cert.KvNormRefIdeal.τ).loc Cert.KvNormRefIdeal.main_arg1) = m ((c.tc : Thread Cert.KvNormIdeal.nD Cert.KvNormIdeal.τ).loc Cert.KvNormIdeal.main_arg1)
      ∧ m' ((c.tc : Thread Cert.KvNormRefIdeal.nD Cert.KvNormRefIdeal.τ).loc Cert.KvNormRefIdeal.main_arg2) = m ((c.tc : Thread Cert.KvNormIdeal.nD Cert.KvNormIdeal.τ).loc Cert.KvNormIdeal.main_arg2)
      ∧ m' ((c.tc : Thread Cert.KvNormRefIdeal.nD Cert.KvNormRefIdeal.τ).loc Cert.KvNormRefIdeal.main_arg3) = m ((c.tc : Thread Cert.KvNormIdeal.nD Cert.KvNormIdeal.τ).loc Cert.KvNormIdeal.main_arg3)
      ∧ m' ((c.tc : Thread Cert.KvNormRefIdeal.nD Cert.KvNormRefIdeal.τ).loc Cert.KvNormRefIdeal.main_arg4) = m ((c.tc : Thread Cert.KvNormIdeal.nD Cert.KvNormIdeal.τ).loc Cert.KvNormIdeal.main_arg4)) →
    ∃ (v0 : (c : Dev Cert.KvNormIdeal.nD) → Buf (Elt Ideal) ((c.tc : Thread Cert.KvNormIdeal.nD Cert.KvNormIdeal.τ).loc Cert.KvNormIdeal.main_v17_0)) (v1 : (c : Dev Cert.KvNormIdeal.nD) → Buf (Elt Ideal) ((c.tc : Thread Cert.KvNormIdeal.nD Cert.KvNormIdeal.τ).loc Cert.KvNormIdeal.main_v17_1)),
      θ_run (Cert.KvNormIdeal.defs (F := Ideal)) (onTc (τ := Cert.KvNormIdeal.τ) (Cert.KvNormIdeal.main (F := Ideal))) ⟨m, fun _ => 0, g⟩ (fun r => ∀ c : Dev Cert.KvNormIdeal.nD,
          r.2.mem ((c.tc : Thread Cert.KvNormIdeal.nD Cert.KvNormIdeal.τ).loc Cert.KvNormIdeal.main_v17_0) = v0 c
          ∧ r.2.mem ((c.tc : Thread Cert.KvNormIdeal.nD Cert.KvNormIdeal.τ).loc Cert.KvNormIdeal.main_v17_1) = v1 c
          ∧ r.2.mem ((c.tc : Thread Cert.KvNormIdeal.nD Cert.KvNormIdeal.τ).loc Cert.KvNormIdeal.main_arg0) = m ((c.tc : Thread Cert.KvNormIdeal.nD Cert.KvNormIdeal.τ).loc Cert.KvNormIdeal.main_arg0)
          ∧ r.2.mem ((c.tc : Thread Cert.KvNormIdeal.nD Cert.KvNormIdeal.τ).loc Cert.KvNormIdeal.main_arg1) = m ((c.tc : Thread Cert.KvNormIdeal.nD Cert.KvNormIdeal.τ).loc Cert.KvNormIdeal.main_arg1)
          ∧ r.2.mem ((c.tc : Thread Cert.KvNormIdeal.nD Cert.KvNormIdeal.τ).loc Cert.KvNormIdeal.main_arg2) = m ((c.tc : Thread Cert.KvNormIdeal.nD Cert.KvNormIdeal.τ).loc Cert.KvNormIdeal.main_arg2)
          ∧ r.2.mem ((c.tc : Thread Cert.KvNormIdeal.nD Cert.KvNormIdeal.τ).loc Cert.KvNormIdeal.main_arg3) = m ((c.tc : Thread Cert.KvNormIdeal.nD Cert.KvNormIdeal.τ).loc Cert.KvNormIdeal.main_arg3)
          ∧ r.2.mem ((c.tc : Thread Cert.KvNormIdeal.nD Cert.KvNormIdeal.τ).loc Cert.KvNormIdeal.main_arg4) = m ((c.tc : Thread Cert.KvNormIdeal.nD Cert.KvNormIdeal.τ).loc Cert.KvNormIdeal.main_arg4))
      ∧ θ_run (Cert.KvNormRefIdeal.defs (F := Ideal)) (onTc (τ := Cert.KvNormRefIdeal.τ) (Cert.KvNormRefIdeal.main (F := Ideal))) ⟨m', fun _ => 0, g'⟩ (fun r => ∀ c : Dev Cert.KvNormRefIdeal.nD,
          r.2.mem ((c.tc : Thread Cert.KvNormRefIdeal.nD Cert.KvNormRefIdeal.τ).loc Cert.KvNormRefIdeal.main_v46) = v0 c
          ∧ r.2.mem ((c.tc : Thread Cert.KvNormRefIdeal.nD Cert.KvNormRefIdeal.τ).loc Cert.KvNormRefIdeal.main_v47) = v1 c
          ∧ r.2.mem ((c.tc : Thread Cert.KvNormRefIdeal.nD Cert.KvNormRefIdeal.τ).loc Cert.KvNormRefIdeal.main_arg0) = m' ((c.tc : Thread Cert.KvNormRefIdeal.nD Cert.KvNormRefIdeal.τ).loc Cert.KvNormRefIdeal.main_arg0)
          ∧ r.2.mem ((c.tc : Thread Cert.KvNormRefIdeal.nD Cert.KvNormRefIdeal.τ).loc Cert.KvNormRefIdeal.main_arg1) = m' ((c.tc : Thread Cert.KvNormRefIdeal.nD Cert.KvNormRefIdeal.τ).loc Cert.KvNormRefIdeal.main_arg1)
          ∧ r.2.mem ((c.tc : Thread Cert.KvNormRefIdeal.nD Cert.KvNormRefIdeal.τ).loc Cert.KvNormRefIdeal.main_arg2) = m' ((c.tc : Thread Cert.KvNormRefIdeal.nD Cert.KvNormRefIdeal.τ).loc Cert.KvNormRefIdeal.main_arg2)
          ∧ r.2.mem ((c.tc : Thread Cert.KvNormRefIdeal.nD Cert.KvNormRefIdeal.τ).loc Cert.KvNormRefIdeal.main_arg3) = m' ((c.tc : Thread Cert.KvNormRefIdeal.nD Cert.KvNormRefIdeal.τ).loc Cert.KvNormRefIdeal.main_arg3)
          ∧ r.2.mem ((c.tc : Thread Cert.KvNormRefIdeal.nD Cert.KvNormRefIdeal.τ).loc Cert.KvNormRefIdeal.main_arg4) = m' ((c.tc : Thread Cert.KvNormRefIdeal.nD Cert.KvNormRefIdeal.τ).loc Cert.KvNormRefIdeal.main_arg4))

def preserves_InNorm_InNormIdeal : Prop :=
  True

def algebraic_InNormIdeal_InNormRefIdeal_pre_finite_innorm [hInNormIdeal : Cert.InNormIdeal.Facts] [hInNormRefIdeal : Cert.InNormRefIdeal.Facts] [hPre_finite_innorm : Cert.Pre_finite_innorm.Facts] : Prop :=
  ∀ (m : (ℓ : Loc Cert.InNormIdeal.nD Cert.InNormIdeal.τ Cert.InNormIdeal.sig) → Buf (Elt Ideal) ℓ) (g : Dev Cert.InNormIdeal.nD → PrngReg)
    (m' : (ℓ : Loc Cert.InNormRefIdeal.nD Cert.InNormRefIdeal.τ Cert.InNormRefIdeal.sig) → Buf (Elt Ideal) ℓ) (g' : Dev Cert.InNormRefIdeal.nD → PrngReg), Pre_InNormIdeal_finite_innorm m →
    (∀ c : Dev Cert.InNormIdeal.nD,
      m' ((c.tc : Thread Cert.InNormRefIdeal.nD Cert.InNormRefIdeal.τ).loc Cert.InNormRefIdeal.main_arg0) = m ((c.tc : Thread Cert.InNormIdeal.nD Cert.InNormIdeal.τ).loc Cert.InNormIdeal.main_arg0)
      ∧ m' ((c.tc : Thread Cert.InNormRefIdeal.nD Cert.InNormRefIdeal.τ).loc Cert.InNormRefIdeal.main_arg1) = m ((c.tc : Thread Cert.InNormIdeal.nD Cert.InNormIdeal.τ).loc Cert.InNormIdeal.main_arg1)
      ∧ m' ((c.tc : Thread Cert.InNormRefIdeal.nD Cert.InNormRefIdeal.τ).loc Cert.InNormRefIdeal.main_arg2) = m ((c.tc : Thread Cert.InNormIdeal.nD Cert.InNormIdeal.τ).loc Cert.InNormIdeal.main_arg2)
      ∧ m' ((c.tc : Thread Cert.InNormRefIdeal.nD Cert.InNormRefIdeal.τ).loc Cert.InNormRefIdeal.main_arg3) = m ((c.tc : Thread Cert.InNormIdeal.nD Cert.InNormIdeal.τ).loc Cert.InNormIdeal.main_arg3)
      ∧ m' ((c.tc : Thread Cert.InNormRefIdeal.nD Cert.InNormRefIdeal.τ).loc Cert.InNormRefIdeal.main_arg4) = m ((c.tc : Thread Cert.InNormIdeal.nD Cert.InNormIdeal.τ).loc Cert.InNormIdeal.main_arg4)
      ∧ m' ((c.tc : Thread Cert.InNormRefIdeal.nD Cert.InNormRefIdeal.τ).loc Cert.InNormRefIdeal.main_arg5) = m ((c.tc : Thread Cert.InNormIdeal.nD Cert.InNormIdeal.τ).loc Cert.InNormIdeal.main_arg5)
      ∧ m' ((c.tc : Thread Cert.InNormRefIdeal.nD Cert.InNormRefIdeal.τ).loc Cert.InNormRefIdeal.main_arg6) = m ((c.tc : Thread Cert.InNormIdeal.nD Cert.InNormIdeal.τ).loc Cert.InNormIdeal.main_arg6)
      ∧ m' ((c.tc : Thread Cert.InNormRefIdeal.nD Cert.InNormRefIdeal.τ).loc Cert.InNormRefIdeal.main_arg7) = m ((c.tc : Thread Cert.InNormIdeal.nD Cert.InNormIdeal.τ).loc Cert.InNormIdeal.main_arg7)) →
    ∃ (v0 : (c : Dev Cert.InNormIdeal.nD) → Buf (Elt Ideal) ((c.tc : Thread Cert.InNormIdeal.nD Cert.InNormIdeal.τ).loc Cert.InNormIdeal.main_v13_0)) (v1 : (c : Dev Cert.InNormIdeal.nD) → Buf (Elt Ideal) ((c.tc : Thread Cert.InNormIdeal.nD Cert.InNormIdeal.τ).loc Cert.InNormIdeal.main_v13_1)),
      θ_run (Cert.InNormIdeal.defs (F := Ideal)) (onTc (τ := Cert.InNormIdeal.τ) (Cert.InNormIdeal.main (F := Ideal))) ⟨m, fun _ => 0, g⟩ (fun r => ∀ c : Dev Cert.InNormIdeal.nD,
          r.2.mem ((c.tc : Thread Cert.InNormIdeal.nD Cert.InNormIdeal.τ).loc Cert.InNormIdeal.main_v13_0) = v0 c
          ∧ r.2.mem ((c.tc : Thread Cert.InNormIdeal.nD Cert.InNormIdeal.τ).loc Cert.InNormIdeal.main_v13_1) = v1 c
          ∧ r.2.mem ((c.tc : Thread Cert.InNormIdeal.nD Cert.InNormIdeal.τ).loc Cert.InNormIdeal.main_arg0) = m ((c.tc : Thread Cert.InNormIdeal.nD Cert.InNormIdeal.τ).loc Cert.InNormIdeal.main_arg0)
          ∧ r.2.mem ((c.tc : Thread Cert.InNormIdeal.nD Cert.InNormIdeal.τ).loc Cert.InNormIdeal.main_arg1) = m ((c.tc : Thread Cert.InNormIdeal.nD Cert.InNormIdeal.τ).loc Cert.InNormIdeal.main_arg1)
          ∧ r.2.mem ((c.tc : Thread Cert.InNormIdeal.nD Cert.InNormIdeal.τ).loc Cert.InNormIdeal.main_arg2) = m ((c.tc : Thread Cert.InNormIdeal.nD Cert.InNormIdeal.τ).loc Cert.InNormIdeal.main_arg2)
          ∧ r.2.mem ((c.tc : Thread Cert.InNormIdeal.nD Cert.InNormIdeal.τ).loc Cert.InNormIdeal.main_arg3) = m ((c.tc : Thread Cert.InNormIdeal.nD Cert.InNormIdeal.τ).loc Cert.InNormIdeal.main_arg3)
          ∧ r.2.mem ((c.tc : Thread Cert.InNormIdeal.nD Cert.InNormIdeal.τ).loc Cert.InNormIdeal.main_arg4) = m ((c.tc : Thread Cert.InNormIdeal.nD Cert.InNormIdeal.τ).loc Cert.InNormIdeal.main_arg4)
          ∧ r.2.mem ((c.tc : Thread Cert.InNormIdeal.nD Cert.InNormIdeal.τ).loc Cert.InNormIdeal.main_arg5) = m ((c.tc : Thread Cert.InNormIdeal.nD Cert.InNormIdeal.τ).loc Cert.InNormIdeal.main_arg5)
          ∧ r.2.mem ((c.tc : Thread Cert.InNormIdeal.nD Cert.InNormIdeal.τ).loc Cert.InNormIdeal.main_arg6) = m ((c.tc : Thread Cert.InNormIdeal.nD Cert.InNormIdeal.τ).loc Cert.InNormIdeal.main_arg6)
          ∧ r.2.mem ((c.tc : Thread Cert.InNormIdeal.nD Cert.InNormIdeal.τ).loc Cert.InNormIdeal.main_arg7) = m ((c.tc : Thread Cert.InNormIdeal.nD Cert.InNormIdeal.τ).loc Cert.InNormIdeal.main_arg7))
      ∧ θ_run (Cert.InNormRefIdeal.defs (F := Ideal)) (onTc (τ := Cert.InNormRefIdeal.τ) (Cert.InNormRefIdeal.main (F := Ideal))) ⟨m', fun _ => 0, g'⟩ (fun r => ∀ c : Dev Cert.InNormRefIdeal.nD,
          r.2.mem ((c.tc : Thread Cert.InNormRefIdeal.nD Cert.InNormRefIdeal.τ).loc Cert.InNormRefIdeal.main_v45) = v0 c
          ∧ r.2.mem ((c.tc : Thread Cert.InNormRefIdeal.nD Cert.InNormRefIdeal.τ).loc Cert.InNormRefIdeal.main_v46) = v1 c
          ∧ r.2.mem ((c.tc : Thread Cert.InNormRefIdeal.nD Cert.InNormRefIdeal.τ).loc Cert.InNormRefIdeal.main_arg0) = m' ((c.tc : Thread Cert.InNormRefIdeal.nD Cert.InNormRefIdeal.τ).loc Cert.InNormRefIdeal.main_arg0)
          ∧ r.2.mem ((c.tc : Thread Cert.InNormRefIdeal.nD Cert.InNormRefIdeal.τ).loc Cert.InNormRefIdeal.main_arg1) = m' ((c.tc : Thread Cert.InNormRefIdeal.nD Cert.InNormRefIdeal.τ).loc Cert.InNormRefIdeal.main_arg1)
          ∧ r.2.mem ((c.tc : Thread Cert.InNormRefIdeal.nD Cert.InNormRefIdeal.τ).loc Cert.InNormRefIdeal.main_arg2) = m' ((c.tc : Thread Cert.InNormRefIdeal.nD Cert.InNormRefIdeal.τ).loc Cert.InNormRefIdeal.main_arg2)
          ∧ r.2.mem ((c.tc : Thread Cert.InNormRefIdeal.nD Cert.InNormRefIdeal.τ).loc Cert.InNormRefIdeal.main_arg3) = m' ((c.tc : Thread Cert.InNormRefIdeal.nD Cert.InNormRefIdeal.τ).loc Cert.InNormRefIdeal.main_arg3)
          ∧ r.2.mem ((c.tc : Thread Cert.InNormRefIdeal.nD Cert.InNormRefIdeal.τ).loc Cert.InNormRefIdeal.main_arg4) = m' ((c.tc : Thread Cert.InNormRefIdeal.nD Cert.InNormRefIdeal.τ).loc Cert.InNormRefIdeal.main_arg4)
          ∧ r.2.mem ((c.tc : Thread Cert.InNormRefIdeal.nD Cert.InNormRefIdeal.τ).loc Cert.InNormRefIdeal.main_arg5) = m' ((c.tc : Thread Cert.InNormRefIdeal.nD Cert.InNormRefIdeal.τ).loc Cert.InNormRefIdeal.main_arg5)
          ∧ r.2.mem ((c.tc : Thread Cert.InNormRefIdeal.nD Cert.InNormRefIdeal.τ).loc Cert.InNormRefIdeal.main_arg6) = m' ((c.tc : Thread Cert.InNormRefIdeal.nD Cert.InNormRefIdeal.τ).loc Cert.InNormRefIdeal.main_arg6)
          ∧ r.2.mem ((c.tc : Thread Cert.InNormRefIdeal.nD Cert.InNormRefIdeal.τ).loc Cert.InNormRefIdeal.main_arg7) = m' ((c.tc : Thread Cert.InNormRefIdeal.nD Cert.InNormRefIdeal.τ).loc Cert.InNormRefIdeal.main_arg7))

def preserves_Loss_LossIdeal : Prop :=
  True

def algebraic_LossIdeal_LossRefIdeal_pre_finite_loss [hLossIdeal : Cert.LossIdeal.Facts] [hLossRefIdeal : Cert.LossRefIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_finite_loss m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)) →
    ∃ (v0 : (c : Dev Cert.LossIdeal.nD) → Buf (Elt Ideal) ((c.tc : Thread Cert.LossIdeal.nD Cert.LossIdeal.τ).loc Cert.LossIdeal.main_v2_0)) (v1 : (c : Dev Cert.LossIdeal.nD) → Buf (Elt Ideal) ((c.tc : Thread Cert.LossIdeal.nD Cert.LossIdeal.τ).loc Cert.LossIdeal.main_v2_1)) (v2 : (c : Dev Cert.LossIdeal.nD) → Buf (Elt Ideal) ((c.tc : Thread Cert.LossIdeal.nD Cert.LossIdeal.τ).loc Cert.LossIdeal.main_v2_2)) (v3 : (c : Dev Cert.LossIdeal.nD) → Buf (Elt Ideal) ((c.tc : Thread Cert.LossIdeal.nD Cert.LossIdeal.τ).loc Cert.LossIdeal.main_v2_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v2_0) = v0 c
          ∧ r.2.mem ((c.tc : Thread Cert.LossIdeal.nD Cert.LossIdeal.τ).loc Cert.LossIdeal.main_v2_1) = v1 c
          ∧ r.2.mem ((c.tc : Thread Cert.LossIdeal.nD Cert.LossIdeal.τ).loc Cert.LossIdeal.main_v2_2) = v2 c
          ∧ r.2.mem ((c.tc : Thread Cert.LossIdeal.nD Cert.LossIdeal.τ).loc Cert.LossIdeal.main_v2_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v53) = v0 c
          ∧ r.2.mem ((c.tc : Thread Cert.LossRefIdeal.nD Cert.LossRefIdeal.τ).loc Cert.LossRefIdeal.main_v54) = v1 c
          ∧ r.2.mem ((c.tc : Thread Cert.LossRefIdeal.nD Cert.LossRefIdeal.τ).loc Cert.LossRefIdeal.main_v55) = v2 c
          ∧ r.2.mem ((c.tc : Thread Cert.LossRefIdeal.nD Cert.LossRefIdeal.τ).loc Cert.LossRefIdeal.main_v56) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4))

def preserves_OutProj_OutProjIdeal : Prop :=
  True

def algebraic_OutProjIdeal_OutProjRefIdeal_pre_finite_outproj [hOutProjIdeal : Cert.OutProjIdeal.Facts] [hOutProjRefIdeal : Cert.OutProjRefIdeal.Facts] [hPre_finite_outproj : Cert.Pre_finite_outproj.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal_finite_outproj m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v10_0)) (v1 : (c : Dev Cert.OutProjIdeal.nD) → Buf (Elt Ideal) ((c.tc : Thread Cert.OutProjIdeal.nD Cert.OutProjIdeal.τ).loc Cert.OutProjIdeal.main_v14)) (v2 : (c : Dev Cert.OutProjIdeal.nD) → Buf (Elt Ideal) ((c.tc : Thread Cert.OutProjIdeal.nD Cert.OutProjIdeal.τ).loc Cert.OutProjIdeal.main_v20)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v10_0) = v0 c
          ∧ r.2.mem ((c.tc : Thread Cert.OutProjIdeal.nD Cert.OutProjIdeal.τ).loc Cert.OutProjIdeal.main_v14) = v1 c
          ∧ r.2.mem ((c.tc : Thread Cert.OutProjIdeal.nD Cert.OutProjIdeal.τ).loc Cert.OutProjIdeal.main_v20) = v2 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v7) = v0 c
          ∧ r.2.mem ((c.tc : Thread Cert.OutProjRefIdeal.nD Cert.OutProjRefIdeal.τ).loc Cert.OutProjRefIdeal.main_v6) = v1 c
          ∧ r.2.mem ((c.tc : Thread Cert.OutProjRefIdeal.nD Cert.OutProjRefIdeal.τ).loc Cert.OutProjRefIdeal.main_v10) = v2 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_Rope_RopeIdeal : Prop :=
  IdealRules.named_const.Statement Cert.RopeIdeal.κ "rate" .f32 0xBF135D8E#32 ((-((Real.log 10000) * 16⁻¹) : ℝ) : EReal)

def algebraic_RopeIdeal_RopeRefIdeal [hRopeIdeal : Cert.RopeIdeal.Facts] [hRopeRefIdeal : Cert.RopeRefIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeRefIdeal.nD Cert.RopeRefIdeal.τ Cert.RopeRefIdeal.sig) → Buf (Elt Ideal) ℓ) (g' : Dev Cert.RopeRefIdeal.nD → PrngReg), Pre_RopeIdeal m →
    (∀ c : Dev Cert.RopeIdeal.nD,
      m' ((c.tc : Thread Cert.RopeRefIdeal.nD Cert.RopeRefIdeal.τ).loc Cert.RopeRefIdeal.main_arg0) = m ((c.tc : Thread Cert.RopeIdeal.nD Cert.RopeIdeal.τ).loc Cert.RopeIdeal.main_arg0)
      ∧ m' ((c.tc : Thread Cert.RopeRefIdeal.nD Cert.RopeRefIdeal.τ).loc Cert.RopeRefIdeal.main_arg1) = m ((c.tc : Thread Cert.RopeIdeal.nD Cert.RopeIdeal.τ).loc Cert.RopeIdeal.main_arg1)
      ∧ m' ((c.tc : Thread Cert.RopeRefIdeal.nD Cert.RopeRefIdeal.τ).loc Cert.RopeRefIdeal.main_arg2) = m ((c.tc : Thread Cert.RopeIdeal.nD Cert.RopeIdeal.τ).loc Cert.RopeIdeal.main_arg2)
      ∧ m' ((c.tc : Thread Cert.RopeRefIdeal.nD Cert.RopeRefIdeal.τ).loc Cert.RopeRefIdeal.main_arg3) = m ((c.tc : Thread Cert.RopeIdeal.nD Cert.RopeIdeal.τ).loc Cert.RopeIdeal.main_arg3)
      ∧ m' ((c.tc : Thread Cert.RopeRefIdeal.nD Cert.RopeRefIdeal.τ).loc Cert.RopeRefIdeal.main_arg4) = m ((c.tc : Thread Cert.RopeIdeal.nD Cert.RopeIdeal.τ).loc Cert.RopeIdeal.main_arg4)) →
    ∃ (v0 : (c : Dev Cert.RopeIdeal.nD) → Buf (Elt Ideal) ((c.tc : Thread Cert.RopeIdeal.nD Cert.RopeIdeal.τ).loc Cert.RopeIdeal.main_v13)) (v1 : (c : Dev Cert.RopeIdeal.nD) → Buf (Elt Ideal) ((c.tc : Thread Cert.RopeIdeal.nD Cert.RopeIdeal.τ).loc Cert.RopeIdeal.main_v14)) (v2 : (c : Dev Cert.RopeIdeal.nD) → Buf (Elt Ideal) ((c.tc : Thread Cert.RopeIdeal.nD Cert.RopeIdeal.τ).loc Cert.RopeIdeal.main_v15)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v13) = v0 c
          ∧ r.2.mem ((c.tc : Thread Cert.RopeIdeal.nD Cert.RopeIdeal.τ).loc Cert.RopeIdeal.main_v14) = v1 c
          ∧ r.2.mem ((c.tc : Thread Cert.RopeIdeal.nD Cert.RopeIdeal.τ).loc Cert.RopeIdeal.main_v15) = v2 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
          ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1)
          ∧ r.2.mem ((c.tc : Thread Cert.RopeIdeal.nD Cert.RopeIdeal.τ).loc Cert.RopeIdeal.main_arg2) = m ((c.tc : Thread Cert.RopeIdeal.nD Cert.RopeIdeal.τ).loc Cert.RopeIdeal.main_arg2)
          ∧ r.2.mem ((c.tc : Thread Cert.RopeIdeal.nD Cert.RopeIdeal.τ).loc Cert.RopeIdeal.main_arg3) = m ((c.tc : Thread Cert.RopeIdeal.nD Cert.RopeIdeal.τ).loc Cert.RopeIdeal.main_arg3)
          ∧ r.2.mem ((c.tc : Thread Cert.RopeIdeal.nD Cert.RopeIdeal.τ).loc Cert.RopeIdeal.main_arg4) = m ((c.tc : Thread Cert.RopeIdeal.nD Cert.RopeIdeal.τ).loc Cert.RopeIdeal.main_arg4))
      ∧ θ_run (Cert.RopeRefIdeal.defs (F := Ideal)) (onTc (τ := Cert.RopeRefIdeal.τ) (Cert.RopeRefIdeal.main (F := Ideal))) ⟨m', fun _ => 0, g'⟩ (fun r => ∀ c : Dev Cert.RopeRefIdeal.nD,
          r.2.mem ((c.tc : Thread Cert.RopeRefIdeal.nD Cert.RopeRefIdeal.τ).loc Cert.RopeRefIdeal.main_v85) = v0 c
          ∧ r.2.mem ((c.tc : Thread Cert.RopeRefIdeal.nD Cert.RopeRefIdeal.τ).loc Cert.RopeRefIdeal.main_v99) = v1 c
          ∧ r.2.mem ((c.tc : Thread Cert.RopeRefIdeal.nD Cert.RopeRefIdeal.τ).loc Cert.RopeRefIdeal.main_v100) = v2 c
          ∧ r.2.mem ((c.tc : Thread Cert.RopeRefIdeal.nD Cert.RopeRefIdeal.τ).loc Cert.RopeRefIdeal.main_arg0) = m' ((c.tc : Thread Cert.RopeRefIdeal.nD Cert.RopeRefIdeal.τ).loc Cert.RopeRefIdeal.main_arg0)
          ∧ r.2.mem ((c.tc : Thread Cert.RopeRefIdeal.nD Cert.RopeRefIdeal.τ).loc Cert.RopeRefIdeal.main_arg1) = m' ((c.tc : Thread Cert.RopeRefIdeal.nD Cert.RopeRefIdeal.τ).loc Cert.RopeRefIdeal.main_arg1)
          ∧ r.2.mem ((c.tc : Thread Cert.RopeRefIdeal.nD Cert.RopeRefIdeal.τ).loc Cert.RopeRefIdeal.main_arg2) = m' ((c.tc : Thread Cert.RopeRefIdeal.nD Cert.RopeRefIdeal.τ).loc Cert.RopeRefIdeal.main_arg2)
          ∧ r.2.mem ((c.tc : Thread Cert.RopeRefIdeal.nD Cert.RopeRefIdeal.τ).loc Cert.RopeRefIdeal.main_arg3) = m' ((c.tc : Thread Cert.RopeRefIdeal.nD Cert.RopeRefIdeal.τ).loc Cert.RopeRefIdeal.main_arg3)
          ∧ r.2.mem ((c.tc : Thread Cert.RopeRefIdeal.nD Cert.RopeRefIdeal.τ).loc Cert.RopeRefIdeal.main_arg4) = m' ((c.tc : Thread Cert.RopeRefIdeal.nD Cert.RopeRefIdeal.τ).loc Cert.RopeRefIdeal.main_arg4))

def preserves_Flash_FlashIdeal : Prop :=
  True

def algebraic_FlashIdeal_FlashRefIdeal_pre_finite_attn_fwd [hFlashIdeal : Cert.FlashIdeal.Facts] [hFlashRefIdeal : Cert.FlashRefIdeal.Facts] [hPre_finite_attn_fwd : Cert.Pre_finite_attn_fwd.Facts] : Prop :=
  ∀ (m : (ℓ : Loc Cert.FlashIdeal.nD Cert.FlashIdeal.τ Cert.FlashIdeal.sig) → Buf (Elt Ideal) ℓ) (g : Dev Cert.FlashIdeal.nD → PrngReg)
    (m' : (ℓ : Loc Cert.FlashRefIdeal.nD Cert.FlashRefIdeal.τ Cert.FlashRefIdeal.sig) → Buf (Elt Ideal) ℓ) (g' : Dev Cert.FlashRefIdeal.nD → PrngReg), Pre_FlashIdeal_finite_attn_fwd m →
    (∀ c : Dev Cert.FlashIdeal.nD,
      m' ((c.tc : Thread Cert.FlashRefIdeal.nD Cert.FlashRefIdeal.τ).loc Cert.FlashRefIdeal.main_arg0) = m ((c.tc : Thread Cert.FlashIdeal.nD Cert.FlashIdeal.τ).loc Cert.FlashIdeal.main_arg0)
      ∧ m' ((c.tc : Thread Cert.FlashRefIdeal.nD Cert.FlashRefIdeal.τ).loc Cert.FlashRefIdeal.main_arg1) = m ((c.tc : Thread Cert.FlashIdeal.nD Cert.FlashIdeal.τ).loc Cert.FlashIdeal.main_arg1)
      ∧ m' ((c.tc : Thread Cert.FlashRefIdeal.nD Cert.FlashRefIdeal.τ).loc Cert.FlashRefIdeal.main_arg2) = m ((c.tc : Thread Cert.FlashIdeal.nD Cert.FlashIdeal.τ).loc Cert.FlashIdeal.main_arg2)
      ∧ m' ((c.tc : Thread Cert.FlashRefIdeal.nD Cert.FlashRefIdeal.τ).loc Cert.FlashRefIdeal.main_arg3) = m ((c.tc : Thread Cert.FlashIdeal.nD Cert.FlashIdeal.τ).loc Cert.FlashIdeal.main_arg3)
      ∧ m' ((c.tc : Thread Cert.FlashRefIdeal.nD Cert.FlashRefIdeal.τ).loc Cert.FlashRefIdeal.main_arg4) = m ((c.tc : Thread Cert.FlashIdeal.nD Cert.FlashIdeal.τ).loc Cert.FlashIdeal.main_arg4)) →
    ∃ (v0 : (c : Dev Cert.FlashIdeal.nD) → Buf (Elt Ideal) ((c.tc : Thread Cert.FlashIdeal.nD Cert.FlashIdeal.τ).loc Cert.FlashIdeal.main_v33)) (v1 : (c : Dev Cert.FlashIdeal.nD) → Buf (Elt Ideal) ((c.tc : Thread Cert.FlashIdeal.nD Cert.FlashIdeal.τ).loc Cert.FlashIdeal.main_v38)) (v2 : (c : Dev Cert.FlashIdeal.nD) → Buf (Elt Ideal) ((c.tc : Thread Cert.FlashIdeal.nD Cert.FlashIdeal.τ).loc Cert.FlashIdeal.main_v39)) (v3 : (c : Dev Cert.FlashIdeal.nD) → Buf (Elt Ideal) ((c.tc : Thread Cert.FlashIdeal.nD Cert.FlashIdeal.τ).loc Cert.FlashIdeal.main_v40)),
      θ_run (Cert.FlashIdeal.defs (F := Ideal)) (onTc (τ := Cert.FlashIdeal.τ) (Cert.FlashIdeal.main (F := Ideal))) ⟨m, fun _ => 0, g⟩ (fun r => ∀ c : Dev Cert.FlashIdeal.nD,
          r.2.mem ((c.tc : Thread Cert.FlashIdeal.nD Cert.FlashIdeal.τ).loc Cert.FlashIdeal.main_v33) = v0 c
          ∧ r.2.mem ((c.tc : Thread Cert.FlashIdeal.nD Cert.FlashIdeal.τ).loc Cert.FlashIdeal.main_v38) = v1 c
          ∧ r.2.mem ((c.tc : Thread Cert.FlashIdeal.nD Cert.FlashIdeal.τ).loc Cert.FlashIdeal.main_v39) = v2 c
          ∧ r.2.mem ((c.tc : Thread Cert.FlashIdeal.nD Cert.FlashIdeal.τ).loc Cert.FlashIdeal.main_v40) = v3 c
          ∧ r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
          ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
          ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2)
          ∧ r.2.mem ((c.tc : Thread Cert.FlashIdeal.nD Cert.FlashIdeal.τ).loc Cert.FlashIdeal.main_arg3) = m ((c.tc : Thread Cert.FlashIdeal.nD Cert.FlashIdeal.τ).loc Cert.FlashIdeal.main_arg3)
          ∧ r.2.mem ((c.tc : Thread Cert.FlashIdeal.nD Cert.FlashIdeal.τ).loc Cert.FlashIdeal.main_arg4) = m ((c.tc : Thread Cert.FlashIdeal.nD Cert.FlashIdeal.τ).loc Cert.FlashIdeal.main_arg4))
      ∧ θ_run (Cert.FlashRefIdeal.defs (F := Ideal)) (onTc (τ := Cert.FlashRefIdeal.τ) (Cert.FlashRefIdeal.main (F := Ideal))) ⟨m', fun _ => 0, g'⟩ (fun r => ∀ c : Dev Cert.FlashRefIdeal.nD,
          r.2.mem ((c.tc : Thread Cert.FlashRefIdeal.nD Cert.FlashRefIdeal.τ).loc Cert.FlashRefIdeal.main_v50) = v0 c
          ∧ r.2.mem ((c.tc : Thread Cert.FlashRefIdeal.nD Cert.FlashRefIdeal.τ).loc Cert.FlashRefIdeal.main_v51) = v1 c
          ∧ r.2.mem ((c.tc : Thread Cert.FlashRefIdeal.nD Cert.FlashRefIdeal.τ).loc Cert.FlashRefIdeal.main_v53) = v2 c
          ∧ r.2.mem ((c.tc : Thread Cert.FlashRefIdeal.nD Cert.FlashRefIdeal.τ).loc Cert.FlashRefIdeal.main_v55) = v3 c
          ∧ r.2.mem ((c.tc : Thread Cert.FlashRefIdeal.nD Cert.FlashRefIdeal.τ).loc Cert.FlashRefIdeal.main_arg0) = m' ((c.tc : Thread Cert.FlashRefIdeal.nD Cert.FlashRefIdeal.τ).loc Cert.FlashRefIdeal.main_arg0)
          ∧ r.2.mem ((c.tc : Thread Cert.FlashRefIdeal.nD Cert.FlashRefIdeal.τ).loc Cert.FlashRefIdeal.main_arg1) = m' ((c.tc : Thread Cert.FlashRefIdeal.nD Cert.FlashRefIdeal.τ).loc Cert.FlashRefIdeal.main_arg1)
          ∧ r.2.mem ((c.tc : Thread Cert.FlashRefIdeal.nD Cert.FlashRefIdeal.τ).loc Cert.FlashRefIdeal.main_arg2) = m' ((c.tc : Thread Cert.FlashRefIdeal.nD Cert.FlashRefIdeal.τ).loc Cert.FlashRefIdeal.main_arg2)
          ∧ r.2.mem ((c.tc : Thread Cert.FlashRefIdeal.nD Cert.FlashRefIdeal.τ).loc Cert.FlashRefIdeal.main_arg3) = m' ((c.tc : Thread Cert.FlashRefIdeal.nD Cert.FlashRefIdeal.τ).loc Cert.FlashRefIdeal.main_arg3)
          ∧ r.2.mem ((c.tc : Thread Cert.FlashRefIdeal.nD Cert.FlashRefIdeal.τ).loc Cert.FlashRefIdeal.main_arg4) = m' ((c.tc : Thread Cert.FlashRefIdeal.nD Cert.FlashRefIdeal.τ).loc Cert.FlashRefIdeal.main_arg4))

def preserves_Latents_LatentsIdeal : Prop :=
  True

def algebraic_LatentsIdeal_LatentsRefIdeal [hLatentsIdeal : Cert.LatentsIdeal.Facts] [hLatentsRefIdeal : Cert.LatentsRefIdeal.Facts] : Prop :=
  ∀ (m : (ℓ : Loc Cert.LatentsIdeal.nD Cert.LatentsIdeal.τ Cert.LatentsIdeal.sig) → Buf (Elt Ideal) ℓ) (g : Dev Cert.LatentsIdeal.nD → PrngReg)
    (m' : (ℓ : Loc Cert.LatentsRefIdeal.nD Cert.LatentsRefIdeal.τ Cert.LatentsRefIdeal.sig) → Buf (Elt Ideal) ℓ) (g' : Dev Cert.LatentsRefIdeal.nD → PrngReg), Pre_LatentsIdeal m →
    (∀ c : Dev Cert.LatentsIdeal.nD,
      m' ((c.tc : Thread Cert.LatentsRefIdeal.nD Cert.LatentsRefIdeal.τ).loc Cert.LatentsRefIdeal.main_arg0) = m ((c.tc : Thread Cert.LatentsIdeal.nD Cert.LatentsIdeal.τ).loc Cert.LatentsIdeal.main_arg0)
      ∧ m' ((c.tc : Thread Cert.LatentsRefIdeal.nD Cert.LatentsRefIdeal.τ).loc Cert.LatentsRefIdeal.main_arg1) = m ((c.tc : Thread Cert.LatentsIdeal.nD Cert.LatentsIdeal.τ).loc Cert.LatentsIdeal.main_arg1)
      ∧ m' ((c.tc : Thread Cert.LatentsRefIdeal.nD Cert.LatentsRefIdeal.τ).loc Cert.LatentsRefIdeal.main_arg2) = m ((c.tc : Thread Cert.LatentsIdeal.nD Cert.LatentsIdeal.τ).loc Cert.LatentsIdeal.main_arg2)
      ∧ m' ((c.tc : Thread Cert.LatentsRefIdeal.nD Cert.LatentsRefIdeal.τ).loc Cert.LatentsRefIdeal.main_arg3) = m ((c.tc : Thread Cert.LatentsIdeal.nD Cert.LatentsIdeal.τ).loc Cert.LatentsIdeal.main_arg3)
      ∧ m' ((c.tc : Thread Cert.LatentsRefIdeal.nD Cert.LatentsRefIdeal.τ).loc Cert.LatentsRefIdeal.main_arg4) = m ((c.tc : Thread Cert.LatentsIdeal.nD Cert.LatentsIdeal.τ).loc Cert.LatentsIdeal.main_arg4)) →
    ∃ (v0 : (c : Dev Cert.LatentsIdeal.nD) → Buf (Elt Ideal) ((c.tc : Thread Cert.LatentsIdeal.nD Cert.LatentsIdeal.τ).loc Cert.LatentsIdeal.main_v11_0)) (v1 : (c : Dev Cert.LatentsIdeal.nD) → Buf (Elt Ideal) ((c.tc : Thread Cert.LatentsIdeal.nD Cert.LatentsIdeal.τ).loc Cert.LatentsIdeal.main_v11_1)) (v2 : (c : Dev Cert.LatentsIdeal.nD) → Buf (Elt Ideal) ((c.tc : Thread Cert.LatentsIdeal.nD Cert.LatentsIdeal.τ).loc Cert.LatentsIdeal.main_v11_2)) (v3 : (c : Dev Cert.LatentsIdeal.nD) → Buf (Elt Ideal) ((c.tc : Thread Cert.LatentsIdeal.nD Cert.LatentsIdeal.τ).loc Cert.LatentsIdeal.main_v11_3)) (v4 : (c : Dev Cert.LatentsIdeal.nD) → Buf (Elt Ideal) ((c.tc : Thread Cert.LatentsIdeal.nD Cert.LatentsIdeal.τ).loc Cert.LatentsIdeal.main_v12)) (v5 : (c : Dev Cert.LatentsIdeal.nD) → Buf (Elt Ideal) ((c.tc : Thread Cert.LatentsIdeal.nD Cert.LatentsIdeal.τ).loc Cert.LatentsIdeal.main_v13)),
      θ_run (Cert.LatentsIdeal.defs (F := Ideal)) (onTc (τ := Cert.LatentsIdeal.τ) (Cert.LatentsIdeal.main (F := Ideal))) ⟨m, fun _ => 0, g⟩ (fun r => ∀ c : Dev Cert.LatentsIdeal.nD,
          r.2.mem ((c.tc : Thread Cert.LatentsIdeal.nD Cert.LatentsIdeal.τ).loc Cert.LatentsIdeal.main_v11_0) = v0 c
          ∧ r.2.mem ((c.tc : Thread Cert.LatentsIdeal.nD Cert.LatentsIdeal.τ).loc Cert.LatentsIdeal.main_v11_1) = v1 c
          ∧ r.2.mem ((c.tc : Thread Cert.LatentsIdeal.nD Cert.LatentsIdeal.τ).loc Cert.LatentsIdeal.main_v11_2) = v2 c
          ∧ r.2.mem ((c.tc : Thread Cert.LatentsIdeal.nD Cert.LatentsIdeal.τ).loc Cert.LatentsIdeal.main_v11_3) = v3 c
          ∧ r.2.mem ((c.tc : Thread Cert.LatentsIdeal.nD Cert.LatentsIdeal.τ).loc Cert.LatentsIdeal.main_v12) = v4 c
          ∧ r.2.mem ((c.tc : Thread Cert.LatentsIdeal.nD Cert.LatentsIdeal.τ).loc Cert.LatentsIdeal.main_v13) = v5 c
          ∧ r.2.mem ((c.tc : Thread Cert.LatentsIdeal.nD Cert.LatentsIdeal.τ).loc Cert.LatentsIdeal.main_arg0) = m ((c.tc : Thread Cert.LatentsIdeal.nD Cert.LatentsIdeal.τ).loc Cert.LatentsIdeal.main_arg0)
          ∧ r.2.mem ((c.tc : Thread Cert.LatentsIdeal.nD Cert.LatentsIdeal.τ).loc Cert.LatentsIdeal.main_arg1) = m ((c.tc : Thread Cert.LatentsIdeal.nD Cert.LatentsIdeal.τ).loc Cert.LatentsIdeal.main_arg1)
          ∧ r.2.mem ((c.tc : Thread Cert.LatentsIdeal.nD Cert.LatentsIdeal.τ).loc Cert.LatentsIdeal.main_arg2) = m ((c.tc : Thread Cert.LatentsIdeal.nD Cert.LatentsIdeal.τ).loc Cert.LatentsIdeal.main_arg2)
          ∧ r.2.mem ((c.tc : Thread Cert.LatentsIdeal.nD Cert.LatentsIdeal.τ).loc Cert.LatentsIdeal.main_arg3) = m ((c.tc : Thread Cert.LatentsIdeal.nD Cert.LatentsIdeal.τ).loc Cert.LatentsIdeal.main_arg3)
          ∧ r.2.mem ((c.tc : Thread Cert.LatentsIdeal.nD Cert.LatentsIdeal.τ).loc Cert.LatentsIdeal.main_arg4) = m ((c.tc : Thread Cert.LatentsIdeal.nD Cert.LatentsIdeal.τ).loc Cert.LatentsIdeal.main_arg4))
      ∧ θ_run (Cert.LatentsRefIdeal.defs (F := Ideal)) (onTc (τ := Cert.LatentsRefIdeal.τ) (Cert.LatentsRefIdeal.main (F := Ideal))) ⟨m', fun _ => 0, g'⟩ (fun r => ∀ c : Dev Cert.LatentsRefIdeal.nD,
          r.2.mem ((c.tc : Thread Cert.LatentsRefIdeal.nD Cert.LatentsRefIdeal.τ).loc Cert.LatentsRefIdeal.main_v19) = v0 c
          ∧ r.2.mem ((c.tc : Thread Cert.LatentsRefIdeal.nD Cert.LatentsRefIdeal.τ).loc Cert.LatentsRefIdeal.main_v21) = v1 c
          ∧ r.2.mem ((c.tc : Thread Cert.LatentsRefIdeal.nD Cert.LatentsRefIdeal.τ).loc Cert.LatentsRefIdeal.main_v35) = v2 c
          ∧ r.2.mem ((c.tc : Thread Cert.LatentsRefIdeal.nD Cert.LatentsRefIdeal.τ).loc Cert.LatentsRefIdeal.main_v49) = v3 c
          ∧ r.2.mem ((c.tc : Thread Cert.LatentsRefIdeal.nD Cert.LatentsRefIdeal.τ).loc Cert.LatentsRefIdeal.main_v15) = v4 c
          ∧ r.2.mem ((c.tc : Thread Cert.LatentsRefIdeal.nD Cert.LatentsRefIdeal.τ).loc Cert.LatentsRefIdeal.main_v18) = v5 c
          ∧ r.2.mem ((c.tc : Thread Cert.LatentsRefIdeal.nD Cert.LatentsRefIdeal.τ).loc Cert.LatentsRefIdeal.main_arg0) = m' ((c.tc : Thread Cert.LatentsRefIdeal.nD Cert.LatentsRefIdeal.τ).loc Cert.LatentsRefIdeal.main_arg0)
          ∧ r.2.mem ((c.tc : Thread Cert.LatentsRefIdeal.nD Cert.LatentsRefIdeal.τ).loc Cert.LatentsRefIdeal.main_arg1) = m' ((c.tc : Thread Cert.LatentsRefIdeal.nD Cert.LatentsRefIdeal.τ).loc Cert.LatentsRefIdeal.main_arg1)
          ∧ r.2.mem ((c.tc : Thread Cert.LatentsRefIdeal.nD Cert.LatentsRefIdeal.τ).loc Cert.LatentsRefIdeal.main_arg2) = m' ((c.tc : Thread Cert.LatentsRefIdeal.nD Cert.LatentsRefIdeal.τ).loc Cert.LatentsRefIdeal.main_arg2)
          ∧ r.2.mem ((c.tc : Thread Cert.LatentsRefIdeal.nD Cert.LatentsRefIdeal.τ).loc Cert.LatentsRefIdeal.main_arg3) = m' ((c.tc : Thread Cert.LatentsRefIdeal.nD Cert.LatentsRefIdeal.τ).loc Cert.LatentsRefIdeal.main_arg3)
          ∧ r.2.mem ((c.tc : Thread Cert.LatentsRefIdeal.nD Cert.LatentsRefIdeal.τ).loc Cert.LatentsRefIdeal.main_arg4) = m' ((c.tc : Thread Cert.LatentsRefIdeal.nD Cert.LatentsRefIdeal.τ).loc Cert.LatentsRefIdeal.main_arg4))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)) →
    ∃ (v0 : (c : Dev Cert.MixIdeal.nD) → Buf (Elt Ideal) ((c.tc : Thread Cert.MixIdeal.nD Cert.MixIdeal.τ).loc Cert.MixIdeal.main_v12_0)) (v1 : (c : Dev Cert.MixIdeal.nD) → Buf (Elt Ideal) ((c.tc : Thread Cert.MixIdeal.nD Cert.MixIdeal.τ).loc Cert.MixIdeal.main_v12_1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v12_0) = v0 c
          ∧ r.2.mem ((c.tc : Thread Cert.MixIdeal.nD Cert.MixIdeal.τ).loc Cert.MixIdeal.main_v12_1) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v3) = v0 c
          ∧ r.2.mem ((c.tc : Thread Cert.MixRefIdeal.nD Cert.MixRefIdeal.τ).loc Cert.MixRefIdeal.main_v17) = v1 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4))

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)
      ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2)) →
    ∃ (v0 : (c : Dev Cert.GateUpIdeal.nD) → Buf (Elt Ideal) ((c.tc : Thread Cert.GateUpIdeal.nD Cert.GateUpIdeal.τ).loc Cert.GateUpIdeal.main_v4_0)) (v1 : (c : Dev Cert.GateUpIdeal.nD) → Buf (Elt Ideal) ((c.tc : Thread Cert.GateUpIdeal.nD Cert.GateUpIdeal.τ).loc Cert.GateUpIdeal.main_v4_1)) (v2 : (c : Dev Cert.GateUpIdeal.nD) → Buf (Elt Ideal) ((c.tc : Thread Cert.GateUpIdeal.nD Cert.GateUpIdeal.τ).loc Cert.GateUpIdeal.main_v4_2)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v4_0) = v0 c
          ∧ r.2.mem ((c.tc : Thread Cert.GateUpIdeal.nD Cert.GateUpIdeal.τ).loc Cert.GateUpIdeal.main_v4_1) = v1 c
          ∧ r.2.mem ((c.tc : Thread Cert.GateUpIdeal.nD Cert.GateUpIdeal.τ).loc Cert.GateUpIdeal.main_v4_2) = v2 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v4) = v0 c
          ∧ r.2.mem ((c.tc : Thread Cert.GateUpRefIdeal.nD Cert.GateUpRefIdeal.τ).loc Cert.GateUpRefIdeal.main_v5) = v1 c
          ∧ r.2.mem ((c.tc : Thread Cert.GateUpRefIdeal.nD Cert.GateUpRefIdeal.τ).loc Cert.GateUpRefIdeal.main_v8) = v2 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2))

def preserves_Up_UpIdeal : Prop :=
  IdealRules.named_const.Statement Cert.UpIdeal.κ "rate" .f32 0xBF135D8E#32 ((-((Real.log 10000) * 16⁻¹) : ℝ) : EReal)

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)
      ∧ m' ((c.tc : Thread Cert.UpRefIdeal.nD Cert.UpRefIdeal.τ).loc Cert.UpRefIdeal.main_arg4) = m ((c.tc : Thread Cert.UpIdeal.nD Cert.UpIdeal.τ).loc Cert.UpIdeal.main_arg4)
      ∧ m' ((c.tc : Thread Cert.UpRefIdeal.nD Cert.UpRefIdeal.τ).loc Cert.UpRefIdeal.main_arg5) = m ((c.tc : Thread Cert.UpIdeal.nD Cert.UpIdeal.τ).loc Cert.UpIdeal.main_arg5)) →
    ∃ (v0 : (c : Dev Cert.UpIdeal.nD) → Buf (Elt Ideal) ((c.tc : Thread Cert.UpIdeal.nD Cert.UpIdeal.τ).loc Cert.UpIdeal.main_v19)) (v1 : (c : Dev Cert.UpIdeal.nD) → Buf (Elt Ideal) ((c.tc : Thread Cert.UpIdeal.nD Cert.UpIdeal.τ).loc Cert.UpIdeal.main_v21)) (v2 : (c : Dev Cert.UpIdeal.nD) → Buf (Elt Ideal) ((c.tc : Thread Cert.UpIdeal.nD Cert.UpIdeal.τ).loc Cert.UpIdeal.main_v23)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v19) = v0 c
          ∧ r.2.mem ((c.tc : Thread Cert.UpIdeal.nD Cert.UpIdeal.τ).loc Cert.UpIdeal.main_v21) = v1 c
          ∧ r.2.mem ((c.tc : Thread Cert.UpIdeal.nD Cert.UpIdeal.τ).loc Cert.UpIdeal.main_v23) = v2 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
          ∧ r.2.mem ((c.tc : Thread Cert.UpIdeal.nD Cert.UpIdeal.τ).loc Cert.UpIdeal.main_arg5) = m ((c.tc : Thread Cert.UpIdeal.nD Cert.UpIdeal.τ).loc Cert.UpIdeal.main_arg5))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v65) = v0 c
          ∧ r.2.mem ((c.tc : Thread Cert.UpRefIdeal.nD Cert.UpRefIdeal.τ).loc Cert.UpRefIdeal.main_v66) = v1 c
          ∧ r.2.mem ((c.tc : Thread Cert.UpRefIdeal.nD Cert.UpRefIdeal.τ).loc Cert.UpRefIdeal.main_v68) = v2 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3)
          ∧ r.2.mem ((c.tc : Thread Cert.UpRefIdeal.nD Cert.UpRefIdeal.τ).loc Cert.UpRefIdeal.main_arg4) = m' ((c.tc : Thread Cert.UpRefIdeal.nD Cert.UpRefIdeal.τ).loc Cert.UpRefIdeal.main_arg4)
          ∧ r.2.mem ((c.tc : Thread Cert.UpRefIdeal.nD Cert.UpRefIdeal.τ).loc Cert.UpRefIdeal.main_arg5) = m' ((c.tc : Thread Cert.UpRefIdeal.nD Cert.UpRefIdeal.τ).loc Cert.UpRefIdeal.main_arg5))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0_0)) (v1 : (c : Dev Cert.DownIdeal.nD) → Buf (Elt Ideal) ((c.tc : Thread Cert.DownIdeal.nD Cert.DownIdeal.τ).loc Cert.DownIdeal.main_v0_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0_0) = v0 c
          ∧ r.2.mem ((c.tc : Thread Cert.DownIdeal.nD Cert.DownIdeal.τ).loc Cert.DownIdeal.main_v0_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v5) = v0 c
          ∧ r.2.mem ((c.tc : Thread Cert.DownRefIdeal.nD Cert.DownRefIdeal.τ).loc Cert.DownRefIdeal.main_v6) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_Adam_AdamIdeal : Prop :=
  True

def algebraic_AdamIdeal_AdamRefIdeal_pre_a_core [hAdamIdeal : Cert.AdamIdeal.Facts] [hAdamRefIdeal : Cert.AdamRefIdeal.Facts] [hPre_a_core : Cert.Pre_a_core.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal_a_core m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)
      ∧ m' ((c.tc : Thread Cert.AdamRefIdeal.nD Cert.AdamRefIdeal.τ).loc Cert.AdamRefIdeal.main_arg4) = m ((c.tc : Thread Cert.AdamIdeal.nD Cert.AdamIdeal.τ).loc Cert.AdamIdeal.main_arg4)) →
    ∃ (v0 : (c : Dev Cert.AdamIdeal.nD) → Buf (Elt Ideal) ((c.tc : Thread Cert.AdamIdeal.nD Cert.AdamIdeal.τ).loc Cert.AdamIdeal.main_v10_0)) (v1 : (c : Dev Cert.AdamIdeal.nD) → Buf (Elt Ideal) ((c.tc : Thread Cert.AdamIdeal.nD Cert.AdamIdeal.τ).loc Cert.AdamIdeal.main_v10_1)) (v2 : (c : Dev Cert.AdamIdeal.nD) → Buf (Elt Ideal) ((c.tc : Thread Cert.AdamIdeal.nD Cert.AdamIdeal.τ).loc Cert.AdamIdeal.main_v10_2)) (v3 : (c : Dev Cert.AdamIdeal.nD) → Buf (Elt Ideal) ((c.tc : Thread Cert.AdamIdeal.nD Cert.AdamIdeal.τ).loc Cert.AdamIdeal.main_v10_3)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v10_0) = v0 c
          ∧ r.2.mem ((c.tc : Thread Cert.AdamIdeal.nD Cert.AdamIdeal.τ).loc Cert.AdamIdeal.main_v10_1) = v1 c
          ∧ r.2.mem ((c.tc : Thread Cert.AdamIdeal.nD Cert.AdamIdeal.τ).loc Cert.AdamIdeal.main_v10_2) = v2 c
          ∧ r.2.mem ((c.tc : Thread Cert.AdamIdeal.nD Cert.AdamIdeal.τ).loc Cert.AdamIdeal.main_v10_3) = v3 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3)
          ∧ r.2.mem ((c.tc : Thread Cert.AdamIdeal.nD Cert.AdamIdeal.τ).loc Cert.AdamIdeal.main_arg4) = m ((c.tc : Thread Cert.AdamIdeal.nD Cert.AdamIdeal.τ).loc Cert.AdamIdeal.main_arg4))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_arg3) = v0 c
          ∧ r.2.mem ((c.tc : Thread Cert.AdamRefIdeal.nD Cert.AdamRefIdeal.τ).loc Cert.AdamRefIdeal.main_v23) = v1 c
          ∧ r.2.mem ((c.tc : Thread Cert.AdamRefIdeal.nD Cert.AdamRefIdeal.τ).loc Cert.AdamRefIdeal.main_v4) = v2 c
          ∧ r.2.mem ((c.tc : Thread Cert.AdamRefIdeal.nD Cert.AdamRefIdeal.τ).loc Cert.AdamRefIdeal.main_v10) = v3 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3)
          ∧ r.2.mem ((c.tc : Thread Cert.AdamRefIdeal.nD Cert.AdamRefIdeal.τ).loc Cert.AdamRefIdeal.main_arg4) = m' ((c.tc : Thread Cert.AdamRefIdeal.nD Cert.AdamRefIdeal.τ).loc Cert.AdamRefIdeal.main_arg4))

def preserves_Sibling_SiblingIdeal : Prop :=
  True

def algebraic_SiblingIdeal_SiblingRefIdeal [hSiblingIdeal : Cert.SiblingIdeal.Facts] [hSiblingRefIdeal : Cert.SiblingRefIdeal.Facts] : Prop :=
  ∀ (m : (ℓ : Loc Cert.SiblingIdeal.nD Cert.SiblingIdeal.τ Cert.SiblingIdeal.sig) → Buf (Elt Ideal) ℓ) (g : Dev Cert.SiblingIdeal.nD → PrngReg)
    (m' : (ℓ : Loc Cert.SiblingRefIdeal.nD Cert.SiblingRefIdeal.τ Cert.SiblingRefIdeal.sig) → Buf (Elt Ideal) ℓ) (g' : Dev Cert.SiblingRefIdeal.nD → PrngReg), Pre_SiblingIdeal m →
    (∀ c : Dev Cert.SiblingIdeal.nD,
      m ((c.tc : Thread Cert.SiblingIdeal.nD Cert.SiblingIdeal.τ).loc Cert.SiblingIdeal.main_arg0) = Layout.block ⟨2, ![704, 512]⟩ ⟨2, ![5632, 512]⟩ 0 8 c (m' (((0 : Dev Cert.SiblingRefIdeal.nD).tc : Thread Cert.SiblingRefIdeal.nD Cert.SiblingRefIdeal.τ).loc Cert.SiblingRefIdeal.main_arg0))) →
    ∃ (v0 : Buf (Elt Ideal) (((0 : Dev Cert.SiblingRefIdeal.nD).tc : Thread Cert.SiblingRefIdeal.nD Cert.SiblingRefIdeal.τ).loc Cert.SiblingRefIdeal.main_v2)),
      θ_run (Cert.SiblingIdeal.defs (F := Ideal)) (onTc (τ := Cert.SiblingIdeal.τ) (Cert.SiblingIdeal.main (F := Ideal))) ⟨m, fun _ => 0, g⟩ (fun r => ∀ c : Dev Cert.SiblingIdeal.nD,
          r.2.mem ((c.tc : Thread Cert.SiblingIdeal.nD Cert.SiblingIdeal.τ).loc Cert.SiblingIdeal.main_v1) = Layout.block ⟨2, ![704, 512]⟩ ⟨2, ![5632, 512]⟩ 0 8 c v0
          ∧ r.2.mem ((c.tc : Thread Cert.SiblingIdeal.nD Cert.SiblingIdeal.τ).loc Cert.SiblingIdeal.main_arg0) = m ((c.tc : Thread Cert.SiblingIdeal.nD Cert.SiblingIdeal.τ).loc Cert.SiblingIdeal.main_arg0))
      ∧ θ_run (Cert.SiblingRefIdeal.defs (F := Ideal)) (onTc (τ := Cert.SiblingRefIdeal.τ) (Cert.SiblingRefIdeal.main (F := Ideal))) ⟨m', fun _ => 0, g'⟩ (fun r =>
          r.2.mem (((0 : Dev Cert.SiblingRefIdeal.nD).tc : Thread Cert.SiblingRefIdeal.nD Cert.SiblingRefIdeal.τ).loc Cert.SiblingRefIdeal.main_v2) = v0
          ∧ r.2.mem (((0 : Dev Cert.SiblingRefIdeal.nD).tc : Thread Cert.SiblingRefIdeal.nD Cert.SiblingRefIdeal.τ).loc Cert.SiblingRefIdeal.main_arg0) = m' (((0 : Dev Cert.SiblingRefIdeal.nD).tc : Thread Cert.SiblingRefIdeal.nD Cert.SiblingRefIdeal.τ).loc Cert.SiblingRefIdeal.main_arg0))

def Claim : Prop :=
  ∃ (hSwiglu : Cert.Swiglu.Facts) (hSwigluIdeal : Cert.SwigluIdeal.Facts) (hSwigluRefIdeal : Cert.SwigluRefIdeal.Facts) (hAttn : Cert.Attn.Facts) (hAttnIdeal : Cert.AttnIdeal.Facts) (hAttnRefIdeal : Cert.AttnRefIdeal.Facts) (hFfNorm : Cert.FfNorm.Facts) (hFfNormIdeal : Cert.FfNormIdeal.Facts) (hFfNormRefIdeal : Cert.FfNormRefIdeal.Facts) (hQNorm : Cert.QNorm.Facts) (hQNormIdeal : Cert.QNormIdeal.Facts) (hQNormRefIdeal : Cert.QNormRefIdeal.Facts) (hKvNorm : Cert.KvNorm.Facts) (hKvNormIdeal : Cert.KvNormIdeal.Facts) (hKvNormRefIdeal : Cert.KvNormRefIdeal.Facts) (hInNorm : Cert.InNorm.Facts) (hInNormIdeal : Cert.InNormIdeal.Facts) (hInNormRefIdeal : Cert.InNormRefIdeal.Facts) (hLoss : Cert.Loss.Facts) (hLossIdeal : Cert.LossIdeal.Facts) (hLossRefIdeal : Cert.LossRefIdeal.Facts) (hOutProj : Cert.OutProj.Facts) (hOutProjIdeal : Cert.OutProjIdeal.Facts) (hOutProjRefIdeal : Cert.OutProjRefIdeal.Facts) (hRope : Cert.Rope.Facts) (hRopeIdeal : Cert.RopeIdeal.Facts) (hRopeRefIdeal : Cert.RopeRefIdeal.Facts) (hFlash : Cert.Flash.Facts) (hFlashIdeal : Cert.FlashIdeal.Facts) (hFlashRefIdeal : Cert.FlashRefIdeal.Facts) (hLatents : Cert.Latents.Facts) (hLatentsIdeal : Cert.LatentsIdeal.Facts) (hLatentsRefIdeal : Cert.LatentsRefIdeal.Facts) (hMix : Cert.Mix.Facts) (hMixIdeal : Cert.MixIdeal.Facts) (hMixRefIdeal : Cert.MixRefIdeal.Facts) (hGateUp : Cert.GateUp.Facts) (hGateUpIdeal : Cert.GateUpIdeal.Facts) (hGateUpRefIdeal : Cert.GateUpRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hAdam : Cert.Adam.Facts) (hAdamIdeal : Cert.AdamIdeal.Facts) (hAdamRefIdeal : Cert.AdamRefIdeal.Facts) (hSibling : Cert.Sibling.Facts) (hSiblingIdeal : Cert.SiblingIdeal.Facts) (hSiblingRefIdeal : Cert.SiblingRefIdeal.Facts) (hPre_finite_swiglu : Cert.Pre_finite_swiglu.Facts) (hPre_finite_attn : Cert.Pre_finite_attn.Facts) (hPre_finite_ffnorm : Cert.Pre_finite_ffnorm.Facts) (hPre_finite_qnorm : Cert.Pre_finite_qnorm.Facts) (hPre_finite_kvnorm : Cert.Pre_finite_kvnorm.Facts) (hPre_finite_innorm : Cert.Pre_finite_innorm.Facts) (hPre_finite_loss : Cert.Pre_finite_loss.Facts) (hPre_finite_outproj : Cert.Pre_finite_outproj.Facts) (hPre_finite_attn_fwd : Cert.Pre_finite_attn_fwd.Facts) (hPre_a_core : Cert.Pre_a_core.Facts),
    quiescent_Swiglu (hSwiglu := hSwiglu)
    ∧ quiescent_SwigluIdeal (hSwigluIdeal := hSwigluIdeal)
    ∧ quiescent_SwigluIdeal_pre_finite_swiglu (hSwigluIdeal := hSwigluIdeal) (hPre_finite_swiglu := hPre_finite_swiglu)
    ∧ quiescent_SwigluRefIdeal (hSwigluRefIdeal := hSwigluRefIdeal)
    ∧ quiescent_SwigluRefIdeal_pre_finite_swiglu (hSwigluRefIdeal := hSwigluRefIdeal) (hPre_finite_swiglu := hPre_finite_swiglu)
    ∧ quiescent_Attn (hAttn := hAttn)
    ∧ quiescent_AttnIdeal (hAttnIdeal := hAttnIdeal)
    ∧ quiescent_AttnIdeal_pre_finite_attn (hAttnIdeal := hAttnIdeal) (hPre_finite_attn := hPre_finite_attn)
    ∧ quiescent_AttnRefIdeal (hAttnRefIdeal := hAttnRefIdeal)
    ∧ quiescent_AttnRefIdeal_pre_finite_attn (hAttnRefIdeal := hAttnRefIdeal) (hPre_finite_attn := hPre_finite_attn)
    ∧ quiescent_FfNorm (hFfNorm := hFfNorm)
    ∧ quiescent_FfNormIdeal (hFfNormIdeal := hFfNormIdeal)
    ∧ quiescent_FfNormIdeal_pre_finite_ffnorm (hFfNormIdeal := hFfNormIdeal) (hPre_finite_ffnorm := hPre_finite_ffnorm)
    ∧ quiescent_FfNormRefIdeal (hFfNormRefIdeal := hFfNormRefIdeal)
    ∧ quiescent_FfNormRefIdeal_pre_finite_ffnorm (hFfNormRefIdeal := hFfNormRefIdeal) (hPre_finite_ffnorm := hPre_finite_ffnorm)
    ∧ quiescent_QNorm (hQNorm := hQNorm)
    ∧ quiescent_QNormIdeal (hQNormIdeal := hQNormIdeal)
    ∧ quiescent_QNormIdeal_pre_finite_qnorm (hQNormIdeal := hQNormIdeal) (hPre_finite_qnorm := hPre_finite_qnorm)
    ∧ quiescent_QNormRefIdeal (hQNormRefIdeal := hQNormRefIdeal)
    ∧ quiescent_QNormRefIdeal_pre_finite_qnorm (hQNormRefIdeal := hQNormRefIdeal) (hPre_finite_qnorm := hPre_finite_qnorm)
    ∧ quiescent_KvNorm (hKvNorm := hKvNorm)
    ∧ quiescent_KvNormIdeal (hKvNormIdeal := hKvNormIdeal)
    ∧ quiescent_KvNormIdeal_pre_finite_kvnorm (hKvNormIdeal := hKvNormIdeal) (hPre_finite_kvnorm := hPre_finite_kvnorm)
    ∧ quiescent_KvNormRefIdeal (hKvNormRefIdeal := hKvNormRefIdeal)
    ∧ quiescent_KvNormRefIdeal_pre_finite_kvnorm (hKvNormRefIdeal := hKvNormRefIdeal) (hPre_finite_kvnorm := hPre_finite_kvnorm)
    ∧ quiescent_InNorm (hInNorm := hInNorm)
    ∧ quiescent_InNormIdeal (hInNormIdeal := hInNormIdeal)
    ∧ quiescent_InNormIdeal_pre_finite_innorm (hInNormIdeal := hInNormIdeal) (hPre_finite_innorm := hPre_finite_innorm)
    ∧ quiescent_InNormRefIdeal (hInNormRefIdeal := hInNormRefIdeal)
    ∧ quiescent_InNormRefIdeal_pre_finite_innorm (hInNormRefIdeal := hInNormRefIdeal) (hPre_finite_innorm := hPre_finite_innorm)
    ∧ quiescent_Loss (hLoss := hLoss)
    ∧ quiescent_LossIdeal (hLossIdeal := hLossIdeal)
    ∧ quiescent_LossIdeal_pre_finite_loss (hLossIdeal := hLossIdeal) (hPre_finite_loss := hPre_finite_loss)
    ∧ quiescent_LossRefIdeal (hLossRefIdeal := hLossRefIdeal)
    ∧ quiescent_LossRefIdeal_pre_finite_loss (hLossRefIdeal := hLossRefIdeal) (hPre_finite_loss := hPre_finite_loss)
    ∧ quiescent_OutProj (hOutProj := hOutProj)
    ∧ quiescent_OutProjIdeal (hOutProjIdeal := hOutProjIdeal)
    ∧ quiescent_OutProjIdeal_pre_finite_outproj (hOutProjIdeal := hOutProjIdeal) (hPre_finite_outproj := hPre_finite_outproj)
    ∧ quiescent_OutProjRefIdeal (hOutProjRefIdeal := hOutProjRefIdeal)
    ∧ quiescent_OutProjRefIdeal_pre_finite_outproj (hOutProjRefIdeal := hOutProjRefIdeal) (hPre_finite_outproj := hPre_finite_outproj)
    ∧ quiescent_Rope (hRope := hRope)
    ∧ quiescent_RopeIdeal (hRopeIdeal := hRopeIdeal)
    ∧ quiescent_RopeRefIdeal (hRopeRefIdeal := hRopeRefIdeal)
    ∧ quiescent_Flash (hFlash := hFlash)
    ∧ quiescent_FlashIdeal (hFlashIdeal := hFlashIdeal)
    ∧ quiescent_FlashIdeal_pre_finite_attn_fwd (hFlashIdeal := hFlashIdeal) (hPre_finite_attn_fwd := hPre_finite_attn_fwd)
    ∧ quiescent_FlashRefIdeal (hFlashRefIdeal := hFlashRefIdeal)
    ∧ quiescent_FlashRefIdeal_pre_finite_attn_fwd (hFlashRefIdeal := hFlashRefIdeal) (hPre_finite_attn_fwd := hPre_finite_attn_fwd)
    ∧ quiescent_Latents (hLatents := hLatents)
    ∧ quiescent_LatentsIdeal (hLatentsIdeal := hLatentsIdeal)
    ∧ quiescent_LatentsRefIdeal (hLatentsRefIdeal := hLatentsRefIdeal)
    ∧ quiescent_Mix (hMix := hMix)
    ∧ quiescent_MixIdeal (hMixIdeal := hMixIdeal)
    ∧ quiescent_MixRefIdeal (hMixRefIdeal := hMixRefIdeal)
    ∧ quiescent_GateUp (hGateUp := hGateUp)
    ∧ quiescent_GateUpIdeal (hGateUpIdeal := hGateUpIdeal)
    ∧ quiescent_GateUpRefIdeal (hGateUpRefIdeal := hGateUpRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Adam (hAdam := hAdam)
    ∧ quiescent_AdamIdeal (hAdamIdeal := hAdamIdeal)
    ∧ quiescent_AdamIdeal_pre_a_core (hAdamIdeal := hAdamIdeal) (hPre_a_core := hPre_a_core)
    ∧ quiescent_AdamRefIdeal (hAdamRefIdeal := hAdamRefIdeal)
    ∧ quiescent_AdamRefIdeal_pre_a_core (hAdamRefIdeal := hAdamRefIdeal) (hPre_a_core := hPre_a_core)
    ∧ quiescent_Sibling (hSibling := hSibling)
    ∧ quiescent_SiblingIdeal (hSiblingIdeal := hSiblingIdeal)
    ∧ quiescent_SiblingRefIdeal (hSiblingRefIdeal := hSiblingRefIdeal)
    ∧ preserves_Swiglu_SwigluIdeal
    ∧ algebraic_SwigluIdeal_SwigluRefIdeal_pre_finite_swiglu (hSwigluIdeal := hSwigluIdeal) (hSwigluRefIdeal := hSwigluRefIdeal) (hPre_finite_swiglu := hPre_finite_swiglu)
    ∧ preserves_Attn_AttnIdeal
    ∧ algebraic_AttnIdeal_AttnRefIdeal_pre_finite_attn (hAttnIdeal := hAttnIdeal) (hAttnRefIdeal := hAttnRefIdeal) (hPre_finite_attn := hPre_finite_attn)
    ∧ preserves_FfNorm_FfNormIdeal
    ∧ algebraic_FfNormIdeal_FfNormRefIdeal_pre_finite_ffnorm (hFfNormIdeal := hFfNormIdeal) (hFfNormRefIdeal := hFfNormRefIdeal) (hPre_finite_ffnorm := hPre_finite_ffnorm)
    ∧ preserves_QNorm_QNormIdeal
    ∧ algebraic_QNormIdeal_QNormRefIdeal_pre_finite_qnorm (hQNormIdeal := hQNormIdeal) (hQNormRefIdeal := hQNormRefIdeal) (hPre_finite_qnorm := hPre_finite_qnorm)
    ∧ preserves_KvNorm_KvNormIdeal
    ∧ algebraic_KvNormIdeal_KvNormRefIdeal_pre_finite_kvnorm (hKvNormIdeal := hKvNormIdeal) (hKvNormRefIdeal := hKvNormRefIdeal) (hPre_finite_kvnorm := hPre_finite_kvnorm)
    ∧ preserves_InNorm_InNormIdeal
    ∧ algebraic_InNormIdeal_InNormRefIdeal_pre_finite_innorm (hInNormIdeal := hInNormIdeal) (hInNormRefIdeal := hInNormRefIdeal) (hPre_finite_innorm := hPre_finite_innorm)
    ∧ preserves_Loss_LossIdeal
    ∧ algebraic_LossIdeal_LossRefIdeal_pre_finite_loss (hLossIdeal := hLossIdeal) (hLossRefIdeal := hLossRefIdeal) (hPre_finite_loss := hPre_finite_loss)
    ∧ preserves_OutProj_OutProjIdeal
    ∧ algebraic_OutProjIdeal_OutProjRefIdeal_pre_finite_outproj (hOutProjIdeal := hOutProjIdeal) (hOutProjRefIdeal := hOutProjRefIdeal) (hPre_finite_outproj := hPre_finite_outproj)
    ∧ preserves_Rope_RopeIdeal
    ∧ algebraic_RopeIdeal_RopeRefIdeal (hRopeIdeal := hRopeIdeal) (hRopeRefIdeal := hRopeRefIdeal)
    ∧ preserves_Flash_FlashIdeal
    ∧ algebraic_FlashIdeal_FlashRefIdeal_pre_finite_attn_fwd (hFlashIdeal := hFlashIdeal) (hFlashRefIdeal := hFlashRefIdeal) (hPre_finite_attn_fwd := hPre_finite_attn_fwd)
    ∧ preserves_Latents_LatentsIdeal
    ∧ algebraic_LatentsIdeal_LatentsRefIdeal (hLatentsIdeal := hLatentsIdeal) (hLatentsRefIdeal := hLatentsRefIdeal)
    ∧ preserves_Mix_MixIdeal
    ∧ algebraic_MixIdeal_MixRefIdeal (hMixIdeal := hMixIdeal) (hMixRefIdeal := hMixRefIdeal)
    ∧ preserves_GateUp_GateUpIdeal
    ∧ algebraic_GateUpIdeal_GateUpRefIdeal (hGateUpIdeal := hGateUpIdeal) (hGateUpRefIdeal := hGateUpRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Adam_AdamIdeal
    ∧ algebraic_AdamIdeal_AdamRefIdeal_pre_a_core (hAdamIdeal := hAdamIdeal) (hAdamRefIdeal := hAdamRefIdeal) (hPre_a_core := hPre_a_core)
    ∧ preserves_Sibling_SiblingIdeal
    ∧ algebraic_SiblingIdeal_SiblingRefIdeal (hSiblingIdeal := hSiblingIdeal) (hSiblingRefIdeal := hSiblingRefIdeal)
-- ==== Pre_a_core.lean ====
abbrev S704x1024 : Shape := ⟨2, ![704, 1024]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S704x1024 .f32) (main_arg1 : FVec F S704x1024 .f32) (main_arg2 : FVec F S704x1024 .f32) (main_arg3 : FVec F S704x1024 .f32) (main_arg4 : IVec S1 32) : IVec S1 1 :=
  let main_c : IVec S_ 32 := constantI S_ 32 0#32
  let main_v0 : IVec S1 32 := broadcastInDim S1 ![] bcast_S_S1 main_c
  let main_v1 : IVec S1 1 := cmpi .eq main_arg4 main_v0
  let main_c_0 : IVec S_ 32 := constantI S_ 32 1#32
  let main_v2 : IVec S1 32 := broadcastInDim S1 ![] bcast_S_S1 main_c_0
  let main_v3 : IVec S1 1 := cmpi .eq main_arg4 main_v2
  let main_v4 : IVec S1 1 := ori main_v1 main_v3
  main_v4
-- ==== Pre_finite_attn.lean ====
abbrev S4096x8x64 : Shape := ⟨3, ![4096, 8, 64]⟩
abbrev S4096x8x32 : Shape := ⟨3, ![4096, 8, 32]⟩
abbrev S4096x32 : Shape := ⟨2, ![4096, 32]⟩
abbrev S4096x512 : Shape := ⟨2, ![4096, 512]⟩
abbrev S_ : Shape := ⟨0, ![]⟩

class Facts : Prop where
  bcast_S_S4096x8x64 : S_.BroadcastsInDim S4096x8x64 (![] : Fin 0 → Fin S4096x8x64.rank)
  bcast_S_S4096x8x32 : S_.BroadcastsInDim S4096x8x32 (![] : Fin 0 → Fin S4096x8x32.rank)
  bcast_S_S4096x32 : S_.BroadcastsInDim S4096x32 (![] : Fin 0 → Fin S4096x32.rank)
  bcast_S_S4096x512 : S_.BroadcastsInDim S4096x512 (![] : Fin 0 → Fin S4096x512.rank)

variable [Facts]

def fn {F : FTy → Type} [FloatOps F] (main_arg0 : FVec F S4096x8x64 .f32) (main_arg1 : FVec F S4096x8x32 .f32) (main_arg2 : FVec F S4096x8x64 .f32) (main_arg3 : FVec F S4096x32 .f32) (main_arg4 : FVec F S4096x8x64 .f32) (main_arg5 : FVec F S4096x512 .f32) : IVec S4096x8x64 1 × IVec S4096x8x32 1 × IVec S4096x8x64 1 × IVec S4096x32 1 × IVec S4096x8x64 1 × IVec S4096x512 1 :=
  let main_v0 : FVec F S4096x8x64 .f32 := Host.absf main_arg0
  let main_cst : FVec F S_ .f32 := constant S_ .f32 0x7F800000#32
  let main_v1 : FVec F S4096x8x64 .f32 := broadcastInDim S4096x8x64 ![] bcast_S_S4096x8x64 main_cst
  let main_v2 : IVec S4096x8x64 1 := cmpf .olt main_v0 main_v1
  let main_v3 : FVec F S4096x8x32 .f32 := Host.absf main_arg1
  let main_cst_0 : FVec F S_ .f32 := constant S_ .f32 0x7F800000#32
  let main_v4 : FVec F S4096x8x32 .f32 := broadcastInDim S4096x8x32 ![] bcast_S_S4096x8x32 main_cst_0
  let main_v5 : IVec S4096x8x32 1 := cmpf .olt main_v3 main_v4
  let main_v6 : FVec F S4096x8x64 .f32 := Host.absf main_arg2
  let main_cst_1 : FVec F S_ .f32 := constant S_ .f32 0x7F800000#32
  let main_v7 : FVec F S4096x8x64 .f32 := broadcastInDim S4096x8x64 ![] bcast_S_S4096x8x64 main_cst_1
  let main_v8 : IVec S4096x8x64 1 := cmpf .olt main_v6 main_v7
  let main_v9 : FVec F S4096x32 .f32 := Host.absf main_arg3
  let main_cst_2 : FVec F S_ .f32 := constant S_ .f32 0x7F800000#32
  let main_v10 : FVec F S4096x32 .f32 := broadcastInDim S4096x32 ![] bcast_S_S4096x32 main_cst_2
  let main_v11 : IVec S4096x32 1 := cmpf .olt main_v9 main_v10
  let main_v12 : FVec F S4096x8x64 .f32 := Host.absf main_arg4
  let main_cst_3 : FVec F S_ .f32 := constant S_ .f32 0x7F800000#32
  let main_v13 : FVec F S4096x8x64 .f32 := broadcastInDim S4096x8x64 ![] bcast_S_S4096x8x64 main_cst_3
  let main_v14 : IVec S4096x8x64 1 := cmpf .olt main_v12 main_v13
  let main_v15 : FVec F S4096x512 .f32 := Host.absf main_arg5
  let main_cst_4 : FVec F S_ .f32 := constant S_ .f32 0x7F800000#32
  let main_v16 : FVec F S4096x512 .f32 := broadcastInDim S4096x512 ![] bcast_S_S4096x512 main_cst_4
  let main_v17 : IVec S4096x512 1 := cmpf .olt main_v15 main_v16
  (main_v2, main_v5, main_v8, main_v11, main_v14, main_v17)
-- ==== Pre_finite_attn_fwd.lean ====
abbrev S4096x8x64 : Shape := ⟨3, ![4096, 8, 64]⟩
abbrev S4096x8x32 : Shape := ⟨3, ![4096, 8, 32]⟩
abbrev S4096x32 : Shape := ⟨2, ![4096, 32]⟩
abbrev S_ : Shape := ⟨0, ![]⟩

class Facts : Prop where
  bcast_S_S4096x8x64 : S_.BroadcastsInDim S4096x8x64 (![] : Fin 0 → Fin S4096x8x64.rank)
  bcast_S_S4096x8x32 : S_.BroadcastsInDim S4096x8x32 (![] : Fin 0 → Fin S4096x8x32.rank)
  bcast_S_S4096x32 : S_.BroadcastsInDim S4096x32 (![] : Fin 0 → Fin S4096x32.rank)

variable [Facts]

def fn {F : FTy → Type} [FloatOps F] (main_arg0 : FVec F S4096x8x64 .f32) (main_arg1 : FVec F S4096x8x32 .f32) (main_arg2 : FVec F S4096x8x64 .f32) (main_arg3 : FVec F S4096x32 .f32) (main_arg4 : FVec F S4096x8x64 .f32) : IVec S4096x8x64 1 × IVec S4096x8x32 1 × IVec S4096x8x64 1 × IVec S4096x32 1 × IVec S4096x8x64 1 :=
  let main_v0 : FVec F S4096x8x64 .f32 := Host.absf main_arg0
  let main_cst : FVec F S_ .f32 := constant S_ .f32 0x7F800000#32
  let main_v1 : FVec F S4096x8x64 .f32 := broadcastInDim S4096x8x64 ![] bcast_S_S4096x8x64 main_cst
  let main_v2 : IVec S4096x8x64 1 := cmpf .olt main_v0 main_v1
  let main_v3 : FVec F S4096x8x32 .f32 := Host.absf main_arg1
  let main_cst_0 : FVec F S_ .f32 := constant S_ .f32 0x7F800000#32
  let main_v4 : FVec F S4096x8x32 .f32 := broadcastInDim S4096x8x32 ![] bcast_S_S4096x8x32 main_cst_0
  let main_v5 : IVec S4096x8x32 1 := cmpf .olt main_v3 main_v4
  let main_v6 : FVec F S4096x8x64 .f32 := Host.absf main_arg2
  let main_cst_1 : FVec F S_ .f32 := constant S_ .f32 0x7F800000#32
  let main_v7 : FVec F S4096x8x64 .f32 := broadcastInDim S4096x8x64 ![] bcast_S_S4096x8x64 main_cst_1
  let main_v8 : IVec S4096x8x64 1 := cmpf .olt main_v6 main_v7
  let main_v9 : FVec F S4096x32 .f32 := Host.absf main_arg3
  let main_cst_2 : FVec F S_ .f32 := constant S_ .f32 0x7F800000#32
  let main_v10 : FVec F S4096x32 .f32 := broadcastInDim S4096x32 ![] bcast_S_S4096x32 main_cst_2
  let main_v11 : IVec S4096x32 1 := cmpf .olt main_v9 main_v10
  let main_v12 : FVec F S4096x8x64 .f32 := Host.absf main_arg4
  let main_cst_3 : FVec F S_ .f32 := constant S_ .f32 0x7F800000#32
  let main_v13 : FVec F S4096x8x64 .f32 := broadcastInDim S4096x8x64 ![] bcast_S_S4096x8x64 main_cst_3
  let main_v14 : IVec S4096x8x64 1 := cmpf .olt main_v12 main_v13
  (main_v2, main_v5, main_v8, main_v11, main_v14)
-- ==== Pre_finite_ffnorm.lean ====
abbrev S4096x2816 : Shape := ⟨2, ![4096, 2816]⟩
abbrev S1024x2816 : Shape := ⟨2, ![1024, 2816]⟩
abbrev S4096x1024 : Shape := ⟨2, ![4096, 1024]⟩
abbrev S1024 : Shape := ⟨1, ![1024]⟩
abbrev S_ : Shape := ⟨0, ![]⟩

class Facts : Prop where
  bitsLt_bf16_f32 : FTy.bits .bf16 < FTy.bits .f32
  bcast_S_S4096x2816 : S_.BroadcastsInDim S4096x2816 (![] : Fin 0 → Fin S4096x2816.rank)
  bcast_S_S1024x2816 : S_.BroadcastsInDim S1024x2816 (![] : Fin 0 → Fin S1024x2816.rank)
  bcast_S_S4096x1024 : S_.BroadcastsInDim S4096x1024 (![] : Fin 0 → Fin S4096x1024.rank)
  bcast_S_S1024 : S_.BroadcastsInDim S1024 (![] : Fin 0 → Fin S1024.rank)

variable [Facts]

def fn_part1 {F : FTy → Type} [FloatOps F] (main_v3 : IVec S4096x2816 1) (main_v7 : IVec S4096x2816 1) (main_v10 : IVec S1024x2816 1) (main_v13 : IVec S1024x2816 1) (main_v16 : IVec S4096x1024 1) (main_v17 : FVec F S1024 .f32) (main_cst_4 : FVec F S_ .f32) : IVec S4096x2816 1 × IVec S4096x2816 1 × IVec S1024x2816 1 × IVec S1024x2816 1 × IVec S4096x1024 1 × IVec S1024 1 :=
  let main_v18 : FVec F S1024 .f32 := broadcastInDim S1024 ![] bcast_S_S1024 main_cst_4
  let main_v19 : IVec S1024 1 := cmpf .olt main_v17 main_v18
  (main_v3, main_v7, main_v10, main_v13, main_v16, main_v19)

def fn {F : FTy → Type} [FloatOps F] (main_arg0 : FVec F S4096x2816 .bf16) (main_arg1 : FVec F S4096x2816 .bf16) (main_arg2 : FVec F S1024x2816 .f32) (main_arg3 : FVec F S1024x2816 .f32) (main_arg4 : FVec F S4096x1024 .f32) (main_arg5 : FVec F S1024 .f32) (main_arg6 : FVec F S4096x1024 .f32) : IVec S4096x2816 1 × IVec S4096x2816 1 × IVec S1024x2816 1 × IVec S1024x2816 1 × IVec S4096x1024 1 × IVec S1024 1 :=
  let main_v0 : FVec F S4096x2816 .f32 := (extf .f32 · bitsLt_bf16_f32) main_arg0
  let main_v1 : FVec F S4096x2816 .f32 := Host.absf main_v0
  let main_cst : FVec F S_ .f32 := constant S_ .f32 0x7F800000#32
  let main_v2 : FVec F S4096x2816 .f32 := broadcastInDim S4096x2816 ![] bcast_S_S4096x2816 main_cst
  let main_v3 : IVec S4096x2816 1 := cmpf .olt main_v1 main_v2
  let main_v4 : FVec F S4096x2816 .f32 := (extf .f32 · bitsLt_bf16_f32) main_arg1
  let main_v5 : FVec F S4096x2816 .f32 := Host.absf main_v4
  let main_cst_0 : FVec F S_ .f32 := constant S_ .f32 0x7F800000#32
  let main_v6 : FVec F S4096x2816 .f32 := broadcastInDim S4096x2816 ![] bcast_S_S4096x2816 main_cst_0
  let main_v7 : IVec S4096x2816 1 := cmpf .olt main_v5 main_v6
  let main_v8 : FVec F S1024x2816 .f32 := Host.absf main_arg2
  let main_cst_1 : FVec F S_ .f32 := constant S_ .f32 0x7F800000#32
  let main_v9 : FVec F S1024x2816 .f32 := broadcastInDim S1024x2816 ![] bcast_S_S1024x2816 main_cst_1
  let main_v10 : IVec S1024x2816 1 := cmpf .olt main_v8 main_v9
  let main_v11 : FVec F S1024x2816 .f32 := Host.absf main_arg3
  let main_cst_2 : FVec F S_ .f32 := constant S_ .f32 0x7F800000#32
  let main_v12 : FVec F S1024x2816 .f32 := broadcastInDim S1024x2816 ![] bcast_S_S1024x2816 main_cst_2
  let main_v13 : IVec S1024x2816 1 := cmpf .olt main_v11 main_v12
  let main_v14 : FVec F S4096x1024 .f32 := Host.absf main_arg4
  let main_cst_3 : FVec F S_ .f32 := constant S_ .f32 0x7F800000#32
  let main_v15 : FVec F S4096x1024 .f32 := broadcastInDim S4096x1024 ![] bcast_S_S4096x1024 main_cst_3
  let main_v16 : IVec S4096x1024 1 := cmpf .olt main_v14 main_v15
  let main_v17 : FVec F S1024 .f32 := Host.absf main_arg5
  let main_cst_4 : FVec F S_ .f32 := constant S_ .f32 0x7F800000#32
  fn_part1 (F := F) main_v3 main_v7 main_v10 main_v13 main_v16 main_v17 main_cst_4
-- ==== Pre_finite_innorm.lean ====
abbrev S4096x2048 : Shape := ⟨2, ![4096, 2048]⟩
abbrev S4096x8 : Shape := ⟨2, ![4096, 8]⟩
abbrev S4096x640 : Shape := ⟨2, ![4096, 640]⟩
abbrev S4096x32 : Shape := ⟨2, ![4096, 32]⟩
abbrev S1024x2728 : Shape := ⟨2, ![1024, 2728]⟩
abbrev S4096x1024 : Shape := ⟨2, ![4096, 1024]⟩
abbrev S1024 : Shape := ⟨1, ![1024]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  bcast_S_S4096x8 : S_.BroadcastsInDim S4096x8 (![] : Fin 0 → Fin S4096x8.rank)
  bcast_S_S4096x640 : S_.BroadcastsInDim S4096x640 (![] : Fin 0 → Fin S4096x640.rank)
  bcast_S_S4096x32 : S_.BroadcastsInDim S4096x32 (![] : Fin 0 → Fin S4096x32.rank)
  bcast_S_S1024x2728 : S_.BroadcastsInDim S1024x2728 (![] : Fin 0 → Fin S1024x2728.rank)
  bcast_S_S4096x1024 : S_.BroadcastsInDim S4096x1024 (![] : Fin 0 → Fin S4096x1024.rank)
  bcast_S_S1024 : S_.BroadcastsInDim S1024 (![] : Fin 0 → Fin S1024.rank)

variable [Facts]

def fn_part1 {F : FTy → Type} [FloatOps F] (main_arg6 : FVec F S1024 .f32) (main_v3 : IVec S4096x2048 1) (main_v6 : IVec S4096x8 1) (main_v10 : IVec S4096x640 1) (main_v13 : IVec S4096x32 1) (main_v16 : IVec S1024x2728 1) (main_v17 : FVec F S4096x1024 .f32) (main_cst_4 : FVec F S_ .f32) : IVec S4096x2048 1 × IVec S4096x8 1 × IVec S4096x640 1 × IVec S4096x32 1 × IVec S1024x2728 1 × IVec S4096x1024 1 × IVec S1024 1 :=
  let main_v18 : FVec F S4096x1024 .f32 := broadcastInDim S4096x1024 ![] bcast_S_S4096x1024 main_cst_4
  let main_v19 : IVec S4096x1024 1 := cmpf .olt main_v17 main_v18
  let main_v20 : FVec F S1024 .f32 := Host.absf main_arg6
  let main_cst_5 : FVec F S_ .f32 := constant S_ .f32 0x7F800000#32
  let main_v21 : FVec F S1024 .f32 := broadcastInDim S1024 ![] bcast_S_S1024 main_cst_5
  let main_v22 : IVec S1024 1 := cmpf .olt main_v20 main_v21
  (main_v3, main_v6, main_v10, main_v13, main_v16, main_v19, main_v22)

def fn {F : FTy → Type} [FloatOps F] (main_arg0 : FVec F S4096x2048 .bf16) (main_arg1 : FVec F S4096x8 .f32) (main_arg2 : FVec F S4096x640 .bf16) (main_arg3 : FVec F S4096x32 .f32) (main_arg4 : FVec F S1024x2728 .f32) (main_arg5 : FVec F S4096x1024 .f32) (main_arg6 : FVec F S1024 .f32) (main_arg7 : FVec F S4096x1024 .f32) : IVec S4096x2048 1 × IVec S4096x8 1 × IVec S4096x640 1 × IVec S4096x32 1 × IVec S1024x2728 1 × IVec S4096x1024 1 × IVec S1024 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_v4 : FVec F S4096x8 .f32 := Host.absf main_arg1
  let main_cst_0 : FVec F S_ .f32 := constant S_ .f32 0x7F800000#32
  let main_v5 : FVec F S4096x8 .f32 := broadcastInDim S4096x8 ![] bcast_S_S4096x8 main_cst_0
  let main_v6 : IVec S4096x8 1 := cmpf .olt main_v4 main_v5
  let main_v7 : FVec F S4096x640 .f32 := (extf .f32 · bitsLt_bf16_f32) main_arg2
  let main_v8 : FVec F S4096x640 .f32 := Host.absf main_v7
  let main_cst_1 : FVec F S_ .f32 := constant S_ .f32 0x7F800000#32
  let main_v9 : FVec F S4096x640 .f32 := broadcastInDim S4096x640 ![] bcast_S_S4096x640 main_cst_1
  let main_v10 : IVec S4096x640 1 := cmpf .olt main_v8 main_v9
  let main_v11 : FVec F S4096x32 .f32 := Host.absf main_arg3
  let main_cst_2 : FVec F S_ .f32 := constant S_ .f32 0x7F800000#32
  let main_v12 : FVec F S4096x32 .f32 := broadcastInDim S4096x32 ![] bcast_S_S4096x32 main_cst_2
  let main_v13 : IVec S4096x32 1 := cmpf .olt main_v11 main_v12
  let main_v14 : FVec F S1024x2728 .f32 := Host.absf main_arg4
  let main_cst_3 : FVec F S_ .f32 := constant S_ .f32 0x7F800000#32
  let main_v15 : FVec F S1024x2728 .f32 := broadcastInDim S1024x2728 ![] bcast_S_S1024x2728 main_cst_3
  let main_v16 : IVec S1024x2728 1 := cmpf .olt main_v14 main_v15
  let main_v17 : FVec F S4096x1024 .f32 := Host.absf main_arg5
  let main_cst_4 : FVec F S_ .f32 := constant S_ .f32 0x7F800000#32
  fn_part1 (F := F) main_arg6 main_v3 main_v6 main_v10 main_v13 main_v16 main_v17 main_cst_4
-- ==== Pre_finite_kvnorm.lean ====
abbrev S4096x8x64 : Shape := ⟨3, ![4096, 8, 64]⟩
abbrev S256x1024 : Shape := ⟨2, ![256, 1024]⟩
abbrev S4096x256 : Shape := ⟨2, ![4096, 256]⟩
abbrev S256 : Shape := ⟨1, ![256]⟩
abbrev S_ : Shape := ⟨0, ![]⟩

class Facts : Prop where
  bcast_S_S4096x8x64 : S_.BroadcastsInDim S4096x8x64 (![] : Fin 0 → Fin S4096x8x64.rank)
  bcast_S_S256x1024 : S_.BroadcastsInDim S256x1024 (![] : Fin 0 → Fin S256x1024.rank)
  bitsLt_bf16_f32 : FTy.bits .bf16 < FTy.bits .f32
  bcast_S_S4096x256 : S_.BroadcastsInDim S4096x256 (![] : Fin 0 → Fin S4096x256.rank)
  bcast_S_S256 : S_.BroadcastsInDim S256 (![] : Fin 0 → Fin S256.rank)

variable [Facts]

def fn {F : FTy → Type} [FloatOps F] (main_arg0 : FVec F S4096x8x64 .f32) (main_arg1 : FVec F S4096x8x64 .f32) (main_arg2 : FVec F S256x1024 .f32) (main_arg3 : FVec F S4096x256 .bf16) (main_arg4 : FVec F S256 .f32) : IVec S4096x8x64 1 × IVec S4096x8x64 1 × IVec S256x1024 1 × IVec S4096x256 1 × IVec S256 1 :=
  let main_v0 : FVec F S4096x8x64 .f32 := Host.absf main_arg0
  let main_cst : FVec F S_ .f32 := constant S_ .f32 0x7F800000#32
  let main_v1 : FVec F S4096x8x64 .f32 := broadcastInDim S4096x8x64 ![] bcast_S_S4096x8x64 main_cst
  let main_v2 : IVec S4096x8x64 1 := cmpf .olt main_v0 main_v1
  let main_v3 : FVec F S4096x8x64 .f32 := Host.absf main_arg1
  let main_cst_0 : FVec F S_ .f32 := constant S_ .f32 0x7F800000#32
  let main_v4 : FVec F S4096x8x64 .f32 := broadcastInDim S4096x8x64 ![] bcast_S_S4096x8x64 main_cst_0
  let main_v5 : IVec S4096x8x64 1 := cmpf .olt main_v3 main_v4
  let main_v6 : FVec F S256x1024 .f32 := Host.absf main_arg2
  let main_cst_1 : FVec F S_ .f32 := constant S_ .f32 0x7F800000#32
  let main_v7 : FVec F S256x1024 .f32 := broadcastInDim S256x1024 ![] bcast_S_S256x1024 main_cst_1
  let main_v8 : IVec S256x1024 1 := cmpf .olt main_v6 main_v7
  let main_v9 : FVec F S4096x256 .f32 := (extf .f32 · bitsLt_bf16_f32) main_arg3
  let main_v10 : FVec F S4096x256 .f32 := Host.absf main_v9
  let main_cst_2 : FVec F S_ .f32 := constant S_ .f32 0x7F800000#32
  let main_v11 : FVec F S4096x256 .f32 := broadcastInDim S4096x256 ![] bcast_S_S4096x256 main_cst_2
  let main_v12 : IVec S4096x256 1 := cmpf .olt main_v10 main_v11
  let main_v13 : FVec F S256 .f32 := Host.absf main_arg4
  let main_cst_3 : FVec F S_ .f32 := constant S_ .f32 0x7F800000#32
  let main_v14 : FVec F S256 .f32 := broadcastInDim S256 ![] bcast_S_S256 main_cst_3
  let main_v15 : IVec S256 1 := cmpf .olt main_v13 main_v14
  (main_v2, main_v5, main_v8, main_v12, main_v15)
-- ==== Pre_finite_loss.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S_ : Shape := ⟨0, ![]⟩

class Facts : Prop where
  bitsLt_bf16_f32 : FTy.bits .bf16 < FTy.bits .f32
  bcast_S_S4096x2816 : S_.BroadcastsInDim S4096x2816 (![] : Fin 0 → Fin S4096x2816.rank)
  bcast_S_S2816x1024 : S_.BroadcastsInDim S2816x1024 (![] : Fin 0 → Fin S2816x1024.rank)
  bcast_S_S4096x1024 : S_.BroadcastsInDim S4096x1024 (![] : Fin 0 → Fin S4096x1024.rank)
  bcast_S_S1024 : S_.BroadcastsInDim S1024 (![] : Fin 0 → Fin S1024.rank)

variable [Facts]

def fn {F : FTy → Type} [FloatOps F] (main_arg0 : FVec F S4096x2816 .bf16) (main_arg1 : FVec F S2816x1024 .f32) (main_arg2 : FVec F S4096x1024 .f32) (main_arg3 : FVec F S4096x1024 .f32) (main_arg4 : FVec F S1024 .f32) : IVec S4096x2816 1 × IVec S2816x1024 1 × IVec S4096x1024 1 × IVec S4096x1024 1 × IVec S1024 1 :=
  let main_v0 : FVec F S4096x2816 .f32 := (extf .f32 · bitsLt_bf16_f32) main_arg0
  let main_v1 : FVec F S4096x2816 .f32 := Host.absf main_v0
  let main_cst : FVec F S_ .f32 := constant S_ .f32 0x7F800000#32
  let main_v2 : FVec F S4096x2816 .f32 := broadcastInDim S4096x2816 ![] bcast_S_S4096x2816 main_cst
  let main_v3 : IVec S4096x2816 1 := cmpf .olt main_v1 main_v2
  let main_v4 : FVec F S2816x1024 .f32 := Host.absf main_arg1
  let main_cst_0 : FVec F S_ .f32 := constant S_ .f32 0x7F800000#32
  let main_v5 : FVec F S2816x1024 .f32 := broadcastInDim S2816x1024 ![] bcast_S_S2816x1024 main_cst_0
  let main_v6 : IVec S2816x1024 1 := cmpf .olt main_v4 main_v5
  let main_v7 : FVec F S4096x1024 .f32 := Host.absf main_arg2
  let main_cst_1 : FVec F S_ .f32 := constant S_ .f32 0x7F800000#32
  let main_v8 : FVec F S4096x1024 .f32 := broadcastInDim S4096x1024 ![] bcast_S_S4096x1024 main_cst_1
  let main_v9 : IVec S4096x1024 1 := cmpf .olt main_v7 main_v8
  let main_v10 : FVec F S4096x1024 .f32 := Host.absf main_arg3
  let main_cst_2 : FVec F S_ .f32 := constant S_ .f32 0x7F800000#32
  let main_v11 : FVec F S4096x1024 .f32 := broadcastInDim S4096x1024 ![] bcast_S_S4096x1024 main_cst_2
  let main_v12 : IVec S4096x1024 1 := cmpf .olt main_v10 main_v11
  let main_v13 : FVec F S1024 .f32 := Host.absf main_arg4
  let main_cst_3 : FVec F S_ .f32 := constant S_ .f32 0x7F800000#32
  let main_v14 : FVec F S1024 .f32 := broadcastInDim S1024 ![] bcast_S_S1024 main_cst_3
  let main_v15 : IVec S1024 1 := cmpf .olt main_v13 main_v14
  (main_v3, main_v6, main_v9, main_v12, main_v15)
-- ==== Pre_finite_outproj.lean ====
abbrev S4096x1024 : Shape := ⟨2, ![4096, 1024]⟩
abbrev S1024x1024 : Shape := ⟨2, ![1024, 1024]⟩
abbrev S4096x512 : Shape := ⟨2, ![4096, 512]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  bcast_S_S1024x1024 : S_.BroadcastsInDim S1024x1024 (![] : Fin 0 → Fin S1024x1024.rank)
  bcast_S_S4096x512 : S_.BroadcastsInDim S4096x512 (![] : Fin 0 → Fin S4096x512.rank)

variable [Facts]

def fn {F : FTy → Type} [FloatOps F] (main_arg0 : FVec F S4096x1024 .bf16) (main_arg1 : FVec F S1024x1024 .f32) (main_arg2 : FVec F S4096x512 .f32) : IVec S4096x1024 1 × IVec S1024x1024 1 × IVec S4096x512 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_v7 : FVec F S4096x512 .f32 := Host.absf main_arg2
  let main_cst_1 : FVec F S_ .f32 := constant S_ .f32 0x7F800000#32
  let main_v8 : FVec F S4096x512 .f32 := broadcastInDim S4096x512 ![] bcast_S_S4096x512 main_cst_1
  let main_v9 : IVec S4096x512 1 := cmpf .olt main_v7 main_v8
  (main_v3, main_v6, main_v9)
-- ==== Pre_finite_qnorm.lean ====
abbrev S4096x8x96 : Shape := ⟨3, ![4096, 8, 96]⟩
abbrev S384x768 : Shape := ⟨2, ![384, 768]⟩
abbrev S4096x384 : Shape := ⟨2, ![4096, 384]⟩
abbrev S384 : Shape := ⟨1, ![384]⟩
abbrev S_ : Shape := ⟨0, ![]⟩

class Facts : Prop where
  bcast_S_S4096x8x96 : S_.BroadcastsInDim S4096x8x96 (![] : Fin 0 → Fin S4096x8x96.rank)
  bcast_S_S384x768 : S_.BroadcastsInDim S384x768 (![] : Fin 0 → Fin S384x768.rank)
  bitsLt_bf16_f32 : FTy.bits .bf16 < FTy.bits .f32
  bcast_S_S4096x384 : S_.BroadcastsInDim S4096x384 (![] : Fin 0 → Fin S4096x384.rank)
  bcast_S_S384 : S_.BroadcastsInDim S384 (![] : Fin 0 → Fin S384.rank)

variable [Facts]

def fn {F : FTy → Type} [FloatOps F] (main_arg0 : FVec F S4096x8x96 .f32) (main_arg1 : FVec F S384x768 .f32) (main_arg2 : FVec F S4096x384 .bf16) (main_arg3 : FVec F S384 .f32) : IVec S4096x8x96 1 × IVec S384x768 1 × IVec S4096x384 1 × IVec S384 1 :=
  let main_v0 : FVec F S4096x8x96 .f32 := Host.absf main_arg0
  let main_cst : FVec F S_ .f32 := constant S_ .f32 0x7F800000#32
  let main_v1 : FVec F S4096x8x96 .f32 := broadcastInDim S4096x8x96 ![] bcast_S_S4096x8x96 main_cst
  let main_v2 : IVec S4096x8x96 1 := cmpf .olt main_v0 main_v1
  let main_v3 : FVec F S384x768 .f32 := Host.absf main_arg1
  let main_cst_0 : FVec F S_ .f32 := constant S_ .f32 0x7F800000#32
  let main_v4 : FVec F S384x768 .f32 := broadcastInDim S384x768 ![] bcast_S_S384x768 main_cst_0
  let main_v5 : IVec S384x768 1 := cmpf .olt main_v3 main_v4
  let main_v6 : FVec F S4096x384 .f32 := (extf .f32 · bitsLt_bf16_f32) main_arg2
  let main_v7 : FVec F S4096x384 .f32 := Host.absf main_v6
  let main_cst_1 : FVec F S_ .f32 := constant S_ .f32 0x7F800000#32
  let main_v8 : FVec F S4096x384 .f32 := broadcastInDim S4096x384 ![] bcast_S_S4096x384 main_cst_1
  let main_v9 : IVec S4096x384 1 := cmpf .olt main_v7 main_v8
  let main_v10 : FVec F S384 .f32 := Host.absf main_arg3
  let main_cst_2 : FVec F S_ .f32 := constant S_ .f32 0x7F800000#32
  let main_v11 : FVec F S384 .f32 := broadcastInDim S384 ![] bcast_S_S384 main_cst_2
  let main_v12 : IVec S384 1 := cmpf .olt main_v10 main_v11
  (main_v2, main_v5, main_v9, main_v12)
-- ==== Pre_finite_swiglu.lean ====
abbrev S4096x1024 : Shape := ⟨2, ![4096, 1024]⟩
abbrev S2816x1024 : Shape := ⟨2, ![2816, 1024]⟩
abbrev S4096x2816 : Shape := ⟨2, ![4096, 2816]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  bcast_S_S2816x1024 : S_.BroadcastsInDim S2816x1024 (![] : Fin 0 → Fin S2816x1024.rank)
  bcast_S_S4096x2816 : S_.BroadcastsInDim S4096x2816 (![] : Fin 0 → Fin S4096x2816.rank)

variable [Facts]

def fn {F : FTy → Type} [FloatOps F] (main_arg0 : FVec F S4096x1024 .bf16) (main_arg1 : FVec F S2816x1024 .bf16) (main_arg2 : FVec F S4096x2816 .bf16) (main_arg3 : FVec F S4096x2816 .bf16) : IVec S4096x1024 1 × IVec S2816x1024 1 × IVec S4096x2816 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S2816x1024 .f32 := (extf .f32 · bitsLt_bf16_f32) main_arg1
  let main_v5 : FVec F S2816x1024 .f32 := Host.absf main_v4
  let main_cst_0 : FVec F S_ .f32 := constant S_ .f32 0x7F800000#32
  let main_v6 : FVec F S2816x1024 .f32 := broadcastInDim S2816x1024 ![] bcast_S_S2816x1024 main_cst_0
  let main_v7 : IVec S2816x1024 1 := cmpf .olt main_v5 main_v6
  let main_v8 : FVec F S4096x2816 .f32 := (extf .f32 · bitsLt_bf16_f32) main_arg3
  let main_v9 : FVec F S4096x2816 .f32 := Host.absf main_v8
  let main_cst_1 : FVec F S_ .f32 := constant S_ .f32 0x7F800000#32
  let main_v10 : FVec F S4096x2816 .f32 := broadcastInDim S4096x2816 ![] bcast_S_S4096x2816 main_cst_1
  let main_v11 : IVec S4096x2816 1 := cmpf .olt main_v9 main_v10
  (main_v3, main_v7, main_v11)
-- ==== Swiglu.lean ====
abbrev S4096x1024 : Shape := ⟨2, ![4096, 1024]⟩
abbrev S2816x1024 : Shape := ⟨2, ![2816, 1024]⟩
abbrev S4096x2816 : Shape := ⟨2, ![4096, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 6
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .bf16⟩
  | .hbm, ⟨3, _⟩ => ⟨S4096x2816, .bf16⟩
  | .hbm, ⟨4, _⟩ => ⟨S4096x2816, .bf16⟩
  | .hbm, ⟨5, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== SwigluRefIdeal.lean ====
abbrev S4096x1024 : Shape := ⟨2, ![4096, 1024]⟩
abbrev S2816x1024 : Shape := ⟨2, ![2816, 1024]⟩
abbrev S4096x2816 : Shape := ⟨2, ![4096, 2816]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .bf16⟩
  | .hbm, ⟨3, _⟩ => ⟨S4096x2816, .bf16⟩
  | .hbm, ⟨4, _⟩ => ⟨S4096x2816, .f32⟩
  | .hbm, ⟨5, _⟩ => ⟨S4096x2816, .f32⟩
  | .hbm, ⟨6, _⟩ => ⟨S2816x1024, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x1024, .f32⟩
  | .hbm, ⟨22, _⟩ => ⟨S4096x1024, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .bf16⟩
  | .hbm, ⟨31, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== Attn.lean ====
abbrev S4096x8x64 : Shape := ⟨3, ![4096, 8, 64]⟩
abbrev S4096x8x32 : Shape := ⟨3, ![4096, 8, 32]⟩
abbrev S4096x32 : Shape := ⟨2, ![4096, 32]⟩
abbrev S4096x512 : Shape := ⟨2, ![4096, 512]⟩
abbrev S8x4096x4096 : Shape := ⟨3, ![8, 4096, 4096]⟩
abbrev S4096x4096x8 : Shape := ⟨3, ![4096, 4096, 8]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S4096x8 : Shape := ⟨2, ![4096, 8]⟩
abbrev S4096x8x1 : Shape := ⟨3, ![4096, 8, 1]⟩
abbrev S8x64x4096 : Shape := ⟨3, ![8, 64, 4096]⟩
abbrev S4096x1x32 : Shape := ⟨3, ![4096, 1, 32]⟩
abbrev S4096x8x30 : Shape := ⟨3, ![4096, 8, 30]⟩
abbrev S4096x8x128 : Shape := ⟨3, ![4096, 8, 128]⟩
abbrev S4096x1024 : Shape := ⟨2, ![4096, 1024]⟩
abbrev S4096x8x2 : Shape := ⟨3, ![4096, 8, 2]⟩
abbrev S4096x8x62 : Shape := ⟨3, ![4096, 8, 62]⟩
abbrev S512x512 : Shape := ⟨2, ![512, 512]⟩
abbrev S512x128 : Shape := ⟨2, ![512, 128]⟩

abbrev nBuf : Space → Nat
  | .hbm => 148
  | .vmem => 14
  | .smem => 0
  | _ => 0

abbrev hbmTy0_0 (i : Nat) : BufTy := match i % 128 with
  | 0 => ⟨S4096x8x64, .f32⟩
  | 1 => ⟨S4096x8x32, .f32⟩
  | 2 => ⟨S4096x8x64, .f32⟩
  | 3 => ⟨S4096x32, .f32⟩
  | 4 => ⟨S4096x8x64, .f32⟩
  | 5 => ⟨S4096x512, .f32⟩
  | 6 => ⟨S8x4096x4096, .f32⟩
  | 7 => ⟨S4096x4096x8, .f32⟩
  | 8 => ⟨S8x4096x4096, .f32⟩
  | 9 => ⟨S8x4096x4096, .f32⟩
  | 10 => ⟨S_, .f32⟩
  | 11 => ⟨S8x4096x4096, .f32⟩
  | 12 => ⟨S8x4096x4096, .f32⟩
  | 13 => ⟨S4096, .i32⟩
  | 14 => ⟨S1x4096, .i32⟩
  | 15 => ⟨S4096x1, .i32⟩
  | 16 => ⟨S4096x4096, .i32⟩
  | 17 => ⟨S4096x4096, .i32⟩
  | 18 => ⟨S4096x4096, .i1⟩
  | 19 => ⟨S_, .f32⟩
  | 20 => ⟨S_, .f32⟩
  | 21 => ⟨S8x4096x4096, .i1⟩
  | 22 => ⟨S8x4096x4096, .f32⟩
  | 23 => ⟨S8x4096x4096, .f32⟩
  | 24 => ⟨S_, .f32⟩
  | 25 => ⟨S8x4096, .f32⟩
  | 26 => ⟨S8x4096x1, .f32⟩
  | 27 => ⟨S8x4096x4096, .f32⟩
  | 28 => ⟨S8x4096x4096, .f32⟩
  | 29 => ⟨S8x4096x4096, .f32⟩
  | 30 => ⟨S_, .f32⟩
  | 31 => ⟨S8x4096, .f32⟩
  | 32 => ⟨S8x4096x1, .f32⟩
  | 33 => ⟨S8x4096x1, .f32⟩
  | 34 => ⟨S8x4096x1, .f32⟩
  | 35 => ⟨S8x4096, .f32⟩
  | 36 => ⟨S4096x8, .f32⟩
  | 37 => ⟨S4096x8x1, .f32⟩
  | 38 => ⟨S8x4096x4096, .f32⟩
  | 39 => ⟨S4096x4096x8, .f32⟩
  | 40 => ⟨S8x4096x4096, .f32⟩
  | 41 => ⟨S8x4096x4096, .f32⟩
  | 42 => ⟨S_, .f32⟩
  | 43 => ⟨S8x4096x4096, .f32⟩
  | 44 => ⟨S8x4096x4096, .f32⟩
  | 45 => ⟨S4096, .i32⟩
  | 46 => ⟨S1x4096, .i32⟩
  | 47 => ⟨S4096x1, .i32⟩
  | 48 => ⟨S4096x4096, .i32⟩
  | 49 => ⟨S4096x4096, .i32⟩
  | 50 => ⟨S4096x4096, .i1⟩
  | 51 => ⟨S_, .f32⟩
  | 52 => ⟨S_, .f32⟩
  | 53 => ⟨S8x4096x4096, .i1⟩
  | 54 => ⟨S8x4096x4096, .f32⟩
  | 55 => ⟨S8x4096x4096, .f32⟩
  | 56 => ⟨S_, .f32⟩
  | 57 => ⟨S8x4096, .f32⟩
  | 58 => ⟨S_, .f32⟩
  | 59 => ⟨S8x4096, .f32⟩
  | 60 => ⟨S8x4096, .f32⟩
  | 61 => ⟨S8x4096x1, .f32⟩
  | 62 => ⟨S8x4096x4096, .f32⟩
  | 63 => ⟨S8x4096x4096, .f32⟩
  | 64 => ⟨S8x4096x4096, .f32⟩
  | 65 => ⟨S_, .f32⟩
  | 66 => ⟨S8x4096, .f32⟩
  | 67 => ⟨S8x4096x1, .f32⟩
  | 68 => ⟨S8x4096x4096, .f32⟩
  | 69 => ⟨S8x4096x4096, .f32⟩
  | 70 => ⟨S8x64x4096, .f32⟩
  | 71 => ⟨S4096x8x64, .f32⟩
  | 72 => ⟨S4096x512, .f32⟩
  | 73 => ⟨S4096x8x64, .f32⟩
  | 74 => ⟨S4096x8x64, .f32⟩
  | 75 => ⟨S4096x8x64, .f32⟩
  | 76 => ⟨S_, .f32⟩
  | 77 => ⟨S4096x8, .f32⟩
  | 78 => ⟨S4096x8x1, .f32⟩
  | 79 => ⟨S4096x1x32, .f32⟩
  | 80 => ⟨S4096x8x32, .f32⟩
  | 81 => ⟨S_, .f32⟩
  | 82 => ⟨S4096x8x64, .f32⟩
  | 83 => ⟨S4096x8x64, .f32⟩
  | 84 => ⟨S_, .f32⟩
  | 85 => ⟨S4096x8x32, .f32⟩
  | 86 => ⟨S4096x8x32, .f32⟩
  | 87 => ⟨S4096x8x1, .f32⟩
  | 88 => ⟨S4096x8x1, .bf16⟩
  | 89 => ⟨S4096x8x1, .f32⟩
  | 90 => ⟨S4096x8x1, .f32⟩
  | 91 => ⟨S4096x8x1, .bf16⟩
  | 92 => ⟨S_, .f32⟩
  | 93 => ⟨S4096x8x30, .f32⟩
  | 94 => ⟨S4096x8x64, .bf16⟩
  | 95 => ⟨S4096x8x32, .bf16⟩
  | 96 => ⟨S4096x8x30, .bf16⟩
  | 97 => ⟨S4096x8x128, .bf16⟩
  | 98 => ⟨S4096x1024, .bf16⟩
  | 99 => ⟨S_, .f32⟩
  | 100 => ⟨S4096x8x2, .f32⟩
  | 101 => ⟨S_, .f32⟩
  | 102 => ⟨S4096x8x30, .f32⟩
  | 103 => ⟨S4096x8x64, .bf16⟩
  | 104 => ⟨S4096x8x32, .bf16⟩
  | 105 => ⟨S4096x8x2, .bf16⟩
  | 106 => ⟨S4096x8x30, .bf16⟩
  | 107 => ⟨S4096x8x128, .bf16⟩
  | 108 => ⟨S4096x1024, .bf16⟩
  | 109 => ⟨S_, .f32⟩
  | 110 => ⟨S4096x8x2, .f32⟩
  | 111 => ⟨S_, .f32⟩
  | 112 => ⟨S4096x8x62, .f32⟩
  | 113 => ⟨S4096x8x64, .bf16⟩
  | 114 => ⟨S4096x8x2, .bf16⟩
  | 115 => ⟨S4096x8x62, .bf16⟩
  | 116 => ⟨S4096x8x128, .bf16⟩
  | 117 => ⟨S4096x1024, .bf16⟩
  | 118 => ⟨S4096x8x64, .f32⟩
  | 119 => ⟨S4096x8x1, .f32⟩
  | 120 => ⟨S4096x8x1, .bf16⟩
  | 121 => ⟨S4096x8x1, .f32⟩
  | 122 => ⟨S4096x8x1, .f32⟩
  | 123 => ⟨S4096x8x1, .bf16⟩
  | 124 => ⟨S_, .f32⟩
  | 125 => ⟨S4096x8x62, .f32⟩
  | 126 => ⟨S4096x8x64, .bf16⟩
  | 127 => ⟨S4096x8x62, .bf16⟩
  | _ => ⟨S4096x8x64, .f32⟩

abbrev hbmTy0_1 (i : Nat) : BufTy := match i % 128 with
  | 0 => ⟨S4096x8x128, .bf16⟩
  | 1 => ⟨S4096x1024, .bf16⟩
  | 2 => ⟨S4096x1024, .f32⟩
  | 3 => ⟨S4096x1024, .bf16⟩
  | 4 => ⟨S4096x1024, .bf16⟩
  | 5 => ⟨S4096x8x128, .f32⟩
  | 6 => ⟨S_, .f32⟩
  | 7 => ⟨S4096x8x128, .f32⟩
  | 8 => ⟨S4096x8x128, .f32⟩
  | 9 => ⟨S4096x8x128, .bf16⟩
  | 10 => ⟨S4096x8x128, .f32⟩
  | 11 => ⟨S4096x8x128, .bf16⟩
  | 12 => ⟨S4096x8x128, .f32⟩
  | 13 => ⟨S4096x8x64, .f32⟩
  | 14 => ⟨S4096x8x32, .f32⟩
  | 15 => ⟨S4096x8x64, .f32⟩
  | 16 => ⟨S4096x8x32, .f32⟩
  | 17 => ⟨S_, .f32⟩
  | 18 => ⟨S4096x32, .f32⟩
  | 19 => ⟨S4096x8x64, .f32⟩
  | _ => ⟨S4096x8x64, .f32⟩

abbrev hbmTy (i : Nat) : BufTy := match i / 128 with
  | 0 => hbmTy0_0 i
  | 1 => hbmTy0_1 i
  | _ => ⟨S4096x8x64, .f32⟩

abbrev bufTy : (tb : Table) → Fin (tcTables nBuf tb) → BufTy
  | .hbm, ⟨i, _⟩ => hbmTy i
  | .local _ .vmem, ⟨0, _⟩ => ⟨S4096x512, .bf16⟩
  | .local _ .vmem, ⟨1, _⟩ => ⟨S4096x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S4096x512, .bf16⟩
  | .local _ .vmem, ⟨7, _⟩ => ⟨S4096x512, .bf16⟩
  | .local _ .vmem, ⟨8, _⟩ => ⟨S4096x512, .f32⟩
  | .local _ .vmem, ⟨9, _⟩ => ⟨S4096x512, .f32⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | _, _ => ⟨S4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_4 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v37 : Ref sig .tc := ⟨.hbm, 55, rfl⟩
abbrev main_cst_5 : Ref sig .tc := ⟨.hbm, 56, rfl⟩
abbrev main_v38 : Ref sig .tc := ⟨.hbm, 57, rfl⟩
abbrev main_cst_6 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_7 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_8 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_9 : Ref sig .tc := ⟨.hbm, 81, rfl⟩
abbrev main_v59 : Ref sig .tc := ⟨.hbm, 82, rfl⟩
abbrev main_v60 : Ref sig .tc := ⟨.hbm, 83, rfl⟩
abbrev main_cst_10 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_11 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_12 : Ref sig .tc := ⟨.hbm, 99, rfl⟩
abbrev main_v74 : Ref sig .tc := ⟨.hbm, 100, rfl⟩
abbrev main_cst_13 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_14 : Ref sig .tc := ⟨.hbm, 109, rfl⟩
abbrev main_v82 : Ref sig .tc := ⟨.hbm, 110, rfl⟩
abbrev main_cst_15 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_cst_16 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100_0 : Ref sig .tc := ⟨.hbm, 130, rfl⟩
abbrev main_v100_1 : Ref sig .tc := ⟨.hbm, 131, rfl⟩
abbrev main_v100_2 : Ref sig .tc := ⟨.hbm, 132, rfl⟩
abbrev main_v101 : Ref sig .tc := ⟨.hbm, 133, rfl⟩
abbrev main_cst_17 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_cst_18 : Ref sig .tc := ⟨.hbm, 145, rfl⟩
abbrev main_v112 : Ref sig .tc := ⟨.hbm, 146, rfl⟩
abbrev main_v113 : Ref sig .tc := ⟨.hbm, 147, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 8], ![false, false]⟩

def k0_mult1 (i : grid0.Coords) : BitVec 32 :=
  let arg1 : BitVec 32 := BitVec.ofNat 32 (i 1).val
  let c512_i32_8 : BitVec 32 := 512#32
  let v16 : BitVec 32 := Scalar.muli arg1 c512_i32_8
  v16
def k0_off1 (i : grid0.Coords) : Fin 2 → Nat :=
  let arg1 : BitVec 32 := BitVec.ofNat 32 (i 1).val
  let c512_i32_8 : BitVec 32 := 512#32
  let v16 : BitVec 32 := Scalar.muli arg1 c512_i32_8
  let v17 : BitVec 32 := v16
  let v22 : Index := Scalar.indexCast v17
  let c0_12 : Index := 0#32
  ![v22.toNat, 0]
def k0_off2 (i : grid0.Coords) : Fin 2 → Nat :=
  let arg1 : BitVec 32 := BitVec.ofNat 32 (i 1).val
  let c512_i32_8 : BitVec 32 := 512#32
  let v16 : BitVec 32 := Scalar.muli arg1 c512_i32_8
  let v17 : BitVec 32 := v16
  let v55 : Index := Scalar.indexCast v17
  let c128_26 : Index := 128#32
  ![v55.toNat, 128]
def k0_off3 (i : grid0.Coords) : Fin 2 → Nat :=
  let arg1 : BitVec 32 := BitVec.ofNat 32 (i 1).val
  let c512_i32_8 : BitVec 32 := 512#32
  let v16 : BitVec 32 := Scalar.muli arg1 c512_i32_8
  let v17 : BitVec 32 := v16
  let v88 : Index := Scalar.indexCast v17
  let c256_40 : Index := 256#32
  ![v88.toNat, 256]
def k0_off4 (i : grid0.Coords) : Fin 2 → Nat :=
  let arg1 : BitVec 32 := BitVec.ofNat 32 (i 1).val
  let c512_i32_8 : BitVec 32 := 512#32
  let v16 : BitVec 32 := Scalar.muli arg1 c512_i32_8
  let v17 : BitVec 32 := v16
  let v121 : Index := Scalar.indexCast v17
  let c384_54 : Index := 384#32
  ![v121.toNat, 384]
@[reducible] def k0_t1_loop (i : grid0.Coords) : Scf.Loop 32 :=
  let arg1 : BitVec 32 := BitVec.ofNat 32 (i 1).val
  let c1_i32 : BitVec 32 := 1#32
  let v150 : BitVec 32 := Scalar.addi arg1 c1_i32
  let c8_i32 : BitVec 32 := 8#32
  let v151 : BitVec 32 := Scalar.subi c8_i32 v150
  let c1_i32_65 : BitVec 32 := 1#32
  let v153 : BitVec 32 := Scalar.divsi v151 c1_i32_65
  let v154 : BitVec 32 := Scalar.muli v153 c1_i32_65
  let v155 : BitVec 32 := Scalar.addi v150 v154
  let c1_i32_66 : BitVec 32 := 1#32
  ⟨v150, v155, c1_i32_66⟩
def k0_mult2 (i : grid0.Coords) (k0_t1 : Fin (k0_t1_loop i).trips) : BitVec 32 :=
  let arg1 : BitVec 32 := BitVec.ofNat 32 (i 1).val
  let c1_i32 : BitVec 32 := 1#32
  let v150 : BitVec 32 := Scalar.addi arg1 c1_i32
  let c1_i32_66 : BitVec 32 := 1#32
  let arg9 : BitVec 32 := Scf.iv v150 c1_i32_66 k0_t1
  let c512_i32_84 : BitVec 32 := 512#32
  let v174 : BitVec 32 := Scalar.muli arg9 c512_i32_84
  v174
def k0_off5 (i : grid0.Coords) (k0_t1 : Fin (k0_t1_loop i).trips) : Fin 2 → Nat :=
  let arg1 : BitVec 32 := BitVec.ofNat 32 (i 1).val
  let c1_i32 : BitVec 32 := 1#32
  let v150 : BitVec 32 := Scalar.addi arg1 c1_i32
  let c1_i32_66 : BitVec 32 := 1#32
  let arg9 : BitVec 32 := Scf.iv v150 c1_i32_66 k0_t1
  let c512_i32_84 : BitVec 32 := 512#32
  let v174 : BitVec 32 := Scalar.muli arg9 c512_i32_84
  let v175 : BitVec 32 := v174
  let v180 : Index := Scalar.indexCast v175
  let c0_89 : Index := 0#32
  ![v180.toNat, 0]
def k0_off6 (i : grid0.Coords) (k0_t1 : Fin (k0_t1_loop i).trips) : Fin 2 → Nat :=
  let arg1 : BitVec 32 := BitVec.ofNat 32 (i 1).val
  let c1_i32 : BitVec 32 := 1#32
  let v150 : BitVec 32 := Scalar.addi arg1 c1_i32
  let c1_i32_66 : BitVec 32 := 1#32
  let arg9 : BitVec 32 := Scf.iv v150 c1_i32_66 k0_t1
  let c512_i32_84 : BitVec 32 := 512#32
  let v174 : BitVec 32 := Scalar.muli arg9 c512_i32_84
  let v175 : BitVec 32 := v174
  let v207 : Index := Scalar.indexCast v175
  let c128_102 : Index := 128#32
  ![v207.toNat, 128]
def k0_off7 (i : grid0.Coords) (k0_t1 : Fin (k0_t1_loop i).trips) : Fin 2 → Nat :=
  let arg1 : BitVec 32 := BitVec.ofNat 32 (i 1).val
  let c1_i32 : BitVec 32 := 1#32
  let v150 : BitVec 32 := Scalar.addi arg1 c1_i32
  let c1_i32_66 : BitVec 32 := 1#32
  let arg9 : BitVec 32 := Scf.iv v150 c1_i32_66 k0_t1
  let c512_i32_84 : BitVec 32 := 512#32
  let v174 : BitVec 32 := Scalar.muli arg9 c512_i32_84
  let v175 : BitVec 32 := v174
  let v234 : Index := Scalar.indexCast v175
  let c256_115 : Index := 256#32
  ![v234.toNat, 256]
def k0_off8 (i : grid0.Coords) (k0_t1 : Fin (k0_t1_loop i).trips) : Fin 2 → Nat :=
  let arg1 : BitVec 32 := BitVec.ofNat 32 (i 1).val
  let c1_i32 : BitVec 32 := 1#32
  let v150 : BitVec 32 := Scalar.addi arg1 c1_i32
  let c1_i32_66 : BitVec 32 := 1#32
  let arg9 : BitVec 32 := Scf.iv v150 c1_i32_66 k0_t1
  let c512_i32_84 : BitVec 32 := 512#32
  let v174 : BitVec 32 := Scalar.muli arg9 c512_i32_84
  let v175 : BitVec 32 := v174
  let v261 : Index := Scalar.indexCast v175
  let c384_128 : Index := 384#32
  ![v261.toNat, 384]
@[reducible] def k0_t2_loop (i : grid0.Coords) : Scf.Loop 32 :=
  let arg1 : BitVec 32 := BitVec.ofNat 32 (i 1).val
  let c1_i32 : BitVec 32 := 1#32
  let v150 : BitVec 32 := Scalar.addi arg1 c1_i32
  let c8_i32 : BitVec 32 := 8#32
  let v151 : BitVec 32 := Scalar.subi c8_i32 v150
  let c1_i32_65 : BitVec 32 := 1#32
  let v153 : BitVec 32 := Scalar.divsi v151 c1_i32_65
  let v154 : BitVec 32 := Scalar.muli v153 c1_i32_65
  let v155 : BitVec 32 := Scalar.addi v150 v154
  let v152 : BitVec 32 := Scalar.addi v150 v151
  let c1_i32_67 : BitVec 32 := 1#32
  ⟨v155, v152, c1_i32_67⟩
def k0_mult3 (i : grid0.Coords) (k0_t2 : Fin (k0_t2_loop i).trips) : BitVec 32 :=
  let arg1 : BitVec 32 := BitVec.ofNat 32 (i 1).val
  let c1_i32 : BitVec 32 := 1#32
  let v150 : BitVec 32 := Scalar.addi arg1 c1_i32
  let c8_i32 : BitVec 32 := 8#32
  let v151 : BitVec 32 := Scalar.subi c8_i32 v150
  let c1_i32_65 : BitVec 32 := 1#32
  let v153 : BitVec 32 := Scalar.divsi v151 c1_i32_65
  let v154 : BitVec 32 := Scalar.muli v153 c1_i32_65
  let v155 : BitVec 32 := Scalar.addi v150 v154
  let c1_i32_67 : BitVec 32 := 1#32
  let arg9 : BitVec 32 := Scf.iv v155 c1_i32_67 k0_t2
  let c512_i32_84 : BitVec 32 := 512#32
  let v174 : BitVec 32 := Scalar.muli arg9 c512_i32_84
  v174
def k0_off9 (i : grid0.Coords) (k0_t2 : Fin (k0_t2_loop i).trips) : Fin 2 → Nat :=
  let arg1 : BitVec 32 := BitVec.ofNat 32 (i 1).val
  let c1_i32 : BitVec 32 := 1#32
  let v150 : BitVec 32 := Scalar.addi arg1 c1_i32
  let c8_i32 : BitVec 32 := 8#32
  let v151 : BitVec 32 := Scalar.subi c8_i32 v150
  let c1_i32_65 : BitVec 32 := 1#32
  let v153 : BitVec 32 := Scalar.divsi v151 c1_i32_65
  let v154 : BitVec 32 := Scalar.muli v153 c1_i32_65
  let v155 : BitVec 32 := Scalar.addi v150 v154
  let c1_i32_67 : BitVec 32 := 1#32
  let arg9 : BitVec 32 := Scf.iv v155 c1_i32_67 k0_t2
  let c512_i32_84 : BitVec 32 := 512#32
  let v174 : BitVec 32 := Scalar.muli arg9 c512_i32_84
  let v175 : BitVec 32 := v174
  let v180 : Index := Scalar.indexCast v175
  let c0_89 : Index := 0#32
  ![v180.toNat, 0]
def k0_off10 (i : grid0.Coords) (k0_t2 : Fin (k0_t2_loop i).trips) : Fin 2 → Nat :=
  let arg1 : BitVec 32 := BitVec.ofNat 32 (i 1).val
  let c1_i32 : BitVec 32 := 1#32
  let v150 : BitVec 32 := Scalar.addi arg1 c1_i32
  let c8_i32 : BitVec 32 := 8#32
  let v151 : BitVec 32 := Scalar.subi c8_i32 v150
  let c1_i32_65 : BitVec 32 := 1#32
  let v153 : BitVec 32 := Scalar.divsi v151 c1_i32_65
  let v154 : BitVec 32 := Scalar.muli v153 c1_i32_65
  let v155 : BitVec 32 := Scalar.addi v150 v154
  let c1_i32_67 : BitVec 32 := 1#32
  let arg9 : BitVec 32 := Scf.iv v155 c1_i32_67 k0_t2
  let c512_i32_84 : BitVec 32 := 512#32
  let v174 : BitVec 32 := Scalar.muli arg9 c512_i32_84
  let v175 : BitVec 32 := v174
  let v207 : Index := Scalar.indexCast v175
  let c128_102 : Index := 128#32
  ![v207.toNat, 128]
def k0_off11 (i : grid0.Coords) (k0_t2 : Fin (k0_t2_loop i).trips) : Fin 2 → Nat :=
  let arg1 : BitVec 32 := BitVec.ofNat 32 (i 1).val
  let c1_i32 : BitVec 32 := 1#32
  let v150 : BitVec 32 := Scalar.addi arg1 c1_i32
  let c8_i32 : BitVec 32 := 8#32
  let v151 : BitVec 32 := Scalar.subi c8_i32 v150
  let c1_i32_65 : BitVec 32 := 1#32
  let v153 : BitVec 32 := Scalar.divsi v151 c1_i32_65
  let v154 : BitVec 32 := Scalar.muli v153 c1_i32_65
  let v155 : BitVec 32 := Scalar.addi v150 v154
  let c1_i32_67 : BitVec 32 := 1#32
  let arg9 : BitVec 32 := Scf.iv v155 c1_i32_67 k0_t2
  let c512_i32_84 : BitVec 32 := 512#32
  let v174 : BitVec 32 := Scalar.muli arg9 c512_i32_84
  let v175 : BitVec 32 := v174
  let v234 : Index := Scalar.indexCast v175
  let c256_115 : Index := 256#32
  ![v234.toNat, 256]
def k0_off12 (i : grid0.Coords) (k0_t2 : Fin (k0_t2_loop i).trips) : Fin 2 → Nat :=
  let arg1 : BitVec 32 := BitVec.ofNat 32 (i 1).val
  let c1_i32 : BitVec 32 := 1#32
  let v150 : BitVec 32 := Scalar.addi arg1 c1_i32
  let c8_i32 : BitVec 32 := 8#32
  let v151 : BitVec 32 := Scalar.subi c8_i32 v150
  let c1_i32_65 : BitVec 32 := 1#32
  let v153 : BitVec 32 := Scalar.divsi v151 c1_i32_65
  let v154 : BitVec 32 := Scalar.muli v153 c1_i32_65
  let v155 : BitVec 32 := Scalar.addi v150 v154
  let c1_i32_67 : BitVec 32 := 1#32
  let arg9 : BitVec 32 := Scf.iv v155 c1_i32_67 k0_t2
  let c512_i32_84 : BitVec 32 := 512#32
  let v174 : BitVec 32 := Scalar.muli arg9 c512_i32_84
  let v175 : BitVec 32 := v174
  let v261 : Index := Scalar.indexCast v175
  let c384_128 : Index := 384#32
  ![v261.toNat, 384]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4096x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AttnRefIdeal.lean ====
abbrev S4096x8x64 : Shape := ⟨3, ![4096, 8, 64]⟩
abbrev S4096x8x32 : Shape := ⟨3, ![4096, 8, 32]⟩
abbrev S4096x32 : Shape := ⟨2, ![4096, 32]⟩
abbrev S4096x512 : Shape := ⟨2, ![4096, 512]⟩
abbrev S8x4096x4096 : Shape := ⟨3, ![8, 4096, 4096]⟩
abbrev S4096x4096x8 : Shape := ⟨3, ![4096, 4096, 8]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S8x64x4096 : Shape := ⟨3, ![8, 64, 4096]⟩
abbrev S8x4096x64 : Shape := ⟨3, ![8, 4096, 64]⟩

abbrev nBuf : Space → Nat
  | .hbm => 99
  | .vmem => 0
  | .smem => 0
  | _ => 0

abbrev bufTy : (tb : Table) → Fin (tcTables nBuf tb) → BufTy
  | .hbm, ⟨0, _⟩ => ⟨S4096x8x64, .f32⟩
  | .hbm, ⟨1, _⟩ => ⟨S4096x8x32, .f32⟩
  | .hbm, ⟨2, _⟩ => ⟨S4096x8x64, .f32⟩
  | .hbm, ⟨3, _⟩ => ⟨S4096x32, .f32⟩
  | .hbm, ⟨4, _⟩ => ⟨S4096x8x64, .f32⟩
  | .hbm, ⟨5, _⟩ => ⟨S4096x512, .f32⟩
  | .hbm, ⟨6, _⟩ => ⟨S8x4096x4096, .f32⟩
  | .hbm, ⟨7, _⟩ => ⟨S4096x4096x8, .f32⟩
  | .hbm, ⟨8, _⟩ => ⟨S8x4096x4096, .f32⟩
  | .hbm, ⟨9, _⟩ => ⟨S8x4096x4096, .f32⟩
  | .hbm, ⟨10, _⟩ => ⟨S_, .f32⟩
  | .hbm, ⟨11, _⟩ => ⟨S8x4096x4096, .f32⟩
  | .hbm, ⟨12, _⟩ => ⟨S8x4096x4096, .f32⟩
  | .hbm, ⟨13, _⟩ => ⟨S4096, .i32⟩
  | .hbm, ⟨14, _⟩ => ⟨S1x4096, .i32⟩
  | .hbm, ⟨15, _⟩ => ⟨S4096x1, .i32⟩
  | .hbm, ⟨16, _⟩ => ⟨S4096x4096, .i32⟩
  | .hbm, ⟨17, _⟩ => ⟨S4096x4096, .i32⟩
  | .hbm, ⟨18, _⟩ => ⟨S4096x4096, .i1⟩
  | .hbm, ⟨19, _⟩ => ⟨S_, .f32⟩
  | .hbm, ⟨20, _⟩ => ⟨S_, .f32⟩
  | .hbm, ⟨21, _⟩ => ⟨S8x4096x4096, .i1⟩
  | .hbm, ⟨22, _⟩ => ⟨S8x4096x4096, .f32⟩
  | .hbm, ⟨23, _⟩ => ⟨S8x4096x4096, .f32⟩
  | .hbm, ⟨24, _⟩ => ⟨S_, .f32⟩
  | .hbm, ⟨25, _⟩ => ⟨S8x4096x4096, .f32⟩
  | .hbm, ⟨26, _⟩ => ⟨S_, .f32⟩
  | .hbm, ⟨27, _⟩ => ⟨S8x4096, .f32⟩
  | .hbm, ⟨28, _⟩ => ⟨S8x4096x1, .f32⟩
  | .hbm, ⟨29, _⟩ => ⟨S8x4096x4096, .f32⟩
  | .hbm, ⟨30, _⟩ => ⟨S8x4096x4096, .i1⟩
  | .hbm, ⟨31, _⟩ => ⟨S8x4096x4096, .f32⟩
  | .hbm, ⟨32, _⟩ => ⟨S_, .f32⟩
  | .hbm, ⟨33, _⟩ => ⟨S8x4096, .f32⟩
  | .hbm, ⟨34, _⟩ => ⟨S_, .f32⟩
  | .hbm, ⟨35, _⟩ => ⟨S8x4096, .f32⟩
  | .hbm, ⟨36, _⟩ => ⟨S8x4096, .f32⟩
  | .hbm, ⟨37, _⟩ => ⟨S_, .f32⟩
  | .hbm, ⟨38, _⟩ => ⟨S8x4096, .f32⟩
  | .hbm, ⟨39, _⟩ => ⟨S8x4096, .i1⟩
  | .hbm, ⟨40, _⟩ => ⟨S_, .f32⟩
  | .hbm, ⟨41, _⟩ => ⟨S8x4096, .f32⟩
  | .hbm, ⟨42, _⟩ => ⟨S8x4096, .i1⟩
  | .hbm, ⟨43, _⟩ => ⟨S_, .f32⟩
  | .hbm, ⟨44, _⟩ => ⟨S8x4096, .f32⟩
  | .hbm, ⟨45, _⟩ => ⟨S_, .f32⟩
  | .hbm, ⟨46, _⟩ => ⟨S8x4096, .f32⟩
  | .hbm, ⟨47, _⟩ => ⟨S_, .f32⟩
  | .hbm, ⟨48, _⟩ => ⟨S8x4096, .f32⟩
  | .hbm, ⟨49, _⟩ => ⟨S8x4096, .f32⟩
  | .hbm, ⟨50, _⟩ => ⟨S8x4096, .f32⟩
  | .hbm, ⟨51, _⟩ => ⟨S8x4096x1, .f32⟩
  | .hbm, ⟨52, _⟩ => ⟨S8x4096x4096, .f32⟩
  | .hbm, ⟨53, _⟩ => ⟨S8x4096x4096, .f32⟩
  | .hbm, ⟨54, _⟩ => ⟨S8x4096x4096, .f32⟩
  | .hbm, ⟨55, _⟩ => ⟨S_, .f32⟩
  | .hbm, ⟨56, _⟩ => ⟨S8x4096, .f32⟩
  | .hbm, ⟨57, _⟩ => ⟨S8x4096x1, .f32⟩
  | .hbm, ⟨58, _⟩ => ⟨S8x4096x4096, .f32⟩
  | .hbm, ⟨59, _⟩ => ⟨S8x4096x4096, .f32⟩
  | .hbm, ⟨60, _⟩ => ⟨S8x4096x1, .f32⟩
  | .hbm, ⟨61, _⟩ => ⟨S_, .f32⟩
  | .hbm, ⟨62, _⟩ => ⟨S8x4096x1, .f32⟩
  | .hbm, ⟨63, _⟩ => ⟨S8x4096x1, .f32⟩
  | .hbm, ⟨64, _⟩ => ⟨S8x64x4096, .f32⟩
  | .hbm, ⟨65, _⟩ => ⟨S4096x8x64, .f32⟩
  | .hbm, ⟨66, _⟩ => ⟨S4096x512, .f32⟩
  | .hbm, ⟨67, _⟩ => ⟨S4096x8x64, .f32⟩
  | .hbm, ⟨68, _⟩ => ⟨S8x64x4096, .f32⟩
  | .hbm, ⟨69, _⟩ => ⟨S8x4096x4096, .f32⟩
  | .hbm, ⟨70, _⟩ => ⟨S8x64x4096, .f32⟩
  | .hbm, ⟨71, _⟩ => ⟨S4096x8x64, .f32⟩
  | .hbm, ⟨72, _⟩ => ⟨S8x4096x4096, .f32⟩
  | .hbm, ⟨73, _⟩ => ⟨S8x4096x4096, .f32⟩
  | .hbm, ⟨74, _⟩ => ⟨S8x4096x4096, .f32⟩
  | .hbm, ⟨75, _⟩ => ⟨S_, .f32⟩
  | .hbm, ⟨76, _⟩ => ⟨S8x4096, .f32⟩
  | .hbm, ⟨77, _⟩ => ⟨S8x4096x1, .f32⟩
  | .hbm, ⟨78, _⟩ => ⟨S8x4096x1, .f32⟩
  | .hbm, ⟨79, _⟩ => ⟨S8x4096x4096, .f32⟩
  | .hbm, ⟨80, _⟩ => ⟨S8x4096x4096, .f32⟩
  | .hbm, ⟨81, _⟩ => ⟨S_, .f32⟩
  | .hbm, ⟨82, _⟩ => ⟨S8x4096, .f32⟩
  | .hbm, ⟨83, _⟩ => ⟨S8x4096x4096, .f32⟩
  | .hbm, ⟨84, _⟩ => ⟨S8x4096x4096, .f32⟩
  | .hbm, ⟨85, _⟩ => ⟨S8x4096x4096, .f32⟩
  | .hbm, ⟨86, _⟩ => ⟨S_, .f32⟩
  | .hbm, ⟨87, _⟩ => ⟨S8x4096x4096, .f32⟩
  | .hbm, ⟨88, _⟩ => ⟨S8x4096x4096, .f32⟩
  | .hbm, ⟨89, _⟩ => ⟨S_, .f32⟩
  | .hbm, ⟨90, _⟩ => ⟨S8x4096x4096, .f32⟩
  | .hbm, ⟨91, _⟩ => ⟨S8x4096x4096, .f32⟩
  | .hbm, ⟨92, _⟩ => ⟨S4096x4096x8, .f32⟩
  | .hbm, ⟨93, _⟩ => ⟨S4096x8x32, .f32⟩
  | .hbm, ⟨94, _⟩ => ⟨S4096x32, .f32⟩
  | .hbm, ⟨95, _⟩ => ⟨S8x4096x64, .f32⟩
  | .hbm, ⟨96, _⟩ => ⟨S4096x8x64, .f32⟩
  | .hbm, ⟨97, _⟩ => ⟨S8x4096x64, .f32⟩
  | .hbm, ⟨98, _⟩ => ⟨S4096x8x64, .f32⟩
  | _, _ => ⟨S4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_call0_v0 : Ref sig .tc := ⟨.hbm, 20, rfl⟩
abbrev main_v12_1 : Ref sig .tc := ⟨.hbm, 21, rfl⟩
abbrev main_call0_v2 : Ref sig .tc := ⟨.hbm, 22, rfl⟩
abbrev main_v12_0 : Ref sig .tc := ⟨.hbm, 23, rfl⟩
abbrev main_call0_cst : Ref sig .tc := ⟨.hbm, 24, rfl⟩
abbrev main_v12_2 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_cst_4 : Ref sig .tc := ⟨.hbm, 37, rfl⟩
abbrev main_v21 : Ref sig .tc := ⟨.hbm, 38, rfl⟩
abbrev main_v22 : Ref sig .tc := ⟨.hbm, 39, rfl⟩
abbrev main_cst_5 : Ref sig .tc := ⟨.hbm, 40, rfl⟩
abbrev main_v23 : Ref sig .tc := ⟨.hbm, 41, rfl⟩
abbrev main_v24 : Ref sig .tc := ⟨.hbm, 42, rfl⟩
abbrev main_cst_6 : Ref sig .tc := ⟨.hbm, 43, rfl⟩
abbrev main_v25 : Ref sig .tc := ⟨.hbm, 44, rfl⟩
abbrev main_cst_7 : Ref sig .tc := ⟨.hbm, 45, rfl⟩
abbrev main_v26 : Ref sig .tc := ⟨.hbm, 46, rfl⟩
abbrev main_cst_8 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_9 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_10 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_12 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_call1_cst : Ref sig .tc := ⟨.hbm, 86, rfl⟩
abbrev main_call1_v0 : Ref sig .tc := ⟨.hbm, 87, rfl⟩
abbrev main_v61 : Ref sig .tc := ⟨.hbm, 88, rfl⟩
abbrev main_cst_13 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩

abbrev nD : Nat := 1
abbrev τ : Topo := Topo.v7x

variable {F : FTy → Type} [FloatOps F]
-- ==== FfNorm.lean ====
abbrev S4096x2816 : Shape := ⟨2, ![4096, 2816]⟩
abbrev S1024x2816 : Shape := ⟨2, ![1024, 2816]⟩
abbrev S4096x1024 : Shape := ⟨2, ![4096, 1024]⟩
abbrev S1024 : Shape := ⟨1, ![1024]⟩
abbrev S2816x1024 : Shape := ⟨2, ![2816, 1024]⟩
abbrev S1x1024 : Shape := ⟨2, ![1, 1024]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩

abbrev nBuf : Space → Nat
  | .hbm => 15
  | .vmem => 16
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S1024x2816, .f32⟩
  | .hbm, ⟨3, _⟩ => ⟨S1024x2816, .f32⟩
  | .hbm, ⟨4, _⟩ => ⟨S4096x1024, .f32⟩
  | .hbm, ⟨5, _⟩ => ⟨S1024, .f32⟩
  | .hbm, ⟨6, _⟩ => ⟨S4096x1024, .f32⟩
  | .hbm, ⟨7, _⟩ => ⟨S2816x1024, .f32⟩
  | .hbm, ⟨8, _⟩ => ⟨S2816x1024, .bf16⟩
  | .hbm, ⟨9, _⟩ => ⟨S2816x1024, .f32⟩
  | .hbm, ⟨10, _⟩ => ⟨S2816x1024, .bf16⟩
  | .hbm, ⟨11, _⟩ => ⟨S1x1024, .f32⟩
  | .hbm, ⟨12, _⟩ => ⟨S4096x1024, .f32⟩
  | .hbm, ⟨13, _⟩ => ⟨S4096x1024, .bf16⟩
  | .hbm, ⟨14, _⟩ => ⟨S1x1024, .f32⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S2816x1024, .bf16⟩
  | .local _ .vmem, ⟨5, _⟩ => ⟨S2816x1024, .bf16⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | .local _ .vmem, ⟨15, _⟩ => ⟨S1x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v42 : BitVec 1 := Scalar.cmpi .eq arg0 c0_i32
  let v43 : BitVec 32 := Scalar.extui v42
  let c0_i32_24 : BitVec 32 := 0#32
  let v44 : BitVec 1 := Scalar.cmpi .ne v43 c0_i32_24
  v44

def k0_cond2 (i : grid0.Coords) : BitVec 1 :=
  let arg0 : BitVec 32 := BitVec.ofNat 32 (i 0).val
  let c0_i32_25 : BitVec 32 := 0#32
  let v45 : BitVec 1 := Scalar.cmpi .sgt arg0 c0_i32_25
  let v46 : BitVec 32 := Scalar.extui v45
  let c0_i32_26 : BitVec 32 := 0#32
  let v47 : BitVec 1 := Scalar.cmpi .ne v46 c0_i32_26
  v47

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== FfNormRefIdeal.lean ====
abbrev S4096x2816 : Shape := ⟨2, ![4096, 2816]⟩
abbrev S1024x2816 : Shape := ⟨2, ![1024, 2816]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 62
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S1024x2816, .f32⟩
  | .hbm, ⟨3, _⟩ => ⟨S1024x2816, .f32⟩
  | .hbm, ⟨4, _⟩ => ⟨S4096x1024, .f32⟩
  | .hbm, ⟨5, _⟩ => ⟨S1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S1024, .f32⟩
  | .hbm, ⟨42, _⟩ => ⟨S4096x1024, .f32⟩
  | .hbm, ⟨43, _⟩ => ⟨S_, .f32⟩
  | .hbm, ⟨44, _⟩ => ⟨S4096, .f32⟩
  | .hbm, ⟨45, _⟩ => ⟨S4096x1, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1, .f32⟩
  | .hbm, ⟨50, _⟩ => ⟨S_, .f32⟩
  | .hbm, ⟨51, _⟩ => ⟨S4096x1, .f32⟩
  | .hbm, ⟨52, _⟩ => ⟨S4096x1, .f32⟩
  | .hbm, ⟨53, _⟩ => ⟨S_, .f32⟩
  | .hbm, ⟨54, _⟩ => ⟨S4096, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .bf16⟩
  | .hbm, ⟨61, _⟩ => ⟨S1x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩

abbrev nD : Nat := 1
abbrev τ : Topo := Topo.v7x

variable {F : FTy → Type} [FloatOps F]
-- ==== QNorm.lean ====
abbrev S4096x8x96 : Shape := ⟨3, ![4096, 8, 96]⟩
abbrev S384x768 : Shape := ⟨2, ![384, 768]⟩
abbrev S4096x384 : Shape := ⟨2, ![4096, 384]⟩
abbrev S384 : Shape := ⟨1, ![384]⟩
abbrev S_ : Shape := ⟨0, ![]⟩
abbrev S4096x8x128 : Shape := ⟨3, ![4096, 8, 128]⟩
abbrev S4096x1024 : Shape := ⟨2, ![4096, 1024]⟩
abbrev S768x384 : Shape := ⟨2, ![768, 384]⟩
abbrev S8x96x384 : Shape := ⟨3, ![8, 96, 384]⟩
abbrev S8x128x384 : Shape := ⟨3, ![8, 128, 384]⟩
abbrev S1024x384 : Shape := ⟨2, ![1024, 384]⟩
abbrev S1x384 : Shape := ⟨2, ![1, 384]⟩
abbrev S512x1024 : Shape := ⟨2, ![512, 1024]⟩
abbrev S512x384 : Shape := ⟨2, ![512, 384]⟩
abbrev S512 : Shape := ⟨1, ![512]⟩
abbrev S512x1 : Shape := ⟨2, ![512, 1]⟩

abbrev nBuf : Space → Nat
  | .hbm => 19
  | .vmem => 9
  | .smem => 0
  | _ => 0

abbrev bufTy : (tb : Table) → Fin (tcTables nBuf tb) → BufTy
  | .hbm, ⟨0, _⟩ => ⟨S4096x8x96, .f32⟩
  | .hbm, ⟨1, _⟩ => ⟨S384x768, .f32⟩
  | .hbm, ⟨2, _⟩ => ⟨S4096x384, .bf16⟩
  | .hbm, ⟨3, _⟩ => ⟨S384, .f32⟩
  | .hbm, ⟨4, _⟩ => ⟨S_, .i32⟩
  | .hbm, ⟨5, _⟩ => ⟨S_, .f32⟩
  | .hbm, ⟨6, _⟩ => ⟨S4096x8x128, .f32⟩
  | .hbm, ⟨7, _⟩ => ⟨S4096x1024, .f32⟩
  | .hbm, ⟨8, _⟩ => ⟨S4096x1024, .bf16⟩
  | .hbm, ⟨9, _⟩ => ⟨S768x384, .f32⟩
  | .hbm, ⟨10, _⟩ => ⟨S8x96x384, .f32⟩
  | .hbm, ⟨11, _⟩ => ⟨S_, .i32⟩
  | .hbm, ⟨12, _⟩ => ⟨S_, .f32⟩
  | .hbm, ⟨13, _⟩ => ⟨S8x128x384, .f32⟩
  | .hbm, ⟨14, _⟩ => ⟨S1024x384, .f32⟩
  | .hbm, ⟨15, _⟩ => ⟨S1024x384, .bf16⟩
  | .hbm, ⟨16, _⟩ => ⟨S1x384, .f32⟩
  | .hbm, ⟨17, _⟩ => ⟨S4096x384, .bf16⟩
  | .hbm, ⟨18, _⟩ => ⟨S1x384, .f32⟩
  | .local _ .vmem, ⟨0, _⟩ => ⟨S512x1024, .bf16⟩
  | .local _ .vmem, ⟨1, _⟩ => ⟨S512x1024, .bf16⟩
  | .local _ .vmem, ⟨2, _⟩ => ⟨S1024x384, .bf16⟩
  | .local _ .vmem, ⟨3, _⟩ => ⟨S512x384, .bf16⟩
  | .local _ .vmem, ⟨4, _⟩ => ⟨S512x384, .bf16⟩
  | .local _ .vmem, ⟨5, _⟩ => ⟨S1x384, .f32⟩
  | .local _ .vmem, ⟨6, _⟩ => ⟨S512x384, .bf16⟩
  | .local _ .vmem, ⟨7, _⟩ => ⟨S512x384, .bf16⟩
  | .local _ .vmem, ⟨8, _⟩ => ⟨S1x384, .f32⟩
  | _, _ => ⟨S4096x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v36 : BitVec 1 := Scalar.cmpi .eq arg0 c0_i32
  let v37 : BitVec 32 := Scalar.extui v36
  let c0_i32_15 : BitVec 32 := 0#32
  let v38 : BitVec 1 := Scalar.cmpi .ne v37 c0_i32_15
  v38

def k0_cond2 (i : grid0.Coords) : BitVec 1 :=
  let arg0 : BitVec 32 := BitVec.ofNat 32 (i 0).val
  let c0_i32_16 : BitVec 32 := 0#32
  let v39 : BitVec 1 := Scalar.cmpi .sgt arg0 c0_i32_16
  let v40 : BitVec 32 := Scalar.extui v39
  let c0_i32_17 : BitVec 32 := 0#32
  let v41 : BitVec 1 := Scalar.cmpi .ne v40 c0_i32_17
  v41

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== QNormRefIdeal.lean ====
abbrev S4096x8x96 : Shape := ⟨3, ![4096, 8, 96]⟩
abbrev S384x768 : Shape := ⟨2, ![384, 768]⟩
abbrev S4096x384 : Shape := ⟨2, ![4096, 384]⟩
abbrev S384 : Shape := ⟨1, ![384]⟩
abbrev S_ : Shape := ⟨0, ![]⟩
abbrev S4096 : Shape := ⟨1, ![4096]⟩
abbrev S4096x1 : Shape := ⟨2, ![4096, 1]⟩
abbrev S1x384 : Shape := ⟨2, ![1, 384]⟩
abbrev S4096x768 : Shape := ⟨2, ![4096, 768]⟩

abbrev nBuf : Space → Nat
  | .hbm => 56
  | .vmem => 0
  | .smem => 0
  | _ => 0

abbrev bufTy : (tb : Table) → Fin (tcTables nBuf tb) → BufTy
  | .hbm, ⟨0, _⟩ => ⟨S4096x8x96, .f32⟩
  | .hbm, ⟨1, _⟩ => ⟨S384x768, .f32⟩
  | .hbm, ⟨2, _⟩ => ⟨S4096x384, .bf16⟩
  | .hbm, ⟨3, _⟩ => ⟨S384, .f32⟩
  | .hbm, ⟨4, _⟩ => ⟨S4096x384, .f32⟩
  | .hbm, ⟨5, _⟩ => ⟨S4096x384, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x384, .f32⟩
  | .hbm, ⟨21, _⟩ => ⟨S4096x384, .f32⟩
  | .hbm, ⟨22, _⟩ => ⟨S1x384, .f32⟩
  | .hbm, ⟨23, _⟩ => ⟨S4096x384, .f32⟩
  | .hbm, ⟨24, _⟩ => ⟨S4096x384, .f32⟩
  | .hbm, ⟨25, _⟩ => ⟨S4096x768, .f32⟩
  | .hbm, ⟨26, _⟩ => ⟨S4096x8x96, .f32⟩
  | .hbm, ⟨27, _⟩ => ⟨S4096x768, .f32⟩
  | .hbm, ⟨28, _⟩ => ⟨S4096x384, .f32⟩
  | .hbm, ⟨29, _⟩ => ⟨S4096x384, .f32⟩
  | .hbm, ⟨30, _⟩ => ⟨S_, .f32⟩
  | .hbm, ⟨31, _⟩ => ⟨S384, .f32⟩
  | .hbm, ⟨32, _⟩ => ⟨S1x384, .f32⟩
  | .hbm, ⟨33, _⟩ => ⟨S4096x384, .f32⟩
  | .hbm, ⟨34, _⟩ => ⟨S4096x384, .f32⟩
  | .hbm, ⟨35, _⟩ => ⟨S_, .f32⟩
  | .hbm, ⟨36, _⟩ => ⟨S384, .f32⟩
  | .hbm, ⟨37, _⟩ => ⟨S4096x384, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x384, .f32⟩
  | .hbm, ⟨42, _⟩ => ⟨S4096x384, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096, .f32⟩
  | .hbm, ⟨49, _⟩ => ⟨S4096x384, .f32⟩
  | .hbm, ⟨50, _⟩ => ⟨S4096x384, .f32⟩
  | .hbm, ⟨51, _⟩ => ⟨S4096x384, .f32⟩
  | .hbm, ⟨52, _⟩ => ⟨S4096x384, .f32⟩
  | .hbm, ⟨53, _⟩ => ⟨S4096x384, .f32⟩
  | .hbm, ⟨54, _⟩ => ⟨S4096x384, .bf16⟩
  | .hbm, ⟨55, _⟩ => ⟨S1x384, .f32⟩
  | _, _ => ⟨S4096x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_6 : Ref sig .tc := ⟨.hbm, 44, rfl⟩
abbrev main_v33 : Ref sig .tc := ⟨.hbm, 45, rfl⟩
abbrev main_v34 : Ref sig .tc := ⟨.hbm, 46, rfl⟩
abbrev main_cst_7 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]
-- ==== KvNorm.lean ====
abbrev S4096x8x64 : Shape := ⟨3, ![4096, 8, 64]⟩
abbrev S256x1024 : Shape := ⟨2, ![256, 1024]⟩
abbrev S4096x256 : Shape := ⟨2, ![4096, 256]⟩
abbrev S256 : Shape := ⟨1, ![256]⟩
abbrev S1024x256 : Shape := ⟨2, ![1024, 256]⟩
abbrev S8x128x256 : Shape := ⟨3, ![8, 128, 256]⟩
abbrev S8x64x256 : Shape := ⟨3, ![8, 64, 256]⟩
abbrev S_ : Shape := ⟨0, ![]⟩
abbrev S4096x8x128 : Shape := ⟨3, ![4096, 8, 128]⟩
abbrev S4096x1024 : Shape := ⟨2, ![4096, 1024]⟩
abbrev S1x256 : Shape := ⟨2, ![1, 256]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 32
  | .vmem => 12
  | .smem => 0
  | _ => 0

abbrev bufTy : (tb : Table) → Fin (tcTables nBuf tb) → BufTy
  | .hbm, ⟨0, _⟩ => ⟨S4096x8x64, .f32⟩
  | .hbm, ⟨1, _⟩ => ⟨S4096x8x64, .f32⟩
  | .hbm, ⟨2, _⟩ => ⟨S256x1024, .f32⟩
  | .hbm, ⟨3, _⟩ => ⟨S4096x256, .bf16⟩
  | .hbm, ⟨4, _⟩ => ⟨S256, .f32⟩
  | .hbm, ⟨5, _⟩ => ⟨S1024x256, .f32⟩
  | .hbm, ⟨6, _⟩ => ⟨S8x128x256, .f32⟩
  | .hbm, ⟨7, _⟩ => ⟨S8x64x256, .f32⟩
  | .hbm, ⟨8, _⟩ => ⟨S_, .i32⟩
  | .hbm, ⟨9, _⟩ => ⟨S_, .f32⟩
  | .hbm, ⟨10, _⟩ => ⟨S8x128x256, .f32⟩
  | .hbm, ⟨11, _⟩ => ⟨S1024x256, .f32⟩
  | .hbm, ⟨12, _⟩ => ⟨S8x64x256, .f32⟩
  | .hbm, ⟨13, _⟩ => ⟨S_, .i32⟩
  | .hbm, ⟨14, _⟩ => ⟨S_, .f32⟩
  | .hbm, ⟨15, _⟩ => ⟨S8x128x256, .f32⟩
  | .hbm, ⟨16, _⟩ => ⟨S1024x256, .f32⟩
  | .hbm, ⟨17, _⟩ => ⟨S_, .i32⟩
  | .hbm, ⟨18, _⟩ => ⟨S_, .f32⟩
  | .hbm, ⟨19, _⟩ => ⟨S4096x8x128, .f32⟩
  | .hbm, ⟨20, _⟩ => ⟨S4096x1024, .f32⟩
  | .hbm, ⟨21, _⟩ => ⟨S4096x1024, .bf16⟩
  | .hbm, ⟨22, _⟩ => ⟨S_, .i32⟩
  | .hbm, ⟨23, _⟩ => ⟨S_, .f32⟩
  | .hbm, ⟨24, _⟩ => ⟨S4096x8x128, .f32⟩
  | .hbm, ⟨25, _⟩ => ⟨S4096x1024, .f32⟩
  | .hbm, ⟨26, _⟩ => ⟨S4096x1024, .bf16⟩
  | .hbm, ⟨27, _⟩ => ⟨S1024x256, .bf16⟩
  | .hbm, ⟨28, _⟩ => ⟨S1024x256, .bf16⟩
  | .hbm, ⟨29, _⟩ => ⟨S1x256, .f32⟩
  | .hbm, ⟨30, _⟩ => ⟨S4096x256, .bf16⟩
  | .hbm, ⟨31, _⟩ => ⟨S1x256, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x256, .bf16⟩
  | .local _ .vmem, ⟨5, _⟩ => ⟨S1024x256, .bf16⟩
  | .local _ .vmem, ⟨6, _⟩ => ⟨S512x256, .bf16⟩
  | .local _ .vmem, ⟨7, _⟩ => ⟨S512x256, .bf16⟩
  | .local _ .vmem, ⟨8, _⟩ => ⟨S1x256, .f32⟩
  | .local _ .vmem, ⟨9, _⟩ => ⟨S512x256, .bf16⟩
  | .local _ .vmem, ⟨10, _⟩ => ⟨S512x256, .bf16⟩
  | .local _ .vmem, ⟨11, _⟩ => ⟨S1x256, .f32⟩
  | _, _ => ⟨S4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_call1_v0 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_call2_v0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_call3_v0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17_0 : Ref sig .tc := ⟨.hbm, 30, rfl⟩
abbrev main_v17_1 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v42 : BitVec 1 := Scalar.cmpi .eq arg0 c0_i32
  let v43 : BitVec 32 := Scalar.extui v42
  let c0_i32_20 : BitVec 32 := 0#32
  let v44 : BitVec 1 := Scalar.cmpi .ne v43 c0_i32_20
  v44

def k0_cond2 (i : grid0.Coords) : BitVec 1 :=
  let arg0 : BitVec 32 := BitVec.ofNat 32 (i 0).val
  let c0_i32_21 : BitVec 32 := 0#32
  let v45 : BitVec 1 := Scalar.cmpi .sgt arg0 c0_i32_21
  let v46 : BitVec 32 := Scalar.extui v45
  let c0_i32_22 : BitVec 32 := 0#32
  let v47 : BitVec 1 := Scalar.cmpi .ne v46 c0_i32_22
  v47

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== KvNormRefIdeal.lean ====
abbrev S4096x8x64 : Shape := ⟨3, ![4096, 8, 64]⟩
abbrev S256x1024 : Shape := ⟨2, ![256, 1024]⟩
abbrev S4096x256 : Shape := ⟨2, ![4096, 256]⟩
abbrev S256 : Shape := ⟨1, ![256]⟩
abbrev S_ : Shape := ⟨0, ![]⟩
abbrev S4096 : Shape := ⟨1, ![4096]⟩
abbrev S4096x1 : Shape := ⟨2, ![4096, 1]⟩
abbrev S1x256 : Shape := ⟨2, ![1, 256]⟩
abbrev S4096x1024 : Shape := ⟨2, ![4096, 1024]⟩
abbrev S4096x8x128 : Shape := ⟨3, ![4096, 8, 128]⟩

abbrev nBuf : Space → Nat
  | .hbm => 64
  | .vmem => 0
  | .smem => 0
  | _ => 0

abbrev bufTy : (tb : Table) → Fin (tcTables nBuf tb) → BufTy
  | .hbm, ⟨0, _⟩ => ⟨S4096x8x64, .f32⟩
  | .hbm, ⟨1, _⟩ => ⟨S4096x8x64, .f32⟩
  | .hbm, ⟨2, _⟩ => ⟨S256x1024, .f32⟩
  | .hbm, ⟨3, _⟩ => ⟨S4096x256, .bf16⟩
  | .hbm, ⟨4, _⟩ => ⟨S256, .f32⟩
  | .hbm, ⟨5, _⟩ => ⟨S4096x256, .f32⟩
  | .hbm, ⟨6, _⟩ => ⟨S4096x256, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x256, .f32⟩
  | .hbm, ⟨22, _⟩ => ⟨S4096x256, .f32⟩
  | .hbm, ⟨23, _⟩ => ⟨S1x256, .f32⟩
  | .hbm, ⟨24, _⟩ => ⟨S4096x256, .f32⟩
  | .hbm, ⟨25, _⟩ => ⟨S4096x256, .f32⟩
  | .hbm, ⟨26, _⟩ => ⟨S4096x1024, .f32⟩
  | .hbm, ⟨27, _⟩ => ⟨S4096x8x128, .f32⟩
  | .hbm, ⟨28, _⟩ => ⟨S4096x8x64, .f32⟩
  | .hbm, ⟨29, _⟩ => ⟨S4096x8x64, .f32⟩
  | .hbm, ⟨30, _⟩ => ⟨S_, .f32⟩
  | .hbm, ⟨31, _⟩ => ⟨S4096x8x128, .f32⟩
  | .hbm, ⟨32, _⟩ => ⟨S_, .f32⟩
  | .hbm, ⟨33, _⟩ => ⟨S4096x8x128, .f32⟩
  | .hbm, ⟨34, _⟩ => ⟨S4096x8x128, .f32⟩
  | .hbm, ⟨35, _⟩ => ⟨S4096x1024, .f32⟩
  | .hbm, ⟨36, _⟩ => ⟨S4096x256, .f32⟩
  | .hbm, ⟨37, _⟩ => ⟨S4096x256, .f32⟩
  | .hbm, ⟨38, _⟩ => ⟨S_, .f32⟩
  | .hbm, ⟨39, _⟩ => ⟨S256, .f32⟩
  | .hbm, ⟨40, _⟩ => ⟨S1x256, .f32⟩
  | .hbm, ⟨41, _⟩ => ⟨S4096x256, .f32⟩
  | .hbm, ⟨42, _⟩ => ⟨S4096x256, .f32⟩
  | .hbm, ⟨43, _⟩ => ⟨S_, .f32⟩
  | .hbm, ⟨44, _⟩ => ⟨S256, .f32⟩
  | .hbm, ⟨45, _⟩ => ⟨S4096x256, .f32⟩
  | .hbm, ⟨46, _⟩ => ⟨S_, .f32⟩
  | .hbm, ⟨47, _⟩ => ⟨S4096, .f32⟩
  | .hbm, ⟨48, _⟩ => ⟨S4096x1, .f32⟩
  | .hbm, ⟨49, _⟩ => ⟨S4096x256, .f32⟩
  | .hbm, ⟨50, _⟩ => ⟨S4096x256, .f32⟩
  | .hbm, ⟨51, _⟩ => ⟨S4096x1, .f32⟩
  | .hbm, ⟨52, _⟩ => ⟨S_, .f32⟩
  | .hbm, ⟨53, _⟩ => ⟨S4096x1, .f32⟩
  | .hbm, ⟨54, _⟩ => ⟨S4096x1, .f32⟩
  | .hbm, ⟨55, _⟩ => ⟨S_, .f32⟩
  | .hbm, ⟨56, _⟩ => ⟨S4096, .f32⟩
  | .hbm, ⟨57, _⟩ => ⟨S4096x256, .f32⟩
  | .hbm, ⟨58, _⟩ => ⟨S4096x256, .f32⟩
  | .hbm, ⟨59, _⟩ => ⟨S4096x256, .f32⟩
  | .hbm, ⟨60, _⟩ => ⟨S4096x256, .f32⟩
  | .hbm, ⟨61, _⟩ => ⟨S4096x256, .f32⟩
  | .hbm, ⟨62, _⟩ => ⟨S4096x256, .bf16⟩
  | .hbm, ⟨63, _⟩ => ⟨S1x256, .f32⟩
  | _, _ => ⟨S4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_8 : Ref sig .tc := ⟨.hbm, 52, rfl⟩
abbrev main_v38 : Ref sig .tc := ⟨.hbm, 53, rfl⟩
abbrev main_v39 : Ref sig .tc := ⟨.hbm, 54, rfl⟩
abbrev main_cst_9 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩

abbrev nD : Nat := 1
abbrev τ : Topo := Topo.v7x

variable {F : FTy → Type} [FloatOps F]
-- ==== InNorm.lean ====
abbrev S4096x2048 : Shape := ⟨2, ![4096, 2048]⟩
abbrev S4096x8 : Shape := ⟨2, ![4096, 8]⟩
abbrev S4096x640 : Shape := ⟨2, ![4096, 640]⟩
abbrev S4096x32 : Shape := ⟨2, ![4096, 32]⟩
abbrev S1024x2728 : Shape := ⟨2, ![1024, 2728]⟩
abbrev S4096x1024 : Shape := ⟨2, ![4096, 1024]⟩
abbrev S1024 : Shape := ⟨1, ![1024]⟩
abbrev S2728x1024 : Shape := ⟨2, ![2728, 1024]⟩
abbrev S8x1024 : Shape := ⟨2, ![8, 1024]⟩
abbrev S_ : Shape := ⟨0, ![]⟩
abbrev S56x1024 : Shape := ⟨2, ![56, 1024]⟩
abbrev S32x1024 : Shape := ⟨2, ![32, 1024]⟩
abbrev S128x1024 : Shape := ⟨2, ![128, 1024]⟩
abbrev S640x1024 : Shape := ⟨2, ![640, 1024]⟩
abbrev S4096x56 : Shape := ⟨2, ![4096, 56]⟩
abbrev S4096x128 : Shape := ⟨2, ![4096, 128]⟩
abbrev S1x1024 : Shape := ⟨2, ![1, 1024]⟩
abbrev S512x2048 : Shape := ⟨2, ![512, 2048]⟩
abbrev S512x640 : Shape := ⟨2, ![512, 640]⟩
abbrev S512x128 : Shape := ⟨2, ![512, 128]⟩
abbrev S512x1024 : Shape := ⟨2, ![512, 1024]⟩
abbrev S2048x1024 : Shape := ⟨2, ![2048, 1024]⟩
abbrev S512 : Shape := ⟨1, ![512]⟩
abbrev S512x1 : Shape := ⟨2, ![512, 1]⟩

abbrev nBuf : Space → Nat
  | .hbm => 27
  | .vmem => 17
  | .smem => 0
  | _ => 0

abbrev bufTy : (tb : Table) → Fin (tcTables nBuf tb) → BufTy
  | .hbm, ⟨0, _⟩ => ⟨S4096x2048, .bf16⟩
  | .hbm, ⟨1, _⟩ => ⟨S4096x8, .f32⟩
  | .hbm, ⟨2, _⟩ => ⟨S4096x640, .bf16⟩
  | .hbm, ⟨3, _⟩ => ⟨S4096x32, .f32⟩
  | .hbm, ⟨4, _⟩ => ⟨S1024x2728, .f32⟩
  | .hbm, ⟨5, _⟩ => ⟨S4096x1024, .f32⟩
  | .hbm, ⟨6, _⟩ => ⟨S1024, .f32⟩
  | .hbm, ⟨7, _⟩ => ⟨S4096x1024, .f32⟩
  | .hbm, ⟨8, _⟩ => ⟨S2728x1024, .f32⟩
  | .hbm, ⟨9, _⟩ => ⟨S2728x1024, .bf16⟩
  | .hbm, ⟨10, _⟩ => ⟨S8x1024, .bf16⟩
  | .hbm, ⟨11, _⟩ => ⟨S_, .bf16⟩
  | .hbm, ⟨12, _⟩ => ⟨S56x1024, .bf16⟩
  | .hbm, ⟨13, _⟩ => ⟨S32x1024, .bf16⟩
  | .hbm, ⟨14, _⟩ => ⟨S_, .bf16⟩
  | .hbm, ⟨15, _⟩ => ⟨S32x1024, .bf16⟩
  | .hbm, ⟨16, _⟩ => ⟨S128x1024, .bf16⟩
  | .hbm, ⟨17, _⟩ => ⟨S640x1024, .bf16⟩
  | .hbm, ⟨18, _⟩ => ⟨S_, .f32⟩
  | .hbm, ⟨19, _⟩ => ⟨S4096x56, .f32⟩
  | .hbm, ⟨20, _⟩ => ⟨S_, .f32⟩
  | .hbm, ⟨21, _⟩ => ⟨S4096x32, .f32⟩
  | .hbm, ⟨22, _⟩ => ⟨S4096x128, .f32⟩
  | .hbm, ⟨23, _⟩ => ⟨S4096x128, .bf16⟩
  | .hbm, ⟨24, _⟩ => ⟨S1x1024, .f32⟩
  | .hbm, ⟨25, _⟩ => ⟨S4096x1024, .f32⟩
  | .hbm, ⟨26, _⟩ => ⟨S1x1024, .f32⟩
  | .local _ .vmem, ⟨0, _⟩ => ⟨S512x2048, .bf16⟩
  | .local _ .vmem, ⟨1, _⟩ => ⟨S512x2048, .bf16⟩
  | .local _ .vmem, ⟨2, _⟩ => ⟨S512x640, .bf16⟩
  | .local _ .vmem, ⟨3, _⟩ => ⟨S512x640, .bf16⟩
  | .local _ .vmem, ⟨4, _⟩ => ⟨S512x128, .bf16⟩
  | .local _ .vmem, ⟨5, _⟩ => ⟨S512x128, .bf16⟩
  | .local _ .vmem, ⟨6, _⟩ => ⟨S2728x1024, .bf16⟩
  | .local _ .vmem, ⟨7, _⟩ => ⟨S640x1024, .bf16⟩
  | .local _ .vmem, ⟨8, _⟩ => ⟨S128x1024, .bf16⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13_0 : Ref sig .tc := ⟨.hbm, 25, rfl⟩
abbrev main_v13_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v46 : BitVec 1 := Scalar.cmpi .eq arg0 c0_i32
  let v47 : BitVec 32 := Scalar.extui v46
  let c0_i32_27 : BitVec 32 := 0#32
  let v48 : BitVec 1 := Scalar.cmpi .ne v47 c0_i32_27
  v48

def k0_cond2 (i : grid0.Coords) : BitVec 1 :=
  let arg0 : BitVec 32 := BitVec.ofNat 32 (i 0).val
  let c0_i32_28 : BitVec 32 := 0#32
  let v49 : BitVec 1 := Scalar.cmpi .sgt arg0 c0_i32_28
  let v50 : BitVec 32 := Scalar.extui v49
  let c0_i32_29 : BitVec 32 := 0#32
  let v51 : BitVec 1 := Scalar.cmpi .ne v50 c0_i32_29
  v51

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2728x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S640x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== InNormRefIdeal.lean ====
abbrev S4096x2048 : Shape := ⟨2, ![4096, 2048]⟩
abbrev S4096x8 : Shape := ⟨2, ![4096, 8]⟩
abbrev S4096x640 : Shape := ⟨2, ![4096, 640]⟩
abbrev S4096x32 : Shape := ⟨2, ![4096, 32]⟩
abbrev S1024x2728 : Shape := ⟨2, ![1024, 2728]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2728 : Shape := ⟨2, ![4096, 2728]⟩

abbrev nBuf : Space → Nat
  | .hbm => 64
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8, .f32⟩
  | .hbm, ⟨2, _⟩ => ⟨S4096x640, .bf16⟩
  | .hbm, ⟨3, _⟩ => ⟨S4096x32, .f32⟩
  | .hbm, ⟨4, _⟩ => ⟨S1024x2728, .f32⟩
  | .hbm, ⟨5, _⟩ => ⟨S4096x1024, .f32⟩
  | .hbm, ⟨6, _⟩ => ⟨S1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x2728, .f32⟩
  | .hbm, ⟨29, _⟩ => ⟨S4096x2048, .f32⟩
  | .hbm, ⟨30, _⟩ => ⟨S4096x8, .f32⟩
  | .hbm, ⟨31, _⟩ => ⟨S4096x640, .f32⟩
  | .hbm, ⟨32, _⟩ => ⟨S4096x32, .f32⟩
  | .hbm, ⟨33, _⟩ => ⟨S4096x2048, .f32⟩
  | .hbm, ⟨34, _⟩ => ⟨S4096x640, .f32⟩
  | .hbm, ⟨35, _⟩ => ⟨S4096x2728, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S1024, .f32⟩
  | .hbm, ⟨45, _⟩ => ⟨S4096x1024, .f32⟩
  | .hbm, ⟨46, _⟩ => ⟨S_, .f32⟩
  | .hbm, ⟨47, _⟩ => ⟨S4096, .f32⟩
  | .hbm, ⟨48, _⟩ => ⟨S4096x1, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1, .f32⟩
  | .hbm, ⟨53, _⟩ => ⟨S_, .f32⟩
  | .hbm, ⟨54, _⟩ => ⟨S4096x1, .f32⟩
  | .hbm, ⟨55, _⟩ => ⟨S4096x1, .f32⟩
  | .hbm, ⟨56, _⟩ => ⟨S_, .f32⟩
  | .hbm, ⟨57, _⟩ => ⟨S4096, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S1x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩

abbrev nD : Nat := 1
abbrev τ : Topo := Topo.v7x

variable {F : FTy → Type} [FloatOps F]
-- ==== Loss.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S1x1024 : Shape := ⟨2, ![1, 1024]⟩
abbrev S1x128 : Shape := ⟨2, ![1, 128]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 11
  | .vmem => 14
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .f32⟩
  | .hbm, ⟨2, _⟩ => ⟨S4096x1024, .f32⟩
  | .hbm, ⟨3, _⟩ => ⟨S4096x1024, .f32⟩
  | .hbm, ⟨4, _⟩ => ⟨S1024, .f32⟩
  | .hbm, ⟨5, _⟩ => ⟨S2816x1024, .bf16⟩
  | .hbm, ⟨6, _⟩ => ⟨S1x1024, .f32⟩
  | .hbm, ⟨7, _⟩ => ⟨S4096x1024, .f32⟩
  | .hbm, ⟨8, _⟩ => ⟨S4096x1024, .bf16⟩
  | .hbm, ⟨9, _⟩ => ⟨S1x128, .f32⟩
  | .hbm, ⟨10, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x128, .f32⟩
  | .local _ .vmem, ⟨13, _⟩ => ⟨S1x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c0_i32_29 : BitVec 32 := 0#32
  let v61 : BitVec 1 := Scalar.cmpi .eq arg0 c0_i32_29
  let v62 : BitVec 32 := Scalar.extui v61
  let c0_i32_30 : BitVec 32 := 0#32
  let v63 : BitVec 1 := Scalar.cmpi .ne v62 c0_i32_30
  v63

def k0_cond4 (i : grid0.Coords) : BitVec 1 :=
  let arg0 : BitVec 32 := BitVec.ofNat 32 (i 0).val
  let c0_i32_31 : BitVec 32 := 0#32
  let v64 : BitVec 1 := Scalar.cmpi .sgt arg0 c0_i32_31
  let v65 : BitVec 32 := Scalar.extui v64
  let c0_i32_32 : BitVec 32 := 0#32
  let v66 : BitVec 1 := Scalar.cmpi .ne v65 c0_i32_32
  v66

def k0_cond1 (i : grid0.Coords) : BitVec 1 :=
  let arg0 : BitVec 32 := BitVec.ofNat 32 (i 0).val
  let c0_i32 : BitVec 32 := 0#32
  let v53 : BitVec 1 := Scalar.cmpi .eq arg0 c0_i32
  let v54 : BitVec 32 := Scalar.extui v53
  let c0_i32_26 : BitVec 32 := 0#32
  let v55 : BitVec 1 := Scalar.cmpi .ne v54 c0_i32_26
  v55

def k0_cond2 (i : grid0.Coords) : BitVec 1 :=
  let arg0 : BitVec 32 := BitVec.ofNat 32 (i 0).val
  let c0_i32_27 : BitVec 32 := 0#32
  let v56 : BitVec 1 := Scalar.cmpi .sgt arg0 c0_i32_27
  let v57 : BitVec 32 := Scalar.extui v56
  let c0_i32_28 : BitVec 32 := 0#32
  let v58 : BitVec 1 := Scalar.cmpi .ne v57 c0_i32_28
  v58

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== LossRefIdeal.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x128 : Shape := ⟨2, ![1, 128]⟩

abbrev nBuf : Space → Nat
  | .hbm => 79
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .f32⟩
  | .hbm, ⟨2, _⟩ => ⟨S4096x1024, .f32⟩
  | .hbm, ⟨3, _⟩ => ⟨S4096x1024, .f32⟩
  | .hbm, ⟨4, _⟩ => ⟨S1024, .f32⟩
  | .hbm, ⟨5, _⟩ => ⟨S4096x2816, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S_, .f32⟩
  | .hbm, ⟨36, _⟩ => ⟨S4096, .f32⟩
  | .hbm, ⟨37, _⟩ => ⟨S4096, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S4096, .f32⟩
  | .hbm, ⟨46, _⟩ => ⟨S_, .f32⟩
  | .hbm, ⟨47, _⟩ => ⟨S4096, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S1024, .f32⟩
  | .hbm, ⟨59, _⟩ => ⟨S4096x1024, .f32⟩
  | .hbm, ⟨60, _⟩ => ⟨S_, .f32⟩
  | .hbm, ⟨61, _⟩ => ⟨S4096, .f32⟩
  | .hbm, ⟨62, _⟩ => ⟨S4096x1, .f32⟩
  | .hbm, ⟨63, _⟩ => ⟨S4096x1024, .f32⟩
  | .hbm, ⟨64, _⟩ => ⟨S4096x1024, .f32⟩
  | .hbm, ⟨65, _⟩ => ⟨S4096x1, .f32⟩
  | .hbm, ⟨66, _⟩ => ⟨S_, .f32⟩
  | .hbm, ⟨67, _⟩ => ⟨S4096x1, .f32⟩
  | .hbm, ⟨68, _⟩ => ⟨S4096x1, .f32⟩
  | .hbm, ⟨69, _⟩ => ⟨S_, .f32⟩
  | .hbm, ⟨70, _⟩ => ⟨S4096, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .bf16⟩
  | .hbm, ⟨77, _⟩ => ⟨S1x128, .f32⟩
  | .hbm, ⟨78, _⟩ => ⟨S1x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_cst_8 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_11 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_12 : Ref sig .tc := ⟨.hbm, 57, rfl⟩
abbrev main_v39 : Ref sig .tc := ⟨.hbm, 58, rfl⟩
abbrev main_v40 : Ref sig .tc := ⟨.hbm, 59, rfl⟩
abbrev main_cst_13 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_14 : Ref sig .tc := ⟨.hbm, 66, rfl⟩
abbrev main_v46 : Ref sig .tc := ⟨.hbm, 67, rfl⟩
abbrev main_v47 : Ref sig .tc := ⟨.hbm, 68, rfl⟩
abbrev main_cst_15 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩

abbrev nD : Nat := 1
abbrev τ : Topo := Topo.v7x

variable {F : FTy → Type} [FloatOps F]
-- ==== OutProj.lean ====
abbrev S4096x1024 : Shape := ⟨2, ![4096, 1024]⟩
abbrev S1024x1024 : Shape := ⟨2, ![1024, 1024]⟩
abbrev S4096x512 : Shape := ⟨2, ![4096, 512]⟩
abbrev S4096x8x64 : Shape := ⟨3, ![4096, 8, 64]⟩
abbrev S_ : Shape := ⟨0, ![]⟩
abbrev S4096x8x128 : Shape := ⟨3, ![4096, 8, 128]⟩
abbrev S512x1024 : Shape := ⟨2, ![512, 1024]⟩
abbrev S8x64x1024 : Shape := ⟨3, ![8, 64, 1024]⟩
abbrev S8x128x1024 : Shape := ⟨3, ![8, 128, 1024]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S4096x8x1 : Shape := ⟨3, ![4096, 8, 1]⟩
abbrev S4096x8 : Shape := ⟨2, ![4096, 8]⟩

abbrev nBuf : Space → Nat
  | .hbm => 29
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x512, .f32⟩
  | .hbm, ⟨3, _⟩ => ⟨S4096x8x64, .f32⟩
  | .hbm, ⟨4, _⟩ => ⟨S_, .i32⟩
  | .hbm, ⟨5, _⟩ => ⟨S_, .f32⟩
  | .hbm, ⟨6, _⟩ => ⟨S4096x8x128, .f32⟩
  | .hbm, ⟨7, _⟩ => ⟨S4096x1024, .f32⟩
  | .hbm, ⟨8, _⟩ => ⟨S1024x1024, .bf16⟩
  | .hbm, ⟨9, _⟩ => ⟨S512x1024, .bf16⟩
  | .hbm, ⟨10, _⟩ => ⟨S512x1024, .bf16⟩
  | .hbm, ⟨11, _⟩ => ⟨S8x64x1024, .bf16⟩
  | .hbm, ⟨12, _⟩ => ⟨S_, .i32⟩
  | .hbm, ⟨13, _⟩ => ⟨S_, .bf16⟩
  | .hbm, ⟨14, _⟩ => ⟨S8x128x1024, .bf16⟩
  | .hbm, ⟨15, _⟩ => ⟨S1024x1024, .bf16⟩
  | .hbm, ⟨16, _⟩ => ⟨S4096x1024, .bf16⟩
  | .hbm, ⟨17, _⟩ => ⟨S4096x512, .bf16⟩
  | .hbm, ⟨18, _⟩ => ⟨S4096x1024, .bf16⟩
  | .hbm, ⟨19, _⟩ => ⟨S4096x8x128, .bf16⟩
  | .hbm, ⟨20, _⟩ => ⟨S4096x8x128, .f32⟩
  | .hbm, ⟨21, _⟩ => ⟨S4096x8x64, .f32⟩
  | .hbm, ⟨22, _⟩ => ⟨S4096x512, .f32⟩
  | .hbm, ⟨23, _⟩ => ⟨S4096x8x1, .f32⟩
  | .hbm, ⟨24, _⟩ => ⟨S4096x8, .f32⟩
  | .hbm, ⟨25, _⟩ => ⟨S4096x8x1, .f32⟩
  | .hbm, ⟨26, _⟩ => ⟨S4096x8, .f32⟩
  | .hbm, ⟨27, _⟩ => ⟨S4096x8, .f32⟩
  | .hbm, ⟨28, _⟩ => ⟨S4096x8, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .bf16⟩
  | .local _ .vmem, ⟨6, _⟩ => ⟨S512x512, .bf16⟩
  | .local _ .vmem, ⟨7, _⟩ => ⟨S512x512, .bf16⟩
  | .local _ .vmem, ⟨8, _⟩ => ⟨S512x1024, .bf16⟩
  | .local _ .vmem, ⟨9, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_call1_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutProjRefIdeal.lean ====
abbrev S4096x1024 : Shape := ⟨2, ![4096, 1024]⟩
abbrev S1024x1024 : Shape := ⟨2, ![1024, 1024]⟩
abbrev S4096x512 : Shape := ⟨2, ![4096, 512]⟩
abbrev S_ : Shape := ⟨0, ![]⟩
abbrev S4096x8x64 : Shape := ⟨3, ![4096, 8, 64]⟩
abbrev S4096x8 : Shape := ⟨2, ![4096, 8]⟩

abbrev nBuf : Space → Nat
  | .hbm => 16
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x512, .f32⟩
  | .hbm, ⟨3, _⟩ => ⟨S_, .f32⟩
  | .hbm, ⟨4, _⟩ => ⟨S4096x512, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x512, .f32⟩
  | .hbm, ⟨10, _⟩ => ⟨S4096x512, .f32⟩
  | .hbm, ⟨11, _⟩ => ⟨S4096x512, .bf16⟩
  | .hbm, ⟨12, _⟩ => ⟨S4096x512, .f32⟩
  | .hbm, ⟨13, _⟩ => ⟨S4096x8x64, .f32⟩
  | .hbm, ⟨14, _⟩ => ⟨S_, .f32⟩
  | .hbm, ⟨15, _⟩ => ⟨S4096x8, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Rope.lean ====
abbrev S4096x8x64 : Shape := ⟨3, ![4096, 8, 64]⟩
abbrev S4096x8x32 : Shape := ⟨3, ![4096, 8, 32]⟩
abbrev S4096x8 : Shape := ⟨2, ![4096, 8]⟩
abbrev S4096 : Shape := ⟨1, ![4096]⟩
abbrev S_ : Shape := ⟨0, ![]⟩
abbrev S4096x8x128 : Shape := ⟨3, ![4096, 8, 128]⟩
abbrev S4096x1024 : Shape := ⟨2, ![4096, 1024]⟩
abbrev S4096x128 : Shape := ⟨2, ![4096, 128]⟩
abbrev S4096x1 : Shape := ⟨2, ![4096, 1]⟩
abbrev S512x1024 : Shape := ⟨2, ![512, 1024]⟩
abbrev S512x128 : Shape := ⟨2, ![512, 128]⟩
abbrev S512x1 : Shape := ⟨2, ![512, 1]⟩
abbrev S1x128 : Shape := ⟨2, ![1, 128]⟩
abbrev S4096x8x96 : Shape := ⟨3, ![4096, 8, 96]⟩
abbrev S4096x32 : Shape := ⟨2, ![4096, 32]⟩

abbrev nBuf : Space → Nat
  | .hbm => 27
  | .vmem => 12
  | .smem => 0
  | _ => 0

abbrev bufTy : (tb : Table) → Fin (tcTables nBuf tb) → BufTy
  | .hbm, ⟨0, _⟩ => ⟨S4096x8x64, .f32⟩
  | .hbm, ⟨1, _⟩ => ⟨S4096x8x32, .f32⟩
  | .hbm, ⟨2, _⟩ => ⟨S4096x8x32, .f32⟩
  | .hbm, ⟨3, _⟩ => ⟨S4096x8, .f32⟩
  | .hbm, ⟨4, _⟩ => ⟨S4096, .i32⟩
  | .hbm, ⟨5, _⟩ => ⟨S_, .f32⟩
  | .hbm, ⟨6, _⟩ => ⟨S4096x8x32, .f32⟩
  | .hbm, ⟨7, _⟩ => ⟨S4096x8x128, .f32⟩
  | .hbm, ⟨8, _⟩ => ⟨S4096x1024, .f32⟩
  | .hbm, ⟨9, _⟩ => ⟨S_, .f32⟩
  | .hbm, ⟨10, _⟩ => ⟨S4096x8x64, .f32⟩
  | .hbm, ⟨11, _⟩ => ⟨S_, .f32⟩
  | .hbm, ⟨12, _⟩ => ⟨S4096x8x32, .f32⟩
  | .hbm, ⟨13, _⟩ => ⟨S4096x8x128, .f32⟩
  | .hbm, ⟨14, _⟩ => ⟨S4096x1024, .f32⟩
  | .hbm, ⟨15, _⟩ => ⟨S4096x1024, .bf16⟩
  | .hbm, ⟨16, _⟩ => ⟨S_, .i32⟩
  | .hbm, ⟨17, _⟩ => ⟨S_, .f32⟩
  | .hbm, ⟨18, _⟩ => ⟨S4096x128, .f32⟩
  | .hbm, ⟨19, _⟩ => ⟨S4096x1, .i32⟩
  | .hbm, ⟨20, _⟩ => ⟨S4096x1024, .bf16⟩
  | .hbm, ⟨21, _⟩ => ⟨S4096x128, .bf16⟩
  | .hbm, ⟨22, _⟩ => ⟨S4096x1024, .f32⟩
  | .hbm, ⟨23, _⟩ => ⟨S4096x8x128, .f32⟩
  | .hbm, ⟨24, _⟩ => ⟨S4096x8x96, .f32⟩
  | .hbm, ⟨25, _⟩ => ⟨S4096x32, .bf16⟩
  | .hbm, ⟨26, _⟩ => ⟨S4096x8, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x128, .f32⟩
  | .local _ .vmem, ⟨5, _⟩ => ⟨S512x128, .f32⟩
  | .local _ .vmem, ⟨6, _⟩ => ⟨S512x1, .i32⟩
  | .local _ .vmem, ⟨7, _⟩ => ⟨S512x1, .i32⟩
  | .local _ .vmem, ⟨8, _⟩ => ⟨S512x1024, .bf16⟩
  | .local _ .vmem, ⟨9, _⟩ => ⟨S512x1024, .bf16⟩
  | .local _ .vmem, ⟨10, _⟩ => ⟨S512x128, .bf16⟩
  | .local _ .vmem, ⟨11, _⟩ => ⟨S512x128, .bf16⟩
  | _, _ => ⟨S4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_call0_v0 : Ref sig .tc := ⟨.hbm, 17, rfl⟩
abbrev main_v8 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RopeIdeal.lean ====
variable {F : FTy → Type} [FloatOps F] [Named F]
def κ : String → Option EReal := fun
  | "rate" => some ((-((Real.log 10000) * 16⁻¹) : ℝ) : EReal)
  | _ => none
-- ==== RopeRefIdeal.lean ====
abbrev S4096x8x64 : Shape := ⟨3, ![4096, 8, 64]⟩
abbrev S4096x8x32 : Shape := ⟨3, ![4096, 8, 32]⟩
abbrev S4096x8 : Shape := ⟨2, ![4096, 8]⟩
abbrev S4096 : Shape := ⟨1, ![4096]⟩
abbrev S_ : Shape := ⟨0, ![]⟩
abbrev S4096x8x96 : Shape := ⟨3, ![4096, 8, 96]⟩
abbrev S4096x32 : Shape := ⟨2, ![4096, 32]⟩
abbrev S4096x1x32 : Shape := ⟨3, ![4096, 1, 32]⟩
abbrev S16 : Shape := ⟨1, ![16]⟩
abbrev S4096x1x1 : Shape := ⟨3, ![4096, 1, 1]⟩
abbrev S1x1x16 : Shape := ⟨3, ![1, 1, 16]⟩
abbrev S4096x1x16 : Shape := ⟨3, ![4096, 1, 16]⟩
abbrev S4096x8x16 : Shape := ⟨3, ![4096, 8, 16]⟩

abbrev nBuf : Space → Nat
  | .hbm => 125
  | .vmem => 0
  | .smem => 0
  | _ => 0

abbrev bufTy : (tb : Table) → Fin (tcTables nBuf tb) → BufTy
  | .hbm, ⟨0, _⟩ => ⟨S4096x8x64, .f32⟩
  | .hbm, ⟨1, _⟩ => ⟨S4096x8x32, .f32⟩
  | .hbm, ⟨2, _⟩ => ⟨S4096x8x32, .f32⟩
  | .hbm, ⟨3, _⟩ => ⟨S4096x8, .f32⟩
  | .hbm, ⟨4, _⟩ => ⟨S4096, .i32⟩
  | .hbm, ⟨5, _⟩ => ⟨S_, .f32⟩
  | .hbm, ⟨6, _⟩ => ⟨S4096x8x96, .f32⟩
  | .hbm, ⟨7, _⟩ => ⟨S_, .f32⟩
  | .hbm, ⟨8, _⟩ => ⟨S4096x32, .f32⟩
  | .hbm, ⟨9, _⟩ => ⟨S_, .f32⟩
  | .hbm, ⟨10, _⟩ => ⟨S4096x8, .f32⟩
  | .hbm, ⟨11, _⟩ => ⟨S4096x1x32, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S4096, .f32⟩
  | .hbm, ⟨21, _⟩ => ⟨S4096x1x1, .f32⟩
  | .hbm, ⟨22, _⟩ => ⟨S1x1x16, .f32⟩
  | .hbm, ⟨23, _⟩ => ⟨S4096x1x16, .f32⟩
  | .hbm, ⟨24, _⟩ => ⟨S4096x1x16, .f32⟩
  | .hbm, ⟨25, _⟩ => ⟨S4096x1x16, .f32⟩
  | .hbm, ⟨26, _⟩ => ⟨S4096x1x16, .f32⟩
  | .hbm, ⟨27, _⟩ => ⟨S4096x1x16, .f32⟩
  | .hbm, ⟨28, _⟩ => ⟨S4096x1x16, .f32⟩
  | .hbm, ⟨29, _⟩ => ⟨S4096x1x16, .f32⟩
  | .hbm, ⟨30, _⟩ => ⟨S4096x1x16, .f32⟩
  | .hbm, ⟨31, _⟩ => ⟨S4096x1x16, .f32⟩
  | .hbm, ⟨32, _⟩ => ⟨S4096x1x16, .f32⟩
  | .hbm, ⟨33, _⟩ => ⟨S4096x1x16, .f32⟩
  | .hbm, ⟨34, _⟩ => ⟨S4096x1x16, .f32⟩
  | .hbm, ⟨35, _⟩ => ⟨S4096x1x16, .f32⟩
  | .hbm, ⟨36, _⟩ => ⟨S4096x1x32, .f32⟩
  | .hbm, ⟨37, _⟩ => ⟨S4096x8x64, .f32⟩
  | .hbm, ⟨38, _⟩ => ⟨S_, .f32⟩
  | .hbm, ⟨39, _⟩ => ⟨S4096x8x64, .f32⟩
  | .hbm, ⟨40, _⟩ => ⟨S4096x8x64, .f32⟩
  | .hbm, ⟨41, _⟩ => ⟨S4096x8x32, .f32⟩
  | .hbm, ⟨42, _⟩ => ⟨S16, .f32⟩
  | .hbm, ⟨43, _⟩ => ⟨S16, .f32⟩
  | .hbm, ⟨44, _⟩ => ⟨S_, .f32⟩
  | .hbm, ⟨45, _⟩ => ⟨S16, .f32⟩
  | .hbm, ⟨46, _⟩ => ⟨S16, .f32⟩
  | .hbm, ⟨47, _⟩ => ⟨S_, .f32⟩
  | .hbm, ⟨48, _⟩ => ⟨S16, .f32⟩
  | .hbm, ⟨49, _⟩ => ⟨S16, .f32⟩
  | .hbm, ⟨50, _⟩ => ⟨S4096, .f32⟩
  | .hbm, ⟨51, _⟩ => ⟨S4096x1x1, .f32⟩
  | .hbm, ⟨52, _⟩ => ⟨S1x1x16, .f32⟩
  | .hbm, ⟨53, _⟩ => ⟨S4096x1x16, .f32⟩
  | .hbm, ⟨54, _⟩ => ⟨S4096x1x16, .f32⟩
  | .hbm, ⟨55, _⟩ => ⟨S4096x1x16, .f32⟩
  | .hbm, ⟨56, _⟩ => ⟨S4096x1x16, .f32⟩
  | .hbm, ⟨57, _⟩ => ⟨S4096x1x16, .f32⟩
  | .hbm, ⟨58, _⟩ => ⟨S4096x8x16, .f32⟩
  | .hbm, ⟨59, _⟩ => ⟨S4096x8x16, .f32⟩
  | .hbm, ⟨60, _⟩ => ⟨S4096x8x16, .f32⟩
  | .hbm, ⟨61, _⟩ => ⟨S4096x8x16, .f32⟩
  | .hbm, ⟨62, _⟩ => ⟨S4096x8x16, .f32⟩
  | .hbm, ⟨63, _⟩ => ⟨S4096x8x16, .f32⟩
  | .hbm, ⟨64, _⟩ => ⟨S4096x8x16, .f32⟩
  | .hbm, ⟨65, _⟩ => ⟨S4096x8x16, .f32⟩
  | .hbm, ⟨66, _⟩ => ⟨S4096x8x16, .f32⟩
  | .hbm, ⟨67, _⟩ => ⟨S4096x8x16, .f32⟩
  | .hbm, ⟨68, _⟩ => ⟨S4096x8x16, .f32⟩
  | .hbm, ⟨69, _⟩ => ⟨S4096x8x16, .f32⟩
  | .hbm, ⟨70, _⟩ => ⟨S4096x8x32, .f32⟩
  | .hbm, ⟨71, _⟩ => ⟨S_, .f32⟩
  | .hbm, ⟨72, _⟩ => ⟨S4096x8x32, .f32⟩
  | .hbm, ⟨73, _⟩ => ⟨S4096x8x32, .f32⟩
  | .hbm, ⟨74, _⟩ => ⟨S4096x8x32, .f32⟩
  | .hbm, ⟨75, _⟩ => ⟨S_, .f32⟩
  | .hbm, ⟨76, _⟩ => ⟨S4096x32, .f32⟩
  | .hbm, ⟨77, _⟩ => ⟨S4096x1x32, .f32⟩
  | .hbm, ⟨78, _⟩ => ⟨S_, .f32⟩
  | .hbm, ⟨79, _⟩ => ⟨S4096x8x32, .f32⟩
  | .hbm, ⟨80, _⟩ => ⟨S4096x8x32, .f32⟩
  | .hbm, ⟨81, _⟩ => ⟨S4096x8x16, .f32⟩
  | .hbm, ⟨82, _⟩ => ⟨S4096x8x16, .f32⟩
  | .hbm, ⟨83, _⟩ => ⟨S4096x8x16, .f32⟩
  | .hbm, ⟨84, _⟩ => ⟨S4096x8x16, .f32⟩
  | .hbm, ⟨85, _⟩ => ⟨S4096x8x16, .f32⟩
  | .hbm, ⟨86, _⟩ => ⟨S4096x8x16, .f32⟩
  | .hbm, ⟨87, _⟩ => ⟨S4096x8x16, .f32⟩
  | .hbm, ⟨88, _⟩ => ⟨S4096x8x16, .f32⟩
  | .hbm, ⟨89, _⟩ => ⟨S4096x8x16, .f32⟩
  | .hbm, ⟨90, _⟩ => ⟨S4096x8x16, .f32⟩
  | .hbm, ⟨91, _⟩ => ⟨S4096x8x16, .f32⟩
  | .hbm, ⟨92, _⟩ => ⟨S4096x8x16, .f32⟩
  | .hbm, ⟨93, _⟩ => ⟨S4096x8x16, .f32⟩
  | .hbm, ⟨94, _⟩ => ⟨S_, .f32⟩
  | .hbm, ⟨95, _⟩ => ⟨S4096x8x32, .f32⟩
  | .hbm, ⟨96, _⟩ => ⟨S_, .f32⟩
  | .hbm, ⟨97, _⟩ => ⟨S4096x8x32, .f32⟩
  | .hbm, ⟨98, _⟩ => ⟨S4096x8x32, .f32⟩
  | .hbm, ⟨99, _⟩ => ⟨S_, .f32⟩
  | .hbm, ⟨100, _⟩ => ⟨S4096x8x96, .f32⟩
  | .hbm, ⟨101, _⟩ => ⟨S_, .f32⟩
  | .hbm, ⟨102, _⟩ => ⟨S4096x8x64, .f32⟩
  | .hbm, ⟨103, _⟩ => ⟨S4096x8x64, .f32⟩
  | .hbm, ⟨104, _⟩ => ⟨S_, .f32⟩
  | .hbm, ⟨105, _⟩ => ⟨S4096x8x96, .f32⟩
  | .hbm, ⟨106, _⟩ => ⟨S4096x8x96, .f32⟩
  | .hbm, ⟨107, _⟩ => ⟨S4096x1x16, .f32⟩
  | .hbm, ⟨108, _⟩ => ⟨S4096x1x16, .f32⟩
  | .hbm, ⟨109, _⟩ => ⟨S4096x1x16, .f32⟩
  | .hbm, ⟨110, _⟩ => ⟨S4096x1x16, .f32⟩
  | .hbm, ⟨111, _⟩ => ⟨S4096x1x16, .f32⟩
  | .hbm, ⟨112, _⟩ => ⟨S4096x1x16, .f32⟩
  | .hbm, ⟨113, _⟩ => ⟨S4096x1x16, .f32⟩
  | .hbm, ⟨114, _⟩ => ⟨S4096x1x16, .f32⟩
  | .hbm, ⟨115, _⟩ => ⟨S4096x1x16, .f32⟩
  | .hbm, ⟨116, _⟩ => ⟨S_, .f32⟩
  | .hbm, ⟨117, _⟩ => ⟨S4096x1x32, .f32⟩
  | .hbm, ⟨118, _⟩ => ⟨S_, .f32⟩
  | .hbm, ⟨119, _⟩ => ⟨S4096x1x32, .f32⟩
  | .hbm, ⟨120, _⟩ => ⟨S4096x1x32, .f32⟩
  | .hbm, ⟨121, _⟩ => ⟨S_, .f32⟩
  | .hbm, ⟨122, _⟩ => ⟨S4096x32, .f32⟩
  | .hbm, ⟨123, _⟩ => ⟨S4096x32, .bf16⟩
  | .hbm, ⟨124, _⟩ => ⟨S4096x8, .bf16⟩
  | _, _ => ⟨S4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_cst_3 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_cst_7 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_cst_8 : Ref sig .tc := ⟨.hbm, 75, rfl⟩
abbrev main_v61 : Ref sig .tc := ⟨.hbm, 76, rfl⟩
abbrev main_v62 : Ref sig .tc := ⟨.hbm, 77, rfl⟩
abbrev main_cst_9 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_cst_10 : Ref sig .tc := ⟨.hbm, 94, rfl⟩
abbrev main_v78 : Ref sig .tc := ⟨.hbm, 95, rfl⟩
abbrev main_cst_11 : Ref sig .tc := ⟨.hbm, 96, rfl⟩
abbrev main_v79 : Ref sig .tc := ⟨.hbm, 97, rfl⟩
abbrev main_v80 : Ref sig .tc := ⟨.hbm, 98, rfl⟩
abbrev main_cst_12 : Ref sig .tc := ⟨.hbm, 99, rfl⟩
abbrev main_v81 : Ref sig .tc := ⟨.hbm, 100, rfl⟩
abbrev main_cst_13 : Ref sig .tc := ⟨.hbm, 101, rfl⟩
abbrev main_v82 : Ref sig .tc := ⟨.hbm, 102, rfl⟩
abbrev main_v83 : Ref sig .tc := ⟨.hbm, 103, rfl⟩
abbrev main_cst_14 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_cst_15 : Ref sig .tc := ⟨.hbm, 116, rfl⟩
abbrev main_v95 : Ref sig .tc := ⟨.hbm, 117, rfl⟩
abbrev main_cst_16 : Ref sig .tc := ⟨.hbm, 118, rfl⟩
abbrev main_v96 : Ref sig .tc := ⟨.hbm, 119, rfl⟩
abbrev main_v97 : Ref sig .tc := ⟨.hbm, 120, rfl⟩
abbrev main_cst_17 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩

abbrev nD : Nat := 1
abbrev τ : Topo := Topo.v7x

variable {F : FTy → Type} [FloatOps F]
-- ==== Flash.lean ====
abbrev S4096x8x64 : Shape := ⟨3, ![4096, 8, 64]⟩
abbrev S4096x8x32 : Shape := ⟨3, ![4096, 8, 32]⟩
abbrev S4096x32 : Shape := ⟨2, ![4096, 32]⟩
abbrev S4096x1x32 : Shape := ⟨3, ![4096, 1, 32]⟩
abbrev S_ : Shape := ⟨0, ![]⟩
abbrev S4096x8x128 : Shape := ⟨3, ![4096, 8, 128]⟩
abbrev S4096x1024 : Shape := ⟨2, ![4096, 1024]⟩
abbrev S4096x8x2 : Shape := ⟨3, ![4096, 8, 2]⟩
abbrev S4096x8x30 : Shape := ⟨3, ![4096, 8, 30]⟩
abbrev S4096x8x62 : Shape := ⟨3, ![4096, 8, 62]⟩
abbrev S1024x512 : Shape := ⟨2, ![1024, 512]⟩
abbrev S4096x512 : Shape := ⟨2, ![4096, 512]⟩
abbrev S512x128 : Shape := ⟨2, ![512, 128]⟩
abbrev S512x512 : Shape := ⟨2, ![512, 512]⟩
abbrev S1024x1 : Shape := ⟨2, ![1024, 1]⟩
abbrev S1024x128 : Shape := ⟨2, ![1024, 128]⟩
abbrev S1024 : Shape := ⟨1, ![1024]⟩
abbrev S512x1 : Shape := ⟨2, ![512, 1]⟩
abbrev S512 : Shape := ⟨1, ![512]⟩
abbrev S4096x8x1 : Shape := ⟨3, ![4096, 8, 1]⟩
abbrev S4096x8 : Shape := ⟨2, ![4096, 8]⟩

abbrev nBuf : Space → Nat
  | .hbm => 54
  | .vmem => 10
  | .smem => 0
  | _ => 0

abbrev bufTy : (tb : Table) → Fin (tcTables nBuf tb) → BufTy
  | .hbm, ⟨0, _⟩ => ⟨S4096x8x64, .f32⟩
  | .hbm, ⟨1, _⟩ => ⟨S4096x8x32, .f32⟩
  | .hbm, ⟨2, _⟩ => ⟨S4096x8x64, .f32⟩
  | .hbm, ⟨3, _⟩ => ⟨S4096x32, .f32⟩
  | .hbm, ⟨4, _⟩ => ⟨S4096x8x64, .f32⟩
  | .hbm, ⟨5, _⟩ => ⟨S4096x1x32, .f32⟩
  | .hbm, ⟨6, _⟩ => ⟨S4096x8x32, .f32⟩
  | .hbm, ⟨7, _⟩ => ⟨S_, .f32⟩
  | .hbm, ⟨8, _⟩ => ⟨S4096x8x64, .f32⟩
  | .hbm, ⟨9, _⟩ => ⟨S4096x8x64, .f32⟩
  | .hbm, ⟨10, _⟩ => ⟨S_, .f32⟩
  | .hbm, ⟨11, _⟩ => ⟨S4096x8x32, .f32⟩
  | .hbm, ⟨12, _⟩ => ⟨S4096x8x32, .f32⟩
  | .hbm, ⟨13, _⟩ => ⟨S_, .f32⟩
  | .hbm, ⟨14, _⟩ => ⟨S4096x8x32, .f32⟩
  | .hbm, ⟨15, _⟩ => ⟨S4096x8x64, .bf16⟩
  | .hbm, ⟨16, _⟩ => ⟨S4096x8x32, .bf16⟩
  | .hbm, ⟨17, _⟩ => ⟨S4096x8x32, .bf16⟩
  | .hbm, ⟨18, _⟩ => ⟨S4096x8x128, .bf16⟩
  | .hbm, ⟨19, _⟩ => ⟨S4096x1024, .bf16⟩
  | .hbm, ⟨20, _⟩ => ⟨S_, .f32⟩
  | .hbm, ⟨21, _⟩ => ⟨S4096x8x2, .f32⟩
  | .hbm, ⟨22, _⟩ => ⟨S_, .f32⟩
  | .hbm, ⟨23, _⟩ => ⟨S4096x8x30, .f32⟩
  | .hbm, ⟨24, _⟩ => ⟨S4096x8x64, .bf16⟩
  | .hbm, ⟨25, _⟩ => ⟨S4096x8x32, .bf16⟩
  | .hbm, ⟨26, _⟩ => ⟨S4096x8x2, .bf16⟩
  | .hbm, ⟨27, _⟩ => ⟨S4096x8x30, .bf16⟩
  | .hbm, ⟨28, _⟩ => ⟨S4096x8x128, .bf16⟩
  | .hbm, ⟨29, _⟩ => ⟨S4096x1024, .bf16⟩
  | .hbm, ⟨30, _⟩ => ⟨S_, .f32⟩
  | .hbm, ⟨31, _⟩ => ⟨S4096x8x2, .f32⟩
  | .hbm, ⟨32, _⟩ => ⟨S_, .f32⟩
  | .hbm, ⟨33, _⟩ => ⟨S4096x8x62, .f32⟩
  | .hbm, ⟨34, _⟩ => ⟨S4096x8x64, .bf16⟩
  | .hbm, ⟨35, _⟩ => ⟨S4096x8x2, .bf16⟩
  | .hbm, ⟨36, _⟩ => ⟨S4096x8x62, .bf16⟩
  | .hbm, ⟨37, _⟩ => ⟨S4096x8x128, .bf16⟩
  | .hbm, ⟨38, _⟩ => ⟨S4096x1024, .bf16⟩
  | .hbm, ⟨39, _⟩ => ⟨S4096x1024, .bf16⟩
  | .hbm, ⟨40, _⟩ => ⟨S4096x1024, .bf16⟩
  | .hbm, ⟨41, _⟩ => ⟨S4096x1024, .f32⟩
  | .hbm, ⟨42, _⟩ => ⟨S4096x8x128, .f32⟩
  | .hbm, ⟨43, _⟩ => ⟨S4096x1024, .f32⟩
  | .hbm, ⟨44, _⟩ => ⟨S4096x8x128, .f32⟩
  | .hbm, ⟨45, _⟩ => ⟨S4096x8x64, .f32⟩
  | .hbm, ⟨46, _⟩ => ⟨S4096x512, .f32⟩
  | .hbm, ⟨47, _⟩ => ⟨S4096x8x1, .f32⟩
  | .hbm, ⟨48, _⟩ => ⟨S4096x8, .f32⟩
  | .hbm, ⟨49, _⟩ => ⟨S4096x8x1, .f32⟩
  | .hbm, ⟨50, _⟩ => ⟨S4096x8, .f32⟩
  | .hbm, ⟨51, _⟩ => ⟨S4096x8, .f32⟩
  | .hbm, ⟨52, _⟩ => ⟨S4096x8x64, .f32⟩
  | .hbm, ⟨53, _⟩ => ⟨S4096x8x32, .f32⟩
  | .local _ .vmem, ⟨0, _⟩ => ⟨S1024x512, .bf16⟩
  | .local _ .vmem, ⟨1, _⟩ => ⟨S1024x512, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | _, _ => ⟨S4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27_0 : Ref sig .tc := ⟨.hbm, 39, rfl⟩
abbrev main_v27_1 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

@[reducible] def k0_t1_loop (i : grid0.Coords) : Scf.Loop 32 :=
  let c0_i32_11 : BitVec 32 := 0#32
  let arg1 : BitVec 32 := BitVec.ofNat 32 (i 1).val
  let c1024_i32 : BitVec 32 := 1024#32
  let v12 : BitVec 32 := Scalar.muli arg1 c1024_i32
  let c0_i32 : BitVec 32 := 0#32
  let v14 : BitVec 1 := Scalar.cmpi .sgt v12 c0_i32
  let v15 : BitVec 32 := Scalar.extui v14
  let c0_i32_7 : BitVec 32 := 0#32
  let v16 : BitVec 1 := Scalar.cmpi .slt v12 c0_i32_7
  let v17 : BitVec 32 := Scalar.extui v16
  let v18 : BitVec 32 := Scalar.subi v15 v17
  let c512_i32 : BitVec 32 := 512#32
  let c0_i32_8 : BitVec 32 := 0#32
  let v19 : BitVec 1 := Scalar.cmpi .sgt c512_i32 c0_i32_8
  let v20 : BitVec 32 := Scalar.extui v19
  let c0_i32_9 : BitVec 32 := 0#32
  let v21 : BitVec 1 := Scalar.cmpi .slt c512_i32 c0_i32_9
  let v22 : BitVec 32 := Scalar.extui v21
  let v23 : BitVec 32 := Scalar.subi v20 v22
  let v24 : BitVec 1 := Scalar.cmpi .ne v18 v23
  let v25 : BitVec 32 := Scalar.remsi v12 c512_i32
  let c0_i32_10 : BitVec 32 := 0#32
  let v26 : BitVec 1 := Scalar.cmpi .ne v25 c0_i32_10
  let v27 : BitVec 1 := Scalar.andi v24 v26
  let v13 : BitVec 32 := Scalar.divsi v12 c512_i32
  let c1_i32 : BitVec 32 := 1#32
  let v28 : BitVec 32 := Scalar.subi v13 c1_i32
  let v29 : BitVec 32 := Scalar.select v27 v28 v13
  let v30 : BitVec 32 := Scalar.subi v29 c0_i32_11
  let c1_i32_12 : BitVec 32 := 1#32
  let v32 : BitVec 32 := Scalar.divsi v30 c1_i32_12
  let v33 : BitVec 32 := Scalar.muli v32 c1_i32_12
  let v34 : BitVec 32 := Scalar.addi c0_i32_11 v33
  let c1_i32_13 : BitVec 32 := 1#32
  ⟨c0_i32_11, v34, c1_i32_13⟩
def k0_mult1 (i : grid0.Coords) (k0_t1 : Fin (k0_t1_loop i).trips) : BitVec 32 :=
  let c0_i32_11 : BitVec 32 := 0#32
  let c1_i32_13 : BitVec 32 := 1#32
  let arg7 : BitVec 32 := Scf.iv c0_i32_11 c1_i32_13 k0_t1
  let c512_i32_168 : BitVec 32 := 512#32
  let v523 : BitVec 32 := Scalar.muli arg7 c512_i32_168
  v523
def k0_off1 (i : grid0.Coords) (k0_t1 : Fin (k0_t1_loop i).trips) : Fin 2 → Nat :=
  let c0_i32_11 : BitVec 32 := 0#32
  let c1_i32_13 : BitVec 32 := 1#32
  let arg7 : BitVec 32 := Scf.iv c0_i32_11 c1_i32_13 k0_t1
  let c512_i32_168 : BitVec 32 := 512#32
  let v523 : BitVec 32 := Scalar.muli arg7 c512_i32_168
  let v524 : BitVec 32 := v523
  let v527 : Index := Scalar.indexCast v524
  let c0_171 : Index := 0#32
  ![v527.toNat, 0]
def k0_off2 (i : grid0.Coords) (k0_t1 : Fin (k0_t1_loop i).trips) : Fin 2 → Nat :=
  let c0_i32_11 : BitVec 32 := 0#32
  let c1_i32_13 : BitVec 32 := 1#32
  let arg7 : BitVec 32 := Scf.iv c0_i32_11 c1_i32_13 k0_t1
  let c512_i32_168 : BitVec 32 := 512#32
  let v523 : BitVec 32 := Scalar.muli arg7 c512_i32_168
  let v524 : BitVec 32 := v523
  let v549 : Index := Scalar.indexCast v524
  let c128_178 : Index := 128#32
  ![v549.toNat, 128]
def k0_off3 (i : grid0.Coords) (k0_t1 : Fin (k0_t1_loop i).trips) : Fin 2 → Nat :=
  let c0_i32_11 : BitVec 32 := 0#32
  let c1_i32_13 : BitVec 32 := 1#32
  let arg7 : BitVec 32 := Scf.iv c0_i32_11 c1_i32_13 k0_t1
  let c512_i32_168 : BitVec 32 := 512#32
  let v523 : BitVec 32 := Scalar.muli arg7 c512_i32_168
  let v524 : BitVec 32 := v523
  let v571 : Index := Scalar.indexCast v524
  let c256_185 : Index := 256#32
  ![v571.toNat, 256]
def k0_off4 (i : grid0.Coords) (k0_t1 : Fin (k0_t1_loop i).trips) : Fin 2 → Nat :=
  let c0_i32_11 : BitVec 32 := 0#32
  let c1_i32_13 : BitVec 32 := 1#32
  let arg7 : BitVec 32 := Scf.iv c0_i32_11 c1_i32_13 k0_t1
  let c512_i32_168 : BitVec 32 := 512#32
  let v523 : BitVec 32 := Scalar.muli arg7 c512_i32_168
  let v524 : BitVec 32 := v523
  let v593 : Index := Scalar.indexCast v524
  let c384_192 : Index := 384#32
  ![v593.toNat, 384]
@[reducible] def k0_t2_loop (i : grid0.Coords) : Scf.Loop 32 :=
  let c0_i32_11 : BitVec 32 := 0#32
  let arg1 : BitVec 32 := BitVec.ofNat 32 (i 1).val
  let c1024_i32 : BitVec 32 := 1024#32
  let v12 : BitVec 32 := Scalar.muli arg1 c1024_i32
  let c0_i32 : BitVec 32 := 0#32
  let v14 : BitVec 1 := Scalar.cmpi .sgt v12 c0_i32
  let v15 : BitVec 32 := Scalar.extui v14
  let c0_i32_7 : BitVec 32 := 0#32
  let v16 : BitVec 1 := Scalar.cmpi .slt v12 c0_i32_7
  let v17 : BitVec 32 := Scalar.extui v16
  let v18 : BitVec 32 := Scalar.subi v15 v17
  let c512_i32 : BitVec 32 := 512#32
  let c0_i32_8 : BitVec 32 := 0#32
  let v19 : BitVec 1 := Scalar.cmpi .sgt c512_i32 c0_i32_8
  let v20 : BitVec 32 := Scalar.extui v19
  let c0_i32_9 : BitVec 32 := 0#32
  let v21 : BitVec 1 := Scalar.cmpi .slt c512_i32 c0_i32_9
  let v22 : BitVec 32 := Scalar.extui v21
  let v23 : BitVec 32 := Scalar.subi v20 v22
  let v24 : BitVec 1 := Scalar.cmpi .ne v18 v23
  let v25 : BitVec 32 := Scalar.remsi v12 c512_i32
  let c0_i32_10 : BitVec 32 := 0#32
  let v26 : BitVec 1 := Scalar.cmpi .ne v25 c0_i32_10
  let v27 : BitVec 1 := Scalar.andi v24 v26
  let v13 : BitVec 32 := Scalar.divsi v12 c512_i32
  let c1_i32 : BitVec 32 := 1#32
  let v28 : BitVec 32 := Scalar.subi v13 c1_i32
  let v29 : BitVec 32 := Scalar.select v27 v28 v13
  let v30 : BitVec 32 := Scalar.subi v29 c0_i32_11
  let c1_i32_12 : BitVec 32 := 1#32
  let v32 : BitVec 32 := Scalar.divsi v30 c1_i32_12
  let v33 : BitVec 32 := Scalar.muli v32 c1_i32_12
  let v34 : BitVec 32 := Scalar.addi c0_i32_11 v33
  let v31 : BitVec 32 := Scalar.addi c0_i32_11 v30
  let c1_i32_14 : BitVec 32 := 1#32
  ⟨v34, v31, c1_i32_14⟩
def k0_mult2 (i : grid0.Coords) (k0_t2 : Fin (k0_t2_loop i).trips) : BitVec 32 :=
  let c0_i32_11 : BitVec 32 := 0#32
  let arg1 : BitVec 32 := BitVec.ofNat 32 (i 1).val
  let c1024_i32 : BitVec 32 := 1024#32
  let v12 : BitVec 32 := Scalar.muli arg1 c1024_i32
  let c0_i32 : BitVec 32 := 0#32
  let v14 : BitVec 1 := Scalar.cmpi .sgt v12 c0_i32
  let v15 : BitVec 32 := Scalar.extui v14
  let c0_i32_7 : BitVec 32 := 0#32
  let v16 : BitVec 1 := Scalar.cmpi .slt v12 c0_i32_7
  let v17 : BitVec 32 := Scalar.extui v16
  let v18 : BitVec 32 := Scalar.subi v15 v17
  let c512_i32 : BitVec 32 := 512#32
  let c0_i32_8 : BitVec 32 := 0#32
  let v19 : BitVec 1 := Scalar.cmpi .sgt c512_i32 c0_i32_8
  let v20 : BitVec 32 := Scalar.extui v19
  let c0_i32_9 : BitVec 32 := 0#32
  let v21 : BitVec 1 := Scalar.cmpi .slt c512_i32 c0_i32_9
  let v22 : BitVec 32 := Scalar.extui v21
  let v23 : BitVec 32 := Scalar.subi v20 v22
  let v24 : BitVec 1 := Scalar.cmpi .ne v18 v23
  let v25 : BitVec 32 := Scalar.remsi v12 c512_i32
  let c0_i32_10 : BitVec 32 := 0#32
  let v26 : BitVec 1 := Scalar.cmpi .ne v25 c0_i32_10
  let v27 : BitVec 1 := Scalar.andi v24 v26
  let v13 : BitVec 32 := Scalar.divsi v12 c512_i32
  let c1_i32 : BitVec 32 := 1#32
  let v28 : BitVec 32 := Scalar.subi v13 c1_i32
  let v29 : BitVec 32 := Scalar.select v27 v28 v13
  let v30 : BitVec 32 := Scalar.subi v29 c0_i32_11
  let c1_i32_12 : BitVec 32 := 1#32
  let v32 : BitVec 32 := Scalar.divsi v30 c1_i32_12
  let v33 : BitVec 32 := Scalar.muli v32 c1_i32_12
  let v34 : BitVec 32 := Scalar.addi c0_i32_11 v33
  let c1_i32_14 : BitVec 32 := 1#32
  let arg7 : BitVec 32 := Scf.iv v34 c1_i32_14 k0_t2
  let c512_i32_168 : BitVec 32 := 512#32
  let v523 : BitVec 32 := Scalar.muli arg7 c512_i32_168
  v523
def k0_off5 (i : grid0.Coords) (k0_t2 : Fin (k0_t2_loop i).trips) : Fin 2 → Nat :=
  let c0_i32_11 : BitVec 32 := 0#32
  let arg1 : BitVec 32 := BitVec.ofNat 32 (i 1).val
  let c1024_i32 : BitVec 32 := 1024#32
  let v12 : BitVec 32 := Scalar.muli arg1 c1024_i32
  let c0_i32 : BitVec 32 := 0#32
  let v14 : BitVec 1 := Scalar.cmpi .sgt v12 c0_i32
  let v15 : BitVec 32 := Scalar.extui v14
  let c0_i32_7 : BitVec 32 := 0#32
  let v16 : BitVec 1 := Scalar.cmpi .slt v12 c0_i32_7
  let v17 : BitVec 32 := Scalar.extui v16
  let v18 : BitVec 32 := Scalar.subi v15 v17
  let c512_i32 : BitVec 32 := 512#32
  let c0_i32_8 : BitVec 32 := 0#32
  let v19 : BitVec 1 := Scalar.cmpi .sgt c512_i32 c0_i32_8
  let v20 : BitVec 32 := Scalar.extui v19
  let c0_i32_9 : BitVec 32 := 0#32
  let v21 : BitVec 1 := Scalar.cmpi .slt c512_i32 c0_i32_9
  let v22 : BitVec 32 := Scalar.extui v21
  let v23 : BitVec 32 := Scalar.subi v20 v22
  let v24 : BitVec 1 := Scalar.cmpi .ne v18 v23
  let v25 : BitVec 32 := Scalar.remsi v12 c512_i32
  let c0_i32_10 : BitVec 32 := 0#32
  let v26 : BitVec 1 := Scalar.cmpi .ne v25 c0_i32_10
  let v27 : BitVec 1 := Scalar.andi v24 v26
  let v13 : BitVec 32 := Scalar.divsi v12 c512_i32
  let c1_i32 : BitVec 32 := 1#32
  let v28 : BitVec 32 := Scalar.subi v13 c1_i32
  let v29 : BitVec 32 := Scalar.select v27 v28 v13
  let v30 : BitVec 32 := Scalar.subi v29 c0_i32_11
  let c1_i32_12 : BitVec 32 := 1#32
  let v32 : BitVec 32 := Scalar.divsi v30 c1_i32_12
  let v33 : BitVec 32 := Scalar.muli v32 c1_i32_12
  let v34 : BitVec 32 := Scalar.addi c0_i32_11 v33
  let c1_i32_14 : BitVec 32 := 1#32
  let arg7 : BitVec 32 := Scf.iv v34 c1_i32_14 k0_t2
  let c512_i32_168 : BitVec 32 := 512#32
  let v523 : BitVec 32 := Scalar.muli arg7 c512_i32_168
  let v524 : BitVec 32 := v523
  let v527 : Index := Scalar.indexCast v524
  let c0_171 : Index := 0#32
  ![v527.toNat, 0]
def k0_off6 (i : grid0.Coords) (k0_t2 : Fin (k0_t2_loop i).trips) : Fin 2 → Nat :=
  let c0_i32_11 : BitVec 32 := 0#32
  let arg1 : BitVec 32 := BitVec.ofNat 32 (i 1).val
  let c1024_i32 : BitVec 32 := 1024#32
  let v12 : BitVec 32 := Scalar.muli arg1 c1024_i32
  let c0_i32 : BitVec 32 := 0#32
  let v14 : BitVec 1 := Scalar.cmpi .sgt v12 c0_i32
  let v15 : BitVec 32 := Scalar.extui v14
  let c0_i32_7 : BitVec 32 := 0#32
  let v16 : BitVec 1 := Scalar.cmpi .slt v12 c0_i32_7
  let v17 : BitVec 32 := Scalar.extui v16
  let v18 : BitVec 32 := Scalar.subi v15 v17
  let c512_i32 : BitVec 32 := 512#32
  let c0_i32_8 : BitVec 32 := 0#32
  let v19 : BitVec 1 := Scalar.cmpi .sgt c512_i32 c0_i32_8
  let v20 : BitVec 32 := Scalar.extui v19
  let c0_i32_9 : BitVec 32 := 0#32
  let v21 : BitVec 1 := Scalar.cmpi .slt c512_i32 c0_i32_9
  let v22 : BitVec 32 := Scalar.extui v21
  let v23 : BitVec 32 := Scalar.subi v20 v22
  let v24 : BitVec 1 := Scalar.cmpi .ne v18 v23
  let v25 : BitVec 32 := Scalar.remsi v12 c512_i32
  let c0_i32_10 : BitVec 32 := 0#32
  let v26 : BitVec 1 := Scalar.cmpi .ne v25 c0_i32_10
  let v27 : BitVec 1 := Scalar.andi v24 v26
  let v13 : BitVec 32 := Scalar.divsi v12 c512_i32
  let c1_i32 : BitVec 32 := 1#32
  let v28 : BitVec 32 := Scalar.subi v13 c1_i32
  let v29 : BitVec 32 := Scalar.select v27 v28 v13
  let v30 : BitVec 32 := Scalar.subi v29 c0_i32_11
  let c1_i32_12 : BitVec 32 := 1#32
  let v32 : BitVec 32 := Scalar.divsi v30 c1_i32_12
  let v33 : BitVec 32 := Scalar.muli v32 c1_i32_12
  let v34 : BitVec 32 := Scalar.addi c0_i32_11 v33
  let c1_i32_14 : BitVec 32 := 1#32
  let arg7 : BitVec 32 := Scf.iv v34 c1_i32_14 k0_t2
  let c512_i32_168 : BitVec 32 := 512#32
  let v523 : BitVec 32 := Scalar.muli arg7 c512_i32_168
  let v524 : BitVec 32 := v523
  let v549 : Index := Scalar.indexCast v524
  let c128_178 : Index := 128#32
  ![v549.toNat, 128]
def k0_off7 (i : grid0.Coords) (k0_t2 : Fin (k0_t2_loop i).trips) : Fin 2 → Nat :=
  let c0_i32_11 : BitVec 32 := 0#32
  let arg1 : BitVec 32 := BitVec.ofNat 32 (i 1).val
  let c1024_i32 : BitVec 32 := 1024#32
  let v12 : BitVec 32 := Scalar.muli arg1 c1024_i32
  let c0_i32 : BitVec 32 := 0#32
  let v14 : BitVec 1 := Scalar.cmpi .sgt v12 c0_i32
  let v15 : BitVec 32 := Scalar.extui v14
  let c0_i32_7 : BitVec 32 := 0#32
  let v16 : BitVec 1 := Scalar.cmpi .slt v12 c0_i32_7
  let v17 : BitVec 32 := Scalar.extui v16
  let v18 : BitVec 32 := Scalar.subi v15 v17
  let c512_i32 : BitVec 32 := 512#32
  let c0_i32_8 : BitVec 32 := 0#32
  let v19 : BitVec 1 := Scalar.cmpi .sgt c512_i32 c0_i32_8
  let v20 : BitVec 32 := Scalar.extui v19
  let c0_i32_9 : BitVec 32 := 0#32
  let v21 : BitVec 1 := Scalar.cmpi .slt c512_i32 c0_i32_9
  let v22 : BitVec 32 := Scalar.extui v21
  let v23 : BitVec 32 := Scalar.subi v20 v22
  let v24 : BitVec 1 := Scalar.cmpi .ne v18 v23
  let v25 : BitVec 32 := Scalar.remsi v12 c512_i32
  let c0_i32_10 : BitVec 32 := 0#32
  let v26 : BitVec 1 := Scalar.cmpi .ne v25 c0_i32_10
  let v27 : BitVec 1 := Scalar.andi v24 v26
  let v13 : BitVec 32 := Scalar.divsi v12 c512_i32
  let c1_i32 : BitVec 32 := 1#32
  let v28 : BitVec 32 := Scalar.subi v13 c1_i32
  let v29 : BitVec 32 := Scalar.select v27 v28 v13
  let v30 : BitVec 32 := Scalar.subi v29 c0_i32_11
  let c1_i32_12 : BitVec 32 := 1#32
  let v32 : BitVec 32 := Scalar.divsi v30 c1_i32_12
  let v33 : BitVec 32 := Scalar.muli v32 c1_i32_12
  let v34 : BitVec 32 := Scalar.addi c0_i32_11 v33
  let c1_i32_14 : BitVec 32 := 1#32
  let arg7 : BitVec 32 := Scf.iv v34 c1_i32_14 k0_t2
  let c512_i32_168 : BitVec 32 := 512#32
  let v523 : BitVec 32 := Scalar.muli arg7 c512_i32_168
  let v524 : BitVec 32 := v523
  let v571 : Index := Scalar.indexCast v524
  let c256_185 : Index := 256#32
  ![v571.toNat, 256]
def k0_off8 (i : grid0.Coords) (k0_t2 : Fin (k0_t2_loop i).trips) : Fin 2 → Nat :=
  let c0_i32_11 : BitVec 32 := 0#32
  let arg1 : BitVec 32 := BitVec.ofNat 32 (i 1).val
  let c1024_i32 : BitVec 32 := 1024#32
  let v12 : BitVec 32 := Scalar.muli arg1 c1024_i32
  let c0_i32 : BitVec 32 := 0#32
  let v14 : BitVec 1 := Scalar.cmpi .sgt v12 c0_i32
  let v15 : BitVec 32 := Scalar.extui v14
  let c0_i32_7 : BitVec 32 := 0#32
  let v16 : BitVec 1 := Scalar.cmpi .slt v12 c0_i32_7
  let v17 : BitVec 32 := Scalar.extui v16
  let v18 : BitVec 32 := Scalar.subi v15 v17
  let c512_i32 : BitVec 32 := 512#32
  let c0_i32_8 : BitVec 32 := 0#32
  let v19 : BitVec 1 := Scalar.cmpi .sgt c512_i32 c0_i32_8
  let v20 : BitVec 32 := Scalar.extui v19
  let c0_i32_9 : BitVec 32 := 0#32
  let v21 : BitVec 1 := Scalar.cmpi .slt c512_i32 c0_i32_9
  let v22 : BitVec 32 := Scalar.extui v21
  let v23 : BitVec 32 := Scalar.subi v20 v22
  let v24 : BitVec 1 := Scalar.cmpi .ne v18 v23
  let v25 : BitVec 32 := Scalar.remsi v12 c512_i32
  let c0_i32_10 : BitVec 32 := 0#32
  let v26 : BitVec 1 := Scalar.cmpi .ne v25 c0_i32_10
  let v27 : BitVec 1 := Scalar.andi v24 v26
  let v13 : BitVec 32 := Scalar.divsi v12 c512_i32
  let c1_i32 : BitVec 32 := 1#32
  let v28 : BitVec 32 := Scalar.subi v13 c1_i32
  let v29 : BitVec 32 := Scalar.select v27 v28 v13
  let v30 : BitVec 32 := Scalar.subi v29 c0_i32_11
  let c1_i32_12 : BitVec 32 := 1#32
  let v32 : BitVec 32 := Scalar.divsi v30 c1_i32_12
  let v33 : BitVec 32 := Scalar.muli v32 c1_i32_12
  let v34 : BitVec 32 := Scalar.addi c0_i32_11 v33
  let c1_i32_14 : BitVec 32 := 1#32
  let arg7 : BitVec 32 := Scf.iv v34 c1_i32_14 k0_t2
  let c512_i32_168 : BitVec 32 := 512#32
  let v523 : BitVec 32 := Scalar.muli arg7 c512_i32_168
  let v524 : BitVec 32 := v523
  let v593 : Index := Scalar.indexCast v524
  let c384_192 : Index := 384#32
  ![v593.toNat, 384]
def k0_mult3 (i : grid0.Coords) : BitVec 32 :=
  let arg1 : BitVec 32 := BitVec.ofNat 32 (i 1).val
  let c1024_i32 : BitVec 32 := 1024#32
  let v12 : BitVec 32 := Scalar.muli arg1 c1024_i32
  let c0_i32 : BitVec 32 := 0#32
  let v14 : BitVec 1 := Scalar.cmpi .sgt v12 c0_i32
  let v15 : BitVec 32 := Scalar.extui v14
  let c0_i32_7 : BitVec 32 := 0#32
  let v16 : BitVec 1 := Scalar.cmpi .slt v12 c0_i32_7
  let v17 : BitVec 32 := Scalar.extui v16
  let v18 : BitVec 32 := Scalar.subi v15 v17
  let c512_i32 : BitVec 32 := 512#32
  let c0_i32_8 : BitVec 32 := 0#32
  let v19 : BitVec 1 := Scalar.cmpi .sgt c512_i32 c0_i32_8
  let v20 : BitVec 32 := Scalar.extui v19
  let c0_i32_9 : BitVec 32 := 0#32
  let v21 : BitVec 1 := Scalar.cmpi .slt c512_i32 c0_i32_9
  let v22 : BitVec 32 := Scalar.extui v21
  let v23 : BitVec 32 := Scalar.subi v20 v22
  let v24 : BitVec 1 := Scalar.cmpi .ne v18 v23
  let v25 : BitVec 32 := Scalar.remsi v12 c512_i32
  let c0_i32_10 : BitVec 32 := 0#32
  let v26 : BitVec 1 := Scalar.cmpi .ne v25 c0_i32_10
  let v27 : BitVec 1 := Scalar.andi v24 v26
  let v13 : BitVec 32 := Scalar.divsi v12 c512_i32
  let c1_i32 : BitVec 32 := 1#32
  let v28 : BitVec 32 := Scalar.subi v13 c1_i32
  let v29 : BitVec 32 := Scalar.select v27 v28 v13
  let c0_i32_15 : BitVec 32 := 0#32
  let v53 : BitVec 32 := Scalar.addi v29 c0_i32_15
  let c512_i32_16 : BitVec 32 := 512#32
  let v54 : BitVec 32 := Scalar.muli v53 c512_i32_16
  v54
def k0_off9 (i : grid0.Coords) (c0_i32_15 : BitVec 32) : Fin 2 → Nat :=
  let arg1 : BitVec 32 := BitVec.ofNat 32 (i 1).val
  let c1024_i32 : BitVec 32 := 1024#32
  let v12 : BitVec 32 := Scalar.muli arg1 c1024_i32
  let c0_i32 : BitVec 32 := 0#32
  let v14 : BitVec 1 := Scalar.cmpi .sgt v12 c0_i32
  let v15 : BitVec 32 := Scalar.extui v14
  let c0_i32_7 : BitVec 32 := 0#32
  let v16 : BitVec 1 := Scalar.cmpi .slt v12 c0_i32_7
  let v17 : BitVec 32 := Scalar.extui v16
  let v18 : BitVec 32 := Scalar.subi v15 v17
  let c512_i32 : BitVec 32 := 512#32
  let c0_i32_8 : BitVec 32 := 0#32
  let v19 : BitVec 1 := Scalar.cmpi .sgt c512_i32 c0_i32_8
  let v20 : BitVec 32 := Scalar.extui v19
  let c0_i32_9 : BitVec 32 := 0#32
  let v21 : BitVec 1 := Scalar.cmpi .slt c512_i32 c0_i32_9
  let v22 : BitVec 32 := Scalar.extui v21
  let v23 : BitVec 32 := Scalar.subi v20 v22
  let v24 : BitVec 1 := Scalar.cmpi .ne v18 v23
  let v25 : BitVec 32 := Scalar.remsi v12 c512_i32
  let c0_i32_10 : BitVec 32 := 0#32
  let v26 : BitVec 1 := Scalar.cmpi .ne v25 c0_i32_10
  let v27 : BitVec 1 := Scalar.andi v24 v26
  let v13 : BitVec 32 := Scalar.divsi v12 c512_i32
  let c1_i32 : BitVec 32 := 1#32
  let v28 : BitVec 32 := Scalar.subi v13 c1_i32
  let v29 : BitVec 32 := Scalar.select v27 v28 v13
  let v53 : BitVec 32 := Scalar.addi v29 c0_i32_15
  let c512_i32_16 : BitVec 32 := 512#32
  let v54 : BitVec 32 := Scalar.muli v53 c512_i32_16
  let v55 : BitVec 32 := v54
  let v56 : Index := Scalar.indexCast v55
  let c0 : Index := 0#32
  ![v56.toNat, 0]
def k0_off10 (i : grid0.Coords) (c0_i32_15 : BitVec 32) : Fin 2 → Nat :=
  let arg1 : BitVec 32 := BitVec.ofNat 32 (i 1).val
  let c1024_i32 : BitVec 32 := 1024#32
  let v12 : BitVec 32 := Scalar.muli arg1 c1024_i32
  let c0_i32 : BitVec 32 := 0#32
  let v14 : BitVec 1 := Scalar.cmpi .sgt v12 c0_i32
  let v15 : BitVec 32 := Scalar.extui v14
  let c0_i32_7 : BitVec 32 := 0#32
  let v16 : BitVec 1 := Scalar.cmpi .slt v12 c0_i32_7
  let v17 : BitVec 32 := Scalar.extui v16
  let v18 : BitVec 32 := Scalar.subi v15 v17
  let c512_i32 : BitVec 32 := 512#32
  let c0_i32_8 : BitVec 32 := 0#32
  let v19 : BitVec 1 := Scalar.cmpi .sgt c512_i32 c0_i32_8
  let v20 : BitVec 32 := Scalar.extui v19
  let c0_i32_9 : BitVec 32 := 0#32
  let v21 : BitVec 1 := Scalar.cmpi .slt c512_i32 c0_i32_9
  let v22 : BitVec 32 := Scalar.extui v21
  let v23 : BitVec 32 := Scalar.subi v20 v22
  let v24 : BitVec 1 := Scalar.cmpi .ne v18 v23
  let v25 : BitVec 32 := Scalar.remsi v12 c512_i32
  let c0_i32_10 : BitVec 32 := 0#32
  let v26 : BitVec 1 := Scalar.cmpi .ne v25 c0_i32_10
  let v27 : BitVec 1 := Scalar.andi v24 v26
  let v13 : BitVec 32 := Scalar.divsi v12 c512_i32
  let c1_i32 : BitVec 32 := 1#32
  let v28 : BitVec 32 := Scalar.subi v13 c1_i32
  let v29 : BitVec 32 := Scalar.select v27 v28 v13
  let v53 : BitVec 32 := Scalar.addi v29 c0_i32_15
  let c512_i32_16 : BitVec 32 := 512#32
  let v54 : BitVec 32 := Scalar.muli v53 c512_i32_16
  let v55 : BitVec 32 := v54
  let v96 : Index := Scalar.indexCast v55
  let c128 : Index := 128#32
  ![v96.toNat, 128]
def k0_off11 (i : grid0.Coords) (c0_i32_15 : BitVec 32) : Fin 2 → Nat :=
  let arg1 : BitVec 32 := BitVec.ofNat 32 (i 1).val
  let c1024_i32 : BitVec 32 := 1024#32
  let v12 : BitVec 32 := Scalar.muli arg1 c1024_i32
  let c0_i32 : BitVec 32 := 0#32
  let v14 : BitVec 1 := Scalar.cmpi .sgt v12 c0_i32
  let v15 : BitVec 32 := Scalar.extui v14
  let c0_i32_7 : BitVec 32 := 0#32
  let v16 : BitVec 1 := Scalar.cmpi .slt v12 c0_i32_7
  let v17 : BitVec 32 := Scalar.extui v16
  let v18 : BitVec 32 := Scalar.subi v15 v17
  let c512_i32 : BitVec 32 := 512#32
  let c0_i32_8 : BitVec 32 := 0#32
  let v19 : BitVec 1 := Scalar.cmpi .sgt c512_i32 c0_i32_8
  let v20 : BitVec 32 := Scalar.extui v19
  let c0_i32_9 : BitVec 32 := 0#32
  let v21 : BitVec 1 := Scalar.cmpi .slt c512_i32 c0_i32_9
  let v22 : BitVec 32 := Scalar.extui v21
  let v23 : BitVec 32 := Scalar.subi v20 v22
  let v24 : BitVec 1 := Scalar.cmpi .ne v18 v23
  let v25 : BitVec 32 := Scalar.remsi v12 c512_i32
  let c0_i32_10 : BitVec 32 := 0#32
  let v26 : BitVec 1 := Scalar.cmpi .ne v25 c0_i32_10
  let v27 : BitVec 1 := Scalar.andi v24 v26
  let v13 : BitVec 32 := Scalar.divsi v12 c512_i32
  let c1_i32 : BitVec 32 := 1#32
  let v28 : BitVec 32 := Scalar.subi v13 c1_i32
  let v29 : BitVec 32 := Scalar.select v27 v28 v13
  let v53 : BitVec 32 := Scalar.addi v29 c0_i32_15
  let c512_i32_16 : BitVec 32 := 512#32
  let v54 : BitVec 32 := Scalar.muli v53 c512_i32_16
  let v55 : BitVec 32 := v54
  let v136 : Index := Scalar.indexCast v55
  let c256 : Index := 256#32
  ![v136.toNat, 256]
def k0_off12 (i : grid0.Coords) (c0_i32_15 : BitVec 32) : Fin 2 → Nat :=
  let arg1 : BitVec 32 := BitVec.ofNat 32 (i 1).val
  let c1024_i32 : BitVec 32 := 1024#32
  let v12 : BitVec 32 := Scalar.muli arg1 c1024_i32
  let c0_i32 : BitVec 32 := 0#32
  let v14 : BitVec 1 := Scalar.cmpi .sgt v12 c0_i32
  let v15 : BitVec 32 := Scalar.extui v14
  let c0_i32_7 : BitVec 32 := 0#32
  let v16 : BitVec 1 := Scalar.cmpi .slt v12 c0_i32_7
  let v17 : BitVec 32 := Scalar.extui v16
  let v18 : BitVec 32 := Scalar.subi v15 v17
  let c512_i32 : BitVec 32 := 512#32
  let c0_i32_8 : BitVec 32 := 0#32
  let v19 : BitVec 1 := Scalar.cmpi .sgt c512_i32 c0_i32_8
  let v20 : BitVec 32 := Scalar.extui v19
  let c0_i32_9 : BitVec 32 := 0#32
  let v21 : BitVec 1 := Scalar.cmpi .slt c512_i32 c0_i32_9
  let v22 : BitVec 32 := Scalar.extui v21
  let v23 : BitVec 32 := Scalar.subi v20 v22
  let v24 : BitVec 1 := Scalar.cmpi .ne v18 v23
  let v25 : BitVec 32 := Scalar.remsi v12 c512_i32
  let c0_i32_10 : BitVec 32 := 0#32
  let v26 : BitVec 1 := Scalar.cmpi .ne v25 c0_i32_10
  let v27 : BitVec 1 := Scalar.andi v24 v26
  let v13 : BitVec 32 := Scalar.divsi v12 c512_i32
  let c1_i32 : BitVec 32 := 1#32
  let v28 : BitVec 32 := Scalar.subi v13 c1_i32
  let v29 : BitVec 32 := Scalar.select v27 v28 v13
  let v53 : BitVec 32 := Scalar.addi v29 c0_i32_15
  let c512_i32_16 : BitVec 32 := 512#32
  let v54 : BitVec 32 := Scalar.muli v53 c512_i32_16
  let v55 : BitVec 32 := v54
  let v176 : Index := Scalar.indexCast v55
  let c384 : Index := 384#32
  ![v176.toNat, 384]
def k0_mult4 (i : grid0.Coords) : BitVec 32 :=
  let arg1 : BitVec 32 := BitVec.ofNat 32 (i 1).val
  let c1024_i32 : BitVec 32 := 1024#32
  let v12 : BitVec 32 := Scalar.muli arg1 c1024_i32
  let c0_i32 : BitVec 32 := 0#32
  let v14 : BitVec 1 := Scalar.cmpi .sgt v12 c0_i32
  let v15 : BitVec 32 := Scalar.extui v14
  let c0_i32_7 : BitVec 32 := 0#32
  let v16 : BitVec 1 := Scalar.cmpi .slt v12 c0_i32_7
  let v17 : BitVec 32 := Scalar.extui v16
  let v18 : BitVec 32 := Scalar.subi v15 v17
  let c512_i32 : BitVec 32 := 512#32
  let c0_i32_8 : BitVec 32 := 0#32
  let v19 : BitVec 1 := Scalar.cmpi .sgt c512_i32 c0_i32_8
  let v20 : BitVec 32 := Scalar.extui v19
  let c0_i32_9 : BitVec 32 := 0#32
  let v21 : BitVec 1 := Scalar.cmpi .slt c512_i32 c0_i32_9
  let v22 : BitVec 32 := Scalar.extui v21
  let v23 : BitVec 32 := Scalar.subi v20 v22
  let v24 : BitVec 1 := Scalar.cmpi .ne v18 v23
  let v25 : BitVec 32 := Scalar.remsi v12 c512_i32
  let c0_i32_10 : BitVec 32 := 0#32
  let v26 : BitVec 1 := Scalar.cmpi .ne v25 c0_i32_10
  let v27 : BitVec 1 := Scalar.andi v24 v26
  let v13 : BitVec 32 := Scalar.divsi v12 c512_i32
  let c1_i32 : BitVec 32 := 1#32
  let v28 : BitVec 32 := Scalar.subi v13 c1_i32
  let v29 : BitVec 32 := Scalar.select v27 v28 v13
  let c1_i32_64 : BitVec 32 := 1#32
  let v216 : BitVec 32 := Scalar.addi v29 c1_i32_64
  let c512_i32_65 : BitVec 32 := 512#32
  let v217 : BitVec 32 := Scalar.muli v216 c512_i32_65
  v217
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FlashRefIdeal.lean ====
abbrev S4096x8x64 : Shape := ⟨3, ![4096, 8, 64]⟩
abbrev S4096x8x32 : Shape := ⟨3, ![4096, 8, 32]⟩
abbrev S4096x32 : Shape := ⟨2, ![4096, 32]⟩
abbrev S8x4096x4096 : Shape := ⟨3, ![8, 4096, 4096]⟩
abbrev S4096x4096x8 : Shape := ⟨3, ![4096, 4096, 8]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S4096x8 : Shape := ⟨2, ![4096, 8]⟩
abbrev S8x64x4096 : Shape := ⟨3, ![8, 64, 4096]⟩
abbrev S4096x512 : Shape := ⟨2, ![4096, 512]⟩

abbrev nBuf : Space → Nat
  | .hbm => 78
  | .vmem => 0
  | .smem => 0
  | _ => 0

abbrev bufTy : (tb : Table) → Fin (tcTables nBuf tb) → BufTy
  | .hbm, ⟨0, _⟩ => ⟨S4096x8x64, .f32⟩
  | .hbm, ⟨1, _⟩ => ⟨S4096x8x32, .f32⟩
  | .hbm, ⟨2, _⟩ => ⟨S4096x8x64, .f32⟩
  | .hbm, ⟨3, _⟩ => ⟨S4096x32, .f32⟩
  | .hbm, ⟨4, _⟩ => ⟨S4096x8x64, .f32⟩
  | .hbm, ⟨5, _⟩ => ⟨S8x4096x4096, .f32⟩
  | .hbm, ⟨6, _⟩ => ⟨S4096x4096x8, .f32⟩
  | .hbm, ⟨7, _⟩ => ⟨S8x4096x4096, .f32⟩
  | .hbm, ⟨8, _⟩ => ⟨S8x4096x4096, .f32⟩
  | .hbm, ⟨9, _⟩ => ⟨S_, .f32⟩
  | .hbm, ⟨10, _⟩ => ⟨S8x4096x4096, .f32⟩
  | .hbm, ⟨11, _⟩ => ⟨S8x4096x4096, .f32⟩
  | .hbm, ⟨12, _⟩ => ⟨S4096, .i32⟩
  | .hbm, ⟨13, _⟩ => ⟨S1x4096, .i32⟩
  | .hbm, ⟨14, _⟩ => ⟨S4096x1, .i32⟩
  | .hbm, ⟨15, _⟩ => ⟨S4096x4096, .i32⟩
  | .hbm, ⟨16, _⟩ => ⟨S4096x4096, .i32⟩
  | .hbm, ⟨17, _⟩ => ⟨S4096x4096, .i1⟩
  | .hbm, ⟨18, _⟩ => ⟨S_, .f32⟩
  | .hbm, ⟨19, _⟩ => ⟨S_, .f32⟩
  | .hbm, ⟨20, _⟩ => ⟨S8x4096x4096, .i1⟩
  | .hbm, ⟨21, _⟩ => ⟨S8x4096x4096, .f32⟩
  | .hbm, ⟨22, _⟩ => ⟨S8x4096x4096, .f32⟩
  | .hbm, ⟨23, _⟩ => ⟨S_, .f32⟩
  | .hbm, ⟨24, _⟩ => ⟨S8x4096, .f32⟩
  | .hbm, ⟨25, _⟩ => ⟨S8x4096x1, .f32⟩
  | .hbm, ⟨26, _⟩ => ⟨S8x4096x4096, .f32⟩
  | .hbm, ⟨27, _⟩ => ⟨S8x4096x4096, .f32⟩
  | .hbm, ⟨28, _⟩ => ⟨S8x4096x4096, .f32⟩
  | .hbm, ⟨29, _⟩ => ⟨S_, .f32⟩
  | .hbm, ⟨30, _⟩ => ⟨S8x4096, .f32⟩
  | .hbm, ⟨31, _⟩ => ⟨S8x4096x1, .f32⟩
  | .hbm, ⟨32, _⟩ => ⟨S8x4096x1, .f32⟩
  | .hbm, ⟨33, _⟩ => ⟨S8x4096x1, .f32⟩
  | .hbm, ⟨34, _⟩ => ⟨S8x4096, .f32⟩
  | .hbm, ⟨35, _⟩ => ⟨S4096x8, .f32⟩
  | .hbm, ⟨36, _⟩ => ⟨S8x4096x4096, .f32⟩
  | .hbm, ⟨37, _⟩ => ⟨S4096x4096x8, .f32⟩
  | .hbm, ⟨38, _⟩ => ⟨S8x4096x4096, .f32⟩
  | .hbm, ⟨39, _⟩ => ⟨S8x4096x4096, .f32⟩
  | .hbm, ⟨40, _⟩ => ⟨S_, .f32⟩
  | .hbm, ⟨41, _⟩ => ⟨S8x4096x4096, .f32⟩
  | .hbm, ⟨42, _⟩ => ⟨S8x4096x4096, .f32⟩
  | .hbm, ⟨43, _⟩ => ⟨S4096, .i32⟩
  | .hbm, ⟨44, _⟩ => ⟨S1x4096, .i32⟩
  | .hbm, ⟨45, _⟩ => ⟨S4096x1, .i32⟩
  | .hbm, ⟨46, _⟩ => ⟨S4096x4096, .i32⟩
  | .hbm, ⟨47, _⟩ => ⟨S4096x4096, .i32⟩
  | .hbm, ⟨48, _⟩ => ⟨S4096x4096, .i1⟩
  | .hbm, ⟨49, _⟩ => ⟨S_, .f32⟩
  | .hbm, ⟨50, _⟩ => ⟨S_, .f32⟩
  | .hbm, ⟨51, _⟩ => ⟨S8x4096x4096, .i1⟩
  | .hbm, ⟨52, _⟩ => ⟨S8x4096x4096, .f32⟩
  | .hbm, ⟨53, _⟩ => ⟨S8x4096x4096, .f32⟩
  | .hbm, ⟨54, _⟩ => ⟨S_, .f32⟩
  | .hbm, ⟨55, _⟩ => ⟨S8x4096, .f32⟩
  | .hbm, ⟨56, _⟩ => ⟨S_, .f32⟩
  | .hbm, ⟨57, _⟩ => ⟨S8x4096, .f32⟩
  | .hbm, ⟨58, _⟩ => ⟨S8x4096, .f32⟩
  | .hbm, ⟨59, _⟩ => ⟨S8x4096x1, .f32⟩
  | .hbm, ⟨60, _⟩ => ⟨S8x4096x4096, .f32⟩
  | .hbm, ⟨61, _⟩ => ⟨S8x4096x4096, .f32⟩
  | .hbm, ⟨62, _⟩ => ⟨S8x4096x4096, .f32⟩
  | .hbm, ⟨63, _⟩ => ⟨S_, .f32⟩
  | .hbm, ⟨64, _⟩ => ⟨S8x4096, .f32⟩
  | .hbm, ⟨65, _⟩ => ⟨S8x4096x1, .f32⟩
  | .hbm, ⟨66, _⟩ => ⟨S8x4096x4096, .f32⟩
  | .hbm, ⟨67, _⟩ => ⟨S8x4096x4096, .f32⟩
  | .hbm, ⟨68, _⟩ => ⟨S8x64x4096, .f32⟩
  | .hbm, ⟨69, _⟩ => ⟨S4096x8x64, .f32⟩
  | .hbm, ⟨70, _⟩ => ⟨S4096x512, .f32⟩
  | .hbm, ⟨71, _⟩ => ⟨S4096x8, .f32⟩
  | .hbm, ⟨72, _⟩ => ⟨S_, .f32⟩
  | .hbm, ⟨73, _⟩ => ⟨S4096x8x64, .f32⟩
  | .hbm, ⟨74, _⟩ => ⟨S4096x8x64, .f32⟩
  | .hbm, ⟨75, _⟩ => ⟨S_, .f32⟩
  | .hbm, ⟨76, _⟩ => ⟨S4096x8x32, .f32⟩
  | .hbm, ⟨77, _⟩ => ⟨S4096x8x32, .f32⟩
  | _, _ => ⟨S4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_4 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v36 : Ref sig .tc := ⟨.hbm, 53, rfl⟩
abbrev main_cst_5 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_8 : Ref sig .tc := ⟨.hbm, 72, rfl⟩
abbrev main_v52 : Ref sig .tc := ⟨.hbm, 73, rfl⟩
abbrev main_v53 : Ref sig .tc := ⟨.hbm, 74, rfl⟩
abbrev main_cst_9 : Ref sig .tc := ⟨.hbm, 75, rfl⟩
abbrev main_v54 : Ref sig .tc := ⟨.hbm, 76, rfl⟩
abbrev main_v55 : Ref sig .tc := ⟨.hbm, 77, rfl⟩

abbrev nD : Nat := 1
abbrev τ : Topo := Topo.v7x

variable {F : FTy → Type} [FloatOps F]
-- ==== Latents.lean ====
abbrev S4096x1024 : Shape := ⟨2, ![4096, 1024]⟩
abbrev S1024 : Shape := ⟨1, ![1024]⟩
abbrev S1024x2728 : Shape := ⟨2, ![1024, 2728]⟩
abbrev S384 : Shape := ⟨1, ![384]⟩
abbrev S256 : Shape := ⟨1, ![256]⟩
abbrev S2728x1024 : Shape := ⟨2, ![2728, 1024]⟩
abbrev S8x1024 : Shape := ⟨2, ![8, 1024]⟩
abbrev S_ : Shape := ⟨0, ![]⟩
abbrev S56x1024 : Shape := ⟨2, ![56, 1024]⟩
abbrev S32x1024 : Shape := ⟨2, ![32, 1024]⟩
abbrev S128x1024 : Shape := ⟨2, ![128, 1024]⟩
abbrev S640x1024 : Shape := ⟨2, ![640, 1024]⟩
abbrev S1x1024 : Shape := ⟨2, ![1, 1024]⟩
abbrev S1x384 : Shape := ⟨2, ![1, 384]⟩
abbrev S1x256 : Shape := ⟨2, ![1, 256]⟩
abbrev S4096x640 : Shape := ⟨2, ![4096, 640]⟩
abbrev S4096x384 : Shape := ⟨2, ![4096, 384]⟩
abbrev S4096x256 : Shape := ⟨2, ![4096, 256]⟩
abbrev S4096x128 : Shape := ⟨2, ![4096, 128]⟩
abbrev S512x1024 : Shape := ⟨2, ![512, 1024]⟩
abbrev S512x640 : Shape := ⟨2, ![512, 640]⟩
abbrev S512x384 : Shape := ⟨2, ![512, 384]⟩
abbrev S512x256 : Shape := ⟨2, ![512, 256]⟩
abbrev S512x128 : Shape := ⟨2, ![512, 128]⟩
abbrev S512 : Shape := ⟨1, ![512]⟩
abbrev S512x1 : Shape := ⟨2, ![512, 1]⟩
abbrev S4096x8 : Shape := ⟨2, ![4096, 8]⟩
abbrev S4096x32 : Shape := ⟨2, ![4096, 32]⟩

abbrev nBuf : Space → Nat
  | .hbm => 25
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2728, .f32⟩
  | .hbm, ⟨3, _⟩ => ⟨S384, .f32⟩
  | .hbm, ⟨4, _⟩ => ⟨S256, .f32⟩
  | .hbm, ⟨5, _⟩ => ⟨S2728x1024, .f32⟩
  | .hbm, ⟨6, _⟩ => ⟨S2728x1024, .bf16⟩
  | .hbm, ⟨7, _⟩ => ⟨S8x1024, .bf16⟩
  | .hbm, ⟨8, _⟩ => ⟨S_, .bf16⟩
  | .hbm, ⟨9, _⟩ => ⟨S56x1024, .bf16⟩
  | .hbm, ⟨10, _⟩ => ⟨S32x1024, .bf16⟩
  | .hbm, ⟨11, _⟩ => ⟨S_, .bf16⟩
  | .hbm, ⟨12, _⟩ => ⟨S32x1024, .bf16⟩
  | .hbm, ⟨13, _⟩ => ⟨S128x1024, .bf16⟩
  | .hbm, ⟨14, _⟩ => ⟨S640x1024, .bf16⟩
  | .hbm, ⟨15, _⟩ => ⟨S1x1024, .f32⟩
  | .hbm, ⟨16, _⟩ => ⟨S1x384, .f32⟩
  | .hbm, ⟨17, _⟩ => ⟨S1x256, .f32⟩
  | .hbm, ⟨18, _⟩ => ⟨S4096x1024, .bf16⟩
  | .hbm, ⟨19, _⟩ => ⟨S4096x640, .bf16⟩
  | .hbm, ⟨20, _⟩ => ⟨S4096x384, .bf16⟩
  | .hbm, ⟨21, _⟩ => ⟨S4096x256, .bf16⟩
  | .hbm, ⟨22, _⟩ => ⟨S4096x128, .f32⟩
  | .hbm, ⟨23, _⟩ => ⟨S4096x8, .f32⟩
  | .hbm, ⟨24, _⟩ => ⟨S4096x32, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S640x1024, .bf16⟩
  | .local _ .vmem, ⟨4, _⟩ => ⟨S128x1024, .bf16⟩
  | .local _ .vmem, ⟨5, _⟩ => ⟨S1x384, .f32⟩
  | .local _ .vmem, ⟨6, _⟩ => ⟨S1x256, .f32⟩
  | .local _ .vmem, ⟨7, _⟩ => ⟨S512x1024, .bf16⟩
  | .local _ .vmem, ⟨8, _⟩ => ⟨S512x1024, .bf16⟩
  | .local _ .vmem, ⟨9, _⟩ => ⟨S512x640, .bf16⟩
  | .local _ .vmem, ⟨10, _⟩ => ⟨S512x640, .bf16⟩
  | .local _ .vmem, ⟨11, _⟩ => ⟨S512x384, .bf16⟩
  | .local _ .vmem, ⟨12, _⟩ => ⟨S512x384, .bf16⟩
  | .local _ .vmem, ⟨13, _⟩ => ⟨S512x256, .bf16⟩
  | .local _ .vmem, ⟨14, _⟩ => ⟨S512x256, .bf16⟩
  | .local _ .vmem, ⟨15, _⟩ => ⟨S512x128, .f32⟩
  | .local _ .vmem, ⟨16, _⟩ => ⟨S512x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v11_2 : Ref sig .tc := ⟨.hbm, 20, rfl⟩
abbrev main_v11_3 : Ref sig .tc := ⟨.hbm, 21, rfl⟩
abbrev main_v11_4 : Ref sig .tc := ⟨.hbm, 22, rfl⟩
abbrev main_v12 : Ref sig .tc := ⟨.hbm, 23, rfl⟩
abbrev main_v13 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S640x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x640 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x384 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== LatentsRefIdeal.lean ====
abbrev S4096x1024 : Shape := ⟨2, ![4096, 1024]⟩
abbrev S1024 : Shape := ⟨1, ![1024]⟩
abbrev S1024x2728 : Shape := ⟨2, ![1024, 2728]⟩
abbrev S384 : Shape := ⟨1, ![384]⟩
abbrev S256 : Shape := ⟨1, ![256]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2728 : Shape := ⟨2, ![4096, 2728]⟩
abbrev S4096x2048 : Shape := ⟨2, ![4096, 2048]⟩
abbrev S4096x8 : Shape := ⟨2, ![4096, 8]⟩
abbrev S4096x384 : Shape := ⟨2, ![4096, 384]⟩
abbrev S4096x256 : Shape := ⟨2, ![4096, 256]⟩
abbrev S4096x32 : Shape := ⟨2, ![4096, 32]⟩
abbrev S4096x640 : Shape := ⟨2, ![4096, 640]⟩
abbrev S1x384 : Shape := ⟨2, ![1, 384]⟩
abbrev S1x256 : Shape := ⟨2, ![1, 256]⟩

abbrev nBuf : Space → Nat
  | .hbm => 64
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2728, .f32⟩
  | .hbm, ⟨3, _⟩ => ⟨S384, .f32⟩
  | .hbm, ⟨4, _⟩ => ⟨S256, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x2728, .f32⟩
  | .hbm, ⟨22, _⟩ => ⟨S4096x2048, .f32⟩
  | .hbm, ⟨23, _⟩ => ⟨S4096x8, .f32⟩
  | .hbm, ⟨24, _⟩ => ⟨S4096x384, .f32⟩
  | .hbm, ⟨25, _⟩ => ⟨S4096x256, .f32⟩
  | .hbm, ⟨26, _⟩ => ⟨S4096x32, .f32⟩
  | .hbm, ⟨27, _⟩ => ⟨S4096x1024, .bf16⟩
  | .hbm, ⟨28, _⟩ => ⟨S4096x640, .f32⟩
  | .hbm, ⟨29, _⟩ => ⟨S4096x640, .bf16⟩
  | .hbm, ⟨30, _⟩ => ⟨S4096x384, .f32⟩
  | .hbm, ⟨31, _⟩ => ⟨S_, .f32⟩
  | .hbm, ⟨32, _⟩ => ⟨S4096, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096x1, .f32⟩
  | .hbm, ⟨41, _⟩ => ⟨S4096x384, .f32⟩
  | .hbm, ⟨42, _⟩ => ⟨S4096x384, .f32⟩
  | .hbm, ⟨43, _⟩ => ⟨S1x384, .f32⟩
  | .hbm, ⟨44, _⟩ => ⟨S4096x384, .f32⟩
  | .hbm, ⟨45, _⟩ => ⟨S4096x384, .f32⟩
  | .hbm, ⟨46, _⟩ => ⟨S4096x384, .bf16⟩
  | .hbm, ⟨47, _⟩ => ⟨S4096x256, .f32⟩
  | .hbm, ⟨48, _⟩ => ⟨S_, .f32⟩
  | .hbm, ⟨49, _⟩ => ⟨S4096, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S_, .f32⟩
  | .hbm, ⟨55, _⟩ => ⟨S4096x1, .f32⟩
  | .hbm, ⟨56, _⟩ => ⟨S4096x1, .f32⟩
  | .hbm, ⟨57, _⟩ => ⟨S4096x1, .f32⟩
  | .hbm, ⟨58, _⟩ => ⟨S4096x256, .f32⟩
  | .hbm, ⟨59, _⟩ => ⟨S4096x256, .f32⟩
  | .hbm, ⟨60, _⟩ => ⟨S1x256, .f32⟩
  | .hbm, ⟨61, _⟩ => ⟨S4096x256, .f32⟩
  | .hbm, ⟨62, _⟩ => ⟨S4096x256, .f32⟩
  | .hbm, ⟨63, _⟩ => ⟨S4096x256, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_v40 : Ref sig .tc := ⟨.hbm, 53, rfl⟩
abbrev main_cst_7 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩

abbrev nD : Nat := 1
abbrev τ : Topo := Topo.v7x

variable {F : FTy → Type} [FloatOps F]
-- ==== Mix.lean ====
abbrev S4096x512 : Shape := ⟨2, ![4096, 512]⟩
abbrev S1024x1024 : Shape := ⟨2, ![1024, 1024]⟩
abbrev S4096x1024 : Shape := ⟨2, ![4096, 1024]⟩
abbrev S1024 : Shape := ⟨1, ![1024]⟩
abbrev S4096x8x64 : Shape := ⟨3, ![4096, 8, 64]⟩
abbrev S_ : Shape := ⟨0, ![]⟩
abbrev S4096x8x2 : Shape := ⟨3, ![4096, 8, 2]⟩
abbrev S4096x8x62 : Shape := ⟨3, ![4096, 8, 62]⟩
abbrev S4096x8x128 : Shape := ⟨3, ![4096, 8, 128]⟩
abbrev S512x1024 : Shape := ⟨2, ![512, 1024]⟩
abbrev S8x64x1024 : Shape := ⟨3, ![8, 64, 1024]⟩
abbrev S8x128x1024 : Shape := ⟨3, ![8, 128, 1024]⟩
abbrev S1x1024 : Shape := ⟨2, ![1, 1024]⟩
abbrev S512x512 : Shape := ⟨2, ![512, 512]⟩
abbrev S512 : Shape := ⟨1, ![512]⟩
abbrev S512x1 : Shape := ⟨2, ![512, 1]⟩

abbrev nBuf : Space → Nat
  | .hbm => 23
  | .vmem => 13
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S1024x1024, .f32⟩
  | .hbm, ⟨3, _⟩ => ⟨S4096x1024, .f32⟩
  | .hbm, ⟨4, _⟩ => ⟨S1024, .f32⟩
  | .hbm, ⟨5, _⟩ => ⟨S4096x8x64, .bf16⟩
  | .hbm, ⟨6, _⟩ => ⟨S_, .bf16⟩
  | .hbm, ⟨7, _⟩ => ⟨S4096x8x2, .bf16⟩
  | .hbm, ⟨8, _⟩ => ⟨S_, .bf16⟩
  | .hbm, ⟨9, _⟩ => ⟨S4096x8x62, .bf16⟩
  | .hbm, ⟨10, _⟩ => ⟨S4096x8x128, .bf16⟩
  | .hbm, ⟨11, _⟩ => ⟨S4096x1024, .bf16⟩
  | .hbm, ⟨12, _⟩ => ⟨S1024x1024, .bf16⟩
  | .hbm, ⟨13, _⟩ => ⟨S512x1024, .bf16⟩
  | .hbm, ⟨14, _⟩ => ⟨S512x1024, .bf16⟩
  | .hbm, ⟨15, _⟩ => ⟨S8x64x1024, .bf16⟩
  | .hbm, ⟨16, _⟩ => ⟨S_, .i32⟩
  | .hbm, ⟨17, _⟩ => ⟨S_, .bf16⟩
  | .hbm, ⟨18, _⟩ => ⟨S8x128x1024, .bf16⟩
  | .hbm, ⟨19, _⟩ => ⟨S1024x1024, .bf16⟩
  | .hbm, ⟨20, _⟩ => ⟨S1x1024, .f32⟩
  | .hbm, ⟨21, _⟩ => ⟨S4096x1024, .f32⟩
  | .hbm, ⟨22, _⟩ => ⟨S4096x1024, .bf16⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S1024x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_call0_v0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MixRefIdeal.lean ====
abbrev S4096x512 : Shape := ⟨2, ![4096, 512]⟩
abbrev S1024x1024 : Shape := ⟨2, ![1024, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S1024x1024, .f32⟩
  | .hbm, ⟨3, _⟩ => ⟨S4096x1024, .f32⟩
  | .hbm, ⟨4, _⟩ => ⟨S1024, .f32⟩
  | .hbm, ⟨5, _⟩ => ⟨S4096x1024, .bf16⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== GateUp.lean ====
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 10
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S2816x1024, .bf16⟩
  | .hbm, ⟨5, _⟩ => ⟨S2816x1024, .f32⟩
  | .hbm, ⟨6, _⟩ => ⟨S2816x1024, .bf16⟩
  | .hbm, ⟨7, _⟩ => ⟨S4096x2816, .bf16⟩
  | .hbm, ⟨8, _⟩ => ⟨S4096x2816, .bf16⟩
  | .hbm, ⟨9, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GateUpRefIdeal.lean ====
abbrev S4096x1024 : Shape := ⟨2, ![4096, 1024]⟩
abbrev S1024x2816 : Shape := ⟨2, ![1024, 2816]⟩
abbrev S4096x2816 : Shape := ⟨2, ![4096, 2816]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2816, .f32⟩
  | .hbm, ⟨2, _⟩ => ⟨S1024x2816, .f32⟩
  | .hbm, ⟨3, _⟩ => ⟨S4096x1024, .f32⟩
  | .hbm, ⟨4, _⟩ => ⟨S4096x2816, .f32⟩
  | .hbm, ⟨5, _⟩ => ⟨S4096x1024, .f32⟩
  | .hbm, ⟨6, _⟩ => ⟨S4096x2816, .f32⟩
  | .hbm, ⟨7, _⟩ => ⟨S4096x2816, .bf16⟩
  | .hbm, ⟨8, _⟩ => ⟨S4096x2816, .bf16⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩

abbrev nD : Nat := 1
abbrev τ : Topo := Topo.v7x

variable {F : FTy → Type} [FloatOps F]
-- ==== Up.lean ====
abbrev S4096x384 : Shape := ⟨2, ![4096, 384]⟩
abbrev S4096x256 : Shape := ⟨2, ![4096, 256]⟩
abbrev S384x768 : Shape := ⟨2, ![384, 768]⟩
abbrev S256x1024 : Shape := ⟨2, ![256, 1024]⟩
abbrev S4096x32 : Shape := ⟨2, ![4096, 32]⟩
abbrev S4096 : Shape := ⟨1, ![4096]⟩
abbrev S1024x256 : Shape := ⟨2, ![1024, 256]⟩
abbrev S8x128x256 : Shape := ⟨3, ![8, 128, 256]⟩
abbrev S8x64x256 : Shape := ⟨3, ![8, 64, 256]⟩
abbrev S_ : Shape := ⟨0, ![]⟩
abbrev S4096x128 : Shape := ⟨2, ![4096, 128]⟩
abbrev S768x384 : Shape := ⟨2, ![768, 384]⟩
abbrev S8x96x384 : Shape := ⟨3, ![8, 96, 384]⟩
abbrev S8x128x384 : Shape := ⟨3, ![8, 128, 384]⟩
abbrev S1024x384 : Shape := ⟨2, ![1024, 384]⟩
abbrev S4096x1 : Shape := ⟨2, ![4096, 1]⟩
abbrev S4096x1024 : Shape := ⟨2, ![4096, 1024]⟩
abbrev S512x384 : Shape := ⟨2, ![512, 384]⟩
abbrev S512x256 : Shape := ⟨2, ![512, 256]⟩
abbrev S512x128 : Shape := ⟨2, ![512, 128]⟩
abbrev S512x1 : Shape := ⟨2, ![512, 1]⟩
abbrev S512x1024 : Shape := ⟨2, ![512, 1024]⟩
abbrev S1x128 : Shape := ⟨2, ![1, 128]⟩
abbrev S4096x8x128 : Shape := ⟨3, ![4096, 8, 128]⟩
abbrev S4096x8x96 : Shape := ⟨3, ![4096, 8, 96]⟩
abbrev S4096x8x64 : Shape := ⟨3, ![4096, 8, 64]⟩

abbrev nBuf : Space → Nat
  | .hbm => 40
  | .vmem => 17
  | .smem => 0
  | _ => 0

abbrev bufTy : (tb : Table) → Fin (tcTables nBuf tb) → BufTy
  | .hbm, ⟨0, _⟩ => ⟨S4096x384, .bf16⟩
  | .hbm, ⟨1, _⟩ => ⟨S4096x256, .bf16⟩
  | .hbm, ⟨2, _⟩ => ⟨S384x768, .f32⟩
  | .hbm, ⟨3, _⟩ => ⟨S256x1024, .f32⟩
  | .hbm, ⟨4, _⟩ => ⟨S4096x32, .f32⟩
  | .hbm, ⟨5, _⟩ => ⟨S4096, .i32⟩
  | .hbm, ⟨6, _⟩ => ⟨S1024x256, .f32⟩
  | .hbm, ⟨7, _⟩ => ⟨S8x128x256, .f32⟩
  | .hbm, ⟨8, _⟩ => ⟨S8x64x256, .f32⟩
  | .hbm, ⟨9, _⟩ => ⟨S_, .i32⟩
  | .hbm, ⟨10, _⟩ => ⟨S_, .f32⟩
  | .hbm, ⟨11, _⟩ => ⟨S8x128x256, .f32⟩
  | .hbm, ⟨12, _⟩ => ⟨S1024x256, .f32⟩
  | .hbm, ⟨13, _⟩ => ⟨S8x64x256, .f32⟩
  | .hbm, ⟨14, _⟩ => ⟨S_, .i32⟩
  | .hbm, ⟨15, _⟩ => ⟨S_, .f32⟩
  | .hbm, ⟨16, _⟩ => ⟨S8x128x256, .f32⟩
  | .hbm, ⟨17, _⟩ => ⟨S1024x256, .f32⟩
  | .hbm, ⟨18, _⟩ => ⟨S_, .i32⟩
  | .hbm, ⟨19, _⟩ => ⟨S_, .f32⟩
  | .hbm, ⟨20, _⟩ => ⟨S4096x128, .f32⟩
  | .hbm, ⟨21, _⟩ => ⟨S768x384, .f32⟩
  | .hbm, ⟨22, _⟩ => ⟨S8x96x384, .f32⟩
  | .hbm, ⟨23, _⟩ => ⟨S_, .i32⟩
  | .hbm, ⟨24, _⟩ => ⟨S_, .f32⟩
  | .hbm, ⟨25, _⟩ => ⟨S8x128x384, .f32⟩
  | .hbm, ⟨26, _⟩ => ⟨S1024x384, .f32⟩
  | .hbm, ⟨27, _⟩ => ⟨S1024x384, .bf16⟩
  | .hbm, ⟨28, _⟩ => ⟨S1024x256, .bf16⟩
  | .hbm, ⟨29, _⟩ => ⟨S1024x256, .bf16⟩
  | .hbm, ⟨30, _⟩ => ⟨S4096x1, .i32⟩
  | .hbm, ⟨31, _⟩ => ⟨S4096x1024, .bf16⟩
  | .hbm, ⟨32, _⟩ => ⟨S4096x1024, .bf16⟩
  | .hbm, ⟨33, _⟩ => ⟨S4096x1024, .bf16⟩
  | .hbm, ⟨34, _⟩ => ⟨S4096x8x128, .bf16⟩
  | .hbm, ⟨35, _⟩ => ⟨S4096x8x96, .bf16⟩
  | .hbm, ⟨36, _⟩ => ⟨S4096x8x128, .bf16⟩
  | .hbm, ⟨37, _⟩ => ⟨S4096x8x96, .bf16⟩
  | .hbm, ⟨38, _⟩ => ⟨S4096x8x128, .bf16⟩
  | .hbm, ⟨39, _⟩ => ⟨S4096x8x64, .bf16⟩
  | .local _ .vmem, ⟨0, _⟩ => ⟨S512x384, .bf16⟩
  | .local _ .vmem, ⟨1, _⟩ => ⟨S512x384, .bf16⟩
  | .local _ .vmem, ⟨2, _⟩ => ⟨S512x256, .bf16⟩
  | .local _ .vmem, ⟨3, _⟩ => ⟨S512x256, .bf16⟩
  | .local _ .vmem, ⟨4, _⟩ => ⟨S1024x384, .bf16⟩
  | .local _ .vmem, ⟨5, _⟩ => ⟨S1024x256, .bf16⟩
  | .local _ .vmem, ⟨6, _⟩ => ⟨S1024x256, .bf16⟩
  | .local _ .vmem, ⟨7, _⟩ => ⟨S512x128, .f32⟩
  | .local _ .vmem, ⟨8, _⟩ => ⟨S512x128, .f32⟩
  | .local _ .vmem, ⟨9, _⟩ => ⟨S512x1, .i32⟩
  | .local _ .vmem, ⟨10, _⟩ => ⟨S512x1, .i32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | _, _ => ⟨S4096x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_call1_v0 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_call2_v0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_2 : Ref sig .tc := ⟨.hbm, 23, rfl⟩
abbrev main_call3_v0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17_0 : Ref sig .tc := ⟨.hbm, 31, rfl⟩
abbrev main_v17_1 : Ref sig .tc := ⟨.hbm, 32, rfl⟩
abbrev main_v17_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== UpIdeal.lean ====
variable {F : FTy → Type} [FloatOps F] [Named F]
def κ : String → Option EReal := fun
  | "rate" => some ((-((Real.log 10000) * 16⁻¹) : ℝ) : EReal)
  | _ => none
-- ==== UpRefIdeal.lean ====
abbrev S4096x384 : Shape := ⟨2, ![4096, 384]⟩
abbrev S4096x256 : Shape := ⟨2, ![4096, 256]⟩
abbrev S384x768 : Shape := ⟨2, ![384, 768]⟩
abbrev S256x1024 : Shape := ⟨2, ![256, 1024]⟩
abbrev S4096x32 : Shape := ⟨2, ![4096, 32]⟩
abbrev S4096 : Shape := ⟨1, ![4096]⟩
abbrev S4096x768 : Shape := ⟨2, ![4096, 768]⟩
abbrev S4096x8x96 : Shape := ⟨3, ![4096, 8, 96]⟩
abbrev S4096x1024 : Shape := ⟨2, ![4096, 1024]⟩
abbrev S4096x8x128 : Shape := ⟨3, ![4096, 8, 128]⟩
abbrev S4096x8x64 : Shape := ⟨3, ![4096, 8, 64]⟩
abbrev S4096x8x32 : Shape := ⟨3, ![4096, 8, 32]⟩
abbrev S16 : Shape := ⟨1, ![16]⟩
abbrev S_ : Shape := ⟨0, ![]⟩
abbrev S4096x1x1 : Shape := ⟨3, ![4096, 1, 1]⟩
abbrev S1x1x16 : Shape := ⟨3, ![1, 1, 16]⟩
abbrev S4096x1x16 : Shape := ⟨3, ![4096, 1, 16]⟩
abbrev S4096x8x16 : Shape := ⟨3, ![4096, 8, 16]⟩
abbrev S4096x1x32 : Shape := ⟨3, ![4096, 1, 32]⟩

abbrev nBuf : Space → Nat
  | .hbm => 80
  | .vmem => 0
  | .smem => 0
  | _ => 0

abbrev bufTy : (tb : Table) → Fin (tcTables nBuf tb) → BufTy
  | .hbm, ⟨0, _⟩ => ⟨S4096x384, .bf16⟩
  | .hbm, ⟨1, _⟩ => ⟨S4096x256, .bf16⟩
  | .hbm, ⟨2, _⟩ => ⟨S384x768, .f32⟩
  | .hbm, ⟨3, _⟩ => ⟨S256x1024, .f32⟩
  | .hbm, ⟨4, _⟩ => ⟨S4096x32, .f32⟩
  | .hbm, ⟨5, _⟩ => ⟨S4096, .i32⟩
  | .hbm, ⟨6, _⟩ => ⟨S4096x384, .f32⟩
  | .hbm, ⟨7, _⟩ => ⟨S4096x768, .f32⟩
  | .hbm, ⟨8, _⟩ => ⟨S4096x8x96, .f32⟩
  | .hbm, ⟨9, _⟩ => ⟨S4096x256, .f32⟩
  | .hbm, ⟨10, _⟩ => ⟨S4096x1024, .f32⟩
  | .hbm, ⟨11, _⟩ => ⟨S4096x8x128, .f32⟩
  | .hbm, ⟨12, _⟩ => ⟨S4096x8x64, .f32⟩
  | .hbm, ⟨13, _⟩ => ⟨S4096x8x32, .f32⟩
  | .hbm, ⟨14, _⟩ => ⟨S16, .f32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S_, .f32⟩
  | .hbm, ⟨20, _⟩ => ⟨S16, .f32⟩
  | .hbm, ⟨21, _⟩ => ⟨S16, .f32⟩
  | .hbm, ⟨22, _⟩ => ⟨S4096, .f32⟩
  | .hbm, ⟨23, _⟩ => ⟨S4096x1x1, .f32⟩
  | .hbm, ⟨24, _⟩ => ⟨S1x1x16, .f32⟩
  | .hbm, ⟨25, _⟩ => ⟨S4096x1x16, .f32⟩
  | .hbm, ⟨26, _⟩ => ⟨S4096x1x16, .f32⟩
  | .hbm, ⟨27, _⟩ => ⟨S4096x1x16, .f32⟩
  | .hbm, ⟨28, _⟩ => ⟨S4096x1x16, .f32⟩
  | .hbm, ⟨29, _⟩ => ⟨S4096x1x16, .f32⟩
  | .hbm, ⟨30, _⟩ => ⟨S4096x8x16, .f32⟩
  | .hbm, ⟨31, _⟩ => ⟨S4096x8x16, .f32⟩
  | .hbm, ⟨32, _⟩ => ⟨S4096x8x16, .f32⟩
  | .hbm, ⟨33, _⟩ => ⟨S4096x8x16, .f32⟩
  | .hbm, ⟨34, _⟩ => ⟨S4096x8x16, .f32⟩
  | .hbm, ⟨35, _⟩ => ⟨S4096x8x16, .f32⟩
  | .hbm, ⟨36, _⟩ => ⟨S4096x8x16, .f32⟩
  | .hbm, ⟨37, _⟩ => ⟨S4096x8x16, .f32⟩
  | .hbm, ⟨38, _⟩ => ⟨S4096x8x16, .f32⟩
  | .hbm, ⟨39, _⟩ => ⟨S4096x8x16, .f32⟩
  | .hbm, ⟨40, _⟩ => ⟨S4096x8x16, .f32⟩
  | .hbm, ⟨41, _⟩ => ⟨S4096x8x16, .f32⟩
  | .hbm, ⟨42, _⟩ => ⟨S4096x8x32, .f32⟩
  | .hbm, ⟨43, _⟩ => ⟨S4096x8x96, .f32⟩
  | .hbm, ⟨44, _⟩ => ⟨S_, .f32⟩
  | .hbm, ⟨45, _⟩ => ⟨S4096x8x96, .f32⟩
  | .hbm, ⟨46, _⟩ => ⟨S4096x8x96, .f32⟩
  | .hbm, ⟨47, _⟩ => ⟨S4096x1x32, .f32⟩
  | .hbm, ⟨48, _⟩ => ⟨S16, .f32⟩
  | .hbm, ⟨49, _⟩ => ⟨S16, .f32⟩
  | .hbm, ⟨50, _⟩ => ⟨S_, .f32⟩
  | .hbm, ⟨51, _⟩ => ⟨S16, .f32⟩
  | .hbm, ⟨52, _⟩ => ⟨S16, .f32⟩
  | .hbm, ⟨53, _⟩ => ⟨S_, .f32⟩
  | .hbm, ⟨54, _⟩ => ⟨S16, .f32⟩
  | .hbm, ⟨55, _⟩ => ⟨S16, .f32⟩
  | .hbm, ⟨56, _⟩ => ⟨S4096, .f32⟩
  | .hbm, ⟨57, _⟩ => ⟨S4096x1x1, .f32⟩
  | .hbm, ⟨58, _⟩ => ⟨S1x1x16, .f32⟩
  | .hbm, ⟨59, _⟩ => ⟨S4096x1x16, .f32⟩
  | .hbm, ⟨60, _⟩ => ⟨S4096x1x16, .f32⟩
  | .hbm, ⟨61, _⟩ => ⟨S4096x1x16, .f32⟩
  | .hbm, ⟨62, _⟩ => ⟨S4096x1x16, .f32⟩
  | .hbm, ⟨63, _⟩ => ⟨S4096x1x16, .f32⟩
  | .hbm, ⟨64, _⟩ => ⟨S4096x1x16, .f32⟩
  | .hbm, ⟨65, _⟩ => ⟨S4096x1x16, .f32⟩
  | .hbm, ⟨66, _⟩ => ⟨S4096x1x16, .f32⟩
  | .hbm, ⟨67, _⟩ => ⟨S4096x1x16, .f32⟩
  | .hbm, ⟨68, _⟩ => ⟨S4096x1x16, .f32⟩
  | .hbm, ⟨69, _⟩ => ⟨S4096x1x16, .f32⟩
  | .hbm, ⟨70, _⟩ => ⟨S4096x1x16, .f32⟩
  | .hbm, ⟨71, _⟩ => ⟨S4096x1x16, .f32⟩
  | .hbm, ⟨72, _⟩ => ⟨S4096x1x32, .f32⟩
  | .hbm, ⟨73, _⟩ => ⟨S4096x8x32, .f32⟩
  | .hbm, ⟨74, _⟩ => ⟨S4096x8x64, .f32⟩
  | .hbm, ⟨75, _⟩ => ⟨S4096x8x96, .f32⟩
  | .hbm, ⟨76, _⟩ => ⟨S4096x8x96, .bf16⟩
  | .hbm, ⟨77, _⟩ => ⟨S4096x8x96, .bf16⟩
  | .hbm, ⟨78, _⟩ => ⟨S4096x8x64, .f32⟩
  | .hbm, ⟨79, _⟩ => ⟨S4096x8x64, .bf16⟩
  | _, _ => ⟨S4096x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_1 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_2 : Ref sig .tc := ⟨.hbm, 50, rfl⟩
abbrev main_v41 : Ref sig .tc := ⟨.hbm, 51, rfl⟩
abbrev main_v42 : Ref sig .tc := ⟨.hbm, 52, rfl⟩
abbrev main_cst_3 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩

abbrev nD : Nat := 1
abbrev τ : Topo := Topo.v7x

variable {F : FTy → Type} [FloatOps F]
-- ==== Down.lean ====
abbrev S4096x2816 : Shape := ⟨2, ![4096, 2816]⟩
abbrev S4096x1024 : Shape := ⟨2, ![4096, 1024]⟩
abbrev S2816x1024 : Shape := ⟨2, ![2816, 1024]⟩
abbrev S4096x256 : Shape := ⟨2, ![4096, 256]⟩
abbrev S256x1024 : Shape := ⟨2, ![256, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .f32⟩
  | .hbm, ⟨3, _⟩ => ⟨S2816x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .bf16⟩
  | .local _ .vmem, ⟨6, _⟩ => ⟨S256x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownRefIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Adam.lean ====
abbrev S704x1024 : Shape := ⟨2, ![704, 1024]⟩
abbrev S1 : Shape := ⟨1, ![1]⟩
abbrev S_ : Shape := ⟨0, ![]⟩
abbrev S704x512 : Shape := ⟨2, ![704, 512]⟩

abbrev nBuf : Space → Nat
  | .hbm => 20
  | .vmem => 16
  | .smem => 1
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S_, .i32⟩
  | .hbm, ⟨5, _⟩ => ⟨S_, .i32⟩
  | .hbm, ⟨6, _⟩ => ⟨S_, .i1⟩
  | .hbm, ⟨7, _⟩ => ⟨S704x512, .f32⟩
  | .hbm, ⟨8, _⟩ => ⟨S704x512, .f32⟩
  | .hbm, ⟨9, _⟩ => ⟨S704x512, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S704x512, .f32⟩
  | .hbm, ⟨14, _⟩ => ⟨S704x512, .f32⟩
  | .hbm, ⟨15, _⟩ => ⟨S704x512, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S704x1024, .f32⟩
  | .local _ .vmem, ⟨0, _⟩ => ⟨S704x512, .f32⟩
  | .local _ .vmem, ⟨1, _⟩ => ⟨S704x512, .f32⟩
  | .local _ .vmem, ⟨2, _⟩ => ⟨S704x512, .f32⟩
  | .local _ .vmem, ⟨3, _⟩ => ⟨S704x512, .f32⟩
  | .local _ .vmem, ⟨4, _⟩ => ⟨S704x512, .f32⟩
  | .local _ .vmem, ⟨5, _⟩ => ⟨S704x512, .f32⟩
  | .local _ .vmem, ⟨6, _⟩ => ⟨S704x512, .f32⟩
  | .local _ .vmem, ⟨7, _⟩ => ⟨S704x512, .f32⟩
  | .local _ .vmem, ⟨8, _⟩ => ⟨S704x512, .f32⟩
  | .local _ .vmem, ⟨9, _⟩ => ⟨S704x512, .f32⟩
  | .local _ .vmem, ⟨10, _⟩ => ⟨S704x512, .f32⟩
  | .local _ .vmem, ⟨11, _⟩ => ⟨S704x512, .f32⟩
  | .local _ .vmem, ⟨12, _⟩ => ⟨S704x512, .f32⟩
  | .local _ .vmem, ⟨13, _⟩ => ⟨S704x512, .f32⟩
  | .local _ .vmem, ⟨14, _⟩ => ⟨S704x512, .f32⟩
  | .local _ .vmem, ⟨15, _⟩ => ⟨S704x512, .f32⟩
  | .local _ .smem, ⟨0, _⟩ => ⟨S1, .i32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v10_2 : Ref sig .tc := ⟨.hbm, 18, rfl⟩
abbrev main_v10_3 : Ref sig .tc := ⟨.hbm, 19, rfl⟩
abbrev main_arg4 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg4.idx], fun | 0 => main_arg4.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S704x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S704x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S704x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S704x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S704x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S704x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S704x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S704x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S704x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamRefIdeal.lean ====
abbrev S704x1024 : Shape := ⟨2, ![704, 1024]⟩
abbrev S1 : Shape := ⟨1, ![1]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S1, .i32⟩
  | .hbm, ⟨5, _⟩ => ⟨S_, .f32⟩
  | .hbm, ⟨6, _⟩ => ⟨S704x1024, .f32⟩
  | .hbm, ⟨7, _⟩ => ⟨S704x1024, .f32⟩
  | .hbm, ⟨8, _⟩ => ⟨S_, .f32⟩
  | .hbm, ⟨9, _⟩ => ⟨S704x1024, .f32⟩
  | .hbm, ⟨10, _⟩ => ⟨S704x1024, .f32⟩
  | .hbm, ⟨11, _⟩ => ⟨S704x1024, .f32⟩
  | .hbm, ⟨12, _⟩ => ⟨S_, .f32⟩
  | .hbm, ⟨13, _⟩ => ⟨S704x1024, .f32⟩
  | .hbm, ⟨14, _⟩ => ⟨S704x1024, .f32⟩
  | .hbm, ⟨15, _⟩ => ⟨S704x1024, .f32⟩
  | .hbm, ⟨16, _⟩ => ⟨S_, .f32⟩
  | .hbm, ⟨17, _⟩ => ⟨S704x1024, .f32⟩
  | .hbm, ⟨18, _⟩ => ⟨S704x1024, .f32⟩
  | .hbm, ⟨19, _⟩ => ⟨S704x1024, .f32⟩
  | .hbm, ⟨20, _⟩ => ⟨S_, .f32⟩
  | .hbm, ⟨21, _⟩ => ⟨S704x1024, .f32⟩
  | .hbm, ⟨22, _⟩ => ⟨S704x1024, .f32⟩
  | .hbm, ⟨23, _⟩ => ⟨S_, .f32⟩
  | .hbm, ⟨24, _⟩ => ⟨S704x1024, .f32⟩
  | .hbm, ⟨25, _⟩ => ⟨S704x1024, .f32⟩
  | .hbm, ⟨26, _⟩ => ⟨S704x1024, .f32⟩
  | .hbm, ⟨27, _⟩ => ⟨S_, .f32⟩
  | .hbm, ⟨28, _⟩ => ⟨S704x1024, .f32⟩
  | .hbm, ⟨29, _⟩ => ⟨S704x1024, .f32⟩
  | .hbm, ⟨30, _⟩ => ⟨S704x1024, .f32⟩
  | .hbm, ⟨31, _⟩ => ⟨S_, .f32⟩
  | .hbm, ⟨32, _⟩ => ⟨S704x1024, .f32⟩
  | .hbm, ⟨33, _⟩ => ⟨S704x1024, .f32⟩
  | .hbm, ⟨34, _⟩ => ⟨S704x1024, .f32⟩
  | .hbm, ⟨35, _⟩ => ⟨S_, .f32⟩
  | .hbm, ⟨36, _⟩ => ⟨S704x1024, .f32⟩
  | .hbm, ⟨37, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== Sibling.lean ====
abbrev S704x512 : Shape := ⟨2, ![704, 512]⟩
abbrev S1 : Shape := ⟨1, ![1]⟩
abbrev S_ : Shape := ⟨0, ![]⟩

abbrev nBuf : Space → Nat
  | .hbm => 2
  | .vmem => 0
  | .smem => 0
  | _ => 0

abbrev bufTy : (tb : Table) → Fin (tcTables nBuf tb) → BufTy
  | .hbm, ⟨0, _⟩ => ⟨S704x512, .f32⟩
  | .hbm, ⟨1, _⟩ => ⟨S704x512, .f32⟩
  | _, _ => ⟨S704x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_dev1 (d0 : Dev nD) : Nat :=
  let c0_i32_6 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v10 : BitVec 32 := Scalar.muli v2 c4_i32_5
  let v11 : BitVec 32 := Scalar.addi c0_i32_6 v10
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_7 : BitVec 32 := 2#32
  let v12 : BitVec 32 := Scalar.muli v5 c2_i32_7
  let v13 : BitVec 32 := Scalar.addi v11 v12
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_8 : BitVec 32 := 1#32
  let v14 : BitVec 32 := Scalar.muli v9 c1_i32_8
  let v15 : BitVec 32 := Scalar.addi v13 v14
  v15.toNat
-- ==== SiblingRefIdeal.lean ====
abbrev S5632x512 : Shape := ⟨2, ![5632, 512]⟩
abbrev S4x2x704x512 : Shape := ⟨4, ![4, 2, 704, 512]⟩

abbrev nBuf : Space → Nat
  | .hbm => 4
  | .vmem => 0
  | .smem => 0
  | _ => 0

abbrev bufTy : (tb : Table) → Fin (tcTables nBuf tb) → BufTy
  | .hbm, ⟨0, _⟩ => ⟨S5632x512, .f32⟩
  | .hbm, ⟨1, _⟩ => ⟨S4x2x704x512, .f32⟩
  | .hbm, ⟨2, _⟩ => ⟨S4x2x704x512, .f32⟩
  | .hbm, ⟨3, _⟩ => ⟨S5632x512, .f32⟩
  | _, _ => ⟨S5632x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Proof.Finite.lean ====
/-
  Finite extended reals: what a precondition `|x| < +∞` says of an array at `Ideal`, and the sums and products of finite
  values that the gradients need. A value is finite when it is a real number (`Fin x`).
-/
module

public import Idealize.ShloMosaic.Lib.Pipeline.ValueKit
public import Idealize.ShloMosaic.Lib.IdealHost
public import Idealize.ShloMosaic.Lib.KernelVsHost

@[expose] public section

set_option maxRecDepth 16384

noncomputable section

namespace Cert.Finite

open Idealize.ShloMosaic Idealize.SL.Sem

/-- The value is a real number. -/
def IsReal (x : EReal) : Prop := ∃ r : ℝ, x = (r : EReal)

theorem isReal_coe (r : ℝ) : IsReal (r : EReal) := ⟨r, rfl⟩

theorem IsReal.mul {x y : EReal} (hx : IsReal x) (hy : IsReal y) : IsReal (x * y) := by
  obtain ⟨a, rfl⟩ := hx; obtain ⟨b, rfl⟩ := hy; exact ⟨a * b, by push_cast; rfl⟩

theorem IsReal.add {x y : EReal} (hx : IsReal x) (hy : IsReal y) : IsReal (x + y) := by
  obtain ⟨a, rfl⟩ := hx; obtain ⟨b, rfl⟩ := hy; exact ⟨a + b, by push_cast; rfl⟩

theorem IsReal.sub {x y : EReal} (hx : IsReal x) (hy : IsReal y) : IsReal (x - y) := by
  obtain ⟨a, rfl⟩ := hx; obtain ⟨b, rfl⟩ := hy; exact ⟨a - b, by push_cast; rfl⟩

theorem IsReal.neg {x : EReal} (hx : IsReal x) : IsReal (-x) := by
  obtain ⟨a, rfl⟩ := hx; exact ⟨-a, by push_cast; rfl⟩

theorem isReal_zero : IsReal 0 := ⟨0, by simp⟩

theorem isReal_one : IsReal 1 := ⟨1, by simp⟩

/-- A finite sum of real numbers, read in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type*} (s : Finset ι) {f : ι → EReal} (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

theorem isReal_iff {x : EReal} : IsReal x ↔ max x (-x) < ⊤ := by
  constructor
  · rintro ⟨r, rfl⟩
    exact max_lt (EReal.coe_lt_top r) (by rw [← EReal.coe_neg]; exact EReal.coe_lt_top _)
  · intro h
    induction x using EReal.rec with
    | bot => simp at h
    | coe r => exact ⟨r, rfl⟩
    | top => simp at h

theorem ofBits_inf : Ideal.ofBits .f32 0x7F800000#32 = ⊤ := by simp [Ideal.ofBits, Ideal.ieee]

/-- What the precondition's comparison says at one element: the element is a real number. -/
theorem isReal_of_olt {x : EReal} (h : FloatOps.cmpf (F := Ideal) (φ := .f32) .olt (FloatOps.hostAbsf (F := Ideal) (φ := .f32) x)
    (FloatOps.ofBits (F := Ideal) .f32 0x7F800000#32) = 1#1) : IsReal x := by
  rw [isReal_iff]
  have h' : Ideal.cmp .olt (max x (-x)) (Ideal.ofBits .f32 0x7F800000#32) = 1#1 := h
  rw [ofBits_inf] at h'
  by_contra hn
  simp [Ideal.cmp, hn] at h'

/-- The precondition of a whole array: every element is a real number. -/
theorem isReal_of_fin {s u : Shape} (dims : Fin u.rank → Fin s.rank) (hb : u.BroadcastsInDim s dims) (x : FVec Ideal s .f32)
    (h : cmpf .olt (Host.absf x) (broadcastInDim s dims hb (constant u .f32 0x7F800000#32)) = fun _ => 1#1) (i : s.Idx) :
    IsReal (x i) := isReal_of_olt (congrFun h i)

end Cert.Finite

end
-- ==== Proof.Swiglu.lean ====
/-
  The SwiGLU gate's gradient: what the kernel's two result arrays hold, and that they are the reference's.
-/
module

public import proofs.«01_k».proof.Defs
public import proofs.«01_k».proof.Proof.Gen.Pre_finite_swiglu
public import proofs.«01_k».proof.Proof.Gen.SwigluIdeal.Frame
public import proofs.«01_k».proof.Proof.Gen.SwigluRefIdeal.Read
public import proofs.«01_k».proof.Proof.Finite
public import Idealize.ShloMosaic.Lib.Claim

@[expose] public section

set_option maxRecDepth 16384

noncomputable section

namespace Cert.SwigluIdeal.Math

open Cert.SwigluIdeal Cert.SwigluIdeal.Gen Cert.Finite Idealize.ShloMosaic Idealize.ShloMosaic.TcCoe Idealize.SL.Sem
open Idealize.ShloMosaic.Pipeline (Dat)

variable (m : (ℓ : Loc nD τ sig) → Buf (Elt Ideal) ℓ)

/-- The reference's gradient of the gate, over variables. -/
abbrev REFg (x0 : FVec Ideal S4096x1024 .bf16) (x1 : FVec Ideal S2816x1024 .bf16) (x2 x3 : FVec Ideal S4096x2816 .bf16) : FVec Ideal S4096x2816 .bf16 :=
  Cert.SwigluRefIdeal.Read.val_main_v11 (F := Ideal) x0 x1 x2 x3

/-- The reference's gradient of the other factor, over variables. -/
abbrev REFu (x0 : FVec Ideal S4096x1024 .bf16) (x1 : FVec Ideal S2816x1024 .bf16) (x2 : FVec Ideal S4096x2816 .bf16) : FVec Ideal S4096x2816 .bf16 :=
  Cert.SwigluRefIdeal.Read.val_main_v12 (F := Ideal) x0 x1 x2

/-- The gradient of the gate, written in one product or in the derivative's two terms: `X` is the cotangent of the gate's
    result. Finite `X` is enough: an infinite gate argument saturates the sigmoid at 0 or 1. -/
theorem gate_eq {X g : EReal} (hX : IsReal X) :
    X * Ideal.logistic g * (1 + g * (1 - Ideal.logistic g))
      = X * Ideal.logistic g + g * X * (Ideal.logistic g * (1 - Ideal.logistic g)) := by
  obtain ⟨x, rfl⟩ := hX
  induction g using EReal.rec with
  | bot => simp
  | coe r =>
    rw [Ideal.logistic_coe]
    set s : ℝ := (1 + Real.exp (-r))⁻¹
    norm_cast
    ring
  | top =>
    have h : (1 : EReal) - 1 = 0 := by rw [← EReal.coe_one, ← EReal.coe_sub]; simp
    simp [h]

section Ref
open Cert.SwigluRefIdeal.Read

theorem refg_apply (x0 : FVec Ideal S4096x1024 .bf16) (x1 : FVec Ideal S2816x1024 .bf16) (x2 x3 : FVec Ideal S4096x2816 .bf16) (y) :
    REFg x0 x1 x2 x3 y = (∑ k : Fin 1024, x0 (ix2 (y 0) k) * x1 (ix2 (y 1) k)) * x3 y * Ideal.logistic (x2 y)
      + x2 y * ((∑ k : Fin 1024, x0 (ix2 (y 0) k) * x1 (ix2 (y 1) k)) * x3 y) * (Ideal.logistic (x2 y) * (1 - Ideal.logistic (x2 y))) := by
  pointwise [REFg, val_main_v11, val_main_v10, val_main_call1_v1, val_main_call1_v2, val_main_call1_v0, val_main_v9, val_main_v7, val_main_v3_1, val_main_v3_2, val_main_call0_v7, val_main_call0_v6, val_main_call0_v3, val_main_call0_v4, val_main_call0_v2, val_main_call0_v1, val_main_call0_v0, val_main_call0_cst, val_main_call0_cst_0, val_main_call0_cst_1, val_main_v0, val_main_v1, val_main_v2, val_main_v6, val_main_v8, val_main_v3_0, val_main_v12]
  try rfl

theorem refu_apply (x0 : FVec Ideal S4096x1024 .bf16) (x1 : FVec Ideal S2816x1024 .bf16) (x2 : FVec Ideal S4096x2816 .bf16) (y) :
    REFu x0 x1 x2 y = x2 y * Ideal.logistic (x2 y) * (∑ k : Fin 1024, x0 (ix2 (y 0) k) * x1 (ix2 (y 1) k)) := by
  pointwise [REFu, val_main_v11, val_main_v10, val_main_call1_v1, val_main_call1_v2, val_main_call1_v0, val_main_v9, val_main_v7, val_main_v3_1, val_main_v3_2, val_main_call0_v7, val_main_call0_v6, val_main_call0_v3, val_main_call0_v4, val_main_call0_v2, val_main_call0_v1, val_main_call0_v0, val_main_call0_cst, val_main_call0_cst_0, val_main_call0_cst_1, val_main_v0, val_main_v1, val_main_v2, val_main_v6, val_main_v8, val_main_v3_0, val_main_v12]
  try rfl

end Ref

/-- The index maps: rows by the first grid coordinate, columns of the gate by the second. -/
theorem idx : ∀ t : Fin cfg0.N, win0_0.index t = ![t.val / 2, 0] ∧ win0_1.index t = ![t.val % 2, 0] ∧ win0_2.index t = ![t.val / 2, t.val % 2]
    ∧ win0_3.index t = ![t.val / 2, t.val % 2] ∧ win0_4.index t = ![t.val / 2, t.val % 2] ∧ win0_5.index t = ![t.val / 2, t.val % 2] :=
  (by decide +kernel : ∀ t : Fin grid0.N, _)

/-- The first result array is the reference's gradient of the gate, for finite cotangent, weights and factor. -/
theorem final4 (c : Dev nD)
    (h0 : ∀ i, IsReal ((show FVec Ideal S4096x1024 .bf16 from m ((c : Thread nD τ).loc main_arg0)) i))
    (h1 : ∀ i, IsReal ((show FVec Ideal S2816x1024 .bf16 from m ((c : Thread nD τ).loc main_arg1)) i))
    (h3 : ∀ i, IsReal ((show FVec Ideal S4096x2816 .bf16 from m ((c : Thread nD τ).loc main_arg3)) i)) :
    (dats m 0 c).arrAt 4 (cfgs 0).N = REFg (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t _ y => ?_
  blk_simp
  rw [after0_4]
  frame_out
  rw [refg_apply, ← gate_eq (((IsReal.sum _ fun k _ => (h0 _).mul (h1 _))).mul (h3 _))]
  pointwise [k0_pay4, k0_pay1, k0_pay2, k0_pay3]
  blk_point [iblk, V, idx t]

/-- The second result array is the reference's gradient of the other factor. -/
theorem final5 (c : Dev nD) :
    (dats m 0 c).arrAt 5 (cfgs 0).N = REFu (m ((c : Thread nD τ).loc main_arg0)) (m ((c : Thread nD τ).loc main_arg1))
      (m ((c : Thread nD τ).loc main_arg2)) := by
  refine (dats m 0 c).arrAt_eq_of_covers 5 _ (by decide +kernel) fun t _ y => ?_
  blk_simp
  rw [after0_5]
  frame_out
  rw [refu_apply, mul_comm, ← mul_assoc]
  pointwise [k0_pay5, k0_pay1, k0_pay2, k0_pay3]
  blk_point [iblk, V, idx t]

/-- The reference terminates, keeps its arguments, and leaves every counter at zero: it has none. -/
theorem frame_ref : Cert.quiescent_SwigluRefIdeal := fun m g _ => by
  refine (θ_run _ _ _).mono (fun r h => ⟨fun c => (h c).2.2, sem_eq_zero_of_no_sems (sig := Cert.SwigluRefIdeal.sig) rfl _⟩)
    (Cert.SwigluRefIdeal.Value.run m g)

/-- The claim: kernel and reference leave the same two arrays. -/
theorem algebraic : Cert.algebraic_SwigluIdeal_SwigluRefIdeal_pre_finite_swiglu := by
  pair_intro
  · run_from Cert.SwigluIdeal.Gen.run_main m g
  · run_from Cert.SwigluRefIdeal.Value.run m' g'
    · refine Eq.trans ?_ (final4 m c ?_ ?_ ?_).symm
      · rfl
      · exact fun i => isReal_of_fin _ _ _ (hpre c).1 i
      · exact fun i => isReal_of_fin _ _ _ (hpre c).2.1 i
      · exact fun i => isReal_of_fin _ _ _ (hpre c).2.2 i
    · exact (final5 m c).symm

end Cert.SwigluIdeal.Math

end
-- ==== Proof.AttnRun.lean ====
/- One grid point of the attention's gradient, run once for both of its cases: the point that clears the
   gradient of the queries first (the first block of keys of a group of heads) and the others.  What the point
   leaves in its three results is found by the run, as functions of what it read and of what the results held. -/
module

public import proofs.«01_k».proof.Proof.Gen.AttnIdeal.Frame
public import proofs.«01_k».proof.Proof.Gen.AttnIdeal.Loops

@[expose] public section

set_option maxRecDepth 16384

noncomputable section

namespace Cert.AttnIdeal.Own

open Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The point is the first of its group of heads: it clears the gradient of the queries. -/
abbrev first (i : grid0.Coords) : Prop :=
  (Scalar.cmpi .ne (Scalar.extui (Scalar.cmpi .eq (BitVec.ofNat 32 (i 1).val) 0#32) : BitVec 32) 0#32 : BitVec 1) = 1#1

/-- The first key block is the points ≡ 0 modulo 8. -/
theorem first_iff : ∀ t : Fin cfg0.N, first (grid0.coords t) ↔ t.val % 8 = 0 :=
  (by decide +kernel : ∀ t : Fin grid0.N, first (grid0.coords t) ↔ t.val % 8 = 0)

/-- What a buffer of a window's staging memref holds. -/
abbrev Held {s : Shape} {e : EltTy} (F : FTy → Type) [FloatOps F] (a : Memref sig .tc .vmem s e) := a.view.ty.Contents (Elt F)

section
variable (c : Dev nD) (i : grid0.Coords) (a2 : Memref sig .tc .vmem S4096x512 .bf16) (h2 : a2.IsWhole)
  (a3 : Memref sig .tc .vmem S512x512 .bf16) (h3 : a3.IsWhole) (a4 : Memref sig .tc .vmem S512x512 .bf16) (h4 : a4.IsWhole)
  (a5 : Memref sig .tc .vmem S4096x512 .bf16) (h5 : a5.IsWhole) (a6 : Memref sig .tc .vmem S4096x512 .f32) (h6 : a6.IsWhole)
  (a7 : Memref sig .tc .vmem S512x512 .bf16) (h7 : a7.IsWhole) (a8 : Memref sig .tc .vmem S512x512 .bf16) (h8 : a8.IsWhole)
  (x0 : Vec F S4096x512 .bf16) (x1 : Vec F S512x512 .bf16) (x2 : Vec F S512x512 .bf16) (x3 : Vec F S4096x512 .bf16)

/-- The four operands a point reads, at their contents. -/
abbrev Operands : sProp 𝕄 :=
  iprop(owns (c : Thread nD τ) a2 fullShare x0 ∗ owns (c : Thread nD τ) a3 fullShare x1
    ∗ owns (c : Thread nD τ) a4 fullShare x2 ∗ owns (c : Thread nD τ) a5 fullShare x3)

/-- The three results, at given contents of their buffers. -/
abbrev Results (f6 : Held F a6) (f7 : Held F a7) (f8 : Held F a8) : sProp 𝕄 :=
  iprop((a6.view.loc (c : Thread nD τ) ↦[a6.view.set]{fullShare} f6) ∗ (a7.view.loc (c : Thread nD τ) ↦[a7.view.set]{fullShare} f7)
    ∗ (a8.view.loc (c : Thread nD τ) ↦[a8.view.set]{fullShare} f8))

/-- A run of the body that leaves the results at `g6`, `g7`, `g8` of what they held. -/
def Runs (g6 : Held F a6 → Held F a6) (g7 : Held F a6 → Held F a7 → Held F a7) (g8 : Held F a6 → Held F a8 → Held F a8) : Prop :=
  ∀ (f6 : Held F a6) (f7 : Held F a7) (f8 : Held F a8) (E : Set ℕ) (K : PUnit → sProp 𝕄),
    iprop(Operands c a2 a3 a4 a5 x0 x1 x2 x3 ∗ Results c a6 a7 a8 f6 f7 f8
        ∗ (iprop(Operands c a2 a3 a4 a5 x0 x1 x2 x3 ∗ Results c a6 a7 a8 (g6 f6) (g7 f6 f7) (g8 f6 f8)) -∗ K ⟨⟩))
      ⊢ wp frame (wpE (defs₀ (F := F)) Variants.none c none) E (cc0_attn_bwd i a2 h2 a3 h3 a4 h4 a5 h5 a6 h6 a7 h7 a8 h8) K

set_option maxHeartbeats 2000000 in
/-- A point that is not the first of its group. -/
def later (hc : ¬ first i) : Σ' (g6 : Held F a6 → Held F a6) (g7 : Held F a6 → Held F a7 → Held F a7),
    { g8 : Held F a6 → Held F a8 → Held F a8 // Runs c i a2 h2 a3 h3 a4 h4 a5 h5 a6 h6 a7 h7 a8 h8 x0 x1 x2 x3 g6 g7 g8 } := by
  refine ⟨?_, ?_, ?_, fun f6 f7 f8 E K => ?run⟩
  case run =>
    simp only [cc0_attn_bwd_eq_skeleton]; unfold cc0_attn_bwd_skel
    simp only [k0_part5_eq_skeleton, k0_part6_eq_skeleton, k0_part7_eq_skeleton, k0_part8_eq_skeleton]
    unfold Operands Results owns
    iintro ⟨⟨⟨%f0, %hf0, H0⟩, ⟨%f1, %hf1, H1⟩, ⟨%f2, %hf2, H2⟩, ⟨%f3, %hf3, H3⟩⟩, ⟨H4, H5, H6⟩, Hk⟩
    obtain rfl := h2.eq_unread hf0; obtain rfl := h3.eq_unread hf1; obtain rfl := h4.eq_unread hf2; obtain rfl := h5.eq_unread hf3
    sl_exec (disch := first | sl_exact hc)
    sl_step
    iapply Hk
    isplitl [H0 H1 H2 H3]
    · isplitl [H0]
      · iexists _; isplitr; · ipureintro; exact h2.read_unread _
        iexact H0
      isplitl [H1]
      · iexists _; isplitr; · ipureintro; exact h3.read_unread _
        iexact H1
      isplitl [H2]
      · iexists _; isplitr; · ipureintro; exact h4.read_unread _
        iexact H2
      iexists _; isplitr; · ipureintro; exact h5.read_unread _
      iexact H3
    isplitl [H4]; · iexact H4
    isplitl [H5]; · iexact H5
    iexact H6

set_option maxHeartbeats 2000000 in
/-- The first point of a group. -/
def opening (hc : first i) : Σ' (g6 : Held F a6 → Held F a6) (g7 : Held F a6 → Held F a7 → Held F a7),
    { g8 : Held F a6 → Held F a8 → Held F a8 // Runs c i a2 h2 a3 h3 a4 h4 a5 h5 a6 h6 a7 h7 a8 h8 x0 x1 x2 x3 g6 g7 g8 } := by
  refine ⟨?_, ?_, ?_, fun f6 f7 f8 E K => ?run⟩
  case run =>
    simp only [cc0_attn_bwd_eq_skeleton]; unfold cc0_attn_bwd_skel
    simp only [k0_part5_eq_skeleton, k0_part6_eq_skeleton, k0_part7_eq_skeleton, k0_part8_eq_skeleton]
    unfold Operands Results owns
    iintro ⟨⟨⟨%f0, %hf0, H0⟩, ⟨%f1, %hf1, H1⟩, ⟨%f2, %hf2, H2⟩, ⟨%f3, %hf3, H3⟩⟩, ⟨H4, H5, H6⟩, Hk⟩
    obtain rfl := h2.eq_unread hf0; obtain rfl := h3.eq_unread hf1; obtain rfl := h4.eq_unread hf2; obtain rfl := h5.eq_unread hf3
    sl_exec (disch := first | sl_exact hc)
    sl_step
    iapply Hk
    isplitl [H0 H1 H2 H3]
    · isplitl [H0]
      · iexists _; isplitr; · ipureintro; exact h2.read_unread _
        iexact H0
      isplitl [H1]
      · iexists _; isplitr; · ipureintro; exact h3.read_unread _
        iexact H1
      isplitl [H2]
      · iexists _; isplitr; · ipureintro; exact h4.read_unread _
        iexact H2
      iexists _; isplitr; · ipureintro; exact h5.read_unread _
      iexact H3
    isplitl [H4]; · iexact H4
    isplitl [H5]; · iexact H5
    iexact H6

end

end Cert.AttnIdeal.Own

end
-- ==== Proof.AttnPoint.lean ====
/- What the body of the attention's gradient computes at one grid point, as the run found it, said once for all four heads:
   the masked step on the diagonal, then one step per block of queries behind it. -/
module

public import proofs.«01_k».proof.Proof.AttnRun

@[expose] public section

set_option maxRecDepth 16384

noncomputable section

namespace Cert.AttnIdeal.Own

open Cert.AttnIdeal.Gen
open Idealize.ShloMosaic Idealize.ShloMosaic.TcCoe Idealize.ShloMosaic.Tactic

variable {F : FTy → Type} [FloatOps F]

/-- One head's masked step: what is added to the gradients of the values, -/
abbrev maskV (i : grid0.Coords) (acc : FVec F S512x128 .f32) (k q d : Vec F S512x128 .bf16) : FVec F S512x128 .f32 :=
  k0_pay84 acc (k0_pay81 d) (k0_pay82 i k q)
/-- of the keys, -/
abbrev maskK (i : grid0.Coords) (acc : FVec F S512x128 .f32) (k v q d : Vec F S512x128 .bf16) : FVec F S512x128 .f32 :=
  k0_pay85 acc (k0_pay79 v) (k0_pay80 q) (k0_pay81 d) (k0_pay82 i k q)
/-- and of the queries. -/
abbrev maskQ (i : grid0.Coords) (k v q d : Vec F S512x128 .bf16) (acc : Vec F S512x128 .f32) : FVec F S512x128 .f32 :=
  k0_pay86 (k0_pay78 k) (k0_pay79 v) (k0_pay81 d) (k0_pay82 i k q) acc

section
variable (c : Dev nD) (i : grid0.Coords) (a2 : Memref sig .tc .vmem S4096x512 .bf16) (h2 : a2.IsWhole)
  (a3 : Memref sig .tc .vmem S512x512 .bf16) (h3 : a3.IsWhole) (a4 : Memref sig .tc .vmem S512x512 .bf16) (h4 : a4.IsWhole)
  (a5 : Memref sig .tc .vmem S4096x512 .bf16) (h5 : a5.IsWhole) (a6 : Memref sig .tc .vmem S4096x512 .f32) (h6 : a6.IsWhole)
  (a7 : Memref sig .tc .vmem S512x512 .bf16) (h7 : a7.IsWhole) (a8 : Memref sig .tc .vmem S512x512 .bf16) (h8 : a8.IsWhole)
  (x0 : Vec F S4096x512 .bf16) (x1 : Vec F S512x512 .bf16) (x2 : Vec F S512x512 .bf16) (x3 : Vec F S4096x512 .bf16)

/-- A head's columns of a block of the queries or the cotangents, -/
abbrev tall {φ} (a : Memref sig .tc .vmem S4096x512 φ) (f : Held F a) (o : Fin 2 → ℕ) (ho : ∀ x, o x + S512x128.size x ≤ S4096x512.size x) : Vec F S512x128 φ :=
  View.readAt (Elt F) a.view (Rect.unit (s := S4096x512) o S512x128.size ho).toLoadRect f
/-- and of the keys or the values. -/
abbrev flat {φ} (a : Memref sig .tc .vmem S512x512 φ) (f : Held F a) (o : Fin 2 → ℕ) (ho : ∀ x, o x + S512x128.size x ≤ S512x512.size x) : Vec F S512x128 φ :=
  View.readAt (Elt F) a.view (Rect.unit (s := S512x512) o S512x128.size ho).toLoadRect f

/-- The four heads' pieces of the gradient of the queries that one step stores, of what `w` takes from the operands' tiles. -/
abbrev quad (o0 o1 o2 o3 : Fin 2 → ℕ) (ho0 : ∀ x, o0 x + S512x128.size x ≤ S4096x512.size x) (ho1 : ∀ x, o1 x + S512x128.size x ≤ S4096x512.size x)
    (ho2 : ∀ x, o2 x + S512x128.size x ≤ S4096x512.size x) (ho3 : ∀ x, o3 x + S512x128.size x ≤ S4096x512.size x)
    (w : (k v q d : Vec F S512x128 .bf16) → Vec F S512x128 .f32 → FVec F S512x128 .f32) (g0 g1 g2 g3 : Held F a6) :
    List (View.Piece (Elt F) S4096x512 .f32) :=
  [⟨Rect.unit (s := S4096x512) o3 S512x128.size ho3, w (flat a3 (h3.unread x1) _ inb_S512x512_S512x128_0_384) (flat a4 (h4.unread x2) _ inb_S512x512_S512x128_0_384)
      (tall a2 (h2.unread x0) o3 ho3) (tall a5 (h5.unread x3) o3 ho3) (tall a6 g3 o3 ho3)⟩,
   ⟨Rect.unit (s := S4096x512) o2 S512x128.size ho2, w (flat a3 (h3.unread x1) _ inb_S512x512_S512x128_0_256) (flat a4 (h4.unread x2) _ inb_S512x512_S512x128_0_256)
      (tall a2 (h2.unread x0) o2 ho2) (tall a5 (h5.unread x3) o2 ho2) (tall a6 g2 o2 ho2)⟩,
   ⟨Rect.unit (s := S4096x512) o1 S512x128.size ho1, w (flat a3 (h3.unread x1) _ inb_S512x512_S512x128_0_128) (flat a4 (h4.unread x2) _ inb_S512x512_S512x128_0_128)
      (tall a2 (h2.unread x0) o1 ho1) (tall a5 (h5.unread x3) o1 ho1) (tall a6 g1 o1 ho1)⟩,
   ⟨Rect.unit (s := S4096x512) o0 S512x128.size ho0, w (flat a3 (h3.unread x1) _ inb_S512x512_S512x128_0_0) (flat a4 (h4.unread x2) _ inb_S512x512_S512x128_0_0)
      (tall a2 (h2.unread x0) o0 ho0) (tall a5 (h5.unread x3) o0 ho0) (tall a6 g0 o0 ho0)⟩]

/-- The eight blocks one step carries: per head the gradient of the keys and that of the values. -/
abbrev Eight (F : FTy → Type) := FVec F S512x128 .f32 × FVec F S512x128 .f32 × FVec F S512x128 .f32 × FVec F S512x128 .f32 × FVec F S512x128 .f32 × FVec F S512x128 .f32 × FVec F S512x128 .f32 × FVec F S512x128 .f32

abbrev eight (o0 o1 o2 o3 : Fin 2 → ℕ) (ho0 : ∀ x, o0 x + S512x128.size x ≤ S4096x512.size x) (ho1 : ∀ x, o1 x + S512x128.size x ≤ S4096x512.size x)
    (ho2 : ∀ x, o2 x + S512x128.size x ≤ S4096x512.size x) (ho3 : ∀ x, o3 x + S512x128.size x ≤ S4096x512.size x)
    (wk : FVec F S512x128 .f32 → (k v q d : Vec F S512x128 .bf16) → FVec F S512x128 .f32)
    (wv : FVec F S512x128 .f32 → (k q d : Vec F S512x128 .bf16) → FVec F S512x128 .f32) (p : Eight F) : Eight F :=
  (wk p.1 (flat a3 (h3.unread x1) _ inb_S512x512_S512x128_0_0) (flat a4 (h4.unread x2) _ inb_S512x512_S512x128_0_0) (tall a2 (h2.unread x0) o0 ho0) (tall a5 (h5.unread x3) o0 ho0),
   wv p.2.1 (flat a3 (h3.unread x1) _ inb_S512x512_S512x128_0_0) (tall a2 (h2.unread x0) o0 ho0) (tall a5 (h5.unread x3) o0 ho0),
   wk p.2.2.1 (flat a3 (h3.unread x1) _ inb_S512x512_S512x128_0_128) (flat a4 (h4.unread x2) _ inb_S512x512_S512x128_0_128) (tall a2 (h2.unread x0) o1 ho1) (tall a5 (h5.unread x3) o1 ho1),
   wv p.2.2.2.1 (flat a3 (h3.unread x1) _ inb_S512x512_S512x128_0_128) (tall a2 (h2.unread x0) o1 ho1) (tall a5 (h5.unread x3) o1 ho1),
   wk p.2.2.2.2.1 (flat a3 (h3.unread x1) _ inb_S512x512_S512x128_0_256) (flat a4 (h4.unread x2) _ inb_S512x512_S512x128_0_256) (tall a2 (h2.unread x0) o2 ho2) (tall a5 (h5.unread x3) o2 ho2),
   wv p.2.2.2.2.2.1 (flat a3 (h3.unread x1) _ inb_S512x512_S512x128_0_256) (tall a2 (h2.unread x0) o2 ho2) (tall a5 (h5.unread x3) o2 ho2),
   wk p.2.2.2.2.2.2.1 (flat a3 (h3.unread x1) _ inb_S512x512_S512x128_0_384) (flat a4 (h4.unread x2) _ inb_S512x512_S512x128_0_384) (tall a2 (h2.unread x0) o3 ho3) (tall a5 (h5.unread x3) o3 ho3),
   wv p.2.2.2.2.2.2.2 (flat a3 (h3.unread x1) _ inb_S512x512_S512x128_0_384) (tall a2 (h2.unread x0) o3 ho3) (tall a5 (h5.unread x3) o3 ho3))

/-- The masked step's pieces and carried blocks, -/
abbrev diagQ (g0 g1 g2 g3 : Held F a6) := quad a2 h2 a3 h3 a4 h4 a5 h5 a6 x0 x1 x2 x3 (k0_off1 i) (k0_off2 i) (k0_off3 i) (k0_off4 i)
  (k0_off1_inb i) (k0_off2_inb i) (k0_off3_inb i) (k0_off4_inb i) (maskQ i) g0 g1 g2 g3
abbrev zeros : Eight F := (k0_pay70, k0_pay71, k0_pay72, k0_pay73, k0_pay74, k0_pay75, k0_pay76, k0_pay77)
abbrev diagKV := eight a2 h2 a3 h3 a4 h4 a5 h5 x0 x1 x2 x3 (k0_off1 i) (k0_off2 i) (k0_off3 i) (k0_off4 i)
  (k0_off1_inb i) (k0_off2_inb i) (k0_off3_inb i) (k0_off4_inb i) (maskK i) (maskV i) zeros
/-- and those of the step for the `k`-th block of queries behind the diagonal. -/
abbrev restQ (k : Fin (k0_t1_loop i).trips) (f : Held F a6) := quad a2 h2 a3 h3 a4 h4 a5 h5 a6 x0 x1 x2 x3 (k0_off5 i k) (k0_off6 i k) (k0_off7 i k) (k0_off8 i k)
  (k0_off5_inb i k) (k0_off6_inb i k) (k0_off7_inb i k) (k0_off8_inb i k) k0_pay25 f f f f
abbrev restKV (k : Fin (k0_t1_loop i).trips) (p : Eight F) := eight a2 h2 a3 h3 a4 h4 a5 h5 x0 x1 x2 x3 (k0_off5 i k) (k0_off6 i k) (k0_off7 i k) (k0_off8 i k)
  (k0_off5_inb i k) (k0_off6_inb i k) (k0_off7_inb i k) (k0_off8_inb i k) k0_pay24 k0_pay23 p

section
variable (w : BitVec 32) (v6 v7 : IVec S512x512 32) (v14 v15 : FVec F S512x128 .f32) (w' : BitVec 32) (v41 v43 v74 v76 v107 v109 : FVec F S512x128 .f32) (u : BitVec 32)

theorem tripL_eq (k : Fin (k0_t1_loop i).trips) (p : Eight F) (f : Held F a6) :
    tripL_k0_t1 (F := F) Variants.none c none i a2 h2 a3 h3 a4 h4 a5 h5 a6 h6 a7 h7 a8 h8 w v6 v7 v14 v15 w' v41 v43 v74 v76 v107 v109 u
      (h2.unread x0) (h3.unread x1) (h4.unread x2) (h5.unread x3) k p f = restQ i a2 h2 a3 h3 a4 h4 a5 h5 a6 x0 x1 x2 x3 k f := by
  delta tripL_k0_t1 trip_k0_t1; rfl

theorem tripR_eq (k : Fin (k0_t1_loop i).trips) (p : Eight F) (f : Held F a6) :
    tripR_k0_t1 (F := F) Variants.none c none i a2 h2 a3 h3 a4 h4 a5 h5 a6 h6 a7 h7 a8 h8 w v6 v7 v14 v15 w' v41 v43 v74 v76 v107 v109 u
      (h2.unread x0) (h3.unread x1) (h4.unread x2) (h5.unread x3) k p f = restKV i a2 h2 a3 h3 a4 h4 a5 h5 x0 x1 x2 x3 k p := by
  delta tripR_k0_t1 trip_k0_t1; rfl

/-- The carried blocks and all pieces stored so far, `pre` those before the loop, after `n` blocks of queries behind the diagonal. -/
def behind (base : Held F a6) (pre : List (View.Piece (Elt F) S4096x512 .f32)) : ℕ → Eight F × List (View.Piece (Elt F) S4096x512 .f32)
  | 0 => (diagKV i a2 h2 a3 h3 a4 h4 a5 h5 x0 x1 x2 x3, pre)
  | n + 1 => if h : n < (k0_t1_loop i).trips then
      (restKV i a2 h2 a3 h3 a4 h4 a5 h5 x0 x1 x2 x3 ⟨n, h⟩ (behind base pre n).1,
       restQ i a2 h2 a3 h3 a4 h4 a5 h5 a6 x0 x1 x2 x3 ⟨n, h⟩ (a6.view.writes (Elt F) base (behind base pre n).2) ++ (behind base pre n).2)
    else behind base pre n

theorem loop_eq (base : Held F a6) (pre : List (View.Piece (Elt F) S4096x512 .f32)) : ∀ n, n ≤ (k0_t1_loop i).trips →
    (st_k0_t1 (F := F) Variants.none c none i a2 h2 a3 h3 a4 h4 a5 h5 a6 h6 a7 h7 a8 h8 w v6 v7 v14 v15 w' v41 v43 v74 v76 v107 v109 u
      (h2.unread x0) (h3.unread x1) (h4.unread x2) (h5.unread x3) (a6.view.writes (Elt F) base pre) (diagKV i a2 h2 a3 h3 a4 h4 a5 h5 x0 x1 x2 x3) n).1
        = (behind i a2 h2 a3 h3 a4 h4 a5 h5 a6 x0 x1 x2 x3 base pre n).1
    ∧ (st_k0_t1 (F := F) Variants.none c none i a2 h2 a3 h3 a4 h4 a5 h5 a6 h6 a7 h7 a8 h8 w v6 v7 v14 v15 w' v41 v43 v74 v76 v107 v109 u
      (h2.unread x0) (h3.unread x1) (h4.unread x2) (h5.unread x3) (a6.view.writes (Elt F) base pre) (diagKV i a2 h2 a3 h3 a4 h4 a5 h5 x0 x1 x2 x3) n).2 ++ pre
        = (behind i a2 h2 a3 h3 a4 h4 a5 h5 a6 x0 x1 x2 x3 base pre n).2
  | 0, _ => ⟨rfl, rfl⟩
  | n + 1, hn => by
    obtain ⟨e1, e2⟩ := loop_eq base pre n (by omega)
    have := st_k0_t1_succ (F := F) Variants.none c none i a2 h2 a3 h3 a4 h4 a5 h5 a6 h6 a7 h7 a8 h8 w v6 v7 v14 v15 w' v41 v43 v74 v76 v107 v109 u
      (h2.unread x0) (h3.unread x1) (h4.unread x2) (h5.unread x3) (a6.view.writes (Elt F) base pre) (diagKV i a2 h2 a3 h3 a4 h4 a5 h5 x0 x1 x2 x3) ⟨n, by omega⟩
    simp only at this
    rw [this, tripR_eq, tripL_eq]
    rw [show behind i a2 h2 a3 h3 a4 h4 a5 h5 a6 x0 x1 x2 x3 base pre (n + 1) = if h : n < (k0_t1_loop i).trips then
      (restKV i a2 h2 a3 h3 a4 h4 a5 h5 x0 x1 x2 x3 ⟨n, h⟩ (behind i a2 h2 a3 h3 a4 h4 a5 h5 a6 x0 x1 x2 x3 base pre n).1,
       restQ i a2 h2 a3 h3 a4 h4 a5 h5 a6 x0 x1 x2 x3 ⟨n, h⟩ (a6.view.writes (Elt F) base (behind i a2 h2 a3 h3 a4 h4 a5 h5 a6 x0 x1 x2 x3 base pre n).2)
         ++ (behind i a2 h2 a3 h3 a4 h4 a5 h5 a6 x0 x1 x2 x3 base pre n).2)
      else behind i a2 h2 a3 h3 a4 h4 a5 h5 a6 x0 x1 x2 x3 base pre n from rfl, dif_pos (by omega : n < (k0_t1_loop i).trips)]
    simp only
    rw [List.append_assoc, ← View.writes_append, e1, e2]
    exact ⟨rfl, rfl⟩

end

/-- The second loop has no trip. -/
theorem no_trips : ∀ i : grid0.Coords, (k0_t2_loop i).trips = 0 := by decide +kernel

/-- What a point leaves, of the pieces `pre` stored over `base` by the masked step. -/
def Leaves (base : Held F a6) (pre : List (View.Piece (Elt F) S4096x512 .f32)) (lq : Held F a6) (lk : Held F a7 → Held F a7) (lv : Held F a8 → Held F a8) : Prop :=
  lq = a6.view.writes (Elt F) base (behind i a2 h2 a3 h3 a4 h4 a5 h5 a6 x0 x1 x2 x3 base pre (k0_t1_loop i).trips).2
  ∧ (∀ g, lk g = a7.view.writes (Elt F) g
      [⟨Rect.unit (s := S512x512) ![0, 384] S512x128.size inb_S512x512_S512x128_0_384, k0_pay16 (behind i a2 h2 a3 h3 a4 h4 a5 h5 a6 x0 x1 x2 x3 base pre (k0_t1_loop i).trips).1.2.2.2.2.2.2.1⟩,
       ⟨Rect.unit (s := S512x512) ![0, 256] S512x128.size inb_S512x512_S512x128_0_256, k0_pay14 (behind i a2 h2 a3 h3 a4 h4 a5 h5 a6 x0 x1 x2 x3 base pre (k0_t1_loop i).trips).1.2.2.2.2.1⟩,
       ⟨Rect.unit (s := S512x512) ![0, 128] S512x128.size inb_S512x512_S512x128_0_128, k0_pay12 (behind i a2 h2 a3 h3 a4 h4 a5 h5 a6 x0 x1 x2 x3 base pre (k0_t1_loop i).trips).1.2.2.1⟩,
       ⟨Rect.unit (s := S512x512) ![0, 0] S512x128.size inb_S512x512_S512x128_0_0, k0_pay10 (behind i a2 h2 a3 h3 a4 h4 a5 h5 a6 x0 x1 x2 x3 base pre (k0_t1_loop i).trips).1.1⟩])
  ∧ (∀ g, lv g = a8.view.writes (Elt F) g
      [⟨Rect.unit (s := S512x512) ![0, 384] S512x128.size inb_S512x512_S512x128_0_384, k0_pay17 (behind i a2 h2 a3 h3 a4 h4 a5 h5 a6 x0 x1 x2 x3 base pre (k0_t1_loop i).trips).1.2.2.2.2.2.2.2⟩,
       ⟨Rect.unit (s := S512x512) ![0, 256] S512x128.size inb_S512x512_S512x128_0_256, k0_pay15 (behind i a2 h2 a3 h3 a4 h4 a5 h5 a6 x0 x1 x2 x3 base pre (k0_t1_loop i).trips).1.2.2.2.2.2.1⟩,
       ⟨Rect.unit (s := S512x512) ![0, 128] S512x128.size inb_S512x512_S512x128_0_128, k0_pay13 (behind i a2 h2 a3 h3 a4 h4 a5 h5 a6 x0 x1 x2 x3 base pre (k0_t1_loop i).trips).1.2.2.2.1⟩,
       ⟨Rect.unit (s := S512x512) ![0, 0] S512x128.size inb_S512x512_S512x128_0_0, k0_pay11 (behind i a2 h2 a3 h3 a4 h4 a5 h5 a6 x0 x1 x2 x3 base pre (k0_t1_loop i).trips).1.2.1⟩])

/-- The second loop leaves what it finds, -/
theorem second_eq (u' : BitVec 32) (G : Held F a6) (p : Eight F) :
    st_k0_t2 (F := F) Variants.none c none i a2 h2 a3 h3 a4 h4 a5 h5 a6 h6 a7 h7 a8 h8 u' (h2.unread x0) (h3.unread x1) (h4.unread x2) (h5.unread x3) G p
      (k0_t2_loop i).trips = (p, []) := by
  rw [no_trips i]; rfl

/-- and a run that ends as the two loops do leaves this. -/
theorem leaves_of (base : Held F a6) (pre) (lq : Held F a6) (lk : Held F a7 → Held F a7) (lv : Held F a8 → Held F a8)
    (w : BitVec 32) (v6 v7 : IVec S512x512 32) (v14 v15 : FVec F S512x128 .f32) (w' : BitVec 32) (v41 v43 v74 v76 v107 v109 : FVec F S512x128 .f32) (u : BitVec 32)
    (T : Eight F × List (View.Piece (Elt F) S4096x512 .f32))
    (hT : T = (st_k0_t1 (F := F) Variants.none c none i a2 h2 a3 h3 a4 h4 a5 h5 a6 h6 a7 h7 a8 h8 w v6 v7 v14 v15 w' v41 v43 v74 v76 v107 v109 u
      (h2.unread x0) (h3.unread x1) (h4.unread x2) (h5.unread x3) (a6.view.writes (Elt F) base pre) (diagKV i a2 h2 a3 h3 a4 h4 a5 h5 x0 x1 x2 x3) (k0_t1_loop i).trips))
    (hq : lq = a6.view.writes (Elt F) base (T.2 ++ pre))
    (hk : ∀ g, lk g = a7.view.writes (Elt F) g
        [⟨Rect.unit (s := S512x512) ![0, 384] S512x128.size inb_S512x512_S512x128_0_384, k0_pay16 T.1.2.2.2.2.2.2.1⟩,
         ⟨Rect.unit (s := S512x512) ![0, 256] S512x128.size inb_S512x512_S512x128_0_256, k0_pay14 T.1.2.2.2.2.1⟩,
         ⟨Rect.unit (s := S512x512) ![0, 128] S512x128.size inb_S512x512_S512x128_0_128, k0_pay12 T.1.2.2.1⟩,
         ⟨Rect.unit (s := S512x512) ![0, 0] S512x128.size inb_S512x512_S512x128_0_0, k0_pay10 T.1.1⟩])
    (hv : ∀ g, lv g = a8.view.writes (Elt F) g
        [⟨Rect.unit (s := S512x512) ![0, 384] S512x128.size inb_S512x512_S512x128_0_384, k0_pay17 T.1.2.2.2.2.2.2.2⟩,
         ⟨Rect.unit (s := S512x512) ![0, 256] S512x128.size inb_S512x512_S512x128_0_256, k0_pay15 T.1.2.2.2.2.2.1⟩,
         ⟨Rect.unit (s := S512x512) ![0, 128] S512x128.size inb_S512x512_S512x128_0_128, k0_pay13 T.1.2.2.2.1⟩,
         ⟨Rect.unit (s := S512x512) ![0, 0] S512x128.size inb_S512x512_S512x128_0_0, k0_pay11 T.1.2.1⟩]) :
    Leaves i a2 h2 a3 h3 a4 h4 a5 h5 a6 a7 a8 x0 x1 x2 x3 base pre lq lk lv := by
  obtain ⟨e1, e2⟩ := loop_eq c i a2 h2 a3 h3 a4 h4 a5 h5 a6 h6 a7 h7 a8 h8 x0 x1 x2 x3 w v6 v7 v14 v15 w' v41 v43 v74 v76 v107 v109 u base pre _ le_rfl
  subst hT
  simp only [e1] at hk hv
  rw [e2] at hq
  exact ⟨hq, hk, hv⟩

set_option maxHeartbeats 4000000 in
theorem later_leaves (hc : ¬ first i) (f : Held F a6) :
    Leaves i a2 h2 a3 h3 a4 h4 a5 h5 a6 a7 a8 x0 x1 x2 x3 f (diagQ i a2 h2 a3 h3 a4 h4 a5 h5 a6 x0 x1 x2 x3 f f f f)
      ((later c i a2 h2 a3 h3 a4 h4 a5 h5 a6 h6 a7 h7 a8 h8 x0 x1 x2 x3 hc).1 f) ((later c i a2 h2 a3 h3 a4 h4 a5 h5 a6 h6 a7 h7 a8 h8 x0 x1 x2 x3 hc).2.1 f)
      ((later c i a2 h2 a3 h3 a4 h4 a5 h5 a6 h6 a7 h7 a8 h8 x0 x1 x2 x3 hc).2.2.1 f) := by
  delta later
  dsimp only
  rw [second_eq]
  simp only [List.nil_append]
  refine leaves_of c i a2 h2 a3 h3 a4 h4 a5 h5 a6 h6 a7 h7 a8 h8 x0 x1 x2 x3 _ _ _ _ _ (BitVec.ofNat 32 (i 1).val) (k0_pay69 i) (iota Kind.tc S512x512 32 [1] iota_S512x512_d1_w32)
    k0_pay76 k0_pay77 (Scalar.muli (BitVec.ofNat 32 (i 1).val) 512#32) (diagKV i a2 h2 a3 h3 a4 h4 a5 h5 x0 x1 x2 x3).2.1 (diagKV i a2 h2 a3 h3 a4 h4 a5 h5 x0 x1 x2 x3).1 (diagKV i a2 h2 a3 h3 a4 h4 a5 h5 x0 x1 x2 x3).2.2.2.1 (diagKV i a2 h2 a3 h3 a4 h4 a5 h5 x0 x1 x2 x3).2.2.1 (diagKV i a2 h2 a3 h3 a4 h4 a5 h5 x0 x1 x2 x3).2.2.2.2.2.1 (diagKV i a2 h2 a3 h3 a4 h4 a5 h5 x0 x1 x2 x3).2.2.2.2.1
    (Scalar.addi (BitVec.ofNat 32 (i 1).val) 1#32) _ rfl ?_ (fun _ => ?_) (fun _ => ?_)
  all_goals rfl

/-- What the first point stores before anything else: zeros, -/
abbrev cleared : View.Piece (Elt F) S4096x512 .f32 := ⟨Rect.unit (s := S4096x512) ![0, 0] S4096x512.size inb_S4096x512_S4096x512_0_0, k0_pay68⟩
/-- and the four heads' pieces over them, each head reading what the heads before it stored. -/
abbrev base0 : Held F a6 := a6.view.writes (Elt F) a6.view.junk [cleared]
abbrev diagAt (g0 g1 g2 g3 : Held F a6) := diagQ i a2 h2 a3 h3 a4 h4 a5 h5 a6 x0 x1 x2 x3 g0 g1 g2 g3
abbrev base1 : Held F a6 := a6.view.writes (Elt F) a6.view.junk ((diagAt i a2 h2 a3 h3 a4 h4 a5 h5 a6 x0 x1 x2 x3 (base0 a6) (base0 a6) (base0 a6) (base0 a6)).drop 3 ++ [cleared])
abbrev base2 : Held F a6 := a6.view.writes (Elt F) a6.view.junk ((diagAt i a2 h2 a3 h3 a4 h4 a5 h5 a6 x0 x1 x2 x3 (base0 a6) (base1 i a2 h2 a3 h3 a4 h4 a5 h5 a6 x0 x1 x2 x3) (base0 a6) (base0 a6)).drop 2 ++ [cleared])
abbrev base3 : Held F a6 := a6.view.writes (Elt F) a6.view.junk ((diagAt i a2 h2 a3 h3 a4 h4 a5 h5 a6 x0 x1 x2 x3 (base0 a6) (base1 i a2 h2 a3 h3 a4 h4 a5 h5 a6 x0 x1 x2 x3) (base2 i a2 h2 a3 h3 a4 h4 a5 h5 a6 x0 x1 x2 x3) (base0 a6)).drop 1 ++ [cleared])

set_option maxHeartbeats 4000000 in
theorem opening_leaves (hc : first i) (f : Held F a6) :
    Leaves i a2 h2 a3 h3 a4 h4 a5 h5 a6 a7 a8 x0 x1 x2 x3 a6.view.junk
      (diagQ i a2 h2 a3 h3 a4 h4 a5 h5 a6 x0 x1 x2 x3 (base0 a6) (base1 i a2 h2 a3 h3 a4 h4 a5 h5 a6 x0 x1 x2 x3)
        (base2 i a2 h2 a3 h3 a4 h4 a5 h5 a6 x0 x1 x2 x3) (base3 i a2 h2 a3 h3 a4 h4 a5 h5 a6 x0 x1 x2 x3) ++ [cleared])
      ((opening c i a2 h2 a3 h3 a4 h4 a5 h5 a6 h6 a7 h7 a8 h8 x0 x1 x2 x3 hc).1 f) ((opening c i a2 h2 a3 h3 a4 h4 a5 h5 a6 h6 a7 h7 a8 h8 x0 x1 x2 x3 hc).2.1 f)
      ((opening c i a2 h2 a3 h3 a4 h4 a5 h5 a6 h6 a7 h7 a8 h8 x0 x1 x2 x3 hc).2.2.1 f) := by
  delta opening
  dsimp only
  rw [second_eq]
  simp only [List.nil_append]
  refine leaves_of c i a2 h2 a3 h3 a4 h4 a5 h5 a6 h6 a7 h7 a8 h8 x0 x1 x2 x3 _ _ _ _ _ (BitVec.ofNat 32 (i 1).val) (k0_pay69 i) (iota Kind.tc S512x512 32 [1] iota_S512x512_d1_w32)
    k0_pay76 k0_pay77 (Scalar.muli (BitVec.ofNat 32 (i 1).val) 512#32) (diagKV i a2 h2 a3 h3 a4 h4 a5 h5 x0 x1 x2 x3).2.1 (diagKV i a2 h2 a3 h3 a4 h4 a5 h5 x0 x1 x2 x3).1 (diagKV i a2 h2 a3 h3 a4 h4 a5 h5 x0 x1 x2 x3).2.2.2.1 (diagKV i a2 h2 a3 h3 a4 h4 a5 h5 x0 x1 x2 x3).2.2.1 (diagKV i a2 h2 a3 h3 a4 h4 a5 h5 x0 x1 x2 x3).2.2.2.2.2.1 (diagKV i a2 h2 a3 h3 a4 h4 a5 h5 x0 x1 x2 x3).2.2.2.2.1
    (Scalar.addi (BitVec.ofNat 32 (i 1).val) 1#32) _ rfl ?_ (fun _ => ?_) (fun _ => ?_)
  all_goals rfl

end

end Cert.AttnIdeal.Own

end
-- ==== Proof.AttnHeads.lean ====
/- One head's step of the attention's gradient, entry by entry: from a block of keys and values and a block of queries and
   cotangents, what is added to the gradients of the values, of the keys and of the queries. -/
module

public import proofs.«01_k».proof.Proof.AttnPoint
public import proofs.«01_k».proof.Proof.Finite
public import Idealize.ShloMosaic.Lib.Pipeline.ValueKit
public import Idealize.ShloMosaic.Lib.Claim

@[expose] public section

set_option maxRecDepth 16384

noncomputable section

namespace Cert.AttnIdeal.Own

open Cert.AttnIdeal.Gen
open Idealize.ShloMosaic Idealize.ShloMosaic.TcCoe Idealize.ShloMosaic.Tactic

variable (k v q d : Vec Ideal S512x128 .bf16) (acc : FVec Ideal S512x128 .f32) (i : grid0.Coords) (s l : Fin 512) (m : Fin 128)

/-- The score of key `s` and query `j`, -/
def score (k q : Vec Ideal S512x128 .bf16) (s j : Fin 512) : EReal := ∑ a : Fin 128, k (ix2 s a) * q (ix2 j a)

theorem addV_apply : k0_pay23 acc k q d (ix2 s m) = acc (ix2 s m) + ∑ j : Fin 512, Ideal.exp (score k q s j) * d (ix2 j m) := by
  pointwise [k0_pay23, k0_pay21, k0_pay20, k0_pay19, k0_pay18, score]

theorem addK_apply : k0_pay24 acc k v q d (ix2 s m)
    = acc (ix2 s m) + ∑ j : Fin 512, Ideal.exp (score k q s j) * score v d s j * q (ix2 j m) := by
  pointwise [k0_pay24, k0_pay22, k0_pay21, k0_pay20, k0_pay19, k0_pay18, score]

theorem addQ_apply : k0_pay25 k v q d acc (ix2 s m)
    = acc (ix2 s m) + ∑ j : Fin 512, Ideal.exp (score k q j s) * score v d j s * k (ix2 j m) := by
  pointwise [k0_pay25, k0_pay22, k0_pay21, k0_pay20, k0_pay19, k0_pay18, score]

/-- The weight of key `s` in query `j` on the diagonal, where the mask is. -/
theorem mask_apply (j : Fin 512) : k0_pay82 i k q (ix2 s j) = if s.val ≤ j.val then Ideal.exp (score k q s j) else 0 := by
  have hk : (i 1).val < 8 := (i 1).isLt
  have e : ∀ x : Fin 512, IntOp.addi (Scalar.muli (BitVec.ofNat 32 (i 1).val) 512#32) (BitVec.ofNat 32 x.val)
      = BitVec.ofNat 32 ((i 1).val * 512 + x.val) := fun x => by
    rw [BitVec.ofNat_add, BitVec.ofNat_mul]; rfl
  pointwise [k0_pay82, k0_pay78, k0_pay80, k0_pay69, score]
  simp only [e]
  word_cmp
  simp only [Nat.add_le_add_iff_left]

/-- The weight of key `s` in query `j` of the diagonal block. -/
def weight (k q : Vec Ideal S512x128 .bf16) (s j : Fin 512) : EReal := if s.val ≤ j.val then Ideal.exp (score k q s j) else 0

theorem mask_weight (j : Fin 512) : k0_pay82 i k q (ix2 s j) = weight k q s j := mask_apply k q i s j

theorem maskV_apply : maskV i acc k q d (ix2 s m) = acc (ix2 s m) + ∑ j : Fin 512, weight k q s j * d (ix2 j m) := by
  pointwise [k0_pay84, k0_pay81, mask_weight]

theorem maskK_apply : maskK i acc k v q d (ix2 s m)
    = acc (ix2 s m) + ∑ j : Fin 512, weight k q s j * score v d s j * q (ix2 j m) := by
  pointwise [k0_pay85, k0_pay83, k0_pay81, k0_pay79, k0_pay80, mask_weight, score]

theorem maskQ_apply : maskQ i k v q d acc (ix2 s m)
    = acc (ix2 s m) + ∑ j : Fin 512, weight k q j s * score v d j s * k (ix2 j m) := by
  pointwise [k0_pay86, k0_pay83, k0_pay81, k0_pay79, k0_pay78, mask_weight, score]

/-! ## Where the tiles lie -/

/-- Row `j` of the `b`-th block of rows, -/
def row (b : Fin 8) (j : Fin 512) : Fin 4096 := ⟨512 * b.val + j.val, by omega⟩
/-- and column `m` of head `h`. -/
def lane (h : Fin 4) (m : Fin 128) : Fin 512 := ⟨128 * h.val + m.val, by omega⟩

theorem lane_surj (x : Fin 512) : ∃ h m, x = lane h m := ⟨⟨x.val / 128, by omega⟩, ⟨x.val % 128, by omega⟩, Fin.ext (by simp only [lane]; omega)⟩
theorem row_surj (x : Fin 4096) : ∃ b j, x = row b j := ⟨⟨x.val / 512, by omega⟩, ⟨x.val % 512, by omega⟩, Fin.ext (by simp only [row]; omega)⟩

/-- The block of keys, counted along the grid. -/
abbrev kb (i : grid0.Coords) : Fin 8 := i 1

theorem off_1 : ∀ i : grid0.Coords, k0_off1 i = ![512 * (kb i).val, 128 * 0] := by decide +kernel
theorem off_2 : ∀ i : grid0.Coords, k0_off2 i = ![512 * (kb i).val, 128 * 1] := by decide +kernel
theorem off_3 : ∀ i : grid0.Coords, k0_off3 i = ![512 * (kb i).val, 128 * 2] := by decide +kernel
theorem off_4 : ∀ i : grid0.Coords, k0_off4 i = ![512 * (kb i).val, 128 * 3] := by decide +kernel
theorem off_5 : ∀ (i : grid0.Coords) (k : Fin (k0_t1_loop i).trips), k0_off5 i k = ![512 * ((kb i).val + 1 + k.val), 128 * 0] := by decide +kernel
theorem off_6 : ∀ (i : grid0.Coords) (k : Fin (k0_t1_loop i).trips), k0_off6 i k = ![512 * ((kb i).val + 1 + k.val), 128 * 1] := by decide +kernel
theorem off_7 : ∀ (i : grid0.Coords) (k : Fin (k0_t1_loop i).trips), k0_off7 i k = ![512 * ((kb i).val + 1 + k.val), 128 * 2] := by decide +kernel
theorem off_8 : ∀ (i : grid0.Coords) (k : Fin (k0_t1_loop i).trips), k0_off8 i k = ![512 * ((kb i).val + 1 + k.val), 128 * 3] := by decide +kernel
theorem trips_eq : ∀ i : grid0.Coords, (k0_t1_loop i).trips = 7 - (kb i).val := by decide +kernel

section
variable {φ : EltTy}

/-- A tile of a tall block, entry by entry, -/
theorem tall_read (a : Memref sig .tc .vmem S4096x512 φ) (f : Held Ideal a) (o : Fin 2 → ℕ) (ho) (b : Fin 8) (h : Fin 4)
    (e : o = ![512 * b.val, 128 * h.val]) (j : Fin 512) (m : Fin 128) :
    tall a f o ho (ix2 j m) = a.view.read (Elt Ideal) f (ix2 (row b j) (lane h m)) := by
  subst e
  refine congrArg (a.view.read (Elt Ideal) f) (funext fun x => Fin.ext ?_)
  match x with
  | ⟨0, _⟩ => show 512 * b.val + 1 * j.val = 512 * b.val + j.val; omega
  | ⟨1, _⟩ => show 128 * h.val + 1 * m.val = 128 * h.val + m.val; omega

/-- and of a flat one. -/
theorem flat_read (a : Memref sig .tc .vmem S512x512 φ) (f : Held Ideal a) (o : Fin 2 → ℕ) (ho) (h : Fin 4)
    (e : o = ![0, 128 * h.val]) (j : Fin 512) (m : Fin 128) :
    flat a f o ho (ix2 j m) = a.view.read (Elt Ideal) f (ix2 j (lane h m)) := by
  subst e
  refine congrArg (a.view.read (Elt Ideal) f) (funext fun x => Fin.ext ?_)
  match x with
  | ⟨0, _⟩ => show 0 + 1 * j.val = j.val; omega
  | ⟨1, _⟩ => show 128 * h.val + 1 * m.val = 128 * h.val + m.val; omega

/-- A piece at one head's columns of one block of rows, read inside -/
theorem piece_hit (a : Memref sig .tc .vmem S4096x512 φ) (f : Held Ideal a) (o : Fin 2 → ℕ) (ho) (w : Vec Ideal S512x128 φ) (L) (b : Fin 8) (h : Fin 4)
    (e : o = ![512 * b.val, 128 * h.val]) (j : Fin 512) (m : Fin 128) :
    a.view.read (Elt Ideal) (a.view.writes (Elt Ideal) f (⟨Rect.unit (s := S4096x512) o S512x128.size ho, w⟩ :: L)) (ix2 (row b j) (lane h m)) = w (ix2 j m) := by
  subst e
  refine View.read_writes_cons_hit_of_coords _ _ (Rect.unit (s := S4096x512) _ S512x128.size ho) w L (ix2 j m) _ fun x => ?_
  match x with
  | ⟨0, _⟩ => show 512 * b.val + j.val = 512 * b.val + 1 * j.val; omega
  | ⟨1, _⟩ => show 128 * h.val + m.val = 128 * h.val + 1 * m.val; omega

/-- and outside: at another head, -/
theorem piece_head (a : Memref sig .tc .vmem S4096x512 φ) (f : Held Ideal a) (o : Fin 2 → ℕ) (ho) (w : Vec Ideal S512x128 φ) (L) (n : ℕ) (h h' : Fin 4)
    (e : o = ![n, 128 * h.val]) (ne : h' ≠ h) (q : Fin 4096) (m : Fin 128) :
    a.view.read (Elt Ideal) (a.view.writes (Elt Ideal) f (⟨Rect.unit (s := S4096x512) o S512x128.size ho, w⟩ :: L)) (ix2 q (lane h' m))
      = a.view.read (Elt Ideal) (a.view.writes (Elt Ideal) f L) (ix2 q (lane h' m)) := by
  subst e
  refine View.read_writes_cons_miss_of_axis _ _ _ _ _ (1 : Fin 2) (128 * h.val) 128 rfl rfl rfl ?_
  have : h'.val ≠ h.val := fun e => ne (Fin.ext e)
  show 128 * h'.val + m.val < _ ∨ _ ≤ 128 * h'.val + m.val
  omega

/-- or at another block of rows. -/
theorem piece_block (a : Memref sig .tc .vmem S4096x512 φ) (f : Held Ideal a) (o : Fin 2 → ℕ) (ho) (w : Vec Ideal S512x128 φ) (L) (b b' : Fin 8) (n : ℕ)
    (e : o = ![512 * b.val, n]) (ne : b' ≠ b) (j : Fin 512) (y : Fin 512) :
    a.view.read (Elt Ideal) (a.view.writes (Elt Ideal) f (⟨Rect.unit (s := S4096x512) o S512x128.size ho, w⟩ :: L)) (ix2 (row b' j) y)
      = a.view.read (Elt Ideal) (a.view.writes (Elt Ideal) f L) (ix2 (row b' j) y) := by
  subst e
  refine View.read_writes_cons_miss_of_axis _ _ _ _ _ (0 : Fin 2) (512 * b.val) 512 rfl rfl rfl ?_
  have : b'.val ≠ b.val := fun e => ne (Fin.ext e)
  show 512 * b'.val + j.val < _ ∨ _ ≤ 512 * b'.val + j.val
  omega

end

end Cert.AttnIdeal.Own

end
-- ==== Proof.AttnFrame.lean ====
/- The run of the attention's gradient, from the run of one grid point: what the three results hold after each
   point (the gradient of the queries is carried from point to point through a group of heads), that a point's run
   leaves exactly this, and the run of the whole program. -/
module

public import proofs.«01_k».proof.Proof.AttnRun
public import Idealize.ShloMosaic.Lib.Claim

@[expose] public section

set_option maxRecDepth 16384

noncomputable section

namespace Cert.AttnIdeal.Own

open Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid0.Coords) (a2 : Memref sig .tc .vmem S4096x512 .bf16) (h2 : a2.IsWhole)
  (a3 : Memref sig .tc .vmem S512x512 .bf16) (h3 : a3.IsWhole) (a4 : Memref sig .tc .vmem S512x512 .bf16) (h4 : a4.IsWhole)
  (a5 : Memref sig .tc .vmem S4096x512 .bf16) (h5 : a5.IsWhole) (a6 : Memref sig .tc .vmem S4096x512 .f32) (h6 : a6.IsWhole)
  (a7 : Memref sig .tc .vmem S512x512 .bf16) (h7 : a7.IsWhole) (a8 : Memref sig .tc .vmem S512x512 .bf16) (h8 : a8.IsWhole)
  (x0 : Vec F S4096x512 .bf16) (x1 : Vec F S512x512 .bf16) (x2 : Vec F S512x512 .bf16) (x3 : Vec F S4096x512 .bf16)

/-- The first point clears the gradient of the queries: what it held before is not in what it holds after. -/
theorem opening_q (hc : first i) (f f' : Held F a6) :
    (opening c i a2 h2 a3 h3 a4 h4 a5 h5 a6 h6 a7 h7 a8 h8 x0 x1 x2 x3 hc).1 f
      = (opening c i a2 h2 a3 h3 a4 h4 a5 h5 a6 h6 a7 h7 a8 h8 x0 x1 x2 x3 hc).1 f' := rfl

theorem opening_k (hc : first i) (f f' : Held F a6) (g g' : Held F a7) :
    a7.view.read (Elt F) ((opening c i a2 h2 a3 h3 a4 h4 a5 h5 a6 h6 a7 h7 a8 h8 x0 x1 x2 x3 hc).2.1 f g)
      = a7.view.read (Elt F) ((opening c i a2 h2 a3 h3 a4 h4 a5 h5 a6 h6 a7 h7 a8 h8 x0 x1 x2 x3 hc).2.1 f' g') := by
  dsimp only [opening]
  refine View.read_writes_of_cover _ _ _ _ _ ?_
  sl_unfold_run_names
  exact View.cover_of_tiled _ ![512, 128] (by sl_kernel_rfl)

theorem opening_v (hc : first i) (f f' : Held F a6) (g g' : Held F a8) :
    a8.view.read (Elt F) ((opening c i a2 h2 a3 h3 a4 h4 a5 h5 a6 h6 a7 h7 a8 h8 x0 x1 x2 x3 hc).2.2.1 f g)
      = a8.view.read (Elt F) ((opening c i a2 h2 a3 h3 a4 h4 a5 h5 a6 h6 a7 h7 a8 h8 x0 x1 x2 x3 hc).2.2.1 f' g') := by
  dsimp only [opening]
  refine View.read_writes_of_cover _ _ _ _ _ ?_
  sl_unfold_run_names
  exact View.cover_of_tiled _ ![512, 128] (by sl_kernel_rfl)

/-- The gradients of the keys and of the values are stored whole at every point. -/
theorem later_k (hc : ¬ first i) (f : Held F a6) (g g' : Held F a7) :
    a7.view.read (Elt F) ((later c i a2 h2 a3 h3 a4 h4 a5 h5 a6 h6 a7 h7 a8 h8 x0 x1 x2 x3 hc).2.1 f g)
      = a7.view.read (Elt F) ((later c i a2 h2 a3 h3 a4 h4 a5 h5 a6 h6 a7 h7 a8 h8 x0 x1 x2 x3 hc).2.1 f g') := by
  dsimp only [later]
  refine View.read_writes_of_cover _ _ _ _ _ ?_
  sl_unfold_run_names
  exact View.cover_of_tiled _ ![512, 128] (by sl_kernel_rfl)

theorem later_v (hc : ¬ first i) (f : Held F a6) (g g' : Held F a8) :
    a8.view.read (Elt F) ((later c i a2 h2 a3 h3 a4 h4 a5 h5 a6 h6 a7 h7 a8 h8 x0 x1 x2 x3 hc).2.2.1 f g)
      = a8.view.read (Elt F) ((later c i a2 h2 a3 h3 a4 h4 a5 h5 a6 h6 a7 h7 a8 h8 x0 x1 x2 x3 hc).2.2.1 f g') := by
  dsimp only [later]
  refine View.read_writes_of_cover _ _ _ _ _ ?_
  sl_unfold_run_names
  exact View.cover_of_tiled _ ![512, 128] (by sl_kernel_rfl)

/-- What a point leaves in the three results, of what the gradient of the queries held before. -/
def leavesQ (p : Vec F S4096x512 .f32) : Vec F S4096x512 .f32 := a6.view.read (Elt F)
  (if hc : first i then (opening c i a2 h2 a3 h3 a4 h4 a5 h5 a6 h6 a7 h7 a8 h8 x0 x1 x2 x3 hc).1 (h6.unread p)
   else (later c i a2 h2 a3 h3 a4 h4 a5 h5 a6 h6 a7 h7 a8 h8 x0 x1 x2 x3 hc).1 (h6.unread p))
def leavesK (p : Vec F S4096x512 .f32) : Vec F S512x512 .bf16 := a7.view.read (Elt F)
  (if hc : first i then (opening c i a2 h2 a3 h3 a4 h4 a5 h5 a6 h6 a7 h7 a8 h8 x0 x1 x2 x3 hc).2.1 (h6.unread p) a7.view.junk
   else (later c i a2 h2 a3 h3 a4 h4 a5 h5 a6 h6 a7 h7 a8 h8 x0 x1 x2 x3 hc).2.1 (h6.unread p) a7.view.junk)
def leavesV (p : Vec F S4096x512 .f32) : Vec F S512x512 .bf16 := a8.view.read (Elt F)
  (if hc : first i then (opening c i a2 h2 a3 h3 a4 h4 a5 h5 a6 h6 a7 h7 a8 h8 x0 x1 x2 x3 hc).2.2.1 (h6.unread p) a8.view.junk
   else (later c i a2 h2 a3 h3 a4 h4 a5 h5 a6 h6 a7 h7 a8 h8 x0 x1 x2 x3 hc).2.2.1 (h6.unread p) a8.view.junk)

/-- ONE POINT: from the operands' blocks and the gradient of the queries so far (at the first point: anything), the body
    leaves the results at `leavesQ`, `leavesK`, `leavesV`. -/
theorem point (p q : Vec F S4096x512 .f32) (hp : ¬ first i → q = p) (E : Set ℕ) (K : PUnit → sProp 𝕄) :
    iprop(Operands c a2 a3 a4 a5 x0 x1 x2 x3 ∗ owns (c : Thread nD τ) a6 fullShare q
        ∗ (∃ d, owns (c : Thread nD τ) a7 fullShare d) ∗ (∃ d, owns (c : Thread nD τ) a8 fullShare d)
        ∗ (iprop(Operands c a2 a3 a4 a5 x0 x1 x2 x3
            ∗ owns (c : Thread nD τ) a6 fullShare (leavesQ c i a2 h2 a3 h3 a4 h4 a5 h5 a6 h6 a7 h7 a8 h8 x0 x1 x2 x3 p)
            ∗ owns (c : Thread nD τ) a7 fullShare (leavesK c i a2 h2 a3 h3 a4 h4 a5 h5 a6 h6 a7 h7 a8 h8 x0 x1 x2 x3 p)
            ∗ owns (c : Thread nD τ) a8 fullShare (leavesV c i a2 h2 a3 h3 a4 h4 a5 h5 a6 h6 a7 h7 a8 h8 x0 x1 x2 x3 p)) -∗ K ⟨⟩))
      ⊢ wp frame (wpE (defs₀ (F := F)) Variants.none c none) E (cc0_attn_bwd i a2 h2 a3 h3 a4 h4 a5 h5 a6 h6 a7 h7 a8 h8) K := by
  by_cases hc : first i
  · iintro ⟨HO, H6, ⟨%d7, H7⟩, ⟨%d8, H8⟩, Hk⟩
    unfold owns
    icases H6 with ⟨%f6, %e6, H6⟩
    icases H7 with ⟨%f7, %e7, H7⟩
    icases H8 with ⟨%f8, %e8, H8⟩
    iapply ((opening c i a2 h2 a3 h3 a4 h4 a5 h5 a6 h6 a7 h7 a8 h8 x0 x1 x2 x3 hc).2.2.2 f6 f7 f8 E K)
    isplitl [HO]; · iexact HO
    isplitl [H6 H7 H8]
    · isplitl [H6]; · iexact H6
      isplitl [H7]; · iexact H7
      iexact H8
    iintro ⟨HO, H6, H7, H8⟩
    iapply Hk
    isplitl [HO]; · iexact HO
    isplitl [H6]
    · iexists _; isplitr; swap; · iexact H6
      ipureintro; unfold leavesQ; rw [dif_pos hc]; rfl
    isplitl [H7]
    · iexists _; isplitr; swap; · iexact H7
      ipureintro; unfold leavesK; rw [dif_pos hc]; exact opening_k c i a2 h2 a3 h3 a4 h4 a5 h5 a6 h6 a7 h7 a8 h8 x0 x1 x2 x3 hc _ _ _ _
    iexists _; isplitr; swap; · iexact H8
    ipureintro; unfold leavesV; rw [dif_pos hc]; exact opening_v c i a2 h2 a3 h3 a4 h4 a5 h5 a6 h6 a7 h7 a8 h8 x0 x1 x2 x3 hc _ _ _ _
  · obtain rfl := hp hc
    iintro ⟨HO, H6, ⟨%d7, H7⟩, ⟨%d8, H8⟩, Hk⟩
    unfold owns
    icases H6 with ⟨%f6, %e6, H6⟩
    icases H7 with ⟨%f7, %e7, H7⟩
    icases H8 with ⟨%f8, %e8, H8⟩
    obtain rfl := h6.eq_unread e6
    iapply ((later c i a2 h2 a3 h3 a4 h4 a5 h5 a6 h6 a7 h7 a8 h8 x0 x1 x2 x3 hc).2.2.2 _ f7 f8 E K)
    isplitl [HO]; · iexact HO
    isplitl [H6 H7 H8]
    · isplitl [H6]; · iexact H6
      isplitl [H7]; · iexact H7
      iexact H8
    iintro ⟨HO, H6, H7, H8⟩
    iapply Hk
    isplitl [HO]; · iexact HO
    isplitl [H6]
    · iexists _; isplitr; swap; · iexact H6
      ipureintro; unfold leavesQ; rw [dif_neg hc]
    isplitl [H7]
    · iexists _; isplitr; swap; · iexact H7
      ipureintro; unfold leavesK; rw [dif_neg hc]; exact later_k c i a2 h2 a3 h3 a4 h4 a5 h5 a6 h6 a7 h7 a8 h8 x0 x1 x2 x3 hc _ _ _
    iexists _; isplitr; swap; · iexact H8
    ipureintro; unfold leavesV; rw [dif_neg hc]; exact later_v c i a2 h2 a3 h3 a4 h4 a5 h5 a6 h6 a7 h7 a8 h8 x0 x1 x2 x3 hc _ _ _

end

variable (m : (ℓ : Loc nD τ sig) → Buf (Elt F) ℓ) (ρ : Dev nD → PrngReg)

/-- What point `t` leaves in the gradient of the queries, of what it held before. -/
def stepQ (c : Dev nD) (t : Fin cfg0.N) (p : Vec F S4096x512 .f32) : Vec F S4096x512 .f32 :=
  leavesQ c (grid0.coords t) (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (win0_3.stage (cfg0.slots t 3)) (hstage0_3 ((cfg0.slots t 3).cast nbuf0_3))
    (win0_4.stage (cfg0.slots t 4)) (hstage0_4 ((cfg0.slots t 4).cast nbuf0_4)) (win0_5.stage (cfg0.slots t 5)) (hstage0_5 ((cfg0.slots t 5).cast nbuf0_5))
    (win0_6.stage (cfg0.slots t 6)) (hstage0_6 ((cfg0.slots t 6).cast nbuf0_6)) (iblk m c 0 t) (iblk m c 1 t) (iblk m c 2 t) (iblk m c 3 t) p
/-- What it leaves in the gradient of the keys, -/
def stepK (c : Dev nD) (t : Fin cfg0.N) (p : Vec F S4096x512 .f32) : Vec F S512x512 .bf16 :=
  leavesK c (grid0.coords t) (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (win0_3.stage (cfg0.slots t 3)) (hstage0_3 ((cfg0.slots t 3).cast nbuf0_3))
    (win0_4.stage (cfg0.slots t 4)) (hstage0_4 ((cfg0.slots t 4).cast nbuf0_4)) (win0_5.stage (cfg0.slots t 5)) (hstage0_5 ((cfg0.slots t 5).cast nbuf0_5))
    (win0_6.stage (cfg0.slots t 6)) (hstage0_6 ((cfg0.slots t 6).cast nbuf0_6)) (iblk m c 0 t) (iblk m c 1 t) (iblk m c 2 t) (iblk m c 3 t) p
/-- and of the values. -/
def stepV (c : Dev nD) (t : Fin cfg0.N) (p : Vec F S4096x512 .f32) : Vec F S512x512 .bf16 :=
  leavesV c (grid0.coords t) (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (win0_3.stage (cfg0.slots t 3)) (hstage0_3 ((cfg0.slots t 3).cast nbuf0_3))
    (win0_4.stage (cfg0.slots t 4)) (hstage0_4 ((cfg0.slots t 4).cast nbuf0_4)) (win0_5.stage (cfg0.slots t 5)) (hstage0_5 ((cfg0.slots t 5).cast nbuf0_5))
    (win0_6.stage (cfg0.slots t 6)) (hstage0_6 ((cfg0.slots t 6).cast nbuf0_6)) (iblk m c 0 t) (iblk m c 1 t) (iblk m c 2 t) (iblk m c 3 t) p

/-- What the gradient of the queries holds BEFORE point `n`, as the points before it left it (before a group's first point,
    what it holds does not matter). -/
def heldQ (c : Dev nD) : ℕ → Vec F S4096x512 .f32
  | 0 => (win0_4.stage 0).view.read (Elt F) (win0_4.stage 0).view.junk
  | n + 1 => if h : n < cfg0.N then stepQ m c ⟨n, h⟩ (heldQ c n) else heldQ c n

/-- The proof data: what each window's staging memref holds after the body has run at point `t`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => stepQ m c t (heldQ m c t.val)
    | ⟨5, _⟩ => stepK m c t (heldQ m c t.val)
    | ⟨6, _⟩ => stepV m c t (heldQ m c t.val)
  Φ _ := Pipeline.ΦA spec0 c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = stepQ m c t (heldQ m c t.val) := by dsimp only [dats]
theorem after_5 (c : Dev nD) (t : Fin cfg0.N) : (dats m 0 c).after 5 t = stepK m c t (heldQ m c t.val) := by dsimp only [dats]
theorem after_6 (c : Dev nD) (t : Fin cfg0.N) : (dats m 0 c).after 6 t = stepV m c t (heldQ m c t.val) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- At a point that is not the first of its group, the gradient of the queries holds what the point before left. -/
theorem before_4 (c : Dev nD) (t : Fin cfg0.N) (h : ¬ first (grid0.coords t)) (d) : (dats m 0 c).before 4 t d = heldQ m c t.val := by
  have h8 : ¬ t.val % 8 = 0 := fun e => h ((first_iff t).mpr e)
  have hN : t.val < 16 := lt_of_lt_of_eq t.isLt (show cfg0.N = 16 from N_0)
  have h0 : t.val ≠ 0 := fun e => h8 (by rw [e])
  rw [Pipeline.Dat.before_out_kept (dats m 0 c) 4 rfl t h0 ?_ (fun _ => rfl) (fun _ _ => rfl), after_4]
  · obtain ⟨n, e⟩ := Nat.exists_eq_succ_of_ne_zero h0
    have e' : t.val - 1 = n := by omega
    conv_rhs => rw [e]
    rw [show heldQ m c n.succ = if h : n < cfg0.N then stepQ m c ⟨n, h⟩ (heldQ m c n) else heldQ m c n from rfl]
    rw [dif_pos (lt_of_lt_of_eq (by omega) (show cfg0.N = 16 from N_0).symm)]
    simp only [e']
    try rfl
  · rw [Bool.eq_false_iff]; intro hf
    have := (flush0_4 _).mp hf
    simp only at this
    omega

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))
/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (point c (grid0.coords t) _ _ _ _ _ _ _ _ _ _ _ _ _ _ (iblk m c 0 t) (iblk m c 1 t) (iblk m c 2 t) (iblk m c 3 t)
    (heldQ m c t.val) ((dats m 0 c).before 4 t d4) (fun h => before_4 m c t h d4) Set.univ _)
  isplitl [H0 H1 H2 H3]
  · isplitl [H0]; · iexact H0
    isplitl [H1]; · iexact H1
    isplitl [H2]; · iexact H2
    iexact H3
  isplitl [H4]; · iexact H4
  isplitl [H5]; · iexists _; iexact H5
  isplitl [H6]; · iexists _; iexact H6
  iintro ⟨⟨H0, H1, H2, H3⟩, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body there. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- THE RUN of the whole program: every array at what the proof data says, the results behind the region at what the host
    lines compute from them, no counter left up. -/
theorem run_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiescent m ρ)

/-- The frame: the arguments end as they were, and no counter is left up. -/
theorem frame_attn : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run m ρ)) ((θ_run defs _ _).mono (fun _ h => h.2) (run_quiescent m ρ))

end Cert.AttnIdeal.Own

end
-- ==== Proof.AttnValue.lean ====
/- What one grid point adds to the attention's three gradients, as sums over all queries (for the keys and values) and over
   the block's keys (for the queries), with the weights that the causal mask leaves. -/
module

public import proofs.«01_k».proof.Proof.AttnHeads
public import proofs.«01_k».proof.Proof.AttnFrame

@[expose] public section

set_option maxRecDepth 16384

noncomputable section

namespace Cert.AttnIdeal.Own

open Cert.AttnIdeal.Gen
open Idealize.ShloMosaic Idealize.ShloMosaic.TcCoe Idealize.ShloMosaic.Tactic

section
variable (n : Fin 8) (x0 : Vec Ideal S4096x512 .bf16) (x1 : Vec Ideal S512x512 .bf16) (x2 : Vec Ideal S512x512 .bf16) (x3 : Vec Ideal S4096x512 .bf16)
  (h : Fin 4) (s : Fin 512) (q : Fin 4096) (m : Fin 128) (b : Fin 8)

/-- The weight of the block's key `s` in query `q`: `n` is the block. -/
def P : EReal := if 512 * n.val + s.val ≤ q.val then Ideal.exp (∑ a : Fin 128, x1 (ix2 s (lane h a)) * x0 (ix2 q (lane h a))) else 0
/-- The product of the value's row and the cotangent's. -/
def D : EReal := ∑ a : Fin 128, x2 (ix2 s (lane h a)) * x3 (ix2 q (lane h a))
/-- What a block of queries adds to the gradient of the keys, -/
def kPart : EReal := ∑ j : Fin 512, P n x0 x1 h s (row b j) * D x2 x3 h s (row b j) * x0 (ix2 (row b j) (lane h m))
/-- of the values, -/
def vPart : EReal := ∑ j : Fin 512, P n x0 x1 h s (row b j) * x3 (ix2 (row b j) (lane h m))
/-- and what the block of keys adds to the gradient of the queries. -/
def qPart : EReal := ∑ s : Fin 512, P n x0 x1 h s q * D x2 x3 h s q * x1 (ix2 s (lane h m))

theorem P_low (hb : b.val < n.val) (j : Fin 512) : P n x0 x1 h s (row b j) = 0 := if_neg (by simp only [row]; omega)
theorem kPart_low (hb : b.val < n.val) : kPart n x0 x1 x2 x3 h s m b = 0 :=
  Finset.sum_eq_zero fun j _ => by rw [P_low n x0 x1 h s b hb, zero_mul, zero_mul]
theorem vPart_low (hb : b.val < n.val) : vPart n x0 x1 x3 h s m b = 0 :=
  Finset.sum_eq_zero fun j _ => by rw [P_low n x0 x1 h s b hb, zero_mul]
theorem qPart_low (hb : b.val < n.val) (j : Fin 512) : qPart n x0 x1 x2 x3 h (row b j) m = 0 :=
  Finset.sum_eq_zero fun s _ => by rw [P_low n x0 x1 h s b hb, zero_mul, zero_mul]

/-- A head's columns of a flat block, -/
def KT (x : Vec Ideal S512x512 .bf16) (h : Fin 4) : Vec Ideal S512x128 .bf16 := fun y => x (ix2 (y 0) (lane h (y 1)))
/-- and of a block of rows of a tall one. -/
def QT {φ} (x : Vec Ideal S4096x512 φ) (b : Fin 8) (h : Fin 4) : Vec Ideal S512x128 φ := fun y => x (ix2 (row b (y 0)) (lane h (y 1)))

theorem flat_eq (a : Memref sig .tc .vmem S512x512 .bf16) (ha : a.IsWhole) (x : Vec Ideal S512x512 .bf16) (o ho)
    (e : o = ![0, 128 * h.val]) : flat a (ha.unread x) o ho = KT x h := by
  funext y
  idx_vars y
  rw [flat_read a _ o ho h e, ha.read_unread]; rfl
theorem tall_eq (a : Memref sig .tc .vmem S4096x512 .bf16) (ha : a.IsWhole) (x : Vec Ideal S4096x512 .bf16) (o ho)
    (e : o = ![512 * b.val, 128 * h.val]) : tall a (ha.unread x) o ho = QT x b h := by
  funext y
  idx_vars y
  rw [tall_read a _ o ho b h e, ha.read_unread]; rfl
theorem tall_eq' (a : Memref sig .tc .vmem S4096x512 .f32) (f : Held Ideal a) (o ho)
    (e : o = ![512 * b.val, 128 * h.val]) : tall a f o ho = QT (a.view.read (Elt Ideal) f) b h := by
  funext y
  idx_vars y
  rw [tall_read a _ o ho b h e]; rfl

theorem weight_eq (j : Fin 512) : weight (KT x1 h) (QT x0 n h) s j = P n x0 x1 h s (row n j) := by
  unfold weight P
  by_cases hs : s.val ≤ j.val
  · rw [if_pos hs, if_pos (by simp only [row]; omega)]; rfl
  · rw [if_neg hs, if_neg (by simp only [row]; omega)]
theorem exp_eq (hb : n.val < b.val) (j : Fin 512) : Ideal.exp (score (KT x1 h) (QT x0 b h) s j) = P n x0 x1 h s (row b j) := by
  unfold P
  rw [if_pos (by simp only [row]; omega)]; rfl

variable (i : grid0.Coords) (acc : FVec Ideal S512x128 .f32)

theorem maskV_eq : maskV i acc (KT x1 h) (QT x0 n h) (QT x3 n h) (ix2 s m) = acc (ix2 s m) + vPart n x0 x1 x3 h s m n := by
  rw [maskV_apply]; simp only [weight_eq]; rfl
theorem maskK_eq : maskK i acc (KT x1 h) (KT x2 h) (QT x0 n h) (QT x3 n h) (ix2 s m) = acc (ix2 s m) + kPart n x0 x1 x2 x3 h s m n := by
  rw [maskK_apply]; simp only [weight_eq]; rfl
theorem maskQ_eq : maskQ i (KT x1 h) (KT x2 h) (QT x0 n h) (QT x3 n h) acc (ix2 s m) = acc (ix2 s m) + qPart n x0 x1 x2 x3 h (row n s) m := by
  rw [maskQ_apply]; simp only [weight_eq]; rfl
theorem addV_eq (hb : n.val < b.val) : k0_pay23 acc (KT x1 h) (QT x0 b h) (QT x3 b h) (ix2 s m) = acc (ix2 s m) + vPart n x0 x1 x3 h s m b := by
  rw [addV_apply]; simp only [exp_eq n x0 x1 h _ b hb]; rfl
theorem addK_eq (hb : n.val < b.val) : k0_pay24 acc (KT x1 h) (KT x2 h) (QT x0 b h) (QT x3 b h) (ix2 s m)
    = acc (ix2 s m) + kPart n x0 x1 x2 x3 h s m b := by
  rw [addK_apply]; simp only [exp_eq n x0 x1 h _ b hb]; rfl
theorem addQ_eq (hb : n.val < b.val) : k0_pay25 (KT x1 h) (KT x2 h) (QT x0 b h) (QT x3 b h) acc (ix2 s m)
    = acc (ix2 s m) + qPart n x0 x1 x2 x3 h (row b s) m := by
  rw [addQ_apply]; simp only [exp_eq n x0 x1 h _ b hb]; rfl

end

section
variable (i : grid0.Coords) (a2 : Memref sig .tc .vmem S4096x512 .bf16) (h2 : a2.IsWhole)
  (a3 : Memref sig .tc .vmem S512x512 .bf16) (h3 : a3.IsWhole) (a4 : Memref sig .tc .vmem S512x512 .bf16) (h4 : a4.IsWhole)
  (a5 : Memref sig .tc .vmem S4096x512 .bf16) (h5 : a5.IsWhole) (a6 : Memref sig .tc .vmem S4096x512 .f32) (h6 : a6.IsWhole)
  (a7 : Memref sig .tc .vmem S512x512 .bf16) (h7 : a7.IsWhole) (a8 : Memref sig .tc .vmem S512x512 .bf16) (h8 : a8.IsWhole)
  (x0 : Vec Ideal S4096x512 .bf16) (x1 : Vec Ideal S512x512 .bf16) (x2 : Vec Ideal S512x512 .bf16) (x3 : Vec Ideal S4096x512 .bf16)

/-- A head's gradient of the keys among the carried blocks, -/
def kOf (p : Eight Ideal) : Fin 4 → FVec Ideal S512x128 .f32
  | 0 => p.1 | 1 => p.2.2.1 | 2 => p.2.2.2.2.1 | 3 => p.2.2.2.2.2.2.1
/-- and that of the values. -/
def vOf (p : Eight Ideal) : Fin 4 → FVec Ideal S512x128 .f32
  | 0 => p.2.1 | 1 => p.2.2.2.1 | 2 => p.2.2.2.2.2.1 | 3 => p.2.2.2.2.2.2.2

/-- One step's carried blocks, head by head. -/
theorem eight_k (b : Fin 8) (o0 o1 o2 o3 : Fin 2 → ℕ) (ho0 ho1 ho2 ho3)
    (e0 : o0 = ![512 * b.val, 128 * 0]) (e1 : o1 = ![512 * b.val, 128 * 1]) (e2 : o2 = ![512 * b.val, 128 * 2]) (e3 : o3 = ![512 * b.val, 128 * 3])
    (wk wv) (p : Eight Ideal) (h : Fin 4) :
    kOf (eight a2 h2 a3 h3 a4 h4 a5 h5 x0 x1 x2 x3 o0 o1 o2 o3 ho0 ho1 ho2 ho3 wk wv p) h = wk (kOf p h) (KT x1 h) (KT x2 h) (QT x0 b h) (QT x3 b h) := by
  match h with
  | 0 => show wk _ _ _ _ _ = _; rw [flat_eq 0 a3 h3 x1 ![0, 0] _ rfl, flat_eq 0 a4 h4 x2 ![0, 0] _ rfl, tall_eq 0 b a2 h2 x0 _ _ e0, tall_eq 0 b a5 h5 x3 _ _ e0]; rfl
  | 1 => show wk _ _ _ _ _ = _; rw [flat_eq 1 a3 h3 x1 ![0, 128] _ rfl, flat_eq 1 a4 h4 x2 ![0, 128] _ rfl, tall_eq 1 b a2 h2 x0 _ _ e1, tall_eq 1 b a5 h5 x3 _ _ e1]; rfl
  | 2 => show wk _ _ _ _ _ = _; rw [flat_eq 2 a3 h3 x1 ![0, 256] _ rfl, flat_eq 2 a4 h4 x2 ![0, 256] _ rfl, tall_eq 2 b a2 h2 x0 _ _ e2, tall_eq 2 b a5 h5 x3 _ _ e2]; rfl
  | 3 => show wk _ _ _ _ _ = _; rw [flat_eq 3 a3 h3 x1 ![0, 384] _ rfl, flat_eq 3 a4 h4 x2 ![0, 384] _ rfl, tall_eq 3 b a2 h2 x0 _ _ e3, tall_eq 3 b a5 h5 x3 _ _ e3]; rfl

theorem eight_v (b : Fin 8) (o0 o1 o2 o3 : Fin 2 → ℕ) (ho0 ho1 ho2 ho3)
    (e0 : o0 = ![512 * b.val, 128 * 0]) (e1 : o1 = ![512 * b.val, 128 * 1]) (e2 : o2 = ![512 * b.val, 128 * 2]) (e3 : o3 = ![512 * b.val, 128 * 3])
    (wk wv) (p : Eight Ideal) (h : Fin 4) :
    vOf (eight a2 h2 a3 h3 a4 h4 a5 h5 x0 x1 x2 x3 o0 o1 o2 o3 ho0 ho1 ho2 ho3 wk wv p) h = wv (vOf p h) (KT x1 h) (QT x0 b h) (QT x3 b h) := by
  match h with
  | 0 => show wv _ _ _ _ = _; rw [flat_eq 0 a3 h3 x1 ![0, 0] _ rfl, tall_eq 0 b a2 h2 x0 _ _ e0, tall_eq 0 b a5 h5 x3 _ _ e0]; rfl
  | 1 => show wv _ _ _ _ = _; rw [flat_eq 1 a3 h3 x1 ![0, 128] _ rfl, tall_eq 1 b a2 h2 x0 _ _ e1, tall_eq 1 b a5 h5 x3 _ _ e1]; rfl
  | 2 => show wv _ _ _ _ = _; rw [flat_eq 2 a3 h3 x1 ![0, 256] _ rfl, tall_eq 2 b a2 h2 x0 _ _ e2, tall_eq 2 b a5 h5 x3 _ _ e2]; rfl
  | 3 => show wv _ _ _ _ = _; rw [flat_eq 3 a3 h3 x1 ![0, 384] _ rfl, tall_eq 3 b a2 h2 x0 _ _ e3, tall_eq 3 b a5 h5 x3 _ _ e3]; rfl

theorem same_four {α : Type} (g : α) (h : Fin 4) : (![g, g, g, g] : Fin 4 → α) h = g := by
  match h with
  | 0 => rfl
  | 1 => rfl
  | 2 => rfl
  | 3 => rfl

/-- What the step's pieces leave in the gradient of the queries. -/
theorem quad_read (n : Fin 8) (o0 o1 o2 o3 : Fin 2 → ℕ) (ho0 ho1 ho2 ho3)
    (e0 : o0 = ![512 * n.val, 128 * 0]) (e1 : o1 = ![512 * n.val, 128 * 1]) (e2 : o2 = ![512 * n.val, 128 * 2]) (e3 : o3 = ![512 * n.val, 128 * 3])
    (w) (g0 g1 g2 g3 : Held Ideal a6) (f : Held Ideal a6) (L) (b : Fin 8) (h : Fin 4) (j : Fin 512) (m : Fin 128) :
    a6.view.read (Elt Ideal) (a6.view.writes (Elt Ideal) f
        (quad a2 h2 a3 h3 a4 h4 a5 h5 a6 x0 x1 x2 x3 o0 o1 o2 o3 ho0 ho1 ho2 ho3 w g0 g1 g2 g3 ++ L)) (ix2 (row b j) (lane h m))
      = if b = n then w (KT x1 h) (KT x2 h) (QT x0 n h) (QT x3 n h) (QT (a6.view.read (Elt Ideal) ((![g0, g1, g2, g3] : Fin 4 → Held Ideal a6) h)) n h) (ix2 j m)
        else a6.view.read (Elt Ideal) (a6.view.writes (Elt Ideal) f L) (ix2 (row b j) (lane h m)) := by
  unfold quad
  simp only [List.cons_append, List.nil_append]
  by_cases hb : b = n
  · subst hb
    rw [if_pos rfl]
    match h with
    | 0 =>
      rw [piece_head a6 f _ _ _ _ _ 3 0 e3 (by decide), piece_head a6 f _ _ _ _ _ 2 0 e2 (by decide), piece_head a6 f _ _ _ _ _ 1 0 e1 (by decide),
        piece_hit a6 f _ _ _ _ b 0 e0, flat_eq 0 a3 h3 x1 ![0, 0] _ rfl, flat_eq 0 a4 h4 x2 ![0, 0] _ rfl, tall_eq 0 b a2 h2 x0 _ _ e0, tall_eq 0 b a5 h5 x3 _ _ e0, tall_eq' 0 b a6 _ _ _ e0]; rfl
    | 1 =>
      rw [piece_head a6 f _ _ _ _ _ 3 1 e3 (by decide), piece_head a6 f _ _ _ _ _ 2 1 e2 (by decide),
        piece_hit a6 f _ _ _ _ b 1 e1, flat_eq 1 a3 h3 x1 ![0, 128] _ rfl, flat_eq 1 a4 h4 x2 ![0, 128] _ rfl, tall_eq 1 b a2 h2 x0 _ _ e1, tall_eq 1 b a5 h5 x3 _ _ e1, tall_eq' 1 b a6 _ _ _ e1]; rfl
    | 2 =>
      rw [piece_head a6 f _ _ _ _ _ 3 2 e3 (by decide),
        piece_hit a6 f _ _ _ _ b 2 e2, flat_eq 2 a3 h3 x1 ![0, 256] _ rfl, flat_eq 2 a4 h4 x2 ![0, 256] _ rfl, tall_eq 2 b a2 h2 x0 _ _ e2, tall_eq 2 b a5 h5 x3 _ _ e2, tall_eq' 2 b a6 _ _ _ e2]; rfl
    | 3 =>
      rw [piece_hit a6 f _ _ _ _ b 3 e3, flat_eq 3 a3 h3 x1 ![0, 384] _ rfl, flat_eq 3 a4 h4 x2 ![0, 384] _ rfl, tall_eq 3 b a2 h2 x0 _ _ e3, tall_eq 3 b a5 h5 x3 _ _ e3, tall_eq' 3 b a6 _ _ _ e3]; rfl
  · rw [if_neg hb, piece_block a6 f _ _ _ _ n b _ e3 hb, piece_block a6 f _ _ _ _ n b _ e2 hb, piece_block a6 f _ _ _ _ n b _ e1 hb, piece_block a6 f _ _ _ _ n b _ e0 hb]

abbrev behindI := @behind Ideal _ i a2 h2 a3 h3 a4 h4 a5 h5 a6 x0 x1 x2 x3

theorem kOf_zeros (h : Fin 4) (y) : kOf zeros h y = 0 := by
  idx_vars y
  match h with
  | 0 => show k0_pay70 (F := Ideal) (ix2 y0 y1) = 0; pointwise [k0_pay70]
  | 1 => show k0_pay72 (F := Ideal) (ix2 y0 y1) = 0; pointwise [k0_pay72]
  | 2 => show k0_pay74 (F := Ideal) (ix2 y0 y1) = 0; pointwise [k0_pay74]
  | 3 => show k0_pay76 (F := Ideal) (ix2 y0 y1) = 0; pointwise [k0_pay76]
theorem vOf_zeros (h : Fin 4) (y) : vOf zeros h y = 0 := by
  idx_vars y
  match h with
  | 0 => show k0_pay71 (F := Ideal) (ix2 y0 y1) = 0; pointwise [k0_pay71]
  | 1 => show k0_pay73 (F := Ideal) (ix2 y0 y1) = 0; pointwise [k0_pay73]
  | 2 => show k0_pay75 (F := Ideal) (ix2 y0 y1) = 0; pointwise [k0_pay75]
  | 3 => show k0_pay77 (F := Ideal) (ix2 y0 y1) = 0; pointwise [k0_pay77]

/-- The next block of queries behind the diagonal. -/
def nxt (n : ℕ) (hn : n < (k0_t1_loop i).trips) : Fin 8 := ⟨(kb i).val + 1 + n, by rw [trips_eq] at hn; omega⟩

theorem sum_upto (f : Fin 8 → EReal) (B : Fin 8) (N : ℕ) (hB : B.val = N + 1) :
    (∑ b : Fin 8, if b.val ≤ N + 1 then f b else 0) = (∑ b : Fin 8, if b.val ≤ N then f b else 0) + f B := by
  have e : ∀ b : Fin 8, (if b.val ≤ N + 1 then f b else 0) = (if b.val ≤ N then f b else 0) + (if b = B then f b else 0) := fun b => by
    by_cases h1 : b = B
    · subst h1; rw [if_pos (by omega), if_neg (by omega), if_pos rfl, zero_add]
    · have : b.val ≠ B.val := fun e => h1 (Fin.ext e)
      rw [if_neg h1, add_zero]
      by_cases h2 : b.val ≤ N
      · rw [if_pos h2, if_pos (by omega)]
      · rw [if_neg h2, if_neg (by omega)]
  rw [Finset.sum_congr rfl fun b _ => e b, Finset.sum_add_distrib, Finset.sum_ite_eq' Finset.univ B f, if_pos (Finset.mem_univ _)]

theorem sum_first (f : Fin 8 → EReal) (B : Fin 8) (h0 : ∀ b, b.val < B.val → f b = 0) :
    (∑ b : Fin 8, if b.val ≤ B.val then f b else 0) = f B := by
  rw [← Finset.sum_ite_eq' Finset.univ B f |>.trans (if_pos (Finset.mem_univ _))]
  refine Finset.sum_congr rfl fun b _ => ?_
  by_cases h1 : b = B
  · subst h1; rw [if_pos le_rfl, if_pos rfl]
  · have : b.val ≠ B.val := fun e => h1 (Fin.ext e)
    rw [if_neg h1]
    by_cases h2 : b.val ≤ B.val
    · rw [if_pos h2, h0 b (by omega)]
    · rw [if_neg h2]

theorem sum_all (f : Fin 8 → EReal) (N : ℕ) (hN : 7 ≤ N) : (∑ b : Fin 8, if b.val ≤ N then f b else 0) = ∑ b, f b :=
  Finset.sum_congr rfl fun b _ => if_pos (by omega)

theorem behind_succ (base : Held Ideal a6) (pre) (n : ℕ) (hn : n < (k0_t1_loop i).trips) :
    behindI i a2 h2 a3 h3 a4 h4 a5 h5 a6 x0 x1 x2 x3 base pre (n + 1)
      = (restKV i a2 h2 a3 h3 a4 h4 a5 h5 x0 x1 x2 x3 ⟨n, hn⟩ (behindI i a2 h2 a3 h3 a4 h4 a5 h5 a6 x0 x1 x2 x3 base pre n).1,
         restQ i a2 h2 a3 h3 a4 h4 a5 h5 a6 x0 x1 x2 x3 ⟨n, hn⟩ (a6.view.writes (Elt Ideal) base (behindI i a2 h2 a3 h3 a4 h4 a5 h5 a6 x0 x1 x2 x3 base pre n).2)
           ++ (behindI i a2 h2 a3 h3 a4 h4 a5 h5 a6 x0 x1 x2 x3 base pre n).2) := by
  show (if h : n < (k0_t1_loop i).trips then _ else _) = _
  rw [dif_pos hn]

/-- The carried gradients after `n` blocks behind the diagonal. -/
theorem behind_kv (base : Held Ideal a6) (pre) (h : Fin 4) (s : Fin 512) (m : Fin 128) : ∀ n, n ≤ (k0_t1_loop i).trips →
    kOf (behindI i a2 h2 a3 h3 a4 h4 a5 h5 a6 x0 x1 x2 x3 base pre n).1 h (ix2 s m)
        = (∑ b : Fin 8, if b.val ≤ (kb i).val + n then kPart (kb i) x0 x1 x2 x3 h s m b else 0)
    ∧ vOf (behindI i a2 h2 a3 h3 a4 h4 a5 h5 a6 x0 x1 x2 x3 base pre n).1 h (ix2 s m)
        = (∑ b : Fin 8, if b.val ≤ (kb i).val + n then vPart (kb i) x0 x1 x3 h s m b else 0)
  | 0, _ => by
    show kOf (diagKV i a2 h2 a3 h3 a4 h4 a5 h5 x0 x1 x2 x3) h (ix2 s m) = _ ∧ vOf (diagKV i a2 h2 a3 h3 a4 h4 a5 h5 x0 x1 x2 x3) h (ix2 s m) = _
    rw [Nat.add_zero, sum_first _ _ fun b hb => kPart_low _ x0 x1 x2 x3 h s m b hb, sum_first _ _ fun b hb => vPart_low _ x0 x1 x3 h s m b hb]
    rw [diagKV, eight_k a2 h2 a3 h3 a4 h4 a5 h5 x0 x1 x2 x3 (kb i) _ _ _ _ _ _ _ _ (off_1 i) (off_2 i) (off_3 i) (off_4 i),
      eight_v a2 h2 a3 h3 a4 h4 a5 h5 x0 x1 x2 x3 (kb i) _ _ _ _ _ _ _ _ (off_1 i) (off_2 i) (off_3 i) (off_4 i),
      maskK_eq, maskV_eq, kOf_zeros, vOf_zeros, zero_add, zero_add]
    exact ⟨rfl, rfl⟩
  | n + 1, hn => by
    obtain ⟨e1, e2⟩ := behind_kv base pre h s m n (by omega)
    rw [behind_succ i a2 h2 a3 h3 a4 h4 a5 h5 a6 x0 x1 x2 x3 base pre n hn]
    dsimp only
    rw [← Nat.add_assoc, sum_upto _ (nxt i n hn) _ (by simp only [nxt]; omega), sum_upto _ (nxt i n hn) _ (by simp only [nxt]; omega), ← e1, ← e2]
    rw [restKV, eight_k a2 h2 a3 h3 a4 h4 a5 h5 x0 x1 x2 x3 (nxt i n hn) _ _ _ _ _ _ _ _ (off_5 i _) (off_6 i _) (off_7 i _) (off_8 i _),
      eight_v a2 h2 a3 h3 a4 h4 a5 h5 x0 x1 x2 x3 (nxt i n hn) _ _ _ _ _ _ _ _ (off_5 i _) (off_6 i _) (off_7 i _) (off_8 i _),
      addK_eq (kb i) x0 x1 x2 x3 h s m (nxt i n hn) _ (by simp only [nxt]; omega), addV_eq (kb i) x0 x1 x3 h s m (nxt i n hn) _ (by simp only [nxt]; omega)]
    exact ⟨rfl, rfl⟩

/-- The gradient of the queries after them. -/
theorem behind_q (base : Held Ideal a6) (pre) (h : Fin 4) (b : Fin 8) (j : Fin 512) (m : Fin 128) : ∀ n, n ≤ (k0_t1_loop i).trips →
    a6.view.read (Elt Ideal) (a6.view.writes (Elt Ideal) base (behindI i a2 h2 a3 h3 a4 h4 a5 h5 a6 x0 x1 x2 x3 base pre n).2) (ix2 (row b j) (lane h m))
      = a6.view.read (Elt Ideal) (a6.view.writes (Elt Ideal) base pre) (ix2 (row b j) (lane h m))
        + if (kb i).val < b.val ∧ b.val ≤ (kb i).val + n then qPart (kb i) x0 x1 x2 x3 h (row b j) m else 0
  | 0, _ => by rw [if_neg (by omega), add_zero]; rfl
  | n + 1, hn => by
    have e := behind_q base pre h b j m n (by omega)
    rw [behind_succ i a2 h2 a3 h3 a4 h4 a5 h5 a6 x0 x1 x2 x3 base pre n hn]
    dsimp only
    rw [restQ, quad_read a2 h2 a3 h3 a4 h4 a5 h5 a6 x0 x1 x2 x3 (nxt i n hn) _ _ _ _ _ _ _ _ (off_5 i _) (off_6 i _) (off_7 i _) (off_8 i _) _
      _ _ _ _ base]
    by_cases hb : b = nxt i n hn
    · have hv : b.val = (kb i).val + 1 + n := congrArg Fin.val hb
      rw [if_pos hb, ← hb, addQ_eq (kb i) x0 x1 x2 x3 h j m b _ (by omega), same_four]
      rw [show QT (a6.view.read (Elt Ideal) (a6.view.writes (Elt Ideal) base (behindI i a2 h2 a3 h3 a4 h4 a5 h5 a6 x0 x1 x2 x3 base pre n).2)) b h (ix2 j m)
        = a6.view.read (Elt Ideal) (a6.view.writes (Elt Ideal) base (behindI i a2 h2 a3 h3 a4 h4 a5 h5 a6 x0 x1 x2 x3 base pre n).2) (ix2 (row b j) (lane h m)) from rfl,
        e, if_neg (by omega), if_pos (by omega), add_zero]
    · have hv : b.val ≠ (kb i).val + 1 + n := fun e => hb (Fin.ext e)
      rw [if_neg hb, e]
      by_cases h2 : (kb i).val < b.val ∧ b.val ≤ (kb i).val + n
      · rw [if_pos h2, if_pos (by omega)]
      · rw [if_neg h2, if_neg (by omega)]

/-- A flat block's piece at one head's columns, read inside -/
theorem flat_hit (a : Memref sig .tc .vmem S512x512 .bf16) (f : Held Ideal a) (o : Fin 2 → ℕ) (ho) (w : Vec Ideal S512x128 .bf16) (L) (h : Fin 4)
    (e : o = ![0, 128 * h.val]) (j : Fin 512) (m : Fin 128) :
    a.view.read (Elt Ideal) (a.view.writes (Elt Ideal) f (⟨Rect.unit (s := S512x512) o S512x128.size ho, w⟩ :: L)) (ix2 j (lane h m)) = w (ix2 j m) := by
  subst e
  refine View.read_writes_cons_hit_of_coords _ _ (Rect.unit (s := S512x512) _ S512x128.size ho) w L (ix2 j m) _ fun x => ?_
  match x with
  | ⟨0, _⟩ => show j.val = 0 + 1 * j.val; omega
  | ⟨1, _⟩ => show 128 * h.val + m.val = 128 * h.val + 1 * m.val; omega

/-- and outside. -/
theorem flat_head (a : Memref sig .tc .vmem S512x512 .bf16) (f : Held Ideal a) (o : Fin 2 → ℕ) (ho) (w : Vec Ideal S512x128 .bf16) (L) (h h' : Fin 4)
    (e : o = ![0, 128 * h.val]) (ne : h' ≠ h) (q : Fin 512) (m : Fin 128) :
    a.view.read (Elt Ideal) (a.view.writes (Elt Ideal) f (⟨Rect.unit (s := S512x512) o S512x128.size ho, w⟩ :: L)) (ix2 q (lane h' m))
      = a.view.read (Elt Ideal) (a.view.writes (Elt Ideal) f L) (ix2 q (lane h' m)) := by
  subst e
  refine View.read_writes_cons_miss_of_axis _ _ _ _ _ (1 : Fin 2) (128 * h.val) 128 rfl rfl rfl ?_
  have : h'.val ≠ h.val := fun e => ne (Fin.ext e)
  show 128 * h'.val + m.val < _ ∨ _ ≤ 128 * h'.val + m.val
  omega

/-- Four heads' pieces. -/
theorem four_read (a : Memref sig .tc .vmem S512x512 .bf16) (f : Held Ideal a) (w0 w1 w2 w3 : Vec Ideal S512x128 .bf16) (h : Fin 4) (s : Fin 512) (m : Fin 128) :
    a.view.read (Elt Ideal) (a.view.writes (Elt Ideal) f
      [⟨Rect.unit (s := S512x512) ![0, 384] S512x128.size inb_S512x512_S512x128_0_384, w3⟩,
       ⟨Rect.unit (s := S512x512) ![0, 256] S512x128.size inb_S512x512_S512x128_0_256, w2⟩,
       ⟨Rect.unit (s := S512x512) ![0, 128] S512x128.size inb_S512x512_S512x128_0_128, w1⟩,
       ⟨Rect.unit (s := S512x512) ![0, 0] S512x128.size inb_S512x512_S512x128_0_0, w0⟩]) (ix2 s (lane h m)) = (![w0, w1, w2, w3] : Fin 4 → Vec Ideal S512x128 .bf16) h (ix2 s m) := by
  match h with
  | 3 => rw [flat_hit a f ![0, 384] _ _ _ 3 rfl]; rfl
  | 2 => rw [flat_head a f ![0, 384] _ _ _ 3 2 rfl (by decide), flat_hit a f ![0, 256] _ _ _ 2 rfl]; rfl
  | 1 => rw [flat_head a f ![0, 384] _ _ _ 3 1 rfl (by decide), flat_head a f ![0, 256] _ _ _ 2 1 rfl (by decide), flat_hit a f ![0, 128] _ _ _ 1 rfl]; rfl
  | 0 => rw [flat_head a f ![0, 384] _ _ _ 3 0 rfl (by decide), flat_head a f ![0, 256] _ _ _ 2 0 rfl (by decide), flat_head a f ![0, 128] _ _ _ 1 0 rfl (by decide),
      flat_hit a f ![0, 0] _ _ _ 0 rfl]; rfl

theorem sum_blocks (f : Fin 4096 → EReal) : (∑ b : Fin 8, ∑ j : Fin 512, f (row b j)) = ∑ q, f q := by
  refine Fin.sum_mul_add_congr (fun b k hl => ?_) (by norm_num)
  exact congrArg f (Fin.ext (by simp only [row]; omega))

/-- A step's block is rounded to what it is. -/
theorem round_k (p : Eight Ideal) (h : Fin 4) (y) :
    (![k0_pay10 p.1, k0_pay12 p.2.2.1, k0_pay14 p.2.2.2.2.1, k0_pay16 p.2.2.2.2.2.2.1] : Fin 4 → Vec Ideal S512x128 .bf16) h y = kOf p h y := by
  match h with
  | 0 => rfl
  | 1 => rfl
  | 2 => rfl
  | 3 => rfl
theorem round_v (p : Eight Ideal) (h : Fin 4) (y) :
    (![k0_pay11 p.2.1, k0_pay13 p.2.2.2.1, k0_pay15 p.2.2.2.2.2.1, k0_pay17 p.2.2.2.2.2.2.2] : Fin 4 → Vec Ideal S512x128 .bf16) h y = vOf p h y := by
  match h with
  | 0 => rfl
  | 1 => rfl
  | 2 => rfl
  | 3 => rfl

variable (base : Held Ideal a6) (pre : List (View.Piece (Elt Ideal) S4096x512 .f32)) (lq : Held Ideal a6) (lk : Held Ideal a7 → Held Ideal a7) (lv : Held Ideal a8 → Held Ideal a8)
  (H : Leaves i a2 h2 a3 h3 a4 h4 a5 h5 a6 a7 a8 x0 x1 x2 x3 base pre lq lk lv)
include H

/-- The gradient of the keys that a point leaves. -/
theorem leaves_k (g) (h : Fin 4) (s : Fin 512) (m : Fin 128) : a7.view.read (Elt Ideal) (lk g) (ix2 s (lane h m))
    = ∑ q : Fin 4096, P (kb i) x0 x1 h s q * D x2 x3 h s q * x0 (ix2 q (lane h m)) := by
  have e := (behind_kv i a2 h2 a3 h3 a4 h4 a5 h5 a6 x0 x1 x2 x3 base pre h s m _ le_rfl).1
  rw [sum_all _ ((kb i).val + (k0_t1_loop i).trips) (by rw [trips_eq]; omega)] at e
  unfold behindI kPart at e
  rw [sum_blocks fun q => P (kb i) x0 x1 h s q * D x2 x3 h s q * x0 (ix2 q (lane h m))] at e
  rw [← e, H.2.1 g]
  generalize (behind i a2 h2 a3 h3 a4 h4 a5 h5 a6 x0 x1 x2 x3 base pre (k0_t1_loop i).trips).1 = p
  exact (four_read a7 g _ _ _ _ h s m).trans (round_k p h _)

/-- The gradient of the values. -/
theorem leaves_v (g) (h : Fin 4) (s : Fin 512) (m : Fin 128) : a8.view.read (Elt Ideal) (lv g) (ix2 s (lane h m))
    = ∑ q : Fin 4096, P (kb i) x0 x1 h s q * x3 (ix2 q (lane h m)) := by
  have e := (behind_kv i a2 h2 a3 h3 a4 h4 a5 h5 a6 x0 x1 x2 x3 base pre h s m _ le_rfl).2
  rw [sum_all _ ((kb i).val + (k0_t1_loop i).trips) (by rw [trips_eq]; omega)] at e
  unfold behindI vPart at e
  rw [sum_blocks fun q => P (kb i) x0 x1 h s q * x3 (ix2 q (lane h m))] at e
  rw [← e, H.2.2 g]
  generalize (behind i a2 h2 a3 h3 a4 h4 a5 h5 a6 x0 x1 x2 x3 base pre (k0_t1_loop i).trips).1 = p
  exact (four_read a8 g _ _ _ _ h s m).trans (round_v p h _)

/-- What a point adds to the gradient of the queries, given what the masked step left. -/
theorem leaves_q (old : Vec Ideal S4096x512 .f32) (h : Fin 4) (b : Fin 8) (j : Fin 512) (m : Fin 128)
    (hpre : a6.view.read (Elt Ideal) (a6.view.writes (Elt Ideal) base pre) (ix2 (row b j) (lane h m))
      = old (ix2 (row b j) (lane h m)) + if b = kb i then qPart (kb i) x0 x1 x2 x3 h (row b j) m else 0) :
    a6.view.read (Elt Ideal) lq (ix2 (row b j) (lane h m)) = old (ix2 (row b j) (lane h m)) + qPart (kb i) x0 x1 x2 x3 h (row b j) m := by
  rw [H.1]
  refine (behind_q i a2 h2 a3 h3 a4 h4 a5 h5 a6 x0 x1 x2 x3 base pre h b j m _ le_rfl).trans ?_
  rw [hpre, trips_eq, add_assoc]
  congr 1
  rcases lt_trichotomy b.val (kb i).val with hb | hb | hb
  · rw [if_neg (fun e => by rw [e] at hb; omega), if_neg (by omega), qPart_low _ x0 x1 x2 x3 h m b hb, add_zero]
  · rw [if_pos (Fin.ext hb), if_neg (by omega), add_zero]
  · rw [if_neg (fun e => by rw [e] at hb; omega), if_pos (by omega), zero_add]

end

section
variable (c : Dev nD) (i : grid0.Coords) (a2 : Memref sig .tc .vmem S4096x512 .bf16) (h2 : a2.IsWhole)
  (a3 : Memref sig .tc .vmem S512x512 .bf16) (h3 : a3.IsWhole) (a4 : Memref sig .tc .vmem S512x512 .bf16) (h4 : a4.IsWhole)
  (a5 : Memref sig .tc .vmem S4096x512 .bf16) (h5 : a5.IsWhole) (a6 : Memref sig .tc .vmem S4096x512 .f32) (h6 : a6.IsWhole)
  (a7 : Memref sig .tc .vmem S512x512 .bf16) (h7 : a7.IsWhole) (a8 : Memref sig .tc .vmem S512x512 .bf16) (h8 : a8.IsWhole)
  (x0 : Vec Ideal S4096x512 .bf16) (x1 : Vec Ideal S512x512 .bf16) (x2 : Vec Ideal S512x512 .bf16) (x3 : Vec Ideal S4096x512 .bf16)

theorem later_pre (p : Vec Ideal S4096x512 .f32) (h : Fin 4) (b : Fin 8) (j : Fin 512) (m : Fin 128) :
    a6.view.read (Elt Ideal) (a6.view.writes (Elt Ideal) (h6.unread p)
      (diagQ i a2 h2 a3 h3 a4 h4 a5 h5 a6 x0 x1 x2 x3 (h6.unread p) (h6.unread p) (h6.unread p) (h6.unread p))) (ix2 (row b j) (lane h m))
      = p (ix2 (row b j) (lane h m)) + if b = kb i then qPart (kb i) x0 x1 x2 x3 h (row b j) m else 0 := by
  rw [diagQ, ← List.append_nil (quad _ _ _ _ _ _ _ _ _ _ _ _ _ _ _ _ _ _ _ _ _ _ _ _ _ _),
    quad_read a2 h2 a3 h3 a4 h4 a5 h5 a6 x0 x1 x2 x3 (kb i) _ _ _ _ _ _ _ _ (off_1 i) (off_2 i) (off_3 i) (off_4 i) _ _ _ _ _ (h6.unread p)]
  by_cases hb : b = kb i
  · subst hb
    rw [if_pos rfl, if_pos rfl, maskQ_eq, same_four, h6.read_unread]; rfl
  · rw [if_neg hb, if_neg hb, add_zero]
    show a6.view.read (Elt Ideal) (h6.unread p) _ = _
    rw [h6.read_unread]

theorem cleared_read (y : Fin 4096) (z : Fin 512) : a6.view.read (Elt Ideal) (a6.view.writes (Elt Ideal) a6.view.junk [cleared]) (ix2 y z) = 0 := by
  have e : (k0_pay68 : FVec Ideal S4096x512 .f32) (ix2 y z) = 0 := by pointwise [k0_pay68]
  refine (View.read_writes_cons_hit_of_coords (Val := Elt Ideal) _ _ (Rect.unit (s := S4096x512) ![0, 0] S4096x512.size inb_S4096x512_S4096x512_0_0) _ []
    (ix2 y z) _ fun x => ?_).trans e
  match x with
  | ⟨0, _⟩ => show y.val = 0 + 1 * y.val; omega
  | ⟨1, _⟩ => show z.val = 0 + 1 * z.val; omega

/-- What the bases of the opening's four steps hold at their own heads. -/
theorem base1_read (j : Fin 512) (m : Fin 128) :
    a6.view.read (Elt Ideal) (base1 i a2 h2 a3 h3 a4 h4 a5 h5 a6 x0 x1 x2 x3) (ix2 (row (kb i) j) (lane 1 m)) = 0 := by
  unfold base1 diagAt diagQ quad
  simp only [List.drop_succ_cons, List.drop_zero, List.cons_append, List.nil_append]
  rw [piece_head a6 _ _ _ _ _ _ 0 1 (off_1 i) (by decide), cleared_read]
theorem base2_read (j : Fin 512) (m : Fin 128) :
    a6.view.read (Elt Ideal) (base2 i a2 h2 a3 h3 a4 h4 a5 h5 a6 x0 x1 x2 x3) (ix2 (row (kb i) j) (lane 2 m)) = 0 := by
  unfold base2 diagAt diagQ quad
  simp only [List.drop_succ_cons, List.drop_zero, List.cons_append, List.nil_append]
  rw [piece_head a6 _ _ _ _ _ _ 1 2 (off_2 i) (by decide), piece_head a6 _ _ _ _ _ _ 0 2 (off_1 i) (by decide), cleared_read]
theorem base3_read (j : Fin 512) (m : Fin 128) :
    a6.view.read (Elt Ideal) (base3 i a2 h2 a3 h3 a4 h4 a5 h5 a6 x0 x1 x2 x3) (ix2 (row (kb i) j) (lane 3 m)) = 0 := by
  unfold base3 diagAt diagQ quad
  simp only [List.drop_succ_cons, List.drop_zero, List.cons_append, List.nil_append]
  rw [piece_head a6 _ _ _ _ _ _ 2 3 (off_3 i) (by decide), piece_head a6 _ _ _ _ _ _ 1 3 (off_2 i) (by decide),
    piece_head a6 _ _ _ _ _ _ 0 3 (off_1 i) (by decide), cleared_read]

theorem opening_pre (h : Fin 4) (b : Fin 8) (j : Fin 512) (m : Fin 128) :
    a6.view.read (Elt Ideal) (a6.view.writes (Elt Ideal) a6.view.junk
      (diagQ i a2 h2 a3 h3 a4 h4 a5 h5 a6 x0 x1 x2 x3 (base0 a6) (base1 i a2 h2 a3 h3 a4 h4 a5 h5 a6 x0 x1 x2 x3)
        (base2 i a2 h2 a3 h3 a4 h4 a5 h5 a6 x0 x1 x2 x3) (base3 i a2 h2 a3 h3 a4 h4 a5 h5 a6 x0 x1 x2 x3) ++ [cleared])) (ix2 (row b j) (lane h m))
      = 0 + if b = kb i then qPart (kb i) x0 x1 x2 x3 h (row b j) m else 0 := by
  have c0 := fun j m => cleared_read a6 (row (kb i) j) (lane 0 m)
  have c1 := base1_read i a2 h2 a3 h3 a4 h4 a5 h5 a6 x0 x1 x2 x3
  have c2 := base2_read i a2 h2 a3 h3 a4 h4 a5 h5 a6 x0 x1 x2 x3
  have c3 := base3_read i a2 h2 a3 h3 a4 h4 a5 h5 a6 x0 x1 x2 x3
  generalize base3 i a2 h2 a3 h3 a4 h4 a5 h5 a6 x0 x1 x2 x3 = g3 at c3 ⊢
  generalize base2 i a2 h2 a3 h3 a4 h4 a5 h5 a6 x0 x1 x2 x3 = g2 at c2 ⊢
  generalize base1 i a2 h2 a3 h3 a4 h4 a5 h5 a6 x0 x1 x2 x3 = g1 at c1 ⊢
  unfold base0
  generalize a6.view.writes (Elt Ideal) a6.view.junk [cleared] = g0 at c0 ⊢
  rw [diagQ, quad_read a2 h2 a3 h3 a4 h4 a5 h5 a6 x0 x1 x2 x3 (kb i) _ _ _ _ _ _ _ _ (off_1 i) (off_2 i) (off_3 i) (off_4 i)]
  by_cases hb : b = kb i
  · subst hb
    rw [if_pos rfl, if_pos rfl, maskQ_eq]
    congr 1
    match h with
    | 0 => exact c0 j m
    | 1 => exact c1 j m
    | 2 => exact c2 j m
    | 3 => exact c3 j m
  · rw [if_neg hb, if_neg hb, add_zero]
    exact cleared_read a6 _ _

/-- The gradient of the queries that a point leaves, over what it found. -/
theorem leavesQ_apply (p : Vec Ideal S4096x512 .f32) (h : Fin 4) (q : Fin 4096) (m : Fin 128) :
    leavesQ c i a2 h2 a3 h3 a4 h4 a5 h5 a6 h6 a7 h7 a8 h8 x0 x1 x2 x3 p (ix2 q (lane h m))
      = (if first i then 0 else p (ix2 q (lane h m))) + qPart (kb i) x0 x1 x2 x3 h q m := by
  obtain ⟨b, j, rfl⟩ := row_surj q
  unfold leavesQ
  by_cases hc : first i
  · rw [dif_pos hc, if_pos hc]
    exact leaves_q i a2 h2 a3 h3 a4 h4 a5 h5 a6 a7 a8 x0 x1 x2 x3 _ _ _ _ _ (opening_leaves c i a2 h2 a3 h3 a4 h4 a5 h5 a6 h6 a7 h7 a8 h8 x0 x1 x2 x3 hc _) (fun _ => 0)
      h b j m (opening_pre i a2 h2 a3 h3 a4 h4 a5 h5 a6 x0 x1 x2 x3 h b j m)
  · rw [dif_neg hc, if_neg hc]
    exact leaves_q i a2 h2 a3 h3 a4 h4 a5 h5 a6 a7 a8 x0 x1 x2 x3 _ _ _ _ _ (later_leaves c i a2 h2 a3 h3 a4 h4 a5 h5 a6 h6 a7 h7 a8 h8 x0 x1 x2 x3 hc _) p
      h b j m (later_pre i a2 h2 a3 h3 a4 h4 a5 h5 a6 h6 x0 x1 x2 x3 p h b j m)

theorem leavesK_apply (p : Vec Ideal S4096x512 .f32) (h : Fin 4) (s : Fin 512) (m : Fin 128) :
    leavesK c i a2 h2 a3 h3 a4 h4 a5 h5 a6 h6 a7 h7 a8 h8 x0 x1 x2 x3 p (ix2 s (lane h m))
      = ∑ q : Fin 4096, P (kb i) x0 x1 h s q * D x2 x3 h s q * x0 (ix2 q (lane h m)) := by
  unfold leavesK
  by_cases hc : first i
  · rw [dif_pos hc]
    exact leaves_k i a2 h2 a3 h3 a4 h4 a5 h5 a6 a7 a8 x0 x1 x2 x3 _ _ _ _ _ (opening_leaves c i a2 h2 a3 h3 a4 h4 a5 h5 a6 h6 a7 h7 a8 h8 x0 x1 x2 x3 hc _) _ h s m
  · rw [dif_neg hc]
    exact leaves_k i a2 h2 a3 h3 a4 h4 a5 h5 a6 a7 a8 x0 x1 x2 x3 _ _ _ _ _ (later_leaves c i a2 h2 a3 h3 a4 h4 a5 h5 a6 h6 a7 h7 a8 h8 x0 x1 x2 x3 hc _) _ h s m

theorem leavesV_apply (p : Vec Ideal S4096x512 .f32) (h : Fin 4) (s : Fin 512) (m : Fin 128) :
    leavesV c i a2 h2 a3 h3 a4 h4 a5 h5 a6 h6 a7 h7 a8 h8 x0 x1 x2 x3 p (ix2 s (lane h m))
      = ∑ q : Fin 4096, P (kb i) x0 x1 h s q * x3 (ix2 q (lane h m)) := by
  unfold leavesV
  by_cases hc : first i
  · rw [dif_pos hc]
    exact leaves_v i a2 h2 a3 h3 a4 h4 a5 h5 a6 a7 a8 x0 x1 x2 x3 _ _ _ _ _ (opening_leaves c i a2 h2 a3 h3 a4 h4 a5 h5 a6 h6 a7 h7 a8 h8 x0 x1 x2 x3 hc _) _ h s m
  · rw [dif_neg hc]
    exact leaves_v i a2 h2 a3 h3 a4 h4 a5 h5 a6 a7 a8 x0 x1 x2 x3 _ _ _ _ _ (later_leaves c i a2 h2 a3 h3 a4 h4 a5 h5 a6 h6 a7 h7 a8 h8 x0 x1 x2 x3 hc _) _ h s m

end

end Cert.AttnIdeal.Own

end
-- ==== Proof.AttnFinal.lean ====
/- What the attention's gradient call leaves in its three arrays: sums over all keys and all queries. -/
module

public import proofs.«01_k».proof.Proof.AttnValue

@[expose] public section

set_option maxRecDepth 16384

noncomputable section

namespace Cert.AttnIdeal.Own

open Cert.AttnIdeal.Gen
open Idealize.ShloMosaic Idealize.ShloMosaic.TcCoe Idealize.ShloMosaic.Tactic Idealize.SL.Sem
open Idealize.ShloMosaic.Pipeline (Dat)

variable (m : (ℓ : Loc nD τ sig) → Buf (Elt Ideal) ℓ) (c : Dev nD)

/-- The arrays the call reads: packed queries, -/
def QA : Vec Ideal S4096x1024 .bf16 := V m c (Pipeline.arrRef spec0 0)
/-- keys, -/
def KA : Vec Ideal S4096x1024 .bf16 := V m c (Pipeline.arrRef spec0 1)
/-- values, -/
def VA : Vec Ideal S4096x1024 .bf16 := V m c (Pipeline.arrRef spec0 2)
/-- and cotangents. -/
def DA : Vec Ideal S4096x1024 .bf16 := V m c (Pipeline.arrRef spec0 3)

/-- Column `a` of head `h` of the `g`-th group of heads. -/
def col (g : Fin 2) (h : Fin 4) (a : Fin 128) : Fin 1024 := ⟨512 * g.val + (128 * h.val + a.val), by omega⟩

/-- The group of heads at a point. -/
def grp (t : Fin cfg0.N) : Fin 2 := ⟨t.val / 8, by have : t.val < 16 := lt_of_lt_of_eq t.isLt (show cfg0.N = 16 from N_0); omega⟩

/-- The index maps. -/
theorem idx : ∀ t : Fin cfg0.N, win0_0.index t = ![0, t.val / 8] ∧ win0_1.index t = ![t.val % 8, t.val / 8] ∧ win0_2.index t = ![t.val % 8, t.val / 8]
    ∧ win0_3.index t = ![0, t.val / 8] ∧ win0_4.index t = ![0, t.val / 8] ∧ win0_5.index t = ![t.val % 8, t.val / 8] ∧ win0_6.index t = ![t.val % 8, t.val / 8] :=
  (by decide +kernel : ∀ t : Fin grid0.N, _)

theorem kb_val : ∀ t : Fin cfg0.N, (kb (grid0.coords t)).val = t.val % 8 := (by decide +kernel : ∀ t : Fin grid0.N, _)

theorem iblk0 (t : Fin cfg0.N) (q : Fin 4096) (h : Fin 4) (a : Fin 128) :
    (iblk m c 0 t : Vec Ideal S4096x512 .bf16) (ix2 q (lane h a)) = QA m c (ix2 q (col (grp t) h a)) := by
  unfold QA
  blk_point [iblk, idx t]
  all_goals
    simp only [lane, col, grp, row, kb_val]
    omega
theorem iblk3 (t : Fin cfg0.N) (q : Fin 4096) (h : Fin 4) (a : Fin 128) :
    (iblk m c 3 t : Vec Ideal S4096x512 .bf16) (ix2 q (lane h a)) = DA m c (ix2 q (col (grp t) h a)) := by
  unfold DA
  blk_point [iblk, idx t]
  all_goals
    simp only [lane, col, grp, row, kb_val]
    omega
theorem iblk1 (t : Fin cfg0.N) (s : Fin 512) (h : Fin 4) (a : Fin 128) :
    (iblk m c 1 t : Vec Ideal S512x512 .bf16) (ix2 s (lane h a)) = KA m c (ix2 (row (kb (grid0.coords t)) s) (col (grp t) h a)) := by
  unfold KA
  blk_point [iblk, idx t]
  all_goals
    simp only [lane, col, grp, row, kb_val]
    omega
theorem iblk2 (t : Fin cfg0.N) (s : Fin 512) (h : Fin 4) (a : Fin 128) :
    (iblk m c 2 t : Vec Ideal S512x512 .bf16) (ix2 s (lane h a)) = VA m c (ix2 (row (kb (grid0.coords t)) s) (col (grp t) h a)) := by
  unfold VA
  blk_point [iblk, idx t]
  all_goals
    simp only [lane, col, grp, row, kb_val]
    omega

/-- The weight of key `s` in query `q`: `g` and `h` name the head. -/
def PA (g : Fin 2) (h : Fin 4) (s q : Fin 4096) : EReal :=
  if s.val ≤ q.val then Ideal.exp (∑ a : Fin 128, KA m c (ix2 s (col g h a)) * QA m c (ix2 q (col g h a))) else 0
/-- The product of the value's row and the cotangent's. -/
def DD (g : Fin 2) (h : Fin 4) (s q : Fin 4096) : EReal := ∑ a : Fin 128, VA m c (ix2 s (col g h a)) * DA m c (ix2 q (col g h a))

theorem P_eq (t : Fin cfg0.N) (h : Fin 4) (s : Fin 512) (q : Fin 4096) :
    P (kb (grid0.coords t)) (iblk m c 0 t) (iblk m c 1 t) h s q = PA m c (grp t) h (row (kb (grid0.coords t)) s) q := by
  unfold P PA
  rw [Finset.sum_congr rfl fun a _ => by rw [iblk0, iblk1]]
  rfl
theorem D_eq (t : Fin cfg0.N) (h : Fin 4) (s : Fin 512) (q : Fin 4096) :
    D (iblk m c 2 t) (iblk m c 3 t) h s q = DD m c (grp t) h (row (kb (grid0.coords t)) s) q := by
  unfold D DD
  exact Finset.sum_congr rfl fun a _ => by rw [iblk2, iblk3]

theorem stepK_apply (t : Fin cfg0.N) (p) (h : Fin 4) (s : Fin 512) (a : Fin 128) :
    stepK m c t p (ix2 s (lane h a)) = ∑ q : Fin 4096, PA m c (grp t) h (row (kb (grid0.coords t)) s) q * DD m c (grp t) h (row (kb (grid0.coords t)) s) q
      * QA m c (ix2 q (col (grp t) h a)) := by
  unfold stepK
  rw [leavesK_apply]
  exact Finset.sum_congr rfl fun q _ => by rw [P_eq, D_eq, iblk0]

theorem stepV_apply (t : Fin cfg0.N) (p) (h : Fin 4) (s : Fin 512) (a : Fin 128) :
    stepV m c t p (ix2 s (lane h a)) = ∑ q : Fin 4096, PA m c (grp t) h (row (kb (grid0.coords t)) s) q
      * DA m c (ix2 q (col (grp t) h a)) := by
  unfold stepV
  rw [leavesV_apply]
  exact Finset.sum_congr rfl fun q _ => by rw [P_eq, iblk3]

/-- What the `b`-th block of keys adds to the gradient of the queries. -/
def qBlk (g : Fin 2) (h : Fin 4) (q : Fin 4096) (a : Fin 128) (b : Fin 8) : EReal :=
  ∑ s : Fin 512, PA m c g h (row b s) q * DD m c g h (row b s) q * KA m c (ix2 (row b s) (col g h a))

theorem stepQ_apply (t : Fin cfg0.N) (p : Vec Ideal S4096x512 .f32) (h : Fin 4) (q : Fin 4096) (a : Fin 128) :
    stepQ m c t p (ix2 q (lane h a)) = (if first (grid0.coords t) then 0 else p (ix2 q (lane h a))) + qBlk m c (grp t) h q a (kb (grid0.coords t)) := by
  unfold stepQ
  rw [leavesQ_apply]
  unfold qPart qBlk
  exact congrArg _ (Finset.sum_congr rfl fun s _ => by rw [P_eq, D_eq, iblk1])

/-- The gradient of the queries after point `n`: the blocks of keys so far. -/
theorem foldQ (h : Fin 4) (q : Fin 4096) (a : Fin 128) (n : ℕ) (hn : n < cfg0.N) :
    stepQ m c ⟨n, hn⟩ (heldQ m c n) (ix2 q (lane h a)) = ∑ b : Fin 8, if b.val ≤ n % 8 then qBlk m c (grp ⟨n, hn⟩) h q a b else 0 := by
  have hk : (kb (grid0.coords ⟨n, hn⟩)).val = n % 8 := kb_val _
  rw [stepQ_apply]
  by_cases h0 : n % 8 = 0
  · rw [if_pos ((first_iff _).mpr h0), zero_add, ← hk, sum_first _ _ fun b hb => absurd hb (by omega)]
  · obtain ⟨k, rfl⟩ := Nat.exists_eq_succ_of_ne_zero (fun e : n = 0 => h0 (by rw [e]))
    have hk' : k < cfg0.N := Nat.lt_of_succ_lt hn
    rw [if_neg (fun e => h0 ((first_iff _).mp e)), show heldQ m c k.succ = if h : k < cfg0.N then stepQ m c ⟨k, h⟩ (heldQ m c k) else heldQ m c k from rfl,
      dif_pos hk', foldQ h q a k hk', show (k.succ) % 8 = k % 8 + 1 by omega, sum_upto _ (kb (grid0.coords ⟨k.succ, hn⟩)) (k % 8) (by omega),
      show grp ⟨k, hk'⟩ = grp ⟨k.succ, hn⟩ from Fin.ext (by simp only [grp]; omega)]

/-- A column's group and head. -/
def gOf (z : Fin 1024) : Fin 2 := ⟨z.val / 512, by omega⟩
def hOf (z : Fin 1024) : Fin 4 := ⟨z.val / 128 % 4, by omega⟩
theorem gOf_col (g : Fin 2) (h : Fin 4) (a : Fin 128) : gOf (col g h a) = g := Fin.ext (by simp only [gOf, col]; omega)
theorem hOf_col (g : Fin 2) (h : Fin 4) (a : Fin 128) : hOf (col g h a) = h := Fin.ext (by simp only [hOf, col]; omega)

/-- The first array: the gradient of the packed queries, -/
def resQ : Vec Ideal S4096x1024 .f32 := fun y => ∑ s : Fin 4096, PA m c (gOf (y 1)) (hOf (y 1)) s (y 0) * DD m c (gOf (y 1)) (hOf (y 1)) s (y 0) * KA m c (ix2 s (y 1))
/-- the second: of the keys, -/
def resK : Vec Ideal S4096x1024 .bf16 := fun y => ∑ q : Fin 4096, PA m c (gOf (y 1)) (hOf (y 1)) (y 0) q * DD m c (gOf (y 1)) (hOf (y 1)) (y 0) q * QA m c (ix2 q (y 1))
/-- the third: of the values. -/
def resV : Vec Ideal S4096x1024 .bf16 := fun y => ∑ q : Fin 4096, PA m c (gOf (y 1)) (hOf (y 1)) (y 0) q * DA m c (ix2 q (y 1))

theorem resQ_apply (g : Fin 2) (h : Fin 4) (q : Fin 4096) (a : Fin 128) : resQ m c (ix2 q (col g h a))
    = ∑ s : Fin 4096, PA m c g h s q * DD m c g h s q * KA m c (ix2 s (col g h a)) := by
  show (∑ s : Fin 4096, PA m c (gOf (col g h a)) (hOf (col g h a)) s q * DD m c (gOf (col g h a)) (hOf (col g h a)) s q * KA m c (ix2 s (col g h a))) = _
  rw [gOf_col, hOf_col]
theorem resK_apply (g : Fin 2) (h : Fin 4) (s : Fin 4096) (a : Fin 128) : resK m c (ix2 s (col g h a))
    = ∑ q : Fin 4096, PA m c g h s q * DD m c g h s q * QA m c (ix2 q (col g h a)) := by
  show (∑ q : Fin 4096, PA m c (gOf (col g h a)) (hOf (col g h a)) s q * DD m c (gOf (col g h a)) (hOf (col g h a)) s q * QA m c (ix2 q (col g h a))) = _
  rw [gOf_col, hOf_col]
theorem resV_apply (g : Fin 2) (h : Fin 4) (s : Fin 4096) (a : Fin 128) : resV m c (ix2 s (col g h a))
    = ∑ q : Fin 4096, PA m c g h s q * DA m c (ix2 q (col g h a)) := by
  show (∑ q : Fin 4096, PA m c (gOf (col g h a)) (hOf (col g h a)) s q * DA m c (ix2 q (col g h a))) = _
  rw [gOf_col, hOf_col]

/-- Each array holds its gradient. -/
theorem final5 : (dats m 0 c).arrAt 5 (cfgs 0).N = resK m c := by
  refine (dats m 0 c).arrAt_eq_of_covers 5 _ (by decide +kernel) fun t _ y => ?_
  blk_simp
  rw [after_5]
  idx_vars y
  obtain ⟨h, a, rfl⟩ := lane_surj y1
  have e : (win0_5.blk t).view.emb (ix2 y0 (lane h a)) = ix2 (row (kb (grid0.coords t)) y0) (col (grp t) h a) := by
    blk_ext [idx t]
    all_goals
      simp only [lane, col, grp, row, kb_val]
      omega
  rw [e, resK_apply]
  exact stepK_apply m c t _ h y0 a

theorem final6 : (dats m 0 c).arrAt 6 (cfgs 0).N = resV m c := by
  refine (dats m 0 c).arrAt_eq_of_covers 6 _ (by decide +kernel) fun t _ y => ?_
  blk_simp
  rw [after_6]
  idx_vars y
  obtain ⟨h, a, rfl⟩ := lane_surj y1
  have e : (win0_6.blk t).view.emb (ix2 y0 (lane h a)) = ix2 (row (kb (grid0.coords t)) y0) (col (grp t) h a) := by
    blk_ext [idx t]
    all_goals
      simp only [lane, col, grp, row, kb_val]
      omega
  rw [e, resV_apply]
  exact stepV_apply m c t _ h y0 a

theorem final4 : (dats m 0 c).arrAt 4 (cfgs 0).N = resQ m c := by
  refine (dats m 0 c).arrAt_eq_of_covers 4 _ (by decide +kernel) fun t ht y => ?_
  blk_simp
  rw [after_4]
  idx_vars y
  obtain ⟨h, a, rfl⟩ := lane_surj y1
  have e : (win0_4.blk t).view.emb (ix2 y0 (lane h a)) = ix2 y0 (col (grp t) h a) := by
    blk_ext [idx t]
    all_goals
      simp only [lane, col, grp, row, kb_val]
      omega
  rw [e, resQ_apply]
  have h7 : t.val % 8 = 7 := (flush0_4 t).mp ht
  refine (foldQ m c h y0 a t.val t.isLt).trans ?_
  rw [h7, sum_all _ 7 le_rfl]
  unfold qBlk
  exact sum_blocks fun s => PA m c (grp t) h s y0 * DD m c (grp t) h s y0 * KA m c (ix2 s (col (grp t) h a))

end Cert.AttnIdeal.Own

end
-- ==== Proof.AttnPack.lean ====
/- The four packed arrays that the host hands to the attention's gradient call, as terms of the program's arguments. -/
module

public import proofs.«01_k».proof.Proof.AttnFinal
public import proofs.«01_k».proof.Proof.Gen.AttnRefIdeal.Read

@[expose] public section

set_option maxRecDepth 16384

noncomputable section

namespace Cert.AttnIdeal.Own

open Cert.AttnIdeal.Gen
open Idealize.ShloMosaic Idealize.ShloMosaic.TcCoe Idealize.ShloMosaic.Tactic Idealize.SL.Sem

variable (m : (ℓ : Loc nD τ sig) → Buf (Elt Ideal) ℓ) (c : Dev nD)

open Cert.AttnRefIdeal.Read in
/-- A row's log-sum, as the host computes it from the masked scores. -/
def lseV (x0 : FVec Ideal S4096x8x64 .f32) (x1 : FVec Ideal S4096x8x32 .f32) (x2 : FVec Ideal S4096x8x64 .f32) (x3 : FVec Ideal S4096x32 .f32) :
    FVec Ideal S4096x8x1 .f32 :=
  broadcastInDim S4096x8x1 ![0, 1] bcast_S4096x8_S4096x8x1_0_1 (transpose S4096x8 [1, 0] (shapeCast S8x4096
    (addf (broadcastInDim S8x4096x1 ![0, 1] bcast_S8x4096_S8x4096x1_0_1 (val_main_v13 (F := Ideal) x0 x1 x2 x3))
      (Host.log (broadcastInDim S8x4096x1 ![0, 1] bcast_S8x4096_S8x4096x1_0_1 (Host.reduceAdd (F := Ideal)
        (Host.exp (subf (val_main_v12_0 (F := Ideal) x0 x1 x2 x3) (broadcastInDim S8x4096x4096 ![0, 1, 2] bcast_S8x4096x1_S8x4096x4096_0_1_2
          (broadcastInDim S8x4096x1 ![0, 1] bcast_S8x4096_S8x4096x1_0_1 (val_main_v13 (F := Ideal) x0 x1 x2 x3)))))
        (constant S_ .f32 0x00000000#32) reducesTo_S8x4096x4096_S8x4096_d2 h_S_)))) shapeCasts_S8x4096x1_S8x4096)
    transposes_S8x4096_S4096x8_1_0)

open Cert.AttnRefIdeal.Read in
/-- A row's sum of cotangent times output, as the host computes it. -/
def deltaV (x0 : FVec Ideal S4096x8x64 .f32) (x1 : FVec Ideal S4096x8x32 .f32) (x2 : FVec Ideal S4096x8x64 .f32) (x3 : FVec Ideal S4096x32 .f32)
    (x4 : FVec Ideal S4096x8x64 .f32) (x5 : FVec Ideal S4096x512 .f32) : FVec Ideal S4096x8x1 .f32 :=
  broadcastInDim S4096x8x1 ![0, 1] bcast_S4096x8_S4096x8x1_0_1 (Host.reduceAdd (F := Ideal)
    (mulf (shapeCast S4096x8x64 x5 shapeCasts_S4096x512_S4096x8x64) (shapeCast S4096x8x64 (shapeCast S4096x512
      (transpose S4096x8x64 [2, 0, 1] (Host.dotGeneral (F := Ideal) (φ₂ := .f32) dot_S4096x8x64_S8x4096x4096_S8x64x4096_0_2_2_1_1_0 none x4
        (val_main_v37 (F := Ideal) x0 x1 x2 x3 : FVec Ideal S8x4096x4096 .f32)) transposes_S8x64x4096_S4096x8x64_2_0_1)
      shapeCasts_S4096x8x64_S4096x512) shapeCasts_S4096x512_S4096x8x64))
    (constant S_ .f32 0x00000000#32) reducesTo_S4096x8x64_S4096x8_d2 h_S_)

/-- Queries: the two scaled parts, the negated log-sum as a rounding and its rest, zeros. -/
def packQ (x0 : FVec Ideal S4096x8x64 .f32) (x1 : FVec Ideal S4096x8x32 .f32) (l : FVec Ideal S4096x8x1 .f32) : FVec Ideal S4096x1024 .bf16 :=
  shapeCast S4096x1024 (concatenate S4096x8x128 2
    [⟨S4096x8x64, (truncf .bf16 (mulf x0 (broadcastInDim S4096x8x64 ![] bcast_S_S4096x8x64 (constant S_ .f32 0x3DD105EC#32))) bitsLt_bf16_f32 : FVec Ideal S4096x8x64 .bf16)⟩,
     ⟨S4096x8x32, (truncf .bf16 (mulf x1 (broadcastInDim S4096x8x32 ![] bcast_S_S4096x8x32 (constant S_ .f32 0x3DD105EC#32))) bitsLt_bf16_f32 : FVec Ideal S4096x8x32 .bf16)⟩,
     ⟨S4096x8x1, (truncf .bf16 (Host.negf l) bitsLt_bf16_f32 : FVec Ideal S4096x8x1 .bf16)⟩,
     ⟨S4096x8x1, (truncf .bf16 (subf (Host.negf l) (extf .f32 (truncf .bf16 (Host.negf l) bitsLt_bf16_f32 : FVec Ideal S4096x8x1 .bf16) bitsLt_bf16_f32)) bitsLt_bf16_f32 : FVec Ideal S4096x8x1 .bf16)⟩,
     ⟨S4096x8x30, (truncf .bf16 (broadcastInDim S4096x8x30 ![] bcast_S_S4096x8x30 (constant (F := Ideal) S_ .f32 0x00000000#32)) bitsLt_bf16_f32 : FVec Ideal S4096x8x30 .bf16)⟩]
    concatenates_S4096x8x64_S4096x8x32_S4096x8x1_S4096x8x1_S4096x8x30_S4096x8x128_d2) shapeCasts_S4096x8x128_S4096x1024

/-- Keys: the two parts, two ones, zeros. -/
def packK (x2 : FVec Ideal S4096x8x64 .f32) (x3 : FVec Ideal S4096x32 .f32) : FVec Ideal S4096x1024 .bf16 :=
  shapeCast S4096x1024 (concatenate S4096x8x128 2
    [⟨S4096x8x64, (truncf .bf16 x2 bitsLt_bf16_f32 : FVec Ideal S4096x8x64 .bf16)⟩,
     ⟨S4096x8x32, (truncf .bf16 (broadcastInDim S4096x8x32 ![0, 1, 2] bcast_S4096x1x32_S4096x8x32_0_1_2
        (broadcastInDim S4096x1x32 ![0, 2] bcast_S4096x32_S4096x1x32_0_2 x3)) bitsLt_bf16_f32 : FVec Ideal S4096x8x32 .bf16)⟩,
     ⟨S4096x8x2, (truncf .bf16 (broadcastInDim S4096x8x2 ![] bcast_S_S4096x8x2 (constant (F := Ideal) S_ .f32 0x3F800000#32)) bitsLt_bf16_f32 : FVec Ideal S4096x8x2 .bf16)⟩,
     ⟨S4096x8x30, (truncf .bf16 (broadcastInDim S4096x8x30 ![] bcast_S_S4096x8x30 (constant (F := Ideal) S_ .f32 0x00000000#32)) bitsLt_bf16_f32 : FVec Ideal S4096x8x30 .bf16)⟩]
    concatenates_S4096x8x64_S4096x8x32_S4096x8x2_S4096x8x30_S4096x8x128_d2) shapeCasts_S4096x8x128_S4096x1024

/-- Values: the values, two ones, zeros. -/
def packV (x4 : FVec Ideal S4096x8x64 .f32) : FVec Ideal S4096x1024 .bf16 :=
  shapeCast S4096x1024 (concatenate S4096x8x128 2
    [⟨S4096x8x64, (truncf .bf16 x4 bitsLt_bf16_f32 : FVec Ideal S4096x8x64 .bf16)⟩,
     ⟨S4096x8x2, (truncf .bf16 (broadcastInDim S4096x8x2 ![] bcast_S_S4096x8x2 (constant (F := Ideal) S_ .f32 0x3F800000#32)) bitsLt_bf16_f32 : FVec Ideal S4096x8x2 .bf16)⟩,
     ⟨S4096x8x62, (truncf .bf16 (broadcastInDim S4096x8x62 ![] bcast_S_S4096x8x62 (constant (F := Ideal) S_ .f32 0x00000000#32)) bitsLt_bf16_f32 : FVec Ideal S4096x8x62 .bf16)⟩]
    concatenates_S4096x8x64_S4096x8x2_S4096x8x62_S4096x8x128_d2) shapeCasts_S4096x8x128_S4096x1024

/-- Cotangents: the cotangent, its negated row sum as a rounding and its rest, zeros. -/
def packD (x5 : FVec Ideal S4096x512 .f32) (d : FVec Ideal S4096x8x1 .f32) : FVec Ideal S4096x1024 .bf16 :=
  shapeCast S4096x1024 (concatenate S4096x8x128 2
    [⟨S4096x8x64, (truncf .bf16 (shapeCast S4096x8x64 x5 shapeCasts_S4096x512_S4096x8x64) bitsLt_bf16_f32 : FVec Ideal S4096x8x64 .bf16)⟩,
     ⟨S4096x8x1, (truncf .bf16 (Host.negf d) bitsLt_bf16_f32 : FVec Ideal S4096x8x1 .bf16)⟩,
     ⟨S4096x8x1, (truncf .bf16 (subf (Host.negf d) (extf .f32 (truncf .bf16 (Host.negf d) bitsLt_bf16_f32 : FVec Ideal S4096x8x1 .bf16) bitsLt_bf16_f32)) bitsLt_bf16_f32 : FVec Ideal S4096x8x1 .bf16)⟩,
     ⟨S4096x8x62, (truncf .bf16 (broadcastInDim S4096x8x62 ![] bcast_S_S4096x8x62 (constant (F := Ideal) S_ .f32 0x00000000#32)) bitsLt_bf16_f32 : FVec Ideal S4096x8x62 .bf16)⟩]
    concatenates_S4096x8x64_S4096x8x1_S4096x8x1_S4096x8x62_S4096x8x128_d2) shapeCasts_S4096x8x128_S4096x1024

section Congr
variable {α : Type} {s0 s1 s2 s3 s4 T : Shape}

theorem concat3 (n) {a a' : s0.Idx → α} {b b' : s1.Idx → α} {d d' : s2.Idx → α} (h) (ha : a = a') (hb : b = b') (hd : d = d') :
    concatenate T n [⟨s0, a⟩, ⟨s1, b⟩, ⟨s2, d⟩] h = concatenate T n [⟨s0, a'⟩, ⟨s1, b'⟩, ⟨s2, d'⟩] h := by
  subst ha hb hd; rfl
theorem concat4 (n) {a a' : s0.Idx → α} {b b' : s1.Idx → α} {d d' : s2.Idx → α} {e e' : s3.Idx → α} (h)
    (ha : a = a') (hb : b = b') (hd : d = d') (he : e = e') :
    concatenate T n [⟨s0, a⟩, ⟨s1, b⟩, ⟨s2, d⟩, ⟨s3, e⟩] h = concatenate T n [⟨s0, a'⟩, ⟨s1, b'⟩, ⟨s2, d'⟩, ⟨s3, e'⟩] h := by
  subst ha hb hd he; rfl
theorem concat5 (n) {a a' : s0.Idx → α} {b b' : s1.Idx → α} {d d' : s2.Idx → α} {e e' : s3.Idx → α} {f f' : s4.Idx → α} (h)
    (ha : a = a') (hb : b = b') (hd : d = d') (he : e = e') (hf : f = f') :
    concatenate T n [⟨s0, a⟩, ⟨s1, b⟩, ⟨s2, d⟩, ⟨s3, e⟩, ⟨s4, f⟩] h = concatenate T n [⟨s0, a'⟩, ⟨s1, b'⟩, ⟨s2, d'⟩, ⟨s3, e'⟩, ⟨s4, f'⟩] h := by
  subst ha hb hd he hf; rfl

end Congr

/-- The program's arguments on device `c`. -/
abbrev X0 : FVec Ideal S4096x8x64 .f32 := m ((c.tc : Thread nD τ).loc main_arg0)
abbrev X1 : FVec Ideal S4096x8x32 .f32 := m ((c.tc : Thread nD τ).loc main_arg1)
abbrev X2 : FVec Ideal S4096x8x64 .f32 := m ((c.tc : Thread nD τ).loc main_arg2)
abbrev X3 : FVec Ideal S4096x32 .f32 := m ((c.tc : Thread nD τ).loc main_arg3)
abbrev X4 : FVec Ideal S4096x8x64 .f32 := m ((c.tc : Thread nD τ).loc main_arg4)
abbrev X5 : FVec Ideal S4096x512 .f32 := m ((c.tc : Thread nD τ).loc main_arg5)

/-- The host's operations before the call, in one list. -/
theorem before (b : Ref sig .tc) : V m c b = StableHlo.after
    ((hostOps0 ++ (hostOps0_1 ++ (hostOps0_2 ++ (hostOps0_3 ++ (hostOps0_4 ++ []))))) : List (HloOp τ sig (Elt Ideal)))
    (fun b => m (c, b)) (Proc.devRef .tc b) := rfl

theorem KA_eq : KA m c = packK (X2 m c) (X3 m c) := by
  show V m c main_v81 = _
  rw [before]
  simp only [hostOps0,hostOps0_1,hostOps0_2,hostOps0_3,hostOps0_4, List.cons_append, List.nil_append, List.append_nil,
    StableHlo.TRef.nullary, StableHlo.TRef.ternary, StableHlo.TRef.unary, StableHlo.TRef.toBuf, StableHlo.TRef.ofBuf, cast_eq]
  after_results_simp
  refine congrArg (fun z => shapeCast S4096x1024 z shapeCasts_S4096x8x128_S4096x1024) (concat4 _ _ ?_ ?_ ?_ ?_)
  · change HloOp.result _ _ (Proc.devRef .tc main_v76) = _
    after_results_simp
    try rfl
  · change HloOp.result _ _ (Proc.devRef .tc main_v77) = _
    after_results_simp
    try rfl
  · change HloOp.result _ _ (Proc.devRef .tc main_v78) = _
    after_results_simp
    try rfl
  · change HloOp.result _ _ (Proc.devRef .tc main_v79) = _
    after_results_simp
    try rfl

theorem VA_eq : VA m c = packV (X4 m c) := by
  show V m c main_v88 = _
  rw [before]
  simp only [hostOps0,hostOps0_1,hostOps0_2,hostOps0_3,hostOps0_4, List.cons_append, List.nil_append, List.append_nil,
    StableHlo.TRef.nullary, StableHlo.TRef.ternary, StableHlo.TRef.unary, StableHlo.TRef.toBuf, StableHlo.TRef.ofBuf, cast_eq]
  after_results_simp
  refine congrArg (fun z => shapeCast S4096x1024 z shapeCasts_S4096x8x128_S4096x1024) (concat3 _ _ ?_ ?_ ?_)
  · change HloOp.result _ _ (Proc.devRef .tc main_v84) = _
    after_results_simp
    try rfl
  · change HloOp.result _ _ (Proc.devRef .tc main_v85) = _
    after_results_simp
    try rfl
  · change HloOp.result _ _ (Proc.devRef .tc main_v86) = _
    after_results_simp
    try rfl

theorem QA_eq : QA m c = packQ (X0 m c) (X1 m c) (lseV (X0 m c) (X1 m c) (X2 m c) (X3 m c)) := by
  show V m c main_v73 = _
  rw [before]
  simp only [hostOps0,hostOps0_1,hostOps0_2,hostOps0_3,hostOps0_4, List.cons_append, List.nil_append, List.append_nil,
    StableHlo.TRef.nullary, StableHlo.TRef.ternary, StableHlo.TRef.unary, StableHlo.TRef.toBuf, StableHlo.TRef.ofBuf, cast_eq]
  after_results_simp
  refine congrArg (fun z => shapeCast S4096x1024 z shapeCasts_S4096x8x128_S4096x1024) (concat5 _ _ ?_ ?_ ?_ ?_ ?_)
  · change HloOp.result _ _ (Proc.devRef .tc main_v69) = _
    after_results_simp
    try rfl
  · change HloOp.result _ _ (Proc.devRef .tc main_v70) = _
    after_results_simp
    try rfl
  · change HloOp.result _ _ (Proc.devRef .tc main_v64) = _
    after_results_simp
    try rfl
  · change HloOp.result _ _ (Proc.devRef .tc main_v67) = _
    after_results_simp
    try rfl
  · change HloOp.result _ _ (Proc.devRef .tc main_v71) = _
    after_results_simp
    try rfl

theorem DA_eq : DA m c = packD (X5 m c) (deltaV (X0 m c) (X1 m c) (X2 m c) (X3 m c) (X4 m c) (X5 m c)) := by
  show V m c main_v99 = _
  rw [before]
  simp only [hostOps0,hostOps0_1,hostOps0_2,hostOps0_3,hostOps0_4, List.cons_append, List.nil_append, List.append_nil,
    StableHlo.TRef.nullary, StableHlo.TRef.ternary, StableHlo.TRef.unary, StableHlo.TRef.toBuf, StableHlo.TRef.ofBuf, cast_eq]
  after_results_simp
  refine congrArg (fun z => shapeCast S4096x1024 z shapeCasts_S4096x8x128_S4096x1024) (concat4 _ _ ?_ ?_ ?_ ?_)
  · change HloOp.result _ _ (Proc.devRef .tc main_v96) = _
    after_results_simp
    try rfl
  · change HloOp.result _ _ (Proc.devRef .tc main_v91) = _
    after_results_simp
    try rfl
  · change HloOp.result _ _ (Proc.devRef .tc main_v94) = _
    after_results_simp
    try rfl
  · change HloOp.result _ _ (Proc.devRef .tc main_v97) = _
    after_results_simp
    try rfl

end Cert.AttnIdeal.Own
-- ==== Proof.AttnRows.lean ====
/- The reference's attention gradient, read at an index: scores, softmax and the scores' gradient of one row, as real numbers. -/
module

public import proofs.«01_k».proof.Proof.Gen.AttnRefIdeal.Read
public import proofs.«01_k».proof.Proof.Finite

@[expose] public section

set_option maxRecDepth 16384

noncomputable section

namespace Cert.AttnRefIdeal.Own

open Cert.AttnRefIdeal Cert.AttnRefIdeal.Gen Cert.AttnRefIdeal.Read Cert.Finite
open Idealize.ShloMosaic Idealize.ShloMosaic.TcCoe Idealize.ShloMosaic.Tactic Idealize.SL.Sem

theorem foldl_max_lt {ι : Type*} (l : List ι) (f : ι → EReal) (a : EReal) (ha : a < ⊤) (hf : ∀ i, f i < ⊤) :
    l.foldl (fun r n => max r (f n)) a < ⊤ := by
  induction l generalizing a with
  | nil => exact ha
  | cons i l ih => exact ih _ (max_lt ha (hf i))

theorem le_foldl_max {ι : Type*} (l : List ι) (f : ι → EReal) (a : EReal) : a ≤ l.foldl (fun r n => max r (f n)) a := by
  induction l generalizing a with
  | nil => exact le_rfl
  | cons i l ih => exact (le_max_left _ _).trans (ih _)

theorem mem_le_foldl_max {ι : Type*} (l : List ι) (f : ι → EReal) (a : EReal) (i : ι) (hi : i ∈ l) :
    f i ≤ l.foldl (fun r n => max r (f n)) a := by
  induction l generalizing a with
  | nil => cases hi
  | cons j l ih =>
    rcases List.mem_cons.1 hi with rfl | h
    · exact (le_max_right _ _).trans (le_foldl_max _ _ _)
    · exact ih _ h

/-- A maximum over an axis is a real number, if nothing in the array is `⊤` and one element of the row is real. -/
theorem isReal_reduce_max {s t u : Shape} {axes : List (Fin s.rank)} (x : s.Idx → EReal) (init : u.Idx → EReal) (h : s.ReducesTo axes t)
    (hu : 0 < u.numel) (j : t.Idx) (i : s.Idx) (hi : h.drop i = j) (hr : IsReal (x i)) (hx : ∀ i, x i < ⊤) (h0 : init (Shape.Idx.first hu) < ⊤) :
    IsReal (Host.reduce (fun a b => max a b) x init h hu j) := by
  have hlt : Host.reduce (fun a b => max a b) x init h hu j < ⊤ := foldl_max_lt _ (fun n => x (s.rowMajor.symm n)) _ h0 fun _ => hx _
  have hle : x i ≤ Host.reduce (fun a b => max a b) x init h hu j := by
    have e := mem_le_foldl_max ((List.finRange s.numel).filter fun n => h.drop (s.rowMajor.symm n) = j) (fun n => x (s.rowMajor.symm n))
      (init (Shape.Idx.first hu)) (s.rowMajor i) (by simp [hi])
    have e' : x (s.rowMajor.symm (s.rowMajor i)) ≤ Host.reduce (fun a b => max a b) x init h hu j := e
    rwa [Equiv.symm_apply_apply] at e'
  generalize Host.reduce (fun a b => max a b) x init h hu j = y at hlt hle
  obtain ⟨r, hr⟩ := hr
  rw [hr] at hle
  induction y using EReal.rec with
  | bot => simp at hle
  | coe r => exact ⟨r, rfl⟩
  | top => simp at hlt

theorem drop_row (H : Fin 8) (q k : Fin 4096) : (reducesTo_S8x4096x4096_S8x4096_d2).drop (ix3 H q k) = ix2 H q := by
  funext a
  fin_cases a <;> rfl

variable (x0 : FVec Ideal S4096x8x64 .f32) (x1 : FVec Ideal S4096x8x32 .f32) (x2 : FVec Ideal S4096x8x64 .f32) (x3 : FVec Ideal S4096x32 .f32)
    (x4 : FVec Ideal S4096x8x64 .f32) (x5 : FVec Ideal S4096x512 .f32) (H : Fin 8) (q k : Fin 4096) (d : Fin 64) (r : Fin 32)

/-- The scores' factor. -/
def scale : EReal := Ideal.ofBits .f32 0x3DD105EC#32

theorem isReal_scale : IsReal scale := by
  refine ⟨?_, ?_⟩
  rotate_left
  · unfold scale; simp [Ideal.ofBits, Ideal.ieee]; rfl

theorem ofBits_neg_inf : Ideal.ofBits .f32 0xFF800000#32 = ⊥ := by simp [Ideal.ofBits, Ideal.ieee]

/-- A score before the mask. -/
theorem score_apply : val_main_v5 (F := Ideal) x0 x1 x2 x3 (ix3 H q k)
    = (∑ x : Fin 64, x0 (ix3 q H x) * x2 (ix3 k H x) + ∑ x : Fin 32, x3 (ix2 k x) * x1 (ix3 q H x)) * scale := by
  pointwise [val_main_v5, val_main_v3, val_main_v0, val_main_v2, val_main_v1, val_main_v4, val_main_cst, scale]

theorem mask_apply : val_main_v12_1 (F := Ideal) (ix3 H q k) = if k.val ≤ q.val then 1#1 else 0#1 := by
  pointwise [val_main_v12_1, val_main_v11, val_main_v10, val_main_v9, val_main_v8, val_main_v7, val_main_v6]
  have hk := k.isLt
  have hq := q.isLt
  have e : ∀ n : ℕ, n < 4096 → (BitVec.ofNat 32 n).toInt = n := fun n hn => by
    rw [BitVec.toInt_eq_toNat_of_lt] <;> simp [BitVec.toNat_ofNat] <;> omega
  simp only [IntOp.cmpi, BitVec.sle_eq_decide, e _ hk, e _ hq]
  split <;> rename_i h <;> simp [h]

theorem masked_apply : val_main_v12_0 (F := Ideal) x0 x1 x2 x3 (ix3 H q k)
    = if k.val ≤ q.val then val_main_v5 (F := Ideal) x0 x1 x2 x3 (ix3 H q k) else ⊥ := by
  rw [val_main_v12_0_apply, mask_apply]
  have e : val_main_call0_v2 (F := Ideal) (ix3 H q k) = ⊥ := by
    pointwise [val_main_call0_v2, val_main_call0_v0, val_main_cst_0]
    exact ofBits_neg_inf
  rw [e]
  split <;> simp [Scalar.select]

theorem max_apply : val_main_v20 (F := Ideal) x0 x1 x2 x3 (ix2 H q) = val_main_v13 (F := Ideal) x0 x1 x2 x3 (ix2 H q) := by
  rw [val_main_v20_apply]
  generalize val_main_v13 (F := Ideal) x0 x1 x2 x3 (ix2 H q) = y
  have e : val_main_v19 (F := Ideal) (ix2 H q) = ⊥ := by
    pointwise [val_main_v19, val_main_cst_3]
    exact ofBits_neg_inf
  rw [e]
  exact max_eq_right bot_le

theorem expo_apply : val_main_v33 (F := Ideal) x0 x1 x2 x3 (ix3 H q k)
    = Ideal.exp (val_main_v12_0 (F := Ideal) x0 x1 x2 x3 (ix3 H q k) - val_main_v13 (F := Ideal) x0 x1 x2 x3 (ix2 H q)) := by
  rw [← max_apply]
  pointwise [val_main_v33, val_main_v32, val_main_v31, val_main_v30]

theorem prob_apply : val_main_v37 (F := Ideal) x0 x1 x2 x3 (ix3 H q k)
    = Ideal.div (val_main_v33 (F := Ideal) x0 x1 x2 x3 (ix3 H q k)) (∑ j : Fin 4096, val_main_v33 (F := Ideal) x0 x1 x2 x3 (ix3 H q j)) := by
  pointwise [val_main_v37, val_main_v36, val_main_v35, val_main_v34, val_main_cst_9]
theorem dprob_apply : val_main_v46 (F := Ideal) x4 x5 (ix3 H q k)
    = ∑ x : Fin 64, x5 (ix2 q ⟨H.val * 64 + x.val, by omega⟩) * x4 (ix3 k H x) := by
  pointwise [val_main_v46, val_main_v45, val_main_v44, val_main_v43]
theorem dscore_apply : val_main_v61 (F := Ideal) x0 x1 x2 x3 x4 x5 (ix3 H q k)
    = if k.val ≤ q.val then
        (Ideal.div (val_main_v46 (F := Ideal) x4 x5 (ix3 H q k)) (∑ j : Fin 4096, val_main_v33 (F := Ideal) x0 x1 x2 x3 (ix3 H q j))
          + -(∑ j : Fin 4096, val_main_v46 (F := Ideal) x4 x5 (ix3 H q j)
              * Ideal.div 1 ((∑ j : Fin 4096, val_main_v33 (F := Ideal) x0 x1 x2 x3 (ix3 H q j)) * ∑ j : Fin 4096, val_main_v33 (F := Ideal) x0 x1 x2 x3 (ix3 H q j))
              * val_main_v33 (F := Ideal) x0 x1 x2 x3 (ix3 H q j)))
        * val_main_v33 (F := Ideal) x0 x1 x2 x3 (ix3 H q k) else 0 := by
  rw [val_main_v61_apply, mask_apply]
  have e : val_main_call1_v0 (F := Ideal) (ix3 H q k) = 0 := by
    pointwise [val_main_call1_v0, val_main_call1_cst]
  rw [e]
  split
  · simp only [Scalar.select]
    pointwise [val_main_v60, val_main_v59, val_main_v58, val_main_v57, val_main_v56, val_main_v55, val_main_v54, val_main_v53, val_main_v52, val_main_v51, val_main_v50, val_main_v49, val_main_v40, val_main_v39, val_main_v38, val_main_v35, val_main_v34, val_main_cst_9, val_main_cst_10, val_main_cst_11, val_main_cst_12]
    simp
  · simp [Scalar.select]
theorem dv_apply : val_main_v48 (F := Ideal) x0 x1 x2 x3 x5 (ix3 k H d)
    = ∑ x : Fin 4096, x5 (ix2 x ⟨H.val * 64 + d.val, by omega⟩) * val_main_v37 (F := Ideal) x0 x1 x2 x3 (ix3 H x k) := by
  pointwise [val_main_v48, val_main_v47, val_main_v45, val_main_v44, val_main_v43]
theorem dqr_apply : val_main_v65 (F := Ideal) x0 x1 x2 x3 x4 x5 (ix3 q H r)
    = ∑ x : Fin 4096, val_main_v61 (F := Ideal) x0 x1 x2 x3 x4 x5 (ix3 H q x) * scale * x3 (ix2 x r) := by
  pointwise [val_main_v65, val_main_v64, val_main_v63, val_main_v62, val_main_cst_13, scale]
theorem dq_apply : val_main_v70 (F := Ideal) x0 x1 x2 x3 x4 x5 (ix3 q H d)
    = ∑ x : Fin 4096, val_main_v61 (F := Ideal) x0 x1 x2 x3 x4 x5 (ix3 H q x) * scale * x2 (ix3 x H d) := by
  pointwise [val_main_v70, val_main_v69, val_main_v63, val_main_v62, val_main_cst_13, scale]
theorem dk_apply : val_main_v68 (F := Ideal) x0 x1 x2 x3 x4 x5 (ix3 k H d)
    = ∑ x : Fin 4096, val_main_v61 (F := Ideal) x0 x1 x2 x3 x4 x5 (ix3 H x k) * scale * x0 (ix3 x H d) := by
  pointwise [val_main_v68, val_main_v67, val_main_v63, val_main_v62, val_main_cst_13, scale]
theorem dkr_apply : val_main_v66 (F := Ideal) x0 x1 x2 x3 x4 x5 (ix2 k r)
    = ∑ x : Fin 4096, ∑ h : Fin 8, val_main_v61 (F := Ideal) x0 x1 x2 x3 x4 x5 (ix3 h x k) * scale * x1 (ix3 x h r) := by
  pointwise [val_main_v66, val_main_v64, val_main_v63, val_main_v62, val_main_cst_13, scale]

/-! One row, as real numbers. -/
section Row

variable (hx0 : ∀ i, IsReal (x0 i)) (hx1 : ∀ i, IsReal (x1 i)) (hx2 : ∀ i, IsReal (x2 i)) (hx3 : ∀ i, IsReal (x3 i))

include hx0 hx1 hx2 hx3 in
theorem isReal_score : IsReal (val_main_v5 (F := Ideal) x0 x1 x2 x3 (ix3 H q k)) := by
  rw [score_apply]
  exact ((IsReal.sum _ fun i _ => (hx0 _).mul (hx2 _)).add (IsReal.sum _ fun i _ => (hx3 _).mul (hx1 _))).mul isReal_scale

include hx0 hx1 hx2 hx3 in
theorem isReal_max : IsReal (val_main_v13 (F := Ideal) x0 x1 x2 x3 (ix2 H q)) := by
  refine isReal_reduce_max _ _ _ _ _ (ix3 H q q) (drop_row H q q) ?_ ?_ ?_
  · rw [masked_apply, if_pos le_rfl]; exact isReal_score _ _ _ _ _ _ _ hx0 hx1 hx2 hx3
  · intro i
    have ei : i = ix3 (i 0) (i 1) (i 2) := by funext a; fin_cases a <;> rfl
    have e := (congrArg (val_main_v12_0 (F := Ideal) x0 x1 x2 x3) ei).trans (masked_apply x0 x1 x2 x3 (i 0) (i 1) (i 2))
    refine lt_of_eq_of_lt e ?_
    split
    · obtain ⟨r, hr⟩ := isReal_score x0 x1 x2 x3 (i 0) (i 1) (i 2) hx0 hx1 hx2 hx3
      exact lt_of_eq_of_lt hr (EReal.coe_lt_top r)
    · exact bot_lt_top
  · exact lt_of_eq_of_lt ofBits_neg_inf bot_lt_top

include hx0 hx1 hx2 hx3 in
/-- A row of the softmax: scores `s`, a real `μ` taken off them, and the positive sum `Z` of the exponentials. -/
theorem row : ∃ (s : Fin 4096 → ℝ) (μ : ℝ),
    (∀ k, val_main_v5 (F := Ideal) x0 x1 x2 x3 (ix3 H q k) = s k) ∧ val_main_v13 (F := Ideal) x0 x1 x2 x3 (ix2 H q) = μ
    ∧ (∀ k, val_main_v33 (F := Ideal) x0 x1 x2 x3 (ix3 H q k) = ((if k.val ≤ q.val then Real.exp (s k - μ) else 0 : ℝ) : EReal))
    ∧ 0 < ∑ k : Fin 4096, (if k.val ≤ q.val then Real.exp (s k - μ) else 0) := by
  choose s hs using fun k => isReal_score x0 x1 x2 x3 H q k hx0 hx1 hx2 hx3
  obtain ⟨μ, hμ⟩ := isReal_max x0 x1 x2 x3 H q hx0 hx1 hx2 hx3
  refine ⟨s, μ, hs, hμ, fun k => ?_, ?_⟩
  · rw [expo_apply, masked_apply, hμ]
    split
    · rw [hs, ← EReal.coe_sub, Ideal.exp_coe]
    · rw [show (⊥ : EReal) - (μ : EReal) = ⊥ from EReal.bot_sub _, Ideal.exp_bot]; rfl
  · refine Finset.sum_pos' (fun k _ => ?_) ⟨q, Finset.mem_univ q, ?_⟩
    · split
      · exact (Real.exp_pos _).le
      · exact le_rfl
    · rw [if_pos le_rfl]; exact Real.exp_pos _

end Row

/-- The scores' gradient in the reference's form and in the kernel's. -/
theorem dscore_real (n : ℕ) (E dp : Fin n → ℝ) (Z : ℝ) (hZ : 0 < Z) (k : Fin n) :
    (dp k / Z + -(∑ j, dp j * (1 / (Z * Z)) * E j)) * E k = E k / Z * (dp k - ∑ j, E j / Z * dp j) := by
  have h : ∑ j, E j / Z * dp j = Z * ∑ j, dp j * (1 / (Z * Z)) * E j := by
    rw [Finset.mul_sum]; exact Finset.sum_congr rfl fun j _ => by field_simp
  rw [h]
  generalize ∑ j, dp j * (1 / (Z * Z)) * E j = T
  field_simp
  ring

section Grad
variable (hx0 : ∀ i, IsReal (x0 i)) (hx1 : ∀ i, IsReal (x1 i)) (hx2 : ∀ i, IsReal (x2 i)) (hx3 : ∀ i, IsReal (x3 i))
  (hx4 : ∀ i, IsReal (x4 i)) (hx5 : ∀ i, IsReal (x5 i))

include hx4 hx5 in
theorem isReal_dprob : IsReal (val_main_v46 (F := Ideal) x4 x5 (ix3 H q k)) := by
  rw [dprob_apply]; exact IsReal.sum _ fun i _ => (hx5 _).mul (hx4 _)

include hx0 hx1 hx2 hx3 hx4 hx5 in
/-- A row of the gradient: probabilities `p` (of a score `s` above or at the diagonal, `exp (s - lse)`), their cotangents `dp`,
    and the scores' gradient `p * (dp - Σ p dp)`. -/
theorem grad_row : ∃ (s p dp : Fin 4096 → ℝ) (μ Z : ℝ), 0 < Z
    ∧ (∀ k, val_main_v5 (F := Ideal) x0 x1 x2 x3 (ix3 H q k) = s k) ∧ val_main_v13 (F := Ideal) x0 x1 x2 x3 (ix2 H q) = μ
    ∧ (∑ k : Fin 4096, val_main_v33 (F := Ideal) x0 x1 x2 x3 (ix3 H q k)) = (Z : EReal)
    ∧ (∀ k, p k = if k.val ≤ q.val then Real.exp (s k - (μ + Real.log Z)) else 0)
    ∧ (∀ k, val_main_v37 (F := Ideal) x0 x1 x2 x3 (ix3 H q k) = p k)
    ∧ (∀ k, val_main_v46 (F := Ideal) x4 x5 (ix3 H q k) = dp k)
    ∧ (∀ k, val_main_v61 (F := Ideal) x0 x1 x2 x3 x4 x5 (ix3 H q k) = ((p k * (dp k - ∑ j, p j * dp j) : ℝ) : EReal)) := by
  obtain ⟨s, μ, hs, hμ, hE, hZ⟩ := row x0 x1 x2 x3 H q hx0 hx1 hx2 hx3
  choose dp hdp using fun k => isReal_dprob x4 x5 H q k hx4 hx5
  set E : Fin 4096 → ℝ := fun k => if k.val ≤ q.val then Real.exp (s k - μ) else 0 with hEdef
  have hsum : (∑ k : Fin 4096, val_main_v33 (F := Ideal) x0 x1 x2 x3 (ix3 H q k)) = ((∑ k, E k : ℝ) : EReal) := by
    rw [coe_sum]; exact Finset.sum_congr rfl fun k _ => hE k
  have hZ' : 0 < ∑ k, E k := hZ
  generalize (∑ k, E k) = Z at hsum hZ'
  refine ⟨s, fun k => E k / Z, dp, μ, Z, hZ', hs, hμ, hsum, fun k => ?_, fun k => ?_, hdp, fun k => ?_⟩
  · simp only [hEdef]
    split
    · rw [← sub_sub, Real.exp_sub (s k - μ), Real.exp_log hZ']
    · exact zero_div _
  · rw [prob_apply, hsum, hE, Ideal.div_coe hZ'.ne']
    show ((E k : ℝ) : EReal) * _ = _
    rw [← EReal.coe_mul, mul_one_div]
  · rw [dscore_apply, hsum, hE, hdp, Ideal.div_coe hZ'.ne']
    have e1 : (∑ j : Fin 4096, val_main_v46 (F := Ideal) x4 x5 (ix3 H q j) * Ideal.div 1 ((Z : EReal) * (Z : EReal))
        * val_main_v33 (F := Ideal) x0 x1 x2 x3 (ix3 H q j)) = ((∑ j, dp j * (1 / (Z * Z)) * E j : ℝ) : EReal) := by
      rw [coe_sum]
      refine Finset.sum_congr rfl fun j _ => ?_
      rw [hdp, hE, ← EReal.coe_mul, Ideal.div_coe (mul_pos hZ' hZ').ne', one_mul]
      push_cast
      rfl
    rw [e1]
    have e2 := dscore_real 4096 E dp Z hZ' k
    show (if k.val ≤ q.val then ((dp k : EReal) * ((1 / Z : ℝ) : EReal) + -((∑ j, dp j * (1 / (Z * Z)) * E j : ℝ) : EReal)) * ((E k : ℝ) : EReal) else 0) = _
    rw [← EReal.coe_mul, ← EReal.coe_neg, ← EReal.coe_add, ← EReal.coe_mul, mul_one_div, e2]
    split
    · rfl
    · rename_i h
      have : E k = 0 := if_neg h
      show (0 : EReal) = ((E k / Z * (dp k - ∑ j, E j / Z * dp j) : ℝ) : EReal)
      rw [this]; simp

end Grad

end Cert.AttnRefIdeal.Own
-- ==== Proof.AttnEntries.lean ====
/- The packed arrays read lane by lane, and what the call's two inner products over a head's 128 lanes are. -/
module

public import proofs.«01_k».proof.Proof.AttnPack
public import proofs.«01_k».proof.Proof.AttnRows

@[expose] public section

set_option maxRecDepth 16384

noncomputable section

namespace Cert.AttnIdeal.Own

open Cert.AttnIdeal.Gen Cert.Finite
open Cert.AttnRefIdeal.Own (scale isReal_scale)
open Cert.AttnRefIdeal.Read
open Idealize.ShloMosaic Idealize.ShloMosaic.TcCoe Idealize.ShloMosaic.Tactic Idealize.SL.Sem

/-- The head of a group's member. -/
def hd (g : Fin 2) (h : Fin 4) : Fin 8 := ⟨4 * g.1 + h.1, by omega⟩

theorem cast_col (X : S4096x8x128.Idx → EReal) (e) (q : Fin 4096) (g h) (a : Fin 128) :
    shapeCast S4096x1024 X e (ix2 q (col g h a)) = X (ix3 q (hd g h) a) := by
  pointwise []
  congr 2 <;> (apply Fin.ext; simp only [col, hd]; omega)

section Lanes
variable (x0 : FVec Ideal S4096x8x64 .f32) (x1 : FVec Ideal S4096x8x32 .f32) (x2 : FVec Ideal S4096x8x64 .f32) (x3 : FVec Ideal S4096x32 .f32)
    (x4 : FVec Ideal S4096x8x64 .f32) (x5 : FVec Ideal S4096x512 .f32) (l : FVec Ideal S4096x8x1 .f32)
    (q : Fin 4096) (g : Fin 2) (h : Fin 4) (d : Fin 64) (r : Fin 32)

theorem packQ_nope : packQ x0 x1 l (ix2 q (col g h ⟨d.1, by omega⟩)) = x0 (ix3 q (hd g h) d) * scale := by
  rw [packQ, cast_col]; pointwise [scale]
theorem packQ_rope : packQ x0 x1 l (ix2 q (col g h ⟨64 + r.1, by omega⟩)) = x1 (ix3 q (hd g h) r) * scale := by
  rw [packQ, cast_col]; pointwise [scale]
theorem packQ_hi : packQ x0 x1 l (ix2 q (col g h ⟨96, by omega⟩)) = -l (ix3 q (hd g h) 0) := by
  rw [packQ, cast_col]; pointwise []
theorem packQ_lo : packQ x0 x1 l (ix2 q (col g h ⟨97, by omega⟩)) = -l (ix3 q (hd g h) 0) - -l (ix3 q (hd g h) 0) := by
  rw [packQ, cast_col]; pointwise []
theorem packQ_zero (i : Fin 30) : packQ x0 x1 l (ix2 q (col g h ⟨98 + i.1, by omega⟩)) = 0 := by
  rw [packQ, cast_col]; pointwise []
  repeat rw [dif_neg (by omega)]

theorem packK_nope : packK x2 x3 (ix2 q (col g h ⟨d.1, by omega⟩)) = x2 (ix3 q (hd g h) d) := by
  rw [packK, cast_col]; pointwise []
theorem packK_rope : packK x2 x3 (ix2 q (col g h ⟨64 + r.1, by omega⟩)) = x3 (ix2 q r) := by
  rw [packK, cast_col]; pointwise []
theorem packK_hi : packK x2 x3 (ix2 q (col g h ⟨96, by omega⟩)) = 1 := by
  rw [packK, cast_col]; pointwise []
theorem packK_lo : packK x2 x3 (ix2 q (col g h ⟨97, by omega⟩)) = 1 := by
  rw [packK, cast_col]; pointwise []
theorem packK_zero (i : Fin 30) : packK x2 x3 (ix2 q (col g h ⟨98 + i.1, by omega⟩)) = 0 := by
  rw [packK, cast_col]; pointwise []
  repeat rw [dif_neg (by omega)]

theorem packV_val : packV x4 (ix2 q (col g h ⟨d.1, by omega⟩)) = x4 (ix3 q (hd g h) d) := by
  rw [packV, cast_col]; pointwise []
theorem packV_hi : packV x4 (ix2 q (col g h ⟨64, by omega⟩)) = 1 := by
  rw [packV, cast_col]; pointwise []
theorem packV_lo : packV x4 (ix2 q (col g h ⟨65, by omega⟩)) = 1 := by
  rw [packV, cast_col]; pointwise []
theorem packV_zero (i : Fin 62) : packV x4 (ix2 q (col g h ⟨66 + i.1, by omega⟩)) = 0 := by
  rw [packV, cast_col]; pointwise []
  repeat rw [dif_neg (by omega)]

theorem packD_val : packD x5 l (ix2 q (col g h ⟨d.1, by omega⟩)) = x5 (ix2 q ⟨(hd g h).1 * 64 + d.1, by omega⟩) := by
  rw [packD, cast_col]; pointwise []
theorem packD_hi : packD x5 l (ix2 q (col g h ⟨64, by omega⟩)) = -l (ix3 q (hd g h) 0) := by
  rw [packD, cast_col]; pointwise []
theorem packD_lo : packD x5 l (ix2 q (col g h ⟨65, by omega⟩)) = -l (ix3 q (hd g h) 0) - -l (ix3 q (hd g h) 0) := by
  rw [packD, cast_col]; pointwise []
theorem packD_zero (i : Fin 62) : packD x5 l (ix2 q (col g h ⟨66 + i.1, by omega⟩)) = 0 := by
  rw [packD, cast_col]; pointwise []
  repeat rw [dif_neg (by omega)]

end Lanes

/-- A sum over 128 lanes in the queries' and keys' pieces, -/
theorem sum_qk (f : Fin 128 → EReal) : (∑ a, f a) = (∑ d : Fin 64, f ⟨d.1, by omega⟩) + (∑ r : Fin 32, f ⟨64 + r.1, by omega⟩)
    + f ⟨96, by omega⟩ + f ⟨97, by omega⟩ + ∑ i : Fin 30, f ⟨98 + i.1, by omega⟩ := by
  have e1 := Fin.sum_univ_add (a := 64) (b := 64) f
  have e2 := Fin.sum_univ_add (a := 32) (b := 32) fun i : Fin 64 => f (Fin.natAdd 64 i)
  have e3 := Fin.sum_univ_add (a := 2) (b := 30) fun i : Fin 32 => f (Fin.natAdd 64 (Fin.natAdd 32 i))
  rw [Fin.sum_univ_two] at e3
  rw [e1, e2, e3]
  simp only [← add_assoc]
  have e : ∀ i : Fin 30, (Fin.natAdd 64 (Fin.natAdd 32 (Fin.natAdd 2 i)) : Fin 128) = ⟨98 + i.1, by omega⟩ := fun i => by
    apply Fin.ext; simp; omega
  simp only [e]
  rfl

/-- and in the values' and cotangents'. -/
theorem sum_vd (f : Fin 128 → EReal) : (∑ a, f a) = (∑ d : Fin 64, f ⟨d.1, by omega⟩)
    + f ⟨64, by omega⟩ + f ⟨65, by omega⟩ + ∑ i : Fin 62, f ⟨66 + i.1, by omega⟩ := by
  have e1 := Fin.sum_univ_add (a := 64) (b := 64) f
  have e3 := Fin.sum_univ_add (a := 2) (b := 62) fun i : Fin 64 => f (Fin.natAdd 64 i)
  rw [Fin.sum_univ_two] at e3
  rw [e1, e3]
  simp only [← add_assoc]
  have e : ∀ i : Fin 62, (Fin.natAdd 64 (Fin.natAdd 2 i) : Fin 128) = ⟨66 + i.1, by omega⟩ := fun i => by
    apply Fin.ext; simp; omega
  simp only [e]
  rfl

/-- A row's log-sum from any scores and any row maximum. -/
def lseOf (S : FVec Ideal S8x4096x4096 .f32) (M : FVec Ideal S8x4096 .f32) : FVec Ideal S4096x8x1 .f32 :=
  broadcastInDim S4096x8x1 ![0, 1] bcast_S4096x8_S4096x8x1_0_1 (transpose S4096x8 [1, 0] (shapeCast S8x4096
    (addf (broadcastInDim S8x4096x1 ![0, 1] bcast_S8x4096_S8x4096x1_0_1 M)
      (Host.log (broadcastInDim S8x4096x1 ![0, 1] bcast_S8x4096_S8x4096x1_0_1 (Host.reduceAdd (F := Ideal)
        (Host.exp (subf S (broadcastInDim S8x4096x4096 ![0, 1, 2] bcast_S8x4096x1_S8x4096x4096_0_1_2
          (broadcastInDim S8x4096x1 ![0, 1] bcast_S8x4096_S8x4096x1_0_1 M))))
        (constant S_ .f32 0x00000000#32) reducesTo_S8x4096x4096_S8x4096_d2 h_S_)))) shapeCasts_S8x4096x1_S8x4096)
    transposes_S8x4096_S4096x8_1_0)

theorem lseOf_apply (S : FVec Ideal S8x4096x4096 .f32) (M : FVec Ideal S8x4096 .f32) (q : Fin 4096) (H : Fin 8) :
    lseOf S M (ix3 q H 0) = M (ix2 H q) + Ideal.log (∑ k : Fin 4096, Ideal.exp (S (ix3 H q k) - M (ix2 H q))) := by
  pointwise [lseOf]

/-- A row's sum of cotangent times output from any probabilities. -/
def deltaOf (P : FVec Ideal S8x4096x4096 .f32) (x4 : FVec Ideal S4096x8x64 .f32) (x5 : FVec Ideal S4096x512 .f32) : FVec Ideal S4096x8x1 .f32 :=
  broadcastInDim S4096x8x1 ![0, 1] bcast_S4096x8_S4096x8x1_0_1 (Host.reduceAdd (F := Ideal)
    (mulf (shapeCast S4096x8x64 x5 shapeCasts_S4096x512_S4096x8x64) (shapeCast S4096x8x64 (shapeCast S4096x512
      (transpose S4096x8x64 [2, 0, 1] (Host.dotGeneral (F := Ideal) (φ₂ := .f32) dot_S4096x8x64_S8x4096x4096_S8x64x4096_0_2_2_1_1_0 none x4 P)
        transposes_S8x64x4096_S4096x8x64_2_0_1)
      shapeCasts_S4096x8x64_S4096x512) shapeCasts_S4096x512_S4096x8x64))
    (constant S_ .f32 0x00000000#32) reducesTo_S4096x8x64_S4096x8_d2 h_S_)

theorem deltaOf_apply (P : FVec Ideal S8x4096x4096 .f32) (x4 : FVec Ideal S4096x8x64 .f32) (x5 : FVec Ideal S4096x512 .f32) (q : Fin 4096) (H : Fin 8) :
    deltaOf P x4 x5 (ix3 q H 0) = ∑ d : Fin 64, x5 (ix2 q ⟨H.1 * 64 + d.1, by omega⟩) * ∑ k : Fin 4096, x4 (ix3 k H d) * P (ix3 H q k) := by
  pointwise [deltaOf]

/-- A real factor goes out of a sum of real numbers. -/
theorem sum_mul_real {ι : Type*} (t : Finset ι) (f : ι → EReal) (y : EReal) (hf : ∀ i, IsReal (f i)) (hy : IsReal y) :
    (∑ i ∈ t, f i * y) = (∑ i ∈ t, f i) * y := by
  obtain ⟨r, rfl⟩ := hy
  choose F hF using hf
  simp only [hF, ← EReal.coe_mul, ← coe_sum, Finset.sum_mul]

section Row
variable (m : (ℓ : Loc nD τ sig) → Buf (Elt Ideal) ℓ) (c : Dev nD)
  (hx0 : ∀ i, IsReal (X0 m c i)) (hx1 : ∀ i, IsReal (X1 m c i)) (hx2 : ∀ i, IsReal (X2 m c i)) (hx3 : ∀ i, IsReal (X3 m c i))
  (hx4 : ∀ i, IsReal (X4 m c i)) (hx5 : ∀ i, IsReal (X5 m c i)) (g : Fin 2) (h : Fin 4) (q : Fin 4096)

/-- The row's log-sum, from what the row's softmax is. -/
theorem lse_eq (H : Fin 8) (μ Z : ℝ) (hZ : 0 < Z) (hμ : val_main_v13 (F := Ideal) (X0 m c) (X1 m c) (X2 m c) (X3 m c) (ix2 H q) = μ)
    (hS : (∑ k : Fin 4096, val_main_v33 (F := Ideal) (X0 m c) (X1 m c) (X2 m c) (X3 m c) (ix3 H q k)) = (Z : EReal)) :
    lseV (X0 m c) (X1 m c) (X2 m c) (X3 m c) (ix3 q H 0) = ((μ + Real.log Z : ℝ) : EReal) := by
  have e : lseV (X0 m c) (X1 m c) (X2 m c) (X3 m c) = lseOf (val_main_v12_0 (F := Ideal) (X0 m c) (X1 m c) (X2 m c) (X3 m c)) (val_main_v13 (F := Ideal) (X0 m c) (X1 m c) (X2 m c) (X3 m c)) := rfl
  rw [e, lseOf_apply]
  rw [Finset.sum_congr rfl fun k _ => (Cert.AttnRefIdeal.Own.expo_apply (X0 m c) (X1 m c) (X2 m c) (X3 m c) H q k).symm]
  rw [hS, hμ, Ideal.log_coe, if_neg (not_le.2 hZ), ← EReal.coe_add]

/-- The inner product of a key's and a query's lanes: the score less the row's log-sum. -/
theorem qk_eq (k : Fin 4096) (hx0 : ∀ i, IsReal (X0 m c i)) (hx1 : ∀ i, IsReal (X1 m c i)) (hx2 : ∀ i, IsReal (X2 m c i)) (hx3 : ∀ i, IsReal (X3 m c i)) (s L : ℝ)
    (hs : val_main_v5 (F := Ideal) (X0 m c) (X1 m c) (X2 m c) (X3 m c) (ix3 (hd g h) q k) = s)
    (hL : lseV (X0 m c) (X1 m c) (X2 m c) (X3 m c) (ix3 q (hd g h) 0) = L) :
    (∑ a : Fin 128, KA m c (ix2 k (col g h a)) * QA m c (ix2 q (col g h a))) = ((s - L : ℝ) : EReal) := by
  rw [KA_eq, QA_eq, sum_qk]
  simp only [packK_nope, packK_rope, packK_hi, packK_lo, packK_zero, packQ_nope, packQ_rope, packQ_hi, packQ_lo, packQ_zero, hL]
  have e1 : (∑ d : Fin 64, X2 m c (ix3 k (hd g h) d) * (X0 m c (ix3 q (hd g h) d) * scale))
      = (∑ d : Fin 64, X0 m c (ix3 q (hd g h) d) * X2 m c (ix3 k (hd g h) d)) * scale := by
    rw [← sum_mul_real _ _ _ (fun i => (hx0 _).mul (hx2 _)) isReal_scale]
    exact Finset.sum_congr rfl fun d _ => by rw [← mul_assoc, mul_comm (X2 m c _)]
  have e2 : (∑ r : Fin 32, X3 m c (ix2 k r) * (X1 m c (ix3 q (hd g h) r) * scale))
      = (∑ r : Fin 32, X3 m c (ix2 k r) * X1 m c (ix3 q (hd g h) r)) * scale := by
    rw [← sum_mul_real _ _ _ (fun i => (hx3 _).mul (hx1 _)) isReal_scale]
    exact Finset.sum_congr rfl fun d _ => by rw [← mul_assoc]
  rw [e1, e2]
  rw [Cert.AttnRefIdeal.Own.score_apply] at hs
  obtain ⟨A, hA⟩ : IsReal (∑ d : Fin 64, X0 m c (ix3 q (hd g h) d) * X2 m c (ix3 k (hd g h) d)) := IsReal.sum _ fun i _ => (hx0 _).mul (hx2 _)
  obtain ⟨B, hB⟩ : IsReal (∑ r : Fin 32, X3 m c (ix2 k r) * X1 m c (ix3 q (hd g h) r)) := IsReal.sum _ fun i _ => (hx3 _).mul (hx1 _)
  obtain ⟨C, hC⟩ := isReal_scale
  rw [hA, hB, hC] at hs ⊢
  have hs' : (A + B) * C = s := EReal.coe_eq_coe_iff.1 (by rw [EReal.coe_mul, EReal.coe_add]; exact hs)
  rw [← hs']
  clear hs hs' hL hA hB hC e1 e2
  simp only [mul_zero, Finset.sum_const_zero, add_zero, one_mul]
  simp only [← EReal.coe_mul, ← EReal.coe_neg, ← EReal.coe_sub, ← EReal.coe_add, EReal.coe_eq_coe_iff]
  ring

/-- The row's sum of cotangent times output. -/
theorem delta_eq (H : Fin 8) (hx4 : ∀ i, IsReal (X4 m c i)) (hx5 : ∀ i, IsReal (X5 m c i)) (p dp : Fin 4096 → ℝ)
    (hp : ∀ k, val_main_v37 (F := Ideal) (X0 m c) (X1 m c) (X2 m c) (X3 m c) (ix3 H q k) = p k)
    (hdp : ∀ k, val_main_v46 (F := Ideal) (X4 m c) (X5 m c) (ix3 H q k) = dp k) :
    deltaV (X0 m c) (X1 m c) (X2 m c) (X3 m c) (X4 m c) (X5 m c) (ix3 q H 0) = ((∑ k, p k * dp k : ℝ) : EReal) := by
  have e : deltaV (X0 m c) (X1 m c) (X2 m c) (X3 m c) (X4 m c) (X5 m c) = deltaOf (val_main_v37 (F := Ideal) (X0 m c) (X1 m c) (X2 m c) (X3 m c)) (X4 m c) (X5 m c) := rfl
  rw [e, deltaOf_apply]
  choose v hv using hx4
  choose w hw using hx5
  simp only [Cert.AttnRefIdeal.Own.dprob_apply, hv, hw, ← EReal.coe_mul, ← coe_sum, EReal.coe_eq_coe_iff] at hdp
  simp only [hp, hv, hw, ← EReal.coe_mul, ← coe_sum, EReal.coe_eq_coe_iff]
  simp only [← hdp, Finset.mul_sum]
  rw [Finset.sum_comm]
  exact Finset.sum_congr rfl fun k _ => Finset.sum_congr rfl fun d _ => by ring

/-- The inner product of a value's and a cotangent's lanes: the probability's cotangent less the row's sum. -/
theorem vd_eq (k : Fin 4096) (dp D : ℝ)
    (hdp : val_main_v46 (F := Ideal) (X4 m c) (X5 m c) (ix3 (hd g h) q k) = dp)
    (hD : deltaV (X0 m c) (X1 m c) (X2 m c) (X3 m c) (X4 m c) (X5 m c) (ix3 q (hd g h) 0) = D) :
    DD m c g h k q = ((dp - D : ℝ) : EReal) := by
  rw [DD, VA_eq, DA_eq, sum_vd]
  simp only [packV_val, packV_hi, packV_lo, packV_zero, packD_val, packD_hi, packD_lo, packD_zero, hD]
  rw [Cert.AttnRefIdeal.Own.dprob_apply] at hdp
  have e : (∑ d : Fin 64, X4 m c (ix3 k (hd g h) d) * X5 m c (ix2 q ⟨(hd g h).1 * 64 + d.1, by omega⟩)) = dp := by
    rw [← hdp]; exact Finset.sum_congr rfl fun d _ => mul_comm _ _
  rw [e]
  simp only [mul_zero, Finset.sum_const_zero, add_zero, one_mul]
  norm_cast
  ring

include hx0 hx1 hx2 hx3 hx4 hx5 in
/-- The kernel's probabilities and scores' gradient are the reference's, and all are real numbers. -/
theorem same_row : ∃ p ds : Fin 4096 → ℝ, ∀ k : Fin 4096,
    PA m c g h k q = p k ∧ val_main_v37 (F := Ideal) (X0 m c) (X1 m c) (X2 m c) (X3 m c) (ix3 (hd g h) q k) = p k
    ∧ PA m c g h k q * DD m c g h k q = ds k
    ∧ val_main_v61 (F := Ideal) (X0 m c) (X1 m c) (X2 m c) (X3 m c) (X4 m c) (X5 m c) (ix3 (hd g h) q k) = ds k := by
  obtain ⟨s, p, dp, μ, Z, hZ, hs, hμ, hS, hpd, hp, hdp, hds⟩ :=
    Cert.AttnRefIdeal.Own.grad_row (X0 m c) (X1 m c) (X2 m c) (X3 m c) (X4 m c) (X5 m c) (hd g h) q hx0 hx1 hx2 hx3 hx4 hx5
  have hL := lse_eq m c q (hd g h) μ Z hZ hμ hS
  have hD := delta_eq m c q (hd g h) hx4 hx5 p dp hp hdp
  have hP : ∀ k, PA m c g h k q = p k := fun k => by
    rw [PA, qk_eq m c g h q k hx0 hx1 hx2 hx3 _ _ (hs k) hL, hpd]
    by_cases hk : k.val ≤ q.val
    · rw [if_pos hk, if_pos hk, Ideal.exp_coe]
    · rw [if_neg hk, if_neg hk]; rfl
  refine ⟨p, fun k => p k * (dp k - ∑ j, p j * dp j), fun k => ⟨hP k, hp k, ?_, hds k⟩⟩
  rw [hP, vd_eq m c g h q k _ _ (hdp k) hD, ← EReal.coe_mul]

end Row

end Cert.AttnIdeal.Own
-- ==== Proof.AttnResult.lean ====
/- The attention's gradients: what the kernel's program returns is what the reference returns. -/
module

public import proofs.«01_k».proof.Proof.AttnEntries

@[expose] public section

set_option maxRecDepth 16384

noncomputable section

namespace Cert.AttnIdeal.Own

open Cert.AttnIdeal.Gen Cert.Finite
open Cert.AttnRefIdeal.Own (scale isReal_scale)
open Cert.AttnRefIdeal.Read
open Idealize.ShloMosaic Idealize.ShloMosaic.TcCoe Idealize.ShloMosaic.Tactic Idealize.SL.Sem

theorem hd_surj (H : Fin 8) : ∃ g h, H = hd g h :=
  ⟨⟨H.1 / 4, by omega⟩, ⟨H.1 % 4, by omega⟩, by apply Fin.ext; simp only [hd]; omega⟩

theorem uncast_col (X : S4096x1024.Idx → EReal) (e) (q : Fin 4096) (g h) (a : Fin 128) :
    shapeCast S4096x8x128 X e (ix3 q (hd g h) a) = X (ix2 q (col g h a)) := by
  pointwise []
  congr 2; apply Fin.ext; simp only [col, hd]; omega

section Tail
variable (R : FVec Ideal S4096x1024 .f32) (T : FVec Ideal S4096x1024 .bf16) (q : Fin 4096) (g : Fin 2) (h : Fin 4) (d : Fin 64) (r : Fin 32)

/-- The returned gradients from the call's arrays: the queries' rows times the scale, -/
def scaled : FVec Ideal S4096x8x128 .f32 :=
  mulf (shapeCast S4096x8x128 R shapeCasts_S4096x1024_S4096x8x128) (broadcastInDim S4096x8x128 ![] bcast_S_S4096x8x128 (constant (F := Ideal) S_ .f32 0x3DD105EC#32))
def nopeQ : FVec Ideal S4096x8x64 .f32 := extractStridedSlice S4096x8x64 ![0, 0, 0] (scaled R) slices_S4096x8x128_S4096x8x64_0_0_0
def ropeQ : FVec Ideal S4096x8x32 .f32 := extractStridedSlice S4096x8x32 ![0, 0, 64] (scaled R) slices_S4096x8x128_S4096x8x32_0_0_64
/-- the keys' and values' rows, -/
def nopeK : FVec Ideal S4096x8x64 .f32 :=
  extractStridedSlice S4096x8x64 ![0, 0, 0] (extf .f32 (shapeCast S4096x8x128 T shapeCasts_S4096x1024_S4096x8x128) bitsLt_bf16_f32) slices_S4096x8x128_S4096x8x64_0_0_0
/-- and the shared keys' rotated columns, summed over the heads. -/
def ropeK : FVec Ideal S4096x32 .f32 :=
  Host.reduceAdd (extractStridedSlice S4096x8x32 ![0, 0, 64] (extf .f32 (shapeCast S4096x8x128 T shapeCasts_S4096x1024_S4096x8x128) bitsLt_bf16_f32) slices_S4096x8x128_S4096x8x32_0_0_64)
    (constant (F := Ideal) S_ .f32 0x00000000#32) reducesTo_S4096x8x32_S4096x32_d1 h_S_

theorem nopeQ_apply : nopeQ R (ix3 q (hd g h) d) = R (ix2 q (col g h ⟨d.1, by omega⟩)) * scale := by
  rw [← uncast_col R shapeCasts_S4096x1024_S4096x8x128]; pointwise [nopeQ, scaled, scale]
theorem ropeQ_apply : ropeQ R (ix3 q (hd g h) r) = R (ix2 q (col g h ⟨64 + r.1, by omega⟩)) * scale := by
  rw [← uncast_col R shapeCasts_S4096x1024_S4096x8x128]; pointwise [ropeQ, scaled, scale]
theorem nopeK_apply : nopeK T (ix3 q (hd g h) d) = T (ix2 q (col g h ⟨d.1, by omega⟩)) := by
  rw [← uncast_col T shapeCasts_S4096x1024_S4096x8x128]; pointwise [nopeK]
theorem ropeK_apply : ropeK T (ix2 q r) = ∑ H : Fin 8, shapeCast S4096x8x128 T shapeCasts_S4096x1024_S4096x8x128 (ix3 q H ⟨64 + r.1, by omega⟩) := by
  pointwise [ropeK]

end Tail

variable (m : (ℓ : Loc nD τ sig) → Buf (Elt Ideal) ℓ) (c : Dev nD)

/-- What the host's last lines leave in a buffer. -/
abbrev tail (b : Ref sig .tc) := Pipeline.afterTail₀ cfgs (dats m) 0 (V0 m) [hostOps1] c b

theorem tail_v108 : tail m c main_v108 = nopeQ (resQ m c) := by
  unfold tail Pipeline.afterTail₀
  simp only [hostOps1, List.flatten_cons, List.flatten_nil, List.append_nil]
  after_results_simp
  refine congrArg nopeQ (Eq.trans ?_ (final4 m c))
  exact Pipeline.withArrays_arr spec0 (by decide) c _ _ 4
theorem tail_v109 : tail m c main_v109 = ropeQ (resQ m c) := by
  unfold tail Pipeline.afterTail₀
  simp only [hostOps1, List.flatten_cons, List.flatten_nil, List.append_nil]
  after_results_simp
  refine congrArg ropeQ (Eq.trans ?_ (final4 m c))
  exact Pipeline.withArrays_arr spec0 (by decide) c _ _ 4
theorem tail_v110 : tail m c main_v110 = nopeK (resK m c) := by
  unfold tail Pipeline.afterTail₀
  simp only [hostOps1, List.flatten_cons, List.flatten_nil, List.append_nil]
  after_results_simp
  refine congrArg nopeK (Eq.trans ?_ (final5 m c))
  exact Pipeline.withArrays_arr spec0 (by decide) c _ _ 5
theorem tail_v112 : tail m c main_v112 = ropeK (resK m c) := by
  unfold tail Pipeline.afterTail₀
  simp only [hostOps1, List.flatten_cons, List.flatten_nil, List.append_nil]
  after_results_simp
  refine congrArg ropeK (Eq.trans ?_ (final5 m c))
  exact Pipeline.withArrays_arr spec0 (by decide) c _ _ 5
theorem tail_v113 : tail m c main_v113 = nopeK (resV m c) := by
  unfold tail Pipeline.afterTail₀
  simp only [hostOps1, List.flatten_cons, List.flatten_nil, List.append_nil]
  after_results_simp
  refine congrArg nopeK (Eq.trans ?_ (final6 m c))
  exact Pipeline.withArrays_arr spec0 (by decide) c _ _ 6

variable (hx0 : ∀ i, IsReal (X0 m c i)) (hx1 : ∀ i, IsReal (X1 m c i)) (hx2 : ∀ i, IsReal (X2 m c i)) (hx3 : ∀ i, IsReal (X3 m c i))
  (hx4 : ∀ i, IsReal (X4 m c i)) (hx5 : ∀ i, IsReal (X5 m c i))
include hx0 hx1 hx2 hx3 hx4 hx5

/-- One pair's weight and its score's gradient, the call's and the reference's. -/
theorem same_prob (g h q k) : PA m c g h k q = val_main_v37 (F := Ideal) (X0 m c) (X1 m c) (X2 m c) (X3 m c) (ix3 (hd g h) q k) := by
  obtain ⟨p, ds, e⟩ := same_row m c hx0 hx1 hx2 hx3 hx4 hx5 g h q
  rw [(e k).1, (e k).2.1]
theorem same_grad (g h q k) : PA m c g h k q * DD m c g h k q
    = val_main_v61 (F := Ideal) (X0 m c) (X1 m c) (X2 m c) (X3 m c) (X4 m c) (X5 m c) (ix3 (hd g h) q k) := by
  obtain ⟨p, ds, e⟩ := same_row m c hx0 hx1 hx2 hx3 hx4 hx5 g h q
  rw [(e k).2.2.1, (e k).2.2.2]
theorem isReal_grad (g h q k) : IsReal (val_main_v61 (F := Ideal) (X0 m c) (X1 m c) (X2 m c) (X3 m c) (X4 m c) (X5 m c) (ix3 (hd g h) q k)) := by
  obtain ⟨p, ds, e⟩ := same_row m c hx0 hx1 hx2 hx3 hx4 hx5 g h q
  rw [(e k).2.2.2]; exact isReal_coe _

theorem dq_nope : nopeQ (resQ m c) = val_main_v70 (F := Ideal) (X0 m c) (X1 m c) (X2 m c) (X3 m c) (X4 m c) (X5 m c) := by
  funext j; idx_vars j
  obtain ⟨g, h, rfl⟩ := hd_surj j1
  rw [nopeQ_apply, resQ_apply, Cert.AttnRefIdeal.Own.dq_apply,
    ← sum_mul_real _ _ _ (fun k => ?_) isReal_scale]
  · refine Finset.sum_congr rfl fun k _ => ?_
    rw [same_grad m c hx0 hx1 hx2 hx3 hx4 hx5, KA_eq, packK_nope, mul_assoc, mul_comm (X2 m c _) scale, ← mul_assoc]
  · rw [same_grad m c hx0 hx1 hx2 hx3 hx4 hx5, KA_eq, packK_nope]
    exact (isReal_grad m c hx0 hx1 hx2 hx3 hx4 hx5 _ _ _ _).mul (hx2 _)

theorem dq_rope : ropeQ (resQ m c) = val_main_v65 (F := Ideal) (X0 m c) (X1 m c) (X2 m c) (X3 m c) (X4 m c) (X5 m c) := by
  funext j; idx_vars j
  obtain ⟨g, h, rfl⟩ := hd_surj j1
  rw [ropeQ_apply, resQ_apply, Cert.AttnRefIdeal.Own.dqr_apply,
    ← sum_mul_real _ _ _ (fun k => ?_) isReal_scale]
  · refine Finset.sum_congr rfl fun k _ => ?_
    rw [same_grad m c hx0 hx1 hx2 hx3 hx4 hx5, KA_eq, packK_rope, mul_assoc, mul_comm (X3 m c _) scale, ← mul_assoc]
  · rw [same_grad m c hx0 hx1 hx2 hx3 hx4 hx5, KA_eq, packK_rope]
    exact (isReal_grad m c hx0 hx1 hx2 hx3 hx4 hx5 _ _ _ _).mul (hx3 _)

theorem dk_nope : nopeK (resK m c) = val_main_v68 (F := Ideal) (X0 m c) (X1 m c) (X2 m c) (X3 m c) (X4 m c) (X5 m c) := by
  funext j; idx_vars j
  obtain ⟨g, h, rfl⟩ := hd_surj j1
  rw [nopeK_apply, resK_apply, Cert.AttnRefIdeal.Own.dk_apply]
  refine Finset.sum_congr rfl fun q _ => ?_
  rw [same_grad m c hx0 hx1 hx2 hx3 hx4 hx5, QA_eq, packQ_nope, mul_assoc, mul_comm (X0 m c _) scale]

theorem dk_rope : ropeK (resK m c) = val_main_v66 (F := Ideal) (X0 m c) (X1 m c) (X2 m c) (X3 m c) (X4 m c) (X5 m c) := by
  funext j; idx_vars j
  rw [ropeK_apply, Cert.AttnRefIdeal.Own.dkr_apply, Finset.sum_comm]
  refine Finset.sum_congr rfl fun H _ => ?_
  obtain ⟨g, h, rfl⟩ := hd_surj H
  rw [uncast_col, resK_apply]
  refine Finset.sum_congr rfl fun q _ => ?_
  rw [same_grad m c hx0 hx1 hx2 hx3 hx4 hx5, QA_eq, packQ_rope, mul_assoc, mul_comm (X1 m c _) scale]

theorem dv_all : nopeK (resV m c) = val_main_v48 (F := Ideal) (X0 m c) (X1 m c) (X2 m c) (X3 m c) (X5 m c) := by
  funext j; idx_vars j
  obtain ⟨g, h, rfl⟩ := hd_surj j1
  rw [nopeK_apply, resV_apply, Cert.AttnRefIdeal.Own.dv_apply]
  refine Finset.sum_congr rfl fun q _ => ?_
  rw [same_prob m c hx0 hx1 hx2 hx3 hx4 hx5, DA_eq, packD_val, mul_comm]

end Cert.AttnIdeal.Own

end
-- ==== Proof.AttnClaim.lean ====
/- The claims about the attention's gradient: the frames of its programs, and the kernel's gradients are the reference's. -/
module

public import proofs.«01_k».proof.Defs
public import proofs.«01_k».proof.Proof.AttnResult
public import proofs.«01_k».proof.Proof.Gen.Attn
public import proofs.«01_k».proof.Proof.Gen.Pre_finite_attn
public import Idealize.ShloMosaic.Lib.Claim

@[expose] public section

set_option maxRecDepth 16384

noncomputable section

namespace Cert.AttnIdeal.Own

open Cert.AttnIdeal.Gen Cert.Finite
open Idealize.ShloMosaic Idealize.ShloMosaic.TcCoe Idealize.ShloMosaic.Tactic Idealize.SL.Sem

attribute [local instance] Cert.Attn.Gen.facts Cert.AttnIdeal.Gen.facts Cert.AttnRefIdeal.Gen.facts Cert.Pre_finite_attn.Gen.facts

theorem frame_bits : Cert.quiescent_Attn := fun m g _ => Eq.mp (by sl_kernel_rfl) (frame_attn (F := Bits) m g)
theorem frame_ideal : Cert.quiescent_AttnIdeal := fun m g _ => frame_attn (F := Ideal) m g

theorem frame_ref : Cert.quiescent_AttnRefIdeal := fun m g _ => by
  refine (θ_run _ _ _).mono (fun r h => ⟨fun c => (h c).2.2.2.2.2, sem_eq_zero_of_no_sems (sig := Cert.AttnRefIdeal.sig) rfl _⟩)
    (Cert.AttnRefIdeal.Value.run m g)

/-- The kernel's program runs, its results are the host's last lines of the call's arrays, and its arguments stay. -/
theorem run_results (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v108) = nopeQ (resQ m c)
      ∧ r.2.mem ((c.tc : Thread nD τ).loc main_v109) = ropeQ (resQ m c)
      ∧ r.2.mem ((c.tc : Thread nD τ).loc main_v110) = nopeK (resK m c)
      ∧ r.2.mem ((c.tc : Thread nD τ).loc main_v112) = ropeK (resK m c)
      ∧ r.2.mem ((c.tc : Thread nD τ).loc main_v113) = nopeK (resV m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h.1 c).2 main_v108 (Pipeline.mem_restRefs_of _ (by decide) (by decide))).trans (tail_v108 m c),
    ((h.1 c).2 main_v109 (Pipeline.mem_restRefs_of _ (by decide) (by decide))).trans (tail_v109 m c),
    ((h.1 c).2 main_v110 (Pipeline.mem_restRefs_of _ (by decide) (by decide))).trans (tail_v110 m c),
    ((h.1 c).2 main_v112 (Pipeline.mem_restRefs_of _ (by decide) (by decide))).trans (tail_v112 m c),
    ((h.1 c).2 main_v113 (Pipeline.mem_restRefs_of _ (by decide) (by decide))).trans (tail_v113 m c),
    h.2.1 c⟩) (θ_run_and (run m ρ) (frame_attn m ρ))

theorem algebraic : Cert.algebraic_AttnIdeal_AttnRefIdeal_pre_finite_attn := by
  pair_intro
  · run_from run_results m g
  · have hx0 : ∀ c i, IsReal (X0 m c i) := fun c i => isReal_of_fin _ _ _ (hpre c).1 i
    have hx1 : ∀ c i, IsReal (X1 m c i) := fun c i => isReal_of_fin _ _ _ (hpre c).2.1 i
    have hx2 : ∀ c i, IsReal (X2 m c i) := fun c i => isReal_of_fin _ _ _ (hpre c).2.2.1 i
    have hx3 : ∀ c i, IsReal (X3 m c i) := fun c i => isReal_of_fin _ _ _ (hpre c).2.2.2.1 i
    have hx4 : ∀ c i, IsReal (X4 m c i) := fun c i => isReal_of_fin _ _ _ (hpre c).2.2.2.2.1 i
    have hx5 : ∀ c i, IsReal (X5 m c i) := fun c i => isReal_of_fin _ _ _ (hpre c).2.2.2.2.2 i
    refine (θ_run _ _ _).mono (fun r h c => ?_) (Cert.AttnRefIdeal.Value.run m' g')
    obtain ⟨h0, h1, h2, h3, h4, hr⟩ := h c
    rw [Cert.AttnRefIdeal.Read.val_main_v70_eq] at h0
    rw [Cert.AttnRefIdeal.Read.val_main_v65_eq] at h1
    rw [Cert.AttnRefIdeal.Read.val_main_v68_eq] at h2
    rw [Cert.AttnRefIdeal.Read.val_main_v66_eq] at h3
    rw [Cert.AttnRefIdeal.Read.val_main_v48_eq] at h4
    obtain ⟨a0, a1, a2, a3, a4, a5⟩ := hagree c
    rw [a0, a1, a2, a3, a4, a5] at h0 h1 h2 h3
    rw [a0, a1, a2, a3, a5] at h4
    exact ⟨h0.trans (dq_nope m c (hx0 c) (hx1 c) (hx2 c) (hx3 c) (hx4 c) (hx5 c)).symm,
      h1.trans (dq_rope m c (hx0 c) (hx1 c) (hx2 c) (hx3 c) (hx4 c) (hx5 c)).symm,
      h2.trans (dk_nope m c (hx0 c) (hx1 c) (hx2 c) (hx3 c) (hx4 c) (hx5 c)).symm,
      h3.trans (dk_rope m c (hx0 c) (hx1 c) (hx2 c) (hx3 c) (hx4 c) (hx5 c)).symm,
      h4.trans (dv_all m c (hx0 c) (hx1 c) (hx2 c) (hx3 c) (hx4 c) (hx5 c)).symm, hr⟩

end Cert.AttnIdeal.Own

end
-- ==== Proof.Norm.lean ====
/-
  An RMSNorm's gradient over one row of real numbers: the kernels' form, with the row's inverse root factored out, and
  the form that the derivative of `x * rsqrt(mean(x * x) + eps) * w` has, term by term.
-/
module

public import proofs.«01_k».proof.Proof.Finite

@[expose] public section

set_option maxRecDepth 16384

noncomputable section

namespace Cert.Norm

open Idealize.ShloMosaic Idealize.SL.Sem Cert.Finite

/-- The literal `1e-6` that the norms add to a row's mean square. -/
def eps : EReal := (FloatOps.ofBits (F := Ideal) .f32 0x358637BD#32)
/-- The literal `-1/2` of the inverse root's derivative. -/
def half : EReal := (FloatOps.ofBits (F := Ideal) .f32 0xBF000000#32)

theorem eps_pos : ∃ e : ℝ, 0 < e ∧ eps = e := by
  refine ⟨_, ?_, by unfold eps; simp [Ideal.ofBits, Ideal.ieee]; rfl⟩
  positivity
theorem half_eq : half = ((-(1/2) : ℝ) : EReal) := by
  unfold half; simp [Ideal.ofBits, Ideal.ieee]; norm_num; rw [← EReal.coe_mul, EReal.coe_eq_coe_iff]; norm_num

variable {n : ℕ}

/-- A row's mean square plus `eps`, over the row length `C` as it is written, -/
def msq (C : EReal) (x : Fin n → EReal) : EReal := Ideal.div (∑ j, x j * x j) C + eps
/-- and its inverse root. -/
def inv (C : EReal) (x : Fin n → EReal) : EReal := Ideal.rsqrt (msq C x)

/-- The gradient in the kernels' form, -/
def kerGrad (C : EReal) (x dy w : Fin n → EReal) (j : Fin n) : EReal :=
  inv C x * (dy j * w j - x j * inv C x * Ideal.div (∑ l, dy l * w l * (x l * inv C x)) C)
/-- the inverse root's share of it, as the derivative has it, -/
def refPart (C : EReal) (x dy w : Fin n → EReal) : EReal :=
  Ideal.div ((∑ l, x l * (dy l * w l)) * (half * Ideal.div (inv C x) (msq C x))) C

theorem inv_real (C : ℝ) (hC : 0 < C) (x : Fin n → EReal) (hx : ∀ j, IsReal (x j)) :
    ∃ s r : ℝ, 0 < s ∧ r * r * s = 1 ∧ msq (C : EReal) x = s ∧ inv (C : EReal) x = r := by
  choose f hf using hx
  obtain ⟨e, he, ee⟩ := eps_pos
  have hs : 0 < (∑ j, f j * f j) * (1 / C) + e :=
    add_pos_of_nonneg_of_pos (mul_nonneg (Finset.sum_nonneg fun j _ => mul_self_nonneg _) (by positivity)) he
  have e1 : msq (C : EReal) x = ((∑ j, f j * f j) * (1 / C) + e : ℝ) := by
    simp only [msq, hf, ee, ← EReal.coe_mul, ← coe_sum]
    rw [Ideal.div_coe hC.ne', ← EReal.coe_mul, ← EReal.coe_add]
  refine ⟨_, (Real.sqrt ((∑ j, f j * f j) * (1 / C) + e))⁻¹, hs, ?_, e1, ?_⟩
  · rw [← mul_inv, Real.mul_self_sqrt hs.le, inv_mul_cancel₀ hs.ne']
  · rw [inv, e1, Ideal.rsqrt_coe, if_neg (not_lt.2 hs.le), if_neg hs.ne']

/-- The two forms agree on real rows, with anything added. -/
theorem grad_eq (C : ℝ) (hC : 0 < C) (x dy w : Fin n → EReal) (hx : ∀ j, IsReal (x j)) (hd : ∀ j, IsReal (dy j))
    (hw : ∀ j, IsReal (w j)) (res : EReal) (j : Fin n) :
    kerGrad (C : EReal) x dy w j + res
      = res + dy j * w j * inv (C : EReal) x + x j * refPart (C : EReal) x dy w + refPart (C : EReal) x dy w * x j := by
  obtain ⟨s, r, hs, hr, e1, e2⟩ := inv_real C hC x hx
  choose f hf using hx
  choose d hd using hd
  choose v hv using hw
  have key : kerGrad (C : EReal) x dy w j = dy j * w j * inv (C : EReal) x + x j * refPart (C : EReal) x dy w + refPart (C : EReal) x dy w * x j := by
    have e3 : Ideal.div (r : EReal) (s : EReal) = ((r * (1 / s) : ℝ) : EReal) := by
      rw [Ideal.div_coe hs.ne', ← EReal.coe_mul]
    simp only [kerGrad, refPart, e1, e2, e3, hf, hd, hv, half_eq, ← EReal.coe_mul, ← coe_sum, Ideal.div_coe hC.ne', ← EReal.coe_sub, ← EReal.coe_add,
      EReal.coe_eq_coe_iff]
    have h1 : (∑ l, d l * v l * (f l * r)) = r * ∑ l, f l * (d l * v l) := by
      rw [Finset.mul_sum]; exact Finset.sum_congr rfl fun l _ => by ring
    have h2 : r * (1 / s) = r * r * r := by
      have h3 : r * r = 1 / s := by rw [eq_div_iff hs.ne']; exact hr
      rw [mul_assoc, h3]
    rw [h1, h2]; ring
  rw [key, add_comm, ← add_assoc, ← add_assoc]

/-- Nothing added. -/
theorem grad_eq' (C : ℝ) (hC : 0 < C) (x dy w : Fin n → EReal) (hx : ∀ j, IsReal (x j)) (hd : ∀ j, IsReal (dy j))
    (hw : ∀ j, IsReal (w j)) (j : Fin n) :
    kerGrad (C : EReal) x dy w j = dy j * w j * inv (C : EReal) x + x j * refPart (C : EReal) x dy w + refPart (C : EReal) x dy w * x j := by
  have h := grad_eq C hC x dy w hx hd hw 0 j
  rwa [add_zero, zero_add] at h

/-- A sum over the lanes of `H` heads, `D + E` lanes a head: the sum over the heads' first `D` lanes, and that over the
    last `E`. -/
theorem sum_split {H D E : ℕ} (f : Fin (H * (D + E)) → EReal) (g : Fin (H * D) → EReal) (g' : Fin (H * E) → EReal)
    (h0 : ∀ (h : Fin H) (d : Fin D) (k : Fin (H * (D + E))) (l : Fin (H * D)), k.val = h.val * (D + E) + d.val → l.val = h.val * D + d.val → f k = g l)
    (h1 : ∀ (h : Fin H) (e : Fin E) (k : Fin (H * (D + E))) (l : Fin (H * E)), k.val = h.val * (D + E) + (D + e.val) → l.val = h.val * E + e.val → f k = g' l) :
    ∑ k, f k = ∑ k, g k + ∑ k, g' k := by
  rw [← finProdFinEquiv.sum_comp f, ← finProdFinEquiv.sum_comp g, ← finProdFinEquiv.sum_comp g', Fintype.sum_prod_type, Fintype.sum_prod_type,
    Fintype.sum_prod_type, ← Finset.sum_add_distrib]
  refine Finset.sum_congr rfl fun h _ => ?_
  rw [Fin.sum_univ_add]
  refine congrArg₂ _ (Finset.sum_congr rfl fun d _ => h0 h d _ _ ?_ ?_) (Finset.sum_congr rfl fun e _ => h1 h e _ _ ?_ ?_) <;>
    · simp [finProdFinEquiv]; ring

/-- Of `D + E` lanes a head the last `E` are zero: the sum over the heads' own `D` lanes. -/
theorem sum_heads {H D E : ℕ} (f : Fin (H * (D + E)) → EReal) (g : Fin (H * D) → EReal)
    (h0 : ∀ (h : Fin H) (d : Fin D) (k : Fin (H * (D + E))) (l : Fin (H * D)), k.val = h.val * (D + E) + d.val → l.val = h.val * D + d.val → f k = g l)
    (h1 : ∀ (h : Fin H) (e : Fin E) (k : Fin (H * (D + E))), k.val = h.val * (D + E) + (D + e.val) → f k = 0) :
    ∑ k, f k = ∑ k, g k := by
  rw [sum_split f g (fun _ => 0) h0 fun h e k _ hk _ => h1 h e k hk, Finset.sum_const_zero, add_zero]

/-- A sum in four stretches. -/
theorem sum_four {a b c d N : ℕ} (f : Fin N → EReal) (ga : Fin a → EReal) (gb : Fin b → EReal) (gc : Fin c → EReal) (gd : Fin d → EReal)
    (hN : N = a + b + c + d) (ha : ∀ (i : Fin a) (k : Fin N), k.val = i.val → f k = ga i)
    (hb : ∀ (i : Fin b) (k : Fin N), k.val = a + i.val → f k = gb i) (hc : ∀ (i : Fin c) (k : Fin N), k.val = a + b + i.val → f k = gc i)
    (hd : ∀ (i : Fin d) (k : Fin N), k.val = a + b + c + i.val → f k = gd i) :
    ∑ k, f k = (∑ i, ga i) + (∑ i, gb i) + (∑ i, gc i) + ∑ i, gd i := by
  subst hN
  rw [Fin.sum_univ_add, Fin.sum_univ_add, Fin.sum_univ_add]
  refine congrArg₂ _ (congrArg₂ _ (congrArg₂ _ ?_ ?_) ?_) ?_ <;> refine Finset.sum_congr rfl fun i _ => ?_
  · exact ha i _ rfl
  · exact hb i _ rfl
  · exact hc i _ rfl
  · exact hd i _ rfl

section Congr
variable {α : Type} {s0 s1 s2 s3 T : Shape}

/-- Four pieces in a row, each replaced by an equal one. -/
theorem four_pieces (n) {a a' : s0.Idx → α} {b b' : s1.Idx → α} {d d' : s2.Idx → α} {e e' : s3.Idx → α} (h)
    (ha : a = a') (hb : b = b') (hd : d = d') (he : e = e') :
    concatenate T n [⟨s0, a⟩, ⟨s1, b⟩, ⟨s2, d⟩, ⟨s3, e⟩] h = concatenate T n [⟨s0, a'⟩, ⟨s1, b'⟩, ⟨s2, d'⟩, ⟨s3, e'⟩] h := by
  rw [ha, hb, hd, he]

/-- Three pieces in a row, each replaced by an equal one. -/
theorem three_pieces (n) {a a' : s0.Idx → α} {b b' : s1.Idx → α} {d d' : s2.Idx → α} (h)
    (ha : a = a') (hb : b = b') (hd : d = d') : concatenate T n [⟨s0, a⟩, ⟨s1, b⟩, ⟨s2, d⟩] h = concatenate T n [⟨s0, a'⟩, ⟨s1, b'⟩, ⟨s2, d'⟩] h := by
  rw [ha, hb, hd]

end Congr

end Cert.Norm

end
-- ==== Proof.FfNorm.lean ====
/-
  The gradient of the FFN's norm: what the kernel's three result arrays hold, and that they are the reference's.
-/
module

public import proofs.«01_k».proof.Defs
public import proofs.«01_k».proof.Proof.Gen.Pre_finite_ffnorm
public import proofs.«01_k».proof.Proof.Gen.FfNormIdeal.Frame
public import proofs.«01_k».proof.Proof.Gen.FfNormIdeal.Value
public import proofs.«01_k».proof.Proof.Gen.FfNormRefIdeal.Read
public import proofs.«01_k».proof.Proof.Norm
public import Idealize.ShloMosaic.Lib.Claim

@[expose] public section

set_option maxRecDepth 16384

noncomputable section

namespace Cert.FfNormIdeal.Math

open Cert.FfNormIdeal Cert.FfNormIdeal.Gen Cert.Finite Cert.Norm Idealize.ShloMosaic Idealize.ShloMosaic.TcCoe Idealize.SL.Sem
open Idealize.ShloMosaic.Pipeline (Dat)

variable (m : (ℓ : Loc nD τ sig) → Buf (Elt Ideal) ℓ)

/-- The row length as the programs write it. -/
def len : EReal := (FloatOps.ofBits (F := Ideal) .f32 0x44800000#32)
theorem len_eq : len = ((1024 : ℝ) : EReal) := by
  unfold len; simp [Ideal.ofBits, Ideal.ieee]; norm_num
  rw [← EReal.coe_mul, EReal.coe_eq_coe_iff]; norm_num

section Ref
open Cert.FfNormRefIdeal.Read

variable (x0 x1 : FVec Ideal S4096x2816 .bf16) (x2 x3 : FVec Ideal S1024x2816 .f32) (x4 : FVec Ideal S4096x1024 .f32)
  (x5 : FVec Ideal S1024 .f32) (x6 : FVec Ideal S4096x1024 .f32)

/-- The cotangent of the norm's result, row by row. -/
def dy (r : Fin 4096) (j : Fin 1024) : EReal :=
  (∑ k : Fin 2816, x0 (ix2 r k) * x2 (ix2 j k)) + ∑ k : Fin 2816, x1 (ix2 r k) * x3 (ix2 j k)

theorem dy_apply (r : Fin 4096) (j : Fin 1024) : val_main_v22 (F := Ideal) x0 x1 x2 x3 (ix2 r j) = dy x0 x1 x2 x3 r j := by
  pointwise [val_main_v22, val_main_v20, val_main_v21, val_main_v18, val_main_v19]
  exact add_comm _ _

theorem msq_apply (r : Fin 4096) : val_main_v6 (F := Ideal) x4 (ix2 r 0) = msq len fun j => x4 (ix2 r j) := by
  pointwise [val_main_v6, val_main_v5, val_main_v4, val_main_v3, val_main_v2, val_main_v1, val_main_v0, val_main_cst, val_main_cst_0, val_main_cst_1]
  rfl

theorem inv_apply (r : Fin 4096) : val_main_v7 (F := Ideal) x4 (ix2 r 0) = inv len fun j => x4 (ix2 r j) := by
  pointwise [val_main_v7]
  rw [msq_apply]; rfl

theorem part_apply (r : Fin 4096) : val_main_v38 (F := Ideal) x0 x1 x2 x3 x4 x5 (ix1 r)
    = refPart len (fun j => x4 (ix2 r j)) (dy x0 x1 x2 x3 r) (fun j => x5 (ix1 j)) := by
  pointwise [val_main_v38, val_main_v37, val_main_v36, val_main_v35, val_main_v31, val_main_v30, val_main_v29, val_main_v27, val_main_v26, val_main_v10, val_main_v9, val_main_v8, val_main_v7, val_main_v13, val_main_cst_7, val_main_cst_5, val_main_cst_2, val_main_cst_6]
  rw [Fin.sum_univ_one, msq_apply]
  simp only [dy_apply]
  rfl

/-- The reference's gradient of the rows. -/
theorem ref_dx (r : Fin 4096) (j : Fin 1024) : val_main_v43 (F := Ideal) x0 x1 x2 x3 x4 x5 x6 (ix2 r j)
    = x6 (ix2 r j) + dy x0 x1 x2 x3 r j * x5 (ix1 j) * inv len (fun j => x4 (ix2 r j))
      + x4 (ix2 r j) * refPart len (fun j => x4 (ix2 r j)) (dy x0 x1 x2 x3 r) (fun j => x5 (ix1 j))
      + refPart len (fun j => x4 (ix2 r j)) (dy x0 x1 x2 x3 r) (fun j => x5 (ix1 j)) * x4 (ix2 r j) := by
  pointwise [val_main_v43, val_main_v42, val_main_v41, val_main_v40, val_main_v39, val_main_v34, val_main_v33, val_main_v32, val_main_v27, val_main_v26, val_main_v13]
  rw [part_apply, inv_apply, dy_apply]

/-- The reference's gradient of the weights. -/
theorem ref_dw (j : Fin 1024) : val_main_v45 (F := Ideal) x0 x1 x2 x3 x4 (ix2 0 j)
    = ∑ r : Fin 4096, dy x0 x1 x2 x3 r j * (x4 (ix2 r j) * inv len (fun j => x4 (ix2 r j))) := by
  pointwise [val_main_v45, val_main_v28, val_main_v25, val_main_v24, val_main_v23, val_main_v12, val_main_v11, val_main_cst_4, val_main_cst_3]
  simp only [Fin.sum_univ_one, inv_apply, dy_apply]
  simp only [mul_comm (dy x0 x1 x2 x3 _ _)]

end Ref

section Blocks
variable (v0 : Vec Ideal S2816x1024 .bf16) (v2 : Vec Ideal S256x2816 .bf16) (v4 : Vec Ideal S2816x1024 .bf16) (v6 : Vec Ideal S256x2816 .bf16) (v9 : Vec Ideal S256x1024 .f32) (v10 : Vec Ideal S1x1024 .f32) (v35 : Vec Ideal S256x1024 .f32)

/-- The cotangent of a block of the norm's result. -/
def bdy (p : Fin 256) (j : Fin 1024) : EReal :=
  (∑ k : Fin 2816, v2 (ix2 p k) * v0 (ix2 k j)) + ∑ k : Fin 2816, v6 (ix2 p k) * v4 (ix2 k j)

theorem pay4_apply (p : Fin 256) (j : Fin 1024) : k0_pay4 (F := Ideal) v0 v2 v4 v6 (ix2 p j) = bdy v0 v2 v4 v6 p j := by
  pointwise [k0_pay4]
  rfl

theorem pay5_apply (p : Fin 256) : k0_pay5 (F := Ideal) v9 (ix2 p 0) = inv len fun j => v9 (ix2 p j) := by
  pointwise [k0_pay5]
  rfl

theorem pay8_apply (p : Fin 256) (j : Fin 1024) : k0_pay8 (F := Ideal) v0 v2 v4 v6 v9 v10 v35 (ix2 p j)
    = kerGrad len (fun j => v9 (ix2 p j)) (bdy v0 v2 v4 v6 p) (fun j => v10 (ix2 0 j)) j + v35 (ix2 p j) := by
  pointwise [k0_pay8, k0_pay6]
  simp only [pay4_apply, pay5_apply]
  rfl

theorem pay2_apply (j : Fin 1024) : k0_pay2 (F := Ideal) (k0_pay7 v0 v2 v4 v6 v9) (ix2 0 j)
    = ∑ p : Fin 256, bdy v0 v2 v4 v6 p j * (v9 (ix2 p j) * inv len (fun j => v9 (ix2 p j))) := by
  pointwise [k0_pay2, k0_pay7, k0_pay6]
  simp only [pay4_apply, pay5_apply]

theorem pay3_apply (acc : Vec Ideal S1x1024 .f32) (j : Fin 1024) : k0_pay3 (F := Ideal) (k0_pay7 v0 v2 v4 v6 v9) acc (ix2 0 j)
    = acc (ix2 0 j) + ∑ p : Fin 256, bdy v0 v2 v4 v6 p j * (v9 (ix2 p j) * inv len (fun j => v9 (ix2 p j))) := by
  rw [← pay2_apply]
  pointwise [k0_pay3]

end Blocks

section Arrays

/-- The arguments, by name. -/
abbrev aG (c : Dev nD) : FVec Ideal S4096x2816 .bf16 := m ((c : Thread nD τ).loc main_arg0)
abbrev aU (c : Dev nD) : FVec Ideal S4096x2816 .bf16 := m ((c : Thread nD τ).loc main_arg1)
abbrev aWg (c : Dev nD) : FVec Ideal S1024x2816 .f32 := m ((c : Thread nD τ).loc main_arg2)
abbrev aWu (c : Dev nD) : FVec Ideal S1024x2816 .f32 := m ((c : Thread nD τ).loc main_arg3)
abbrev aX (c : Dev nD) : FVec Ideal S4096x1024 .f32 := m ((c : Thread nD τ).loc main_arg4)
abbrev aW (c : Dev nD) : FVec Ideal S1024 .f32 := m ((c : Thread nD τ).loc main_arg5)
abbrev aR (c : Dev nD) : FVec Ideal S4096x1024 .f32 := m ((c : Thread nD τ).loc main_arg6)

theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![0, 0] ∧ win0_6.index t = ![t.val, 0]
    ∧ win0_7.index t = ![t.val, 0] ∧ win0_8.index t = ![t.val, 0] ∧ win0_9.index t = ![0, 0] :=
  (by decide +kernel : ∀ t : Fin grid0.N, _)

/-- Row `p` of the point's block is a row of the arrays. -/
def row (t : Fin cfg0.N) (p : Fin 256) : Fin 4096 := ⟨t.val * 256 + p.val, by have := lt_of_lt_of_eq t.isLt N_0; omega⟩

theorem blk_dy (c : Dev nD) (t : Fin cfg0.N) (p : Fin 256) (j : Fin 1024) :
    bdy (iblk m c 2 t) (iblk m c 0 t) (iblk m c 3 t) (iblk m c 1 t) p j = dy (aG m c) (aU m c) (aWg m c) (aWu m c) (row t p) j := by
  unfold bdy dy row
  blk_point [iblk, V, idx t]

theorem blk_x (c : Dev nD) (t : Fin cfg0.N) (p : Fin 256) (j : Fin 1024) :
    (show Vec Ideal S256x1024 .f32 from iblk m c 4 t) (ix2 p j) = aX m c (ix2 (row t p) j) := by
  unfold row
  blk_point [iblk, V, idx t]

theorem blk_w (c : Dev nD) (t : Fin cfg0.N) (j : Fin 1024) :
    (show Vec Ideal S1x1024 .f32 from iblk m c 5 t) (ix2 0 j) = aW m c (ix1 j) := by
  blk_point [iblk, V, idx t]

theorem blk_r (c : Dev nD) (t : Fin cfg0.N) (p : Fin 256) (j : Fin 1024) :
    (show Vec Ideal S256x1024 .f32 from iblk m c 6 t) (ix2 p j) = aR m c (ix2 (row t p) j) := by
  unfold row
  blk_point [iblk, V, idx t]

/-- What the kernel's first two results hold at row `r`. -/
theorem blk_dx (c : Dev nD) (t : Fin cfg0.N) (p : Fin 256) (j : Fin 1024) :
    k0_pay8 (F := Ideal) (iblk m c 2 t) (iblk m c 0 t) (iblk m c 3 t) (iblk m c 1 t) (iblk m c 4 t) (iblk m c 5 t) (iblk m c 6 t) (ix2 p j)
      = kerGrad len (fun j => aX m c (ix2 (row t p) j)) (dy (aG m c) (aU m c) (aWg m c) (aWu m c) (row t p)) (fun j => aW m c (ix1 j)) j
        + aR m c (ix2 (row t p) j) := by
  rw [pay8_apply]
  congr 1
  · congr 1
    · exact funext fun j => blk_x m c t p j
    · exact funext fun j => blk_dy m c t p j
    · exact funext fun j => blk_w m c t j
  · exact blk_r m c t p j

variable (c : Dev nD) (hG : ∀ i, IsReal (aG m c i)) (hU : ∀ i, IsReal (aU m c i)) (hWg : ∀ i, IsReal (aWg m c i)) (hWu : ∀ i, IsReal (aWu m c i))
  (hX : ∀ i, IsReal (aX m c i)) (hW : ∀ i, IsReal (aW m c i))

include hG hU hWg hWu in
theorem real_dy (r : Fin 4096) (j : Fin 1024) : IsReal (dy (aG m c) (aU m c) (aWg m c) (aWu m c) r j) :=
  (IsReal.sum _ fun k _ => (hG _).mul (hWg _)).add (IsReal.sum _ fun k _ => (hU _).mul (hWu _))

include hG hU hWg hWu hX hW in
theorem point (t : Fin cfg0.N) (p : Fin 256) (j : Fin 1024) :
    k0_pay8 (F := Ideal) (iblk m c 2 t) (iblk m c 0 t) (iblk m c 3 t) (iblk m c 1 t) (iblk m c 4 t) (iblk m c 5 t) (iblk m c 6 t) (ix2 p j)
      = Cert.FfNormRefIdeal.Read.val_main_v43 (F := Ideal) (aG m c) (aU m c) (aWg m c) (aWu m c) (aX m c) (aW m c) (aR m c) (ix2 (row t p) j) := by
  rw [blk_dx, ref_dx, len_eq]
  exact grad_eq 1024 (by norm_num) _ _ _ (fun j => hX _) (fun j => real_dy m c hG hU hWg hWu _ j) (fun j => hW _) _ j

include hG hU hWg hWu hX hW in
theorem point' (t : Fin cfg0.N) (y : S256x1024.Idx) (i : S4096x1024.Idx) (h0 : (i 0 : ℕ) = t.val * 256 + y 0) (h1 : (i 1 : ℕ) = y 1) :
    k0_pay8 (F := Ideal) (iblk m c 2 t) (iblk m c 0 t) (iblk m c 3 t) (iblk m c 1 t) (iblk m c 4 t) (iblk m c 5 t) (iblk m c 6 t) y
      = Cert.FfNormRefIdeal.Read.val_main_v43 (F := Ideal) (aG m c) (aU m c) (aWg m c) (aWu m c) (aX m c) (aW m c) (aR m c) i := by
  have e0 : y = ix2 (y 0) (y 1) := by idx_vars y; rfl
  have e1 : i = ix2 (row t (y 0)) (y 1) := by
    idx_vars i
    congr 1
    · exact Fin.ext h0
    · exact Fin.ext h1
  rw [e1, e0]
  exact point m c hG hU hWg hWu hX hW t (y 0) (y 1)

include hG hU hWg hWu hX hW in
/-- The first result array. -/
theorem final7 : (dats m 0 c).arrAt 7 (cfgs 0).N = Cert.FfNormRefIdeal.Read.val_main_v43 (F := Ideal) (aG m c) (aU m c) (aWg m c) (aWu m c) (aX m c) (aW m c) (aR m c) := by
  refine (dats m 0 c).arrAt_eq_of_covers 7 _ (by decide +kernel) fun t _ y => ?_
  blk_simp
  rw [after0_7]
  by_cases h : t.val % 16 = 0
  · rw [outsAt0_A m c t h (by have := lt_of_lt_of_eq t.isLt N_0; omega)]
    frame_out
    exact point' m c hG hU hWg hWu hX hW t y _ (by blk_simp [idx t]) (by blk_simp [idx t])
  · rw [outsAt0_B m c t h (by omega)]
    frame_out
    exact point' m c hG hU hWg hWu hX hW t y _ (by blk_simp [idx t]) (by blk_simp [idx t])

/-- The sum of the row's contributions to the weights' gradient, one block of rows. -/
def part (t : Fin cfg0.N) (y : S1x1024.Idx) : EReal :=
  ∑ p : Fin 256, dy (aG m c) (aU m c) (aWg m c) (aWu m c) (row t p) (y 1) * (aX m c (ix2 (row t p) (y 1)) * inv len (fun j => aX m c (ix2 (row t p) j)))

theorem blk_part (t : Fin cfg0.N) (j : Fin 1024) :
    (∑ p : Fin 256, bdy (iblk m c 2 t) (iblk m c 0 t) (iblk m c 3 t) (iblk m c 1 t) p j
      * ((show Vec Ideal S256x1024 .f32 from iblk m c 4 t) (ix2 p j) * inv len (fun j => (show Vec Ideal S256x1024 .f32 from iblk m c 4 t) (ix2 p j))))
      = part m c t (ix2 0 j) :=
  Finset.sum_congr rfl fun p _ => by simp only [blk_dy, blk_x]; rfl

include hG hU hWg hWu hX hW in
/-- The second result array. -/
theorem final8 : (dats m 0 c).arrAt 8 (cfgs 0).N = Cert.FfNormRefIdeal.Read.val_main_v44 (F := Ideal) (aG m c) (aU m c) (aWg m c) (aWu m c) (aX m c) (aW m c) (aR m c) := by
  refine (dats m 0 c).arrAt_eq_of_covers 8 _ (by decide +kernel) fun t _ y => ?_
  blk_simp
  rw [after0_8]
  by_cases h : t.val % 16 = 0
  · rw [outsAt0_A m c t h (by have := lt_of_lt_of_eq t.isLt N_0; omega)]
    frame_out
    exact point' m c hG hU hWg hWu hX hW t y _ (by blk_simp [idx t]) (by blk_simp [idx t])
  · rw [outsAt0_B m c t h (by omega)]
    frame_out
    exact point' m c hG hU hWg hWu hX hW t y _ (by blk_simp [idx t]) (by blk_simp [idx t])

theorem step_A (t : Fin cfg0.N) (h : t.val % 16 = 0) (y : S1x1024.Idx) : (outsAt0 m c t.val t.isLt).2.2 y = 0 + part m c t y := by
  rw [outsAt0_A m c t h (by have := lt_of_lt_of_eq t.isLt N_0; omega), zero_add]
  frame_out
  idx_vars y
  obtain rfl : y0 = 0 := Subsingleton.elim _ _
  rw [pay2_apply]
  exact blk_part m c t y1

theorem step_B (t : Fin cfg0.N) (h : ¬ t.val % 16 = 0) (y : S1x1024.Idx) :
    (outsAt0 m c t.val t.isLt).2.2 y = (outsAt0 m c (t.val - 1) (by have := t.isLt; omega)).2.2 y + part m c t y := by
  rw [outsAt0_B m c t h (by omega)]
  frame_out
  idx_vars y
  obtain rfl : y0 = 0 := Subsingleton.elim _ _
  rw [pay3_apply]
  exact congrArg _ (blk_part m c t y1)

/-- The third result array. -/
theorem final9 : (dats m 0 c).arrAt 9 (cfgs 0).N = Cert.FfNormRefIdeal.Read.val_main_v45 (F := Ideal) (aG m c) (aU m c) (aWg m c) (aWu m c) (aX m c) := by
  refine (dats m 0 c).arrAt_eq_of_after_last 9 t0_15 (by decide +kernel) _ fun j => ?_
  blk_simp
  rw [after0_9, Pipeline.eq_sum_fin_of_reset_step_apply_last (fun n h => (outsAt0 m c n h).2.2) 16 (fun _ => 0) (fun t y => part m c t y)
    (fun t h j => step_A m c t h j) (fun t h j => step_B m c t h j) (le_of_eq N_0) t0_15 rfl j, zero_add]
  idx_vars j
  obtain rfl : j0 = 0 := Subsingleton.elim _ _
  rw [ref_dw]
  unfold part row
  exact Fin.sum_mul_add_congr fun s k hl => rfl

end Arrays

/-- The reference terminates, keeps its arguments, and leaves every counter at zero: it has none. -/
theorem frame_ref : Cert.quiescent_FfNormRefIdeal := fun m g _ => by
  refine (θ_run _ _ _).mono (fun r h => ⟨fun c => (h c).2.2.2, sem_eq_zero_of_no_sems (sig := Cert.FfNormRefIdeal.sig) rfl _⟩)
    (Cert.FfNormRefIdeal.Value.run m g)

/-- The claim: kernel and reference leave the same three arrays. -/
theorem algebraic : Cert.algebraic_FfNormIdeal_FfNormRefIdeal_pre_finite_ffnorm := by
  pair_intro
  · run_from Cert.FfNormIdeal.Gen.run_main m g
  · run_from Cert.FfNormRefIdeal.Value.run m' g'
    all_goals obtain ⟨a0, a1, a2, a3, a4, a5, a6⟩ := hagree c
    · rw [Cert.FfNormRefIdeal.Read.val_main_v43_eq, a0, a1, a2, a3, a4, a5, a6]
      exact (final7 m c (fun i => isReal_of_fin _ _ _ (hpre c).1 i) (fun i => isReal_of_fin _ _ _ (hpre c).2.1 i) (fun i => isReal_of_fin _ _ _ (hpre c).2.2.1 i)
        (fun i => isReal_of_fin _ _ _ (hpre c).2.2.2.1 i) (fun i => isReal_of_fin _ _ _ (hpre c).2.2.2.2.1 i) (fun i => isReal_of_fin _ _ _ (hpre c).2.2.2.2.2 i)).symm
    · rw [Cert.FfNormRefIdeal.Read.val_main_v44_eq, a0, a1, a2, a3, a4, a5, a6]
      exact (final8 m c (fun i => isReal_of_fin _ _ _ (hpre c).1 i) (fun i => isReal_of_fin _ _ _ (hpre c).2.1 i) (fun i => isReal_of_fin _ _ _ (hpre c).2.2.1 i)
        (fun i => isReal_of_fin _ _ _ (hpre c).2.2.2.1 i) (fun i => isReal_of_fin _ _ _ (hpre c).2.2.2.2.1 i) (fun i => isReal_of_fin _ _ _ (hpre c).2.2.2.2.2 i)).symm
    · rw [Cert.FfNormRefIdeal.Read.val_main_v45_eq]
      exact (final9 m c).symm

end Cert.FfNormIdeal.Math

end
-- ==== Proof.QNorm.lean ====
/-
  The gradient of the query latent's norm: what the kernel's two result arrays hold, and that they are the reference's.
-/
module

public import proofs.«01_k».proof.Defs
public import proofs.«01_k».proof.Proof.Gen.Pre_finite_qnorm
public import proofs.«01_k».proof.Proof.Gen.QNormIdeal.Frame
public import proofs.«01_k».proof.Proof.Gen.QNormIdeal.Value
public import proofs.«01_k».proof.Proof.Gen.QNormRefIdeal.Read
public import proofs.«01_k».proof.Proof.Norm
public import Idealize.ShloMosaic.Lib.Claim

@[expose] public section

set_option maxRecDepth 16384

noncomputable section

namespace Cert.QNormIdeal.Math

open Cert.QNormIdeal Cert.QNormIdeal.Gen Cert.Finite Cert.Norm Idealize.ShloMosaic Idealize.ShloMosaic.TcCoe Idealize.SL.Sem
open Idealize.ShloMosaic.Pipeline (Dat)

variable (m : (ℓ : Loc nD τ sig) → Buf (Elt Ideal) ℓ)

/-- The row length as the programs write it. -/
def len : EReal := (FloatOps.ofBits (F := Ideal) .f32 0x43C00000#32)
theorem len_eq : len = ((384 : ℝ) : EReal) := by
  unfold len; simp [Ideal.ofBits, Ideal.ieee]; norm_num
  rw [← EReal.coe_mul, EReal.coe_eq_coe_iff]; norm_num

section Ref
open Cert.QNormRefIdeal.Read

variable (x0 : FVec Ideal S4096x8x96 .f32) (x1 : FVec Ideal S384x768 .f32) (x2 : FVec Ideal S4096x384 .bf16) (x3 : FVec Ideal S384 .f32)

/-- The cotangent of the norm's result, row by row. -/
def dy (r : Fin 4096) (j : Fin 384) : EReal :=
  ∑ k : Fin 768, x0 (ix3 r ⟨k.val / 96, by omega⟩ ⟨k.val % 96, by omega⟩) * x1 (ix2 j k)

theorem dy_apply (r : Fin 4096) (j : Fin 384) : val_main_v20 (F := Ideal) x0 x1 (ix2 r j) = dy x0 x1 r j := by
  pointwise [val_main_v20, val_main_v19]
  rfl

theorem msq_apply (r : Fin 4096) : val_main_v7 (F := Ideal) x2 (ix2 r 0) = msq len fun j => x2 (ix2 r j) := by
  pointwise [val_main_v7, val_main_v6, val_main_v5, val_main_v4, val_main_v3, val_main_v2, val_main_v1, val_main_v0, val_main_cst, val_main_cst_0, val_main_cst_1]
  rfl

theorem inv_apply (r : Fin 4096) : val_main_v8 (F := Ideal) x2 (ix2 r 0) = inv len fun j => x2 (ix2 r j) := by
  pointwise [val_main_v8]
  rw [msq_apply]; rfl

theorem part_apply (r : Fin 4096) : val_main_v35 (F := Ideal) x0 x1 x2 x3 (ix1 r)
    = refPart len (fun j => x2 (ix2 r j)) (dy x0 x1 r) (fun j => x3 (ix1 j)) := by
  pointwise [val_main_v35, val_main_v34, val_main_v33, val_main_v32, val_main_v29, val_main_v28, val_main_v27, val_main_v25, val_main_v24, val_main_v14, val_main_v11, val_main_v10, val_main_v9, val_main_v8, val_main_v0, val_main_cst_7, val_main_cst_5, val_main_cst_2, val_main_cst_6]
  rw [Fin.sum_univ_one, msq_apply]
  simp only [dy_apply]
  rfl

/-- The reference's gradient of the rows. -/
theorem ref_dx (r : Fin 4096) (j : Fin 384) : val_main_v41 (F := Ideal) x0 x1 x2 x3 (ix2 r j)
    = dy x0 x1 r j * x3 (ix1 j) * inv len (fun j => x2 (ix2 r j))
      + x2 (ix2 r j) * refPart len (fun j => x2 (ix2 r j)) (dy x0 x1 r) (fun j => x3 (ix1 j))
      + refPart len (fun j => x2 (ix2 r j)) (dy x0 x1 r) (fun j => x3 (ix1 j)) * x2 (ix2 r j) := by
  pointwise [val_main_v41, val_main_v40, val_main_v39, val_main_v38, val_main_v37, val_main_v36, val_main_v31, val_main_v30, val_main_v25, val_main_v24, val_main_v14, val_main_v0]
  rw [part_apply, inv_apply, dy_apply]

/-- The reference's gradient of the weights. -/
theorem ref_dw (j : Fin 384) : val_main_v42 (F := Ideal) x0 x1 x2 (ix2 0 j)
    = ∑ r : Fin 4096, dy x0 x1 r j * (x2 (ix2 r j) * inv len (fun j => x2 (ix2 r j))) := by
  pointwise [val_main_v42, val_main_v26, val_main_v23, val_main_v22, val_main_v21, val_main_v13, val_main_v12, val_main_v0, val_main_cst_4, val_main_cst_3]
  simp only [Fin.sum_univ_one, inv_apply, dy_apply]
  simp only [mul_comm (dy x0 x1 _ _)]

end Ref

section Blocks
variable (v0 : Vec Ideal S1024x384 .bf16) (v2 : Vec Ideal S512x1024 .bf16) (v9 : Vec Ideal S512x384 .bf16) (v10 : Vec Ideal S1x384 .f32)

/-- The cotangent of a block of the norm's result. -/
def bdy (p : Fin 512) (j : Fin 384) : EReal := ∑ k : Fin 1024, v2 (ix2 p k) * v0 (ix2 k j)

theorem pay2_apply (p : Fin 512) (j : Fin 384) : k0_pay2 (F := Ideal) v0 v2 (ix2 p j) = bdy v0 v2 p j := by
  pointwise [k0_pay2]
  rfl

theorem pay4_apply (p : Fin 512) : k0_pay4 (F := Ideal) v9 (ix2 p 0) = inv len fun j => v9 (ix2 p j) := by
  pointwise [k0_pay4, k0_pay3]
  rfl

theorem pay6_apply (p : Fin 512) (j : Fin 384) : k0_pay6 (F := Ideal) v0 v2 v9 v10 (ix2 p j)
    = kerGrad len (fun j => v9 (ix2 p j)) (bdy v0 v2 p) (fun j => v10 (ix2 0 j)) j := by
  pointwise [k0_pay6, k0_pay5, k0_pay3]
  simp only [pay2_apply, pay4_apply]
  rfl

theorem pay7_apply (j : Fin 384) : k0_pay7 (F := Ideal) v0 v2 v9 (ix2 0 j)
    = ∑ p : Fin 512, bdy v0 v2 p j * (v9 (ix2 p j) * inv len (fun j => v9 (ix2 p j))) := by
  pointwise [k0_pay7, k0_pay5, k0_pay3]
  simp only [pay2_apply, pay4_apply]

theorem pay1_apply (acc : Vec Ideal S1x384 .f32) (j : Fin 384) : k0_pay1 (F := Ideal) (k0_pay7 v0 v2 v9) acc (ix2 0 j)
    = acc (ix2 0 j) + ∑ p : Fin 512, bdy v0 v2 p j * (v9 (ix2 p j) * inv len (fun j => v9 (ix2 p j))) := by
  rw [← pay7_apply]
  pointwise [k0_pay1]

end Blocks

section Arrays

/-- The arguments, by name. -/
abbrev aD (c : Dev nD) : FVec Ideal S4096x8x96 .f32 := m ((c : Thread nD τ).loc main_arg0)
abbrev aB (c : Dev nD) : FVec Ideal S384x768 .f32 := m ((c : Thread nD τ).loc main_arg1)
abbrev aX (c : Dev nD) : FVec Ideal S4096x384 .bf16 := m ((c : Thread nD τ).loc main_arg2)
abbrev aW (c : Dev nD) : FVec Ideal S384 .f32 := m ((c : Thread nD τ).loc main_arg3)

theorem idx : ∀ t : Fin cfg0.N, win0_0.index t = ![t.val, 0] ∧ win0_1.index t = ![0, 0]
    ∧ win0_2.index t = ![t.val, 0] ∧ win0_3.index t = ![0, 0] ∧ win0_4.index t = ![t.val, 0] ∧ win0_5.index t = ![0, 0] :=
  (by decide +kernel : ∀ t : Fin grid0.N, _)

/-- Row `p` of the point's block is a row of the arrays. -/
def row (t : Fin cfg0.N) (p : Fin 512) : Fin 4096 := ⟨t.val * 512 + p.val, by have := lt_of_lt_of_eq t.isLt N_0; omega⟩

/-- The host's operations before the call, in one list. -/
theorem before (c : Dev nD) (b : Ref sig .tc) : V m c b = StableHlo.after
    ((hostOps0 ++ (hostOps0_1 ++ (hostOps0_2 ++ (hostOps0_3 ++ (hostOps0_4 ++ []))))) : List (HloOp τ sig (Elt Ideal)))
    (fun b => m (c, b)) (Proc.devRef .tc b) := rfl

/-- The filling lanes hold zero. -/
def zer : FVec Ideal S_ .f32 := sitofp (F := Ideal) .f32 (constantI S_ 32 0#32)
theorem zer_apply (i : S_.Idx) : zer i = 0 := by
  show ((((0#32 : BitVec 32).toInt : ℝ)) : EReal) = 0
  simp

/-- The cotangent's heads, each in lanes of its own, -/
def wide (x : FVec Ideal S4096x8x96 .f32) : FVec Ideal S4096x1024 .bf16 :=
  truncf .bf16 (shapeCast S4096x1024 (pad S4096x8x128 ![0, 0, 0] ![0, 0, 32] ![0, 0, 0] x zer pads_S4096x8x96_S4096x8x128_000_000_0320 h_S_)
    shapeCasts_S4096x8x128_S4096x1024) bitsLt_bf16_f32
/-- and the up projection's. -/
def wideW (x : FVec Ideal S384x768 .f32) : FVec Ideal S1024x384 .bf16 :=
  truncf .bf16 (shapeCast S1024x384 (pad S8x128x384 ![0, 0, 0] ![0, 32, 0] ![0, 0, 0]
    (shapeCast S8x96x384 (transpose S768x384 [1, 0] x transposes_S384x768_S768x384_1_0) shapeCasts_S768x384_S8x96x384) zer
    pads_S8x96x384_S8x128x384_000_0320_000 h_S_) shapeCasts_S8x128x384_S1024x384) bitsLt_bf16_f32

theorem V_wide (c : Dev nD) : V m c main_v2 = wide (aD m c) := by
  rw [before]
  simp only [hostOps0, hostOps0_1, hostOps0_2, hostOps0_3, hostOps0_4, List.cons_append, List.nil_append, List.append_nil,
    StableHlo.TRef.nullary, StableHlo.TRef.binary, StableHlo.TRef.unary, StableHlo.TRef.toBuf, StableHlo.TRef.ofBuf, cast_eq]
  after_results_simp
  rfl

theorem V_wideW (c : Dev nD) : V m c main_v7 = wideW (aB m c) := by
  rw [before]
  simp only [hostOps0, hostOps0_1, hostOps0_2, hostOps0_3, hostOps0_4, List.cons_append, List.nil_append, List.append_nil,
    StableHlo.TRef.nullary, StableHlo.TRef.binary, StableHlo.TRef.unary, StableHlo.TRef.toBuf, StableHlo.TRef.ofBuf, cast_eq]
  after_results_simp
  rfl

theorem V_w (c : Dev nD) : V m c main_v8 = shapeCast S1x384 (aW m c) shapeCasts_S384_S1x384 := by
  rw [before]
  simp only [hostOps0, hostOps0_1, hostOps0_2, hostOps0_3, hostOps0_4, List.cons_append, List.nil_append, List.append_nil,
    StableHlo.TRef.nullary, StableHlo.TRef.binary, StableHlo.TRef.unary, StableHlo.TRef.toBuf, StableHlo.TRef.ofBuf, cast_eq]
  after_results_simp
  rfl

theorem wide_at (x : FVec Ideal S4096x8x96 .f32) (r : Fin 4096) (k : Fin 1024) :
    wide x (ix2 r k) = if h : k.val % 128 < 96 then x (ix3 r ⟨k.val / 128, by omega⟩ ⟨k.val % 128, h⟩) else 0 := by
  pointwise [wide]
  by_cases h : k.val % 128 < 96
  · rw [dif_pos h, dif_pos ⟨by omega, h⟩]
  · rw [dif_neg h, dif_neg (fun q => h q.2)]
    exact zer_apply _

theorem wideW_at (x : FVec Ideal S384x768 .f32) (k : Fin 1024) (j : Fin 384) :
    wideW x (ix2 k j) = if h : k.val % 128 < 96 then x (ix2 j ⟨k.val / 128 * 96 + k.val % 128, by omega⟩) else 0 := by
  pointwise [wideW]
  by_cases h : k.val % 128 < 96
  · rw [dif_pos h, dif_pos ⟨by omega, h⟩]
  · rw [dif_neg h, dif_neg (fun q => h q.2)]
    exact zer_apply _

theorem blk_dy (c : Dev nD) (t : Fin cfg0.N) (p : Fin 512) (j : Fin 384) :
    bdy (iblk m c 1 t) (iblk m c 0 t) p j = dy (aD m c) (aB m c) (row t p) j := by
  have e0 : ∀ k : Fin 1024, (show Vec Ideal S512x1024 .bf16 from iblk m c 0 t) (ix2 p k) = wide (aD m c) (ix2 (row t p) k) := fun k => by
    rw [← V_wide]; unfold row; blk_point [iblk, idx t]
  have e1 : ∀ k : Fin 1024, (show Vec Ideal S1024x384 .bf16 from iblk m c 1 t) (ix2 k j) = wideW (aB m c) (ix2 k j) := fun k => by
    rw [← V_wideW]; blk_point [iblk, idx t]
  unfold bdy dy
  simp only [e0, e1, wide_at, wideW_at]
  refine sum_heads (H := 8) (D := 96) (E := 32) _ _ (fun h d k l hk hl => ?_) fun h e k hk => ?_
  · have := h.isLt; have := d.isLt
    rw [dif_pos (by omega), dif_pos (by omega)]
    congr 2
    · congr 1 <;> apply Fin.ext <;> simp only [] <;> omega
    · congr 1; apply Fin.ext; simp only []; omega
  · have := e.isLt
    rw [dif_neg (by omega), zero_mul]

theorem blk_x (c : Dev nD) (t : Fin cfg0.N) (p : Fin 512) (j : Fin 384) :
    (show Vec Ideal S512x384 .bf16 from iblk m c 2 t) (ix2 p j) = aX m c (ix2 (row t p) j) := by
  unfold row
  blk_point [iblk, V, idx t]

theorem blk_w (c : Dev nD) (t : Fin cfg0.N) (j : Fin 384) :
    (show Vec Ideal S1x384 .f32 from iblk m c 3 t) (ix2 0 j) = aW m c (ix1 j) := by
  have e : (show Vec Ideal S1x384 .f32 from iblk m c 3 t) (ix2 0 j) = (show Vec Ideal S1x384 .f32 from V m c main_v8) (ix2 0 j) := by
    blk_point [iblk, idx t]
  rw [e, V_w]
  pointwise []

/-- What the kernel's first result holds at row `r`. -/
theorem blk_dx (c : Dev nD) (t : Fin cfg0.N) (p : Fin 512) (j : Fin 384) :
    k0_pay6 (F := Ideal) (iblk m c 1 t) (iblk m c 0 t) (iblk m c 2 t) (iblk m c 3 t) (ix2 p j)
      = kerGrad len (fun j => aX m c (ix2 (row t p) j)) (dy (aD m c) (aB m c) (row t p)) (fun j => aW m c (ix1 j)) j := by
  rw [pay6_apply]
  congr 1
  · exact funext fun j => blk_x m c t p j
  · exact funext fun j => blk_dy m c t p j
  · exact funext fun j => blk_w m c t j

variable (c : Dev nD) (hD : ∀ i, IsReal (aD m c i)) (hB : ∀ i, IsReal (aB m c i)) (hX : ∀ i, IsReal (aX m c i)) (hW : ∀ i, IsReal (aW m c i))

include hD hB in
theorem real_dy (r : Fin 4096) (j : Fin 384) : IsReal (dy (aD m c) (aB m c) r j) :=
  IsReal.sum _ fun k _ => (hD _).mul (hB _)

include hD hB hX hW in
theorem point_at (t : Fin cfg0.N) (p : Fin 512) (j : Fin 384) :
    k0_pay6 (F := Ideal) (iblk m c 1 t) (iblk m c 0 t) (iblk m c 2 t) (iblk m c 3 t) (ix2 p j)
      = Cert.QNormRefIdeal.Read.val_main_v41 (F := Ideal) (aD m c) (aB m c) (aX m c) (aW m c) (ix2 (row t p) j) := by
  rw [blk_dx, ref_dx, len_eq]
  exact grad_eq' 384 (by norm_num) _ _ _ (fun j => hX _) (fun j => real_dy m c hD hB _ j) (fun j => hW _) j

include hD hB hX hW in
theorem point (t : Fin cfg0.N) (y : S512x384.Idx) (i : S4096x384.Idx) (h0 : (i 0 : ℕ) = t.val * 512 + y 0) (h1 : (i 1 : ℕ) = y 1) :
    k0_pay6 (F := Ideal) (iblk m c 1 t) (iblk m c 0 t) (iblk m c 2 t) (iblk m c 3 t) y
      = Cert.QNormRefIdeal.Read.val_main_v41 (F := Ideal) (aD m c) (aB m c) (aX m c) (aW m c) i := by
  have e0 : y = ix2 (y 0) (y 1) := by idx_vars y; rfl
  have e1 : i = ix2 (row t (y 0)) (y 1) := by
    idx_vars i
    congr 1
    · exact Fin.ext h0
    · exact Fin.ext h1
  rw [e1, e0]
  exact point_at m c hD hB hX hW t (y 0) (y 1)

include hD hB hX hW in
/-- The first result array. -/
theorem final4 : (dats m 0 c).arrAt 4 (cfgs 0).N = Cert.QNormRefIdeal.Read.val_main_v41 (F := Ideal) (aD m c) (aB m c) (aX m c) (aW m c) := by
  refine (dats m 0 c).arrAt_eq_of_covers 4 _ (by decide +kernel) fun t _ y => ?_
  blk_simp
  rw [after0_4]
  by_cases h : t.val % 8 = 0
  · rw [outsAt0_A m c t h (by have := lt_of_lt_of_eq t.isLt N_0; omega)]
    frame_out
    exact point m c hD hB hX hW t y _ (by blk_simp [idx t]) (by blk_simp [idx t])
  · rw [outsAt0_B m c t h (by omega)]
    frame_out
    exact point m c hD hB hX hW t y _ (by blk_simp [idx t]) (by blk_simp [idx t])

/-- The sum of the row's contributions to the weights' gradient, one block of rows. -/
def part (t : Fin cfg0.N) (y : S1x384.Idx) : EReal :=
  ∑ p : Fin 512, dy (aD m c) (aB m c) (row t p) (y 1) * (aX m c (ix2 (row t p) (y 1)) * inv len (fun j => aX m c (ix2 (row t p) j)))

theorem blk_part (t : Fin cfg0.N) (j : Fin 384) :
    (∑ p : Fin 512, bdy (iblk m c 1 t) (iblk m c 0 t) p j
      * ((show Vec Ideal S512x384 .bf16 from iblk m c 2 t) (ix2 p j) * inv len (fun j => (show Vec Ideal S512x384 .bf16 from iblk m c 2 t) (ix2 p j))))
      = part m c t (ix2 0 j) :=
  Finset.sum_congr rfl fun p _ => by simp only [blk_dy, blk_x]; rfl

theorem step_A (t : Fin cfg0.N) (h : t.val % 8 = 0) (y : S1x384.Idx) : (outsAt0 m c t.val t.isLt).2 y = 0 + part m c t y := by
  rw [outsAt0_A m c t h (by have := lt_of_lt_of_eq t.isLt N_0; omega), zero_add]
  frame_out
  idx_vars y
  obtain rfl : y0 = 0 := Subsingleton.elim _ _
  rw [pay7_apply]
  exact blk_part m c t y1

theorem step_B (t : Fin cfg0.N) (h : ¬ t.val % 8 = 0) (y : S1x384.Idx) :
    (outsAt0 m c t.val t.isLt).2 y = (outsAt0 m c (t.val - 1) (by have := t.isLt; omega)).2 y + part m c t y := by
  rw [outsAt0_B m c t h (by omega)]
  frame_out
  idx_vars y
  obtain rfl : y0 = 0 := Subsingleton.elim _ _
  rw [pay1_apply]
  exact congrArg _ (blk_part m c t y1)

/-- The second result array. -/
theorem final5 : (dats m 0 c).arrAt 5 (cfgs 0).N = Cert.QNormRefIdeal.Read.val_main_v42 (F := Ideal) (aD m c) (aB m c) (aX m c) := by
  refine (dats m 0 c).arrAt_eq_of_after_last 5 t0_7 (by decide +kernel) _ fun j => ?_
  blk_simp
  rw [after0_5, Pipeline.eq_sum_fin_of_reset_step_apply_last (fun n h => (outsAt0 m c n h).2) 8 (fun _ => 0) (fun t y => part m c t y)
    (fun t h j => step_A m c t h j) (fun t h j => step_B m c t h j) (le_of_eq N_0) t0_7 rfl j, zero_add]
  idx_vars j
  obtain rfl : j0 = 0 := Subsingleton.elim _ _
  rw [ref_dw]
  unfold part row
  exact Fin.sum_mul_add_congr fun s k hl => rfl

end Arrays

/-- The reference terminates, keeps its arguments, and leaves every counter at zero: it has none. -/
theorem frame_ref : Cert.quiescent_QNormRefIdeal := fun m g _ => by
  refine (θ_run _ _ _).mono (fun r h => ⟨fun c => (h c).2.2, sem_eq_zero_of_no_sems (sig := Cert.QNormRefIdeal.sig) rfl _⟩)
    (Cert.QNormRefIdeal.Value.run m g)

/-- The claim: kernel and reference leave the same two arrays. -/
theorem algebraic : Cert.algebraic_QNormIdeal_QNormRefIdeal_pre_finite_qnorm := by
  pair_intro
  · run_from Cert.QNormIdeal.Value.run_blocks m g
  · run_from Cert.QNormRefIdeal.Value.run m' g'
    all_goals obtain ⟨a0, a1, a2, a3⟩ := hagree c
    · rw [Cert.QNormRefIdeal.Read.val_main_v41_eq, a0, a1, a2, a3]
      exact (final4 m c (fun i => isReal_of_fin _ _ _ (hpre c).1 i) (fun i => isReal_of_fin _ _ _ (hpre c).2.1 i) (fun i => isReal_of_fin _ _ _ (hpre c).2.2.1 i)
        (fun i => isReal_of_fin _ _ _ (hpre c).2.2.2 i)).symm
    · rw [Cert.QNormRefIdeal.Read.val_main_v42_eq]
      exact (final5 m c).symm

end Cert.QNormIdeal.Math

end
-- ==== Proof.KvNorm.lean ====
/-
  The gradient of the key and value latent's norm: what the kernel's two result arrays hold, and that they are the reference's.
-/
module

public import proofs.«01_k».proof.Defs
public import proofs.«01_k».proof.Proof.Gen.Pre_finite_kvnorm
public import proofs.«01_k».proof.Proof.Gen.KvNormIdeal.Frame
public import proofs.«01_k».proof.Proof.Gen.KvNormIdeal.Value
public import proofs.«01_k».proof.Proof.Gen.KvNormRefIdeal.Read
public import proofs.«01_k».proof.Proof.Norm
public import Idealize.ShloMosaic.Lib.Claim

@[expose] public section

set_option maxRecDepth 16256

noncomputable section

namespace Cert.KvNormIdeal.Math

open Cert.KvNormIdeal Cert.KvNormIdeal.Gen Cert.Finite Cert.Norm Idealize.ShloMosaic Idealize.ShloMosaic.TcCoe Idealize.SL.Sem
open Idealize.ShloMosaic.Pipeline (Dat)

variable (m : (ℓ : Loc nD τ sig) → Buf (Elt Ideal) ℓ)

/-- The row length as the programs write it. -/
def len : EReal := (FloatOps.ofBits (F := Ideal) .f32 0x43800000#32)
theorem len_eq : len = ((256 : ℝ) : EReal) := by
  unfold len; simp [Ideal.ofBits, Ideal.ieee]; norm_num
  rw [← EReal.coe_mul, EReal.coe_eq_coe_iff]; norm_num

section Ref
open Cert.KvNormRefIdeal.Read

variable (x0 x1 : FVec Ideal S4096x8x64 .f32) (x2 : FVec Ideal S256x1024 .f32) (x3 : FVec Ideal S4096x256 .bf16) (x4 : FVec Ideal S256 .f32)

/-- The cotangent of the norm's result, row by row: of the keys' half of the projection's columns, and of the values'. -/
def dy (r : Fin 4096) (j : Fin 256) : EReal :=
  (∑ k : Fin 512, x0 (ix3 r ⟨k.val / 64, by omega⟩ ⟨k.val % 64, by omega⟩) * x2 (ix2 j ⟨k.val / 64 * 128 + k.val % 64, by omega⟩))
    + ∑ k : Fin 512, x1 (ix3 r ⟨k.val / 64, by omega⟩ ⟨k.val % 64, by omega⟩) * x2 (ix2 j ⟨k.val / 64 * 128 + 64 + k.val % 64, by omega⟩)

theorem heads_apply (r : Fin 4096) (k : Fin 1024) : val_main_v24 (F := Ideal) x0 x1 (ix2 r k)
    = if h : k.val % 128 < 64 then x0 (ix3 r ⟨k.val / 128, by omega⟩ ⟨k.val % 128, h⟩) else x1 (ix3 r ⟨k.val / 128, by omega⟩ ⟨k.val % 128 - 64, by omega⟩) := by
  pointwise [val_main_v24, val_main_v23, val_main_v22, val_main_v21, val_main_cst_3, val_main_cst_4]
  split_ifs with h1 h2 h3 <;> first | (exfalso; omega) | exact zero_add _ | exact add_zero _

theorem dy_apply (r : Fin 4096) (j : Fin 256) : val_main_v25 (F := Ideal) x0 x1 x2 (ix2 r j) = dy x0 x1 x2 r j := by
  pointwise [val_main_v25]
  simp only [heads_apply]
  refine sum_split (H := 8) (D := 64) (E := 64) _ _ _ (fun h d k l hk hl => ?_) fun h d k l hk hl => ?_
  · have := h.isLt; have := d.isLt
    rw [dif_pos (by omega)]
    congr 2
    · congr 1 <;> apply Fin.ext <;> simp only [] <;> omega
    · congr 1; apply Fin.ext; simp only []; omega
  · have := h.isLt; have := d.isLt
    rw [dif_neg (by omega)]
    congr 2
    · congr 1 <;> apply Fin.ext <;> simp only [] <;> omega
    · congr 1; apply Fin.ext; simp only []; omega

theorem msq_apply (r : Fin 4096) : val_main_v7 (F := Ideal) x3 (ix2 r 0) = msq len fun j => x3 (ix2 r j) := by
  pointwise [val_main_v7, val_main_v6, val_main_v5, val_main_v4, val_main_v3, val_main_v2, val_main_v1, val_main_v0, val_main_cst, val_main_cst_0, val_main_cst_1]
  rfl

theorem inv_apply (r : Fin 4096) : val_main_v8 (F := Ideal) x3 (ix2 r 0) = inv len fun j => x3 (ix2 r j) := by
  pointwise [val_main_v8]
  rw [msq_apply]; rfl

theorem part_apply (r : Fin 4096) : val_main_v40 (F := Ideal) x0 x1 x2 x3 x4 (ix1 r)
    = refPart len (fun j => x3 (ix2 r j)) (dy x0 x1 x2 r) (fun j => x4 (ix1 j)) := by
  pointwise [val_main_v40, val_main_v39, val_main_v38, val_main_v37, val_main_v34, val_main_v33, val_main_v32, val_main_v30, val_main_v29, val_main_v14, val_main_v11, val_main_v10, val_main_v9, val_main_v8, val_main_v0, val_main_cst_9, val_main_cst_7, val_main_cst_2, val_main_cst_8]
  rw [Fin.sum_univ_one, msq_apply]
  simp only [dy_apply]
  rfl

/-- The reference's gradient of the rows. -/
theorem ref_dx (r : Fin 4096) (j : Fin 256) : val_main_v46 (F := Ideal) x0 x1 x2 x3 x4 (ix2 r j)
    = dy x0 x1 x2 r j * x4 (ix1 j) * inv len (fun j => x3 (ix2 r j))
      + x3 (ix2 r j) * refPart len (fun j => x3 (ix2 r j)) (dy x0 x1 x2 r) (fun j => x4 (ix1 j))
      + refPart len (fun j => x3 (ix2 r j)) (dy x0 x1 x2 r) (fun j => x4 (ix1 j)) * x3 (ix2 r j) := by
  pointwise [val_main_v46, val_main_v45, val_main_v44, val_main_v43, val_main_v42, val_main_v41, val_main_v36, val_main_v35, val_main_v30, val_main_v29, val_main_v14, val_main_v0]
  rw [part_apply, inv_apply, dy_apply]

/-- The reference's gradient of the weights. -/
theorem ref_dw (j : Fin 256) : val_main_v47 (F := Ideal) x0 x1 x2 x3 (ix2 0 j)
    = ∑ r : Fin 4096, dy x0 x1 x2 r j * (x3 (ix2 r j) * inv len (fun j => x3 (ix2 r j))) := by
  pointwise [val_main_v47, val_main_v31, val_main_v28, val_main_v27, val_main_v26, val_main_v13, val_main_v12, val_main_v0, val_main_cst_6, val_main_cst_5]
  simp only [Fin.sum_univ_one, inv_apply, dy_apply]
  simp only [mul_comm (dy x0 x1 x2 _ _)]

end Ref

section Blocks
variable (v0 : Vec Ideal S1024x256 .bf16) (v2 : Vec Ideal S512x1024 .bf16) (v4 : Vec Ideal S1024x256 .bf16) (v6 : Vec Ideal S512x1024 .bf16) (v9 : Vec Ideal S512x256 .bf16) (v10 : Vec Ideal S1x256 .f32)

/-- The cotangent of a block of the norm's result. -/
def bdy (p : Fin 512) (j : Fin 256) : EReal :=
  (∑ k : Fin 1024, v2 (ix2 p k) * v0 (ix2 k j)) + ∑ k : Fin 1024, v6 (ix2 p k) * v4 (ix2 k j)

theorem pay3_apply (p : Fin 512) (j : Fin 256) : k0_pay3 (F := Ideal) v0 v2 v4 v6 (ix2 p j) = bdy v0 v2 v4 v6 p j := by
  pointwise [k0_pay3]
  rfl

theorem pay5_apply (p : Fin 512) : k0_pay5 (F := Ideal) v9 (ix2 p 0) = inv len fun j => v9 (ix2 p j) := by
  pointwise [k0_pay5, k0_pay4]
  rfl

theorem pay8_apply (p : Fin 512) (j : Fin 256) : k0_pay8 (F := Ideal) v0 v2 v4 v6 v9 v10 (ix2 p j)
    = kerGrad len (fun j => v9 (ix2 p j)) (bdy v0 v2 v4 v6 p) (fun j => v10 (ix2 0 j)) j := by
  pointwise [k0_pay8, k0_pay6, k0_pay4]
  simp only [pay3_apply, pay5_apply]
  rfl

theorem pay1_apply (j : Fin 256) : k0_pay1 (F := Ideal) (k0_pay7 v0 v2 v4 v6 v9) (ix2 0 j)
    = ∑ p : Fin 512, bdy v0 v2 v4 v6 p j * (v9 (ix2 p j) * inv len (fun j => v9 (ix2 p j))) := by
  pointwise [k0_pay1, k0_pay7, k0_pay6, k0_pay4]
  simp only [pay3_apply, pay5_apply]

theorem pay2_apply (acc : Vec Ideal S1x256 .f32) (j : Fin 256) : k0_pay2 (F := Ideal) (k0_pay7 v0 v2 v4 v6 v9) acc (ix2 0 j)
    = acc (ix2 0 j) + ∑ p : Fin 512, bdy v0 v2 v4 v6 p j * (v9 (ix2 p j) * inv len (fun j => v9 (ix2 p j))) := by
  rw [← pay1_apply]
  pointwise [k0_pay2]

end Blocks

section Arrays

/-- The arguments, by name. -/
abbrev aK (c : Dev nD) : FVec Ideal S4096x8x64 .f32 := m ((c : Thread nD τ).loc main_arg0)
abbrev aV (c : Dev nD) : FVec Ideal S4096x8x64 .f32 := m ((c : Thread nD τ).loc main_arg1)
abbrev aB (c : Dev nD) : FVec Ideal S256x1024 .f32 := m ((c : Thread nD τ).loc main_arg2)
abbrev aX (c : Dev nD) : FVec Ideal S4096x256 .bf16 := m ((c : Thread nD τ).loc main_arg3)
abbrev aW (c : Dev nD) : FVec Ideal S256 .f32 := m ((c : Thread nD τ).loc main_arg4)

theorem idx : ∀ t : Fin cfg0.N, win0_0.index t = ![t.val, 0] ∧ win0_1.index t = ![t.val, 0] ∧ win0_2.index t = ![0, 0] ∧ win0_3.index t = ![0, 0]
    ∧ win0_4.index t = ![t.val, 0] ∧ win0_5.index t = ![0, 0] ∧ win0_6.index t = ![t.val, 0] ∧ win0_7.index t = ![0, 0] :=
  (by decide +kernel : ∀ t : Fin grid0.N, _)

/-- Row `p` of the point's block is a row of the arrays. -/
def row (t : Fin cfg0.N) (p : Fin 512) : Fin 4096 := ⟨t.val * 512 + p.val, by have := lt_of_lt_of_eq t.isLt N_0; omega⟩

/-- The host's operations before the call, in one list. -/
theorem before (c : Dev nD) (b : Ref sig .tc) : V m c b = StableHlo.after
    ((hostOps0 ++ (hostOps0_1 ++ (hostOps0_2 ++ (hostOps0_3 ++ (hostOps0_4 ++ (hostOps0_5 ++ (hostOps0_6 ++ (hostOps0_7 ++ (hostOps0_8 ++ []))))))))) : List (HloOp τ sig (Elt Ideal)))
    (fun b => m (c, b)) (Proc.devRef .tc b) := rfl

/-- The filling lanes hold zero. -/
def zer : FVec Ideal S_ .f32 := sitofp (F := Ideal) .f32 (constantI S_ 32 0#32)
theorem zer_apply (i : S_.Idx) : zer i = 0 := by
  show ((((0#32 : BitVec 32).toInt : ℝ)) : EReal) = 0
  simp

/-- A cotangent's heads, each in lanes of its own, -/
def wide (x : FVec Ideal S4096x8x64 .f32) : FVec Ideal S4096x1024 .bf16 :=
  truncf .bf16 (shapeCast S4096x1024 (pad S4096x8x128 ![0, 0, 0] ![0, 0, 64] ![0, 0, 0] x zer pads_S4096x8x64_S4096x8x128_000_000_0640 h_S_)
    shapeCasts_S4096x8x128_S4096x1024) bitsLt_bf16_f32
/-- and half of the up projection's, -/
def wideH (x : FVec Ideal S8x64x256 .f32) : FVec Ideal S1024x256 .bf16 :=
  truncf .bf16 (shapeCast S1024x256 (pad S8x128x256 ![0, 0, 0] ![0, 64, 0] ![0, 0, 0] x zer
    pads_S8x64x256_S8x128x256_000_0640_000 h_S_) shapeCasts_S8x128x256_S1024x256) bitsLt_bf16_f32
def tr (x : FVec Ideal S256x1024 .f32) : FVec Ideal S8x128x256 .f32 :=
  shapeCast S8x128x256 (transpose S1024x256 [1, 0] x transposes_S256x1024_S1024x256_1_0) shapeCasts_S1024x256_S8x128x256
/-- the keys' -/
def wideK (x : FVec Ideal S256x1024 .f32) : FVec Ideal S1024x256 .bf16 :=
  wideH (extractStridedSlice S8x64x256 ![0, 0, 0] (tr x) slices_S8x128x256_S8x64x256_0_0_0)
/-- and the values'. -/
def wideV (x : FVec Ideal S256x1024 .f32) : FVec Ideal S1024x256 .bf16 :=
  wideH (extractStridedSlice S8x64x256 ![0, 64, 0] (tr x) slices_S8x128x256_S8x64x256_0_64_0)

theorem V_k (c : Dev nD) : V m c main_v10 = wide (aK m c) := by
  rw [before]
  simp only [hostOps0, hostOps0_1, hostOps0_2, hostOps0_3, hostOps0_4, hostOps0_5, hostOps0_6, hostOps0_7, hostOps0_8, List.cons_append, List.nil_append, List.append_nil,
    StableHlo.TRef.nullary, StableHlo.TRef.binary, StableHlo.TRef.unary, StableHlo.TRef.toBuf, StableHlo.TRef.ofBuf, cast_eq]
  after_results_simp
  rfl

theorem V_v (c : Dev nD) : V m c main_v13 = wide (aV m c) := by
  rw [before]
  simp only [hostOps0, hostOps0_1, hostOps0_2, hostOps0_3, hostOps0_4, hostOps0_5, hostOps0_6, hostOps0_7, hostOps0_8, List.cons_append, List.nil_append, List.append_nil,
    StableHlo.TRef.nullary, StableHlo.TRef.binary, StableHlo.TRef.unary, StableHlo.TRef.toBuf, StableHlo.TRef.ofBuf, cast_eq]
  after_results_simp
  rfl

theorem V_wk (c : Dev nD) : V m c main_v14 = wideK (aB m c) := by
  rw [before]
  simp only [hostOps0, hostOps0_1, hostOps0_2, hostOps0_3, hostOps0_4, hostOps0_5, hostOps0_6, hostOps0_7, hostOps0_8, List.cons_append, List.nil_append, List.append_nil,
    StableHlo.TRef.nullary, StableHlo.TRef.binary, StableHlo.TRef.unary, StableHlo.TRef.toBuf, StableHlo.TRef.ofBuf, cast_eq]
  after_results_simp
  rfl

theorem V_wv (c : Dev nD) : V m c main_v15 = wideV (aB m c) := by
  rw [before]
  simp only [hostOps0, hostOps0_1, hostOps0_2, hostOps0_3, hostOps0_4, hostOps0_5, hostOps0_6, hostOps0_7, hostOps0_8, List.cons_append, List.nil_append, List.append_nil,
    StableHlo.TRef.nullary, StableHlo.TRef.binary, StableHlo.TRef.unary, StableHlo.TRef.toBuf, StableHlo.TRef.ofBuf, cast_eq]
  after_results_simp
  rfl

theorem V_w (c : Dev nD) : V m c main_v16 = shapeCast S1x256 (aW m c) shapeCasts_S256_S1x256 := by
  rw [before]
  simp only [hostOps0, hostOps0_1, hostOps0_2, hostOps0_3, hostOps0_4, hostOps0_5, hostOps0_6, hostOps0_7, hostOps0_8, List.cons_append, List.nil_append, List.append_nil,
    StableHlo.TRef.nullary, StableHlo.TRef.binary, StableHlo.TRef.unary, StableHlo.TRef.toBuf, StableHlo.TRef.ofBuf, cast_eq]
  after_results_simp
  rfl

theorem wide_at (x : FVec Ideal S4096x8x64 .f32) (r : Fin 4096) (k : Fin 1024) :
    wide x (ix2 r k) = if h : k.val % 128 < 64 then x (ix3 r ⟨k.val / 128, by omega⟩ ⟨k.val % 128, h⟩) else 0 := by
  pointwise [wide]
  by_cases h : k.val % 128 < 64
  · rw [dif_pos h, dif_pos ⟨by omega, h⟩]
  · rw [dif_neg h, dif_neg (fun q => h q.2)]
    exact zer_apply _

theorem wideK_at (x : FVec Ideal S256x1024 .f32) (k : Fin 1024) (j : Fin 256) :
    wideK x (ix2 k j) = if h : k.val % 128 < 64 then x (ix2 j ⟨k.val / 128 * 128 + k.val % 128, by omega⟩) else 0 := by
  pointwise [wideK, wideH, tr]
  by_cases h : k.val % 128 < 64
  · rw [dif_pos h, dif_pos ⟨by omega, h⟩]
    exact congrArg x (by congr 1; apply Fin.ext; simp only []; omega)
  · rw [dif_neg h, dif_neg (fun q => h q.2)]
    exact zer_apply _

theorem wideV_at (x : FVec Ideal S256x1024 .f32) (k : Fin 1024) (j : Fin 256) :
    wideV x (ix2 k j) = if h : k.val % 128 < 64 then x (ix2 j ⟨k.val / 128 * 128 + (64 + k.val % 128), by omega⟩) else 0 := by
  pointwise [wideV, wideH, tr]
  split_ifs with h1 h2 <;> first | (exfalso; omega) | rfl | exact zer_apply _

theorem blk_dy (c : Dev nD) (t : Fin cfg0.N) (p : Fin 512) (j : Fin 256) :
    bdy (iblk m c 2 t) (iblk m c 0 t) (iblk m c 3 t) (iblk m c 1 t) p j = dy (aK m c) (aV m c) (aB m c) (row t p) j := by
  have e0 : ∀ k : Fin 1024, (show Vec Ideal S512x1024 .bf16 from iblk m c 0 t) (ix2 p k) = wide (aK m c) (ix2 (row t p) k) := fun k => by
    rw [← V_k]; unfold row; blk_point [iblk, idx t]
  have e1 : ∀ k : Fin 1024, (show Vec Ideal S512x1024 .bf16 from iblk m c 1 t) (ix2 p k) = wide (aV m c) (ix2 (row t p) k) := fun k => by
    rw [← V_v]; unfold row; blk_point [iblk, idx t]
  have e2 : ∀ k : Fin 1024, (show Vec Ideal S1024x256 .bf16 from iblk m c 2 t) (ix2 k j) = wideK (aB m c) (ix2 k j) := fun k => by
    rw [← V_wk]; blk_point [iblk, idx t]
  have e3 : ∀ k : Fin 1024, (show Vec Ideal S1024x256 .bf16 from iblk m c 3 t) (ix2 k j) = wideV (aB m c) (ix2 k j) := fun k => by
    rw [← V_wv]; blk_point [iblk, idx t]
  unfold bdy dy
  simp only [e0, e1, e2, e3, wide_at, wideK_at, wideV_at]
  refine congrArg₂ _ (sum_heads (H := 8) (D := 64) (E := 64) _ _ (fun h d k l hk hl => ?_) fun h e k hk => ?_)
    (sum_heads (H := 8) (D := 64) (E := 64) _ _ (fun h d k l hk hl => ?_) fun h e k hk => ?_)
  rotate_left
  · have := e.isLt
    rw [dif_neg (by omega), zero_mul]
  rotate_left
  · have := e.isLt
    rw [dif_neg (by omega), zero_mul]
  all_goals
    have := h.isLt; have := d.isLt
    rw [dif_pos (by omega), dif_pos (by omega)]
    congr 2
    · congr 1 <;> apply Fin.ext <;> simp only [] <;> omega
    · congr 1; apply Fin.ext; simp only []; omega

theorem blk_x (c : Dev nD) (t : Fin cfg0.N) (p : Fin 512) (j : Fin 256) :
    (show Vec Ideal S512x256 .bf16 from iblk m c 4 t) (ix2 p j) = aX m c (ix2 (row t p) j) := by
  unfold row
  blk_point [iblk, V, idx t]

theorem blk_w (c : Dev nD) (t : Fin cfg0.N) (j : Fin 256) :
    (show Vec Ideal S1x256 .f32 from iblk m c 5 t) (ix2 0 j) = aW m c (ix1 j) := by
  have e : (show Vec Ideal S1x256 .f32 from iblk m c 5 t) (ix2 0 j) = (show Vec Ideal S1x256 .f32 from V m c main_v16) (ix2 0 j) := by
    blk_point [iblk, idx t]
  rw [e, V_w]
  pointwise []

/-- What the kernel's first result holds at row `r`. -/
theorem blk_dx (c : Dev nD) (t : Fin cfg0.N) (p : Fin 512) (j : Fin 256) :
    k0_pay8 (F := Ideal) (iblk m c 2 t) (iblk m c 0 t) (iblk m c 3 t) (iblk m c 1 t) (iblk m c 4 t) (iblk m c 5 t) (ix2 p j)
      = kerGrad len (fun j => aX m c (ix2 (row t p) j)) (dy (aK m c) (aV m c) (aB m c) (row t p)) (fun j => aW m c (ix1 j)) j := by
  rw [pay8_apply]
  congr 1
  · exact funext fun j => blk_x m c t p j
  · exact funext fun j => blk_dy m c t p j
  · exact funext fun j => blk_w m c t j

variable (c : Dev nD) (hK : ∀ i, IsReal (aK m c i)) (hV : ∀ i, IsReal (aV m c i)) (hB : ∀ i, IsReal (aB m c i)) (hX : ∀ i, IsReal (aX m c i)) (hW : ∀ i, IsReal (aW m c i))

include hK hV hB in
theorem real_dy (r : Fin 4096) (j : Fin 256) : IsReal (dy (aK m c) (aV m c) (aB m c) r j) :=
  (IsReal.sum _ fun k _ => (hK _).mul (hB _)).add (IsReal.sum _ fun k _ => (hV _).mul (hB _))

include hK hV hB hX hW in
theorem point_at (t : Fin cfg0.N) (p : Fin 512) (j : Fin 256) :
    k0_pay8 (F := Ideal) (iblk m c 2 t) (iblk m c 0 t) (iblk m c 3 t) (iblk m c 1 t) (iblk m c 4 t) (iblk m c 5 t) (ix2 p j)
      = Cert.KvNormRefIdeal.Read.val_main_v46 (F := Ideal) (aK m c) (aV m c) (aB m c) (aX m c) (aW m c) (ix2 (row t p) j) := by
  rw [blk_dx, ref_dx, len_eq]
  exact grad_eq' 256 (by norm_num) _ _ _ (fun j => hX _) (fun j => real_dy m c hK hV hB _ j) (fun j => hW _) j

include hK hV hB hX hW in
theorem point (t : Fin cfg0.N) (y : S512x256.Idx) (i : S4096x256.Idx) (h0 : (i 0 : ℕ) = t.val * 512 + y 0) (h1 : (i 1 : ℕ) = y 1) :
    k0_pay8 (F := Ideal) (iblk m c 2 t) (iblk m c 0 t) (iblk m c 3 t) (iblk m c 1 t) (iblk m c 4 t) (iblk m c 5 t) y
      = Cert.KvNormRefIdeal.Read.val_main_v46 (F := Ideal) (aK m c) (aV m c) (aB m c) (aX m c) (aW m c) i := by
  have e0 : y = ix2 (y 0) (y 1) := by idx_vars y; rfl
  have e1 : i = ix2 (row t (y 0)) (y 1) := by
    idx_vars i
    congr 1
    · exact Fin.ext h0
    · exact Fin.ext h1
  rw [e1, e0]
  exact point_at m c hK hV hB hX hW t (y 0) (y 1)

include hK hV hB hX hW in
/-- The first result array. -/
theorem final6 : (dats m 0 c).arrAt 6 (cfgs 0).N = Cert.KvNormRefIdeal.Read.val_main_v46 (F := Ideal) (aK m c) (aV m c) (aB m c) (aX m c) (aW m c) := by
  refine (dats m 0 c).arrAt_eq_of_covers 6 _ (by decide +kernel) fun t _ y => ?_
  blk_simp
  rw [after0_6]
  by_cases h : t.val % 8 = 0
  · rw [outsAt0_A m c t h (by have := lt_of_lt_of_eq t.isLt N_0; omega)]
    frame_out
    exact point m c hK hV hB hX hW t y _ (by blk_simp [idx t]) (by blk_simp [idx t])
  · rw [outsAt0_B m c t h (by omega)]
    frame_out
    exact point m c hK hV hB hX hW t y _ (by blk_simp [idx t]) (by blk_simp [idx t])

/-- The sum of the row's contributions to the weights' gradient, one block of rows. -/
def part (t : Fin cfg0.N) (y : S1x256.Idx) : EReal :=
  ∑ p : Fin 512, dy (aK m c) (aV m c) (aB m c) (row t p) (y 1) * (aX m c (ix2 (row t p) (y 1)) * inv len (fun j => aX m c (ix2 (row t p) j)))

theorem blk_part (t : Fin cfg0.N) (j : Fin 256) :
    (∑ p : Fin 512, bdy (iblk m c 2 t) (iblk m c 0 t) (iblk m c 3 t) (iblk m c 1 t) p j
      * ((show Vec Ideal S512x256 .bf16 from iblk m c 4 t) (ix2 p j) * inv len (fun j => (show Vec Ideal S512x256 .bf16 from iblk m c 4 t) (ix2 p j))))
      = part m c t (ix2 0 j) :=
  Finset.sum_congr rfl fun p _ => by simp only [blk_dy, blk_x]; rfl

theorem step_A (t : Fin cfg0.N) (h : t.val % 8 = 0) (y : S1x256.Idx) : (outsAt0 m c t.val t.isLt).2 y = 0 + part m c t y := by
  rw [outsAt0_A m c t h (by have := lt_of_lt_of_eq t.isLt N_0; omega), zero_add]
  frame_out
  idx_vars y
  obtain rfl : y0 = 0 := Subsingleton.elim _ _
  rw [pay1_apply]
  exact blk_part m c t y1

theorem step_B (t : Fin cfg0.N) (h : ¬ t.val % 8 = 0) (y : S1x256.Idx) :
    (outsAt0 m c t.val t.isLt).2 y = (outsAt0 m c (t.val - 1) (by have := t.isLt; omega)).2 y + part m c t y := by
  rw [outsAt0_B m c t h (by omega)]
  frame_out
  idx_vars y
  obtain rfl : y0 = 0 := Subsingleton.elim _ _
  rw [pay2_apply]
  exact congrArg _ (blk_part m c t y1)

/-- The second result array. -/
theorem final7 : (dats m 0 c).arrAt 7 (cfgs 0).N = Cert.KvNormRefIdeal.Read.val_main_v47 (F := Ideal) (aK m c) (aV m c) (aB m c) (aX m c) := by
  refine (dats m 0 c).arrAt_eq_of_after_last 7 t0_7 (by decide +kernel) _ fun j => ?_
  blk_simp
  rw [after0_7, Pipeline.eq_sum_fin_of_reset_step_apply_last (fun n h => (outsAt0 m c n h).2) 8 (fun _ => 0) (fun t y => part m c t y)
    (fun t h j => step_A m c t h j) (fun t h j => step_B m c t h j) (le_of_eq N_0) t0_7 rfl j, zero_add]
  idx_vars j
  obtain rfl : j0 = 0 := Subsingleton.elim _ _
  rw [ref_dw]
  unfold part row
  exact Fin.sum_mul_add_congr fun s k hl => rfl

end Arrays

/-- The reference terminates, keeps its arguments, and leaves every counter at zero: it has none. -/
theorem frame_ref : Cert.quiescent_KvNormRefIdeal := fun m g _ => by
  refine (θ_run _ _ _).mono (fun r h => ⟨fun c => (h c).2.2, sem_eq_zero_of_no_sems (sig := Cert.KvNormRefIdeal.sig) rfl _⟩)
    (Cert.KvNormRefIdeal.Value.run m g)

/-- The claim: kernel and reference leave the same two arrays. -/
theorem algebraic : Cert.algebraic_KvNormIdeal_KvNormRefIdeal_pre_finite_kvnorm := by
  pair_intro
  · run_from Cert.KvNormIdeal.Value.run_blocks m g
  · run_from Cert.KvNormRefIdeal.Value.run m' g'
    all_goals obtain ⟨a0, a1, a2, a3, a4⟩ := hagree c
    · rw [Cert.KvNormRefIdeal.Read.val_main_v46_eq, a0, a1, a2, a3, a4]
      exact (final6 m c (fun i => isReal_of_fin _ _ _ (hpre c).1 i) (fun i => isReal_of_fin _ _ _ (hpre c).2.1 i) (fun i => isReal_of_fin _ _ _ (hpre c).2.2.1 i)
        (fun i => isReal_of_fin _ _ _ (hpre c).2.2.2.1 i) (fun i => isReal_of_fin _ _ _ (hpre c).2.2.2.2 i)).symm
    · rw [Cert.KvNormRefIdeal.Read.val_main_v47_eq]
      exact (final7 m c).symm

end Cert.KvNormIdeal.Math

end
-- ==== Proof.InNorm.lean ====
/-
  The gradient of the first norm: what the kernel's two result arrays hold, and that they are the reference's.
-/
module

public import proofs.«01_k».proof.Defs
public import proofs.«01_k».proof.Proof.Gen.Pre_finite_innorm
public import proofs.«01_k».proof.Proof.Gen.InNormIdeal.Frame
public import proofs.«01_k».proof.Proof.Gen.InNormIdeal.Value
public import proofs.«01_k».proof.Proof.Gen.InNormRefIdeal.Read
public import proofs.«01_k».proof.Proof.Norm
public import Idealize.ShloMosaic.Lib.Claim

@[expose] public section

set_option maxRecDepth 16384

noncomputable section

namespace Cert.InNormIdeal.Math

open Cert.InNormIdeal Cert.InNormIdeal.Gen Cert.Finite Cert.Norm Idealize.ShloMosaic Idealize.ShloMosaic.TcCoe Idealize.SL.Sem
open Idealize.ShloMosaic.Pipeline (Dat)

variable (m : (ℓ : Loc nD τ sig) → Buf (Elt Ideal) ℓ)

/-- The row length as the programs write it. -/
def len : EReal := (FloatOps.ofBits (F := Ideal) .f32 0x44800000#32)
theorem len_eq : len = ((1024 : ℝ) : EReal) := by
  unfold len; simp [Ideal.ofBits, Ideal.ieee]; norm_num
  rw [← EReal.coe_mul, EReal.coe_eq_coe_iff]; norm_num

section Ref
open Cert.InNormRefIdeal.Read

variable (x0 : FVec Ideal S4096x2048 .bf16) (x1 : FVec Ideal S4096x8 .f32) (x2 : FVec Ideal S4096x640 .bf16) (x3 : FVec Ideal S4096x32 .f32)
  (x4 : FVec Ideal S1024x2728 .f32) (x5 : FVec Ideal S4096x1024 .f32) (x6 : FVec Ideal S1024 .f32) (x7 : FVec Ideal S4096x1024 .f32)

/-- The cotangent of the norm's result, row by row: one sum for each part of the projection's columns. -/
def dy (r : Fin 4096) (j : Fin 1024) : EReal :=
  (∑ k : Fin 2048, x0 (ix2 r k) * x4 (ix2 j ⟨k.val, by omega⟩)) + (∑ k : Fin 640, x2 (ix2 r k) * x4 (ix2 j ⟨2056 + k.val, by omega⟩))
    + ((∑ k : Fin 8, x1 (ix2 r k) * x4 (ix2 j ⟨2048 + k.val, by omega⟩)) + ∑ k : Fin 32, x3 (ix2 r k) * x4 (ix2 j ⟨2696 + k.val, by omega⟩))

theorem dy_apply (r : Fin 4096) (j : Fin 1024) : val_main_v24 (F := Ideal) x0 x1 x2 x3 x4 (ix2 r j) = dy x0 x1 x2 x3 x4 r j := by
  pointwise [val_main_v24, val_main_v23, val_main_v22, val_main_v21]
  rw [sum_four (a := 2048) (b := 8) (c := 640) (d := 32) _ (fun k => x0 (ix2 r k) * x4 (ix2 j ⟨k.val, by omega⟩))
    (fun k => x1 (ix2 r k) * x4 (ix2 j ⟨2048 + k.val, by omega⟩)) (fun k => x2 (ix2 r k) * x4 (ix2 j ⟨2056 + k.val, by omega⟩))
    (fun k => x3 (ix2 r k) * x4 (ix2 j ⟨2696 + k.val, by omega⟩)) rfl (fun i k hk => ?_) (fun i k hk => ?_) (fun i k hk => ?_) (fun i k hk => ?_)]
  · unfold dy; abel
  · have := i.isLt
    rw [dif_pos (by omega)]
    congr 3 <;> first | exact Fin.ext hk | (congr 1; exact Fin.ext hk)
  · have := i.isLt
    rw [dif_neg (by omega), dif_pos (by omega)]
    congr 3 <;> (apply Fin.ext; simp only []; omega)
  · have := i.isLt
    rw [dif_neg (by omega), dif_neg (by omega), dif_pos (by omega)]
    congr 3 <;> (apply Fin.ext; simp only []; omega)
  · have := i.isLt
    rw [dif_neg (by omega), dif_neg (by omega), dif_neg (by omega)]
    congr 3 <;> (apply Fin.ext; simp only []; omega)

theorem msq_apply (r : Fin 4096) : val_main_v6 (F := Ideal) x5 (ix2 r 0) = msq len fun j => x5 (ix2 r j) := by
  pointwise [val_main_v6, val_main_v5, val_main_v4, val_main_v3, val_main_v2, val_main_v1, val_main_v0, val_main_cst, val_main_cst_0, val_main_cst_1]
  rfl

theorem inv_apply (r : Fin 4096) : val_main_v7 (F := Ideal) x5 (ix2 r 0) = inv len fun j => x5 (ix2 r j) := by
  pointwise [val_main_v7]
  rw [msq_apply]; rfl

theorem part_apply (r : Fin 4096) : val_main_v40 (F := Ideal) x0 x1 x2 x3 x4 x5 x6 (ix1 r)
    = refPart len (fun j => x5 (ix2 r j)) (dy x0 x1 x2 x3 x4 r) (fun j => x6 (ix1 j)) := by
  pointwise [val_main_v40, val_main_v39, val_main_v38, val_main_v37, val_main_v33, val_main_v32, val_main_v31, val_main_v29, val_main_v28, val_main_v13, val_main_v10, val_main_v9, val_main_v8, val_main_v7, val_main_cst_7, val_main_cst_5, val_main_cst_2, val_main_cst_6]
  rw [Fin.sum_univ_one, msq_apply]
  simp only [dy_apply]
  rfl

/-- The reference's gradient of the rows. -/
theorem ref_dx (r : Fin 4096) (j : Fin 1024) : val_main_v45 (F := Ideal) x0 x1 x2 x3 x4 x5 x6 x7 (ix2 r j)
    = x7 (ix2 r j) + dy x0 x1 x2 x3 x4 r j * x6 (ix1 j) * inv len (fun j => x5 (ix2 r j))
      + x5 (ix2 r j) * refPart len (fun j => x5 (ix2 r j)) (dy x0 x1 x2 x3 x4 r) (fun j => x6 (ix1 j))
      + refPart len (fun j => x5 (ix2 r j)) (dy x0 x1 x2 x3 x4 r) (fun j => x6 (ix1 j)) * x5 (ix2 r j) := by
  pointwise [val_main_v45, val_main_v44, val_main_v43, val_main_v42, val_main_v41, val_main_v36, val_main_v35, val_main_v34, val_main_v29, val_main_v28, val_main_v13]
  rw [part_apply, inv_apply, dy_apply]

/-- The reference's gradient of the weights. -/
theorem ref_dw (j : Fin 1024) : val_main_v46 (F := Ideal) x0 x1 x2 x3 x4 x5 (ix2 0 j)
    = ∑ r : Fin 4096, dy x0 x1 x2 x3 x4 r j * (x5 (ix2 r j) * inv len (fun j => x5 (ix2 r j))) := by
  pointwise [val_main_v46, val_main_v30, val_main_v27, val_main_v26, val_main_v25, val_main_v12, val_main_v11, val_main_cst_4, val_main_cst_3]
  simp only [Fin.sum_univ_one, inv_apply, dy_apply]
  simp only [mul_comm (dy x0 x1 x2 x3 x4 _ _)]

end Ref

section Blocks
variable (v0 : Vec Ideal S2048x1024 .bf16) (v2 : Vec Ideal S512x2048 .bf16) (v4 : Vec Ideal S640x1024 .bf16) (v6 : Vec Ideal S512x640 .bf16)
  (v8 : Vec Ideal S128x1024 .bf16) (v10 : Vec Ideal S512x128 .bf16) (v15 : Vec Ideal S512x1024 .f32) (v16 : Vec Ideal S1x1024 .f32) (v41 : Vec Ideal S512x1024 .f32)

/-- The cotangent of a block of the norm's result. -/
def bdy (p : Fin 512) (j : Fin 1024) : EReal :=
  (∑ k : Fin 2048, v2 (ix2 p k) * v0 (ix2 k j)) + (∑ k : Fin 640, v6 (ix2 p k) * v4 (ix2 k j)) + ∑ k : Fin 128, v10 (ix2 p k) * v8 (ix2 k j)

theorem pay4_apply (p : Fin 512) (j : Fin 1024) : k0_pay4 (F := Ideal) v0 v2 v4 v6 v8 v10 (ix2 p j) = bdy v0 v2 v4 v6 v8 v10 p j := by
  pointwise [k0_pay4]
  rfl

theorem pay5_apply (p : Fin 512) : k0_pay5 (F := Ideal) v15 (ix2 p 0) = inv len fun j => v15 (ix2 p j) := by
  pointwise [k0_pay5]
  rfl

theorem pay1_apply (p : Fin 512) (j : Fin 1024) : k0_pay1 (F := Ideal) (k0_pay5 v15) (k0_pay6 v15) (k0_pay7 v0 v2 v4 v6 v8 v10 v16)
      (k0_pay8 v0 v2 v4 v6 v8 v10 v15 v16) v41 (ix2 p j)
    = kerGrad len (fun j => v15 (ix2 p j)) (bdy v0 v2 v4 v6 v8 v10 p) (fun j => v16 (ix2 0 j)) j + v41 (ix2 p j) := by
  pointwise [k0_pay1, k0_pay8, k0_pay7, k0_pay6]
  simp only [pay4_apply, pay5_apply]
  rfl

theorem pay2_apply (j : Fin 1024) : k0_pay2 (F := Ideal) (k0_pay4 v0 v2 v4 v6 v8 v10) (k0_pay6 v15) (ix2 0 j)
    = ∑ p : Fin 512, bdy v0 v2 v4 v6 v8 v10 p j * (v15 (ix2 p j) * inv len (fun j => v15 (ix2 p j))) := by
  pointwise [k0_pay2, k0_pay6]
  simp only [pay4_apply, pay5_apply]

theorem pay3_apply (acc : Vec Ideal S1x1024 .f32) (j : Fin 1024) : k0_pay3 (F := Ideal) (k0_pay4 v0 v2 v4 v6 v8 v10) (k0_pay6 v15) acc (ix2 0 j)
    = acc (ix2 0 j) + ∑ p : Fin 512, bdy v0 v2 v4 v6 v8 v10 p j * (v15 (ix2 p j) * inv len (fun j => v15 (ix2 p j))) := by
  rw [← pay2_apply]
  pointwise [k0_pay3]

end Blocks

section Arrays

/-- The arguments, by name. -/
abbrev aM (c : Dev nD) : FVec Ideal S4096x2048 .bf16 := m ((c : Thread nD τ).loc main_arg0)
abbrev aG (c : Dev nD) : FVec Ideal S4096x8 .f32 := m ((c : Thread nD τ).loc main_arg1)
abbrev aA (c : Dev nD) : FVec Ideal S4096x640 .bf16 := m ((c : Thread nD τ).loc main_arg2)
abbrev aK (c : Dev nD) : FVec Ideal S4096x32 .f32 := m ((c : Thread nD τ).loc main_arg3)
abbrev aB (c : Dev nD) : FVec Ideal S1024x2728 .f32 := m ((c : Thread nD τ).loc main_arg4)
abbrev aX (c : Dev nD) : FVec Ideal S4096x1024 .f32 := m ((c : Thread nD τ).loc main_arg5)
abbrev aW (c : Dev nD) : FVec Ideal S1024 .f32 := m ((c : Thread nD τ).loc main_arg6)
abbrev aR (c : Dev nD) : FVec Ideal S4096x1024 .f32 := m ((c : Thread nD τ).loc main_arg7)

theorem idx : ∀ t : Fin cfg0.N, win0_0.index t = ![t.val, 0] ∧ win0_1.index t = ![t.val, 0] ∧ win0_2.index t = ![t.val, 0] ∧ win0_3.index t = ![0, 0]
    ∧ win0_4.index t = ![0, 0] ∧ win0_5.index t = ![0, 0] ∧ win0_6.index t = ![t.val, 0] ∧ win0_7.index t = ![0, 0] ∧ win0_8.index t = ![t.val, 0]
    ∧ win0_9.index t = ![t.val, 0] ∧ win0_10.index t = ![0, 0] :=
  (by decide +kernel : ∀ t : Fin grid0.N, _)

/-- Row `p` of the point's block is a row of the arrays. -/
def row (t : Fin cfg0.N) (p : Fin 512) : Fin 4096 := ⟨t.val * 512 + p.val, by have := lt_of_lt_of_eq t.isLt N_0; omega⟩

/-- The host's operations before the call. -/
theorem before (c : Dev nD) (b : Ref sig .tc) : V m c b = StableHlo.after
    (hostOps0 : List (HloOp τ sig (Elt Ideal))) (fun b => m (c, b)) (Proc.devRef .tc b) := rfl

/-- The gates' and the rotary key's cotangents, side by side with zeros between and after, -/
def small (g : FVec Ideal S4096x8 .f32) (k : FVec Ideal S4096x32 .f32) : FVec Ideal S4096x128 .bf16 :=
  truncf .bf16 (concatenate S4096x128 1 [⟨S4096x8, g⟩, ⟨S4096x56, broadcastInDim S4096x56 ![] bcast_S_S4096x56 (constant (F := Ideal) S_ .f32 0x00000000#32)⟩,
    ⟨S4096x32, k⟩, ⟨S4096x32, broadcastInDim S4096x32 ![] bcast_S_S4096x32 (constant (F := Ideal) S_ .f32 0x00000000#32)⟩]
    concatenates_S4096x8_S4096x56_S4096x32_S4096x32_S4096x128_d1 : FVec Ideal S4096x128 .f32) bitsLt_bf16_f32
/-- the transposed projection, -/
def tr (x : FVec Ideal S1024x2728 .f32) : FVec Ideal S2728x1024 .bf16 :=
  truncf .bf16 (transpose S2728x1024 [1, 0] x transposes_S1024x2728_S2728x1024_1_0) bitsLt_bf16_f32
/-- and its rows for `small`, with zeros between and after. -/
def smallW (x : FVec Ideal S1024x2728 .f32) : FVec Ideal S128x1024 .bf16 :=
  concatenate S128x1024 0 [⟨S8x1024, extractStridedSlice S8x1024 ![2048, 0] (tr x) slices_S2728x1024_S8x1024_2048_0⟩,
    ⟨S56x1024, broadcastInDim S56x1024 ![] bcast_S_S56x1024 (constant (F := Ideal) S_ .bf16 0x0000#16)⟩,
    ⟨S32x1024, extractStridedSlice S32x1024 ![2696, 0] (tr x) slices_S2728x1024_S32x1024_2696_0⟩,
    ⟨S32x1024, broadcastInDim S32x1024 ![] bcast_S_S32x1024 (constant (F := Ideal) S_ .bf16 0x0000#16)⟩]
    concatenates_S8x1024_S56x1024_S32x1024_S32x1024_S128x1024_d0

theorem V_small (c : Dev nD) : V m c main_v11 = small (aG m c) (aK m c) := by
  rw [before]
  after_results_simp
  refine congrArg (fun z : FVec Ideal S4096x128 .f32 => truncf (F := Ideal) .bf16 z bitsLt_bf16_f32) (four_pieces _ _ ?_ ?_ ?_ ?_)
  · change HloOp.result _ _ (Proc.devRef .tc main_arg1) = _
    after_results_simp
    try rfl
  · change HloOp.result _ _ (Proc.devRef .tc main_v8) = _
    after_results_simp
    try rfl
  · change HloOp.result _ _ (Proc.devRef .tc main_arg3) = _
    after_results_simp
    try rfl
  · change HloOp.result _ _ (Proc.devRef .tc main_v9) = _
    after_results_simp
    try rfl

theorem V_smallW (c : Dev nD) : V m c main_v6 = smallW (aB m c) := by
  rw [before]
  after_results_simp
  refine four_pieces _ _ ?_ ?_ ?_ ?_
  · change HloOp.result _ _ (Proc.devRef .tc main_v2) = _
    after_results_simp
    try rfl
  · change HloOp.result _ _ (Proc.devRef .tc main_v3) = _
    after_results_simp
    try rfl
  · change HloOp.result _ _ (Proc.devRef .tc main_v4) = _
    after_results_simp
    try rfl
  · change HloOp.result _ _ (Proc.devRef .tc main_v5) = _
    after_results_simp
    try rfl

theorem V_tr (c : Dev nD) : V m c main_v1 = tr (aB m c) := by
  rw [before]
  after_results_simp
  rfl

theorem V_mid (c : Dev nD) : V m c main_v7 = extractStridedSlice S640x1024 ![2056, 0] (tr (aB m c)) slices_S2728x1024_S640x1024_2056_0 := by
  rw [before]
  after_results_simp
  rfl

theorem V_w (c : Dev nD) : V m c main_v12 = shapeCast S1x1024 (aW m c) shapeCasts_S1024_S1x1024 := by
  rw [before]
  after_results_simp
  rfl

theorem small_at (g : FVec Ideal S4096x8 .f32) (x : FVec Ideal S4096x32 .f32) (r : Fin 4096) (k : Fin 128) : small g x (ix2 r k)
    = if h : k.val < 8 then g (ix2 r ⟨k.val, h⟩) else if h : 64 ≤ k.val ∧ k.val < 96 then x (ix2 r ⟨k.val - 64, by omega⟩) else 0 := by
  pointwise [small]
  have := k.isLt
  split_ifs <;> first | rfl | (exfalso; omega) | (rw [dif_pos (by omega)]; refine congrArg (fun q => x (ix2 r q)) (Fin.ext ?_); simp only []; omega)

theorem smallW_at (x : FVec Ideal S1024x2728 .f32) (k : Fin 128) (j : Fin 1024) : smallW x (ix2 k j)
    = if h : k.val < 8 then x (ix2 j ⟨2048 + k.val, by omega⟩) else if h : 64 ≤ k.val ∧ k.val < 96 then x (ix2 j ⟨2696 + (k.val - 64), by omega⟩) else 0 := by
  pointwise [smallW, tr]
  have := k.isLt
  split_ifs <;> first | rfl | (exfalso; omega) | (rw [dif_pos (by omega)]; refine congrArg (fun q => x (ix2 j q)) (Fin.ext ?_); simp only []; omega)

theorem blk_x (c : Dev nD) (t : Fin cfg0.N) (p : Fin 512) (j : Fin 1024) :
    (show Vec Ideal S512x1024 .f32 from iblk m c 6 t) (ix2 p j) = aX m c (ix2 (row t p) j) := by
  unfold row
  blk_point [iblk, V, idx t]

theorem blk_r (c : Dev nD) (t : Fin cfg0.N) (p : Fin 512) (j : Fin 1024) :
    (show Vec Ideal S512x1024 .f32 from iblk m c 8 t) (ix2 p j) = aR m c (ix2 (row t p) j) := by
  unfold row
  blk_point [iblk, V, idx t]

theorem blk_w (c : Dev nD) (t : Fin cfg0.N) (j : Fin 1024) :
    (show Vec Ideal S1x1024 .f32 from iblk m c 7 t) (ix2 0 j) = aW m c (ix1 j) := by
  have e : (show Vec Ideal S1x1024 .f32 from iblk m c 7 t) (ix2 0 j) = (show Vec Ideal S1x1024 .f32 from V m c main_v12) (ix2 0 j) := by
    blk_point [iblk, idx t]
  rw [e, V_w]
  pointwise []

/-- The rows that the first product reads of the transposed projection. -/
abbrev top (c : Dev nD) (t : Fin cfg0.N) : Vec Ideal S2048x1024 .bf16 :=
  View.ld (iblk m c 3 t) (Rect.unit ![0, 0] ![2048, 1024] inb_S2728x1024_S2048x1024_0_0)

theorem blk_dy (c : Dev nD) (t : Fin cfg0.N) (p : Fin 512) (j : Fin 1024) :
    bdy (top m c t) (iblk m c 0 t) (iblk m c 4 t) (iblk m c 1 t) (iblk m c 5 t) (iblk m c 2 t) p j
      = dy (aM m c) (aG m c) (aA m c) (aK m c) (aB m c) (row t p) j := by
  have e0 : ∀ k : Fin 2048, (show Vec Ideal S512x2048 .bf16 from iblk m c 0 t) (ix2 p k) = aM m c (ix2 (row t p) k) := fun k => by
    unfold row; blk_point [iblk, V, idx t]
  have e1 : ∀ k : Fin 640, (show Vec Ideal S512x640 .bf16 from iblk m c 1 t) (ix2 p k) = aA m c (ix2 (row t p) k) := fun k => by
    unfold row; blk_point [iblk, V, idx t]
  have e2 : ∀ k : Fin 128, (show Vec Ideal S512x128 .bf16 from iblk m c 2 t) (ix2 p k) = small (aG m c) (aK m c) (ix2 (row t p) k) := fun k => by
    rw [← V_small]; unfold row; blk_point [iblk, idx t]
  have e3 : ∀ k : Fin 2048, top m c t (ix2 k j) = aB m c (ix2 j ⟨k.val, by omega⟩) := fun k => by
    have e : top m c t (ix2 k j) = (show FVec Ideal S2728x1024 .bf16 from V m c main_v1) (ix2 ⟨k.val, by omega⟩ j) := by
      have ei : (Rect.unit ![0, 0] ![2048, 1024] inb_S2728x1024_S2048x1024_0_0).idx (ix2 k j)
          = (ix2 (⟨k.val, by omega⟩ : Fin 2728) j : S2728x1024.Idx) := by
        funext a
        fin_cases a
        · exact Fin.ext (by simp [Rect.unit])
        · exact Fin.ext (by simp [Rect.unit])
      unfold top View.ld
      rw [ei]
      blk_point [iblk, idx t]
    rw [e, V_tr]; pointwise [tr]
  have e4 : ∀ k : Fin 640, (show Vec Ideal S640x1024 .bf16 from iblk m c 4 t) (ix2 k j) = aB m c (ix2 j ⟨2056 + k.val, by omega⟩) := fun k => by
    have e : (show Vec Ideal S640x1024 .bf16 from iblk m c 4 t) (ix2 k j) = (show FVec Ideal S640x1024 .bf16 from V m c main_v7) (ix2 k j) := by
      blk_point [iblk, idx t]
    rw [e, V_mid]; pointwise [tr]
  have e5 : ∀ k : Fin 128, (show Vec Ideal S128x1024 .bf16 from iblk m c 5 t) (ix2 k j) = smallW (aB m c) (ix2 k j) := fun k => by
    rw [← V_smallW]; blk_point [iblk, idx t]
  unfold bdy dy
  simp only [e0, e1, e2, e3, e4, e5, small_at, smallW_at]
  refine congrArg₂ _ rfl ?_
  rw [sum_four (a := 8) (b := 56) (c := 32) (d := 32) _ (fun k => aG m c (ix2 (row t p) k) * aB m c (ix2 j ⟨2048 + k.val, by omega⟩))
    (fun k => 0) (fun k => aK m c (ix2 (row t p) k) * aB m c (ix2 j ⟨2696 + k.val, by omega⟩))
    (fun k => 0) rfl (fun i k hk => ?_) (fun i k hk => ?_) (fun i k hk => ?_) (fun i k hk => ?_)]
  · rw [Finset.sum_const_zero, Finset.sum_const_zero, add_zero, add_zero]
  · have := i.isLt
    rw [dif_pos (by omega), dif_pos (by omega)]
    congr 3 <;> (apply Fin.ext; simp only []; omega)
  · have := i.isLt
    rw [dif_neg (by omega), dif_neg (by omega), zero_mul]
  · have := i.isLt
    rw [dif_neg (by omega), dif_pos (by omega), dif_neg (by omega), dif_pos (by omega)]
    congr 3 <;> (apply Fin.ext; simp only []; omega)
  · have := i.isLt
    rw [dif_neg (by omega), dif_neg (by omega), zero_mul]

/-- What the kernel's first result holds at row `r`. -/
theorem blk_dx (c : Dev nD) (t : Fin cfg0.N) (p : Fin 512) (j : Fin 1024) :
    k0_pay1 (F := Ideal) (k0_pay5 (iblk m c 6 t)) (k0_pay6 (iblk m c 6 t)) (k0_pay7 (top m c t) (iblk m c 0 t) (iblk m c 4 t) (iblk m c 1 t) (iblk m c 5 t) (iblk m c 2 t) (iblk m c 7 t)) (k0_pay8 (top m c t) (iblk m c 0 t) (iblk m c 4 t) (iblk m c 1 t) (iblk m c 5 t) (iblk m c 2 t) (iblk m c 6 t) (iblk m c 7 t)) (iblk m c 8 t) (ix2 p j)
      = kerGrad len (fun j => aX m c (ix2 (row t p) j)) (dy (aM m c) (aG m c) (aA m c) (aK m c) (aB m c) (row t p)) (fun j => aW m c (ix1 j)) j
        + aR m c (ix2 (row t p) j) := by
  have h := pay1_apply (top m c t) (iblk m c 0 t) (iblk m c 4 t) (iblk m c 1 t) (iblk m c 5 t) (iblk m c 2 t) (iblk m c 6 t) (iblk m c 7 t) (iblk m c 8 t) p j
  have hx : (fun j => (show Vec Ideal S512x1024 .f32 from iblk m c 6 t) (ix2 p j)) = fun j => aX m c (ix2 (row t p) j) := funext fun j => blk_x m c t p j
  have hy : bdy (top m c t) (iblk m c 0 t) (iblk m c 4 t) (iblk m c 1 t) (iblk m c 5 t) (iblk m c 2 t) p
      = dy (aM m c) (aG m c) (aA m c) (aK m c) (aB m c) (row t p) := funext fun j => blk_dy m c t p j
  have hw : (fun j => (show Vec Ideal S1x1024 .f32 from iblk m c 7 t) (ix2 0 j)) = fun j => aW m c (ix1 j) := funext fun j => blk_w m c t j
  have hr := blk_r m c t p j
  rw [← hx, ← hy, ← hw, ← hr]
  exact h

variable (c : Dev nD) (hM : ∀ i, IsReal (aM m c i)) (hG : ∀ i, IsReal (aG m c i)) (hA : ∀ i, IsReal (aA m c i)) (hK : ∀ i, IsReal (aK m c i)) (hB : ∀ i, IsReal (aB m c i))
  (hX : ∀ i, IsReal (aX m c i)) (hW : ∀ i, IsReal (aW m c i))

include hM hG hA hK hB in
theorem real_dy (r : Fin 4096) (j : Fin 1024) : IsReal (dy (aM m c) (aG m c) (aA m c) (aK m c) (aB m c) r j) :=
  ((IsReal.sum _ fun k _ => (hM _).mul (hB _)).add (IsReal.sum _ fun k _ => (hA _).mul (hB _))).add
    ((IsReal.sum _ fun k _ => (hG _).mul (hB _)).add (IsReal.sum _ fun k _ => (hK _).mul (hB _)))

include hM hG hA hK hB hX hW in
theorem point (t : Fin cfg0.N) (p : Fin 512) (j : Fin 1024) :
    k0_pay1 (F := Ideal) (k0_pay5 (iblk m c 6 t)) (k0_pay6 (iblk m c 6 t)) (k0_pay7 (top m c t) (iblk m c 0 t) (iblk m c 4 t) (iblk m c 1 t) (iblk m c 5 t) (iblk m c 2 t) (iblk m c 7 t)) (k0_pay8 (top m c t) (iblk m c 0 t) (iblk m c 4 t) (iblk m c 1 t) (iblk m c 5 t) (iblk m c 2 t) (iblk m c 6 t) (iblk m c 7 t)) (iblk m c 8 t) (ix2 p j)
      = Cert.InNormRefIdeal.Read.val_main_v45 (F := Ideal) (aM m c) (aG m c) (aA m c) (aK m c) (aB m c) (aX m c) (aW m c) (aR m c) (ix2 (row t p) j) := by
  rw [blk_dx, ref_dx, len_eq]
  exact grad_eq 1024 (by norm_num) _ _ _ (fun j => hX _) (fun j => real_dy m c hM hG hA hK hB _ j) (fun j => hW _) _ j

include hM hG hA hK hB hX hW in
theorem point' (t : Fin cfg0.N) (y : S512x1024.Idx) (i : S4096x1024.Idx) (h0 : (i 0 : ℕ) = t.val * 512 + y 0) (h1 : (i 1 : ℕ) = y 1) :
    k0_pay1 (F := Ideal) (k0_pay5 (iblk m c 6 t)) (k0_pay6 (iblk m c 6 t)) (k0_pay7 (top m c t) (iblk m c 0 t) (iblk m c 4 t) (iblk m c 1 t) (iblk m c 5 t) (iblk m c 2 t) (iblk m c 7 t)) (k0_pay8 (top m c t) (iblk m c 0 t) (iblk m c 4 t) (iblk m c 1 t) (iblk m c 5 t) (iblk m c 2 t) (iblk m c 6 t) (iblk m c 7 t)) (iblk m c 8 t) y
      = Cert.InNormRefIdeal.Read.val_main_v45 (F := Ideal) (aM m c) (aG m c) (aA m c) (aK m c) (aB m c) (aX m c) (aW m c) (aR m c) i := by
  have e0 : y = ix2 (y 0) (y 1) := by idx_vars y; rfl
  have e1 : i = ix2 (row t (y 0)) (y 1) := by
    idx_vars i
    congr 1
    · exact Fin.ext h0
    · exact Fin.ext h1
  rw [e1, e0]
  exact point m c hM hG hA hK hB hX hW t (y 0) (y 1)

include hM hG hA hK hB hX hW in
/-- The first result array. -/
theorem final9 : (dats m 0 c).arrAt 9 (cfgs 0).N = Cert.InNormRefIdeal.Read.val_main_v45 (F := Ideal) (aM m c) (aG m c) (aA m c) (aK m c) (aB m c) (aX m c) (aW m c) (aR m c) := by
  refine (dats m 0 c).arrAt_eq_of_covers 9 _ (by decide +kernel) fun t _ y => ?_
  blk_simp
  rw [after0_9]
  by_cases h : t.val % 8 = 0
  · rw [outsAt0_A m c t h (by have := lt_of_lt_of_eq t.isLt N_0; omega)]
    frame_out
    exact point' m c hM hG hA hK hB hX hW t y _ (by blk_simp [idx t]) (by blk_simp [idx t])
  · rw [outsAt0_B m c t h (by omega)]
    frame_out
    exact point' m c hM hG hA hK hB hX hW t y _ (by blk_simp [idx t]) (by blk_simp [idx t])

/-- The sum of the row's contributions to the weights' gradient, one block of rows. -/
def part (t : Fin cfg0.N) (y : S1x1024.Idx) : EReal :=
  ∑ p : Fin 512, dy (aM m c) (aG m c) (aA m c) (aK m c) (aB m c) (row t p) (y 1) * (aX m c (ix2 (row t p) (y 1)) * inv len (fun j => aX m c (ix2 (row t p) j)))

theorem blk_part (t : Fin cfg0.N) (j : Fin 1024) :
    (∑ p : Fin 512, bdy (top m c t) (iblk m c 0 t) (iblk m c 4 t) (iblk m c 1 t) (iblk m c 5 t) (iblk m c 2 t) p j
      * ((show Vec Ideal S512x1024 .f32 from iblk m c 6 t) (ix2 p j) * inv len (fun j => (show Vec Ideal S512x1024 .f32 from iblk m c 6 t) (ix2 p j))))
      = part m c t (ix2 0 j) :=
  Finset.sum_congr rfl fun p _ => by simp only [blk_dy, blk_x]; rfl

theorem step_A (t : Fin cfg0.N) (h : t.val % 8 = 0) (y : S1x1024.Idx) : (outsAt0 m c t.val t.isLt).2 y = 0 + part m c t y := by
  rw [outsAt0_A m c t h (by have := lt_of_lt_of_eq t.isLt N_0; omega), zero_add]
  frame_out
  idx_vars y
  obtain rfl : y0 = 0 := Subsingleton.elim _ _
  rw [pay2_apply]
  exact blk_part m c t y1

theorem step_B (t : Fin cfg0.N) (h : ¬ t.val % 8 = 0) (y : S1x1024.Idx) :
    (outsAt0 m c t.val t.isLt).2 y = (outsAt0 m c (t.val - 1) (by have := t.isLt; omega)).2 y + part m c t y := by
  rw [outsAt0_B m c t h (by omega)]
  frame_out
  idx_vars y
  obtain rfl : y0 = 0 := Subsingleton.elim _ _
  rw [pay3_apply]
  exact congrArg _ (blk_part m c t y1)

/-- The second result array. -/
theorem final10 : (dats m 0 c).arrAt 10 (cfgs 0).N = Cert.InNormRefIdeal.Read.val_main_v46 (F := Ideal) (aM m c) (aG m c) (aA m c) (aK m c) (aB m c) (aX m c) := by
  refine (dats m 0 c).arrAt_eq_of_after_last 10 t0_7 (by decide +kernel) _ fun j => ?_
  blk_simp
  rw [after0_10, Pipeline.eq_sum_fin_of_reset_step_apply_last (fun n h => (outsAt0 m c n h).2) 8 (fun _ => 0) (fun t y => part m c t y)
    (fun t h j => step_A m c t h j) (fun t h j => step_B m c t h j) (le_of_eq N_0) t0_7 rfl j, zero_add]
  idx_vars j
  obtain rfl : j0 = 0 := Subsingleton.elim _ _
  rw [ref_dw]
  unfold part row
  exact Fin.sum_mul_add_congr fun s k hl => rfl

end Arrays

/-- The reference terminates, keeps its arguments, and leaves every counter at zero: it has none. -/
theorem frame_ref : Cert.quiescent_InNormRefIdeal := fun m g _ => by
  refine (θ_run _ _ _).mono (fun r h => ⟨fun c => (h c).2.2, sem_eq_zero_of_no_sems (sig := Cert.InNormRefIdeal.sig) rfl _⟩)
    (Cert.InNormRefIdeal.Value.run m g)

/-- The claim: kernel and reference leave the same two arrays. -/
theorem algebraic : Cert.algebraic_InNormIdeal_InNormRefIdeal_pre_finite_innorm := by
  pair_intro
  · run_from Cert.InNormIdeal.Value.run_blocks m g
  · run_from Cert.InNormRefIdeal.Value.run m' g'
    all_goals obtain ⟨a0, a1, a2, a3, a4, a5, a6, a7⟩ := hagree c
    · rw [Cert.InNormRefIdeal.Read.val_main_v45_eq, a0, a1, a2, a3, a4, a5, a6, a7]
      exact (final9 m c (fun i => isReal_of_fin _ _ _ (hpre c).1 i) (fun i => isReal_of_fin _ _ _ (hpre c).2.1 i) (fun i => isReal_of_fin _ _ _ (hpre c).2.2.1 i)
        (fun i => isReal_of_fin _ _ _ (hpre c).2.2.2.1 i) (fun i => isReal_of_fin _ _ _ (hpre c).2.2.2.2.1 i)
        (fun i => isReal_of_fin _ _ _ (hpre c).2.2.2.2.2.1 i) (fun i => isReal_of_fin _ _ _ (hpre c).2.2.2.2.2.2 i)).symm
    · rw [Cert.InNormRefIdeal.Read.val_main_v46_eq]
      exact (final10 m c).symm

end Cert.InNormIdeal.Math

end
-- ==== Proof.Loss.lean ====
/-
  The loss, with its gradient through the last norm: what the kernel's four result arrays hold, and that they are the
  reference's.
-/
module

public import proofs.«01_k».proof.Defs
public import proofs.«01_k».proof.Proof.Gen.Pre_finite_loss
public import proofs.«01_k».proof.Proof.Gen.LossIdeal.Frame
public import proofs.«01_k».proof.Proof.Gen.LossIdeal.Value
public import proofs.«01_k».proof.Proof.Gen.LossRefIdeal.Read
public import proofs.«01_k».proof.Proof.Norm
public import Idealize.ShloMosaic.Lib.Claim

@[expose] public section

set_option maxRecDepth 16384

noncomputable section

namespace Cert.LossIdeal.Math

open Cert.LossIdeal Cert.LossIdeal.Gen Cert.Finite Cert.Norm Idealize.ShloMosaic Idealize.ShloMosaic.TcCoe Idealize.SL.Sem
open Idealize.ShloMosaic.Pipeline (Dat)

variable (m : (ℓ : Loc nD τ sig) → Buf (Elt Ideal) ℓ)

/-- The literals, as the programs write them: the row length, -/
def len : EReal := (FloatOps.ofBits (F := Ideal) .f32 0x44800000#32)
/-- its inverse, -/
def q : EReal := (FloatOps.ofBits (F := Ideal) .f32 0x3A800000#32)
/-- a half and two. -/
def hf : EReal := (FloatOps.ofBits (F := Ideal) .f32 0x3F000000#32)
def two : EReal := (FloatOps.ofBits (F := Ideal) .f32 0x40000000#32)
theorem len_eq : len = ((1024 : ℝ) : EReal) := by
  unfold len; simp [Ideal.ofBits, Ideal.ieee]; norm_num
  rw [← EReal.coe_mul, EReal.coe_eq_coe_iff]; norm_num
theorem q_eq : q = ((1 / 1024 : ℝ) : EReal) := by
  unfold q; simp [Ideal.ofBits, Ideal.ieee]; norm_num
  rw [← EReal.coe_mul, EReal.coe_eq_coe_iff]; norm_num
theorem hf_eq : hf = ((1 / 2 : ℝ) : EReal) := by
  unfold hf; simp [Ideal.ofBits, Ideal.ieee]; norm_num
  rw [← EReal.coe_mul, EReal.coe_eq_coe_iff]; norm_num
theorem two_eq : two = ((2 : ℝ) : EReal) := by
  unfold two; simp [Ideal.ofBits, Ideal.ieee]; norm_num
  rw [← EReal.coe_mul, EReal.coe_eq_coe_iff]; norm_num

/-- A row's error, and its cotangent as the kernel has it. -/
def err (x w t : Fin 1024 → EReal) (j : Fin 1024) : EReal := x j * inv len x * w j - t j
def dy (x w t : Fin 1024 → EReal) (j : Fin 1024) : EReal := err x w t j * q

/-- The derivative's cotangent is the kernel's. -/
theorem dy_eq (e : EReal) : Ideal.div hf len * (two * e) = e * q := by
  rw [hf_eq, two_eq, len_eq, q_eq, Ideal.div_coe (by norm_num), ← mul_assoc, mul_comm e]
  congr 1
  rw [← EReal.coe_mul, ← EReal.coe_mul, EReal.coe_eq_coe_iff]
  norm_num

section Ref
open Cert.LossRefIdeal.Read

variable (x0 : FVec Ideal S4096x2816 .bf16) (x1 : FVec Ideal S2816x1024 .f32) (x2 x3 : FVec Ideal S4096x1024 .f32)
  (x4 : FVec Ideal S1024 .f32)

/-- The hidden rows that the last norm takes. -/
def hid (r : Fin 4096) (j : Fin 1024) : EReal := (∑ k : Fin 2816, x0 (ix2 r k) * x1 (ix2 k j)) + x2 (ix2 r j)

theorem hid_apply (r : Fin 4096) (j : Fin 1024) : val_main_v2 (F := Ideal) x0 x1 x2 (ix2 r j) = hid x0 x1 x2 r j := by
  pointwise [val_main_v2, val_main_v1, val_main_v0]
  exact add_comm _ _

theorem msq_apply (r : Fin 4096) : val_main_v9 (F := Ideal) x0 x1 x2 (ix2 r 0) = msq len (hid x0 x1 x2 r) := by
  pointwise [val_main_v9, val_main_v8, val_main_v7, val_main_v6, val_main_v5, val_main_v4, val_main_v3, val_main_cst, val_main_cst_0, val_main_cst_1]
  simp only [hid_apply]
  rfl

theorem inv_apply (r : Fin 4096) : val_main_v10 (F := Ideal) x0 x1 x2 (ix2 r 0) = inv len (hid x0 x1 x2 r) := by
  pointwise [val_main_v10]
  rw [msq_apply]; rfl

/-- The reference's error, by rows, -/
abbrev er (r : Fin 4096) : Fin 1024 → EReal := err (hid x0 x1 x2 r) (fun j => x4 (ix1 j)) (fun j => x3 (ix2 r j))
/-- and its cotangent. -/
abbrev ct (r : Fin 4096) : Fin 1024 → EReal := dy (hid x0 x1 x2 r) (fun j => x4 (ix1 j)) (fun j => x3 (ix2 r j))

theorem err_apply (r : Fin 4096) (j : Fin 1024) : val_main_v19 (F := Ideal) x0 x1 x2 x3 x4 (ix2 r j) = er x0 x1 x2 x3 x4 r j := by
  pointwise [val_main_v19, val_main_v18, val_main_v17, val_main_v16, val_main_v15, val_main_v14]
  rw [hid_apply, inv_apply]
  rfl

theorem ct_apply (r : Fin 4096) (j : Fin 1024) : val_main_v33 (F := Ideal) x0 x1 x2 x3 x4 (ix2 r j) = ct x0 x1 x2 x3 x4 r j := by
  pointwise [val_main_v33, val_main_v32, val_main_v31, val_main_v30, val_main_v29, val_main_v28, val_main_v22, val_main_v21, val_main_cst_3, val_main_cst_8, val_main_cst_9, val_main_cst_10]
  rw [err_apply]
  exact dy_eq _

theorem part_apply (r : Fin 4096) : val_main_v48 (F := Ideal) x0 x1 x2 x3 x4 (ix1 r)
    = refPart len (hid x0 x1 x2 r) (ct x0 x1 x2 x3 x4 r) (fun j => x4 (ix1 j)) := by
  pointwise [val_main_v48, val_main_v47, val_main_v46, val_main_v45, val_main_v42, val_main_v41, val_main_v40, val_main_v38, val_main_v37, val_main_v16, val_main_v13, val_main_v12, val_main_v11, val_main_cst_2, val_main_cst_13, val_main_cst_14, val_main_cst_15]
  rw [Fin.sum_univ_one, msq_apply, inv_apply]
  simp only [ct_apply, hid_apply]
  rfl

/-- The reference's gradient of the rows. -/
theorem ref_dx (r : Fin 4096) (j : Fin 1024) : val_main_v53 (F := Ideal) x0 x1 x2 x3 x4 (ix2 r j)
    = ct x0 x1 x2 x3 x4 r j * x4 (ix1 j) * inv len (hid x0 x1 x2 r)
      + hid x0 x1 x2 r j * refPart len (hid x0 x1 x2 r) (ct x0 x1 x2 x3 x4 r) (fun j => x4 (ix1 j))
      + refPart len (hid x0 x1 x2 r) (ct x0 x1 x2 x3 x4 r) (fun j => x4 (ix1 j)) * hid x0 x1 x2 r j := by
  pointwise [val_main_v53, val_main_v52, val_main_v51, val_main_v50, val_main_v49, val_main_v44, val_main_v43, val_main_v38, val_main_v37, val_main_v16]
  rw [part_apply, inv_apply, ct_apply, hid_apply]

/-- The reference's gradient of the weights. -/
theorem ref_dw (j : Fin 1024) : val_main_v56 (F := Ideal) x0 x1 x2 x3 x4 (ix2 0 j)
    = ∑ r : Fin 4096, ct x0 x1 x2 x3 x4 r j * (hid x0 x1 x2 r j * inv len (hid x0 x1 x2 r)) := by
  pointwise [val_main_v56, val_main_v39, val_main_v36, val_main_v35, val_main_v34, val_main_v15, val_main_v14, val_main_cst_11, val_main_cst_12]
  simp only [Fin.sum_univ_one, inv_apply, ct_apply, hid_apply]
  simp only [mul_comm (ct x0 x1 x2 x3 x4 _ _)]

/-- The reference's loss. -/
theorem ref_loss (j : Fin 128) : val_main_v55 (F := Ideal) x0 x1 x2 x3 x4 (ix2 0 j)
    = hf * ∑ r : Fin 4096, Ideal.div (∑ k : Fin 1024, er x0 x1 x2 x3 x4 r k * er x0 x1 x2 x3 x4 r k) len := by
  pointwise [val_main_v55, val_main_v27, val_main_v26, val_main_v25, val_main_v24, val_main_v23, val_main_v20, val_main_cst_4, val_main_cst_5, val_main_cst_6, val_main_cst_7]
  simp only [err_apply]
  rfl

end Ref

section Blocks
variable (v0 : Vec Ideal S512x2816 .bf16) (v1 : Vec Ideal S2816x1024 .bf16) (v4 : Vec Ideal S512x1024 .f32) (v16 : Vec Ideal S1x1024 .f32)
  (v20 : Vec Ideal S512x1024 .f32)

/-- A block's hidden rows, -/
def bhid (p : Fin 512) (j : Fin 1024) : EReal := (∑ k : Fin 2816, v0 (ix2 p k) * v1 (ix2 k j)) + v4 (ix2 p j)
/-- its error, -/
abbrev ber (p : Fin 512) : Fin 1024 → EReal := err (bhid v0 v1 v4 p) (fun j => v16 (ix2 0 j)) (fun j => v20 (ix2 p j))
/-- and its cotangent. -/
abbrev bct (p : Fin 512) : Fin 1024 → EReal := dy (bhid v0 v1 v4 p) (fun j => v16 (ix2 0 j)) (fun j => v20 (ix2 p j))

theorem pay7_apply (p : Fin 512) (j : Fin 1024) : k0_pay7 (F := Ideal) v0 v1 v4 (ix2 p j) = bhid v0 v1 v4 p j := by
  pointwise [k0_pay7]
  rfl

theorem pay8_apply (p : Fin 512) : k0_pay8 (F := Ideal) v0 v1 v4 (ix2 p 0) = inv len (bhid v0 v1 v4 p) := by
  pointwise [k0_pay8]
  simp only [pay7_apply]
  rfl

theorem pay9_apply (p : Fin 512) (j : Fin 1024) : k0_pay9 (F := Ideal) v0 v1 v4 (ix2 p j) = bhid v0 v1 v4 p j * inv len (bhid v0 v1 v4 p) := by
  pointwise [k0_pay9]
  rw [pay7_apply, pay8_apply]

theorem pay10_apply (p : Fin 512) (j : Fin 1024) : k0_pay10 (F := Ideal) v0 v1 v4 v16 v20 (ix2 p j) = ber v0 v1 v4 v16 v20 p j := by
  pointwise [k0_pay10]
  rw [pay9_apply]
  rfl

theorem pay12_apply (p : Fin 512) (j : Fin 1024) : k0_pay12 (F := Ideal) v0 v1 v4 v16 v20 (ix2 p j) = bct v0 v1 v4 v16 v20 p j := by
  pointwise [k0_pay12]
  rw [pay10_apply]
  rfl

theorem pay1_apply (p : Fin 512) (j : Fin 1024) :
    k0_pay1 (F := Ideal) (k0_pay8 v0 v1 v4) (k0_pay9 v0 v1 v4) (k0_pay13 v0 v1 v4 v16 v20 v16) (k0_pay14 v0 v1 v4 v16 v20 v16) (ix2 p j)
      = kerGrad len (bhid v0 v1 v4 p) (bct v0 v1 v4 v16 v20 p) (fun j => v16 (ix2 0 j)) j := by
  pointwise [k0_pay1, k0_pay14, k0_pay13]
  simp only [pay8_apply, pay9_apply, pay12_apply]
  rfl

theorem pay3_apply (j : Fin 1024) : k0_pay3 (F := Ideal) (k0_pay9 v0 v1 v4) (k0_pay12 v0 v1 v4 v16 v20) (ix2 0 j)
    = ∑ p : Fin 512, bct v0 v1 v4 v16 v20 p j * (bhid v0 v1 v4 p j * inv len (bhid v0 v1 v4 p)) := by
  pointwise [k0_pay3]
  simp only [pay9_apply, pay12_apply]

theorem pay4_apply (acc : Vec Ideal S1x1024 .f32) (j : Fin 1024) : k0_pay4 (F := Ideal) (k0_pay9 v0 v1 v4) (k0_pay12 v0 v1 v4 v16 v20) acc (ix2 0 j)
    = acc (ix2 0 j) + ∑ p : Fin 512, bct v0 v1 v4 v16 v20 p j * (bhid v0 v1 v4 p j * inv len (bhid v0 v1 v4 p)) := by
  rw [← pay3_apply]
  pointwise [k0_pay4]

theorem pay5_apply (j : Fin 128) : k0_pay5 (F := Ideal) (k0_pay11 v0 v1 v4 v16 v20) (ix2 0 j)
    = hf * (∑ p : Fin 512, ∑ k : Fin 1024, ber v0 v1 v4 v16 v20 p k * ber v0 v1 v4 v16 v20 p k) * q := by
  pointwise [k0_pay5, k0_pay11]
  simp only [pay10_apply]
  rfl

theorem pay6_apply (acc : Vec Ideal S1x128 .f32) (j : Fin 128) : k0_pay6 (F := Ideal) (k0_pay11 v0 v1 v4 v16 v20) acc (ix2 0 j)
    = acc (ix2 0 j) + hf * (∑ p : Fin 512, ∑ k : Fin 1024, ber v0 v1 v4 v16 v20 p k * ber v0 v1 v4 v16 v20 p k) * q := by
  rw [← pay5_apply (j := j)]
  pointwise [k0_pay6]

end Blocks

section Arrays

/-- The arguments, by name. -/
abbrev aA (c : Dev nD) : FVec Ideal S4096x2816 .bf16 := m ((c : Thread nD τ).loc main_arg0)
abbrev aB (c : Dev nD) : FVec Ideal S2816x1024 .f32 := m ((c : Thread nD τ).loc main_arg1)
abbrev aX (c : Dev nD) : FVec Ideal S4096x1024 .f32 := m ((c : Thread nD τ).loc main_arg2)
abbrev aT (c : Dev nD) : FVec Ideal S4096x1024 .f32 := m ((c : Thread nD τ).loc main_arg3)
abbrev aW (c : Dev nD) : FVec Ideal S1024 .f32 := m ((c : Thread nD τ).loc main_arg4)

theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0] ∧ win0_6.index t = ![t.val, 0]
    ∧ win0_7.index t = ![0, 0] ∧ win0_8.index t = ![0, 0] :=
  (by decide +kernel : ∀ t : Fin grid0.N, _)

/-- Row `p` of the point's block is a row of the arrays. -/
def row (t : Fin cfg0.N) (p : Fin 512) : Fin 4096 := ⟨t.val * 512 + p.val, by have := lt_of_lt_of_eq t.isLt N_0; omega⟩

theorem blk_hid (c : Dev nD) (t : Fin cfg0.N) (p : Fin 512) :
    bhid (iblk m c 0 t) (iblk m c 1 t) (iblk m c 2 t) p = hid (aA m c) (aB m c) (aX m c) (row t p) := by
  funext j
  unfold bhid hid row
  blk_point [iblk, V, idx t]

theorem blk_w (c : Dev nD) (t : Fin cfg0.N) :
    (fun j => (show Vec Ideal S1x1024 .f32 from iblk m c 4 t) (ix2 0 j)) = fun j => aW m c (ix1 j) := by
  funext j
  blk_point [iblk, V, idx t]

theorem blk_t (c : Dev nD) (t : Fin cfg0.N) (p : Fin 512) :
    (fun j => (show Vec Ideal S512x1024 .f32 from iblk m c 3 t) (ix2 p j)) = fun j => aT m c (ix2 (row t p) j) := by
  funext j
  unfold row
  blk_point [iblk, V, idx t]

/-- The arrays' error and cotangent, by rows. -/
abbrev E (c : Dev nD) : Fin 4096 → Fin 1024 → EReal := er (aA m c) (aB m c) (aX m c) (aT m c) (aW m c)
abbrev D (c : Dev nD) : Fin 4096 → Fin 1024 → EReal := ct (aA m c) (aB m c) (aX m c) (aT m c) (aW m c)
abbrev H (c : Dev nD) : Fin 4096 → Fin 1024 → EReal := hid (aA m c) (aB m c) (aX m c)

theorem blk_er (c : Dev nD) (t : Fin cfg0.N) (p : Fin 512) :
    ber (iblk m c 0 t) (iblk m c 1 t) (iblk m c 2 t) (iblk m c 4 t) (iblk m c 3 t) p = E m c (row t p) := by
  have h := congr (congrArg₂ err (blk_hid m c t p) (blk_w m c t)) (blk_t m c t p)
  exact h

theorem blk_ct (c : Dev nD) (t : Fin cfg0.N) (p : Fin 512) :
    bct (iblk m c 0 t) (iblk m c 1 t) (iblk m c 2 t) (iblk m c 4 t) (iblk m c 3 t) p = D m c (row t p) := by
  have h := congr (congrArg₂ dy (blk_hid m c t p) (blk_w m c t)) (blk_t m c t p)
  exact h

variable (c : Dev nD) (hA : ∀ i, IsReal (aA m c i)) (hB : ∀ i, IsReal (aB m c i)) (hX : ∀ i, IsReal (aX m c i)) (hT : ∀ i, IsReal (aT m c i))
  (hW : ∀ i, IsReal (aW m c i))

include hA hB hX in
theorem real_hid (r : Fin 4096) (j : Fin 1024) : IsReal (H m c r j) :=
  (IsReal.sum _ fun k _ => (hA _).mul (hB _)).add (hX _)

include hA hB hX hT hW in
theorem real_err (r : Fin 4096) (j : Fin 1024) : IsReal (E m c r j) := by
  obtain ⟨s, i, -, -, -, e⟩ := inv_real 1024 (by norm_num) (H m c r) (real_hid m c hA hB hX r)
  rw [← len_eq] at e
  exact (((real_hid m c hA hB hX r j).mul (e ▸ isReal_coe i)).mul (hW _)).sub (hT _)

include hA hB hX hT hW in
theorem real_ct (r : Fin 4096) (j : Fin 1024) : IsReal (D m c r j) :=
  (real_err m c hA hB hX hT hW r j).mul (q_eq ▸ isReal_coe _)

include hA hB hX hT hW in
/-- What the kernel's first two results hold at row `r`. -/
theorem point (t : Fin cfg0.N) (p : Fin 512) (j : Fin 1024) :
    k0_pay1 (F := Ideal) (k0_pay8 (iblk m c 0 t) (iblk m c 1 t) (iblk m c 2 t)) (k0_pay9 (iblk m c 0 t) (iblk m c 1 t) (iblk m c 2 t))
        (k0_pay13 (iblk m c 0 t) (iblk m c 1 t) (iblk m c 2 t) (iblk m c 4 t) (iblk m c 3 t) (iblk m c 4 t))
        (k0_pay14 (iblk m c 0 t) (iblk m c 1 t) (iblk m c 2 t) (iblk m c 4 t) (iblk m c 3 t) (iblk m c 4 t)) (ix2 p j)
      = Cert.LossRefIdeal.Read.val_main_v53 (F := Ideal) (aA m c) (aB m c) (aX m c) (aT m c) (aW m c) (ix2 (row t p) j) := by
  have h := pay1_apply (iblk m c 0 t) (iblk m c 1 t) (iblk m c 2 t) (iblk m c 4 t) (iblk m c 3 t) p j
  rw [blk_hid, blk_ct] at h
  rw [ref_dx]
  refine h.trans ?_
  have e := blk_w m c t
  refine Eq.trans (congrArg (fun w => kerGrad len (H m c (row t p)) (D m c (row t p)) w j) e) ?_
  rw [len_eq]
  exact grad_eq' 1024 (by norm_num) _ _ _ (real_hid m c hA hB hX _) (real_ct m c hA hB hX hT hW _) (fun j => hW _) j

include hA hB hX hT hW in
theorem point' (t : Fin cfg0.N) (y : S512x1024.Idx) (i : S4096x1024.Idx) (h0 : (i 0 : ℕ) = t.val * 512 + y 0) (h1 : (i 1 : ℕ) = y 1) :
    k0_pay1 (F := Ideal) (k0_pay8 (iblk m c 0 t) (iblk m c 1 t) (iblk m c 2 t)) (k0_pay9 (iblk m c 0 t) (iblk m c 1 t) (iblk m c 2 t))
        (k0_pay13 (iblk m c 0 t) (iblk m c 1 t) (iblk m c 2 t) (iblk m c 4 t) (iblk m c 3 t) (iblk m c 4 t))
        (k0_pay14 (iblk m c 0 t) (iblk m c 1 t) (iblk m c 2 t) (iblk m c 4 t) (iblk m c 3 t) (iblk m c 4 t)) y
      = Cert.LossRefIdeal.Read.val_main_v53 (F := Ideal) (aA m c) (aB m c) (aX m c) (aT m c) (aW m c) i := by
  have e0 : y = ix2 (y 0) (y 1) := by idx_vars y; rfl
  have e1 : i = ix2 (row t (y 0)) (y 1) := by
    idx_vars i
    congr 1
    · exact Fin.ext h0
    · exact Fin.ext h1
  rw [e1, e0]
  exact point m c hA hB hX hT hW t (y 0) (y 1)

theorem split_A (t : Fin cfg0.N) (h : t.val % 8 = 0) : ¬ 1 ≤ t.val := by have := lt_of_lt_of_eq t.isLt N_0; omega

include hA hB hX hT hW in
/-- The first result array. -/
theorem final5 : (dats m 0 c).arrAt 5 (cfgs 0).N = Cert.LossRefIdeal.Read.val_main_v53 (F := Ideal) (aA m c) (aB m c) (aX m c) (aT m c) (aW m c) := by
  refine (dats m 0 c).arrAt_eq_of_covers 5 _ (by decide +kernel) fun t _ y => ?_
  blk_simp
  rw [after0_5]
  by_cases h : t.val % 8 = 0
  · rw [outsAt0_A m c t h (split_A t h) h (split_A t h)]
    frame_out
    exact point' m c hA hB hX hT hW t y _ (by blk_simp [idx t]) (by blk_simp [idx t])
  · rw [outsAt0_B m c t h (by omega) h (by omega)]
    frame_out
    exact point' m c hA hB hX hT hW t y _ (by blk_simp [idx t]) (by blk_simp [idx t])

include hA hB hX hT hW in
/-- The second result array. -/
theorem final6 : (dats m 0 c).arrAt 6 (cfgs 0).N = Cert.LossRefIdeal.Read.val_main_v54 (F := Ideal) (aA m c) (aB m c) (aX m c) (aT m c) (aW m c) := by
  refine (dats m 0 c).arrAt_eq_of_covers 6 _ (by decide +kernel) fun t _ y => ?_
  blk_simp
  rw [after0_6]
  by_cases h : t.val % 8 = 0
  · rw [outsAt0_A m c t h (split_A t h) h (split_A t h)]
    frame_out
    exact point' m c hA hB hX hT hW t y _ (by blk_simp [idx t]) (by blk_simp [idx t])
  · rw [outsAt0_B m c t h (by omega) h (by omega)]
    frame_out
    exact point' m c hA hB hX hT hW t y _ (by blk_simp [idx t]) (by blk_simp [idx t])

/-- The sum of the rows' contributions to the weights' gradient, one block of rows, -/
def part (t : Fin cfg0.N) (y : S1x1024.Idx) : EReal :=
  ∑ p : Fin 512, D m c (row t p) (y 1) * (H m c (row t p) (y 1) * inv len (H m c (row t p)))
/-- and the block's share of the loss. -/
def lpart (t : Fin cfg0.N) : EReal := hf * (∑ p : Fin 512, ∑ k : Fin 1024, E m c (row t p) k * E m c (row t p) k) * q

theorem step_A (t : Fin cfg0.N) (h : t.val % 8 = 0) (y : S1x1024.Idx) : (outsAt0 m c t.val t.isLt).2.2.2 y = 0 + part m c t y := by
  rw [outsAt0_A m c t h (split_A t h) h (split_A t h), zero_add]
  frame_out
  idx_vars y
  obtain rfl : y0 = 0 := Subsingleton.elim _ _
  rw [pay3_apply]
  simp only [blk_hid, blk_ct]
  rfl

theorem step_B (t : Fin cfg0.N) (h : ¬ t.val % 8 = 0) (y : S1x1024.Idx) :
    (outsAt0 m c t.val t.isLt).2.2.2 y = (outsAt0 m c (t.val - 1) (by have := t.isLt; omega)).2.2.2 y + part m c t y := by
  rw [outsAt0_B m c t h (by omega) h (by omega)]
  frame_out
  idx_vars y
  obtain rfl : y0 = 0 := Subsingleton.elim _ _
  rw [pay4_apply]
  simp only [blk_hid, blk_ct]
  rfl

theorem loss_A (t : Fin cfg0.N) (h : t.val % 8 = 0) (y : S1x128.Idx) : (outsAt0 m c t.val t.isLt).2.2.1 y = 0 + lpart m c t := by
  rw [outsAt0_A m c t h (split_A t h) h (split_A t h), zero_add]
  frame_out
  idx_vars y
  obtain rfl : y0 = 0 := Subsingleton.elim _ _
  rw [pay5_apply]
  simp only [blk_er]
  rfl

theorem loss_B (t : Fin cfg0.N) (h : ¬ t.val % 8 = 0) (y : S1x128.Idx) :
    (outsAt0 m c t.val t.isLt).2.2.1 y = (outsAt0 m c (t.val - 1) (by have := t.isLt; omega)).2.2.1 y + lpart m c t := by
  rw [outsAt0_B m c t h (by omega) h (by omega)]
  frame_out
  idx_vars y
  obtain rfl : y0 = 0 := Subsingleton.elim _ _
  rw [pay6_apply]
  simp only [blk_er]
  rfl

/-- The fourth result array. -/
theorem final8 : (dats m 0 c).arrAt 8 (cfgs 0).N = Cert.LossRefIdeal.Read.val_main_v56 (F := Ideal) (aA m c) (aB m c) (aX m c) (aT m c) (aW m c) := by
  refine (dats m 0 c).arrAt_eq_of_after_last 8 t0_7 (by decide +kernel) _ fun j => ?_
  blk_simp
  rw [after0_8, Pipeline.eq_sum_fin_of_reset_step_apply_last (fun n h => (outsAt0 m c n h).2.2.2) 8 (fun _ => 0) (fun t y => part m c t y)
    (fun t h j => step_A m c t h j) (fun t h j => step_B m c t h j) (le_of_eq N_0) t0_7 rfl j, zero_add]
  idx_vars j
  obtain rfl : j0 = 0 := Subsingleton.elim _ _
  rw [ref_dw]
  unfold part row
  exact Fin.sum_mul_add_congr fun s k hl => rfl

/-- A sum of real halves over the row length, block by block, is the half of the whole sum's quotients. -/
theorem loss_sum {n : ℕ} (f : Fin n → EReal) (hf' : ∀ i, IsReal (f i)) : ∑ i, Cert.LossIdeal.Math.hf * f i * q = Cert.LossIdeal.Math.hf * ∑ i, Ideal.div (f i) len := by
  choose g hg using hf'
  simp only [hg, hf_eq, q_eq, len_eq, Ideal.div_coe (show (1024 : ℝ) ≠ 0 by norm_num), ← EReal.coe_mul, ← coe_sum, EReal.coe_eq_coe_iff]
  rw [Finset.mul_sum]
  exact Finset.sum_congr rfl fun i _ => by ring

include hA hB hX hT hW in
/-- The third result array. -/
theorem final7 : (dats m 0 c).arrAt 7 (cfgs 0).N = Cert.LossRefIdeal.Read.val_main_v55 (F := Ideal) (aA m c) (aB m c) (aX m c) (aT m c) (aW m c) := by
  refine (dats m 0 c).arrAt_eq_of_after_last 7 t0_7 (by decide +kernel) _ fun j => ?_
  blk_simp
  rw [after0_7, Pipeline.eq_sum_fin_of_reset_step_apply_last (fun n h => (outsAt0 m c n h).2.2.1) 8 (fun _ => 0) (fun t y => lpart m c t)
    (fun t h j => loss_A m c t h j) (fun t h j => loss_B m c t h j) (le_of_eq N_0) t0_7 rfl j, zero_add]
  idx_vars j
  obtain rfl : j0 = 0 := Subsingleton.elim _ _
  rw [ref_loss]
  have hsq : ∀ r : Fin 4096, IsReal (∑ k : Fin 1024, E m c r k * E m c r k) := fun r =>
    IsReal.sum _ fun k _ => (real_err m c hA hB hX hT hW r k).mul (real_err m c hA hB hX hT hW r k)
  rw [← loss_sum _ hsq]
  have hp : ∀ t : Fin cfg0.N, lpart m c t = ∑ p : Fin 512, Cert.LossIdeal.Math.hf * (∑ k : Fin 1024, E m c (row t p) k * E m c (row t p) k) * q := fun t => by
    have h1 : ∀ r : Fin 4096, ∃ g : ℝ, (∑ k : Fin 1024, E m c r k * E m c r k) = g := hsq
    choose g hg using h1
    unfold lpart
    simp only [hg, hf_eq, q_eq, ← EReal.coe_mul, ← coe_sum, EReal.coe_eq_coe_iff]
    rw [Finset.mul_sum, Finset.sum_mul]
  simp only [hp]
  unfold row
  exact Fin.sum_mul_add_congr fun s k hl => rfl

end Arrays

/-- The reference terminates, keeps its arguments, and leaves every counter at zero: it has none. -/
theorem frame_ref : Cert.quiescent_LossRefIdeal := fun m g _ => by
  refine (θ_run _ _ _).mono (fun r h => ⟨fun c => (h c).2.2.2.2, sem_eq_zero_of_no_sems (sig := Cert.LossRefIdeal.sig) rfl _⟩)
    (Cert.LossRefIdeal.Value.run m g)

/-- The claim: kernel and reference leave the same four arrays. -/
theorem algebraic : Cert.algebraic_LossIdeal_LossRefIdeal_pre_finite_loss := by
  pair_intro
  · run_from Cert.LossIdeal.Value.run_blocks m g
  · run_from Cert.LossRefIdeal.Value.run m' g'
    all_goals obtain ⟨a0, a1, a2, a3, a4⟩ := hagree c
    · rw [Cert.LossRefIdeal.Read.val_main_v53_eq, a0, a1, a2, a3, a4]
      exact (final5 m c (fun i => isReal_of_fin _ _ _ (hpre c).1 i) (fun i => isReal_of_fin _ _ _ (hpre c).2.1 i) (fun i => isReal_of_fin _ _ _ (hpre c).2.2.1 i)
        (fun i => isReal_of_fin _ _ _ (hpre c).2.2.2.1 i) (fun i => isReal_of_fin _ _ _ (hpre c).2.2.2.2 i)).symm
    · rw [Cert.LossRefIdeal.Read.val_main_v54_eq, a0, a1, a2, a3, a4]
      exact (final6 m c (fun i => isReal_of_fin _ _ _ (hpre c).1 i) (fun i => isReal_of_fin _ _ _ (hpre c).2.1 i) (fun i => isReal_of_fin _ _ _ (hpre c).2.2.1 i)
        (fun i => isReal_of_fin _ _ _ (hpre c).2.2.2.1 i) (fun i => isReal_of_fin _ _ _ (hpre c).2.2.2.2 i)).symm
    · rw [Cert.LossRefIdeal.Read.val_main_v55_eq]
      exact (final7 m c (fun i => isReal_of_fin _ _ _ (hpre c).1 i) (fun i => isReal_of_fin _ _ _ (hpre c).2.1 i) (fun i => isReal_of_fin _ _ _ (hpre c).2.2.1 i)
        (fun i => isReal_of_fin _ _ _ (hpre c).2.2.2.1 i) (fun i => isReal_of_fin _ _ _ (hpre c).2.2.2.2 i)).symm
    · rw [Cert.LossRefIdeal.Read.val_main_v56_eq]
      exact (final8 m c).symm

end Cert.LossIdeal.Math

end
-- ==== Proof.OutProj.lean ====
/-
  The output projection's gradient: what the kernel's program returns, the cotangent's two products and the rows' sums of
  `do * o`, is what the reference returns.
-/
module

public import proofs.«01_k».proof.Defs
public import proofs.«01_k».proof.Proof.Gen.Pre_finite_outproj
public import proofs.«01_k».proof.Proof.Gen.OutProjIdeal.Frame
public import proofs.«01_k».proof.Proof.Gen.OutProjRefIdeal.Run
public import proofs.«01_k».proof.Proof.Gen.OutProjRefIdeal.Read
public import proofs.«01_k».proof.Proof.Norm
public import Idealize.ShloMosaic.Lib.Claim
public import Idealize.ShloMosaic.Lib.Pointwise

@[expose] public section

set_option maxRecDepth 16384

noncomputable section

namespace Cert.OutProjIdeal.Math

open Cert.OutProjIdeal Cert.OutProjIdeal.Gen Cert.Finite Cert.Norm Idealize.ShloMosaic Idealize.ShloMosaic.TcCoe Idealize.SL.Sem
open Idealize.ShloMosaic.Pipeline (Dat)

variable (m : (ℓ : Loc nD τ sig) → Buf (Elt Ideal) ℓ)

/-- A head's sum of `do * o`, over its first 64 lanes, -/
def dot (d o : Fin 128 → EReal) : EReal := ∑ l : Fin 128, if l.val < 64 then d l * o l else 0
/-- and the lanes the kernel writes for the head: `do`, with the sum's negative and its rounding error in two spare ones. -/
def cell (d o : Fin 128 → EReal) (a : Fin 128) : EReal :=
  if a.val = 64 then 0 - dot d o else if a.val = 65 then (0 - dot d o) - (0 - dot d o) else d a

/-- The same as the kernel's words say it. -/
def dotW (d o : Fin 128 → EReal) : EReal := ∑ l : Fin 128, Scalar.select (IntOp.cmpi CmpIPredicate.slt (BitVec.ofNat 32 l.val) 64#32) (d l * o l) 0
def cellW (d o : Fin 128 → EReal) (a : Fin 128) : EReal :=
  Scalar.select (IntOp.cmpi CmpIPredicate.eq (BitVec.ofNat 32 a.val) 64#32) (0 - dotW d o)
    (Scalar.select (IntOp.cmpi CmpIPredicate.eq (BitVec.ofNat 32 a.val) 65#32) (0 - dotW d o - (0 - dotW d o)) (d a))

theorem sel_slt : ∀ l : Fin 128, IntOp.cmpi CmpIPredicate.slt (BitVec.ofNat 32 l.val) 64#32 = if l.val < 64 then 1#1 else 0#1 := by decide +kernel
theorem sel_64 : ∀ l : Fin 128, IntOp.cmpi CmpIPredicate.eq (BitVec.ofNat 32 l.val) 64#32 = if l.val = 64 then 1#1 else 0#1 := by decide +kernel
theorem sel_65 : ∀ l : Fin 128, IntOp.cmpi CmpIPredicate.eq (BitVec.ofNat 32 l.val) 65#32 = if l.val = 65 then 1#1 else 0#1 := by decide +kernel
theorem sel_ite (P : Prop) [Decidable P] (x y : EReal) : Scalar.select (if P then 1#1 else 0#1) x y = if P then x else y := by
  split_ifs <;> rfl

theorem cellW_eq (d o : Fin 128 → EReal) (a : Fin 128) : cellW d o a = cell d o a := by
  simp only [cellW, cell, dotW, dot, sel_slt, sel_64, sel_65, sel_ite]

section Blocks

/-- A head's lanes, named by the array's column. -/
theorem cell_at (X x3 : S512x1024.Idx → EReal) (y : S512x1024.Idx) (x : S512x128.Idx) (off : ℕ) (k : ℕ) (ho : off = k * 128) (hk : k < 8) (h0 : (y 0).val = (x 0).val)
    (h1 : (y 1).val = off + (x 1).val) :
    cellW (fun l => X (ix2 (x 0) ⟨off + l.val, by omega⟩)) (fun l => x3 (ix2 (x 0) ⟨off + l.val, by omega⟩)) (x 1)
      = cell (fun l => X (ix2 (y 0) ⟨(y 1).val / 128 * 128 + l.val, by have : (y 1).val < 1024 := (y 1).isLt; omega⟩))
          (fun l => x3 (ix2 (y 0) ⟨(y 1).val / 128 * 128 + l.val, by have : (y 1).val < 1024 := (y 1).isLt; omega⟩)) ⟨(y 1).val % 128, by omega⟩ := by
  subst ho
  idx_vars x
  idx_vars y
  obtain rfl : y0 = x0 := Fin.ext h0
  have h1 : y1.val = k * 128 + x1.val := h1
  have e : y1.val / 128 * 128 = k * 128 := by omega
  have e2 : x1 = ⟨y1.val % 128, by omega⟩ := Fin.ext (by show x1.val = y1.val % 128; omega)
  rw [cellW_eq]
  show cell (fun l => X (ix2 y0 _)) (fun l => x3 (ix2 y0 _)) x1 = cell (fun l => X (ix2 y0 ⟨y1.val / 128 * 128 + l.val, _⟩)) (fun l => x3 (ix2 y0 ⟨y1.val / 128 * 128 + l.val, _⟩)) ⟨y1.val % 128, _⟩
  simp only [e]
  rw [← e2]

/-- The first head's lanes. -/
theorem cell_at0 (X x3 : S512x1024.Idx → EReal) (y : S512x1024.Idx) (x : S512x128.Idx) (h0 : (y 0).val = (x 0).val) (h1 : (y 1).val = (x 1).val) :
    cellW (fun l => X (ix2 (x 0) ⟨l.val, by omega⟩)) (fun l => x3 (ix2 (x 0) ⟨l.val, by omega⟩)) (x 1)
      = cell (fun l => X (ix2 (y 0) ⟨(y 1).val / 128 * 128 + l.val, by have : (y 1).val < 1024 := (y 1).isLt; omega⟩))
          (fun l => x3 (ix2 (y 0) ⟨(y 1).val / 128 * 128 + l.val, by have : (y 1).val < 1024 := (y 1).isLt; omega⟩)) ⟨(y 1).val % 128, by omega⟩ := by
  rw [← cell_at X x3 y x 0 0 rfl (by norm_num) h0 (h1.trans (Nat.zero_add _).symm)]
  simp only [Nat.zero_add]

theorem ld_dh (x0 : Vec Ideal S512x1024 .bf16) : View.ld x0 r0_0 = x0 := by
  funext j
  idx_vars j
  pointwise
theorem ld_w (x2 : Vec Ideal S1024x1024 .bf16) : View.ld x2 r0_2 = x2 := by
  funext j
  idx_vars j
  pointwise

theorem out5_apply (x0 x1 : Vec Ideal S512x1024 .bf16) (x2 : Vec Ideal S1024x1024 .bf16) (x3 : Vec Ideal S512x1024 .bf16) (y : S512x1024.Idx) :
    out0_5 (F := Ideal) x0 x1 x2 x3 y = cell (fun l => k0_pay3 (F := Ideal) x0 x2 (ix2 (y 0) ⟨(y 1).val / 128 * 128 + l.val, by have : (y 1).val < 1024 := (y 1).isLt; omega⟩))
      (fun l => x3 (ix2 (y 0) ⟨(y 1).val / 128 * 128 + l.val, by have : (y 1).val < 1024 := (y 1).isLt; omega⟩)) ⟨(y 1).val % 128, by omega⟩ := by
  canon_tiles x h
  case piece0 =>
    pointwise [k0_pay1, k0_pay16, k0_pay15]
    rw [ld_dh, ld_w]
    exact cell_at (k0_pay3 (F := Ideal) x0 x2) x3 y x 896 7 rfl (by norm_num) h0 h1
  case piece1 =>
    pointwise [k0_pay14, k0_pay16, k0_pay15]
    rw [ld_dh, ld_w]
    exact cell_at (k0_pay3 (F := Ideal) x0 x2) x3 y x 768 6 rfl (by norm_num) h0 h1
  case piece2 =>
    pointwise [k0_pay13, k0_pay11, k0_pay12, k0_pay16, k0_pay15]
    rw [ld_dh, ld_w]
    exact cell_at (k0_pay3 (F := Ideal) x0 x2) x3 y x 640 5 rfl (by norm_num) h0 h1
  case piece3 =>
    pointwise [k0_pay10, k0_pay16, k0_pay15]
    rw [ld_dh, ld_w]
    exact cell_at (k0_pay3 (F := Ideal) x0 x2) x3 y x 512 4 rfl (by norm_num) h0 h1
  case piece4 =>
    pointwise [k0_pay9, k0_pay16, k0_pay15]
    rw [ld_dh, ld_w]
    exact cell_at (k0_pay3 (F := Ideal) x0 x2) x3 y x 384 3 rfl (by norm_num) h0 h1
  case piece5 =>
    pointwise [k0_pay8, k0_pay6, k0_pay7, k0_pay16, k0_pay15]
    rw [ld_dh, ld_w]
    exact cell_at (k0_pay3 (F := Ideal) x0 x2) x3 y x 256 2 rfl (by norm_num) h0 h1
  case piece6 =>
    pointwise [k0_pay5, k0_pay16, k0_pay15]
    rw [ld_dh, ld_w]
    exact cell_at (k0_pay3 (F := Ideal) x0 x2) x3 y x 128 1 rfl (by norm_num) h0 h1
  case piece7 =>
    pointwise [k0_pay4]
    rw [ld_dh, ld_w]
    exact cell_at0 (k0_pay3 (F := Ideal) x0 x2) x3 y x h0 h1

/-- The projection's part of a block. -/
theorem out4_apply (x0 x1 : Vec Ideal S512x1024 .bf16) (x2 : Vec Ideal S1024x1024 .bf16) (x3 : Vec Ideal S512x1024 .bf16) (p q : Fin 512) :
    out0_4 (F := Ideal) x0 x1 x2 x3 (ix2 p q) = ∑ k : Fin 1024, x0 (ix2 p k) * x1 (ix2 q k) := by
  frame_out
  pointwise [k0_pay2]

theorem pay3_apply (x0 : Vec Ideal S512x1024 .bf16) (x2 : Vec Ideal S1024x1024 .bf16) (p : Fin 512) (q : Fin 1024) :
    k0_pay3 (F := Ideal) x0 x2 (ix2 p q) = ∑ k : Fin 1024, x0 (ix2 p k) * x2 (ix2 q k) := by
  pointwise [k0_pay3]

end Blocks

section Arrays

abbrev aD (c : Dev nD) : FVec Ideal S4096x1024 .bf16 := m ((c : Thread nD τ).loc main_arg0)
abbrev aW (c : Dev nD) : FVec Ideal S1024x1024 .f32 := m ((c : Thread nD τ).loc main_arg1)
abbrev aO (c : Dev nD) : FVec Ideal S4096x512 .f32 := m ((c : Thread nD τ).loc main_arg2)

theorem idx : ∀ t : Fin cfg0.N, win0_0.index t = ![t.val, 0] ∧ win0_1.index t = ![0, 0] ∧ win0_2.index t = ![0, 0] ∧ win0_3.index t = ![t.val, 0]
    ∧ win0_4.index t = ![t.val, 0] ∧ win0_5.index t = ![t.val, 0] :=
  (by decide +kernel : ∀ t : Fin grid0.N, _)

/-- Row `p` of the point's block is a row of the arrays. -/
def row (t : Fin cfg0.N) (p : Fin 512) : Fin 4096 := ⟨t.val * 512 + p.val, by have := lt_of_lt_of_eq t.isLt N_0; omega⟩

/-- The host's operations before the call, in one list. -/
theorem before (c : Dev nD) (b : Ref sig .tc) : V m c b = StableHlo.after
    ((hostOps0 ++ (hostOps0_1 ++ (hostOps0_2 ++ (hostOps0_3 ++ (hostOps0_4 ++ []))))) : List (HloOp τ sig (Elt Ideal)))
    (fun b => m (c, b)) (Proc.devRef .tc b) := rfl

/-- The filling lanes hold zero. -/
def zer (f : FTy) : FVec Ideal S_ f := sitofp (F := Ideal) f (constantI S_ 32 0#32)
theorem zer_apply (f : FTy) (i : S_.Idx) : zer f i = 0 := by
  show ((((0#32 : BitVec 32).toInt : ℝ)) : EReal) = 0
  simp

/-- The weights' rows that meet the attention's heads, each head in lanes of its own, -/
def wideW (x : FVec Ideal S1024x1024 .f32) : FVec Ideal S1024x1024 .bf16 :=
  shapeCast S1024x1024 (pad S8x128x1024 ![0, 0, 0] ![0, 64, 0] ![0, 0, 0] (shapeCast S8x64x1024
    (extractStridedSlice S512x1024 ![512, 0] (truncf .bf16 x bitsLt_bf16_f32) slices_S1024x1024_S512x1024_512_0) shapeCasts_S512x1024_S8x64x1024) (zer .bf16)
    pads_S8x64x1024_S8x128x1024_000_0640_000 h_S_) shapeCasts_S8x128x1024_S1024x1024
/-- and the attention's rows. -/
def wideO (x : FVec Ideal S4096x512 .f32) : FVec Ideal S4096x1024 .bf16 :=
  truncf .bf16 (shapeCast S4096x1024 (pad S4096x8x128 ![0, 0, 0] ![0, 0, 64] ![0, 0, 0] (shapeCast S4096x8x64 x shapeCasts_S4096x512_S4096x8x64) (zer .f32)
    pads_S4096x8x64_S4096x8x128_000_000_0640 h_S_) shapeCasts_S4096x8x128_S4096x1024) bitsLt_bf16_f32

theorem V_m (c : Dev nD) : V m c main_v4 = extractStridedSlice S512x1024 ![0, 0] (truncf .bf16 (aW m c) bitsLt_bf16_f32) slices_S1024x1024_S512x1024_0_0 := by
  rw [before]
  simp only [hostOps0, hostOps0_1, hostOps0_2, hostOps0_3, hostOps0_4, List.cons_append, List.nil_append, List.append_nil,
    StableHlo.TRef.nullary, StableHlo.TRef.binary, StableHlo.TRef.unary, StableHlo.TRef.toBuf, StableHlo.TRef.ofBuf, cast_eq]
  after_results_simp

theorem V_w (c : Dev nD) : V m c main_v8 = wideW (aW m c) := by
  rw [before]
  simp only [hostOps0, hostOps0_1, hostOps0_2, hostOps0_3, hostOps0_4, List.cons_append, List.nil_append, List.append_nil,
    StableHlo.TRef.nullary, StableHlo.TRef.binary, StableHlo.TRef.unary, StableHlo.TRef.toBuf, StableHlo.TRef.ofBuf, cast_eq]
  after_results_simp
  rfl

theorem V_o (c : Dev nD) : V m c main_v9 = wideO (aO m c) := by
  rw [before]
  simp only [hostOps0, hostOps0_1, hostOps0_2, hostOps0_3, hostOps0_4, List.cons_append, List.nil_append, List.append_nil,
    StableHlo.TRef.nullary, StableHlo.TRef.binary, StableHlo.TRef.unary, StableHlo.TRef.toBuf, StableHlo.TRef.ofBuf, cast_eq]
  after_results_simp
  rfl

theorem wideW_at (x : FVec Ideal S1024x1024 .f32) (q k : Fin 1024) :
    wideW x (ix2 q k) = if h : q.val % 128 < 64 then x (ix2 ⟨512 + (q.val / 128 * 64 + q.val % 128), by omega⟩ k) else 0 := by
  pointwise [wideW]
  split_ifs with h1 h2 <;> first | (exfalso; omega) | rfl | exact zer_apply _ _

theorem wideO_at (x : FVec Ideal S4096x512 .f32) (r : Fin 4096) (q : Fin 1024) :
    wideO x (ix2 r q) = if h : q.val % 128 < 64 then x (ix2 r ⟨q.val / 128 * 64 + q.val % 128, by omega⟩) else 0 := by
  pointwise [wideO]
  split_ifs with h1 h2 <;> first | (exfalso; omega) | rfl | exact zer_apply _ _

/-- A row's cotangent at a lane, and what the call leaves in a row's lanes. -/
def drow (c : Dev nD) (r : Fin 4096) (q : Fin 1024) : EReal := ∑ k : Fin 1024, aD m c (ix2 r k) * wideW (aW m c) (ix2 q k)
def res (c : Dev nD) : FVec Ideal S4096x1024 .bf16 := fun i =>
  cell (fun l => drow m c (i 0) ⟨(i 1).val / 128 * 128 + l.val, by have : (i 1).val < 1024 := (i 1).isLt; omega⟩)
    (fun l => wideO (aO m c) (ix2 (i 0) ⟨(i 1).val / 128 * 128 + l.val, by have : (i 1).val < 1024 := (i 1).isLt; omega⟩)) ⟨(i 1).val % 128, by omega⟩

variable (c : Dev nD)

theorem blk_D (t : Fin cfg0.N) (p : Fin 512) (k : Fin 1024) :
    (show Vec Ideal S512x1024 .bf16 from iblk m c 0 t) (ix2 p k) = aD m c (ix2 (row t p) k) := by
  unfold row
  blk_point [iblk, V, idx t]

theorem blk_M (t : Fin cfg0.N) (p : Fin 512) (k : Fin 1024) :
    (show Vec Ideal S512x1024 .bf16 from iblk m c 1 t) (ix2 p k) = aW m c (ix2 ⟨p.val, by omega⟩ k) := by
  have e : (show Vec Ideal S512x1024 .bf16 from iblk m c 1 t) (ix2 p k) = (show Vec Ideal S512x1024 .bf16 from V m c main_v4) (ix2 p k) := by
    blk_point [iblk, idx t]
  rw [e, V_m]
  pointwise []

theorem blk_W (t : Fin cfg0.N) (q k : Fin 1024) :
    (show Vec Ideal S1024x1024 .bf16 from iblk m c 2 t) (ix2 q k) = wideW (aW m c) (ix2 q k) := by
  rw [← V_w]; blk_point [iblk, idx t]

theorem blk_O (t : Fin cfg0.N) (p : Fin 512) (q : Fin 1024) :
    (show Vec Ideal S512x1024 .bf16 from iblk m c 3 t) (ix2 p q) = wideO (aO m c) (ix2 (row t p) q) := by
  rw [← V_o]; unfold row; blk_point [iblk, idx t]

theorem pay3_blk (t : Fin cfg0.N) (p : Fin 512) (q : Fin 1024) :
    k0_pay3 (F := Ideal) (iblk m c 0 t) (iblk m c 2 t) (ix2 p q) = drow m c (row t p) q := by
  rw [pay3_apply]
  exact Finset.sum_congr rfl fun k _ => congr (congrArg _ (blk_D m c t p k)) (blk_W m c t q k)

theorem out5_blk (t : Fin cfg0.N) (y : S512x1024.Idx) (i : S4096x1024.Idx) (h0 : (i 0 : ℕ) = t.val * 512 + y 0) (h1 : (i 1 : ℕ) = y 1) :
    out0_5 (F := Ideal) (iblk m c 0 t) (iblk m c 1 t) (iblk m c 2 t) (iblk m c 3 t) y = res m c i := by
  have e1 : i = ix2 (row t (y 0)) (y 1) := by
    idx_vars i
    congr 1
    · exact Fin.ext h0
    · exact Fin.ext h1
  have hy : (y 1).val < 1024 := (y 1).isLt
  have ho : (fun l : Fin 128 => (show Vec Ideal S512x1024 .bf16 from iblk m c 3 t) (ix2 (y 0) ⟨(y 1).val / 128 * 128 + l.val, by omega⟩))
      = fun l : Fin 128 => wideO (aO m c) (ix2 (row t (y 0)) ⟨(y 1).val / 128 * 128 + l.val, by omega⟩) := funext fun l => blk_O m c t (y 0) _
  have hd : (fun l : Fin 128 => k0_pay3 (F := Ideal) (iblk m c 0 t) (iblk m c 2 t) (ix2 (y 0) ⟨(y 1).val / 128 * 128 + l.val, by omega⟩))
      = fun l : Fin 128 => drow m c (row t (y 0)) ⟨(y 1).val / 128 * 128 + l.val, by omega⟩ := funext fun l => pay3_blk m c t (y 0) _
  rw [e1]
  refine (out5_apply (iblk m c 0 t) (iblk m c 1 t) (iblk m c 2 t) (iblk m c 3 t) y).trans ?_
  exact congrFun (congr (congrArg cell hd) ho) ⟨(y 1).val % 128, by omega⟩

/-- The call's second array, -/
theorem final5 : (dats m 0 c).arrAt 5 (cfgs 0).N = res m c := by
  refine (dats m 0 c).arrAt_eq_of_covers 5 _ (by decide +kernel) fun t _ y => ?_
  blk_simp
  rw [after0_5]
  exact out5_blk m c t y _ (by blk_simp [idx t]) (by blk_simp [idx t])

/-- The reference's first result, entry by entry. -/
theorem ref_dhm (r : Fin 4096) (q : Fin 512) : Cert.OutProjRefIdeal.Read.val_main_v7 (F := Ideal) (aD m c) (aW m c) (ix2 r q)
    = ∑ k : Fin 1024, aD m c (ix2 r k) * aW m c (ix2 ⟨q.val, by omega⟩ k) := by
  pointwise [Cert.OutProjRefIdeal.Read.val_main_v7, Cert.OutProjRefIdeal.Read.val_main_v5, Cert.OutProjRefIdeal.Read.val_main_v4, Cert.OutProjRefIdeal.Read.val_main_v3]

theorem out4_blk (t : Fin cfg0.N) (y : S512x512.Idx) (i : S4096x512.Idx) (h0 : (i 0 : ℕ) = t.val * 512 + y 0) (h1 : (i 1 : ℕ) = y 1) :
    out0_4 (F := Ideal) (iblk m c 0 t) (iblk m c 1 t) (iblk m c 2 t) (iblk m c 3 t) y
      = Cert.OutProjRefIdeal.Read.val_main_v7 (F := Ideal) (aD m c) (aW m c) i := by
  have e0 : y = ix2 (y 0) (y 1) := by idx_vars y; rfl
  have e1 : i = ix2 (row t (y 0)) (y 1) := by
    idx_vars i
    congr 1
    · exact Fin.ext h0
    · exact Fin.ext h1
  rw [e1, e0]
  refine Eq.trans ?_ (ref_dhm m c (row t (y 0)) (y 1)).symm
  have h := out4_apply (iblk m c 0 t) (iblk m c 1 t) (iblk m c 2 t) (iblk m c 3 t) (y 0) (y 1)
  refine h.trans ?_
  exact Finset.sum_congr rfl fun k _ => congr (congrArg _ (blk_D m c t (y 0) k)) (blk_M m c t (y 1) k)

/-- and its first. -/
theorem final4 : (dats m 0 c).arrAt 4 (cfgs 0).N = Cert.OutProjRefIdeal.Read.val_main_v7 (F := Ideal) (aD m c) (aW m c) := by
  refine (dats m 0 c).arrAt_eq_of_covers 4 _ (by decide +kernel) fun t _ y => ?_
  blk_simp
  rw [after0_4]
  exact out4_blk m c t y _ (by blk_simp [idx t]) (by blk_simp [idx t])

end Arrays

section Tail
variable (T : FVec Ideal S4096x1024 .bf16) (c : Dev nD)

/-- What the host's last lines make of the call's second array: the cotangent's lanes, -/
def heads : FVec Ideal S4096x8x128 .f32 := extf .f32 (shapeCast S4096x8x128 T shapeCasts_S4096x1024_S4096x8x128) bitsLt_bf16_f32
def outDo : FVec Ideal S4096x512 .f32 :=
  shapeCast S4096x512 (extractStridedSlice S4096x8x64 ![0, 0, 0] (heads T) slices_S4096x8x128_S4096x8x64_0_0_0) shapeCasts_S4096x8x64_S4096x512
/-- and the rows' sums. -/
def outDelta : FVec Ideal S4096x8 .f32 :=
  Host.negf (addf (shapeCast S4096x8 (extractStridedSlice S4096x8x1 ![0, 0, 64] (heads T) slices_S4096x8x128_S4096x8x1_0_0_64) shapeCasts_S4096x8x1_S4096x8)
    (shapeCast S4096x8 (extractStridedSlice S4096x8x1 ![0, 0, 65] (heads T) slices_S4096x8x128_S4096x8x1_0_0_65) shapeCasts_S4096x8x1_S4096x8))

theorem outDo_apply (r : Fin 4096) (j : Fin 512) : outDo T (ix2 r j) = T (ix2 r ⟨j.val / 64 * 128 + j.val % 64, by omega⟩) := by
  pointwise [outDo, heads]
theorem outDelta_apply (r : Fin 4096) (h : Fin 8) :
    outDelta T (ix2 r h) = -(T (ix2 r ⟨h.val * 128 + 64, by omega⟩) + T (ix2 r ⟨h.val * 128 + 65, by omega⟩)) := by
  pointwise [outDelta, heads]

abbrev tail (b : Ref sig .tc) := Pipeline.afterTail₀ cfgs (dats m) 0 (V0 m) [hostOps1] c b

theorem tail_v14 : tail m c main_v14 = outDo (res m c) := by
  unfold tail Pipeline.afterTail₀
  simp only [hostOps1, List.flatten_cons, List.flatten_nil, List.append_nil]
  after_results_simp
  refine congrArg outDo (Eq.trans ?_ (final5 m c))
  exact Pipeline.withArrays_arr spec0 (by decide) c _ _ 5
theorem tail_v20 : tail m c main_v20 = outDelta (res m c) := by
  unfold tail Pipeline.afterTail₀
  simp only [hostOps1, List.flatten_cons, List.flatten_nil, List.append_nil]
  after_results_simp
  refine congrArg outDelta (Eq.trans ?_ (final5 m c))
  exact Pipeline.withArrays_arr spec0 (by decide) c _ _ 5

/-- The kernel's program runs, and its results are the call's first array and the host's last lines of the second. -/
theorem run_results (ρ : Dev nD → PrngReg) :
    θ_run (defs (F := Ideal)) (onTc (τ := τ) (main (F := Ideal))) ⟨m, fun _ => 0, ρ⟩ (fun r => ∀ c : Dev nD,
      r.2.mem ((c.tc : Thread nD τ).loc main_v10_0) = Cert.OutProjRefIdeal.Read.val_main_v7 (F := Ideal) (aD m c) (aW m c)
      ∧ r.2.mem ((c.tc : Thread nD τ).loc main_v14) = outDo (res m c)
      ∧ r.2.mem ((c.tc : Thread nD τ).loc main_v20) = outDelta (res m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1 c).1 4).trans (final4 m c),
    ((h.1 c).2 main_v14 (Pipeline.mem_restRefs_of _ (by decide) (by decide))).trans (tail_v14 m c),
    ((h.1 c).2 main_v20 (Pipeline.mem_restRefs_of _ (by decide) (by decide))).trans (tail_v20 m c),
    h.2.1 c⟩) (θ_run_and (run_main m ρ) (frame m ρ))

theorem drow_low (r : Fin 4096) (q : Fin 1024) (h : q.val % 128 < 64) :
    drow m c r q = Cert.OutProjRefIdeal.Read.val_main_v6 (F := Ideal) (aD m c) (aW m c) (ix2 r ⟨q.val / 128 * 64 + q.val % 128, by omega⟩) := by
  unfold drow
  simp only [wideW_at, dif_pos h]
  pointwise [Cert.OutProjRefIdeal.Read.val_main_v6, Cert.OutProjRefIdeal.Read.val_main_v4, Cert.OutProjRefIdeal.Read.val_main_v3]

/-- The cotangent's columns. -/
theorem same_do : outDo (res m c) = Cert.OutProjRefIdeal.Read.val_main_v6 (F := Ideal) (aD m c) (aW m c) := by
  funext i
  idx_vars i
  rw [outDo_apply]
  unfold res
  have h : i1.val % 64 < 64 := Nat.mod_lt _ (by norm_num)
  have e1 : (i1.val / 64 * 128 + i1.val % 64) / 128 = i1.val / 64 := by omega
  have e2 : (i1.val / 64 * 128 + i1.val % 64) % 128 = i1.val % 64 := by omega
  show cell (fun l => drow m c i0 ⟨(i1.val / 64 * 128 + i1.val % 64) / 128 * 128 + l.val, _⟩) (fun l => wideO (aO m c) (ix2 i0 ⟨(i1.val / 64 * 128 + i1.val % 64) / 128 * 128 + l.val, _⟩))
    ⟨(i1.val / 64 * 128 + i1.val % 64) % 128, _⟩ = _
  simp only [e1, e2]
  unfold cell
  rw [if_neg (by show ¬ i1.val % 64 = 64; omega), if_neg (by show ¬ i1.val % 64 = 65; omega)]
  refine (drow_low m c i0 ⟨i1.val / 64 * 128 + i1.val % 64, by omega⟩ (by show (i1.val / 64 * 128 + i1.val % 64) % 128 < 64; omega)).trans ?_
  congr 2
  exact Fin.ext (by show (i1.val / 64 * 128 + i1.val % 64) / 128 * 64 + (i1.val / 64 * 128 + i1.val % 64) % 128 = i1.val; omega)

theorem dot_eq (d o : Fin 128 → EReal) : dot d o = ∑ l : Fin 64, d ⟨l.val, by omega⟩ * o ⟨l.val, by omega⟩ := by
  unfold dot
  rw [Fin.sum_univ_add (a := 64) (b := 64)]
  simp
  rfl

theorem neg_split (x : EReal) (hx : IsReal x) : -((0 - x) + ((0 - x) - (0 - x))) = x := by
  obtain ⟨a, rfl⟩ := hx
  norm_cast
  simp

theorem same_delta (hD : ∀ i, IsReal (aD m c i)) (hW : ∀ i, IsReal (aW m c i)) (hO : ∀ i, IsReal (aO m c i)) :
    outDelta (res m c) = Cert.OutProjRefIdeal.Read.val_main_v10 (F := Ideal) (aD m c) (aW m c) (aO m c) := by
  funext i
  idx_vars i
  rw [outDelta_apply]
  unfold res
  have e1 : (i1.val * 128 + 64) / 128 = i1.val := by omega
  have e2 : (i1.val * 128 + 64) % 128 = 64 := by omega
  have e3 : (i1.val * 128 + 65) / 128 = i1.val := by omega
  have e4 : (i1.val * 128 + 65) % 128 = 65 := by omega
  show -(cell (fun l => drow m c i0 ⟨(i1.val * 128 + 64) / 128 * 128 + l.val, _⟩) (fun l => wideO (aO m c) (ix2 i0 ⟨(i1.val * 128 + 64) / 128 * 128 + l.val, _⟩)) ⟨(i1.val * 128 + 64) % 128, _⟩
    + cell (fun l => drow m c i0 ⟨(i1.val * 128 + 65) / 128 * 128 + l.val, _⟩) (fun l => wideO (aO m c) (ix2 i0 ⟨(i1.val * 128 + 65) / 128 * 128 + l.val, _⟩)) ⟨(i1.val * 128 + 65) % 128, _⟩) = _
  simp only [e1, e2, e3, e4]
  unfold cell
  rw [if_pos rfl, if_neg (by show ¬ 65 = 64; norm_num), if_pos rfl]
  have e : dot (fun l => drow m c i0 ⟨i1.val * 128 + l.val, by omega⟩) (fun l => wideO (aO m c) (ix2 i0 ⟨i1.val * 128 + l.val, by omega⟩))
      = Cert.OutProjRefIdeal.Read.val_main_v10 (F := Ideal) (aD m c) (aW m c) (aO m c) (ix2 i0 i1) := by
    rw [dot_eq]
    pointwise [Cert.OutProjRefIdeal.Read.val_main_v10, Cert.OutProjRefIdeal.Read.val_main_v9, Cert.OutProjRefIdeal.Read.val_main_v8, Cert.OutProjRefIdeal.Read.val_main_cst_0]
    refine Finset.sum_congr rfl fun l _ => ?_
    have hl : (i1.val * 128 + l.val) % 128 = l.val := by omega
    have hd : (i1.val * 128 + l.val) / 128 = i1.val := by omega
    rw [drow_low m c i0 _ (by show (i1.val * 128 + l.val) % 128 < 64; omega), wideO_at, dif_pos (by show (i1.val * 128 + l.val) % 128 < 64; omega)]
    simp only [hl, hd]
  rw [neg_split _ ?_, e]
  rw [dot_eq]
  refine IsReal.sum _ fun l _ => ?_
  have hl : (i1.val * 128 + l.val) % 128 < 64 := by omega
  refine IsReal.mul (IsReal.sum _ fun k _ => (hD _).mul ?_) ?_
  · rw [wideW_at, dif_pos hl]; exact hW _
  · rw [wideO_at, dif_pos hl]; exact hO _

end Tail

/-- The reference terminates, keeps its arguments, and leaves every counter at zero: it has none. -/
theorem frame_ref : Cert.quiescent_OutProjRefIdeal := fun m g _ => by
  refine (θ_run _ _ _).mono (fun r h => ⟨fun c => (h c).2.2.2, sem_eq_zero_of_no_sems (sig := Cert.OutProjRefIdeal.sig) rfl _⟩)
    (Cert.OutProjRefIdeal.Value.run m g)

/-- The claim: kernel and reference leave the same three arrays. -/
theorem algebraic : Cert.algebraic_OutProjIdeal_OutProjRefIdeal_pre_finite_outproj := by
  pair_intro
  · run_from run_results m g
  · refine (θ_run _ _ _).mono (fun r h c => ?_) (Cert.OutProjRefIdeal.Value.run m' g')
    obtain ⟨h0, h1, h2, hr⟩ := h c
    obtain ⟨a0, a1, a2⟩ := hagree c
    rw [Cert.OutProjRefIdeal.Read.val_main_v7_eq, a0, a1] at h0
    rw [Cert.OutProjRefIdeal.Read.val_main_v6_eq, a0, a1] at h1
    rw [Cert.OutProjRefIdeal.Read.val_main_v10_eq, a0, a1, a2] at h2
    exact ⟨h0, h1.trans (same_do m c).symm, h2.trans (same_delta m c (fun i => isReal_of_fin _ _ _ (hpre c).1 i)
      (fun i => isReal_of_fin _ _ _ (hpre c).2.1 i) (fun i => isReal_of_fin _ _ _ (hpre c).2.2 i)).symm, hr⟩

end Cert.OutProjIdeal.Math

end
-- ==== Proof.Rope.lean ====
/-
  The rotary embedding's gradient: what the kernel's program returns, the queries' gradient turned back and scaled, the
  keys' summed over the heads and turned back, and the gates', is what the reference returns.
-/
module

public import proofs.«01_k».proof.Defs
public import proofs.«01_k».proof.Proof.Gen.RopeIdeal.Frame
public import proofs.«01_k».proof.Proof.Gen.RopeRefIdeal.Run
public import proofs.«01_k».proof.Proof.Gen.RopeRefIdeal.Read
public import proofs.«01_k».proof.Proof.Norm
public import Idealize.ShloMosaic.Lib.Claim
public import Idealize.ShloMosaic.Lib.Pointwise

@[expose] public section

set_option maxRecDepth 16384

noncomputable section

namespace Cert.RopeIdeal.Math

open Cert.RopeIdeal Cert.RopeIdeal.Gen Idealize.ShloMosaic Idealize.ShloMosaic.TcCoe Idealize.SL.Sem
open Idealize.ShloMosaic.Pipeline (Dat)

variable (m : (ℓ : Loc nD τ sig) → Buf (Elt Ideal) ℓ)

section Tables

/-- The embedding's frequencies as the reference says them, and a token's angle. -/
def freq (f : ℕ) : EReal := Ideal.pow 10000 (Ideal.div (-((f : ℝ) : EReal)) 16)
def ang (w : BitVec 32) (f : ℕ) : EReal := ((w.toInt : ℝ) : EReal) * freq f

/-- The kernel's tables of a token, lane by lane: the cosine, and the two signs of the sine. -/
def cosT (w : BitVec 32) (l : ℕ) : EReal := if 64 ≤ l ∧ l < 96 then Ideal.cos (ang w ((l - 64) % 16)) else 1
def sinA (w : BitVec 32) (l : ℕ) : EReal := if 64 ≤ l ∧ l < 80 then 0 - Ideal.sin (ang w ((l - 64) % 16)) else 0
def sinB (w : BitVec 32) (l : ℕ) : EReal := if 80 ≤ l ∧ l < 96 then Ideal.sin (ang w ((l - 64) % 16)) else 0

theorem kappa_rate : Named.named (F := Ideal) κ "rate" (φ := .f32) 0xBF135D8E#32 = ((-((Real.log 10000) * 16⁻¹) : ℝ) : EReal) :=
  IdealRules.named_const.ideal_named_scalar _ _ _ _ rfl

theorem freq_eq (f : ℕ) : Ideal.exp (((f : ℝ) : EReal) * ((-((Real.log 10000) * 16⁻¹) : ℝ) : EReal)) = freq f := by
  unfold freq
  rw [← EReal.coe_mul, Ideal.exp_coe, ← EReal.coe_neg, show (16 : EReal) = ((16 : ℝ) : EReal) from rfl, Ideal.div_coe (by norm_num), ← EReal.coe_mul,
    show (10000 : EReal) = ((10000 : ℝ) : EReal) from rfl]
  show ((Real.exp (f * -(Real.log 10000 * 16⁻¹)) : ℝ) : EReal) = ((Real.rpow 10000 (-(f : ℝ) * (1 / 16)) : ℝ) : EReal)
  rw [EReal.coe_eq_coe_iff]
  show _ = (10000 : ℝ) ^ (-(f : ℝ) * (1 / 16))
  rw [Real.rpow_def_of_pos (by norm_num)]
  congr 1
  ring

theorem lane2 : ∀ l : Fin 128, k0_pay2 (ix2 0 l) = BitVec.ofNat 32 l.val := by
  intro l
  pointwise [k0_pay2]
  revert l
  decide +kernel
theorem lane3 : ∀ l : Fin 128, k0_pay3 (ix2 0 l) = if 64 ≤ l.val ∧ l.val < 80 then 1#1 else 0#1 := by
  intro l
  pointwise [k0_pay3]
  rw [lane2]
  revert l
  decide +kernel
theorem lane4 : ∀ l : Fin 128, k0_pay4 (ix2 0 l) = if 80 ≤ l.val ∧ l.val < 96 then 1#1 else 0#1 := by
  intro l
  pointwise [k0_pay4]
  rw [lane2]
  revert l
  decide +kernel
theorem lane5 : ∀ l : Fin 128, 64 ≤ l.val ∧ l.val < 96 → (Scalar.select (if 64 ≤ l.val ∧ l.val < 80 then 1#1 else 0#1) (IntOp.subi (BitVec.ofNat 32 l.val) 64#32)
    (IntOp.subi (IntOp.subi (BitVec.ofNat 32 l.val) 64#32) 16#32)).toInt = (((l.val - 64) % 16 : ℕ) : ℤ) := by
  decide +kernel
theorem lane34 : ∀ l : Fin 128, IntOp.ori (if 64 ≤ l.val ∧ l.val < 80 then 1#1 else 0#1) (if 80 ≤ l.val ∧ l.val < 96 then 1#1 else 0#1)
    = if 64 ≤ l.val ∧ l.val < 96 then 1#1 else 0#1 := by
  decide +kernel
theorem sel_ite (P : Prop) [Decidable P] (x y : EReal) : Scalar.select (if P then 1#1 else 0#1) x y = if P then x else y := by
  split_ifs <;> rfl

variable (x0 : Vec Ideal S512x1024 .f32) (x1 : Vec Ideal S512x1024 .bf16) (x2 : Vec Ideal S512x128 .f32) (x3 : Vec Ideal S512x1 .i32)

theorem ang_at (p : Fin 512) (l : Fin 128) (hl : 64 ≤ l.val ∧ l.val < 96) :
    k0_pay7 (k0_pay30 x0 x1 x2 x3) (k0_pay31 x0 x1 x2 x3) (ix2 p l) = ang (x3 (ix2 p 0)) ((l.val - 64) % 16) := by
  pointwise [k0_pay7, k0_pay6, k0_pay31, k0_pay30, k0_pay5]
  rw [lane3, lane2, kappa_rate]
  unfold ang
  congr 1
  rw [← freq_eq]
  congr 2
  show (((_ : ℤ) : ℝ) : EReal) = _
  rw [lane5 l hl]
  norm_cast

theorem t32 (p : Fin 512) (l : Fin 128) : k0_pay32 x0 x1 x2 x3 (ix2 p l) = cosT (x3 (ix2 p 0)) l.val := by
  have h := ang_at x0 x1 x2 x3 p l
  pointwise [k0_pay32, k0_pay9, k0_pay28, k0_pay29]
  rw [lane3, lane4, lane34, sel_ite]
  unfold cosT
  split_ifs with hl
  · rw [h hl]
  · rfl
theorem t33 (p : Fin 512) (l : Fin 128) : k0_pay33 x0 x1 x2 x3 (ix2 p l) = sinA (x3 (ix2 p 0)) l.val := by
  have h := ang_at x0 x1 x2 x3 p l
  pointwise [k0_pay33, k0_pay10, k0_pay8, k0_pay28]
  rw [lane3, sel_ite]
  unfold sinA
  split_ifs with hl
  · rw [h (by omega)]
  · rfl
theorem t34 (p : Fin 512) (l : Fin 128) : k0_pay34 x0 x1 x2 x3 (ix2 p l) = sinB (x3 (ix2 p 0)) l.val := by
  have h := ang_at x0 x1 x2 x3 p l
  pointwise [k0_pay34, k0_pay11, k0_pay8, k0_pay29]
  rw [lane4, sel_ite]
  unfold sinB
  split_ifs with hl
  · rw [h (by omega)]
  · rfl

/-- A head's lanes turned by three tables, as the kernel turns them: two lane rotations and two sums. -/
def turnT (X C A B : Fin 128 → EReal) (l : Fin 128) : EReal :=
  X l * C l + X ⟨(l.val + 128 - 16) % 128, by omega⟩ * A ⟨(l.val + 128 - 16) % 128, by omega⟩
    + X ⟨(l.val + 128 - 112) % 128, by omega⟩ * B ⟨(l.val + 128 - 112) % 128, by omega⟩

/-- The same spelt out: lanes 64 to 95 are turned back by the token's angles, the others are kept. -/
def turn (X : ℕ → EReal) (w : BitVec 32) (l : ℕ) : EReal :=
  if 64 ≤ l ∧ l < 80 then X l * Ideal.cos (ang w (l - 64)) + X (l + 16) * Ideal.sin (ang w (l - 64))
  else if 80 ≤ l ∧ l < 96 then X l * Ideal.cos (ang w (l - 80)) + X (l - 16) * (0 - Ideal.sin (ang w (l - 80)))
  else X l

theorem turn_eq (X : ℕ → EReal) (w : BitVec 32) (l : Fin 128) :
    turnT (fun a => X a.val) (fun a => cosT w a.val) (fun a => sinA w a.val) (fun a => sinB w a.val) l = turn X w l.val := by
  obtain ⟨l, hl⟩ := l
  unfold turnT turn cosT sinA sinB
  show X l * (if 64 ≤ l ∧ l < 96 then Ideal.cos (ang w ((l - 64) % 16)) else 1)
    + X ((l + 128 - 16) % 128) * (if 64 ≤ (l + 128 - 16) % 128 ∧ (l + 128 - 16) % 128 < 80 then 0 - Ideal.sin (ang w (((l + 128 - 16) % 128 - 64) % 16)) else 0)
    + X ((l + 128 - 112) % 128) * (if 80 ≤ (l + 128 - 112) % 128 ∧ (l + 128 - 112) % 128 < 96 then Ideal.sin (ang w (((l + 128 - 112) % 128 - 64) % 16)) else 0)
    = if 64 ≤ l ∧ l < 80 then X l * Ideal.cos (ang w (l - 64)) + X (l + 16) * Ideal.sin (ang w (l - 64))
      else if 80 ≤ l ∧ l < 96 then X l * Ideal.cos (ang w (l - 80)) + X (l - 16) * (0 - Ideal.sin (ang w (l - 80))) else X l
  by_cases h1 : 64 ≤ l ∧ l < 80
  · rw [if_pos (show 64 ≤ l ∧ l < 96 by omega), if_neg (by omega), if_pos (by omega), if_pos h1, mul_zero, add_zero,
      show (l + 128 - 112) % 128 = l + 16 by omega, show (l + 16 - 64) % 16 = l - 64 by omega, show (l - 64) % 16 = l - 64 by omega]
  · by_cases h2 : 80 ≤ l ∧ l < 96
    · rw [if_pos (show 64 ≤ l ∧ l < 96 by omega), if_pos (by omega), if_neg (by omega), if_neg h1, if_pos h2, mul_zero, add_zero,
        show (l + 128 - 16) % 128 = l - 16 by omega, show (l - 16 - 64) % 16 = l - 80 by omega, show (l - 64) % 16 = l - 80 by omega]
    · rw [if_neg (show ¬ (64 ≤ l ∧ l < 96) by omega), if_neg (by omega), if_neg (by omega), if_neg h1, if_neg h2, mul_zero, mul_zero, add_zero, add_zero, mul_one]

theorem tables (p : Fin 512) : (fun l => k0_pay32 x0 x1 x2 x3 (ix2 p l)) = (fun l => cosT (x3 (ix2 p 0)) l.val) ∧ (fun l => k0_pay33 x0 x1 x2 x3 (ix2 p l)) = (fun l => sinA (x3 (ix2 p 0)) l.val)
    ∧ (fun l => k0_pay34 x0 x1 x2 x3 (ix2 p l)) = (fun l => sinB (x3 (ix2 p 0)) l.val) :=
  ⟨funext fun l => t32 x0 x1 x2 x3 p l, funext fun l => t33 x0 x1 x2 x3 p l, funext fun l => t34 x0 x1 x2 x3 p l⟩

/-- The queries' and keys' scale. -/
def scale : EReal := Ideal.ofBits FTy.f32 0x3DD105EC#32

/-- A row of an array, its columns named by a number. -/
def rowX {R n : ℕ} (X : (⟨2, ![R, n]⟩ : Shape).Idx → EReal) (p : Fin R) (a : ℕ) : EReal := if h : a < n then X (ix2 p ⟨a, h⟩) else 0

theorem cell_core (p : Fin 512) (q : Fin 128) (k : ℕ) (hk : k < 8) :
    turnT (fun l => x0 (ix2 p ⟨k * 128 + l.val, by omega⟩)) (fun l => k0_pay32 x0 x1 x2 x3 (ix2 p l)) (fun l => k0_pay33 x0 x1 x2 x3 (ix2 p l))
        (fun l => k0_pay34 x0 x1 x2 x3 (ix2 p l)) q
      = turn (fun a => rowX x0 p (k * 128 + a)) (x3 (ix2 p 0)) q.val := by
  obtain ⟨e1, e2, e3⟩ := tables x0 x1 x2 x3 p
  have hX : (fun l : Fin 128 => x0 (ix2 p ⟨k * 128 + l.val, by omega⟩)) = fun l : Fin 128 => (fun a => rowX x0 p (k * 128 + a)) l.val := by
    funext l
    show _ = rowX x0 p (k * 128 + l.val)
    unfold rowX
    rw [dif_pos (by omega)]
  rw [e1, e2, e3, hX]
  exact turn_eq (fun a => rowX x0 p (k * 128 + a)) (x3 (ix2 p 0)) q

theorem turn_row {p p' : Fin 512} {b b' l l' : ℕ} (ep : p' = p) (eb : b' = b) (el : l' = l) :
    turn (fun a => rowX x0 p (b + a)) (x3 (ix2 p 0)) l * scale = turn (fun a => rowX x0 p' (b' + a)) (x3 (ix2 p' 0)) l' * scale := by
  subst ep eb el
  rfl

/-- A head's lanes in a piece of the block, named by the array's column. -/
theorem cell_at (y : S512x1024.Idx) (x : S512x128.Idx) (off k : ℕ) (ho : off = k * 128) (hk : k < 8) (h0 : (y 0).val = (x 0).val) (h1 : (y 1).val = off + (x 1).val) :
    turnT (fun l => x0 (ix2 (x 0) ⟨off + l.val, by omega⟩)) (fun l => k0_pay32 x0 x1 x2 x3 (ix2 (x 0) l)) (fun l => k0_pay33 x0 x1 x2 x3 (ix2 (x 0) l))
        (fun l => k0_pay34 x0 x1 x2 x3 (ix2 (x 0) l)) (x 1) * scale
      = turn (fun a => rowX x0 (y 0) ((y 1).val / 128 * 128 + a)) (x3 (ix2 (y 0) 0)) ((y 1).val % 128) * scale := by
  subst ho
  have hx : (x 1).val < 128 := (x 1).isLt
  exact (congrArg (· * scale) (cell_core x0 x1 x2 x3 (x 0) (x 1) k hk)).trans
    (turn_row x0 x3 (Fin.ext h0) (by omega) (by omega))

theorem out4_apply (y : S512x1024.Idx) : out0_4 x0 x1 x2 x3 y
    = turn (fun a => rowX x0 (y 0) ((y 1).val / 128 * 128 + a)) (x3 (ix2 (y 0) 0)) ((y 1).val % 128) * scale := by
  canon_tiles x h
  case piece0 =>
    pointwise [k0_pay26]
    exact cell_at x0 x1 x2 x3 y x 896 7 rfl (by norm_num) h0 h1
  case piece1 =>
    pointwise [k0_pay25]
    exact cell_at x0 x1 x2 x3 y x 768 6 rfl (by norm_num) h0 h1
  case piece2 =>
    pointwise [k0_pay24]
    exact cell_at x0 x1 x2 x3 y x 640 5 rfl (by norm_num) h0 h1
  case piece3 =>
    pointwise [k0_pay22]
    exact cell_at x0 x1 x2 x3 y x 512 4 rfl (by norm_num) h0 h1
  case piece4 =>
    pointwise [k0_pay21, k0_pay19, k0_pay20]
    exact cell_at x0 x1 x2 x3 y x 384 3 rfl (by norm_num) h0 h1
  case piece5 =>
    pointwise [k0_pay17]
    exact cell_at x0 x1 x2 x3 y x 256 2 rfl (by norm_num) h0 h1
  case piece6 =>
    pointwise [k0_pay16, k0_pay14, k0_pay15]
    exact cell_at x0 x1 x2 x3 y x 128 1 rfl (by norm_num) h0 h1
  case piece7 =>
    pointwise [k0_pay12]
    have h := cell_at x0 x1 x2 x3 y x 0 0 rfl (by norm_num) h0 (h1.trans (Nat.zero_add _).symm)
    simp only [Nat.zero_add] at h
    exact h

/-- The keys' sum over the heads at a lane. -/
def headSum (p : Fin 512) (l : ℕ) : EReal := ∑ h : Fin 8, rowX x1 p (h.val * 128 + l)

theorem headSum_eq (p : Fin 512) (l : ℕ) (hl : l < 128) : x1 (ix2 p ⟨l, by omega⟩) + x1 (ix2 p ⟨128 + l, by omega⟩) + x1 (ix2 p ⟨256 + l, by omega⟩)
    + x1 (ix2 p ⟨384 + l, by omega⟩) + x1 (ix2 p ⟨512 + l, by omega⟩) + x1 (ix2 p ⟨640 + l, by omega⟩) + x1 (ix2 p ⟨768 + l, by omega⟩) + x1 (ix2 p ⟨896 + l, by omega⟩)
    = headSum x1 p l := by
  have e (a : ℕ) (ha : a < 1024) : rowX x1 p a = x1 (ix2 p ⟨a, ha⟩) := dif_pos ha
  unfold headSum
  rw [Fin.sum_univ_eight]
  show _ = rowX x1 p (0 * 128 + l) + rowX x1 p (1 * 128 + l) + rowX x1 p (2 * 128 + l) + rowX x1 p (3 * 128 + l) + rowX x1 p (4 * 128 + l)
    + rowX x1 p (5 * 128 + l) + rowX x1 p (6 * 128 + l) + rowX x1 p (7 * 128 + l)
  rw [e _ (by omega), e _ (by omega), e _ (by omega), e _ (by omega), e _ (by omega), e _ (by omega), e _ (by omega), e _ (by omega)]
  simp only [Nat.reduceMul, Nat.zero_add]

theorem lane6 : ∀ q : Fin 128, IntOp.andi (IntOp.cmpi CmpIPredicate.sge (BitVec.ofNat 32 q.val) 64#32) (IntOp.cmpi CmpIPredicate.slt (BitVec.ofNat 32 q.val) 96#32)
    = if 64 ≤ q.val ∧ q.val < 96 then 1#1 else 0#1 := by
  decide +kernel

theorem out5_apply (p : Fin 512) (q : Fin 128) : out0_5 x0 x1 x2 x3 (ix2 p q)
    = x2 (ix2 p q) + if 64 ≤ q.val ∧ q.val < 96 then turn (headSum x1 p) (x3 (ix2 p 0)) q.val else 0 := by
  obtain ⟨e1, e2, e3⟩ := tables x0 x1 x2 x3 p
  rw [← turn_eq, ← e1, ← e2, ← e3]
  unfold turnT
  frame_out
  pointwise [k0_pay1, k0_pay27, k0_pay23, k0_pay18, k0_pay13]
  rw [lane6, sel_ite, headSum_eq x1 p q.val q.isLt, headSum_eq x1 p _ (by omega), headSum_eq x1 p _ (by omega)]

end Tables

section Arrays

abbrev aN (c : Dev nD) : FVec Ideal S4096x8x64 .f32 := m ((c : Thread nD τ).loc main_arg0)
abbrev aR (c : Dev nD) : FVec Ideal S4096x8x32 .f32 := m ((c : Thread nD τ).loc main_arg1)
abbrev aK (c : Dev nD) : FVec Ideal S4096x8x32 .f32 := m ((c : Thread nD τ).loc main_arg2)
abbrev aG (c : Dev nD) : FVec Ideal S4096x8 .f32 := m ((c : Thread nD τ).loc main_arg3)
abbrev aP (c : Dev nD) : IVec S4096 32 := m ((c : Thread nD τ).loc main_arg4)

theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] :=
  (by decide +kernel : ∀ t : Fin grid0.N, _)

/-- Row `p` of the point's block is a row of the arrays. -/
def row (t : Fin cfg0.N) (p : Fin 512) : Fin 4096 := ⟨t.val * 512 + p.val, by have := lt_of_lt_of_eq t.isLt N_0; omega⟩

/-- The host's operations before the call, in one list. -/
theorem before (c : Dev nD) (b : Ref sig .tc) : V m c b = StableHlo.after
    ((hostOps0 ++ (hostOps0_1 ++ (hostOps0_2 ++ []))) : List (HloOp τ sig (Elt Ideal)))
    (fun b => m (c, b)) (Proc.devRef .tc b) := rfl

/-- The filling lanes hold zero. -/
def zer : FVec Ideal S_ .f32 := sitofp (F := Ideal) .f32 (constantI S_ 32 0#32)
theorem zer_apply (i : S_.Idx) : zer i = 0 := by
  show ((((0#32 : BitVec 32).toInt : ℝ)) : EReal) = 0
  simp

def zeros (s : Shape) (h : S_.BroadcastsInDim s ![]) : FVec Ideal s .f32 := broadcastInDim s ![] h (constant (F := Ideal) S_ .f32 0x00000000#32)

/-- The queries' cotangent, each head in lanes of its own, the keys', and the gates'. -/
def wideQ (x : FVec Ideal S4096x8x64 .f32) (y : FVec Ideal S4096x8x32 .f32) : FVec Ideal S4096x1024 .f32 :=
  shapeCast S4096x1024 (concatenate S4096x8x128 2 [⟨S4096x8x64, x⟩, ⟨S4096x8x32, y⟩, ⟨S4096x8x32, zeros S4096x8x32 bcast_S_S4096x8x32⟩]
    concatenates_S4096x8x64_S4096x8x32_S4096x8x32_S4096x8x128_d2) shapeCasts_S4096x8x128_S4096x1024
def wideK (y : FVec Ideal S4096x8x32 .f32) : FVec Ideal S4096x1024 .bf16 :=
  truncf .bf16 (shapeCast S4096x1024 (concatenate S4096x8x128 2 [⟨S4096x8x64, zeros S4096x8x64 bcast_S_S4096x8x64⟩, ⟨S4096x8x32, y⟩,
    ⟨S4096x8x32, zeros S4096x8x32 bcast_S_S4096x8x32⟩]
    concatenates_S4096x8x64_S4096x8x32_S4096x8x32_S4096x8x128_d2) shapeCasts_S4096x8x128_S4096x1024) bitsLt_bf16_f32
def wideG (x : FVec Ideal S4096x8 .f32) : FVec Ideal S4096x128 .f32 :=
  pad S4096x128 ![0, 0] ![0, 120] ![0, 0] x zer pads_S4096x8_S4096x128_000_01200 h_S_

theorem three_pieces {α : Type} {s0 s1 s2 T : Shape} (n) {a a' : s0.Idx → α} {b b' : s1.Idx → α} {d d' : s2.Idx → α} (h)
    (ha : a = a') (hb : b = b') (hd : d = d') : concatenate T n [⟨s0, a⟩, ⟨s1, b⟩, ⟨s2, d⟩] h = concatenate T n [⟨s0, a'⟩, ⟨s1, b'⟩, ⟨s2, d'⟩] h := by
  rw [ha, hb, hd]

theorem V_q (c : Dev nD) : V m c main_v2 = wideQ (aN m c) (aR m c) := by
  rw [before]
  simp only [hostOps0, hostOps0_1, hostOps0_2, List.cons_append, List.nil_append, List.append_nil,
    StableHlo.TRef.nullary, StableHlo.TRef.binary, StableHlo.TRef.unary, StableHlo.TRef.toBuf, StableHlo.TRef.ofBuf, cast_eq]
  after_results_simp
  refine congrArg (fun x => shapeCast S4096x1024 x shapeCasts_S4096x8x128_S4096x1024) (three_pieces _ _ ?_ ?_ ?_)
  · change HloOp.result _ _ (Proc.devRef .tc main_arg0) = _
    after_results_simp
  · change HloOp.result _ _ (Proc.devRef .tc main_arg1) = _
    after_results_simp
  · change HloOp.result _ _ (Proc.devRef .tc main_v0) = _
    after_results_simp
    rfl

theorem V_k (c : Dev nD) : V m c main_v7 = wideK (aK m c) := by
  rw [before]
  simp only [hostOps0, hostOps0_1, hostOps0_2, List.cons_append, List.nil_append, List.append_nil,
    StableHlo.TRef.nullary, StableHlo.TRef.binary, StableHlo.TRef.unary, StableHlo.TRef.toBuf, StableHlo.TRef.ofBuf, cast_eq]
  after_results_simp
  refine congrArg (fun x => truncf .bf16 (shapeCast S4096x1024 x shapeCasts_S4096x8x128_S4096x1024) bitsLt_bf16_f32) (three_pieces _ _ ?_ ?_ ?_)
  · change HloOp.result _ _ (Proc.devRef .tc main_v3) = _
    after_results_simp
    rfl
  · change HloOp.result _ _ (Proc.devRef .tc main_arg2) = _
    after_results_simp
  · change HloOp.result _ _ (Proc.devRef .tc main_v4) = _
    after_results_simp
    rfl

theorem V_g (c : Dev nD) : V m c main_v8 = wideG (aG m c) := by
  rw [before]
  simp only [hostOps0, hostOps0_1, hostOps0_2, List.cons_append, List.nil_append, List.append_nil,
    StableHlo.TRef.nullary, StableHlo.TRef.binary, StableHlo.TRef.unary, StableHlo.TRef.toBuf, StableHlo.TRef.ofBuf, cast_eq]
  after_results_simp
  rfl

theorem V_p (c : Dev nD) : V m c main_v9 = shapeCast S4096x1 (aP m c) shapeCasts_S4096_S4096x1 := by
  rw [before]
  simp only [hostOps0, hostOps0_1, hostOps0_2, List.cons_append, List.nil_append, List.append_nil,
    StableHlo.TRef.nullary, StableHlo.TRef.binary, StableHlo.TRef.unary, StableHlo.TRef.toBuf, StableHlo.TRef.ofBuf, cast_eq]
  after_results_simp
  rfl

theorem wideQ_at (x : FVec Ideal S4096x8x64 .f32) (y : FVec Ideal S4096x8x32 .f32) (r : Fin 4096) (h : Fin 8) (a : ℕ) (ha : a < 96) :
    rowX (wideQ x y) r (h.val * 128 + a) = if h1 : a < 64 then x (ix3 r h ⟨a, h1⟩) else y (ix3 r h ⟨a - 64, by omega⟩) := by
  unfold rowX
  rw [dif_pos (by omega)]
  pointwise [wideQ]
  have e1 : (h.val * 128 + a) / 128 = h.val := by omega
  have e2 : (h.val * 128 + a) % 128 = a := by omega
  simp only [e1, e2]
  split_ifs <;> first | rfl | (exfalso; omega)

theorem wideK_at (y : FVec Ideal S4096x8x32 .f32) (r : Fin 4096) (h : Fin 8) (a : ℕ) (h1 : 64 ≤ a) (h2 : a < 96) :
    rowX (wideK y) r (h.val * 128 + a) = y (ix3 r h ⟨a - 64, by omega⟩) := by
  unfold rowX
  rw [dif_pos (by omega)]
  pointwise [wideK]
  have e1 : (h.val * 128 + a) / 128 = h.val := by omega
  have e2 : (h.val * 128 + a) % 128 = a := by omega
  simp only [e1, e2]
  rw [dif_neg (by omega), dif_pos (by omega)]

theorem wideG_at (x : FVec Ideal S4096x8 .f32) (r : Fin 4096) (q : Fin 128) : wideG x (ix2 r q) = if h : q.val < 8 then x (ix2 r ⟨q.val, h⟩) else 0 := by
  pointwise [wideG]
  split_ifs <;> first | (exfalso; omega) | rfl | exact zer_apply _

variable (c : Dev nD)

/-- What the call leaves: the queries' lanes turned back and scaled, and the gates' lanes with the keys' sum turned back. -/
def resQ : FVec Ideal S4096x1024 .bf16 := fun i =>
  turn (fun a => rowX (wideQ (aN m c) (aR m c)) (i 0) ((i 1).val / 128 * 128 + a)) (aP m c (ix1 (i 0))) ((i 1).val % 128) * scale
def resG : FVec Ideal S4096x128 .bf16 := fun i =>
  wideG (aG m c) i + if 64 ≤ (i 1).val ∧ (i 1).val < 96 then turn (fun l => ∑ h : Fin 8, rowX (wideK (aK m c)) (i 0) (h.val * 128 + l)) (aP m c (ix1 (i 0))) (i 1).val else 0

theorem blk_q (t : Fin cfg0.N) (p : Fin 512) (a : ℕ) :
    rowX (show Vec Ideal S512x1024 .f32 from iblk m c 0 t) p a = rowX (wideQ (aN m c) (aR m c)) (row t p) a := by
  rw [← V_q]
  unfold rowX row
  split_ifs
  · blk_point [iblk, idx t]
  · rfl

theorem blk_k (t : Fin cfg0.N) (p : Fin 512) (a : ℕ) :
    rowX (show Vec Ideal S512x1024 .bf16 from iblk m c 1 t) p a = rowX (wideK (aK m c)) (row t p) a := by
  rw [← V_k]
  unfold rowX row
  split_ifs
  · blk_point [iblk, idx t]
  · rfl

theorem blk_g (t : Fin cfg0.N) (p : Fin 512) (q : Fin 128) :
    (show Vec Ideal S512x128 .f32 from iblk m c 2 t) (ix2 p q) = wideG (aG m c) (ix2 (row t p) q) := by
  rw [← V_g]
  unfold row
  blk_point [iblk, idx t]

theorem blk_p (t : Fin cfg0.N) (p : Fin 512) :
    (show Vec Ideal S512x1 .i32 from iblk m c 3 t) (ix2 p 0) = aP m c (ix1 (row t p)) := by
  have e : (show Vec Ideal S512x1 .i32 from iblk m c 3 t) (ix2 p 0) = (show Vec Ideal S4096x1 .i32 from V m c main_v9) (ix2 (row t p) 0) := by
    unfold row
    blk_point [iblk, idx t]
  rw [e, V_p]
  pointwise []

theorem out4_blk (t : Fin cfg0.N) (y : S512x1024.Idx) (i : S4096x1024.Idx) (h0 : (i 0 : ℕ) = t.val * 512 + y 0) (h1 : (i 1 : ℕ) = y 1) :
    out0_4 (F := Ideal) (iblk m c 0 t) (iblk m c 1 t) (iblk m c 2 t) (iblk m c 3 t) y = resQ m c i := by
  have e1 : i = ix2 (row t (y 0)) (y 1) := by
    idx_vars i
    congr 1
    · exact Fin.ext h0
    · exact Fin.ext h1
  rw [e1]
  refine (out4_apply (iblk m c 0 t) (iblk m c 1 t) (iblk m c 2 t) (iblk m c 3 t) y).trans ?_
  have ha : (fun a => rowX (show Vec Ideal S512x1024 .f32 from iblk m c 0 t) (y 0) ((y 1).val / 128 * 128 + a))
      = fun a => rowX (wideQ (aN m c) (aR m c)) (row t (y 0)) ((y 1).val / 128 * 128 + a) := funext fun a => blk_q m c t (y 0) _
  exact congrArg (· * scale) (congrFun (congr (congrArg turn ha) (blk_p m c t (y 0))) ((y 1).val % 128))

theorem out5_blk (t : Fin cfg0.N) (y : S512x128.Idx) (i : S4096x128.Idx) (h0 : (i 0 : ℕ) = t.val * 512 + y 0) (h1 : (i 1 : ℕ) = y 1) :
    out0_5 (F := Ideal) (iblk m c 0 t) (iblk m c 1 t) (iblk m c 2 t) (iblk m c 3 t) y = resG m c i := by
  have e0 : y = ix2 (y 0) (y 1) := by idx_vars y; rfl
  have e1 : i = ix2 (row t (y 0)) (y 1) := by
    idx_vars i
    congr 1
    · exact Fin.ext h0
    · exact Fin.ext h1
  rw [e1, e0]
  refine (out5_apply (iblk m c 0 t) (iblk m c 1 t) (iblk m c 2 t) (iblk m c 3 t) (y 0) (y 1)).trans ?_
  have ha : headSum (show Vec Ideal S512x1024 .bf16 from iblk m c 1 t) (y 0)
      = fun l => ∑ h : Fin 8, rowX (wideK (aK m c)) (row t (y 0)) (h.val * 128 + l) := funext fun l => Finset.sum_congr rfl fun h _ => blk_k m c t (y 0) _
  refine congr (congrArg _ (blk_g m c t (y 0) (y 1))) ?_
  exact congrArg (fun z => if 64 ≤ (y 1).val ∧ (y 1).val < 96 then z else 0) (congrFun (congr (congrArg turn ha) (blk_p m c t (y 0))) (y 1).val)

/-- The call's two arrays. -/
theorem final4 : (dats m 0 c).arrAt 4 (cfgs 0).N = resQ m c := by
  refine (dats m 0 c).arrAt_eq_of_covers 4 _ (by decide +kernel) fun t _ y => ?_
  blk_simp
  rw [after0_4]
  exact out4_blk m c t y _ (by blk_simp [idx t]) (by blk_simp [idx t])
theorem final5 : (dats m 0 c).arrAt 5 (cfgs 0).N = resG m c := by
  refine (dats m 0 c).arrAt_eq_of_covers 5 _ (by decide +kernel) fun t _ y => ?_
  blk_simp
  rw [after0_5]
  exact out5_blk m c t y _ (by blk_simp [idx t]) (by blk_simp [idx t])

end Arrays

section Tail
variable (T : FVec Ideal S4096x1024 .bf16) (U : FVec Ideal S4096x128 .bf16) (c : Dev nD)

/-- What the host's last lines make of the call's two arrays. -/
def outQ : FVec Ideal S4096x8x96 .f32 :=
  extractStridedSlice S4096x8x96 ![0, 0, 0] (shapeCast S4096x8x128 (extf .f32 T bitsLt_bf16_f32) shapeCasts_S4096x1024_S4096x8x128) slices_S4096x8x128_S4096x8x96_0_0_0
def outK : FVec Ideal S4096x32 .bf16 := extractStridedSlice S4096x32 ![0, 64] U slices_S4096x128_S4096x32_0_64
def outG : FVec Ideal S4096x8 .bf16 := extractStridedSlice S4096x8 ![0, 0] U slices_S4096x128_S4096x8_0_0

theorem outQ_apply (r : Fin 4096) (h : Fin 8) (l : Fin 96) : outQ T (ix3 r h l) = T (ix2 r ⟨h.val * 128 + l.val, by omega⟩) := by
  pointwise [outQ]
theorem outK_apply (r : Fin 4096) (l : Fin 32) : outK U (ix2 r l) = U (ix2 r ⟨64 + l.val, by omega⟩) := by
  pointwise [outK]
theorem outG_apply (r : Fin 4096) (l : Fin 8) : outG U (ix2 r l) = U (ix2 r ⟨l.val, by omega⟩) := by
  pointwise [outG]

abbrev tail (b : Ref sig .tc) := Pipeline.afterTail₀ cfgs (dats m) 0 (V0 m) [hostOps1] c b

theorem tail_v13 : tail m c main_v13 = outQ (resQ m c) := by
  unfold tail Pipeline.afterTail₀
  simp only [hostOps1, List.flatten_cons, List.flatten_nil, List.append_nil]
  after_results_simp
  refine congrArg outQ (Eq.trans ?_ (final4 m c))
  exact Pipeline.withArrays_arr spec0 (by decide) c _ _ 4
theorem tail_v14 : tail m c main_v14 = outK (resG m c) := by
  unfold tail Pipeline.afterTail₀
  simp only [hostOps1, List.flatten_cons, List.flatten_nil, List.append_nil]
  after_results_simp
  refine congrArg outK (Eq.trans ?_ (final5 m c))
  exact Pipeline.withArrays_arr spec0 (by decide) c _ _ 5
theorem tail_v15 : tail m c main_v15 = outG (resG m c) := by
  unfold tail Pipeline.afterTail₀
  simp only [hostOps1, List.flatten_cons, List.flatten_nil, List.append_nil]
  after_results_simp
  refine congrArg outG (Eq.trans ?_ (final5 m c))
  exact Pipeline.withArrays_arr spec0 (by decide) c _ _ 5

/-- The kernel's program runs, and its results are the host's last lines of the call's two arrays. -/
theorem run_results (ρ : Dev nD → PrngReg) :
    θ_run (defs (F := Ideal)) (onTc (τ := τ) (main (F := Ideal))) ⟨m, fun _ => 0, ρ⟩ (fun r => ∀ c : Dev nD,
      r.2.mem ((c.tc : Thread nD τ).loc main_v13) = outQ (resQ m c)
      ∧ r.2.mem ((c.tc : Thread nD τ).loc main_v14) = outK (resG m c)
      ∧ r.2.mem ((c.tc : Thread nD τ).loc main_v15) = outG (resG m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨
    ((h.1 c).2 main_v13 (Pipeline.mem_restRefs_of _ (by decide) (by decide))).trans (tail_v13 m c),
    ((h.1 c).2 main_v14 (Pipeline.mem_restRefs_of _ (by decide) (by decide))).trans (tail_v14 m c),
    ((h.1 c).2 main_v15 (Pipeline.mem_restRefs_of _ (by decide) (by decide))).trans (tail_v15 m c),
    h.2.1 c⟩) (θ_run_and (run_main m ρ) (frame m ρ))

end Tail

section Same

theorem c10000 : Ideal.ofBits FTy.f32 1176256512#32 = 10000 := by
  rw [show (10000 : EReal) = ((10000 : ℝ) : EReal) from rfl]
  simp [Ideal.ofBits, Ideal.ieee, -EReal.coe_mul]
  norm_num
theorem c16 : Ideal.ofBits FTy.f32 1098907648#32 = 16 := by
  rw [show (16 : EReal) = ((16 : ℝ) : EReal) from rfl]
  simp [Ideal.ofBits, Ideal.ieee, -EReal.coe_mul]
  norm_num
theorem scale_eq : ∃ v : ℝ, 0 ≤ v ∧ scale = (v : EReal) := by
  refine ⟨13698540 * (2 : ℝ) ^ (-27 : ℤ), by positivity, ?_⟩
  unfold scale
  simp [Ideal.ofBits, Ideal.ieee, -EReal.coe_mul]

/-- The scale may be applied before a sum or after it. -/
theorem add_scale (x y : EReal) : (x + y) * scale = x * scale + y * scale := by
  obtain ⟨v, h, e⟩ := scale_eq
  rw [e]
  exact EReal.right_distrib_of_nonneg_of_ne_top (by exact_mod_cast h) (EReal.coe_ne_top v) x y

theorem sub_mul_scale (x y : EReal) : x * (0 - y) * scale = -(x * scale) * y := by
  rw [zero_sub, mul_comm x, EReal.neg_mul, EReal.neg_mul, EReal.neg_mul, mul_comm y, mul_right_comm]

section Ref
open Cert.RopeRefIdeal.Read

/-- The reference's angles, in both of its halves. -/
theorem ref_ang (x4 : IVec S4096 32) (r : Fin 4096) (f : Fin 16) : val_main_v42 (F := Ideal) x4 (ix3 r 0 f) = ang (x4 (ix1 r)) f.val := by
  pointwise [val_main_v42, val_main_v40, val_main_v38, val_main_v37, val_main_v41, val_main_v39, val_main_v36, val_main_v35, val_main_cst_6, val_main_v34, val_main_v33, val_main_cst_5, val_main_v32, val_main_v31]
  rw [c10000, c16]
  unfold ang freq
  show (((x4 (ix1 r)).toInt : ℝ) : EReal) * Ideal.pow 10000 (Ideal.div (-(((BitVec.ofNat 32 f.val).toInt : ℝ) : EReal)) 16) = _
  rw [show (BitVec.ofNat 32 f.val).toInt = ((f.val : ℕ) : ℤ) by revert f; decide +kernel]
  norm_cast
theorem ref_ang' (x4 : IVec S4096 32) (r : Fin 4096) (f : Fin 16) : val_main_v15 (F := Ideal) x4 (ix3 r 0 f) = ang (x4 (ix1 r)) f.val := by
  refine Eq.trans ?_ (ref_ang x4 r f)
  pointwise [val_main_v42, val_main_v40, val_main_v38, val_main_v37, val_main_v41, val_main_v39, val_main_v36, val_main_v35, val_main_cst_6, val_main_v34, val_main_v33, val_main_cst_5, val_main_v32, val_main_v31,
    val_main_v15, val_main_v13, val_main_v11, val_main_v10, val_main_v14, val_main_v12, val_main_v9, val_main_v8, val_main_cst_3, val_main_v7, val_main_v6, val_main_cst_2, val_main_v5, val_main_v4]

variable (c : Dev nD)

theorem fin_of {n a b : ℕ} (h : a = b) (ha : a < n) (hb : b < n) : (⟨a, ha⟩ : Fin n) = ⟨b, hb⟩ := Fin.ext h

/-- The reference's gradient of the queries, on a head's three stretches of columns. -/
theorem ref_q (x0 : FVec Ideal S4096x8x64 .f32) (x1 : FVec Ideal S4096x8x32 .f32) (x4 : IVec S4096 32) (r : Fin 4096) (h : Fin 8) (l : Fin 96) :
    val_main_v85 (F := Ideal) x0 x1 x4 (ix3 r h l) = ((if h_1 : 64 ≤ l.val ∧ l.val - 64 < 32 then
        (if h_2 : 16 ≤ l.val - 64 ∧ l.val - 64 - 16 < 16 then
            x1 (ix3 r h ⟨16 + (l.val - 64 - 16), by omega⟩) * scale * Ideal.cos (ang (x4 (ix1 r)) (l.val - 64 - 16))
              + -(x1 (ix3 r h ⟨l.val - 64 - 16, by omega⟩) * scale) * Ideal.sin (ang (x4 (ix1 r)) (l.val - 64 - 16))
          else 0) +
          if h_2 : l.val - 64 < 16 then
            x1 (ix3 r h ⟨16 + (l.val - 64), by omega⟩) * scale * Ideal.sin (ang (x4 (ix1 r)) (l.val - 64))
              + x1 (ix3 r h ⟨l.val - 64, by omega⟩) * scale * Ideal.cos (ang (x4 (ix1 r)) (l.val - 64))
          else 0
      else 0) +
      if h_1 : l.val < 64 then x0 (ix3 r h ⟨l.val, h_1⟩) * scale else 0) := by
  have hs : Ideal.ofBits FTy.f32 1037108716#32 = scale := rfl
  pointwise [val_main_v85, val_main_v84, val_main_v83, val_main_v82, val_main_cst_13, val_main_cst_14, val_main_v81, val_main_cst_12, val_main_v80, val_main_v79, val_main_v78, val_main_cst_10, val_main_cst_11,
    val_main_v77, val_main_v74, val_main_v76, val_main_v73, val_main_v70, val_main_v68, val_main_v67, val_main_v69, val_main_v71, val_main_v72, val_main_v75, val_main_v65, val_main_v66, val_main_v64, val_main_v63, val_main_cst_9, val_main_v43, val_main_v44]
  simp only [hs, ref_ang]

/-- The reference's gradient of the keys' rotated part. -/
theorem ref_k (x2 : FVec Ideal S4096x8x32 .f32) (x4 : IVec S4096 32) (r : Fin 4096) (l : Fin 32) :
    val_main_v99 (F := Ideal) x2 x4 (ix2 r l) = (if h : 16 ≤ l.val ∧ l.val - 16 < 16 then
          (∑ h : Fin 8, x2 (ix3 r h ⟨16 + (l.val - 16), by omega⟩)) * Ideal.cos (ang (x4 (ix1 r)) (l.val - 16))
            + (-∑ h : Fin 8, x2 (ix3 r h ⟨l.val - 16, by omega⟩)) * Ideal.sin (ang (x4 (ix1 r)) (l.val - 16))
        else 0) +
        if h : l.val < 16 then
          (∑ h : Fin 8, x2 (ix3 r h ⟨16 + l.val, by omega⟩)) * Ideal.sin (ang (x4 (ix1 r)) l.val)
            + (∑ h : Fin 8, x2 (ix3 r h ⟨l.val, by omega⟩)) * Ideal.cos (ang (x4 (ix1 r)) l.val)
        else 0 := by
  pointwise [val_main_v99, val_main_v98, val_main_cst_17, val_main_v97, val_main_v96, val_main_v95, val_main_cst_15, val_main_cst_16,
    val_main_v94, val_main_v93, val_main_v92, val_main_v91, val_main_v90, val_main_v89, val_main_v88, val_main_v87, val_main_v86, val_main_v62, val_main_v61, val_main_cst_8, val_main_v16, val_main_v17]
  simp only [ref_ang', Finset.univ_unique, Finset.sum_singleton]

theorem same_q_at (r : Fin 4096) (h : Fin 8) (l : Fin 96) :
    turn (fun a => rowX (wideQ (aN m c) (aR m c)) r (h.val * 128 + a)) (aP m c (ix1 r)) l.val * scale
      = val_main_v85 (F := Ideal) (aN m c) (aR m c) (aP m c) (ix3 r h l) := by
  refine Eq.trans ?_ (ref_q (aN m c) (aR m c) (aP m c) r h l).symm
  generalize aN m c = x0
  generalize aR m c = x1
  generalize aP m c (ix1 r) = w
  obtain ⟨l, hl⟩ := l
  unfold turn
  show (if 64 ≤ l ∧ l < 80 then rowX (wideQ x0 x1) r (h.val * 128 + l) * Ideal.cos (ang w (l - 64)) + rowX (wideQ x0 x1) r (h.val * 128 + (l + 16)) * Ideal.sin (ang w (l - 64))
    else if 80 ≤ l ∧ l < 96 then rowX (wideQ x0 x1) r (h.val * 128 + l) * Ideal.cos (ang w (l - 80)) + rowX (wideQ x0 x1) r (h.val * 128 + (l - 16)) * (0 - Ideal.sin (ang w (l - 80)))
    else rowX (wideQ x0 x1) r (h.val * 128 + l)) * scale = _
  by_cases h1 : l < 64
  · rw [if_neg (by omega), if_neg (by omega), wideQ_at _ _ _ _ _ hl, dif_pos h1, dif_neg (by dsimp only; omega), dif_pos (by exact h1), zero_add]
  · by_cases h2 : l < 80
    · rw [if_pos (by omega), wideQ_at _ _ _ _ _ hl, wideQ_at _ _ _ _ _ (by omega), dif_neg h1, dif_neg (by omega), dif_pos (by dsimp only; omega), dif_neg (by dsimp only; omega), dif_pos (by dsimp only; omega), dif_neg (by exact h1),
        add_zero, zero_add, add_scale, mul_right_comm, mul_right_comm _ _ scale, add_comm, fin_of (show 16 + (l - 64) = l + 16 - 64 by omega)]
    · rw [if_neg (by omega), if_pos (by omega), wideQ_at _ _ _ _ _ hl, wideQ_at _ _ _ _ _ (by omega), dif_neg h1, dif_neg (by omega), dif_pos (by dsimp only; omega), dif_pos (by dsimp only; omega), dif_neg (by dsimp only; omega), dif_neg (by exact h1),
        add_zero, add_zero, add_scale, sub_mul_scale, mul_right_comm, fin_of (show 16 + (l - 64 - 16) = l - 64 by omega), fin_of (show l - 64 - 16 = l - 16 - 64 by omega)]
      rw [show l - 64 - 16 = l - 80 by omega]

theorem same_q : outQ (resQ m c) = val_main_v85 (F := Ideal) (aN m c) (aR m c) (aP m c) := by
  funext i
  idx_vars i
  rw [outQ_apply]
  unfold resQ
  have e1 : (i1.val * 128 + i2.val) / 128 = i1.val := by omega
  have e2 : (i1.val * 128 + i2.val) % 128 = i2.val := by omega
  show turn (fun a => rowX (wideQ (aN m c) (aR m c)) i0 ((i1.val * 128 + i2.val) / 128 * 128 + a)) (aP m c (ix1 i0)) ((i1.val * 128 + i2.val) % 128) * scale = _
  simp only [e1, e2]
  exact same_q_at m c i0 i1 i2

theorem sum_keys (r : Fin 4096) (a : ℕ) (h1 : 64 ≤ a) (h2 : a < 96) :
    ∑ h : Fin 8, rowX (wideK (aK m c)) r (h.val * 128 + a) = ∑ h : Fin 8, aK m c (ix3 r h ⟨a - 64, by omega⟩) :=
  Finset.sum_congr rfl fun h _ => wideK_at _ _ _ _ h1 h2

theorem same_k_at (r : Fin 4096) (l : Fin 32) :
    turn (fun l => ∑ h : Fin 8, rowX (wideK (aK m c)) r (h.val * 128 + l)) (aP m c (ix1 r)) (64 + l.val) = val_main_v99 (F := Ideal) (aK m c) (aP m c) (ix2 r l) := by
  refine Eq.trans ?_ (ref_k (aK m c) (aP m c) r l).symm
  have hs := sum_keys m c r
  generalize aP m c (ix1 r) = w
  obtain ⟨l, hl⟩ := l
  unfold turn
  dsimp only
  by_cases h2 : l < 16
  · rw [if_pos (by omega), hs _ (by omega) (by omega), hs _ (by omega) (by omega), dif_neg (by omega), dif_pos h2, zero_add, add_comm,
      fin_of (show 64 + l - 64 = l by omega), fin_of (show 64 + l + 16 - 64 = 16 + l by omega)]
    rw [show 64 + l - 64 = l by omega]
  · rw [if_neg (by omega), if_pos (by omega), hs _ (by omega) (by omega), hs _ (by omega) (by omega), dif_pos (by omega), dif_neg h2, add_zero,
      show 64 + l - 80 = l - 16 by omega, zero_sub, mul_comm _ (-Ideal.sin _), EReal.neg_mul, EReal.neg_mul, mul_comm (Ideal.sin _),
      fin_of (show 64 + l - 64 = 16 + (l - 16) by omega), fin_of (show 64 + l - 16 - 64 = l - 16 by omega)]

theorem same_k : outK (resG m c) = val_main_v99 (F := Ideal) (aK m c) (aP m c) := by
  funext i
  idx_vars i
  rw [outK_apply]
  have hl : i1.val < 32 := i1.isLt
  show wideG (aG m c) (ix2 i0 ⟨64 + i1.val, _⟩) + (if 64 ≤ 64 + i1.val ∧ 64 + i1.val < 96 then
    turn (fun l => ∑ h : Fin 8, rowX (wideK (aK m c)) i0 (h.val * 128 + l)) (aP m c (ix1 i0)) (64 + i1.val) else 0) = _
  rw [wideG_at, dif_neg (by show ¬ 64 + i1.val < 8; omega), if_pos (by omega), zero_add]
  exact same_k_at m c i0 i1

theorem same_g : outG (resG m c) = val_main_v100 (F := Ideal) (aG m c) := by
  funext i
  idx_vars i
  rw [outG_apply]
  have hl : i1.val < 8 := i1.isLt
  show wideG (aG m c) (ix2 i0 ⟨i1.val, _⟩) + (if 64 ≤ i1.val ∧ i1.val < 96 then _ else (0 : EReal)) = _
  rw [wideG_at, dif_pos hl, if_neg (by omega), add_zero]
  pointwise [val_main_v100]

end Ref
end Same

/-- The reference terminates, keeps its arguments, and leaves every counter at zero: it has none. -/
theorem frame_ref : Cert.quiescent_RopeRefIdeal := fun m g _ => by
  refine (θ_run _ _ _).mono (fun r h => ⟨fun c => (h c).2.2.2, sem_eq_zero_of_no_sems (sig := Cert.RopeRefIdeal.sig) rfl _⟩)
    (Cert.RopeRefIdeal.Value.run m g)

theorem preserves : Cert.preserves_Rope_RopeIdeal :=
  IdealRules.named_const.statement Cert.RopeIdeal.κ "rate" .f32 0xBF135D8E#32 ((-((Real.log 10000) * 16⁻¹) : ℝ) : EReal) rfl

/-- The claim: kernel and reference leave the same three arrays. -/
theorem algebraic : Cert.algebraic_RopeIdeal_RopeRefIdeal := by
  pair_intro
  · run_from run_results m g
  · refine (θ_run _ _ _).mono (fun r h c => ?_) (Cert.RopeRefIdeal.Value.run m' g')
    obtain ⟨h0, h1, h2, hr⟩ := h c
    obtain ⟨a0, a1, a2, a3, a4⟩ := hagree c
    rw [Cert.RopeRefIdeal.Read.val_main_v85_eq, a0, a1, a4] at h0
    rw [Cert.RopeRefIdeal.Read.val_main_v99_eq, a2, a4] at h1
    rw [Cert.RopeRefIdeal.Read.val_main_v100_eq, a3] at h2
    exact ⟨h0.trans (same_q m c).symm, h1.trans (same_k m c).symm, h2.trans (same_g m c).symm, hr⟩

end Cert.RopeIdeal.Math

end
-- ==== Proof.FlashPoint.lean ====
/- What the body of the attention's forward call computes at one grid point, as the run found it, said once for all four heads:
   one step per block of keys before the diagonal, then the two blocks of the diagonal, rows in two halves. -/
module

public import proofs.«01_k».proof.Proof.Gen.FlashIdeal.Frame

@[expose] public section

set_option maxRecDepth 16384

noncomputable section

namespace Cert.FlashIdeal.Own

open Cert.FlashIdeal.Gen
open Idealize.ShloMosaic Idealize.ShloMosaic.TcCoe Idealize.ShloMosaic.Tactic

variable {F : FTy → Type} [FloatOps F]

/-- What a memref's buffer holds. -/
abbrev Held (F : FTy → Type) {s : Shape} {φ : EltTy} (a : Memref sig .tc .vmem s φ) := BufTy.Contents (Elt F) a.view.ty

/-- A block of keys before the diagonal: the rows' maxima after it, -/
abbrev stepM (M : FVec F S1024x1 .f32) (q : Vec F S1024x128 .bf16) (k : Vec F S512x128 .bf16) : FVec F S1024x1 .f32 := k0_pay2 M q k
/-- and the rows' sums. -/
abbrev stepA (M : FVec F S1024x1 .f32) (A : FVec F S1024x128 .f32) (q : Vec F S1024x128 .bf16) (k v : Vec F S512x128 .bf16) : FVec F S1024x128 .f32 :=
  k0_pay3 M A q k v
/-- A block of keys on the diagonal, with the mask, -/
abbrev maskM (M : FVec F S512x1 .f32) (q k : Vec F S512x128 .bf16) : FVec F S512x1 .f32 := k0_pay58 k0_pay31 M k q
abbrev maskA (M : FVec F S512x1 .f32) (A : FVec F S512x128 .f32) (q k v : Vec F S512x128 .bf16) : FVec F S512x128 .f32 := k0_pay92 k0_pay31 M A k v q
/-- and the block just before it, of the lower half of the rows. -/
abbrev openM (M : FVec F S512x1 .f32) (q k : Vec F S512x128 .bf16) : FVec F S512x1 .f32 := k0_pay70 M k q
abbrev openA (M : FVec F S512x1 .f32) (A : FVec F S512x128 .f32) (q k v : Vec F S512x128 .bf16) : FVec F S512x128 .f32 :=
  k0_pay73 A (k0_pay65 v) (k0_pay71 M k q) (k0_pay72 M k q)

/-- The upper half's maxima and sums at the end, -/
abbrev topM (M : FVec F S1024x1 .f32) (q k : Vec F S512x128 .bf16) : FVec F S512x1 .f32 := maskM (k0_pay40 M) q k
abbrev topA (M : FVec F S1024x1 .f32) (A : FVec F S1024x128 .f32) (q k v : Vec F S512x128 .bf16) : FVec F S512x128 .f32 :=
  maskA (k0_pay40 M) (k0_pay44 A) q k v
/-- and the lower half's. -/
abbrev lowM (M : FVec F S1024x1 .f32) (q k k' : Vec F S512x128 .bf16) : FVec F S512x1 .f32 := maskM (openM (k0_pay41 M) q k) q k'
abbrev lowA (M : FVec F S1024x1 .f32) (A : FVec F S1024x128 .f32) (q k v k' v' : Vec F S512x128 .bf16) : FVec F S512x128 .f32 :=
  maskA (openM (k0_pay41 M) q k) (openA (k0_pay41 M) (k0_pay42 A) q k v) q k' v'

/-- What is stored of a half's rows: the quotient, -/
abbrev outO (A : FVec F S512x128 .f32) : FVec F S512x128 .bf16 := k0_pay108 A
/-- and the queries with the negated log-sum in two lanes. -/
abbrev outB (M : FVec F S512x1 .f32) (A : FVec F S512x128 .f32) (q : Vec F S512x128 .bf16) : FVec F S512x128 .bf16 :=
  k0_pay109 (iota .tc S512x128 32 [1] iota_S512x128_d1_w32) M A q

/-- Per head the maxima and the sums that one step carries. -/
abbrev Eight (F : FTy → Type) := FVec F S1024x1 .f32 × FVec F S1024x128 .f32 × FVec F S1024x1 .f32 × FVec F S1024x128 .f32 × FVec F S1024x1 .f32 × FVec F S1024x128 .f32 × FVec F S1024x1 .f32 × FVec F S1024x128 .f32
abbrev start : Eight F := (k0_pay32, k0_pay33, k0_pay34, k0_pay35, k0_pay36, k0_pay37, k0_pay38, k0_pay39)

section
variable (c : Dev nD) (i : grid0.Coords) (a2 : Memref sig .tc .vmem S1024x512 .bf16) (h2 : a2.IsWhole)
  (a3 : Memref sig .tc .vmem S4096x512 .bf16) (h3 : a3.IsWhole) (a4 : Memref sig .tc .vmem S4096x512 .bf16) (h4 : a4.IsWhole)
  (a5 : Memref sig .tc .vmem S1024x512 .bf16) (h5 : a5.IsWhole) (a6 : Memref sig .tc .vmem S1024x512 .bf16) (h6 : a6.IsWhole)
  (x0 : Vec F S1024x512 .bf16) (x1 : Vec F S4096x512 .bf16) (x2 : Vec F S4096x512 .bf16)

/-- A head's columns of a block of keys or values, -/
abbrev tall (a : Memref sig .tc .vmem S4096x512 .bf16) (f : Held F a) (o : Fin 2 → ℕ) (ho : ∀ x, o x + S512x128.size x ≤ S4096x512.size x) : Vec F S512x128 .bf16 :=
  View.readAt (Elt F) a.view (Rect.unit (s := S4096x512) o S512x128.size ho).toLoadRect f
/-- of all rows of the queries, -/
abbrev wide (a : Memref sig .tc .vmem S1024x512 .bf16) (f : Held F a) (o : Fin 2 → ℕ) (ho : ∀ x, o x + S1024x128.size x ≤ S1024x512.size x) : Vec F S1024x128 .bf16 :=
  View.readAt (Elt F) a.view (Rect.unit (s := S1024x512) o S1024x128.size ho).toLoadRect f
/-- and of half of them. -/
abbrev half (a : Memref sig .tc .vmem S1024x512 .bf16) (f : Held F a) (o : Fin 2 → ℕ) (ho : ∀ x, o x + S512x128.size x ≤ S1024x512.size x) : Vec F S512x128 .bf16 :=
  View.readAt (Elt F) a.view (Rect.unit (s := S1024x512) o S512x128.size ho).toLoadRect f

/-- One step's carried values. -/
abbrev trip (k : Fin (k0_t1_loop i).trips) (p : Eight F) : Eight F :=
  (stepM p.1 (wide a2 (h2.unread x0) _ inb_S1024x512_S1024x128_0_0) (tall a3 (h3.unread x1) _ (k0_off1_inb i k)),
   stepA p.1 p.2.1 (wide a2 (h2.unread x0) _ inb_S1024x512_S1024x128_0_0) (tall a3 (h3.unread x1) _ (k0_off1_inb i k)) (tall a4 (h4.unread x2) _ (k0_off1_inb i k)),
   stepM p.2.2.1 (wide a2 (h2.unread x0) _ inb_S1024x512_S1024x128_0_128) (tall a3 (h3.unread x1) _ (k0_off2_inb i k)),
   stepA p.2.2.1 p.2.2.2.1 (wide a2 (h2.unread x0) _ inb_S1024x512_S1024x128_0_128) (tall a3 (h3.unread x1) _ (k0_off2_inb i k)) (tall a4 (h4.unread x2) _ (k0_off2_inb i k)),
   stepM p.2.2.2.2.1 (wide a2 (h2.unread x0) _ inb_S1024x512_S1024x128_0_256) (tall a3 (h3.unread x1) _ (k0_off3_inb i k)),
   stepA p.2.2.2.2.1 p.2.2.2.2.2.1 (wide a2 (h2.unread x0) _ inb_S1024x512_S1024x128_0_256) (tall a3 (h3.unread x1) _ (k0_off3_inb i k)) (tall a4 (h4.unread x2) _ (k0_off3_inb i k)),
   stepM p.2.2.2.2.2.2.1 (wide a2 (h2.unread x0) _ inb_S1024x512_S1024x128_0_384) (tall a3 (h3.unread x1) _ (k0_off4_inb i k)),
   stepA p.2.2.2.2.2.2.1 p.2.2.2.2.2.2.2 (wide a2 (h2.unread x0) _ inb_S1024x512_S1024x128_0_384) (tall a3 (h3.unread x1) _ (k0_off4_inb i k)) (tall a4 (h4.unread x2) _ (k0_off4_inb i k)))

theorem tripR_eq (k : Fin (k0_t1_loop i).trips) (p : Eight F) :
    tripR_k0_t1 (F := F) Variants.none c none i a2 h2 a3 h3 a4 h4 a5 h5 a6 h6 (h2.unread x0) (h3.unread x1) (h4.unread x2) k p
      = trip i a2 h2 a3 h3 a4 h4 x0 x1 x2 k p := by
  delta tripR_k0_t1 trip_k0_t1; rfl

/-- The carried values after `n` blocks of keys. -/
def carried : ℕ → Eight F
  | 0 => start
  | n + 1 => if h : n < (k0_t1_loop i).trips then trip i a2 h2 a3 h3 a4 h4 x0 x1 x2 ⟨n, h⟩ (carried n) else carried n

theorem loop_eq : ∀ n, n ≤ (k0_t1_loop i).trips →
    st_k0_t1 (F := F) Variants.none c none i a2 h2 a3 h3 a4 h4 a5 h5 a6 h6 (h2.unread x0) (h3.unread x1) (h4.unread x2) start n
      = carried i a2 h2 a3 h3 a4 h4 x0 x1 x2 n
  | 0, _ => rfl
  | n + 1, hn => by
    have := st_k0_t1_succ (F := F) Variants.none c none i a2 h2 a3 h3 a4 h4 a5 h5 a6 h6 (h2.unread x0) (h3.unread x1) (h4.unread x2) start ⟨n, by omega⟩
    simp only at this
    rw [this, tripR_eq, loop_eq n (by omega)]
    rw [show carried i a2 h2 a3 h3 a4 h4 x0 x1 x2 (n + 1) = if h : n < (k0_t1_loop i).trips then
      trip i a2 h2 a3 h3 a4 h4 x0 x1 x2 ⟨n, h⟩ (carried i a2 h2 a3 h3 a4 h4 x0 x1 x2 n) else carried i a2 h2 a3 h3 a4 h4 x0 x1 x2 n from rfl,
      dif_pos (by omega : n < (k0_t1_loop i).trips)]

/-- The second loop has no trip, -/
theorem no_trips : ∀ i : grid0.Coords, (k0_t2_loop i).trips = 0 := by decide +kernel
/-- and leaves what it finds. -/
theorem second_eq (u : BitVec 32) (p : Eight F) :
    st_k0_t2 (F := F) Variants.none c none i a2 h2 a3 h3 a4 h4 a5 h5 a6 h6 u (h2.unread x0) (h3.unread x1) (h4.unread x2) p
      (k0_t2_loop i).trips = p := by
  rw [no_trips i]; rfl

/-- What the loop leaves. -/
abbrev loopEnd : Eight F := carried i a2 h2 a3 h3 a4 h4 x0 x1 x2 (k0_t1_loop i).trips

/-- The eight pieces of an output, per head the upper half's and the lower half's. -/
abbrev pieces (u0 l0 u1 l1 u2 l2 u3 l3 : Vec F S512x128 .bf16) : List (View.Piece (Elt F) S1024x512 .bf16) :=
  [⟨Rect.unit (s := S1024x512) ![512, 384] S512x128.size inb_S1024x512_S512x128_512_384, l3⟩,
   ⟨Rect.unit (s := S1024x512) ![0, 384] S512x128.size inb_S1024x512_S512x128_0_384, u3⟩,
   ⟨Rect.unit (s := S1024x512) ![512, 256] S512x128.size inb_S1024x512_S512x128_512_256, l2⟩,
   ⟨Rect.unit (s := S1024x512) ![0, 256] S512x128.size inb_S1024x512_S512x128_0_256, u2⟩,
   ⟨Rect.unit (s := S1024x512) ![512, 128] S512x128.size inb_S1024x512_S512x128_512_128, l1⟩,
   ⟨Rect.unit (s := S1024x512) ![0, 128] S512x128.size inb_S1024x512_S512x128_0_128, u1⟩,
   ⟨Rect.unit (s := S1024x512) ![512, 0] S512x128.size inb_S1024x512_S512x128_512_0, l0⟩,
   ⟨Rect.unit (s := S1024x512) ![0, 0] S512x128.size inb_S1024x512_S512x128_0_0, u0⟩]

/-- The halves of the queries and the two blocks of the diagonal, head by head, as arguments of `f`. -/
abbrev heads {β : Type} (T : Eight F)
    (f : (M : FVec F S1024x1 .f32) → (A : FVec F S1024x128 .f32) → (q q' k v k' v' : Vec F S512x128 .bf16) → β) (r : Fin 4) : β :=
  match r with
  | 0 => f T.1 T.2.1 (half a2 (h2.unread x0) _ inb_S1024x512_S512x128_0_0) (half a2 (h2.unread x0) _ inb_S1024x512_S512x128_512_0)
      (tall a3 (h3.unread x1) _ (k0_off9_inb i 0)) (tall a4 (h4.unread x2) _ (k0_off9_inb i 0)) (tall a3 (h3.unread x1) _ (k0_off9_inb i 1)) (tall a4 (h4.unread x2) _ (k0_off9_inb i 1))
  | 1 => f T.2.2.1 T.2.2.2.1 (half a2 (h2.unread x0) _ inb_S1024x512_S512x128_0_128) (half a2 (h2.unread x0) _ inb_S1024x512_S512x128_512_128)
      (tall a3 (h3.unread x1) _ (k0_off10_inb i 0)) (tall a4 (h4.unread x2) _ (k0_off10_inb i 0)) (tall a3 (h3.unread x1) _ (k0_off10_inb i 1)) (tall a4 (h4.unread x2) _ (k0_off10_inb i 1))
  | 2 => f T.2.2.2.2.1 T.2.2.2.2.2.1 (half a2 (h2.unread x0) _ inb_S1024x512_S512x128_0_256) (half a2 (h2.unread x0) _ inb_S1024x512_S512x128_512_256)
      (tall a3 (h3.unread x1) _ (k0_off11_inb i 0)) (tall a4 (h4.unread x2) _ (k0_off11_inb i 0)) (tall a3 (h3.unread x1) _ (k0_off11_inb i 1)) (tall a4 (h4.unread x2) _ (k0_off11_inb i 1))
  | 3 => f T.2.2.2.2.2.2.1 T.2.2.2.2.2.2.2 (half a2 (h2.unread x0) _ inb_S1024x512_S512x128_0_384) (half a2 (h2.unread x0) _ inb_S1024x512_S512x128_512_384)
      (tall a3 (h3.unread x1) _ (k0_off12_inb i 0)) (tall a4 (h4.unread x2) _ (k0_off12_inb i 0)) (tall a3 (h3.unread x1) _ (k0_off12_inb i 1)) (tall a4 (h4.unread x2) _ (k0_off12_inb i 1))

/-- What is stored of one head: of the quotients the upper half, -/
abbrev upO (M : FVec F S1024x1 .f32) (A : FVec F S1024x128 .f32) (q q' k v k' v' : Vec F S512x128 .bf16) : Vec F S512x128 .bf16 := outO (topA M A q k v)
/-- the lower half, -/
abbrev loO (M : FVec F S1024x1 .f32) (A : FVec F S1024x128 .f32) (q q' k v k' v' : Vec F S512x128 .bf16) : Vec F S512x128 .bf16 := outO (lowA M A q' k v k' v')
/-- and likewise of the queries. -/
abbrev upB (M : FVec F S1024x1 .f32) (A : FVec F S1024x128 .f32) (q q' k v k' v' : Vec F S512x128 .bf16) : Vec F S512x128 .bf16 := outB (topM M q k) (topA M A q k v) q
abbrev loB (M : FVec F S1024x1 .f32) (A : FVec F S1024x128 .f32) (q q' k v k' v' : Vec F S512x128 .bf16) : Vec F S512x128 .bf16 :=
  outB (lowM M q' k k') (lowA M A q' k v k' v') q'

/-- The eight pieces of an output from what is stored of one head. -/
abbrev stored (u l : (M : FVec F S1024x1 .f32) → (A : FVec F S1024x128 .f32) → (q q' k v k' v' : Vec F S512x128 .bf16) → Vec F S512x128 .bf16) (T : Eight F) :
    List (View.Piece (Elt F) S1024x512 .bf16) :=
  pieces (heads i a2 h2 a3 h3 a4 h4 x0 x1 x2 T u 0) (heads i a2 h2 a3 h3 a4 h4 x0 x1 x2 T l 0) (heads i a2 h2 a3 h3 a4 h4 x0 x1 x2 T u 1) (heads i a2 h2 a3 h3 a4 h4 x0 x1 x2 T l 1)
    (heads i a2 h2 a3 h3 a4 h4 x0 x1 x2 T u 2) (heads i a2 h2 a3 h3 a4 h4 x0 x1 x2 T l 2) (heads i a2 h2 a3 h3 a4 h4 x0 x1 x2 T u 3) (heads i a2 h2 a3 h3 a4 h4 x0 x1 x2 T l 3)

/-- What both loops leave. -/
theorem both_eq (u : BitVec 32) :
    st_k0_t2 (F := F) Variants.none c none i a2 h2 a3 h3 a4 h4 a5 h5 a6 h6 u (h2.unread x0) (h3.unread x1) (h4.unread x2)
      (st_k0_t1 (F := F) Variants.none c none i a2 h2 a3 h3 a4 h4 a5 h5 a6 h6 (h2.unread x0) (h3.unread x1) (h4.unread x2) start (k0_t1_loop i).trips)
      (k0_t2_loop i).trips = loopEnd i a2 h2 a3 h3 a4 h4 x0 x1 x2 := by
  rw [second_eq, loop_eq c i a2 h2 a3 h3 a4 h4 a5 h5 a6 h6 x0 x1 x2 _ le_rfl]

set_option maxHeartbeats 4000000 in
theorem run_o : (kernelRun0_A (F := F) c i a2 h2 a3 h3 a4 h4 a5 h5 a6 h6 x0 x1 x2).1
    = stored i a2 h2 a3 h3 a4 h4 x0 x1 x2 upO loO (loopEnd i a2 h2 a3 h3 a4 h4 x0 x1 x2) := by
  refine Eq.trans (b := stored i a2 h2 a3 h3 a4 h4 x0 x1 x2 upO loO (st_k0_t2 (F := F) Variants.none c none i a2 h2 a3 h3 a4 h4 a5 h5 a6 h6 ?u (h2.unread x0) (h3.unread x1) (h4.unread x2)
      (st_k0_t1 (F := F) Variants.none c none i a2 h2 a3 h3 a4 h4 a5 h5 a6 h6 (h2.unread x0) (h3.unread x1) (h4.unread x2) start (k0_t1_loop i).trips)
      (k0_t2_loop i).trips)) ?a (congrArg (stored i a2 h2 a3 h3 a4 h4 x0 x1 x2 upO loO) (both_eq c i a2 h2 a3 h3 a4 h4 a5 h5 a6 h6 x0 x1 x2 ?u))
  case a => rfl

set_option maxHeartbeats 4000000 in
theorem run_b : (kernelRun0_A (F := F) c i a2 h2 a3 h3 a4 h4 a5 h5 a6 h6 x0 x1 x2).2.1
    = stored i a2 h2 a3 h3 a4 h4 x0 x1 x2 upB loB (loopEnd i a2 h2 a3 h3 a4 h4 x0 x1 x2) := by
  refine Eq.trans (b := stored i a2 h2 a3 h3 a4 h4 x0 x1 x2 upB loB (st_k0_t2 (F := F) Variants.none c none i a2 h2 a3 h3 a4 h4 a5 h5 a6 h6 ?u (h2.unread x0) (h3.unread x1) (h4.unread x2)
      (st_k0_t1 (F := F) Variants.none c none i a2 h2 a3 h3 a4 h4 a5 h5 a6 h6 (h2.unread x0) (h3.unread x1) (h4.unread x2) start (k0_t1_loop i).trips)
      (k0_t2_loop i).trips)) ?a (congrArg (stored i a2 h2 a3 h3 a4 h4 x0 x1 x2 upB loB) (both_eq c i a2 h2 a3 h3 a4 h4 a5 h5 a6 h6 x0 x1 x2 ?u))
  case a => rfl

end

end Cert.FlashIdeal.Own

end
-- ==== Proof.FlashTile.lean ====
/- The running maximum and sums of a softmax row, over the reals: after any number of blocks of keys the maximum is a real number `r`
   and a sum is `exp(−r)` times the plain sum of the weights, whatever the blocks were. -/
module

public import proofs.«01_k».proof.Proof.Finite

@[expose] public section

set_option maxRecDepth 16384

noncomputable section

namespace Cert.Softmax

open Idealize.ShloMosaic Idealize.SL.Sem Cert.Finite

/-- A row's maximum after a block of keys with scores `s`, -/
def newM {n : ℕ} (M : EReal) (s : Fin n → EReal) : EReal := max M (Finset.univ.fold max ⊥ s)
/-- and a row's sum. -/
def newA {n : ℕ} (M a : EReal) (s v : Fin n → EReal) : EReal := Ideal.exp (M - newM M s) * a + ∑ j, Ideal.exp (s j - newM M s) * v j
/-- The weight of a score: its exponential, and nothing where the mask is. -/
def wt (x : EReal) : ℝ := (Ideal.exp x).toReal

/-- `a` is the sum `α` of weights seen from the maximum `M`. -/
def Holds (M a : EReal) (α : ℝ) : Prop := (M = ⊥ ∧ a = 0 ∧ α = 0) ∨ ∃ r : ℝ, M = r ∧ a = ((Real.exp (-r) * α : ℝ) : EReal)

theorem holds_start : Holds ⊥ 0 0 := .inl ⟨rfl, rfl, rfl⟩

/-- A score is a real number or masked. -/
def Score (x : EReal) : Prop := x = ⊥ ∨ IsReal x

theorem exp_sub {x : EReal} (hx : Score x) (r : ℝ) : Ideal.exp (x - r) = ((wt x * Real.exp (-r) : ℝ) : EReal) := by
  rcases hx with rfl | ⟨y, rfl⟩
  · rw [EReal.bot_sub, Ideal.exp_bot]; simp [wt, Ideal.exp_bot]
  · rw [← EReal.coe_sub, Ideal.exp_coe, wt, Ideal.exp_coe, EReal.toReal_coe, ← Real.exp_add, sub_eq_add_neg]

theorem wt_nonneg {x : EReal} (hx : Score x) : 0 ≤ wt x := by
  rcases hx with rfl | ⟨y, rfl⟩
  · simp [wt, Ideal.exp_bot]
  · rw [wt, Ideal.exp_coe, EReal.toReal_coe]; exact (Real.exp_pos y).le

theorem wt_pos {x : EReal} (hx : IsReal x) : 0 < wt x := by
  obtain ⟨y, rfl⟩ := hx
  rw [wt, Ideal.exp_coe, EReal.toReal_coe]; exact Real.exp_pos y

theorem wt_bot : wt ⊥ = 0 := by simp [wt, Ideal.exp_bot]

variable {n : ℕ}

/-- With one real score the new maximum is a real number. -/
theorem isReal_newM (M : EReal) (hM : Score M) (s : Fin n → EReal) (hs : ∀ j, Score (s j)) (j : Fin n) (hj : IsReal (s j)) : IsReal (newM M s) := by
  have lt : ∀ x, Score x → x < ⊤ := by
    rintro x (rfl | ⟨y, rfl⟩)
    · exact bot_lt_top
    · exact EReal.coe_lt_top y
  have up : newM M s < ⊤ := max_lt (lt M hM) (Finset.fold_max_lt _ |>.mpr ⟨bot_lt_top, fun i _ => lt _ (hs i)⟩)
  have low : s j ≤ newM M s := le_trans (Finset.le_fold_max _ |>.mpr (.inr ⟨j, Finset.mem_univ j, le_rfl⟩)) (le_max_right _ _)
  obtain ⟨y, hy⟩ := hj
  induction h : newM M s using EReal.rec with
  | bot => rw [h, hy] at low; exact absurd (le_bot_iff.mp low) (EReal.coe_ne_bot y)
  | top => rw [h] at up; exact absurd up (lt_irrefl _)
  | coe r => exact ⟨r, rfl⟩

/-- One block of keys adds its weighted values. -/
theorem holds_step (M a : EReal) (α : ℝ) (h : Holds M a α) (s v : Fin n → EReal) (hs : ∀ j, Score (s j)) (j : Fin n) (hj : IsReal (s j))
    (hv : ∀ j, IsReal (v j)) : Holds (newM M s) (newA M a s v) (α + ∑ j, wt (s j) * (v j).toReal) := by
  have hM : Score M := by
    rcases h with ⟨rfl, _, _⟩ | ⟨r, rfl, _⟩
    · exact .inl rfl
    · exact .inr ⟨r, rfl⟩
  obtain ⟨r', hr'⟩ := isReal_newM M hM s hs j hj
  refine .inr ⟨r', hr', ?_⟩
  rw [newA, hr', exp_sub hM r']
  have e : ∀ j, Ideal.exp (s j - r') * v j = ((wt (s j) * Real.exp (-r') * (v j).toReal : ℝ) : EReal) := fun j => by
    obtain ⟨y, hy⟩ := hv j
    rw [exp_sub (hs j) r', hy, EReal.toReal_coe, ← EReal.coe_mul]
  simp only [e]
  rw [← coe_sum]
  have e1 : (((wt M * Real.exp (-r') : ℝ) : EReal)) * a = ((Real.exp (-r') * α : ℝ) : EReal) := by
    rcases h with ⟨rfl, rfl, rfl⟩ | ⟨r, rfl, rfl⟩
    · simp
    · rw [← EReal.coe_mul, wt, Ideal.exp_coe, EReal.toReal_coe]
      congr 1
      rw [show Real.exp r * Real.exp (-r') * (Real.exp (-r) * α) = Real.exp (-r') * α * (Real.exp r * Real.exp (-r)) by ring, ← Real.exp_add,
        add_neg_cancel, Real.exp_zero, mul_one]
  rw [e1, ← EReal.coe_add]
  congr 1
  rw [mul_add, Finset.mul_sum]
  congr 1
  exact Finset.sum_congr rfl fun j _ => by ring

/-- A quotient of two sums of one row, -/
theorem holds_div (M a l : EReal) (α Z : ℝ) (hZ : 0 < Z) (ha : Holds M a α) (hl : Holds M l Z) : Ideal.div a l = ((α / Z : ℝ) : EReal) := by
  rcases hl with ⟨_, _, rfl⟩ | ⟨r, rfl, rfl⟩
  · exact absurd hZ (lt_irrefl _)
  rcases ha with ⟨hb, _, _⟩ | ⟨r', hr, rfl⟩
  · exact absurd hb (EReal.coe_ne_bot r)
  obtain rfl : r = r' := EReal.coe_injective hr
  have hne : Real.exp (-r) * Z ≠ 0 := (mul_pos (Real.exp_pos _) hZ).ne'
  rw [Ideal.div_coe hne, ← EReal.coe_mul]
  congr 1
  field_simp

/-- and its log-sum. -/
theorem holds_log (M l : EReal) (Z : ℝ) (hZ : 0 < Z) (hl : Holds M l Z) : M + Ideal.log l = ((Real.log Z : ℝ) : EReal) := by
  rcases hl with ⟨_, _, rfl⟩ | ⟨r, rfl, rfl⟩
  · exact absurd hZ (lt_irrefl _)
  have hne : Real.exp (-r) * Z ≠ 0 := (mul_pos (Real.exp_pos _) hZ).ne'
  rw [Ideal.log_coe, if_neg (not_le.mpr (mul_pos (Real.exp_pos _) hZ)), ← EReal.coe_add, Real.log_mul (Real.exp_pos _).ne' hZ.ne', Real.log_exp]
  congr 1; ring

end Cert.Softmax
end
-- ==== Proof.FlashHeads.lean ====
/- One tile of the attention's forward call, entry by entry. -/
module

public import proofs.«01_k».proof.Proof.FlashPoint
public import proofs.«01_k».proof.Proof.FlashTile
public import Idealize.ShloMosaic.Lib.Pipeline.ValueKit
public import Idealize.ShloMosaic.Lib.Claim

@[expose] public section

set_option maxRecDepth 16384

noncomputable section

namespace Cert.FlashIdeal.Own

open Cert.FlashIdeal.Gen Cert.Softmax
open Idealize.ShloMosaic Idealize.ShloMosaic.TcCoe Idealize.ShloMosaic.Tactic

variable (M : FVec Ideal S1024x1 .f32) (A : FVec Ideal S1024x128 .f32) (q : Vec Ideal S1024x128 .bf16) (k v : Vec Ideal S512x128 .bf16)

/-- The score of row `r` with key `j`. -/
def sc {n : ℕ} (q : (⟨2, ![n, 128]⟩ : Shape).Idx → EReal) (k : S512x128.Idx → EReal) (r : Fin n) (j : Fin 512) : EReal := ∑ a : Fin 128, q (ix2 r a) * k (ix2 j a)
/-- The scores on the diagonal. -/
def msc (q k : S512x128.Idx → EReal) (r j : Fin 512) : EReal := if j.val ≤ r.val then sc q k r j else ⊥

theorem neg_inf : Ideal.ofBits .f32 0xFF800000#32 = ⊥ := by simp [Ideal.ofBits, Ideal.ieee]

theorem stepM_apply (r : Fin 1024) : stepM M q k (ix2 r 0) = newM (M (ix2 r 0)) (sc q k r) := by
  pointwise [k0_pay2, k0_pay1, newM, sc, neg_inf]

theorem stepA_apply (r : Fin 1024) (d : Fin 128) :
    stepA M A q k v (ix2 r d) = newA (M (ix2 r 0)) (A (ix2 r d)) (sc q k r) (fun j => v (ix2 j d)) := by
  rw [newA, ← stepM_apply]
  pointwise [k0_pay3, k0_pay1, sc]

section
variable (M : FVec Ideal S512x1 .f32) (A : FVec Ideal S512x128 .f32) (q k v : Vec Ideal S512x128 .bf16) (r : Fin 512) (d : Fin 128)

theorem openM_apply : openM M q k (ix2 r 0) = newM (M (ix2 r 0)) (sc q k r) := by
  pointwise [k0_pay70, k0_pay69, k0_pay64, newM, sc, neg_inf]

theorem openA_apply : openA M A q k v (ix2 r d) = newA (M (ix2 r 0)) (A (ix2 r d)) (sc q k r) (fun j => v (ix2 j d)) := by
  rw [newA, ← openM_apply]
  pointwise [k0_pay73, k0_pay65, k0_pay71, k0_pay72, k0_pay69, k0_pay64, sc]

theorem causal_apply (r j : Fin 512) : k0_pay31 (ix2 r j) = if j.val ≤ r.val then 1#1 else 0#1 := by
  pointwise [k0_pay31]
  word_cmp
  by_cases h : j.val ≤ r.val <;> simp [h]

theorem select_if {α : Type} (p : Prop) [Decidable p] (a b : α) : Scalar.select (if p then 1#1 else 0#1) a b = if p then a else b := by
  by_cases h : p <;> simp [h, Scalar.select]

theorem maskM_apply : maskM M q k (ix2 r 0) = newM (M (ix2 r 0)) (msc q k r) := by
  pointwise [k0_pay58, k0_pay57, k0_pay55, newM, neg_inf, causal_apply, msc, sc]
  simp only [select_if]

theorem maskA_apply : maskA M A q k v (ix2 r d) = newA (M (ix2 r 0)) (A (ix2 r d)) (msc q k r) (fun j => v (ix2 j d)) := by
  rw [newA, ← maskM_apply, show maskM M q k = k0_pay91 k0_pay31 M k q from rfl]
  pointwise [k0_pay92, k0_pay90, neg_inf, causal_apply, msc, sc]
  simp only [select_if]

theorem outO_apply : outO A (ix2 r d) = Ideal.div (A (ix2 r d)) (A (ix2 r 64)) := by
  pointwise [k0_pay108, k0_pay107]

/-- The negated log-sum of a row. -/
def nls (M l : EReal) : EReal := 0 - (M + Ideal.log l)

theorem outB_apply : outB M A q (ix2 r d) = if d.val = 96 then nls (M (ix2 r 0)) (A (ix2 r 64))
    else if d.val = 97 then nls (M (ix2 r 0)) (A (ix2 r 64)) - nls (M (ix2 r 0)) (A (ix2 r 64)) else q (ix2 r d) := by
  have hd := d.isLt
  pointwise [k0_pay109, k0_pay107, nls]
  word_cmp

theorem top_M (M : FVec Ideal S1024x1 .f32) : k0_pay40 M (ix2 r 0) = M (ix2 ⟨r.val, by omega⟩ 0) := by pointwise [k0_pay40]
theorem low_M (M : FVec Ideal S1024x1 .f32) : k0_pay41 M (ix2 r 0) = M (ix2 ⟨512 + r.val, by omega⟩ 0) := by pointwise [k0_pay41]
theorem top_A (A : FVec Ideal S1024x128 .f32) : k0_pay44 A (ix2 r d) = A (ix2 ⟨r.val, by omega⟩ d) := by pointwise [k0_pay44]
theorem low_A (A : FVec Ideal S1024x128 .f32) : k0_pay42 A (ix2 r d) = A (ix2 ⟨512 + r.val, by omega⟩ d) := by pointwise [k0_pay42]

end

end Cert.FlashIdeal.Own
end
-- ==== Proof.FlashValue.lean ====
/- What the attention's forward call leaves at one grid point: for each row the running maximum and sums over all keys up to the
   row's own, whatever the blocks. -/
module

public import proofs.«01_k».proof.Proof.FlashHeads

@[expose] public section

set_option maxRecDepth 16384

noncomputable section

namespace Cert.FlashIdeal.Own

open Cert.FlashIdeal.Gen Cert.Softmax Cert.Finite
open Idealize.ShloMosaic Idealize.ShloMosaic.TcCoe Idealize.ShloMosaic.Tactic

/-! ## Where the tiles lie -/

/-- Row `j` of the `b`-th block of keys, -/
def row (b : Fin 8) (j : Fin 512) : Fin 4096 := ⟨512 * b.val + j.val, by omega⟩
/-- row `j` of half `u` of a block of queries, -/
def hrow (u : Fin 2) (j : Fin 512) : Fin 1024 := ⟨512 * u.val + j.val, by omega⟩
/-- and column `m` of head `h`. -/
def lane (h : Fin 4) (m : Fin 128) : Fin 512 := ⟨128 * h.val + m.val, by omega⟩

theorem lane_surj (x : Fin 512) : ∃ h m, x = lane h m := ⟨⟨x.val / 128, by omega⟩, ⟨x.val % 128, by omega⟩, Fin.ext (by simp only [lane]; omega)⟩
theorem hrow_surj (x : Fin 1024) : ∃ u j, x = hrow u j := ⟨⟨x.val / 512, by omega⟩, ⟨x.val % 512, by omega⟩, Fin.ext (by simp only [hrow]; omega)⟩

/-- The block of queries, counted along the grid. -/
abbrev qb (i : grid0.Coords) : Fin 4 := i 1
/-- The `u`-th block of keys on its diagonal. -/
def diag (i : grid0.Coords) (u : Fin 2) : Fin 8 := ⟨2 * (qb i).val + u.val, by have := (qb i).isLt; omega⟩

theorem off_1 : ∀ (i : grid0.Coords) (k : Fin (k0_t1_loop i).trips), k0_off1 i k = ![512 * k.val, 128 * 0] := by decide +kernel
theorem off_2 : ∀ (i : grid0.Coords) (k : Fin (k0_t1_loop i).trips), k0_off2 i k = ![512 * k.val, 128 * 1] := by decide +kernel
theorem off_3 : ∀ (i : grid0.Coords) (k : Fin (k0_t1_loop i).trips), k0_off3 i k = ![512 * k.val, 128 * 2] := by decide +kernel
theorem off_4 : ∀ (i : grid0.Coords) (k : Fin (k0_t1_loop i).trips), k0_off4 i k = ![512 * k.val, 128 * 3] := by decide +kernel
theorem off_9 : ∀ (i : grid0.Coords) (u : Fin 2), k0_off9 i (BitVec.ofNat 32 u.val) = ![512 * (diag i u).val, 128 * 0] := by decide +kernel
theorem off_10 : ∀ (i : grid0.Coords) (u : Fin 2), k0_off10 i (BitVec.ofNat 32 u.val) = ![512 * (diag i u).val, 128 * 1] := by decide +kernel
theorem off_11 : ∀ (i : grid0.Coords) (u : Fin 2), k0_off11 i (BitVec.ofNat 32 u.val) = ![512 * (diag i u).val, 128 * 2] := by decide +kernel
theorem off_12 : ∀ (i : grid0.Coords) (u : Fin 2), k0_off12 i (BitVec.ofNat 32 u.val) = ![512 * (diag i u).val, 128 * 3] := by decide +kernel
theorem trips_eq : ∀ i : grid0.Coords, (k0_t1_loop i).trips = 2 * (qb i).val := by decide +kernel

/-- A head's columns of a block of keys, -/
def KT (x : Vec Ideal S4096x512 .bf16) (b : Fin 8) (h : Fin 4) : Vec Ideal S512x128 .bf16 := fun y => x (ix2 (row b (y 0)) (lane h (y 1)))
/-- of the queries, -/
def QW (x : Vec Ideal S1024x512 .bf16) (h : Fin 4) : Vec Ideal S1024x128 .bf16 := fun y => x (ix2 (y 0) (lane h (y 1)))
/-- and of half of them. -/
def QH (x : Vec Ideal S1024x512 .bf16) (u : Fin 2) (h : Fin 4) : Vec Ideal S512x128 .bf16 := fun y => x (ix2 (hrow u (y 0)) (lane h (y 1)))

theorem tall_eq (a : Memref sig .tc .vmem S4096x512 .bf16) (ha : a.IsWhole) (x : Vec Ideal S4096x512 .bf16) (o : Fin 2 → ℕ) (ho) (b : Fin 8) (h : Fin 4)
    (e : o = ![512 * b.val, 128 * h.val]) : tall a (ha.unread x) o ho = KT x b h := by
  subst e
  funext y
  refine Eq.trans (congrArg (a.view.read (Elt Ideal) (ha.unread x)) (a₂ := ix2 (row b (y 0)) (lane h (y 1))) (funext fun z => Fin.ext ?_)) (by rw [ha.read_unread]; rfl)
  match z with
  | ⟨0, _⟩ => show 512 * b.val + 1 * (y 0).val = 512 * b.val + (y 0).val; omega
  | ⟨1, _⟩ => show 128 * h.val + 1 * (y 1).val = 128 * h.val + (y 1).val; omega

theorem wide_eq (a : Memref sig .tc .vmem S1024x512 .bf16) (ha : a.IsWhole) (x : Vec Ideal S1024x512 .bf16) (o : Fin 2 → ℕ) (ho) (h : Fin 4)
    (e : o = ![0, 128 * h.val]) : wide a (ha.unread x) o ho = QW x h := by
  subst e
  funext y
  refine Eq.trans (congrArg (a.view.read (Elt Ideal) (ha.unread x)) (a₂ := ix2 (y 0) (lane h (y 1))) (funext fun z => Fin.ext ?_)) (by rw [ha.read_unread]; rfl)
  match z with
  | ⟨0, _⟩ => show 0 + 1 * (y 0).val = (y 0).val; omega
  | ⟨1, _⟩ => show 128 * h.val + 1 * (y 1).val = 128 * h.val + (y 1).val; omega

theorem half_eq (a : Memref sig .tc .vmem S1024x512 .bf16) (ha : a.IsWhole) (x : Vec Ideal S1024x512 .bf16) (o : Fin 2 → ℕ) (ho) (u : Fin 2) (h : Fin 4)
    (e : o = ![512 * u.val, 128 * h.val]) : half a (ha.unread x) o ho = QH x u h := by
  subst e
  funext y
  refine Eq.trans (congrArg (a.view.read (Elt Ideal) (ha.unread x)) (a₂ := ix2 (hrow u (y 0)) (lane h (y 1))) (funext fun z => Fin.ext ?_)) (by rw [ha.read_unread]; rfl)
  match z with
  | ⟨0, _⟩ => show 512 * u.val + 1 * (y 0).val = 512 * u.val + (y 0).val; omega
  | ⟨1, _⟩ => show 128 * h.val + 1 * (y 1).val = 128 * h.val + (y 1).val; omega

/-- One piece of an output, read inside or outside. -/
theorem cell_read (v : View sig .tc .vmem S1024x512 .bf16) (f) (o : Fin 2 → ℕ) (ho : ∀ x, o x + S512x128.size x ≤ S1024x512.size x) (w : Vec Ideal S512x128 .bf16) (L) (u u' : Fin 2) (h h' : Fin 4)
    (e : o = ![512 * u'.val, 128 * h'.val]) (j : Fin 512) (m : Fin 128) :
    v.read (Elt Ideal) (v.writes (Elt Ideal) f (⟨Rect.unit (s := S1024x512) o S512x128.size ho, w⟩ :: L)) (ix2 (hrow u j) (lane h m))
      = if u = u' ∧ h = h' then w (ix2 j m) else v.read (Elt Ideal) (v.writes (Elt Ideal) f L) (ix2 (hrow u j) (lane h m)) := by
  subst e
  by_cases c : u = u' ∧ h = h'
  · obtain ⟨rfl, rfl⟩ := c
    rw [if_pos ⟨rfl, rfl⟩]
    refine View.read_writes_cons_hit_of_coords _ _ (Rect.unit (s := S1024x512) _ S512x128.size ho) w L (ix2 j m) _ fun x => ?_
    match x with
    | ⟨0, _⟩ => show 512 * u.val + j.val = 512 * u.val + 1 * j.val; omega
    | ⟨1, _⟩ => show 128 * h.val + m.val = 128 * h.val + 1 * m.val; omega
  · rw [if_neg c]
    by_cases cu : u = u'
    · refine View.read_writes_cons_miss_of_axis _ _ _ _ _ (1 : Fin 2) (128 * h'.val) 128 rfl rfl rfl ?_
      have : h.val ≠ h'.val := fun e => c ⟨cu, Fin.ext e⟩
      show 128 * h.val + m.val < _ ∨ _ ≤ 128 * h.val + m.val
      omega
    · refine View.read_writes_cons_miss_of_axis _ _ _ _ _ (0 : Fin 2) (512 * u'.val) 512 rfl rfl rfl ?_
      have : u.val ≠ u'.val := fun e => cu (Fin.ext e)
      show 512 * u.val + j.val < _ ∨ _ ≤ 512 * u.val + j.val
      omega

/-- A head's maxima and sums among the carried values. -/
def mOf (p : Eight Ideal) : Fin 4 → FVec Ideal S1024x1 .f32
  | 0 => p.1 | 1 => p.2.2.1 | 2 => p.2.2.2.2.1 | 3 => p.2.2.2.2.2.2.1
def aOf (p : Eight Ideal) : Fin 4 → FVec Ideal S1024x128 .f32
  | 0 => p.2.1 | 1 => p.2.2.2.1 | 2 => p.2.2.2.2.2.1 | 3 => p.2.2.2.2.2.2.2

theorem m_start (h : Fin 4) (r : Fin 1024) : mOf start h (ix2 r 0) = ⊥ := by
  match h with
  | 0 => show k0_pay32 (F := Ideal) (ix2 r 0) = _; pointwise [k0_pay32, neg_inf]
  | 1 => show k0_pay34 (F := Ideal) (ix2 r 0) = _; pointwise [k0_pay34, neg_inf]
  | 2 => show k0_pay36 (F := Ideal) (ix2 r 0) = _; pointwise [k0_pay36, neg_inf]
  | 3 => show k0_pay38 (F := Ideal) (ix2 r 0) = _; pointwise [k0_pay38, neg_inf]
theorem a_start (h : Fin 4) (r : Fin 1024) (d : Fin 128) : aOf start h (ix2 r d) = 0 := by
  match h with
  | 0 => show k0_pay33 (F := Ideal) (ix2 r d) = _; pointwise [k0_pay33]
  | 1 => show k0_pay35 (F := Ideal) (ix2 r d) = _; pointwise [k0_pay35]
  | 2 => show k0_pay37 (F := Ideal) (ix2 r d) = _; pointwise [k0_pay37]
  | 3 => show k0_pay39 (F := Ideal) (ix2 r d) = _; pointwise [k0_pay39]

section
variable (c : Dev nD) (i : grid0.Coords) (a2 : Memref sig .tc .vmem S1024x512 .bf16) (h2 : a2.IsWhole)
  (a3 : Memref sig .tc .vmem S4096x512 .bf16) (h3 : a3.IsWhole) (a4 : Memref sig .tc .vmem S4096x512 .bf16) (h4 : a4.IsWhole)
  (a5 : Memref sig .tc .vmem S1024x512 .bf16) (h5 : a5.IsWhole) (a6 : Memref sig .tc .vmem S1024x512 .bf16) (h6 : a6.IsWhole)
  (x0 : Vec Ideal S1024x512 .bf16) (x1 : Vec Ideal S4096x512 .bf16) (x2 : Vec Ideal S4096x512 .bf16)

/-- The `n`-th block of keys. -/
def nth (k : Fin (k0_t1_loop i).trips) : Fin 8 := ⟨k.val, by have := k.isLt; have := trips_eq i; have := (qb i).isLt; omega⟩

theorem trip_m (k : Fin (k0_t1_loop i).trips) (p : Eight Ideal) (h : Fin 4) :
    mOf (trip i a2 h2 a3 h3 a4 h4 x0 x1 x2 k p) h = stepM (mOf p h) (QW x0 h) (KT x1 (nth i k) h) := by
  match h with
  | 0 => show stepM _ _ _ = _; rw [wide_eq a2 h2 x0 ![0, 0] _ 0 rfl, tall_eq a3 h3 x1 _ _ (nth i k) 0 (off_1 i k)]; rfl
  | 1 => show stepM _ _ _ = _; rw [wide_eq a2 h2 x0 ![0, 128] _ 1 rfl, tall_eq a3 h3 x1 _ _ (nth i k) 1 (off_2 i k)]; rfl
  | 2 => show stepM _ _ _ = _; rw [wide_eq a2 h2 x0 ![0, 256] _ 2 rfl, tall_eq a3 h3 x1 _ _ (nth i k) 2 (off_3 i k)]; rfl
  | 3 => show stepM _ _ _ = _; rw [wide_eq a2 h2 x0 ![0, 384] _ 3 rfl, tall_eq a3 h3 x1 _ _ (nth i k) 3 (off_4 i k)]; rfl

theorem trip_a (k : Fin (k0_t1_loop i).trips) (p : Eight Ideal) (h : Fin 4) :
    aOf (trip i a2 h2 a3 h3 a4 h4 x0 x1 x2 k p) h = stepA (mOf p h) (aOf p h) (QW x0 h) (KT x1 (nth i k) h) (KT x2 (nth i k) h) := by
  match h with
  | 0 => show stepA _ _ _ _ _ = _; rw [wide_eq a2 h2 x0 ![0, 0] _ 0 rfl, tall_eq a3 h3 x1 _ _ (nth i k) 0 (off_1 i k), tall_eq a4 h4 x2 _ _ (nth i k) 0 (off_1 i k)]; rfl
  | 1 => show stepA _ _ _ _ _ = _; rw [wide_eq a2 h2 x0 ![0, 128] _ 1 rfl, tall_eq a3 h3 x1 _ _ (nth i k) 1 (off_2 i k), tall_eq a4 h4 x2 _ _ (nth i k) 1 (off_2 i k)]; rfl
  | 2 => show stepA _ _ _ _ _ = _; rw [wide_eq a2 h2 x0 ![0, 256] _ 2 rfl, tall_eq a3 h3 x1 _ _ (nth i k) 2 (off_3 i k), tall_eq a4 h4 x2 _ _ (nth i k) 2 (off_3 i k)]; rfl
  | 3 => show stepA _ _ _ _ _ = _; rw [wide_eq a2 h2 x0 ![0, 384] _ 3 rfl, tall_eq a3 h3 x1 _ _ (nth i k) 3 (off_4 i k), tall_eq a4 h4 x2 _ _ (nth i k) 3 (off_4 i k)]; rfl

theorem heads_eq {β : Type} (T : Eight Ideal)
    (f : (M : FVec Ideal S1024x1 .f32) → (A : FVec Ideal S1024x128 .f32) → (q q' k v k' v' : Vec Ideal S512x128 .bf16) → β) (h : Fin 4) :
    heads i a2 h2 a3 h3 a4 h4 x0 x1 x2 T f h = f (mOf T h) (aOf T h) (QH x0 0 h) (QH x0 1 h) (KT x1 (diag i 0) h) (KT x2 (diag i 0) h) (KT x1 (diag i 1) h) (KT x2 (diag i 1) h) := by
  match h with
  | 0 =>
    show f _ _ _ _ _ _ _ _ = _
    rw [half_eq a2 h2 x0 ![0, 0] _ 0 0 rfl, half_eq a2 h2 x0 ![512, 0] _ 1 0 rfl, tall_eq a3 h3 x1 _ _ (diag i 0) 0 (off_9 i 0), tall_eq a4 h4 x2 _ _ (diag i 0) 0 (off_9 i 0),
      tall_eq a3 h3 x1 _ _ (diag i 1) 0 (off_9 i 1), tall_eq a4 h4 x2 _ _ (diag i 1) 0 (off_9 i 1)]; rfl
  | 1 =>
    show f _ _ _ _ _ _ _ _ = _
    rw [half_eq a2 h2 x0 ![0, 128] _ 0 1 rfl, half_eq a2 h2 x0 ![512, 128] _ 1 1 rfl, tall_eq a3 h3 x1 _ _ (diag i 0) 1 (off_10 i 0), tall_eq a4 h4 x2 _ _ (diag i 0) 1 (off_10 i 0),
      tall_eq a3 h3 x1 _ _ (diag i 1) 1 (off_10 i 1), tall_eq a4 h4 x2 _ _ (diag i 1) 1 (off_10 i 1)]; rfl
  | 2 =>
    show f _ _ _ _ _ _ _ _ = _
    rw [half_eq a2 h2 x0 ![0, 256] _ 0 2 rfl, half_eq a2 h2 x0 ![512, 256] _ 1 2 rfl, tall_eq a3 h3 x1 _ _ (diag i 0) 2 (off_11 i 0), tall_eq a4 h4 x2 _ _ (diag i 0) 2 (off_11 i 0),
      tall_eq a3 h3 x1 _ _ (diag i 1) 2 (off_11 i 1), tall_eq a4 h4 x2 _ _ (diag i 1) 2 (off_11 i 1)]; rfl
  | 3 =>
    show f _ _ _ _ _ _ _ _ = _
    rw [half_eq a2 h2 x0 ![0, 384] _ 0 3 rfl, half_eq a2 h2 x0 ![512, 384] _ 1 3 rfl, tall_eq a3 h3 x1 _ _ (diag i 0) 3 (off_12 i 0), tall_eq a4 h4 x2 _ _ (diag i 0) 3 (off_12 i 0),
      tall_eq a3 h3 x1 _ _ (diag i 1) 3 (off_12 i 1), tall_eq a4 h4 x2 _ _ (diag i 1) 3 (off_12 i 1)]; rfl

/-- What an output's pieces hold, head by head and half by half. -/
theorem stored_read (v : View sig .tc .vmem S1024x512 .bf16) (f) (up lo) (T : Eight Ideal) (u : Fin 2) (h : Fin 4) (j : Fin 512) (m : Fin 128) :
    v.read (Elt Ideal) (v.writes (Elt Ideal) f (stored i a2 h2 a3 h3 a4 h4 x0 x1 x2 up lo T)) (ix2 (hrow u j) (lane h m))
      = (if u = 0 then up else lo) (mOf T h) (aOf T h) (QH x0 0 h) (QH x0 1 h) (KT x1 (diag i 0) h) (KT x2 (diag i 0) h) (KT x1 (diag i 1) h) (KT x2 (diag i 1) h) (ix2 j m) := by
  refine Eq.trans ?_ (congrFun (heads_eq i a2 h2 a3 h3 a4 h4 x0 x1 x2 T (if u = 0 then up else lo) h) (ix2 j m))
  unfold stored pieces
  rw [cell_read v f ![512, 384] _ _ _ u 1 h 3 rfl, cell_read v f ![0, 384] _ _ _ u 0 h 3 rfl, cell_read v f ![512, 256] _ _ _ u 1 h 2 rfl, cell_read v f ![0, 256] _ _ _ u 0 h 2 rfl,
    cell_read v f ![512, 128] _ _ _ u 1 h 1 rfl, cell_read v f ![0, 128] _ _ _ u 0 h 1 rfl, cell_read v f ![512, 0] _ _ _ u 1 h 0 rfl, cell_read v f ![0, 0] _ _ _ u 0 h 0 rfl]
  match u, h with
  | 0, 0 => rfl
  | 0, 1 => rfl
  | 0, 2 => rfl
  | 0, 3 => rfl
  | 1, 0 => rfl
  | 1, 1 => rfl
  | 1, 2 => rfl
  | 1, 3 => rfl

/-! ## A row's sums -/

/-- The score of row `r` and key `k`, -/
def bs (h : Fin 4) (r : Fin 1024) (k : Fin 4096) : EReal := ∑ a : Fin 128, x0 (ix2 r (lane h a)) * x1 (ix2 k (lane h a))
/-- masked where the key comes after the row. -/
def bm (h : Fin 4) (r : Fin 1024) (k : Fin 4096) : EReal := if k.val ≤ 1024 * (qb i).val + r.val then bs x0 x1 h r k else ⊥
/-- What a block of keys adds to a row's sum, -/
def blk (h : Fin 4) (r : Fin 1024) (d : Fin 128) (b : Fin 8) : ℝ := ∑ j, wt (bm i x0 x1 h r (row b j)) * (x2 (ix2 (row b j) (lane h d))).toReal
/-- the blocks before the `n`-th, -/
def part (h : Fin 4) (r : Fin 1024) (d : Fin 128) (n : ℕ) : ℝ := ∑ b : Fin 8, if b.val < n then blk i x0 x1 x2 h r d b else 0
/-- and all of them. -/
def full (h : Fin 4) (r : Fin 1024) (d : Fin 128) : ℝ := ∑ k : Fin 4096, wt (bm i x0 x1 h r k) * (x2 (ix2 k (lane h d))).toReal

theorem part_succ (h : Fin 4) (r : Fin 1024) (d : Fin 128) (b : Fin 8) :
    part i x0 x1 x2 h r d (b.val + 1) = part i x0 x1 x2 h r d b.val + blk i x0 x1 x2 h r d b := by
  have e : ∀ b' : Fin 8, (if b'.val < b.val + 1 then blk i x0 x1 x2 h r d b' else 0)
      = (if b'.val < b.val then blk i x0 x1 x2 h r d b' else 0) + (if b' = b then blk i x0 x1 x2 h r d b' else 0) := fun b' => by
    by_cases h1 : b' = b
    · subst h1; rw [if_pos (by omega), if_neg (by omega), if_pos rfl, zero_add]
    · have : b'.val ≠ b.val := fun e => h1 (Fin.ext e)
      rw [if_neg h1, add_zero]
      by_cases h2 : b'.val < b.val
      · rw [if_pos h2, if_pos (by omega)]
      · rw [if_neg h2, if_neg (by omega)]
  unfold part
  rw [Finset.sum_congr rfl fun b' _ => e b', Finset.sum_add_distrib, Finset.sum_ite_eq' Finset.univ b, if_pos (Finset.mem_univ _)]

theorem part_zero (h : Fin 4) (r : Fin 1024) (d : Fin 128) : part i x0 x1 x2 h r d 0 = 0 :=
  Finset.sum_eq_zero fun b _ => if_neg (by omega)

theorem sum_blocks (f : Fin 4096 → ℝ) : (∑ b : Fin 8, ∑ j : Fin 512, f (row b j)) = ∑ q, f q := by
  refine Fin.sum_mul_add_congr (fun b k hl => ?_) (by norm_num)
  exact congrArg f (Fin.ext (by simp only [row]; omega))

/-- Past the diagonal there is nothing. -/
theorem part_full (h : Fin 4) (r : Fin 1024) (d : Fin 128) (n : ℕ) (hn : 1024 * (qb i).val + r.val < 512 * n) :
    part i x0 x1 x2 h r d n = full i x0 x1 x2 h r d := by
  unfold full
  rw [← sum_blocks]
  refine Finset.sum_congr rfl fun b _ => ?_
  by_cases hb : b.val < n
  · rw [if_pos hb]; rfl
  · rw [if_neg hb]
    refine (Finset.sum_eq_zero fun j _ => ?_).symm
    rw [bm, if_neg (by simp only [row]; omega), wt_bot, zero_mul]

variable (hs : ∀ h r k, IsReal (bs x0 x1 h r k)) (hv : ∀ y, IsReal (x2 y))
include hs hv

theorem score_bm (h r k) : Score (bm i x0 x1 h r k) := by
  unfold bm
  split_ifs
  · exact .inr (hs h r k)
  · exact .inl rfl

/-- One block of keys. -/
theorem hold_block (h : Fin 4) (r : Fin 1024) (d : Fin 128) (b : Fin 8) (M a : EReal) (s : Fin 512 → EReal) (v : Fin 512 → EReal)
    (es : ∀ j, s j = bm i x0 x1 h r (row b j)) (ev : ∀ j, v j = x2 (ix2 (row b j) (lane h d))) (j : Fin 512) (hj : (row b j).val ≤ 1024 * (qb i).val + r.val)
    (H : Holds M a (part i x0 x1 x2 h r d b.val)) : Holds (newM M s) (newA M a s v) (part i x0 x1 x2 h r d (b.val + 1)) := by
  obtain rfl : s = fun j => bm i x0 x1 h r (row b j) := funext es
  obtain rfl : v = fun j => x2 (ix2 (row b j) (lane h d)) := funext ev
  rw [part_succ]
  refine holds_step M a _ H _ _ (fun j => score_bm i x0 x1 x2 hs hv h r _) j ?_ fun j => hv _
  rw [bm, if_pos hj]
  exact hs h r _

abbrev carriedI (n : ℕ) : Eight Ideal := carried (F := Ideal) i a2 h2 a3 h3 a4 h4 x0 x1 x2 n

theorem hold_loop (h : Fin 4) (r : Fin 1024) (d : Fin 128) : ∀ n, n ≤ (k0_t1_loop i).trips →
    Holds (mOf (carriedI i a2 h2 a3 h3 a4 h4 x0 x1 x2 n) h (ix2 r 0)) (aOf (carriedI i a2 h2 a3 h3 a4 h4 x0 x1 x2 n) h (ix2 r d)) (part i x0 x1 x2 h r d n)
  | 0, _ => by
    rw [part_zero]
    show Holds (mOf start h _) (aOf start h _) 0
    rw [m_start, a_start]
    exact holds_start
  | n + 1, hn => by
    have ih := hold_loop h r d n (by omega)
    have hn' : n < (k0_t1_loop i).trips := by omega
    have hq := trips_eq i
    have hq' := (qb i).isLt
    rw [show carriedI i a2 h2 a3 h3 a4 h4 x0 x1 x2 (n + 1) = if h : n < (k0_t1_loop i).trips then
      trip i a2 h2 a3 h3 a4 h4 x0 x1 x2 ⟨n, h⟩ (carriedI i a2 h2 a3 h3 a4 h4 x0 x1 x2 n) else carriedI i a2 h2 a3 h3 a4 h4 x0 x1 x2 n from rfl,
      dif_pos hn', trip_m, trip_a, stepM_apply, stepA_apply]
    refine hold_block i x0 x1 x2 hs hv h r d (nth i ⟨n, hn'⟩) _ _ _ _ (fun j => ?_) (fun j => rfl) 0 ?_ ih
    · rw [bm, if_pos (by simp only [row, nth]; omega)]; rfl
    · simp only [row, nth]; show 512 * n + 0 ≤ _; omega

/-- The upper half's rows, -/
theorem hold_top (h : Fin 4) (j : Fin 512) (d : Fin 128) (T : Eight Ideal) (hT : T = loopEnd i a2 h2 a3 h3 a4 h4 x0 x1 x2) :
    Holds (topM (mOf T h) (QH x0 0 h) (KT x1 (diag i 0) h) (ix2 j 0))
      (topA (mOf T h) (aOf T h) (QH x0 0 h) (KT x1 (diag i 0) h) (KT x2 (diag i 0) h) (ix2 j d)) (full i x0 x1 x2 h (hrow 0 j) d) := by
  have H := hold_loop i a2 h2 a3 h3 a4 h4 x0 x1 x2 hs hv h (hrow 0 j) d _ le_rfl
  rw [show part i x0 x1 x2 h (hrow 0 j) d (k0_t1_loop i).trips = part i x0 x1 x2 h (hrow 0 j) d (2 * (qb i).val) from congrArg _ (trips_eq i)] at H
  subst hT
  have e : (⟨j.val, by omega⟩ : Fin 1024) = hrow 0 j := Fin.ext (by simp [hrow])
  unfold topM topA
  rw [maskM_apply, maskA_apply, top_M, top_A, e]
  rw [← part_full i x0 x1 x2 h (hrow 0 j) d (2 * (qb i).val + 1) (by simp only [hrow]; show _ + (512 * 0 + _) < _; omega)]
  refine hold_block i x0 x1 x2 hs hv h (hrow 0 j) d (diag i 0) _ _ _ _ (fun j' => ?_) (fun j' => rfl) j ?_ H
  · unfold msc bm
    by_cases c : j'.val ≤ j.val
    · rw [if_pos c, if_pos (by simp only [row, diag, hrow]; show 512 * (_ + 0) + _ ≤ _ + (512 * 0 + _); omega)]; rfl
    · rw [if_neg c, if_neg (by simp only [row, diag, hrow]; show ¬ 512 * (_ + 0) + _ ≤ _ + (512 * 0 + _); omega)]
  · simp only [row, diag, hrow]; show 512 * (_ + 0) + _ ≤ _ + (512 * 0 + _); omega

/-- and the lower half's. -/
theorem hold_low (h : Fin 4) (j : Fin 512) (d : Fin 128) (T : Eight Ideal) (hT : T = loopEnd i a2 h2 a3 h3 a4 h4 x0 x1 x2) :
    Holds (lowM (mOf T h) (QH x0 1 h) (KT x1 (diag i 0) h) (KT x1 (diag i 1) h) (ix2 j 0))
      (lowA (mOf T h) (aOf T h) (QH x0 1 h) (KT x1 (diag i 0) h) (KT x2 (diag i 0) h) (KT x1 (diag i 1) h) (KT x2 (diag i 1) h) (ix2 j d))
      (full i x0 x1 x2 h (hrow 1 j) d) := by
  have H := hold_loop i a2 h2 a3 h3 a4 h4 x0 x1 x2 hs hv h (hrow 1 j) d _ le_rfl
  rw [show part i x0 x1 x2 h (hrow 1 j) d (k0_t1_loop i).trips = part i x0 x1 x2 h (hrow 1 j) d (2 * (qb i).val) from congrArg _ (trips_eq i)] at H
  subst hT
  have e : (⟨512 + j.val, by omega⟩ : Fin 1024) = hrow 1 j := Fin.ext (by simp [hrow])
  unfold lowM lowA
  rw [maskM_apply, maskA_apply, openM_apply, openA_apply, low_M, low_A, e]
  rw [← part_full i x0 x1 x2 h (hrow 1 j) d (2 * (qb i).val + 1 + 1) (by simp only [hrow]; show _ + (512 * 1 + _) < _; omega)]
  refine hold_block i x0 x1 x2 hs hv h (hrow 1 j) d (diag i 1) _ _ _ _ (fun j' => ?_) (fun j' => rfl) j ?_
    (hold_block i x0 x1 x2 hs hv h (hrow 1 j) d (diag i 0) _ _ _ _ (fun j' => ?_) (fun j' => rfl) 0 ?_ H)
  · unfold msc bm
    by_cases c : j'.val ≤ j.val
    · rw [if_pos c, if_pos (by simp only [row, diag, hrow]; show 512 * (_ + 1) + _ ≤ _ + (512 * 1 + _); omega)]; rfl
    · rw [if_neg c, if_neg (by simp only [row, diag, hrow]; show ¬ 512 * (_ + 1) + _ ≤ _ + (512 * 1 + _); omega)]
  · simp only [row, diag, hrow]; show 512 * (_ + 1) + _ ≤ _ + (512 * 1 + _); omega
  · rw [bm, if_pos (by simp only [row, diag, hrow]; show 512 * (_ + 0) + _ ≤ _ + (512 * 1 + _); omega)]; rfl
  · simp only [row, diag, hrow]; show 512 * (_ + 0) + 0 ≤ _ + (512 * 1 + _); omega

end

end Cert.FlashIdeal.Own
end
-- ==== Proof.FlashFinal.lean ====
/- What the attention's forward call leaves in its two arrays: each row's quotient of sums over the keys up to it, and the queries with the
   negated log-sum of the row in one lane. -/
module

public import proofs.«01_k».proof.Proof.FlashValue

@[expose] public section

set_option maxRecDepth 16384

noncomputable section

namespace Cert.FlashIdeal.Own

open Cert.FlashIdeal.Gen Cert.Softmax Cert.Finite
open Idealize.ShloMosaic Idealize.ShloMosaic.TcCoe Idealize.ShloMosaic.Tactic Idealize.SL.Sem
open Idealize.ShloMosaic.Pipeline (Dat)

section
variable (c : Dev nD) (i : grid0.Coords) (a2 : Memref sig .tc .vmem S1024x512 .bf16) (h2 : a2.IsWhole)
  (a3 : Memref sig .tc .vmem S4096x512 .bf16) (h3 : a3.IsWhole) (a4 : Memref sig .tc .vmem S4096x512 .bf16) (h4 : a4.IsWhole)
  (a5 : Memref sig .tc .vmem S1024x512 .bf16) (h5 : a5.IsWhole) (a6 : Memref sig .tc .vmem S1024x512 .bf16) (h6 : a6.IsWhole)
  (x0 : Vec Ideal S1024x512 .bf16) (x1 : Vec Ideal S4096x512 .bf16) (x2 : Vec Ideal S4096x512 .bf16)
  (hs : ∀ h r k, IsReal (bs x0 x1 h r k)) (hv : ∀ y, IsReal (x2 y)) (h1 : ∀ k h, x2 (ix2 k (lane h 64)) = 1)
include hs hv h1

/-- A row's weights have a positive sum: its own key's is positive. -/
theorem full_pos (h : Fin 4) (r : Fin 1024) : 0 < full i x0 x1 x2 h r 64 := by
  have hq := (qb i).isLt
  refine Finset.sum_pos' (fun k _ => ?_) ⟨⟨1024 * (qb i).val + r.val, by omega⟩, Finset.mem_univ _, ?_⟩
  · rw [h1, EReal.toReal_one, mul_one]
    exact wt_nonneg (score_bm i x0 x1 x2 hs hv h r k)
  · rw [h1, EReal.toReal_one, mul_one, bm, if_pos le_rfl]
    exact wt_pos (hs h r _)

/-- The quotients that one grid point leaves, -/
theorem o_at (u : Fin 2) (j : Fin 512) (h : Fin 4) (d : Fin 128) :
    out0_A_3 c i a2 h2 a3 h3 a4 h4 a5 h5 a6 h6 x0 x1 x2 (ix2 (hrow u j) (lane h d))
      = ((full i x0 x1 x2 h (hrow u j) d / full i x0 x1 x2 h (hrow u j) 64 : ℝ) : EReal) := by
  unfold out0_A_3
  rw [run_o, stored_read]
  match u with
  | 0 =>
    rw [if_pos rfl]
    unfold upO
    rw [outO_apply]
    exact holds_div _ _ _ _ _ (full_pos i x0 x1 x2 hs hv h1 h _) (hold_top i a2 h2 a3 h3 a4 h4 x0 x1 x2 hs hv h j d _ rfl)
      (hold_top i a2 h2 a3 h3 a4 h4 x0 x1 x2 hs hv h j 64 _ rfl)
  | 1 =>
    rw [if_neg (by decide)]
    unfold loO
    rw [outO_apply]
    exact holds_div _ _ _ _ _ (full_pos i x0 x1 x2 hs hv h1 h _) (hold_low i a2 h2 a3 h3 a4 h4 x0 x1 x2 hs hv h j d _ rfl)
      (hold_low i a2 h2 a3 h3 a4 h4 x0 x1 x2 hs hv h j 64 _ rfl)

theorem nls_eq {M l : EReal} {Z : ℝ} (hZ : 0 < Z) (hl : Holds M l Z) : nls M l = ((-Real.log Z : ℝ) : EReal) := by
  rw [nls, holds_log M l Z hZ hl, zero_sub, EReal.coe_neg]

/-- and the queries. -/
theorem b_at (u : Fin 2) (j : Fin 512) (h : Fin 4) (d : Fin 128) :
    out0_A_4 c i a2 h2 a3 h3 a4 h4 a5 h5 a6 h6 x0 x1 x2 (ix2 (hrow u j) (lane h d))
      = if d.val = 96 then ((-Real.log (full i x0 x1 x2 h (hrow u j) 64) : ℝ) : EReal) else if d.val = 97 then 0 else x0 (ix2 (hrow u j) (lane h d)) := by
  unfold out0_A_4
  rw [run_b, stored_read]
  match u with
  | 0 =>
    rw [if_pos rfl]
    unfold upB
    rw [outB_apply, nls_eq x0 x1 x2 hs hv h1 (full_pos i x0 x1 x2 hs hv h1 h _) (hold_top i a2 h2 a3 h3 a4 h4 x0 x1 x2 hs hv h j 64 _ rfl),
      ← EReal.coe_sub, sub_self, EReal.coe_zero]; rfl
  | 1 =>
    rw [if_neg (by decide)]
    unfold loB
    rw [outB_apply, nls_eq x0 x1 x2 hs hv h1 (full_pos i x0 x1 x2 hs hv h1 h _) (hold_low i a2 h2 a3 h3 a4 h4 x0 x1 x2 hs hv h j 64 _ rfl),
      ← EReal.coe_sub, sub_self, EReal.coe_zero]; rfl

end

variable (m : (ℓ : Loc nD τ sig) → Buf (Elt Ideal) ℓ) (c : Dev nD)

/-- The arrays the call reads: packed queries, -/
def QA : Vec Ideal S4096x1024 .bf16 := V m c (Pipeline.arrRef spec0 0)
/-- keys, -/
def KA : Vec Ideal S4096x1024 .bf16 := V m c (Pipeline.arrRef spec0 1)
/-- and values. -/
def VA : Vec Ideal S4096x1024 .bf16 := V m c (Pipeline.arrRef spec0 2)

/-- Column `a` of head `h` of the `g`-th group of heads. -/
def col (g : Fin 2) (h : Fin 4) (a : Fin 128) : Fin 1024 := ⟨512 * g.val + (128 * h.val + a.val), by omega⟩
/-- Row `r` of the `b`-th block of queries. -/
def brow (b : Fin 4) (r : Fin 1024) : Fin 4096 := ⟨1024 * b.val + r.val, by omega⟩

/-- The group of heads at a point. -/
def grp (t : Fin cfg0.N) : Fin 2 := ⟨t.val / 4, by have : t.val < 8 := lt_of_lt_of_eq t.isLt (show cfg0.N = 8 from N_0); omega⟩

/-- The index maps. -/
theorem idx : ∀ t : Fin cfg0.N, win0_0.index t = ![t.val % 4, t.val / 4] ∧ win0_1.index t = ![0, t.val / 4] ∧ win0_2.index t = ![0, t.val / 4]
    ∧ win0_3.index t = ![t.val % 4, t.val / 4] ∧ win0_4.index t = ![t.val % 4, t.val / 4] :=
  (by decide +kernel : ∀ t : Fin grid0.N, _)

theorem qb_val : ∀ t : Fin cfg0.N, (qb (grid0.coords t)).val = t.val % 4 := (by decide +kernel : ∀ t : Fin grid0.N, _)

theorem iblk0 (t : Fin cfg0.N) (r : Fin 1024) (h : Fin 4) (a : Fin 128) :
    (iblk m c 0 t : Vec Ideal S1024x512 .bf16) (ix2 r (lane h a)) = QA m c (ix2 (brow (qb (grid0.coords t)) r) (col (grp t) h a)) := by
  unfold QA
  blk_point [iblk, idx t]
  all_goals
    simp only [lane, col, grp, brow, qb_val]
    omega
theorem iblk1 (t : Fin cfg0.N) (k : Fin 4096) (h : Fin 4) (a : Fin 128) :
    (iblk m c 1 t : Vec Ideal S4096x512 .bf16) (ix2 k (lane h a)) = KA m c (ix2 k (col (grp t) h a)) := by
  unfold KA
  blk_point [iblk, idx t]
  all_goals
    simp only [lane, col, grp]
    omega
theorem iblk2 (t : Fin cfg0.N) (k : Fin 4096) (h : Fin 4) (a : Fin 128) :
    (iblk m c 2 t : Vec Ideal S4096x512 .bf16) (ix2 k (lane h a)) = VA m c (ix2 k (col (grp t) h a)) := by
  unfold VA
  blk_point [iblk, idx t]
  all_goals
    simp only [lane, col, grp]
    omega

/-- The score of query `q` and key `k`, -/
def SA (g : Fin 2) (h : Fin 4) (q k : Fin 4096) : EReal := ∑ a : Fin 128, QA m c (ix2 q (col g h a)) * KA m c (ix2 k (col g h a))
/-- masked, -/
def SM (g : Fin 2) (h : Fin 4) (q k : Fin 4096) : EReal := if k.val ≤ q.val then SA m c g h q k else ⊥
/-- and a row's weighted sum of one lane of the values. -/
def ZA (g : Fin 2) (h : Fin 4) (q : Fin 4096) (d : Fin 128) : ℝ := ∑ k : Fin 4096, wt (SM m c g h q k) * (VA m c (ix2 k (col g h d))).toReal

theorem bs_eq (t : Fin cfg0.N) (h : Fin 4) (r : Fin 1024) (k : Fin 4096) :
    bs (iblk m c 0 t) (iblk m c 1 t) h r k = SA m c (grp t) h (brow (qb (grid0.coords t)) r) k := by
  unfold bs SA
  exact Finset.sum_congr rfl fun a _ => by rw [iblk0, iblk1]

theorem full_eq (t : Fin cfg0.N) (h : Fin 4) (r : Fin 1024) (d : Fin 128) :
    full (grid0.coords t) (iblk m c 0 t) (iblk m c 1 t) (iblk m c 2 t) h r d = ZA m c (grp t) h (brow (qb (grid0.coords t)) r) d := by
  unfold full ZA bm SM
  exact Finset.sum_congr rfl fun k _ => by rw [bs_eq, iblk2]; rfl

def gOf (z : Fin 1024) : Fin 2 := ⟨z.val / 512, by omega⟩
def hOf (z : Fin 1024) : Fin 4 := ⟨z.val / 128 % 4, by omega⟩
def aOfc (z : Fin 1024) : Fin 128 := ⟨z.val % 128, by omega⟩
theorem gOf_col (g : Fin 2) (h : Fin 4) (a : Fin 128) : gOf (col g h a) = g := Fin.ext (by simp only [gOf, col]; omega)
theorem hOf_col (g : Fin 2) (h : Fin 4) (a : Fin 128) : hOf (col g h a) = h := Fin.ext (by simp only [hOf, col]; omega)
theorem aOfc_col (g : Fin 2) (h : Fin 4) (a : Fin 128) : aOfc (col g h a) = a := Fin.ext (by simp only [aOfc, col]; omega)
theorem col_surj (z : Fin 1024) : ∃ g h a, z = col g h a := ⟨gOf z, hOf z, aOfc z, Fin.ext (by simp only [gOf, hOf, aOfc, col]; omega)⟩

/-- The first array: the rows' quotients; -/
def resO : Vec Ideal S4096x1024 .bf16 := fun y =>
  ((ZA m c (gOf (y 1)) (hOf (y 1)) (y 0) (aOfc (y 1)) / ZA m c (gOf (y 1)) (hOf (y 1)) (y 0) 64 : ℝ) : EReal)
/-- the second: the queries, with a row's negated log-sum. -/
def resB : Vec Ideal S4096x1024 .bf16 := fun y =>
  if (aOfc (y 1)).val = 96 then ((-Real.log (ZA m c (gOf (y 1)) (hOf (y 1)) (y 0) 64) : ℝ) : EReal) else if (aOfc (y 1)).val = 97 then 0 else QA m c y

theorem resO_apply (g : Fin 2) (h : Fin 4) (q : Fin 4096) (a : Fin 128) : resO m c (ix2 q (col g h a)) = ((ZA m c g h q a / ZA m c g h q 64 : ℝ) : EReal) := by
  show ((ZA m c (gOf (col g h a)) (hOf (col g h a)) q (aOfc (col g h a)) / ZA m c (gOf (col g h a)) (hOf (col g h a)) q 64 : ℝ) : EReal) = _
  rw [gOf_col, hOf_col, aOfc_col]
theorem resB_apply (g : Fin 2) (h : Fin 4) (q : Fin 4096) (a : Fin 128) : resB m c (ix2 q (col g h a))
    = if a.val = 96 then ((-Real.log (ZA m c g h q 64) : ℝ) : EReal) else if a.val = 97 then 0 else QA m c (ix2 q (col g h a)) := by
  show (if (aOfc (col g h a)).val = 96 then ((-Real.log (ZA m c (gOf (col g h a)) (hOf (col g h a)) q 64) : ℝ) : EReal) else if (aOfc (col g h a)).val = 97 then 0 else _) = _
  rw [gOf_col, hOf_col, aOfc_col]

variable (hs : ∀ g h q k, IsReal (SA m c g h q k)) (hv : ∀ y, IsReal (VA m c y)) (h1 : ∀ k g h, VA m c (ix2 k (col g h 64)) = 1)
include hs hv h1

theorem block_s (t : Fin cfg0.N) (h r k) : IsReal (bs (iblk m c 0 t) (iblk m c 1 t) h r k) := by
  rw [bs_eq]; exact hs _ _ _ _
theorem block_v (t : Fin cfg0.N) (y : S4096x512.Idx) : IsReal ((iblk m c 2 t : Vec Ideal S4096x512 .bf16) y) := by
  idx_vars y
  obtain ⟨h, a, rfl⟩ := lane_surj y1
  rw [iblk2]; exact hv _
theorem block_1 (t : Fin cfg0.N) (k h) : Eq (α := EReal) ((iblk m c 2 t : Vec Ideal S4096x512 .bf16) (ix2 k (lane h 64))) 1 := by
  rw [iblk2]; exact h1 _ _ _

theorem outs_o (t : Fin cfg0.N) (u j h a) : (outsAt0 m c t).1 (ix2 (hrow u j) (lane h a))
    = ((ZA m c (grp t) h (brow (qb (grid0.coords t)) (hrow u j)) a / ZA m c (grp t) h (brow (qb (grid0.coords t)) (hrow u j)) 64 : ℝ) : EReal) := by
  unfold outsAt0
  dsimp only
  rw [o_at (hs := block_s m c hs hv h1 t) (hv := block_v m c hs hv h1 t) (h1 := block_1 m c hs hv h1 t), full_eq, full_eq]

theorem outs_b (t : Fin cfg0.N) (u j h a) : (outsAt0 m c t).2 (ix2 (hrow u j) (lane h a))
    = if a.val = 96 then ((-Real.log (ZA m c (grp t) h (brow (qb (grid0.coords t)) (hrow u j)) 64) : ℝ) : EReal) else if a.val = 97 then 0
      else QA m c (ix2 (brow (qb (grid0.coords t)) (hrow u j)) (col (grp t) h a)) := by
  unfold outsAt0
  dsimp only
  rw [b_at (hs := block_s m c hs hv h1 t) (hv := block_v m c hs hv h1 t) (h1 := block_1 m c hs hv h1 t), full_eq, iblk0]

theorem final3 : (dats m 0 c).arrAt 3 (cfgs 0).N = resO m c := by
  refine (dats m 0 c).arrAt_eq_of_covers 3 _ (by decide +kernel) fun t _ y => ?_
  blk_simp
  rw [after0_3]
  idx_vars y
  obtain ⟨h, a, rfl⟩ := lane_surj y1
  obtain ⟨u, j, rfl⟩ := hrow_surj y0
  have e : (win0_3.blk t).view.emb (ix2 (hrow u j) (lane h a)) = ix2 (brow (qb (grid0.coords t)) (hrow u j)) (col (grp t) h a) := by
    blk_ext [idx t]
    all_goals
      simp only [lane, col, grp, brow, hrow, qb_val]
      omega
  rw [e, resO_apply]
  exact outs_o m c hs hv h1 t u j h a

theorem final4 : (dats m 0 c).arrAt 4 (cfgs 0).N = resB m c := by
  refine (dats m 0 c).arrAt_eq_of_covers 4 _ (by decide +kernel) fun t _ y => ?_
  blk_simp
  rw [after0_4]
  idx_vars y
  obtain ⟨h, a, rfl⟩ := lane_surj y1
  obtain ⟨u, j, rfl⟩ := hrow_surj y0
  have e : (win0_4.blk t).view.emb (ix2 (hrow u j) (lane h a)) = ix2 (brow (qb (grid0.coords t)) (hrow u j)) (col (grp t) h a) := by
    blk_ext [idx t]
    all_goals
      simp only [lane, col, grp, brow, hrow, qb_val]
      omega
  rw [e, resB_apply]
  exact outs_b m c hs hv h1 t u j h a

end Cert.FlashIdeal.Own
end
-- ==== Proof.FlashPack.lean ====
/- The three packed arrays that the host hands to the attention's forward call, and their lanes as the program's arguments. -/
module

public import proofs.«01_k».proof.Proof.FlashFinal
public import proofs.«01_k».proof.Proof.AttnResult

@[expose] public section

set_option maxRecDepth 16384

noncomputable section

namespace Cert.FlashIdeal.Own

open Cert.FlashIdeal.Gen Cert.Finite
open Cert.AttnIdeal.Own (concat3 concat4 hd hd_surj)
open Cert.AttnRefIdeal.Own (scale isReal_scale)
open Idealize.ShloMosaic Idealize.ShloMosaic.TcCoe Idealize.ShloMosaic.Tactic Idealize.SL.Sem

/-- Queries: the two scaled parts and zeros. -/
def packQ (x0 : FVec Ideal S4096x8x64 .f32) (x1 : FVec Ideal S4096x8x32 .f32) : FVec Ideal S4096x1024 .bf16 :=
  shapeCast S4096x1024 (concatenate S4096x8x128 2
    [⟨S4096x8x64, (truncf .bf16 (mulf x0 (broadcastInDim S4096x8x64 ![] bcast_S_S4096x8x64 (constant S_ .f32 0x3DD105EC#32))) bitsLt_bf16_f32 : FVec Ideal S4096x8x64 .bf16)⟩,
     ⟨S4096x8x32, (truncf .bf16 (mulf x1 (broadcastInDim S4096x8x32 ![] bcast_S_S4096x8x32 (constant S_ .f32 0x3DD105EC#32))) bitsLt_bf16_f32 : FVec Ideal S4096x8x32 .bf16)⟩,
     ⟨S4096x8x32, (truncf .bf16 (broadcastInDim S4096x8x32 ![] bcast_S_S4096x8x32 (constant (F := Ideal) S_ .f32 0x00000000#32)) bitsLt_bf16_f32 : FVec Ideal S4096x8x32 .bf16)⟩]
    concatenates_S4096x8x64_S4096x8x32_S4096x8x32_S4096x8x128_d2) shapeCasts_S4096x8x128_S4096x1024

/-- Keys: the two parts, two ones, zeros. -/
def packK (x2 : FVec Ideal S4096x8x64 .f32) (x3 : FVec Ideal S4096x32 .f32) : FVec Ideal S4096x1024 .bf16 :=
  shapeCast S4096x1024 (concatenate S4096x8x128 2
    [⟨S4096x8x64, (truncf .bf16 x2 bitsLt_bf16_f32 : FVec Ideal S4096x8x64 .bf16)⟩,
     ⟨S4096x8x32, (truncf .bf16 (broadcastInDim S4096x8x32 ![0, 1, 2] bcast_S4096x1x32_S4096x8x32_0_1_2
        (broadcastInDim S4096x1x32 ![0, 2] bcast_S4096x32_S4096x1x32_0_2 x3)) bitsLt_bf16_f32 : FVec Ideal S4096x8x32 .bf16)⟩,
     ⟨S4096x8x2, (truncf .bf16 (broadcastInDim S4096x8x2 ![] bcast_S_S4096x8x2 (constant (F := Ideal) S_ .f32 0x3F800000#32)) bitsLt_bf16_f32 : FVec Ideal S4096x8x2 .bf16)⟩,
     ⟨S4096x8x30, (truncf .bf16 (broadcastInDim S4096x8x30 ![] bcast_S_S4096x8x30 (constant (F := Ideal) S_ .f32 0x00000000#32)) bitsLt_bf16_f32 : FVec Ideal S4096x8x30 .bf16)⟩]
    concatenates_S4096x8x64_S4096x8x32_S4096x8x2_S4096x8x30_S4096x8x128_d2) shapeCasts_S4096x8x128_S4096x1024

/-- Values: themselves, two ones, zeros. -/
def packV (x4 : FVec Ideal S4096x8x64 .f32) : FVec Ideal S4096x1024 .bf16 :=
  shapeCast S4096x1024 (concatenate S4096x8x128 2
    [⟨S4096x8x64, (truncf .bf16 x4 bitsLt_bf16_f32 : FVec Ideal S4096x8x64 .bf16)⟩,
     ⟨S4096x8x2, (truncf .bf16 (broadcastInDim S4096x8x2 ![] bcast_S_S4096x8x2 (constant (F := Ideal) S_ .f32 0x3F800000#32)) bitsLt_bf16_f32 : FVec Ideal S4096x8x2 .bf16)⟩,
     ⟨S4096x8x62, (truncf .bf16 (broadcastInDim S4096x8x62 ![] bcast_S_S4096x8x62 (constant (F := Ideal) S_ .f32 0x00000000#32)) bitsLt_bf16_f32 : FVec Ideal S4096x8x62 .bf16)⟩]
    concatenates_S4096x8x64_S4096x8x2_S4096x8x62_S4096x8x128_d2) shapeCasts_S4096x8x128_S4096x1024

variable (m : (ℓ : Loc nD τ sig) → Buf (Elt Ideal) ℓ) (c : Dev nD)

/-- The program's arguments on device `c`. -/
abbrev X0 : FVec Ideal S4096x8x64 .f32 := m ((c.tc : Thread nD τ).loc main_arg0)
abbrev X1 : FVec Ideal S4096x8x32 .f32 := m ((c.tc : Thread nD τ).loc main_arg1)
abbrev X2 : FVec Ideal S4096x8x64 .f32 := m ((c.tc : Thread nD τ).loc main_arg2)
abbrev X3 : FVec Ideal S4096x32 .f32 := m ((c.tc : Thread nD τ).loc main_arg3)
abbrev X4 : FVec Ideal S4096x8x64 .f32 := m ((c.tc : Thread nD τ).loc main_arg4)

/-- The host's operations before the call. -/
theorem before (b : Ref sig .tc) : V m c b = StableHlo.after
    ((hostOps0 ++ []) : List (HloOp τ sig (Elt Ideal))) (fun b => m (c, b)) (Proc.devRef .tc b) := rfl

theorem QA_eq : QA m c = packQ (X0 m c) (X1 m c) := by
  show V m c main_v11 = _
  rw [before]
  simp only [hostOps0, List.cons_append, List.nil_append, List.append_nil]
  after_results_simp
  refine congrArg (fun z => shapeCast S4096x1024 z shapeCasts_S4096x8x128_S4096x1024) (concat3 _ _ ?_ ?_ ?_)
  · change HloOp.result _ _ (Proc.devRef .tc main_v7) = _
    after_results_simp
    try rfl
  · change HloOp.result _ _ (Proc.devRef .tc main_v8) = _
    after_results_simp
    try rfl
  · change HloOp.result _ _ (Proc.devRef .tc main_v9) = _
    after_results_simp
    try rfl

theorem KA_eq : KA m c = packK (X2 m c) (X3 m c) := by
  show V m c main_v19 = _
  rw [before]
  simp only [hostOps0, List.cons_append, List.nil_append, List.append_nil]
  after_results_simp
  refine congrArg (fun z => shapeCast S4096x1024 z shapeCasts_S4096x8x128_S4096x1024) (concat4 _ _ ?_ ?_ ?_ ?_)
  · change HloOp.result _ _ (Proc.devRef .tc main_v14) = _
    after_results_simp
    try rfl
  · change HloOp.result _ _ (Proc.devRef .tc main_v15) = _
    after_results_simp
    try rfl
  · change HloOp.result _ _ (Proc.devRef .tc main_v16) = _
    after_results_simp
    try rfl
  · change HloOp.result _ _ (Proc.devRef .tc main_v17) = _
    after_results_simp
    try rfl

theorem VA_eq : VA m c = packV (X4 m c) := by
  show V m c main_v26 = _
  rw [before]
  simp only [hostOps0, List.cons_append, List.nil_append, List.append_nil]
  after_results_simp
  refine congrArg (fun z => shapeCast S4096x1024 z shapeCasts_S4096x8x128_S4096x1024) (concat3 _ _ ?_ ?_ ?_)
  · change HloOp.result _ _ (Proc.devRef .tc main_v22) = _
    after_results_simp
    try rfl
  · change HloOp.result _ _ (Proc.devRef .tc main_v23) = _
    after_results_simp
    try rfl
  · change HloOp.result _ _ (Proc.devRef .tc main_v24) = _
    after_results_simp
    try rfl

theorem cast_col (X : S4096x8x128.Idx → EReal) (e) (q : Fin 4096) (g h) (a : Fin 128) :
    shapeCast S4096x1024 X e (ix2 q (col g h a)) = X (ix3 q (hd g h) a) := by
  pointwise []
  congr 2 <;> (apply Fin.ext; simp only [col, hd]; omega)

section Lanes
variable (x0 : FVec Ideal S4096x8x64 .f32) (x1 : FVec Ideal S4096x8x32 .f32) (x2 : FVec Ideal S4096x8x64 .f32) (x3 : FVec Ideal S4096x32 .f32)
    (x4 : FVec Ideal S4096x8x64 .f32) (q : Fin 4096) (g : Fin 2) (h : Fin 4) (d : Fin 64) (r : Fin 32)

theorem packQ_nope : packQ x0 x1 (ix2 q (col g h ⟨d.1, by omega⟩)) = x0 (ix3 q (hd g h) d) * scale := by
  rw [packQ, cast_col]; pointwise [scale]
theorem packQ_rope : packQ x0 x1 (ix2 q (col g h ⟨64 + r.1, by omega⟩)) = x1 (ix3 q (hd g h) r) * scale := by
  rw [packQ, cast_col]; pointwise [scale]
theorem packQ_zero (i : Fin 32) : packQ x0 x1 (ix2 q (col g h ⟨96 + i.1, by omega⟩)) = 0 := by
  rw [packQ, cast_col]; pointwise []
  repeat rw [dif_neg (by omega)]

theorem packK_nope : packK x2 x3 (ix2 q (col g h ⟨d.1, by omega⟩)) = x2 (ix3 q (hd g h) d) := by
  rw [packK, cast_col]; pointwise []
theorem packK_rope : packK x2 x3 (ix2 q (col g h ⟨64 + r.1, by omega⟩)) = x3 (ix2 q r) := by
  rw [packK, cast_col]; pointwise []

theorem packV_val : packV x4 (ix2 q (col g h ⟨d.1, by omega⟩)) = x4 (ix3 q (hd g h) d) := by
  rw [packV, cast_col]; pointwise []
theorem packV_one : packV x4 (ix2 q (col g h 64)) = 1 := by
  rw [packV, cast_col]; pointwise []

theorem lt_of_val (a : Fin 128) (e1 : a.val < 64) : packV x4 (ix2 q (col g h a)) = x4 (ix3 q (hd g h) ⟨a.val, e1⟩) :=
  packV_val x4 q g h ⟨a.val, e1⟩
theorem packV_ones (i : Fin 2) : packV x4 (ix2 q (col g h ⟨64 + i.1, by omega⟩)) = 1 := by
  rw [packV, cast_col]; pointwise []
theorem packV_zeros (i : Fin 62) : packV x4 (ix2 q (col g h ⟨66 + i.1, by omega⟩)) = 0 := by
  rw [packV, cast_col]; pointwise []
  repeat rw [dif_neg (by omega)]
theorem ones (a : Fin 128) (e1 : ¬ a.val < 64) (e2 : a.val < 66) : packV x4 (ix2 q (col g h a)) = 1 :=
  (congrArg (fun z => packV x4 (ix2 q (col g h z))) (Fin.ext (by show a.val = 64 + (a.val - 64); omega))).trans (packV_ones x4 q g h ⟨a.val - 64, by omega⟩)
theorem zeros (a : Fin 128) (e2 : ¬ a.val < 66) : packV x4 (ix2 q (col g h a)) = 0 :=
  (congrArg (fun z => packV x4 (ix2 q (col g h z))) (Fin.ext (by show a.val = 66 + (a.val - 66); omega))).trans (packV_zeros x4 q g h ⟨a.val - 66, by omega⟩)

theorem isReal_packV (hx4 : ∀ i, IsReal (x4 i)) (y : S4096x1024.Idx) : IsReal (packV x4 y) := by
  idx_vars y
  obtain ⟨g, h, a, rfl⟩ := col_surj y1
  by_cases e1 : a.val < 64
  · exact lt_of_val x4 y0 g h a e1 ▸ hx4 _
  · by_cases e2 : a.val < 66
    · rw [ones x4 y0 g h a e1 e2]; exact ⟨1, rfl⟩
    · rw [zeros x4 y0 g h a e2]; exact ⟨0, rfl⟩

end Lanes

/-- A sum over 128 lanes in the queries' pieces. -/
theorem sum_lanes (f : Fin 128 → EReal) : (∑ a, f a) = (∑ d : Fin 64, f ⟨d.1, by omega⟩) + (∑ r : Fin 32, f ⟨64 + r.1, by omega⟩)
    + ∑ i : Fin 32, f ⟨96 + i.1, by omega⟩ := by
  have e1 := Fin.sum_univ_add (a := 64) (b := 64) f
  have e2 := Fin.sum_univ_add (a := 32) (b := 32) fun i : Fin 64 => f (Fin.natAdd 64 i)
  rw [e1, e2, ← add_assoc]
  have e : ∀ i : Fin 32, (Fin.natAdd 64 (Fin.natAdd 32 i) : Fin 128) = ⟨96 + i.1, by omega⟩ := fun i => by
    apply Fin.ext; simp; omega
  simp only [e]
  rfl

end Cert.FlashIdeal.Own
end
-- ==== Proof.FlashResult.lean ====
/- The attention's forward call: what the kernel's program returns is what the reference returns. -/
module

public import proofs.«01_k».proof.Proof.FlashPack
public import proofs.«01_k».proof.Proof.Gen.FlashRefIdeal.Read

@[expose] public section

set_option maxRecDepth 16384

noncomputable section

namespace Cert.FlashRefIdeal.Own

open Cert.FlashRefIdeal Cert.FlashRefIdeal.Gen Cert.FlashRefIdeal.Read
open Cert.AttnRefIdeal.Own (scale)
open Idealize.ShloMosaic Idealize.ShloMosaic.TcCoe Idealize.ShloMosaic.Tactic Idealize.SL.Sem

variable (x0 : FVec Ideal S4096x8x64 .f32) (x1 : FVec Ideal S4096x8x32 .f32) (x2 : FVec Ideal S4096x8x64 .f32) (x3 : FVec Ideal S4096x32 .f32)
    (x4 : FVec Ideal S4096x8x64 .f32) (H : Fin 8) (q k : Fin 4096) (d : Fin 64) (r : Fin 32)

/-- The masked scores and their rows' maxima are those of the gradient's reference, both times that the program computes them. -/
theorem masked_eq : val_main_v12 (F := Ideal) x0 x1 x2 x3 = Cert.AttnRefIdeal.Read.val_main_v12_0 (F := Ideal) x0 x1 x2 x3 := rfl
theorem max_eq : val_main_v13 (F := Ideal) x0 x1 x2 x3 = Cert.AttnRefIdeal.Read.val_main_v13 (F := Ideal) x0 x1 x2 x3 := rfl
theorem masked_eq' : val_main_v36 (F := Ideal) x0 x1 x2 x3 = Cert.AttnRefIdeal.Read.val_main_v12_0 (F := Ideal) x0 x1 x2 x3 := rfl
theorem max_eq' : val_main_v37 (F := Ideal) x0 x1 x2 x3 = Cert.AttnRefIdeal.Read.val_main_v13 (F := Ideal) x0 x1 x2 x3 := rfl

theorem max_apply : val_main_v39 (F := Ideal) x0 x1 x2 x3 (ix2 H q) = Cert.AttnRefIdeal.Read.val_main_v13 (F := Ideal) x0 x1 x2 x3 (ix2 H q) := by
  rw [val_main_v39_apply, max_eq']
  generalize Cert.AttnRefIdeal.Read.val_main_v13 (F := Ideal) x0 x1 x2 x3 (ix2 H q) = y
  have e : val_main_v38 (F := Ideal) (ix2 H q) = ⊥ := by
    pointwise [val_main_v38, val_main_cst_6]
    exact Cert.AttnRefIdeal.Own.ofBits_neg_inf
  rw [e]
  exact max_eq_right bot_le
theorem weight_eq : val_main_v43 (F := Ideal) x0 x1 x2 x3 (ix3 H q k) = Cert.AttnRefIdeal.Read.val_main_v33 (F := Ideal) x0 x1 x2 x3 (ix3 H q k) := by
  rw [Cert.AttnRefIdeal.Own.expo_apply, ← masked_eq', ← max_apply]
  pointwise [val_main_v43, val_main_v42, val_main_v41, val_main_v40]
theorem prob_apply : val_main_v47 (F := Ideal) x0 x1 x2 x3 (ix3 H q k)
    = Ideal.div (Cert.AttnRefIdeal.Read.val_main_v33 (F := Ideal) x0 x1 x2 x3 (ix3 H q k))
        (∑ j : Fin 4096, Cert.AttnRefIdeal.Read.val_main_v33 (F := Ideal) x0 x1 x2 x3 (ix3 H q j)) := by
  rw [← weight_eq, Finset.sum_congr rfl fun j _ => (weight_eq x0 x1 x2 x3 H q j).symm]
  pointwise [val_main_v47, val_main_v46, val_main_v45, val_main_v44, val_main_cst_7]

theorem out_apply : val_main_v50 (F := Ideal) x0 x1 x2 x3 x4 (ix2 q ⟨H.val * 64 + d.val, by omega⟩)
    = ∑ k : Fin 4096, x4 (ix3 k H d) * val_main_v47 (F := Ideal) x0 x1 x2 x3 (ix3 H q k) := by
  pointwise [val_main_v50, val_main_v49, val_main_v48]
theorem expo_apply : val_main_v17 (F := Ideal) x0 x1 x2 x3 (ix3 H q k)
    = Ideal.exp (val_main_v12 (F := Ideal) x0 x1 x2 x3 (ix3 H q k) - val_main_v13 (F := Ideal) x0 x1 x2 x3 (ix2 H q)) := by
  pointwise [val_main_v17, val_main_v16, val_main_v15, val_main_v14]
theorem expo_eq : val_main_v17 (F := Ideal) x0 x1 x2 x3 (ix3 H q k) = Cert.AttnRefIdeal.Read.val_main_v33 (F := Ideal) x0 x1 x2 x3 (ix3 H q k) := by
  rw [expo_apply, Cert.AttnRefIdeal.Own.expo_apply, masked_eq, max_eq]
/-- A row's negated log-sum, from its exponentials and its maximum. -/
def negLse (E : FVec Ideal S8x4096x4096 .f32) (M : FVec Ideal S8x4096 .f32) : FVec Ideal S4096x8 .f32 :=
  Host.negf (transpose S4096x8 [1, 0] (shapeCast S8x4096 (addf (broadcastInDim S8x4096x1 ![0, 1] bcast_S8x4096_S8x4096x1_0_1 M)
    (Host.log (broadcastInDim S8x4096x1 ![0, 1] bcast_S8x4096_S8x4096x1_0_1
      (Host.reduceAdd (F := Ideal) E (constant S_ .f32 0x00000000#32) reducesTo_S8x4096x4096_S8x4096_d2 h_S_)))) shapeCasts_S8x4096x1_S8x4096)
    transposes_S8x4096_S4096x8_1_0)
theorem negLse_apply (E M) : negLse E M (ix2 q H) = -(M (ix2 H q) + Ideal.log (∑ k : Fin 4096, E (ix3 H q k))) := by
  pointwise [negLse]
theorem lse_apply : val_main_v51 (F := Ideal) x0 x1 x2 x3 (ix2 q H)
    = -(val_main_v13 (F := Ideal) x0 x1 x2 x3 (ix2 H q) + Ideal.log (∑ k : Fin 4096, val_main_v17 (F := Ideal) x0 x1 x2 x3 (ix3 H q k))) := by
  have e : val_main_v51 (F := Ideal) x0 x1 x2 x3 = negLse (val_main_v17 (F := Ideal) x0 x1 x2 x3) (val_main_v13 (F := Ideal) x0 x1 x2 x3) := rfl
  rw [e, negLse_apply]
theorem qn_apply : val_main_v53 (F := Ideal) x0 (ix3 q H d) = x0 (ix3 q H d) * scale := by
  pointwise [val_main_v53, val_main_v52, val_main_cst_8, scale]
theorem qr_apply : val_main_v55 (F := Ideal) x1 (ix3 q H r) = x1 (ix3 q H r) * scale := by
  pointwise [val_main_v55, val_main_v54, val_main_cst_9, scale]

end Cert.FlashRefIdeal.Own

namespace Cert.FlashIdeal.Own

open Cert.FlashIdeal.Gen Cert.Softmax Cert.Finite
open Cert.AttnIdeal.Own (hd hd_surj sum_mul_real)
open Cert.AttnRefIdeal.Own (scale isReal_scale)
open Cert.FlashRefIdeal.Read
open Idealize.ShloMosaic Idealize.ShloMosaic.TcCoe Idealize.ShloMosaic.Tactic Idealize.SL.Sem

section Tail
variable (R : FVec Ideal S4096x1024 .bf16) (q : Fin 4096) (g : Fin 2) (h : Fin 4) (d : Fin 64) (r : Fin 32)

/-- The array by heads, and the returned pieces of the call's arrays: the output, -/
def byHead : FVec Ideal S4096x8x128 .f32 := shapeCast S4096x8x128 (extf .f32 R bitsLt_bf16_f32 : FVec Ideal S4096x1024 .f32) shapeCasts_S4096x1024_S4096x8x128
def outT : FVec Ideal S4096x512 .f32 := shapeCast S4096x512 (extractStridedSlice S4096x8x64 ![0, 0, 0] (byHead R) slices_S4096x8x128_S4096x8x64_0_0_0) shapeCasts_S4096x8x64_S4096x512
/-- the rows' negated log-sums, -/
def lseT : FVec Ideal S4096x8 .f32 :=
  addf (shapeCast S4096x8 (extractStridedSlice S4096x8x1 ![0, 0, 96] (byHead R) slices_S4096x8x128_S4096x8x1_0_0_96) shapeCasts_S4096x8x1_S4096x8)
    (shapeCast S4096x8 (extractStridedSlice S4096x8x1 ![0, 0, 97] (byHead R) slices_S4096x8x128_S4096x8x1_0_0_97) shapeCasts_S4096x8x1_S4096x8)
/-- and the scaled queries. -/
def nopeT : FVec Ideal S4096x8x64 .f32 := extractStridedSlice S4096x8x64 ![0, 0, 0] (byHead R) slices_S4096x8x128_S4096x8x64_0_0_0
def ropeT : FVec Ideal S4096x8x32 .f32 := extractStridedSlice S4096x8x32 ![0, 0, 64] (byHead R) slices_S4096x8x128_S4096x8x32_0_0_64

theorem byHead_apply (a : Fin 128) : byHead R (ix3 q (hd g h) a) = R (ix2 q (col g h a)) := by
  pointwise [byHead]
  congr 2; apply Fin.ext; simp only [col, hd]; omega
theorem outT_apply (H : Fin 8) : outT R (ix2 q ⟨H.val * 64 + d.val, by omega⟩) = byHead R (ix3 q H ⟨d.1, by omega⟩) := by
  generalize hB : byHead R = B
  pointwise [outT, hB]
theorem lseT_apply (H : Fin 8) : lseT R (ix2 q H) = byHead R (ix3 q H 96) + byHead R (ix3 q H 97) := by
  generalize hB : byHead R = B
  pointwise [lseT, hB]
theorem nopeT_apply (H : Fin 8) : nopeT R (ix3 q H d) = byHead R (ix3 q H ⟨d.1, by omega⟩) := by
  generalize hB : byHead R = B
  pointwise [nopeT, hB]
theorem ropeT_apply (H : Fin 8) : ropeT R (ix3 q H r) = byHead R (ix3 q H ⟨64 + r.1, by omega⟩) := by
  generalize hB : byHead R = B
  pointwise [ropeT, hB]

end Tail

variable (m : (ℓ : Loc nD τ sig) → Buf (Elt Ideal) ℓ) (c : Dev nD)
  (hx0 : ∀ i, IsReal (X0 m c i)) (hx1 : ∀ i, IsReal (X1 m c i)) (hx2 : ∀ i, IsReal (X2 m c i)) (hx3 : ∀ i, IsReal (X3 m c i))
  (hx4 : ∀ i, IsReal (X4 m c i))

include hx0 hx1 hx2 hx3 in
/-- The packed lanes' inner product is the reference's score. -/
theorem SA_eq (g h q k) : SA m c g h q k
    = Cert.AttnRefIdeal.Read.val_main_v5 (F := Ideal) (X0 m c) (X1 m c) (X2 m c) (X3 m c) (ix3 (hd g h) q k) := by
  unfold SA
  rw [KA_eq, QA_eq, sum_lanes]
  simp only [packK_nope, packK_rope, packQ_nope, packQ_rope, packQ_zero, zero_mul, Finset.sum_const_zero, add_zero]
  have e1 : (∑ d : Fin 64, X0 m c (ix3 q (hd g h) d) * scale * X2 m c (ix3 k (hd g h) d))
      = (∑ d : Fin 64, X0 m c (ix3 q (hd g h) d) * X2 m c (ix3 k (hd g h) d)) * scale := by
    rw [← sum_mul_real _ _ _ (fun i => (hx0 _).mul (hx2 _)) isReal_scale]
    exact Finset.sum_congr rfl fun d _ => by rw [mul_assoc, mul_comm scale, ← mul_assoc]
  have e2 : (∑ r : Fin 32, X1 m c (ix3 q (hd g h) r) * scale * X3 m c (ix2 k r))
      = (∑ r : Fin 32, X3 m c (ix2 k r) * X1 m c (ix3 q (hd g h) r)) * scale := by
    rw [← sum_mul_real _ _ _ (fun i => (hx3 _).mul (hx1 _)) isReal_scale]
    exact Finset.sum_congr rfl fun d _ => by rw [mul_assoc, mul_comm scale, ← mul_assoc, mul_comm (X1 m c _)]
  rw [e1, e2, Cert.AttnRefIdeal.Own.score_apply]
  obtain ⟨A, hA⟩ : IsReal (∑ d : Fin 64, X0 m c (ix3 q (hd g h) d) * X2 m c (ix3 k (hd g h) d)) := IsReal.sum _ fun i _ => (hx0 _).mul (hx2 _)
  obtain ⟨B, hB⟩ : IsReal (∑ r : Fin 32, X3 m c (ix2 k r) * X1 m c (ix3 q (hd g h) r)) := IsReal.sum _ fun i _ => (hx3 _).mul (hx1 _)
  obtain ⟨C, hC⟩ := isReal_scale
  rw [hA, hB, hC]
  simp only [← EReal.coe_mul, ← EReal.coe_add, EReal.coe_eq_coe_iff]
  ring

include hx0 hx1 hx2 hx3 in
theorem isReal_SA (g h q k) : IsReal (SA m c g h q k) := by
  rw [SA_eq m c hx0 hx1 hx2 hx3]
  exact Cert.AttnRefIdeal.Own.isReal_score _ _ _ _ _ _ _ hx0 hx1 hx2 hx3
include hx4 in
theorem isReal_VA (y) : IsReal (VA m c y) := by
  rw [VA_eq]; exact isReal_packV _ hx4 y
theorem VA_one (k g h) : VA m c (ix2 k (col g h 64)) = 1 := by
  rw [VA_eq, packV_one]

include hx0 hx1 hx2 hx3 in
/-- A row of the reference in the weights `exp s` of the kernel: the maximum `μ` taken off the scores is a factor `exp (-μ)` of each. -/
theorem ref_row (g h q) : ∃ μ : ℝ,
    Cert.AttnRefIdeal.Read.val_main_v13 (F := Ideal) (X0 m c) (X1 m c) (X2 m c) (X3 m c) (ix2 (hd g h) q) = μ
    ∧ (∀ k, Cert.AttnRefIdeal.Read.val_main_v33 (F := Ideal) (X0 m c) (X1 m c) (X2 m c) (X3 m c) (ix3 (hd g h) q k)
        = ((Real.exp (-μ) * wt (SM m c g h q k) : ℝ) : EReal))
    ∧ ZA m c g h q 64 = ∑ k, wt (SM m c g h q k) ∧ 0 < ZA m c g h q 64 := by
  obtain ⟨s, μ, hs, hμ, hE, hZ⟩ := Cert.AttnRefIdeal.Own.row (X0 m c) (X1 m c) (X2 m c) (X3 m c) (hd g h) q hx0 hx1 hx2 hx3
  have hw : ∀ k, wt (SM m c g h q k) = if k.val ≤ q.val then Real.exp (s k) else 0 := fun k => by
    unfold SM
    split
    · rw [SA_eq m c hx0 hx1 hx2 hx3, hs, wt, Ideal.exp_coe, EReal.toReal_coe]
    · rw [wt_bot]
  have hA : ZA m c g h q 64 = ∑ k, wt (SM m c g h q k) := by
    unfold ZA
    exact Finset.sum_congr rfl fun k _ => by rw [VA_one, EReal.toReal_one, mul_one]
  refine ⟨μ, hμ, fun k => ?_, hA, ?_⟩
  · rw [hE, hw]
    refine EReal.coe_eq_coe_iff.2 ?_
    split
    · rw [← Real.exp_add]; exact congrArg Real.exp (by ring)
    · rw [mul_zero]
  · rw [hA]
    refine Finset.sum_pos' (fun k _ => ?_) ⟨q, Finset.mem_univ q, ?_⟩
    · rw [hw]; split
      · exact (Real.exp_pos _).le
      · exact le_rfl
    · rw [hw, if_pos le_rfl]; exact Real.exp_pos _

include hx0 hx1 hx2 hx3 in
theorem lse_same : lseT (resB m c) = val_main_v51 (F := Ideal) (X0 m c) (X1 m c) (X2 m c) (X3 m c) := by
  funext j; idx_vars j
  obtain ⟨g, h, rfl⟩ := hd_surj j1
  obtain ⟨μ, hμ, hE, hA, hZ⟩ := ref_row m c hx0 hx1 hx2 hx3 g h j0
  rw [lseT_apply, byHead_apply, byHead_apply, resB_apply, resB_apply, if_pos (by decide), if_neg (by decide), if_pos (by decide), add_zero,
    Cert.FlashRefIdeal.Own.lse_apply]
  rw [Finset.sum_congr rfl fun k _ => (Cert.FlashRefIdeal.Own.expo_eq (X0 m c) (X1 m c) (X2 m c) (X3 m c) (hd g h) j0 k).trans (hE k)]
  rw [Cert.FlashRefIdeal.Own.max_eq, hμ, ← coe_sum, ← Finset.mul_sum, ← hA, Ideal.log_coe,
    if_neg (not_le.2 (mul_pos (Real.exp_pos _) hZ)), ← EReal.coe_add, ← EReal.coe_neg, Real.log_mul (Real.exp_pos _).ne' hZ.ne', Real.log_exp]
  refine EReal.coe_eq_coe_iff.2 ?_
  ring

include hx0 hx1 hx2 hx3 hx4 in
theorem out_same : outT (resO m c) = val_main_v50 (F := Ideal) (X0 m c) (X1 m c) (X2 m c) (X3 m c) (X4 m c) := by
  funext j; idx_vars j
  obtain ⟨H, d, rfl⟩ : ∃ (H : Fin 8) (d : Fin 64), j1 = ⟨H.val * 64 + d.val, by omega⟩ :=
    ⟨⟨j1.val / 64, by omega⟩, ⟨j1.val % 64, by omega⟩, Fin.ext (by simp only []; omega)⟩
  obtain ⟨g, h, rfl⟩ := hd_surj H
  obtain ⟨μ, hμ, hE, hA, hZ⟩ := ref_row m c hx0 hx1 hx2 hx3 g h j0
  choose v hv using hx4
  rw [outT_apply, byHead_apply, resO_apply, Cert.FlashRefIdeal.Own.out_apply]
  have hS : (∑ k : Fin 4096, Cert.AttnRefIdeal.Read.val_main_v33 (F := Ideal) (X0 m c) (X1 m c) (X2 m c) (X3 m c) (ix3 (hd g h) j0 k))
      = ((Real.exp (-μ) * ZA m c g h j0 64 : ℝ) : EReal) := by
    rw [Finset.sum_congr rfl fun k _ => hE k, ← coe_sum, ← Finset.mul_sum, ← hA]
  have hP : ∀ k, X4 m c (ix3 k (hd g h) d) * val_main_v47 (F := Ideal) (X0 m c) (X1 m c) (X2 m c) (X3 m c) (ix3 (hd g h) j0 k)
      = ((wt (SM m c g h j0 k) * v (ix3 k (hd g h) d) / ZA m c g h j0 64 : ℝ) : EReal) := fun k => by
    rw [Cert.FlashRefIdeal.Own.prob_apply, hS, hE, hv, Ideal.div_coe (mul_pos (Real.exp_pos _) hZ).ne',
      ← EReal.coe_mul, ← EReal.coe_mul]
    refine EReal.coe_eq_coe_iff.2 ?_
    have := (Real.exp_pos (-μ)).ne'
    have := hZ.ne'
    field_simp
  rw [Finset.sum_congr rfl fun k _ => hP k, ← coe_sum, ← Finset.sum_div]
  refine EReal.coe_eq_coe_iff.2 (congrArg (· / _) ?_)
  unfold ZA
  exact Finset.sum_congr rfl fun k _ => by rw [VA_eq, packV_val, hv, EReal.toReal_coe]

theorem nope_same : nopeT (resB m c) = val_main_v53 (F := Ideal) (X0 m c) := by
  funext j; idx_vars j
  obtain ⟨g, h, rfl⟩ := hd_surj j1
  rw [nopeT_apply, byHead_apply, resB_apply, if_neg (by show j2.val ≠ 96; omega), if_neg (by show j2.val ≠ 97; omega), QA_eq, packQ_nope,
    Cert.FlashRefIdeal.Own.qn_apply]
theorem rope_same : ropeT (resB m c) = val_main_v55 (F := Ideal) (X1 m c) := by
  funext j; idx_vars j
  obtain ⟨g, h, rfl⟩ := hd_surj j1
  rw [ropeT_apply, byHead_apply, resB_apply, if_neg (by show 64 + j2.val ≠ 96; omega), if_neg (by show 64 + j2.val ≠ 97; omega), QA_eq, packQ_rope,
    Cert.FlashRefIdeal.Own.qr_apply]

/-- What the host's last lines leave in a buffer. -/
abbrev tail (b : Ref sig .tc) := Pipeline.afterTail₀ cfgs (dats m) 0 (V0 m) [hostOps1] c b

include hx0 hx1 hx2 hx3 hx4

theorem arr3 : (dats m 0 c).arrAt 3 (cfgs 0).N = resO m c :=
  final3 m c (isReal_SA m c hx0 hx1 hx2 hx3) (isReal_VA m c hx4) (VA_one m c)
theorem arr4 : (dats m 0 c).arrAt 4 (cfgs 0).N = resB m c :=
  final4 m c (isReal_SA m c hx0 hx1 hx2 hx3) (isReal_VA m c hx4) (VA_one m c)

theorem tail_v33 : tail m c main_v33 = outT (resO m c) := by
  unfold tail Pipeline.afterTail₀
  simp only [hostOps1, List.flatten_cons, List.flatten_nil, List.append_nil]
  after_results_simp
  refine congrArg outT (Eq.trans ?_ (arr3 m c hx0 hx1 hx2 hx3 hx4))
  exact Pipeline.withArrays_arr spec0 (by decide) c _ _ 3
theorem tail_v38 : tail m c main_v38 = lseT (resB m c) := by
  unfold tail Pipeline.afterTail₀
  simp only [hostOps1, List.flatten_cons, List.flatten_nil, List.append_nil]
  after_results_simp
  refine congrArg lseT (Eq.trans ?_ (arr4 m c hx0 hx1 hx2 hx3 hx4))
  exact Pipeline.withArrays_arr spec0 (by decide) c _ _ 4
theorem tail_v39 : tail m c main_v39 = nopeT (resB m c) := by
  unfold tail Pipeline.afterTail₀
  simp only [hostOps1, List.flatten_cons, List.flatten_nil, List.append_nil]
  after_results_simp
  refine congrArg nopeT (Eq.trans ?_ (arr4 m c hx0 hx1 hx2 hx3 hx4))
  exact Pipeline.withArrays_arr spec0 (by decide) c _ _ 4
theorem tail_v40 : tail m c main_v40 = ropeT (resB m c) := by
  unfold tail Pipeline.afterTail₀
  simp only [hostOps1, List.flatten_cons, List.flatten_nil, List.append_nil]
  after_results_simp
  refine congrArg ropeT (Eq.trans ?_ (arr4 m c hx0 hx1 hx2 hx3 hx4))
  exact Pipeline.withArrays_arr spec0 (by decide) c _ _ 4

end Cert.FlashIdeal.Own
end
-- ==== Proof.FlashClaim.lean ====
/- The claims about the attention's forward call: the frames of its programs, and the kernel's results are the reference's. -/
module

public import proofs.«01_k».proof.Defs
public import proofs.«01_k».proof.Proof.FlashResult
public import proofs.«01_k».proof.Proof.Gen.Flash.Frame
public import proofs.«01_k».proof.Proof.Gen.Pre_finite_attn_fwd
public import Idealize.ShloMosaic.Lib.Claim

@[expose] public section

set_option maxRecDepth 16384

noncomputable section

namespace Cert.FlashIdeal.Own

open Cert.FlashIdeal.Gen Cert.Finite
open Idealize.ShloMosaic Idealize.ShloMosaic.TcCoe Idealize.ShloMosaic.Tactic Idealize.SL.Sem

attribute [local instance] Cert.Flash.Gen.facts Cert.FlashIdeal.Gen.facts Cert.FlashRefIdeal.Gen.facts Cert.Pre_finite_attn_fwd.Gen.facts

theorem frame_bits : Cert.quiescent_Flash := fun m g _ => Cert.Flash.Gen.frame m g
theorem frame_ideal : Cert.quiescent_FlashIdeal := fun m g _ => Cert.FlashIdeal.Gen.frame m g

theorem frame_ref : Cert.quiescent_FlashRefIdeal := fun m g _ => by
  refine (θ_run _ _ _).mono (fun r h => ⟨fun c => (h c).2.2.2.2, sem_eq_zero_of_no_sems (sig := Cert.FlashRefIdeal.sig) rfl _⟩)
    (Cert.FlashRefIdeal.Value.run m g)

variable (m : (ℓ : Loc nD τ sig) → Buf (Elt Ideal) ℓ)
  (hx0 : ∀ c i, IsReal (X0 m c i)) (hx1 : ∀ c i, IsReal (X1 m c i)) (hx2 : ∀ c i, IsReal (X2 m c i)) (hx3 : ∀ c i, IsReal (X3 m c i))
  (hx4 : ∀ c i, IsReal (X4 m c i))

include hx0 hx1 hx2 hx3 hx4 in
/-- The kernel's program runs, its results are the host's last lines of the call's arrays, and its arguments stay. -/
theorem run_results (ρ : Dev nD → PrngReg) :
    θ_run (defs (F := Ideal)) (onTc (τ := τ) (main (F := Ideal))) ⟨m, fun _ => 0, ρ⟩ (fun r => ∀ c : Dev nD,
      r.2.mem ((c.tc : Thread nD τ).loc main_v33) = outT (resO m c)
      ∧ r.2.mem ((c.tc : Thread nD τ).loc main_v38) = lseT (resB m c)
      ∧ r.2.mem ((c.tc : Thread nD τ).loc main_v39) = nopeT (resB m c)
      ∧ r.2.mem ((c.tc : Thread nD τ).loc main_v40) = ropeT (resB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h.1 c).2 main_v33 (Pipeline.mem_restRefs_of _ (by decide) (by decide))).trans (tail_v33 m c (hx0 c) (hx1 c) (hx2 c) (hx3 c) (hx4 c)),
    ((h.1 c).2 main_v38 (Pipeline.mem_restRefs_of _ (by decide) (by decide))).trans (tail_v38 m c (hx0 c) (hx1 c) (hx2 c) (hx3 c) (hx4 c)),
    ((h.1 c).2 main_v39 (Pipeline.mem_restRefs_of _ (by decide) (by decide))).trans (tail_v39 m c (hx0 c) (hx1 c) (hx2 c) (hx3 c) (hx4 c)),
    ((h.1 c).2 main_v40 (Pipeline.mem_restRefs_of _ (by decide) (by decide))).trans (tail_v40 m c (hx0 c) (hx1 c) (hx2 c) (hx3 c) (hx4 c)),
    h.2.1 c⟩) (θ_run_and (run_main m ρ) (Cert.FlashIdeal.Gen.frame m ρ))

theorem algebraic : Cert.algebraic_FlashIdeal_FlashRefIdeal_pre_finite_attn_fwd := by
  pair_intro
  · have hx0 : ∀ c i, IsReal (X0 m c i) := fun c i => isReal_of_fin _ _ _ (hpre c).1 i
    have hx1 : ∀ c i, IsReal (X1 m c i) := fun c i => isReal_of_fin _ _ _ (hpre c).2.1 i
    have hx2 : ∀ c i, IsReal (X2 m c i) := fun c i => isReal_of_fin _ _ _ (hpre c).2.2.1 i
    have hx3 : ∀ c i, IsReal (X3 m c i) := fun c i => isReal_of_fin _ _ _ (hpre c).2.2.2.1 i
    have hx4 : ∀ c i, IsReal (X4 m c i) := fun c i => isReal_of_fin _ _ _ (hpre c).2.2.2.2 i
    run_from run_results m hx0 hx1 hx2 hx3 hx4 g
  · have hx0 : ∀ c i, IsReal (X0 m c i) := fun c i => isReal_of_fin _ _ _ (hpre c).1 i
    have hx1 : ∀ c i, IsReal (X1 m c i) := fun c i => isReal_of_fin _ _ _ (hpre c).2.1 i
    have hx2 : ∀ c i, IsReal (X2 m c i) := fun c i => isReal_of_fin _ _ _ (hpre c).2.2.1 i
    have hx3 : ∀ c i, IsReal (X3 m c i) := fun c i => isReal_of_fin _ _ _ (hpre c).2.2.2.1 i
    have hx4 : ∀ c i, IsReal (X4 m c i) := fun c i => isReal_of_fin _ _ _ (hpre c).2.2.2.2 i
    refine (θ_run _ _ _).mono (fun r h c => ?_) (Cert.FlashRefIdeal.Value.run m' g')
    obtain ⟨h0, h1, h2, h3, hr⟩ := h c
    rw [Cert.FlashRefIdeal.Read.val_main_v50_eq] at h0
    rw [Cert.FlashRefIdeal.Read.val_main_v51_eq] at h1
    rw [Cert.FlashRefIdeal.Read.val_main_v53_eq] at h2
    rw [Cert.FlashRefIdeal.Read.val_main_v55_eq] at h3
    obtain ⟨a0, a1, a2, a3, a4⟩ := hagree c
    rw [a0, a1, a2, a3, a4] at h0
    rw [a0, a1, a2, a3] at h1
    rw [a0] at h2
    rw [a1] at h3
    exact ⟨h0.trans (out_same m c (hx0 c) (hx1 c) (hx2 c) (hx3 c) (hx4 c)).symm,
      h1.trans (lse_same m c (hx0 c) (hx1 c) (hx2 c) (hx3 c)).symm,
      h2.trans (nope_same m c).symm, h3.trans (rope_same m c).symm, hr⟩

end Cert.FlashIdeal.Own

end
-- ==== Proof.Latents.lean ====
/-
  The first norm, the products for the latents and the gates, and the latents' norms: what the kernel's program returns, and
  that it is what the reference returns.
-/
module

public import proofs.«01_k».proof.Defs
public import proofs.«01_k».proof.Proof.Gen.LatentsIdeal.Frame
public import proofs.«01_k».proof.Proof.Gen.LatentsRefIdeal.Read
public import proofs.«01_k».proof.Proof.Norm
public import Idealize.ShloMosaic.Lib.Claim
public import Idealize.ShloMosaic.Lib.Pointwise

@[expose] public section

set_option maxRecDepth 16384

noncomputable section

namespace Cert.LatentsIdeal.Math

open Cert.LatentsIdeal Cert.LatentsIdeal.Gen Cert.Norm Idealize.ShloMosaic Idealize.ShloMosaic.TcCoe Idealize.SL.Sem
open Idealize.ShloMosaic.Pipeline (Dat)

variable (m : (ℓ : Loc nD τ sig) → Buf (Elt Ideal) ℓ)

/-- The row lengths as the programs write them. -/
def len : EReal := (FloatOps.ofBits (F := Ideal) .f32 0x44800000#32)
def lenQ : EReal := (FloatOps.ofBits (F := Ideal) .f32 0x43C00000#32)
def lenV : EReal := (FloatOps.ofBits (F := Ideal) .f32 0x43800000#32)

/-- A row normalised and scaled, -/
def normed {n : ℕ} (C : EReal) (h : Fin n → EReal) (w : Fin n → EReal) (j : Fin n) : EReal := h j * inv C h * w j
/-- and the product of the first norm's row with one column of the projection. -/
def prod (x w : Fin 1024 → EReal) (b : Fin 1024 → EReal) : EReal := ∑ k, normed len x w k * b k

section Ref
open Cert.LatentsRefIdeal.Read

variable (x0 : FVec Ideal S4096x1024 .f32) (x1 : FVec Ideal S1024 .f32) (x2 : FVec Ideal S1024x2728 .f32) (x3 : FVec Ideal S384 .f32) (x4 : FVec Ideal S256 .f32)

/-- Column `q` of the projection at row `r`. -/
def col (r : Fin 4096) (q : Fin 2728) : EReal := prod (fun j => x0 (ix2 r j)) (fun j => x1 (ix1 j)) fun k => x2 (ix2 k q)

theorem ref_n (r : Fin 4096) (j : Fin 1024) : val_main_v12 (F := Ideal) x0 x1 (ix2 r j) = normed len (fun j => x0 (ix2 r j)) (fun j => x1 (ix1 j)) j := by
  pointwise [val_main_v12, val_main_v11, val_main_v10, val_main_v9, val_main_v8, val_main_v7, val_main_v6, val_main_v5, val_main_v4,
    val_main_v3, val_main_v2, val_main_v1, val_main_v0, val_main_cst, val_main_cst_0, val_main_cst_1]
  rfl

theorem ref_u (r : Fin 4096) (j : Fin 1024) : val_main_v19 (F := Ideal) x0 x1 (ix2 r j) = normed len (fun j => x0 (ix2 r j)) (fun j => x1 (ix1 j)) j := by
  rw [← ref_n]
  pointwise [val_main_v19]

theorem ref_p (r : Fin 4096) (q : Fin 2728) : val_main_v13 (F := Ideal) x0 x1 x2 (ix2 r q) = col x0 x1 x2 r q := by
  pointwise [val_main_v13]
  simp only [ref_n]
  rfl

theorem ref_g (r : Fin 4096) (j : Fin 8) : val_main_v15 (F := Ideal) x0 x1 x2 (ix2 r j) = col x0 x1 x2 r ⟨2048 + j.val, by omega⟩ := by
  pointwise [val_main_v15]
  exact ref_p x0 x1 x2 r _

theorem ref_k (r : Fin 4096) (j : Fin 32) : val_main_v18 (F := Ideal) x0 x1 x2 (ix2 r j) = col x0 x1 x2 r ⟨2696 + j.val, by omega⟩ := by
  pointwise [val_main_v18]
  exact ref_p x0 x1 x2 r _

theorem ref_q (r : Fin 4096) (j : Fin 384) : val_main_v16 (F := Ideal) x0 x1 x2 (ix2 r j) = col x0 x1 x2 r ⟨2056 + j.val, by omega⟩ := by
  pointwise [val_main_v16]
  exact ref_p x0 x1 x2 r _

theorem ref_v (r : Fin 4096) (j : Fin 256) : val_main_v17 (F := Ideal) x0 x1 x2 (ix2 r j) = col x0 x1 x2 r ⟨2440 + j.val, by omega⟩ := by
  pointwise [val_main_v17]
  exact ref_p x0 x1 x2 r _

theorem ref_a (r : Fin 4096) (j : Fin 640) : val_main_v21 (F := Ideal) x0 x1 x2 (ix2 r j) = col x0 x1 x2 r ⟨2056 + j.val, by omega⟩ := by
  pointwise [val_main_v21, val_main_v20]
  split_ifs with h
  · exact ref_q x0 x1 x2 r ⟨j.val, h⟩
  all_goals
    refine (ref_v x0 x1 x2 r ⟨j.val - 384, by omega⟩).trans (congrArg (col x0 x1 x2 r) (Fin.ext ?_))
    simp only []; omega

theorem ref_qn (r : Fin 4096) (j : Fin 384) : val_main_v35 (F := Ideal) x0 x1 x2 x3 (ix2 r j)
    = normed lenQ (fun j : Fin 384 => col x0 x1 x2 r ⟨2056 + j.val, by omega⟩) (fun j => x3 (ix1 j)) j := by
  pointwise [val_main_v35, val_main_v34, val_main_v33, val_main_v32, val_main_v31, val_main_v30, val_main_v29, val_main_v28, val_main_v27,
    val_main_v26, val_main_v25, val_main_v24, val_main_v23, val_main_v22, val_main_cst_2, val_main_cst_3, val_main_cst_4]
  simp only [ref_q]
  rfl

theorem ref_vn (r : Fin 4096) (j : Fin 256) : val_main_v49 (F := Ideal) x0 x1 x2 x4 (ix2 r j)
    = normed lenV (fun j : Fin 256 => col x0 x1 x2 r ⟨2440 + j.val, by omega⟩) (fun j => x4 (ix1 j)) j := by
  pointwise [val_main_v49, val_main_v48, val_main_v47, val_main_v46, val_main_v45, val_main_v44, val_main_v43, val_main_v42, val_main_v41,
    val_main_v40, val_main_v39, val_main_v38, val_main_v37, val_main_v36, val_main_cst_5, val_main_cst_6, val_main_cst_7]
  simp only [ref_v]
  rfl

end Ref

section Blocks
variable (v0 : Vec Ideal S512x1024 .f32) (v1 : Vec Ideal S1x1024 .f32) (v17 : Vec Ideal S640x1024 .bf16) (v24 : Vec Ideal S1x384 .f32)
  (v42 : Vec Ideal S1x256 .f32) (v58 : Vec Ideal S128x1024 .bf16)

theorem pay4_apply (p : Fin 512) (j : Fin 1024) : k0_pay4 (F := Ideal) v0 v1 (ix2 p j) = normed len (fun j => v0 (ix2 p j)) (fun j => v1 (ix2 0 j)) j := by
  pointwise [k0_pay4]
  rfl

theorem pay5_apply (p : Fin 512) (j : Fin 640) : k0_pay5 (F := Ideal) v0 v1 v17 (ix2 p j)
    = prod (fun j => v0 (ix2 p j)) (fun j => v1 (ix2 0 j)) fun k => v17 (ix2 j k) := by
  pointwise [k0_pay5]
  simp only [pay4_apply]
  rfl

theorem pay3_apply (p : Fin 512) (j : Fin 128) : k0_pay3 (F := Ideal) (k0_pay4 v0 v1) v58 (ix2 p j)
    = prod (fun j => v0 (ix2 p j)) (fun j => v1 (ix2 0 j)) fun k => v58 (ix2 j k) := by
  pointwise [k0_pay3]
  simp only [pay4_apply]
  rfl

theorem pay1_apply (p : Fin 512) (j : Fin 384) : k0_pay1 (F := Ideal) (k0_pay6 v0 v1 v17 v24) (ix2 p j)
    = normed lenQ (fun j : Fin 384 => prod (fun j => v0 (ix2 p j)) (fun j => v1 (ix2 0 j)) fun k => v17 (ix2 ⟨j.val, by omega⟩ k)) (fun j => v24 (ix2 0 j)) j := by
  pointwise [k0_pay1, k0_pay6]
  simp only [pay5_apply]
  rfl

theorem pay2_apply (p : Fin 512) (j : Fin 256) : k0_pay2 (F := Ideal) (k0_pay5 v0 v1 v17) v42 (ix2 p j)
    = normed lenV (fun j : Fin 256 => prod (fun j => v0 (ix2 p j)) (fun j => v1 (ix2 0 j)) fun k => v17 (ix2 ⟨384 + j.val, by omega⟩ k)) (fun j => v42 (ix2 0 j)) j := by
  pointwise [k0_pay2]
  simp only [pay5_apply]
  rfl

end Blocks

section Arrays

/-- The arguments, by name. -/
abbrev aX (c : Dev nD) : FVec Ideal S4096x1024 .f32 := m ((c : Thread nD τ).loc main_arg0)
abbrev aW (c : Dev nD) : FVec Ideal S1024 .f32 := m ((c : Thread nD τ).loc main_arg1)
abbrev aB (c : Dev nD) : FVec Ideal S1024x2728 .f32 := m ((c : Thread nD τ).loc main_arg2)
abbrev aQ (c : Dev nD) : FVec Ideal S384 .f32 := m ((c : Thread nD τ).loc main_arg3)
abbrev aV (c : Dev nD) : FVec Ideal S256 .f32 := m ((c : Thread nD τ).loc main_arg4)

theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![t.val, 0] ∧ win0_7.index t = ![t.val, 0] ∧ win0_8.index t = ![t.val, 0]
    ∧ win0_9.index t = ![t.val, 0] ∧ win0_10.index t = ![t.val, 0] :=
  (by decide +kernel : ∀ t : Fin grid0.N, _)

/-- Row `p` of the point's block is a row of the arrays. -/
def row (t : Fin cfg0.N) (p : Fin 512) : Fin 4096 := ⟨t.val * 512 + p.val, by have := lt_of_lt_of_eq t.isLt N_0; omega⟩

/-- The host's operations before the call. -/
theorem before (c : Dev nD) (b : Ref sig .tc) : V m c b = StableHlo.after
    (hostOps0 : List (HloOp τ sig (Elt Ideal))) (fun b => m (c, b)) (Proc.devRef .tc b) := rfl

/-- The transposed projection, -/
def tr (x : FVec Ideal S1024x2728 .f32) : FVec Ideal S2728x1024 .bf16 :=
  truncf .bf16 (transpose S2728x1024 [1, 0] x transposes_S1024x2728_S2728x1024_1_0) bitsLt_bf16_f32
/-- and its rows for the gates and the rotary key, with zeros between and after. -/
def smallW (x : FVec Ideal S1024x2728 .f32) : FVec Ideal S128x1024 .bf16 :=
  concatenate S128x1024 0 [⟨S8x1024, extractStridedSlice S8x1024 ![2048, 0] (tr x) slices_S2728x1024_S8x1024_2048_0⟩,
    ⟨S56x1024, broadcastInDim S56x1024 ![] bcast_S_S56x1024 (constant (F := Ideal) S_ .bf16 0x0000#16)⟩,
    ⟨S32x1024, extractStridedSlice S32x1024 ![2696, 0] (tr x) slices_S2728x1024_S32x1024_2696_0⟩,
    ⟨S32x1024, broadcastInDim S32x1024 ![] bcast_S_S32x1024 (constant (F := Ideal) S_ .bf16 0x0000#16)⟩]
    concatenates_S8x1024_S56x1024_S32x1024_S32x1024_S128x1024_d0

theorem V_small (c : Dev nD) : V m c main_v6 = smallW (aB m c) := by
  rw [before]
  after_results_simp
  refine four_pieces _ _ ?_ ?_ ?_ ?_
  · change HloOp.result _ _ (Proc.devRef .tc main_v2) = _
    after_results_simp
    try rfl
  · change HloOp.result _ _ (Proc.devRef .tc main_v3) = _
    after_results_simp
    try rfl
  · change HloOp.result _ _ (Proc.devRef .tc main_v4) = _
    after_results_simp
    try rfl
  · change HloOp.result _ _ (Proc.devRef .tc main_v5) = _
    after_results_simp
    try rfl

theorem V_mid (c : Dev nD) : V m c main_v7 = extractStridedSlice S640x1024 ![2056, 0] (tr (aB m c)) slices_S2728x1024_S640x1024_2056_0 := by
  rw [before]
  after_results_simp
  rfl

theorem V_w (c : Dev nD) : V m c main_v8 = shapeCast S1x1024 (aW m c) shapeCasts_S1024_S1x1024 := by
  rw [before]
  after_results_simp
  rfl
theorem V_wq (c : Dev nD) : V m c main_v9 = shapeCast S1x384 (aQ m c) shapeCasts_S384_S1x384 := by
  rw [before]
  after_results_simp
  rfl
theorem V_wv (c : Dev nD) : V m c main_v10 = shapeCast S1x256 (aV m c) shapeCasts_S256_S1x256 := by
  rw [before]
  after_results_simp
  rfl

/-- The gates' columns and the rotary key's, as the call reads them. -/
theorem smallW_gate (x : FVec Ideal S1024x2728 .f32) (q : Fin 128) (j : Fin 1024) (h : q.val < 8) :
    smallW x (ix2 q j) = x (ix2 j ⟨2048 + q.val, by omega⟩) := by
  pointwise [smallW, tr]
  split_ifs <;> first | rfl | (exfalso; omega)

theorem smallW_key (x : FVec Ideal S1024x2728 .f32) (q : Fin 128) (j : Fin 1024) (h0 : 64 ≤ q.val) (h1 : q.val < 96) :
    smallW x (ix2 q j) = x (ix2 j ⟨2696 + (q.val - 64), by omega⟩) := by
  pointwise [smallW, tr]
  split_ifs <;> first | rfl | (exfalso; omega)

variable (c : Dev nD) (t : Fin cfg0.N)

theorem blk_x (p : Fin 512) (j : Fin 1024) : (show Vec Ideal S512x1024 .f32 from iblk m c 0 t) (ix2 p j) = aX m c (ix2 (row t p) j) := by
  unfold row
  blk_point [iblk, V, idx t]

theorem blk_w (j : Fin 1024) : (show Vec Ideal S1x1024 .f32 from iblk m c 1 t) (ix2 0 j) = aW m c (ix1 j) := by
  have e : (show Vec Ideal S1x1024 .f32 from iblk m c 1 t) (ix2 0 j) = (show Vec Ideal S1x1024 .f32 from V m c main_v8) (ix2 0 j) := by
    blk_point [iblk, idx t]
  rw [e, V_w]
  pointwise []

theorem blk_wq (j : Fin 384) : (show Vec Ideal S1x384 .f32 from iblk m c 4 t) (ix2 0 j) = aQ m c (ix1 j) := by
  have e : (show Vec Ideal S1x384 .f32 from iblk m c 4 t) (ix2 0 j) = (show Vec Ideal S1x384 .f32 from V m c main_v9) (ix2 0 j) := by
    blk_point [iblk, idx t]
  rw [e, V_wq]
  pointwise []

theorem blk_wv (j : Fin 256) : (show Vec Ideal S1x256 .f32 from iblk m c 5 t) (ix2 0 j) = aV m c (ix1 j) := by
  have e : (show Vec Ideal S1x256 .f32 from iblk m c 5 t) (ix2 0 j) = (show Vec Ideal S1x256 .f32 from V m c main_v10) (ix2 0 j) := by
    blk_point [iblk, idx t]
  rw [e, V_wv]
  pointwise []

theorem blk_a (q : Fin 640) (k : Fin 1024) : (show Vec Ideal S640x1024 .bf16 from iblk m c 2 t) (ix2 q k) = aB m c (ix2 k ⟨2056 + q.val, by omega⟩) := by
  have e : (show Vec Ideal S640x1024 .bf16 from iblk m c 2 t) (ix2 q k) = (show FVec Ideal S640x1024 .bf16 from V m c main_v7) (ix2 q k) := by
    blk_point [iblk, idx t]
  rw [e, V_mid]; pointwise [tr]

theorem blk_s (q : Fin 128) (k : Fin 1024) : (show Vec Ideal S128x1024 .bf16 from iblk m c 3 t) (ix2 q k) = smallW (aB m c) (ix2 q k) := by
  rw [← V_small]; blk_point [iblk, idx t]

/-- The product in a block is the product of the arrays' row. -/
theorem blk_prod (p : Fin 512) (b b' : Fin 1024 → EReal) (h : ∀ k, b k = b' k) :
    prod (fun j => (show Vec Ideal S512x1024 .f32 from iblk m c 0 t) (ix2 p j)) (fun j => (show Vec Ideal S1x1024 .f32 from iblk m c 1 t) (ix2 0 j)) b
      = prod (fun j => aX m c (ix2 (row t p) j)) (fun j => aW m c (ix1 j)) b' :=
  congr (congr (congrArg prod (funext fun j => blk_x m c t p j)) (funext fun j => blk_w m c t j)) (funext h)

/-- The gates' and the rotary key's columns side by side, as the call leaves them. -/
def gates : FVec Ideal S4096x128 .f32 :=
  fun i => prod (fun j => aX m c (ix2 (i 0) j)) (fun j => aW m c (ix1 j)) fun k => smallW (aB m c) (ix2 (i 1) k)

theorem pt6 (y : S512x1024.Idx) (i : S4096x1024.Idx) (h0 : (i 0 : ℕ) = t.val * 512 + y 0) (h1 : (i 1 : ℕ) = y 1) :
    k0_pay4 (F := Ideal) (iblk m c 0 t) (iblk m c 1 t) y = Cert.LatentsRefIdeal.Read.val_main_v19 (F := Ideal) (aX m c) (aW m c) i := by
  have e0 : y = ix2 (y 0) (y 1) := by idx_vars y; rfl
  have e1 : i = ix2 (row t (y 0)) (y 1) := by
    idx_vars i
    congr 1
    · exact Fin.ext h0
    · exact Fin.ext h1
  rw [e1, e0]
  refine Eq.trans ?_ (ref_u _ _ (row t (y 0)) (y 1)).symm
  refine (pay4_apply (iblk m c 0 t) (iblk m c 1 t) (y 0) (y 1)).trans ?_
  exact congrFun (congr (congrArg (normed len) (funext fun j => blk_x m c t (y 0) j)) (funext fun j => blk_w m c t j)) (y 1)

theorem pt7 (y : S512x640.Idx) (i : S4096x640.Idx) (h0 : (i 0 : ℕ) = t.val * 512 + y 0) (h1 : (i 1 : ℕ) = y 1) :
    k0_pay5 (F := Ideal) (iblk m c 0 t) (iblk m c 1 t) (iblk m c 2 t) y
      = Cert.LatentsRefIdeal.Read.val_main_v21 (F := Ideal) (aX m c) (aW m c) (aB m c) i := by
  have e0 : y = ix2 (y 0) (y 1) := by idx_vars y; rfl
  have e1 : i = ix2 (row t (y 0)) (y 1) := by
    idx_vars i
    congr 1
    · exact Fin.ext h0
    · exact Fin.ext h1
  rw [e1, e0]
  refine Eq.trans ?_ (ref_a _ _ _ (row t (y 0)) (y 1)).symm
  refine (pay5_apply (iblk m c 0 t) (iblk m c 1 t) (iblk m c 2 t) (y 0) (y 1)).trans ?_
  exact blk_prod m c t (y 0) _ _ fun k => blk_a m c t (y 1) k

theorem pt8 (y : S512x384.Idx) (i : S4096x384.Idx) (h0 : (i 0 : ℕ) = t.val * 512 + y 0) (h1 : (i 1 : ℕ) = y 1) :
    k0_pay1 (F := Ideal) (k0_pay6 (iblk m c 0 t) (iblk m c 1 t) (iblk m c 2 t) (iblk m c 4 t)) y
      = Cert.LatentsRefIdeal.Read.val_main_v35 (F := Ideal) (aX m c) (aW m c) (aB m c) (aQ m c) i := by
  have e0 : y = ix2 (y 0) (y 1) := by idx_vars y; rfl
  have e1 : i = ix2 (row t (y 0)) (y 1) := by
    idx_vars i
    congr 1
    · exact Fin.ext h0
    · exact Fin.ext h1
  rw [e1, e0]
  refine Eq.trans ?_ (ref_qn _ _ _ _ (row t (y 0)) (y 1)).symm
  refine (pay1_apply (iblk m c 0 t) (iblk m c 1 t) (iblk m c 2 t) (iblk m c 4 t) (y 0) (y 1)).trans ?_
  exact congrFun (congr (congrArg (normed lenQ) (funext fun j => blk_prod m c t (y 0) _ _ fun k => blk_a m c t ⟨j.val, by omega⟩ k))
    (funext fun j => blk_wq m c t j)) (y 1)

theorem pt9 (y : S512x256.Idx) (i : S4096x256.Idx) (h0 : (i 0 : ℕ) = t.val * 512 + y 0) (h1 : (i 1 : ℕ) = y 1) :
    k0_pay2 (F := Ideal) (k0_pay5 (iblk m c 0 t) (iblk m c 1 t) (iblk m c 2 t)) (iblk m c 5 t) y
      = Cert.LatentsRefIdeal.Read.val_main_v49 (F := Ideal) (aX m c) (aW m c) (aB m c) (aV m c) i := by
  have e0 : y = ix2 (y 0) (y 1) := by idx_vars y; rfl
  have e1 : i = ix2 (row t (y 0)) (y 1) := by
    idx_vars i
    congr 1
    · exact Fin.ext h0
    · exact Fin.ext h1
  rw [e1, e0]
  refine Eq.trans ?_ (ref_vn _ _ _ _ (row t (y 0)) (y 1)).symm
  refine (pay2_apply (iblk m c 0 t) (iblk m c 1 t) (iblk m c 2 t) (iblk m c 5 t) (y 0) (y 1)).trans ?_
  refine congrFun (congr (congrArg (normed lenV) (funext fun j => blk_prod m c t (y 0) _ _ fun k => ?_))
    (funext fun j => blk_wv m c t j)) (y 1)
  refine (blk_a m c t ⟨384 + j.val, by omega⟩ k).trans (congrArg (fun q => aB m c (ix2 k q)) (Fin.ext ?_))
  simp only []; omega

theorem pt10 (y : S512x128.Idx) (i : S4096x128.Idx) (h0 : (i 0 : ℕ) = t.val * 512 + y 0) (h1 : (i 1 : ℕ) = y 1) :
    k0_pay3 (F := Ideal) (k0_pay4 (iblk m c 0 t) (iblk m c 1 t)) (iblk m c 3 t) y = gates m c i := by
  have e0 : y = ix2 (y 0) (y 1) := by idx_vars y; rfl
  have e1 : i = ix2 (row t (y 0)) (y 1) := by
    idx_vars i
    congr 1
    · exact Fin.ext h0
    · exact Fin.ext h1
  rw [e1, e0]
  refine (pay3_apply (iblk m c 0 t) (iblk m c 1 t) (iblk m c 3 t) (y 0) (y 1)).trans ?_
  exact blk_prod m c t (y 0) _ _ fun k => blk_s m c t (y 1) k

/-- The call's five result arrays. -/
theorem final6 : (dats m 0 c).arrAt 6 (cfgs 0).N = Cert.LatentsRefIdeal.Read.val_main_v19 (F := Ideal) (aX m c) (aW m c) := by
  refine (dats m 0 c).arrAt_eq_of_covers 6 _ (by decide +kernel) fun t _ y => ?_
  blk_simp
  rw [after0_6]
  frame_out
  exact pt6 m c t y _ (by blk_simp [idx t]) (by blk_simp [idx t])

theorem final7 : (dats m 0 c).arrAt 7 (cfgs 0).N = Cert.LatentsRefIdeal.Read.val_main_v21 (F := Ideal) (aX m c) (aW m c) (aB m c) := by
  refine (dats m 0 c).arrAt_eq_of_covers 7 _ (by decide +kernel) fun t _ y => ?_
  blk_simp
  rw [after0_7]
  frame_out
  exact pt7 m c t y _ (by blk_simp [idx t]) (by blk_simp [idx t])

theorem final8 : (dats m 0 c).arrAt 8 (cfgs 0).N = Cert.LatentsRefIdeal.Read.val_main_v35 (F := Ideal) (aX m c) (aW m c) (aB m c) (aQ m c) := by
  refine (dats m 0 c).arrAt_eq_of_covers 8 _ (by decide +kernel) fun t _ y => ?_
  blk_simp
  rw [after0_8]
  frame_out
  exact pt8 m c t y _ (by blk_simp [idx t]) (by blk_simp [idx t])

theorem final9 : (dats m 0 c).arrAt 9 (cfgs 0).N = Cert.LatentsRefIdeal.Read.val_main_v49 (F := Ideal) (aX m c) (aW m c) (aB m c) (aV m c) := by
  refine (dats m 0 c).arrAt_eq_of_covers 9 _ (by decide +kernel) fun t _ y => ?_
  blk_simp
  rw [after0_9]
  frame_out
  exact pt9 m c t y _ (by blk_simp [idx t]) (by blk_simp [idx t])

theorem final10 : (dats m 0 c).arrAt 10 (cfgs 0).N = gates m c := by
  refine (dats m 0 c).arrAt_eq_of_covers 10 _ (by decide +kernel) fun t _ y => ?_
  blk_simp
  rw [after0_10]
  frame_out
  exact pt10 m c t y _ (by blk_simp [idx t]) (by blk_simp [idx t])

end Arrays

section Tail
variable (c : Dev nD)

abbrev tail (b : Ref sig .tc) := Pipeline.afterTail₀ cfgs (dats m) 0 (V0 m) [hostOps1] c b

/-- The host's last lines cut the gates' columns out of the call's last array, -/
theorem tail_g : tail m c main_v12 = Cert.LatentsRefIdeal.Read.val_main_v15 (F := Ideal) (aX m c) (aW m c) (aB m c) := by
  have h : tail m c main_v12 = extractStridedSlice S4096x8 ![0, 0] (gates m c) slices_S4096x128_S4096x8_0_0 := by
    unfold tail Pipeline.afterTail₀
    simp only [hostOps1, List.flatten_cons, List.flatten_nil, List.append_nil]
    after_results_simp
    refine congrArg (fun z => extractStridedSlice S4096x8 ![0, 0] z slices_S4096x128_S4096x8_0_0) (Eq.trans ?_ (final10 m c))
    exact Pipeline.withArrays_arr spec0 (by decide) c _ _ 10
  refine h.trans (funext fun i => ?_)
  idx_vars i
  refine Eq.trans ?_ (ref_g _ _ _ i0 i1).symm
  pointwise [gates]
  exact congrArg (prod _ _) (funext fun k => smallW_gate (aB m c) _ k i1.isLt)

/-- and the rotary key's. -/
theorem tail_k : tail m c main_v13 = Cert.LatentsRefIdeal.Read.val_main_v18 (F := Ideal) (aX m c) (aW m c) (aB m c) := by
  have h : tail m c main_v13 = extractStridedSlice S4096x32 ![0, 64] (gates m c) slices_S4096x128_S4096x32_0_64 := by
    unfold tail Pipeline.afterTail₀
    simp only [hostOps1, List.flatten_cons, List.flatten_nil, List.append_nil]
    after_results_simp
    refine congrArg (fun z => extractStridedSlice S4096x32 ![0, 64] z slices_S4096x128_S4096x32_0_64) (Eq.trans ?_ (final10 m c))
    exact Pipeline.withArrays_arr spec0 (by decide) c _ _ 10
  refine h.trans (funext fun i => ?_)
  idx_vars i
  refine Eq.trans ?_ (ref_k _ _ _ i0 i1).symm
  pointwise [gates]
  refine congrArg (prod _ _) (funext fun k => (smallW_key (aB m c) _ k (by simp only []; omega) (by have := i1.isLt; simp only []; omega)).trans ?_)
  refine congrArg (fun q => aB m c (ix2 k q)) (Fin.ext ?_)
  simp only []; omega

/-- The kernel's program runs, and its results are the reference's. -/
theorem run_results (ρ : Dev nD → PrngReg) :
    θ_run (defs (F := Ideal)) (onTc (τ := τ) (main (F := Ideal))) ⟨m, fun _ => 0, ρ⟩ (fun r => ∀ c : Dev nD,
      r.2.mem ((c.tc : Thread nD τ).loc main_v11_0) = Cert.LatentsRefIdeal.Read.val_main_v19 (F := Ideal) (aX m c) (aW m c)
      ∧ r.2.mem ((c.tc : Thread nD τ).loc main_v11_1) = Cert.LatentsRefIdeal.Read.val_main_v21 (F := Ideal) (aX m c) (aW m c) (aB m c)
      ∧ r.2.mem ((c.tc : Thread nD τ).loc main_v11_2) = Cert.LatentsRefIdeal.Read.val_main_v35 (F := Ideal) (aX m c) (aW m c) (aB m c) (aQ m c)
      ∧ r.2.mem ((c.tc : Thread nD τ).loc main_v11_3) = Cert.LatentsRefIdeal.Read.val_main_v49 (F := Ideal) (aX m c) (aW m c) (aB m c) (aV m c)
      ∧ r.2.mem ((c.tc : Thread nD τ).loc main_v12) = Cert.LatentsRefIdeal.Read.val_main_v15 (F := Ideal) (aX m c) (aW m c) (aB m c)
      ∧ r.2.mem ((c.tc : Thread nD τ).loc main_v13) = Cert.LatentsRefIdeal.Read.val_main_v18 (F := Ideal) (aX m c) (aW m c) (aB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run _ _ _).mono (fun r h c => ?_) (θ_run_and (run_main m ρ) (frame m ρ))
  exact ⟨((h.1 c).1 6).trans (final6 m c), ((h.1 c).1 7).trans (final7 m c), ((h.1 c).1 8).trans (final8 m c), ((h.1 c).1 9).trans (final9 m c),
    ((h.1 c).2 main_v12 (Pipeline.mem_restRefs_of _ (by decide) (by decide))).trans (tail_g m c),
    ((h.1 c).2 main_v13 (Pipeline.mem_restRefs_of _ (by decide) (by decide))).trans (tail_k m c), h.2.1 c⟩

end Tail

/-- The reference terminates, keeps its arguments, and leaves every counter at zero: it has none. -/
theorem frame_ref : Cert.quiescent_LatentsRefIdeal := fun m g _ => by
  refine (θ_run _ _ _).mono (fun r h => ⟨fun c => (h c).2.2.2.2.2.2, sem_eq_zero_of_no_sems (sig := Cert.LatentsRefIdeal.sig) rfl _⟩)
    (Cert.LatentsRefIdeal.Value.run m g)

/-- The claim: kernel and reference leave the same six arrays. -/
theorem algebraic : Cert.algebraic_LatentsIdeal_LatentsRefIdeal := by
  pair_intro
  · run_from run_results m g
  · run_from Cert.LatentsRefIdeal.Value.run m' g'
    all_goals obtain ⟨a0, a1, a2, a3, a4⟩ := hagree c
    all_goals rfl

end Cert.LatentsIdeal.Math

end
-- ==== Proof.Mix.lean ====
/-
  The projection of both mixers' rows back to the model's width, the residual and the norm after it: what the kernel's two
  result arrays hold, and that they are the reference's.
-/
module

public import proofs.«01_k».proof.Defs
public import proofs.«01_k».proof.Proof.Gen.MixIdeal.Frame
public import proofs.«01_k».proof.Proof.Gen.MixRefIdeal.Read
public import proofs.«01_k».proof.Proof.Norm
public import Idealize.ShloMosaic.Lib.Claim
public import Idealize.ShloMosaic.Lib.Pointwise

@[expose] public section

set_option maxRecDepth 16384

noncomputable section

namespace Cert.MixIdeal.Math

open Cert.MixIdeal Cert.MixIdeal.Gen Cert.Norm Idealize.ShloMosaic Idealize.ShloMosaic.TcCoe Idealize.SL.Sem
open Idealize.ShloMosaic.Pipeline (Dat)

variable (m : (ℓ : Loc nD τ sig) → Buf (Elt Ideal) ℓ)

/-- The row length as the programs write it. -/
def len : EReal := (FloatOps.ofBits (F := Ideal) .f32 0x44800000#32)

/-- A row of the result: the residual's row and one product for each mixer, -/
def sumRow (x : Fin 1024 → EReal) (a b : Fin 512 → EReal) (w : Fin 1024 → Fin 1024 → EReal) (j : Fin 1024) : EReal :=
  x j + ((∑ k : Fin 512, a k * w ⟨k.val, by omega⟩ j) + ∑ k : Fin 512, b k * w ⟨512 + k.val, by omega⟩ j)

/-- and the row normalised. -/
def normed (h : Fin 1024 → EReal) (w : Fin 1024 → EReal) (j : Fin 1024) : EReal := h j * inv len h * w j

section Ref
open Cert.MixRefIdeal.Read

variable (x0 x1 : FVec Ideal S4096x512 .bf16) (x2 : FVec Ideal S1024x1024 .f32) (x3 : FVec Ideal S4096x1024 .f32) (x4 : FVec Ideal S1024 .f32)

/-- The arguments' row `r`. -/
def rowOf (r : Fin 4096) : Fin 1024 → EReal :=
  sumRow (fun j => x3 (ix2 r j)) (fun k => x0 (ix2 r k)) (fun k => x1 (ix2 r k)) fun k j => x2 (ix2 k j)

theorem ref_h (r : Fin 4096) (j : Fin 1024) : val_main_v3 (F := Ideal) x0 x1 x2 x3 (ix2 r j) = rowOf x0 x1 x2 x3 r j := by
  pointwise [val_main_v3, val_main_v2, val_main_v1, val_main_v0]
  unfold rowOf sumRow
  rfl

theorem ref_u (r : Fin 4096) (j : Fin 1024) : val_main_v17 (F := Ideal) x0 x1 x2 x3 x4 (ix2 r j)
    = normed (rowOf x0 x1 x2 x3 r) (fun j => x4 (ix1 j)) j := by
  pointwise [val_main_v17, val_main_v16, val_main_v15, val_main_v14, val_main_v13, val_main_v12, val_main_v11, val_main_v10, val_main_v9, val_main_v8,
    val_main_v7, val_main_v6, val_main_v5, val_main_v4, val_main_cst, val_main_cst_0, val_main_cst_1]
  simp only [ref_h]
  rfl

end Ref

section Blocks
variable (v0 : Vec Ideal S512x512 .bf16) (v1 : Vec Ideal S512x1024 .bf16) (v4 : Vec Ideal S512x1024 .bf16) (v6 : Vec Ideal S1024x1024 .bf16)
  (v10 : Vec Ideal S512x1024 .f32) (v13 : Vec Ideal S1x1024 .f32)

/-- A row of a block of the first result. -/
def brow (p : Fin 512) (j : Fin 1024) : EReal :=
  (∑ k : Fin 512, v0 (ix2 p k) * v1 (ix2 k j)) + (∑ k : Fin 1024, v4 (ix2 p k) * v6 (ix2 k j)) + v10 (ix2 p j)

theorem pay1_apply (p : Fin 512) (j : Fin 1024) : k0_pay1 (F := Ideal) v0 v1 v4 v6 v10 (ix2 p j) = brow v0 v1 v4 v6 v10 p j := by
  pointwise [k0_pay1]
  rfl

theorem pay2_apply (p : Fin 512) (j : Fin 1024) : k0_pay2 (F := Ideal) v0 v1 v4 v6 v10 v13 (ix2 p j)
    = normed (brow v0 v1 v4 v6 v10 p) (fun j => v13 (ix2 0 j)) j := by
  pointwise [k0_pay2]
  simp only [pay1_apply]
  rfl

end Blocks

section Arrays

/-- The arguments, by name. -/
abbrev aM (c : Dev nD) : FVec Ideal S4096x512 .bf16 := m ((c : Thread nD τ).loc main_arg0)
abbrev aA (c : Dev nD) : FVec Ideal S4096x512 .bf16 := m ((c : Thread nD τ).loc main_arg1)
abbrev aO (c : Dev nD) : FVec Ideal S1024x1024 .f32 := m ((c : Thread nD τ).loc main_arg2)
abbrev aX (c : Dev nD) : FVec Ideal S4096x1024 .f32 := m ((c : Thread nD τ).loc main_arg3)
abbrev aW (c : Dev nD) : FVec Ideal S1024 .f32 := m ((c : Thread nD τ).loc main_arg4)

theorem idx : ∀ t : Fin cfg0.N, win0_0.index t = ![t.val, 0] ∧ win0_1.index t = ![t.val, 0] ∧ win0_2.index t = ![0, 0] ∧ win0_3.index t = ![0, 0]
    ∧ win0_4.index t = ![t.val, 0] ∧ win0_5.index t = ![0, 0] ∧ win0_6.index t = ![t.val, 0] ∧ win0_7.index t = ![t.val, 0] :=
  (by decide +kernel : ∀ t : Fin grid0.N, _)

/-- Row `p` of the point's block is a row of the arrays. -/
def row (t : Fin cfg0.N) (p : Fin 512) : Fin 4096 := ⟨t.val * 512 + p.val, by have := lt_of_lt_of_eq t.isLt N_0; omega⟩

/-- The host's operations before the call, in one list. -/
theorem before (c : Dev nD) (b : Ref sig .tc) : V m c b = StableHlo.after
    ((hostOps0 ++ (hostOps0_1 ++ (hostOps0_2 ++ []))) : List (HloOp τ sig (Elt Ideal)))
    (fun b => m (c, b)) (Proc.devRef .tc b) := rfl

/-- The filling lanes hold zero. -/
def zer : FVec Ideal S_ .bf16 := sitofp (F := Ideal) .bf16 (constantI S_ 32 0#32)
theorem zer_apply (i : S_.Idx) : zer i = 0 := by
  show ((((0#32 : BitVec 32).toInt : ℝ)) : EReal) = 0
  simp

/-- The attention's rows, each head in lanes of its own, with two lanes of ones and then zeros after it, -/
def wideA (x : FVec Ideal S4096x512 .bf16) : FVec Ideal S4096x1024 .bf16 :=
  shapeCast S4096x1024 (concatenate S4096x8x128 2 [⟨S4096x8x64, shapeCast S4096x8x64 x shapeCasts_S4096x512_S4096x8x64⟩,
    ⟨S4096x8x2, broadcastInDim S4096x8x2 ![] bcast_S_S4096x8x2 (constant (F := Ideal) S_ .bf16 0x3F80#16)⟩,
    ⟨S4096x8x62, broadcastInDim S4096x8x62 ![] bcast_S_S4096x8x62 (constant (F := Ideal) S_ .bf16 0x0000#16)⟩]
    concatenates_S4096x8x64_S4096x8x2_S4096x8x62_S4096x8x128_d2) shapeCasts_S4096x8x128_S4096x1024
/-- and the weights' rows that meet them, zero where the lanes are spare. -/
def wideW (x : FVec Ideal S1024x1024 .f32) : FVec Ideal S1024x1024 .bf16 :=
  shapeCast S1024x1024 (pad S8x128x1024 ![0, 0, 0] ![0, 64, 0] ![0, 0, 0] (shapeCast S8x64x1024
    (extractStridedSlice S512x1024 ![512, 0] (truncf .bf16 x bitsLt_bf16_f32) slices_S1024x1024_S512x1024_512_0) shapeCasts_S512x1024_S8x64x1024) zer
    pads_S8x64x1024_S8x128x1024_000_0640_000 h_S_) shapeCasts_S8x128x1024_S1024x1024

theorem V_a (c : Dev nD) : V m c main_v4 = wideA (aA m c) := by
  rw [before]
  simp only [hostOps0, hostOps0_1, hostOps0_2, List.cons_append, List.nil_append, List.append_nil,
    StableHlo.TRef.nullary, StableHlo.TRef.binary, StableHlo.TRef.unary, StableHlo.TRef.toBuf, StableHlo.TRef.ofBuf, cast_eq]
  after_results_simp
  refine congrArg (fun x => shapeCast S4096x1024 x shapeCasts_S4096x8x128_S4096x1024) (three_pieces _ _ ?_ ?_ ?_)
  · change HloOp.result _ _ (Proc.devRef .tc main_v0) = _
    after_results_simp
    try rfl
  · change HloOp.result _ _ (Proc.devRef .tc main_v1) = _
    after_results_simp
    try rfl
  · change HloOp.result _ _ (Proc.devRef .tc main_v2) = _
    after_results_simp
    try rfl

theorem V_m (c : Dev nD) : V m c main_v6 = extractStridedSlice S512x1024 ![0, 0] (truncf .bf16 (aO m c) bitsLt_bf16_f32) slices_S1024x1024_S512x1024_0_0 := by
  rw [before]
  simp only [hostOps0, hostOps0_1, hostOps0_2, List.cons_append, List.nil_append, List.append_nil,
    StableHlo.TRef.nullary, StableHlo.TRef.binary, StableHlo.TRef.unary, StableHlo.TRef.toBuf, StableHlo.TRef.ofBuf, cast_eq]
  after_results_simp

theorem V_o (c : Dev nD) : V m c main_v10 = wideW (aO m c) := by
  rw [before]
  simp only [hostOps0, hostOps0_1, hostOps0_2, List.cons_append, List.nil_append, List.append_nil,
    StableHlo.TRef.nullary, StableHlo.TRef.binary, StableHlo.TRef.unary, StableHlo.TRef.toBuf, StableHlo.TRef.ofBuf, cast_eq]
  after_results_simp
  rfl

theorem V_w (c : Dev nD) : V m c main_v11 = shapeCast S1x1024 (aW m c) shapeCasts_S1024_S1x1024 := by
  rw [before]
  simp only [hostOps0, hostOps0_1, hostOps0_2, List.cons_append, List.nil_append, List.append_nil,
    StableHlo.TRef.nullary, StableHlo.TRef.binary, StableHlo.TRef.unary, StableHlo.TRef.toBuf, StableHlo.TRef.ofBuf, cast_eq]
  after_results_simp
  rfl

theorem wideW_at (x : FVec Ideal S1024x1024 .f32) (q k : Fin 1024) :
    wideW x (ix2 q k) = if h : q.val % 128 < 64 then x (ix2 ⟨512 + (q.val / 128 * 64 + q.val % 128), by omega⟩ k) else 0 := by
  pointwise [wideW]
  split_ifs with h1 h2 <;> first | (exfalso; omega) | rfl | exact zer_apply _

theorem wideA_at (x : FVec Ideal S4096x512 .bf16) (r : Fin 4096) (q : Fin 1024) (h : q.val % 128 < 64) :
    wideA x (ix2 r q) = x (ix2 r ⟨q.val / 128 * 64 + q.val % 128, by omega⟩) := by
  pointwise [wideA]
  split_ifs with h1 <;> first | (exfalso; omega) | rfl

/-- The point's block of the first result is made of the arguments' rows. -/
theorem blk_row (c : Dev nD) (t : Fin cfg0.N) (p : Fin 512) (j : Fin 1024) :
    brow (iblk m c 0 t) (iblk m c 2 t) (iblk m c 1 t) (iblk m c 3 t) (iblk m c 4 t) p j
      = rowOf (aM m c) (aA m c) (aO m c) (aX m c) (row t p) j := by
  have e0 : ∀ k : Fin 512, (show Vec Ideal S512x512 .bf16 from iblk m c 0 t) (ix2 p k) = aM m c (ix2 (row t p) k) := fun k => by
    unfold row; blk_point [iblk, V, idx t]
  have e1 : ∀ k : Fin 1024, (show Vec Ideal S512x1024 .bf16 from iblk m c 1 t) (ix2 p k) = wideA (aA m c) (ix2 (row t p) k) := fun k => by
    rw [← V_a]; unfold row; blk_point [iblk, idx t]
  have e2 : ∀ k : Fin 512, (show Vec Ideal S512x1024 .bf16 from iblk m c 2 t) (ix2 k j) = aO m c (ix2 ⟨k.val, by omega⟩ j) := fun k => by
    have e : (show Vec Ideal S512x1024 .bf16 from iblk m c 2 t) (ix2 k j) = (show FVec Ideal S512x1024 .bf16 from V m c main_v6) (ix2 k j) := by
      blk_point [iblk, idx t]
    rw [e, V_m]; pointwise []
  have e3 : ∀ k : Fin 1024, (show Vec Ideal S1024x1024 .bf16 from iblk m c 3 t) (ix2 k j) = wideW (aO m c) (ix2 k j) := fun k => by
    rw [← V_o]; blk_point [iblk, idx t]
  have e4 : (show Vec Ideal S512x1024 .f32 from iblk m c 4 t) (ix2 p j) = aX m c (ix2 (row t p) j) := by
    unfold row; blk_point [iblk, V, idx t]
  unfold brow rowOf sumRow
  simp only [e0, e1, e2, e3, e4]
  rw [add_comm]
  refine congrArg _ (congrArg _ ?_)
  refine sum_heads (H := 8) (D := 64) (E := 64) _ (fun k : Fin 512 => aA m c (ix2 (row t p) k) * aO m c (ix2 ⟨512 + k.val, by omega⟩ j)) (fun h d k l hk hl => ?_) (fun h e k hk => ?_)
  · have := d.isLt
    have h1 : k.val % 128 < 64 := by omega
    rw [wideW_at, dif_pos h1, wideA_at _ _ _ h1]
    refine congrArg₂ _ (congrArg (fun q => aA m c (ix2 (row t p) q)) (Fin.ext ?_)) (congrArg (fun q => aO m c (ix2 q j)) (Fin.ext ?_)) <;>
      (simp only []; omega)
  · have := e.isLt
    rw [wideW_at, dif_neg (by omega), mul_zero]

theorem blk_w (c : Dev nD) (t : Fin cfg0.N) (j : Fin 1024) :
    (show Vec Ideal S1x1024 .f32 from iblk m c 5 t) (ix2 0 j) = aW m c (ix1 j) := by
  have e : (show Vec Ideal S1x1024 .f32 from iblk m c 5 t) (ix2 0 j) = (show Vec Ideal S1x1024 .f32 from V m c main_v11) (ix2 0 j) := by
    blk_point [iblk, idx t]
  rw [e, V_w]
  pointwise []

/-- The point's block of the first result, -/
theorem blk_h (c : Dev nD) (t : Fin cfg0.N) (y : S512x1024.Idx) (i : S4096x1024.Idx) (h0 : (i 0 : ℕ) = t.val * 512 + y 0) (h1 : (i 1 : ℕ) = y 1) :
    k0_pay1 (F := Ideal) (iblk m c 0 t) (iblk m c 2 t) (iblk m c 1 t) (iblk m c 3 t) (iblk m c 4 t) y
      = Cert.MixRefIdeal.Read.val_main_v3 (F := Ideal) (aM m c) (aA m c) (aO m c) (aX m c) i := by
  have e0 : y = ix2 (y 0) (y 1) := by idx_vars y; rfl
  have e1 : i = ix2 (row t (y 0)) (y 1) := by
    idx_vars i
    congr 1
    · exact Fin.ext h0
    · exact Fin.ext h1
  rw [e1, e0]
  refine Eq.trans ?_ (ref_h _ _ _ _ (row t (y 0)) (y 1)).symm
  exact (pay1_apply (iblk m c 0 t) (iblk m c 2 t) (iblk m c 1 t) (iblk m c 3 t) (iblk m c 4 t) (y 0) (y 1)).trans (blk_row m c t (y 0) (y 1))

/-- and of the second. -/
theorem blk_u (c : Dev nD) (t : Fin cfg0.N) (y : S512x1024.Idx) (i : S4096x1024.Idx) (h0 : (i 0 : ℕ) = t.val * 512 + y 0) (h1 : (i 1 : ℕ) = y 1) :
    k0_pay2 (F := Ideal) (iblk m c 0 t) (iblk m c 2 t) (iblk m c 1 t) (iblk m c 3 t) (iblk m c 4 t) (iblk m c 5 t) y
      = Cert.MixRefIdeal.Read.val_main_v17 (F := Ideal) (aM m c) (aA m c) (aO m c) (aX m c) (aW m c) i := by
  have e0 : y = ix2 (y 0) (y 1) := by idx_vars y; rfl
  have e1 : i = ix2 (row t (y 0)) (y 1) := by
    idx_vars i
    congr 1
    · exact Fin.ext h0
    · exact Fin.ext h1
  rw [e1, e0]
  refine Eq.trans ?_ (ref_u _ _ _ _ _ (row t (y 0)) (y 1)).symm
  refine (pay2_apply (iblk m c 0 t) (iblk m c 2 t) (iblk m c 1 t) (iblk m c 3 t) (iblk m c 4 t) (iblk m c 5 t) (y 0) (y 1)).trans ?_
  exact congrFun (congr (congrArg normed (funext fun j => blk_row m c t (y 0) j)) (funext fun j => blk_w m c t j)) (y 1)

/-- The first result array, -/
theorem final6 (c : Dev nD) : (dats m 0 c).arrAt 6 (cfgs 0).N
    = Cert.MixRefIdeal.Read.val_main_v3 (F := Ideal) (aM m c) (aA m c) (aO m c) (aX m c) := by
  refine (dats m 0 c).arrAt_eq_of_covers 6 _ (by decide +kernel) fun t _ y => ?_
  blk_simp
  rw [after0_6]
  frame_out
  exact blk_h m c t y _ (by blk_simp [idx t]) (by blk_simp [idx t])

/-- and the second. -/
theorem final7 (c : Dev nD) : (dats m 0 c).arrAt 7 (cfgs 0).N
    = Cert.MixRefIdeal.Read.val_main_v17 (F := Ideal) (aM m c) (aA m c) (aO m c) (aX m c) (aW m c) := by
  refine (dats m 0 c).arrAt_eq_of_covers 7 _ (by decide +kernel) fun t _ y => ?_
  blk_simp
  rw [after0_7]
  frame_out
  exact blk_u m c t y _ (by blk_simp [idx t]) (by blk_simp [idx t])

end Arrays

/-- The reference terminates, keeps its arguments, and leaves every counter at zero: it has none. -/
theorem frame_ref : Cert.quiescent_MixRefIdeal := fun m g _ => by
  refine (θ_run _ _ _).mono (fun r h => ⟨fun c => (h c).2.2, sem_eq_zero_of_no_sems (sig := Cert.MixRefIdeal.sig) rfl _⟩)
    (Cert.MixRefIdeal.Value.run m g)

/-- The claim: kernel and reference leave the same two arrays. -/
theorem algebraic : Cert.algebraic_MixIdeal_MixRefIdeal := by
  pair_intro
  · run_from Cert.MixIdeal.Gen.run_main m g
    exacts [V_main_arg1 m c, V_main_arg2 m c, V_main_arg4 m c]
  · run_from Cert.MixRefIdeal.Value.run m' g'
    all_goals obtain ⟨a0, a1, a2, a3, a4⟩ := hagree c
    · exact (final6 m c).symm
    · exact (final7 m c).symm

end Cert.MixIdeal.Math

end
-- ==== Proof.GateUp.lean ====
/-
  The SwiGLU gate with the two products it starts from: what the kernel's three result arrays hold, and that they are the
  reference's.
-/
module

public import proofs.«01_k».proof.Defs
public import proofs.«01_k».proof.Proof.Gen.GateUpIdeal.Frame
public import proofs.«01_k».proof.Proof.Gen.GateUpRefIdeal.Read
public import Idealize.ShloMosaic.Lib.Claim
public import proofs.«01_k».proof.Proof.Finite
public import Idealize.ShloMosaic.Lib.Pointwise

@[expose] public section

set_option maxRecDepth 16384

noncomputable section

namespace Cert.GateUpIdeal.Math

open Cert.GateUpIdeal Cert.GateUpIdeal.Gen Idealize.ShloMosaic Idealize.ShloMosaic.TcCoe Idealize.SL.Sem
open Idealize.ShloMosaic.Pipeline (Dat)

variable (m : (ℓ : Loc nD τ sig) → Buf (Elt Ideal) ℓ)

section Ref
open Cert.GateUpRefIdeal.Read

variable (x0 : FVec Ideal S4096x1024 .bf16) (x1 x2 : FVec Ideal S1024x2816 .f32)

/-- A row of the input against a column of weights. -/
def prod (w : FVec Ideal S1024x2816 .f32) (y : S4096x2816.Idx) : EReal := ∑ k : Fin 1024, x0 (ix2 (y 0) k) * w (ix2 k (y 1))

theorem refg_apply (y) : val_main_v4 (F := Ideal) x0 x1 y = prod x0 x1 y := by
  pointwise [val_main_v4, val_main_v1, val_main_v0]
  rfl

theorem refu_apply (y) : val_main_v5 (F := Ideal) x0 x2 y = prod x0 x2 y := by
  pointwise [val_main_v5, val_main_v3, val_main_v2]
  rfl

theorem refa_apply (y) : val_main_v8 (F := Ideal) x0 x1 x2 y
    = prod x0 x1 y * Ideal.logistic (prod x0 x1 y) * prod x0 x2 y := by
  pointwise [val_main_v8, val_main_v7, val_main_v6, val_main_call0_v5, val_main_call0_v4, val_main_call0_v3, val_main_call0_v2, val_main_call0_v1,
    val_main_call0_v0, val_main_call0_cst, val_main_call0_cst_0, val_main_v1, val_main_v0, val_main_v3, val_main_v2]
  rfl

end Ref

/-- The index maps: rows by the first grid coordinate, columns by the second. -/
theorem idx : ∀ t : Fin cfg0.N, win0_0.index t = ![t.val / 2, 0] ∧ win0_1.index t = ![t.val % 2, 0] ∧ win0_2.index t = ![t.val % 2, 0]
    ∧ win0_3.index t = ![t.val / 2, t.val % 2] ∧ win0_4.index t = ![t.val / 2, t.val % 2] ∧ win0_5.index t = ![t.val / 2, t.val % 2] :=
  (by decide +kernel : ∀ t : Fin grid0.N, _)

abbrev aU (c : Dev nD) : FVec Ideal S4096x1024 .bf16 := m ((c : Thread nD τ).loc main_arg0)
abbrev aG (c : Dev nD) : FVec Ideal S1024x2816 .f32 := m ((c : Thread nD τ).loc main_arg1)
abbrev aW (c : Dev nD) : FVec Ideal S1024x2816 .f32 := m ((c : Thread nD τ).loc main_arg2)

theorem final3 (c : Dev nD) : (dats m 0 c).arrAt 3 (cfgs 0).N = Cert.GateUpRefIdeal.Read.val_main_v4 (F := Ideal) (aU m c) (aG m c) := by
  refine (dats m 0 c).arrAt_eq_of_covers 3 _ (by decide +kernel) fun t _ y => ?_
  blk_simp
  rw [after0_3]
  frame_out
  rw [refg_apply]
  unfold prod
  pointwise [k0_pay1]
  blk_point [iblk, V, idx t]

theorem final4 (c : Dev nD) : (dats m 0 c).arrAt 4 (cfgs 0).N = Cert.GateUpRefIdeal.Read.val_main_v5 (F := Ideal) (aU m c) (aW m c) := by
  refine (dats m 0 c).arrAt_eq_of_covers 4 _ (by decide +kernel) fun t _ y => ?_
  blk_simp
  rw [after0_4]
  frame_out
  rw [refu_apply]
  unfold prod
  pointwise [k0_pay2]
  blk_point [iblk, V, idx t]

theorem final5 (c : Dev nD) : (dats m 0 c).arrAt 5 (cfgs 0).N = Cert.GateUpRefIdeal.Read.val_main_v8 (F := Ideal) (aU m c) (aG m c) (aW m c) := by
  refine (dats m 0 c).arrAt_eq_of_covers 5 _ (by decide +kernel) fun t _ y => ?_
  blk_simp
  rw [after0_5]
  frame_out
  rw [refa_apply]
  unfold prod
  pointwise [k0_pay3, k0_pay1, k0_pay2]
  blk_point [iblk, V, idx t]

/-- The reference terminates, keeps its arguments, and leaves every counter at zero: it has none. -/
theorem frame_ref : Cert.quiescent_GateUpRefIdeal := fun m g _ => by
  refine (θ_run _ _ _).mono (fun r h => ⟨fun c => (h c).2.2.2, sem_eq_zero_of_no_sems (sig := Cert.GateUpRefIdeal.sig) rfl _⟩)
    (Cert.GateUpRefIdeal.Value.run m g)

/-- The claim: kernel and reference leave the same three arrays. -/
theorem algebraic : Cert.algebraic_GateUpIdeal_GateUpRefIdeal := by
  pair_intro
  · run_from Cert.GateUpIdeal.Gen.run_main m g
  · run_from Cert.GateUpRefIdeal.Value.run m' g'
    all_goals obtain ⟨a0, a1, a2⟩ := hagree c
    · exact (final3 m c).symm
    · exact (final4 m c).symm
    · exact (final5 m c).symm

end Cert.GateUpIdeal.Math

end
-- ==== Proof.UpTables.lean ====
/-
  The products for queries, keys and values with the rotary embedding: what one block's three results hold, lane by lane.
-/
module

public import proofs.«01_k».proof.Defs
public import proofs.«01_k».proof.Proof.Gen.UpIdeal.Frame
public import proofs.«01_k».proof.Proof.Rope
public import Idealize.ShloMosaic.Lib.Claim
public import Idealize.ShloMosaic.Lib.Pointwise

@[expose] public section

set_option maxRecDepth 16384
set_option maxHeartbeats 1000000

noncomputable section

namespace Cert.UpIdeal.Math

open Cert.UpIdeal Cert.UpIdeal.Gen Idealize.ShloMosaic Idealize.ShloMosaic.TcCoe Idealize.SL.Sem
open Idealize.ShloMosaic.Pipeline (Dat)
open Cert.RopeIdeal.Math (freq ang cosT sinA sinB freq_eq sel_ite lane5 lane34 lane6 scale rowX c10000 c16 fin_of)

section Tables

theorem kappa_rate : Named.named (F := Ideal) κ "rate" (φ := .f32) 0xBF135D8E#32 = ((-((Real.log 10000) * 16⁻¹) : ℝ) : EReal) :=
  IdealRules.named_const.ideal_named_scalar _ _ _ _ rfl

theorem lane3 : ∀ l : Fin 128, k0_pay3 (ix2 0 l) = BitVec.ofNat 32 l.val := by
  intro l
  pointwise [k0_pay3]
  revert l
  decide +kernel
theorem lane4 : ∀ l : Fin 128, k0_pay4 (ix2 0 l) = if 64 ≤ l.val ∧ l.val < 80 then 1#1 else 0#1 := by
  intro l
  pointwise [k0_pay4]
  rw [lane3]
  revert l
  decide +kernel
theorem laneB : ∀ l : Fin 128, k0_pay5 (ix2 0 l) = if 80 ≤ l.val ∧ l.val < 96 then 1#1 else 0#1 := by
  intro l
  pointwise [k0_pay5]
  rw [lane3]
  revert l
  decide +kernel

variable (x0 : Vec Ideal S512x384 .bf16) (x1 : Vec Ideal S512x256 .bf16) (x2 : Vec Ideal S1024x384 .bf16) (x3 : Vec Ideal S1024x256 .bf16)
  (x4 : Vec Ideal S1024x256 .bf16) (x5 : Vec Ideal S512x128 .f32) (x6 : Vec Ideal S512x1 .i32)

theorem ang_at (p : Fin 512) (l : Fin 128) (hl : 64 ≤ l.val ∧ l.val < 96) :
    k0_pay8 (k0_pay49 x0 x1 x2 x3 x4 x5 x6) (k0_pay50 x0 x1 x2 x3 x4 x5 x6) (ix2 p l) = ang (x6 (ix2 p 0)) ((l.val - 64) % 16) := by
  pointwise [k0_pay8, k0_pay49, k0_pay50, k0_pay6, k0_pay7]
  rw [lane4, lane3, kappa_rate]
  unfold ang
  congr 1
  rw [← freq_eq]
  congr 2
  show (((_ : ℤ) : ℝ) : EReal) = _
  rw [lane5 l hl]
  norm_cast

theorem tabC (p : Fin 512) (l : Fin 128) : k0_pay52 x0 x1 x2 x3 x4 x5 x6 (ix2 p l) = cosT (x6 (ix2 p 0)) l.val := by
  have h := ang_at x0 x1 x2 x3 x4 x5 x6 p l
  pointwise [k0_pay52, k0_pay10, k0_pay47, k0_pay48]
  rw [lane4, laneB, lane34, sel_ite]
  unfold cosT
  split_ifs with hl
  · rw [h hl]
  · rfl
theorem tabA (p : Fin 512) (l : Fin 128) : k0_pay53 x0 x1 x2 x3 x4 x5 x6 (ix2 p l) = sinA (x6 (ix2 p 0)) l.val := by
  have h := ang_at x0 x1 x2 x3 x4 x5 x6 p l
  pointwise [k0_pay53, k0_pay11, k0_pay9, k0_pay47]
  rw [lane4, sel_ite]
  unfold sinA
  split_ifs with hl
  · rw [h (by omega)]
  · rfl
theorem tabB (p : Fin 512) (l : Fin 128) : k0_pay54 x0 x1 x2 x3 x4 x5 x6 (ix2 p l) = sinB (x6 (ix2 p 0)) l.val := by
  have h := ang_at x0 x1 x2 x3 x4 x5 x6 p l
  pointwise [k0_pay54, k0_pay12, k0_pay9, k0_pay48]
  rw [laneB, sel_ite]
  unfold sinB
  split_ifs with hl
  · rw [h (by omega)]
  · rfl

/-- A head's lanes turned forward by three tables, as the kernel turns them: two lane rotations and two sums. -/
def turnT (X C A B : Fin 128 → EReal) (l : Fin 128) : EReal :=
  X l * C l + X ⟨(l.val + 128 - 112) % 128, by omega⟩ * A l + X ⟨(l.val + 128 - 16) % 128, by omega⟩ * B l

/-- The same spelt out: lanes 64 to 95 are turned by the token's angles, the others are kept. -/
def turn (X : ℕ → EReal) (w : BitVec 32) (l : ℕ) : EReal :=
  if 64 ≤ l ∧ l < 80 then X l * Ideal.cos (ang w (l - 64)) + X (l + 16) * (0 - Ideal.sin (ang w (l - 64)))
  else if 80 ≤ l ∧ l < 96 then X l * Ideal.cos (ang w (l - 80)) + X (l - 16) * Ideal.sin (ang w (l - 80))
  else X l

theorem turn_eq (X : ℕ → EReal) (w : BitVec 32) (l : Fin 128) :
    turnT (fun a => X a.val) (fun a => cosT w a.val) (fun a => sinA w a.val) (fun a => sinB w a.val) l = turn X w l.val := by
  obtain ⟨l, hl⟩ := l
  unfold turnT turn cosT sinA sinB
  show X l * (if 64 ≤ l ∧ l < 96 then Ideal.cos (ang w ((l - 64) % 16)) else 1)
    + X ((l + 128 - 112) % 128) * (if 64 ≤ l ∧ l < 80 then 0 - Ideal.sin (ang w ((l - 64) % 16)) else 0)
    + X ((l + 128 - 16) % 128) * (if 80 ≤ l ∧ l < 96 then Ideal.sin (ang w ((l - 64) % 16)) else 0)
    = if 64 ≤ l ∧ l < 80 then X l * Ideal.cos (ang w (l - 64)) + X (l + 16) * (0 - Ideal.sin (ang w (l - 64)))
      else if 80 ≤ l ∧ l < 96 then X l * Ideal.cos (ang w (l - 80)) + X (l - 16) * Ideal.sin (ang w (l - 80)) else X l
  by_cases h1 : 64 ≤ l ∧ l < 80
  · rw [if_pos (show 64 ≤ l ∧ l < 96 by omega), if_pos h1, if_neg (by omega), if_pos h1, mul_zero, add_zero,
      show (l + 128 - 112) % 128 = l + 16 by omega, show (l - 64) % 16 = l - 64 by omega]
  · by_cases h2 : 80 ≤ l ∧ l < 96
    · rw [if_pos (show 64 ≤ l ∧ l < 96 by omega), if_neg h1, if_pos h2, if_neg h1, if_pos h2, mul_zero, add_zero,
        show (l + 128 - 16) % 128 = l - 16 by omega, show (l - 64) % 16 = l - 80 by omega]
    · rw [if_neg (show ¬ (64 ≤ l ∧ l < 96) by omega), if_neg h1, if_neg h2, if_neg h1, if_neg h2, mul_zero, mul_zero, add_zero, add_zero, mul_one]

theorem tables (p : Fin 512) : (fun l => k0_pay52 x0 x1 x2 x3 x4 x5 x6 (ix2 p l)) = (fun l => cosT (x6 (ix2 p 0)) l.val)
    ∧ (fun l => k0_pay53 x0 x1 x2 x3 x4 x5 x6 (ix2 p l)) = (fun l => sinA (x6 (ix2 p 0)) l.val)
    ∧ (fun l => k0_pay54 x0 x1 x2 x3 x4 x5 x6 (ix2 p l)) = (fun l => sinB (x6 (ix2 p 0)) l.val) :=
  ⟨funext fun l => tabC x0 x1 x2 x3 x4 x5 x6 p l, funext fun l => tabA x0 x1 x2 x3 x4 x5 x6 p l, funext fun l => tabB x0 x1 x2 x3 x4 x5 x6 p l⟩

/-- A row's product with the transposed weights, its columns named by a number. -/
def dotX {R n K : ℕ} (x : (⟨2, ![R, K]⟩ : Shape).Idx → EReal) (w : (⟨2, ![n, K]⟩ : Shape).Idx → EReal) (p : Fin R) (a : ℕ) : EReal :=
  if h : a < n then ∑ k : Fin K, x (ix2 p k) * w (ix2 ⟨a, h⟩ k) else 0

theorem prodQ (p : Fin 512) (q : Fin 1024) : k0_pay57 x0 x1 x2 x3 x4 x5 x6 (ix2 p q) = dotX x0 x2 p q.val := by
  unfold dotX
  rw [dif_pos q.isLt]
  pointwise [k0_pay57, k0_pay15]
theorem prodK (p : Fin 512) (q : Fin 1024) : k0_pay58 x0 x1 x2 x3 x4 x5 x6 (ix2 p q) = dotX x1 x3 p q.val := by
  unfold dotX
  rw [dif_pos q.isLt]
  pointwise [k0_pay58, k0_pay16]
theorem prodV (p : Fin 512) (q : Fin 1024) : k0_pay59 x0 x1 x2 x3 x4 x5 x6 (ix2 p q) = dotX x1 x4 p q.val := by
  unfold dotX
  rw [dif_pos q.isLt]
  pointwise [k0_pay59, k0_pay17]

theorem turn_row {p p' : Fin 512} {b b' l l' : ℕ} (ep : p' = p) (eb : b' = b) (el : l' = l) :
    turn (fun a => dotX x0 x2 p (b + a)) (x6 (ix2 p 0)) l * scale = turn (fun a => dotX x0 x2 p' (b' + a)) (x6 (ix2 p' 0)) l' * scale := by
  subst ep eb el
  rfl

/-- A head's lanes in a piece of the block, named by the array's column. -/
theorem cell_at (y : S512x1024.Idx) (x : S512x128.Idx) (off k : ℕ) (ho : off = k * 128) (hk : k < 8) (h0 : (y 0).val = (x 0).val) (h1 : (y 1).val = off + (x 1).val) :
    turnT (fun l => k0_pay57 x0 x1 x2 x3 x4 x5 x6 (ix2 (x 0) ⟨off + l.val, by omega⟩)) (fun l => k0_pay52 x0 x1 x2 x3 x4 x5 x6 (ix2 (x 0) l))
        (fun l => k0_pay53 x0 x1 x2 x3 x4 x5 x6 (ix2 (x 0) l)) (fun l => k0_pay54 x0 x1 x2 x3 x4 x5 x6 (ix2 (x 0) l)) (x 1) * scale
      = turn (fun a => dotX x0 x2 (y 0) ((y 1).val / 128 * 128 + a)) (x6 (ix2 (y 0) 0)) ((y 1).val % 128) * scale := by
  subst ho
  have hx : (x 1).val < 128 := (x 1).isLt
  obtain ⟨e1, e2, e3⟩ := tables x0 x1 x2 x3 x4 x5 x6 (x 0)
  have hX : (fun l : Fin 128 => k0_pay57 x0 x1 x2 x3 x4 x5 x6 (ix2 (x 0) ⟨k * 128 + l.val, by omega⟩)) = fun l : Fin 128 => (fun a => dotX x0 x2 (x 0) (k * 128 + a)) l.val :=
    funext fun l => prodQ x0 x1 x2 x3 x4 x5 x6 (x 0) _
  rw [e1, e2, e3, hX]
  exact (congrArg (· * scale) (turn_eq (fun a => dotX x0 x2 (x 0) (k * 128 + a)) (x6 (ix2 (x 0) 0)) (x 1))).trans
    (turn_row x0 x2 x6 (Fin.ext h0) (by omega) (by omega))

theorem out7_apply (y : S512x1024.Idx) : out0_7 x0 x1 x2 x3 x4 x5 x6 y
    = turn (fun a => dotX x0 x2 (y 0) ((y 1).val / 128 * 128 + a)) (x6 (ix2 (y 0) 0)) ((y 1).val % 128) * scale := by
  canon_tiles x h
  case piece0 =>
    pointwise [k0_pay46]
    exact cell_at x0 x1 x2 x3 x4 x5 x6 y x 896 7 rfl (by norm_num) h0 h1
  case piece1 =>
    pointwise [k0_pay43]
    exact cell_at x0 x1 x2 x3 x4 x5 x6 y x 768 6 rfl (by norm_num) h0 h1
  case piece2 =>
    pointwise [k0_pay38]
    exact cell_at x0 x1 x2 x3 x4 x5 x6 y x 640 5 rfl (by norm_num) h0 h1
  case piece3 =>
    pointwise [k0_pay35, k0_pay32, k0_pay33, k0_pay34]
    exact cell_at x0 x1 x2 x3 x4 x5 x6 y x 512 4 rfl (by norm_num) h0 h1
  case piece4 =>
    pointwise [k0_pay29]
    exact cell_at x0 x1 x2 x3 x4 x5 x6 y x 384 3 rfl (by norm_num) h0 h1
  case piece5 =>
    pointwise [k0_pay26]
    exact cell_at x0 x1 x2 x3 x4 x5 x6 y x 256 2 rfl (by norm_num) h0 h1
  case piece6 =>
    pointwise [k0_pay23]
    exact cell_at x0 x1 x2 x3 x4 x5 x6 y x 128 1 rfl (by norm_num) h0 h1
  case piece7 =>
    have e : k0_pay18 (k0_pay52 x0 x1 x2 x3 x4 x5 x6) (k0_pay53 x0 x1 x2 x3 x4 x5 x6) (k0_pay54 x0 x1 x2 x3 x4 x5 x6) (View.ld x0 r0_2) (View.ld x2 r0_3) x
        = turnT (fun l => k0_pay57 x0 x1 x2 x3 x4 x5 x6 (ix2 (x 0) ⟨l.val, by omega⟩)) (fun l => k0_pay52 x0 x1 x2 x3 x4 x5 x6 (ix2 (x 0) l))
          (fun l => k0_pay53 x0 x1 x2 x3 x4 x5 x6 (ix2 (x 0) l)) (fun l => k0_pay54 x0 x1 x2 x3 x4 x5 x6 (ix2 (x 0) l)) (x 1) * scale := by
      unfold k0_pay18 k0_pay57
      pointwise []
      rfl
    refine e.trans ?_
    have h := cell_at x0 x1 x2 x3 x4 x5 x6 y x 0 0 rfl (by norm_num) h0 (h1.trans (Nat.zero_add _).symm)
    simp only [Nat.zero_add] at h
    exact h

/-- The shared key's lanes, turned. -/
def keyX {R : ℕ} (X : (⟨2, ![R, 128]⟩ : Shape).Idx → EReal) (p : Fin R) (a : ℕ) : EReal := if 64 ≤ a ∧ a < 96 then rowX X p a else 0

theorem lane1 : ∀ q : Fin 128, IntOp.ori (IntOp.cmpi CmpIPredicate.eq (BitVec.ofNat 32 q.val) 96#32) (IntOp.cmpi CmpIPredicate.eq (BitVec.ofNat 32 q.val) 97#32)
    = if q.val = 96 ∨ q.val = 97 then 1#1 else 0#1 := by
  decide +kernel
theorem laneV : ∀ q : Fin 128, IntOp.ori (IntOp.cmpi CmpIPredicate.eq (BitVec.ofNat 32 q.val) 64#32) (IntOp.cmpi CmpIPredicate.eq (BitVec.ofNat 32 q.val) 65#32)
    = if q.val = 64 ∨ q.val = 65 then 1#1 else 0#1 := by
  decide +kernel

theorem key_at (p : Fin 512) (l : Fin 128) : (if 64 ≤ l.val ∧ l.val < 96 then x5 (ix2 p l) else 0) = keyX x5 p l.val := by
  unfold keyX rowX
  rw [dif_pos l.isLt]

/-- What every head's key gets added: the shared key turned, and ones in two lanes beyond. -/
def keyT (X : ℕ → EReal) (w : BitVec 32) (l : ℕ) : EReal := if l = 96 ∨ l = 97 then 1 else turn X w l

theorem key_apply (p : Fin 512) (l : Fin 128) : k0_pay55 x0 x1 x2 x3 x4 x5 x6 (ix2 p l) = keyT (keyX x5 p) (x6 (ix2 p 0)) l.val := by
  obtain ⟨e1, e2, e3⟩ := tables x0 x1 x2 x3 x4 x5 x6 p
  unfold keyT
  rw [← turn_eq, ← e1, ← e2, ← e3]
  unfold turnT
  have kb : keyX x5 p ((l.val + 128 - 112) % 128) = _ := (key_at x5 p ⟨(l.val + 128 - 112) % 128, by omega⟩).symm
  have kc : keyX x5 p ((l.val + 128 - 16) % 128) = _ := (key_at x5 p ⟨(l.val + 128 - 16) % 128, by omega⟩).symm
  simp only [kb, kc, ← key_at]
  have ha := lane6 ⟨(l.val + 128 - 112) % 128, by omega⟩
  have hb := lane6 ⟨(l.val + 128 - 16) % 128, by omega⟩
  dsimp only at ha hb
  unfold k0_pay55 k0_pay13
  pointwise []
  simp only [lane6, ha, hb, sel_ite, lane1, ite_mul, zero_mul]
  rfl

/-- The cell of a value that is not one of the two filled with ones. -/
def valT (x : EReal) (l : ℕ) : EReal := if l = 64 ∨ l = 65 then 1 else x

theorem cellK_at (y : S512x1024.Idx) (p : Fin 512) (l : Fin 128) (off k : ℕ) (ho : off = k * 128) (hk : k < 8) (h0 : (y 0).val = p.val) (h1 : (y 1).val = off + l.val) :
    k0_pay58 x0 x1 x2 x3 x4 x5 x6 (ix2 p ⟨off + l.val, by omega⟩) + k0_pay55 x0 x1 x2 x3 x4 x5 x6 (ix2 p l)
      = dotX x1 x3 (y 0) (y 1).val + keyT (keyX x5 (y 0)) (x6 (ix2 (y 0) 0)) ((y 1).val % 128) := by
  subst ho
  have hx : l.val < 128 := l.isLt
  rw [prodK, key_apply, h1, show y 0 = p from Fin.ext h0, show (k * 128 + l.val) % 128 = l.val by omega]

theorem cellV_at (y : S512x1024.Idx) (p : Fin 512) (l : Fin 128) (off k : ℕ) (ho : off = k * 128) (hk : k < 8) (h0 : (y 0).val = p.val) (h1 : (y 1).val = off + l.val) :
    Scalar.select (IntOp.ori (IntOp.cmpi CmpIPredicate.eq (BitVec.ofNat 32 l.val) 64#32) (IntOp.cmpi CmpIPredicate.eq (BitVec.ofNat 32 l.val) 65#32)) 1
        (k0_pay59 x0 x1 x2 x3 x4 x5 x6 (ix2 p ⟨off + l.val, by omega⟩))
      = valT (dotX x1 x4 (y 0) (y 1).val) ((y 1).val % 128) := by
  subst ho
  have hx : l.val < 128 := l.isLt
  unfold valT
  rw [prodV, laneV l, sel_ite, h1, show y 0 = p from Fin.ext h0, show (k * 128 + l.val) % 128 = l.val by omega]

theorem out8_apply (y : S512x1024.Idx) : out0_8 x0 x1 x2 x3 x4 x5 x6 y
    = dotX x1 x3 (y 0) (y 1).val + keyT (keyX x5 (y 0)) (x6 (ix2 (y 0) 0)) ((y 1).val % 128) := by
  canon_tiles x h
  case piece0 =>
    pointwise [k0_pay1]
    exact cellK_at x0 x1 x2 x3 x4 x5 x6 y (x 0) (x 1) 896 7 rfl (by norm_num) h0 h1
  case piece1 =>
    pointwise [k0_pay44]
    exact cellK_at x0 x1 x2 x3 x4 x5 x6 y (x 0) (x 1) 768 6 rfl (by norm_num) h0 h1
  case piece2 =>
    pointwise [k0_pay39]
    exact cellK_at x0 x1 x2 x3 x4 x5 x6 y (x 0) (x 1) 640 5 rfl (by norm_num) h0 h1
  case piece3 =>
    pointwise [k0_pay36]
    exact cellK_at x0 x1 x2 x3 x4 x5 x6 y (x 0) (x 1) 512 4 rfl (by norm_num) h0 h1
  case piece4 =>
    pointwise [k0_pay30]
    exact cellK_at x0 x1 x2 x3 x4 x5 x6 y (x 0) (x 1) 384 3 rfl (by norm_num) h0 h1
  case piece5 =>
    pointwise [k0_pay27]
    exact cellK_at x0 x1 x2 x3 x4 x5 x6 y (x 0) (x 1) 256 2 rfl (by norm_num) h0 h1
  case piece6 =>
    pointwise [k0_pay24]
    exact cellK_at x0 x1 x2 x3 x4 x5 x6 y (x 0) (x 1) 128 1 rfl (by norm_num) h0 h1
  case piece7 =>
    have e : k0_pay19 (k0_pay55 x0 x1 x2 x3 x4 x5 x6) (View.ld x1 r0_4) (View.ld x3 r0_5) x
        = k0_pay58 x0 x1 x2 x3 x4 x5 x6 (ix2 (x 0) ⟨(x 1).val, by have := (x 1).isLt; change _ < 128 at this; omega⟩) + k0_pay55 x0 x1 x2 x3 x4 x5 x6 (ix2 (x 0) (x 1)) := by
      unfold k0_pay19 k0_pay58
      pointwise []
    refine e.trans ?_
    have h := cellK_at x0 x1 x2 x3 x4 x5 x6 y (x 0) (x 1) 0 0 rfl (by norm_num) h0 (h1.trans (Nat.zero_add _).symm)
    simp only [Nat.zero_add] at h
    exact h

theorem out9_apply (y : S512x1024.Idx) : out0_9 x0 x1 x2 x3 x4 x5 x6 y = valT (dotX x1 x4 (y 0) (y 1).val) ((y 1).val % 128) := by
  canon_tiles x h
  case piece0 =>
    pointwise [k0_pay2, k0_pay56, k0_pay14, k0_pay51]
    exact cellV_at x0 x1 x2 x3 x4 x5 x6 y (x 0) (x 1) 896 7 rfl (by norm_num) h0 h1
  case piece1 =>
    pointwise [k0_pay45, k0_pay56, k0_pay14, k0_pay51]
    exact cellV_at x0 x1 x2 x3 x4 x5 x6 y (x 0) (x 1) 768 6 rfl (by norm_num) h0 h1
  case piece2 =>
    pointwise [k0_pay42, k0_pay40, k0_pay41, k0_pay56, k0_pay14, k0_pay51]
    exact cellV_at x0 x1 x2 x3 x4 x5 x6 y (x 0) (x 1) 640 5 rfl (by norm_num) h0 h1
  case piece3 =>
    pointwise [k0_pay37, k0_pay56, k0_pay14, k0_pay51]
    exact cellV_at x0 x1 x2 x3 x4 x5 x6 y (x 0) (x 1) 512 4 rfl (by norm_num) h0 h1
  case piece4 =>
    pointwise [k0_pay31, k0_pay56, k0_pay14, k0_pay51]
    exact cellV_at x0 x1 x2 x3 x4 x5 x6 y (x 0) (x 1) 384 3 rfl (by norm_num) h0 h1
  case piece5 =>
    pointwise [k0_pay28, k0_pay56, k0_pay14, k0_pay51]
    exact cellV_at x0 x1 x2 x3 x4 x5 x6 y (x 0) (x 1) 256 2 rfl (by norm_num) h0 h1
  case piece6 =>
    pointwise [k0_pay25, k0_pay56, k0_pay14, k0_pay51]
    exact cellV_at x0 x1 x2 x3 x4 x5 x6 y (x 0) (x 1) 128 1 rfl (by norm_num) h0 h1
  case piece7 =>
    have e : k0_pay22 (F := Ideal) (k0_pay20 (View.ld x1 r0_4) (View.ld x4 r0_5)) (Scalar.ofBits .f32 0x3F800000#32) (k0_pay21 (k0_pay51 x0 x1 x2 x3 x4 x5 x6)) x
        = Scalar.select (IntOp.ori (IntOp.cmpi CmpIPredicate.eq (BitVec.ofNat 32 (x 1).val) 64#32) (IntOp.cmpi CmpIPredicate.eq (BitVec.ofNat 32 (x 1).val) 65#32)) 1
          (k0_pay59 x0 x1 x2 x3 x4 x5 x6 (ix2 (x 0) ⟨(x 1).val, by have := (x 1).isLt; change _ < 128 at this; omega⟩)) := by
      unfold k0_pay22 k0_pay20 k0_pay59 k0_pay21 k0_pay14 k0_pay51
      pointwise []
    refine e.trans ?_
    have h := cellV_at x0 x1 x2 x3 x4 x5 x6 y (x 0) (x 1) 0 0 rfl (by norm_num) h0 (h1.trans (Nat.zero_add _).symm)
    simp only [Nat.zero_add] at h
    exact h

end Tables

end Cert.UpIdeal.Math

end
-- ==== Proof.Up.lean ====
/-
  The products for queries, keys and values with the rotary embedding: what the kernel's program returns, in the lanes that
  hold a head's queries, keys and values, is what the reference returns.
-/
module

public import proofs.«01_k».proof.Defs
public import proofs.«01_k».proof.Proof.Gen.UpIdeal.Frame
public import proofs.«01_k».proof.Proof.Gen.UpRefIdeal.Run
public import proofs.«01_k».proof.Proof.Gen.UpRefIdeal.Read
public import proofs.«01_k».proof.Proof.UpTables
public import Idealize.ShloMosaic.Lib.Claim
public import Idealize.ShloMosaic.Lib.Pointwise

@[expose] public section

set_option maxRecDepth 16384

noncomputable section

namespace Cert.UpIdeal.Math

open Cert.UpIdeal Cert.UpIdeal.Gen Idealize.ShloMosaic Idealize.ShloMosaic.TcCoe Idealize.SL.Sem
open Idealize.ShloMosaic.Pipeline (Dat)
open Cert.RopeIdeal.Math (freq ang scale rowX c10000 c16 fin_of)

variable (m : (ℓ : Loc nD τ sig) → Buf (Elt Ideal) ℓ)

section Arrays

abbrev aA (c : Dev nD) : FVec Ideal S4096x384 .bf16 := m ((c : Thread nD τ).loc main_arg0)
abbrev aB (c : Dev nD) : FVec Ideal S4096x256 .bf16 := m ((c : Thread nD τ).loc main_arg1)
abbrev aWq (c : Dev nD) : FVec Ideal S384x768 .f32 := m ((c : Thread nD τ).loc main_arg2)
abbrev aWkv (c : Dev nD) : FVec Ideal S256x1024 .f32 := m ((c : Thread nD τ).loc main_arg3)
abbrev aR (c : Dev nD) : FVec Ideal S4096x32 .f32 := m ((c : Thread nD τ).loc main_arg4)
abbrev aP (c : Dev nD) : IVec S4096 32 := m ((c : Thread nD τ).loc main_arg5)

theorem idx : ∀ t : Fin cfg0.N, win0_0.index t = ![t.val, 0] ∧ win0_1.index t = ![t.val, 0] ∧ win0_2.index t = ![0, 0] ∧ win0_3.index t = ![0, 0]
    ∧ win0_4.index t = ![0, 0] ∧ win0_5.index t = ![t.val, 0] ∧ win0_6.index t = ![t.val, 0] ∧ win0_7.index t = ![t.val, 0] ∧ win0_8.index t = ![t.val, 0]
    ∧ win0_9.index t = ![t.val, 0] :=
  (by decide +kernel : ∀ t : Fin grid0.N, _)

/-- Row `p` of the point's block is a row of the arrays. -/
def row (t : Fin cfg0.N) (p : Fin 512) : Fin 4096 := ⟨t.val * 512 + p.val, by have := lt_of_lt_of_eq t.isLt N_0; omega⟩

/-- The host's operations before the call, in one list. -/
theorem before (c : Dev nD) (b : Ref sig .tc) : V m c b = StableHlo.after
    ((hostOps0 ++ (hostOps0_1 ++ (hostOps0_2 ++ (hostOps0_3 ++ (hostOps0_4 ++ (hostOps0_5 ++ (hostOps0_6 ++ (hostOps0_7 ++ (hostOps0_8 ++ []))))))))) : List (HloOp τ sig (Elt Ideal)))
    (fun b => m (c, b)) (Proc.devRef .tc b) := rfl

/-- The filling lanes hold zero. -/
def zer : FVec Ideal S_ .f32 := sitofp (F := Ideal) .f32 (constantI S_ 32 0#32)
theorem zer_apply (i : S_.Idx) : zer i = 0 := by
  show ((((0#32 : BitVec 32).toInt : ℝ)) : EReal) = 0
  simp

/-- The weights transposed, a head's columns in lanes of their own: the queries', and the keys' or the values' half of a head. -/
def wideQ (w : FVec Ideal S384x768 .f32) : FVec Ideal S1024x384 .bf16 :=
  truncf .bf16 (shapeCast S1024x384 (pad S8x128x384 ![0, 0, 0] ![0, 32, 0] ![0, 0, 0]
    (shapeCast S8x96x384 (transpose S768x384 [1, 0] w transposes_S384x768_S768x384_1_0) shapeCasts_S768x384_S8x96x384) zer
    pads_S8x96x384_S8x128x384_000_0320_000 h_S_) shapeCasts_S8x128x384_S1024x384) bitsLt_bf16_f32
def heads (w : FVec Ideal S256x1024 .f32) : FVec Ideal S8x128x256 .f32 :=
  shapeCast S8x128x256 (transpose S1024x256 [1, 0] w transposes_S256x1024_S1024x256_1_0) shapeCasts_S1024x256_S8x128x256
def wideH (x : FVec Ideal S8x64x256 .f32) : FVec Ideal S1024x256 .bf16 :=
  truncf .bf16 (shapeCast S1024x256 (pad S8x128x256 ![0, 0, 0] ![0, 64, 0] ![0, 0, 0] x zer pads_S8x64x256_S8x128x256_000_0640_000 h_S_)
    shapeCasts_S8x128x256_S1024x256) bitsLt_bf16_f32
def wideK (w : FVec Ideal S256x1024 .f32) : FVec Ideal S1024x256 .bf16 :=
  wideH (extractStridedSlice S8x64x256 ![0, 0, 0] (heads w) slices_S8x128x256_S8x64x256_0_0_0)
def wideV (w : FVec Ideal S256x1024 .f32) : FVec Ideal S1024x256 .bf16 :=
  wideH (extractStridedSlice S8x64x256 ![0, 64, 0] (heads w) slices_S8x128x256_S8x64x256_0_64_0)
def wideR (x : FVec Ideal S4096x32 .f32) : FVec Ideal S4096x128 .f32 :=
  pad S4096x128 ![0, 64] ![0, 32] ![0, 0] x zer pads_S4096x32_S4096x128_000_64320 h_S_

theorem V_q (c : Dev nD) : V m c main_v13 = wideQ (aWq m c) := by
  rw [before]
  simp only [hostOps0, hostOps0_1, hostOps0_2, hostOps0_3, hostOps0_4, hostOps0_5, hostOps0_6, hostOps0_7, hostOps0_8, List.cons_append, List.nil_append, List.append_nil,
    StableHlo.TRef.nullary, StableHlo.TRef.binary, StableHlo.TRef.unary, StableHlo.TRef.toBuf, StableHlo.TRef.ofBuf, cast_eq]
  after_results_simp
  rfl
theorem V_k (c : Dev nD) : V m c main_v14 = wideK (aWkv m c) := by
  rw [before]
  simp only [hostOps0, hostOps0_1, hostOps0_2, hostOps0_3, hostOps0_4, hostOps0_5, hostOps0_6, hostOps0_7, hostOps0_8, List.cons_append, List.nil_append, List.append_nil,
    StableHlo.TRef.nullary, StableHlo.TRef.binary, StableHlo.TRef.unary, StableHlo.TRef.toBuf, StableHlo.TRef.ofBuf, cast_eq]
  after_results_simp
  rfl
theorem V_v (c : Dev nD) : V m c main_v15 = wideV (aWkv m c) := by
  rw [before]
  simp only [hostOps0, hostOps0_1, hostOps0_2, hostOps0_3, hostOps0_4, hostOps0_5, hostOps0_6, hostOps0_7, hostOps0_8, List.cons_append, List.nil_append, List.append_nil,
    StableHlo.TRef.nullary, StableHlo.TRef.binary, StableHlo.TRef.unary, StableHlo.TRef.toBuf, StableHlo.TRef.ofBuf, cast_eq]
  after_results_simp
  rfl
theorem V_r (c : Dev nD) : V m c main_v8 = wideR (aR m c) := by
  rw [before]
  simp only [hostOps0, hostOps0_1, hostOps0_2, hostOps0_3, hostOps0_4, hostOps0_5, hostOps0_6, hostOps0_7, hostOps0_8, List.cons_append, List.nil_append, List.append_nil,
    StableHlo.TRef.nullary, StableHlo.TRef.binary, StableHlo.TRef.unary, StableHlo.TRef.toBuf, StableHlo.TRef.ofBuf, cast_eq]
  after_results_simp
  rfl
theorem V_p (c : Dev nD) : V m c main_v16 = shapeCast S4096x1 (aP m c) shapeCasts_S4096_S4096x1 := by
  rw [before]
  simp only [hostOps0, hostOps0_1, hostOps0_2, hostOps0_3, hostOps0_4, hostOps0_5, hostOps0_6, hostOps0_7, hostOps0_8, List.cons_append, List.nil_append, List.append_nil,
    StableHlo.TRef.nullary, StableHlo.TRef.binary, StableHlo.TRef.unary, StableHlo.TRef.toBuf, StableHlo.TRef.ofBuf, cast_eq]
  after_results_simp
  rfl

/-- The padded weights' rows: a head's own columns, and zeros after the first 64 lanes of a key's or value's head. -/
theorem wideQ_at (w : FVec Ideal S384x768 .f32) (h : Fin 8) (a : ℕ) (ha : a < 96) (k : Fin 384) :
    wideQ w (ix2 ⟨h.val * 128 + a, by omega⟩ k) = w (ix2 k ⟨h.val * 96 + a, by omega⟩) := by
  pointwise [wideQ]
  have e1 : (h.val * 128 + a) / 128 = h.val := by omega
  have e2 : (h.val * 128 + a) % 128 = a := by omega
  simp only [e1, e2]
  split_ifs <;> first | rfl | (exfalso; omega)

theorem wideH_at (x : FVec Ideal S8x64x256 .f32) (h : Fin 8) (a : ℕ) (ha : a < 128) (k : Fin 256) :
    wideH x (ix2 ⟨h.val * 128 + a, by omega⟩ k) = if h1 : a < 64 then x (ix3 h ⟨a, h1⟩ k) else 0 := by
  pointwise [wideH]
  have e1 : (h.val * 128 + a) / 128 = h.val := by omega
  have e2 : (h.val * 128 + a) % 128 = a := by omega
  simp only [e1, e2]
  split_ifs <;> first | rfl | exact zer_apply _ | (exfalso; omega)

theorem wideK_at (w : FVec Ideal S256x1024 .f32) (h : Fin 8) (a : ℕ) (ha : a < 128) (k : Fin 256) :
    wideK w (ix2 ⟨h.val * 128 + a, by omega⟩ k) = if h1 : a < 64 then w (ix2 k ⟨h.val * 128 + a, by omega⟩) else 0 := by
  unfold wideK
  rw [wideH_at _ _ _ ha]
  split_ifs
  · pointwise [heads]
  · rfl
theorem wideV_at (w : FVec Ideal S256x1024 .f32) (h : Fin 8) (a : ℕ) (ha : a < 64) (k : Fin 256) :
    wideV w (ix2 ⟨h.val * 128 + a, by omega⟩ k) = w (ix2 k ⟨h.val * 128 + (64 + a), by omega⟩) := by
  unfold wideV
  rw [wideH_at _ _ _ (by omega), dif_pos ha]
  pointwise [heads]
theorem wideR_at (x : FVec Ideal S4096x32 .f32) (r : Fin 4096) (a : ℕ) (h0 : 64 ≤ a) (h1 : a < 96) : rowX (wideR x) r a = x (ix2 r ⟨a - 64, by omega⟩) := by
  unfold rowX
  rw [dif_pos (by omega)]
  pointwise [wideR]
  split_ifs <;> first | rfl | (exfalso; omega)

variable (c : Dev nD)

/-- What the call leaves: queries turned and scaled, keys with the shared key turned, values, with the lanes of ones. -/
def resQ : FVec Ideal S4096x1024 .bf16 := fun i =>
  turn (fun a => dotX (aA m c) (wideQ (aWq m c)) (i 0) ((i 1).val / 128 * 128 + a)) (aP m c (ix1 (i 0))) ((i 1).val % 128) * scale
def resK : FVec Ideal S4096x1024 .bf16 := fun i =>
  dotX (aB m c) (wideK (aWkv m c)) (i 0) (i 1).val + keyT (keyX (wideR (aR m c)) (i 0)) (aP m c (ix1 (i 0))) ((i 1).val % 128)
def resV : FVec Ideal S4096x1024 .bf16 := fun i => valT (dotX (aB m c) (wideV (aWkv m c)) (i 0) (i 1).val) ((i 1).val % 128)

variable (t : Fin cfg0.N)

theorem blk_a (p : Fin 512) (k : Fin 384) : (show Vec Ideal S512x384 .bf16 from iblk m c 0 t) (ix2 p k) = aA m c (ix2 (row t p) k) := by
  unfold row
  blk_point [iblk, V, idx t]
theorem blk_b (p : Fin 512) (k : Fin 256) : (show Vec Ideal S512x256 .bf16 from iblk m c 1 t) (ix2 p k) = aB m c (ix2 (row t p) k) := by
  unfold row
  blk_point [iblk, V, idx t]
theorem blk_q (q : Fin 1024) (k : Fin 384) : (show Vec Ideal S1024x384 .bf16 from iblk m c 2 t) (ix2 q k) = wideQ (aWq m c) (ix2 q k) := by
  rw [← V_q]
  blk_point [iblk, idx t]
theorem blk_k (q : Fin 1024) (k : Fin 256) : (show Vec Ideal S1024x256 .bf16 from iblk m c 3 t) (ix2 q k) = wideK (aWkv m c) (ix2 q k) := by
  rw [← V_k]
  blk_point [iblk, idx t]
theorem blk_v (q : Fin 1024) (k : Fin 256) : (show Vec Ideal S1024x256 .bf16 from iblk m c 4 t) (ix2 q k) = wideV (aWkv m c) (ix2 q k) := by
  rw [← V_v]
  blk_point [iblk, idx t]
theorem blk_r (p : Fin 512) (a : ℕ) : keyX (show Vec Ideal S512x128 .f32 from iblk m c 5 t) p a = keyX (wideR (aR m c)) (row t p) a := by
  rw [← V_r]
  unfold keyX rowX row
  refine if_congr Iff.rfl ?_ rfl
  split_ifs
  · blk_point [iblk, idx t]
  · rfl
theorem blk_p (p : Fin 512) : (show Vec Ideal S512x1 .i32 from iblk m c 6 t) (ix2 p 0) = aP m c (ix1 (row t p)) := by
  have e : (show Vec Ideal S512x1 .i32 from iblk m c 6 t) (ix2 p 0) = (show Vec Ideal S4096x1 .i32 from V m c main_v16) (ix2 (row t p) 0) := by
    unfold row
    blk_point [iblk, idx t]
  rw [e, V_p]
  pointwise []

theorem dot_same {R R' n K : ℕ} {x : (⟨2, ![R, K]⟩ : Shape).Idx → EReal} {x' : (⟨2, ![R', K]⟩ : Shape).Idx → EReal} {w w' : (⟨2, ![n, K]⟩ : Shape).Idx → EReal}
    {p : Fin R} {p' : Fin R'} (hx : ∀ k, x (ix2 p k) = x' (ix2 p' k)) (hw : ∀ q k, w (ix2 q k) = w' (ix2 q k)) (a : ℕ) : dotX x w p a = dotX x' w' p' a := by
  unfold dotX
  split_ifs
  · exact Finset.sum_congr rfl fun k _ => by rw [hx, hw]
  · rfl

theorem out7_blk (y : S512x1024.Idx) (i : S4096x1024.Idx) (h0 : (i 0 : ℕ) = t.val * 512 + y 0) (h1 : (i 1 : ℕ) = y 1) :
    out0_7 (F := Ideal) (iblk m c 0 t) (iblk m c 1 t) (iblk m c 2 t) (iblk m c 3 t) (iblk m c 4 t) (iblk m c 5 t) (iblk m c 6 t) y = resQ m c i := by
  have e1 : i = ix2 (row t (y 0)) (y 1) := by
    idx_vars i
    congr 1
    · exact Fin.ext h0
    · exact Fin.ext h1
  rw [e1]
  refine (out7_apply (iblk m c 0 t) (iblk m c 1 t) (iblk m c 2 t) (iblk m c 3 t) (iblk m c 4 t) (iblk m c 5 t) (iblk m c 6 t) y).trans ?_
  have ha : (fun a => dotX (show Vec Ideal S512x384 .bf16 from iblk m c 0 t) (show Vec Ideal S1024x384 .bf16 from iblk m c 2 t) (y 0) ((y 1).val / 128 * 128 + a))
      = fun a => dotX (aA m c) (wideQ (aWq m c)) (row t (y 0)) ((y 1).val / 128 * 128 + a) := funext fun a => dot_same (blk_a m c t (y 0)) (blk_q m c t) _
  exact congrArg (· * scale) (congrFun (congr (congrArg turn ha) (blk_p m c t (y 0))) ((y 1).val % 128))

theorem out8_blk (y : S512x1024.Idx) (i : S4096x1024.Idx) (h0 : (i 0 : ℕ) = t.val * 512 + y 0) (h1 : (i 1 : ℕ) = y 1) :
    out0_8 (F := Ideal) (iblk m c 0 t) (iblk m c 1 t) (iblk m c 2 t) (iblk m c 3 t) (iblk m c 4 t) (iblk m c 5 t) (iblk m c 6 t) y = resK m c i := by
  have e1 : i = ix2 (row t (y 0)) (y 1) := by
    idx_vars i
    congr 1
    · exact Fin.ext h0
    · exact Fin.ext h1
  rw [e1]
  refine (out8_apply (iblk m c 0 t) (iblk m c 1 t) (iblk m c 2 t) (iblk m c 3 t) (iblk m c 4 t) (iblk m c 5 t) (iblk m c 6 t) y).trans ?_
  have ha : keyX (show Vec Ideal S512x128 .f32 from iblk m c 5 t) (y 0) = keyX (wideR (aR m c)) (row t (y 0)) := funext fun a => blk_r m c t (y 0) a
  exact congr (congrArg (· + ·) (dot_same (blk_b m c t (y 0)) (blk_k m c t) (y 1).val)) (congrFun (congr (congrArg keyT ha) (blk_p m c t (y 0))) ((y 1).val % 128))

theorem out9_blk (y : S512x1024.Idx) (i : S4096x1024.Idx) (h0 : (i 0 : ℕ) = t.val * 512 + y 0) (h1 : (i 1 : ℕ) = y 1) :
    out0_9 (F := Ideal) (iblk m c 0 t) (iblk m c 1 t) (iblk m c 2 t) (iblk m c 3 t) (iblk m c 4 t) (iblk m c 5 t) (iblk m c 6 t) y = resV m c i := by
  have e1 : i = ix2 (row t (y 0)) (y 1) := by
    idx_vars i
    congr 1
    · exact Fin.ext h0
    · exact Fin.ext h1
  rw [e1]
  refine (out9_apply (iblk m c 0 t) (iblk m c 1 t) (iblk m c 2 t) (iblk m c 3 t) (iblk m c 4 t) (iblk m c 5 t) (iblk m c 6 t) y).trans ?_
  exact congrArg (fun z => valT z ((y 1).val % 128)) (dot_same (blk_b m c t (y 0)) (blk_v m c t) (y 1).val)

/-- The call's three arrays. -/
theorem final7 : (dats m 0 c).arrAt 7 (cfgs 0).N = resQ m c := by
  refine (dats m 0 c).arrAt_eq_of_covers 7 _ (by decide +kernel) fun t _ y => ?_
  blk_simp
  rw [after0_7]
  exact out7_blk m c t y _ (by blk_simp [idx t]) (by blk_simp [idx t])
theorem final8 : (dats m 0 c).arrAt 8 (cfgs 0).N = resK m c := by
  refine (dats m 0 c).arrAt_eq_of_covers 8 _ (by decide +kernel) fun t _ y => ?_
  blk_simp
  rw [after0_8]
  exact out8_blk m c t y _ (by blk_simp [idx t]) (by blk_simp [idx t])
theorem final9 : (dats m 0 c).arrAt 9 (cfgs 0).N = resV m c := by
  refine (dats m 0 c).arrAt_eq_of_covers 9 _ (by decide +kernel) fun t _ y => ?_
  blk_simp
  rw [after0_9]
  exact out9_blk m c t y _ (by blk_simp [idx t]) (by blk_simp [idx t])

end Arrays

section Tail
variable (T : FVec Ideal S4096x1024 .bf16) (c : Dev nD)

/-- What the host's last lines make of one of the call's arrays: a head's first lanes. -/
def out96 : FVec Ideal S4096x8x96 .bf16 :=
  extractStridedSlice S4096x8x96 ![0, 0, 0] (shapeCast S4096x8x128 T shapeCasts_S4096x1024_S4096x8x128) slices_S4096x8x128_S4096x8x96_0_0_0
def out64 : FVec Ideal S4096x8x64 .bf16 :=
  extractStridedSlice S4096x8x64 ![0, 0, 0] (shapeCast S4096x8x128 T shapeCasts_S4096x1024_S4096x8x128) slices_S4096x8x128_S4096x8x64_0_0_0

theorem out96_apply (r : Fin 4096) (h : Fin 8) (l : Fin 96) : out96 T (ix3 r h l) = T (ix2 r ⟨h.val * 128 + l.val, by omega⟩) := by
  pointwise [out96]
theorem out64_apply (r : Fin 4096) (h : Fin 8) (l : Fin 64) : out64 T (ix3 r h l) = T (ix2 r ⟨h.val * 128 + l.val, by omega⟩) := by
  pointwise [out64]

abbrev tail (b : Ref sig .tc) := Pipeline.afterTail₀ cfgs (dats m) 0 (V0 m) [hostOps1] c b

theorem tail_v19 : tail m c main_v19 = out96 (resQ m c) := by
  unfold tail Pipeline.afterTail₀
  simp only [hostOps1, List.flatten_cons, List.flatten_nil, List.append_nil]
  after_results_simp
  refine congrArg out96 (Eq.trans ?_ (final7 m c))
  exact Pipeline.withArrays_arr spec0 (by decide) c _ _ 7
theorem tail_v21 : tail m c main_v21 = out96 (resK m c) := by
  unfold tail Pipeline.afterTail₀
  simp only [hostOps1, List.flatten_cons, List.flatten_nil, List.append_nil]
  after_results_simp
  refine congrArg out96 (Eq.trans ?_ (final8 m c))
  exact Pipeline.withArrays_arr spec0 (by decide) c _ _ 8
theorem tail_v23 : tail m c main_v23 = out64 (resV m c) := by
  unfold tail Pipeline.afterTail₀
  simp only [hostOps1, List.flatten_cons, List.flatten_nil, List.append_nil]
  after_results_simp
  refine congrArg out64 (Eq.trans ?_ (final9 m c))
  exact Pipeline.withArrays_arr spec0 (by decide) c _ _ 9

/-- The kernel's program runs, and its results are the host's last lines of the call's three arrays. -/
theorem run_results (ρ : Dev nD → PrngReg) :
    θ_run (defs (F := Ideal)) (onTc (τ := τ) (main (F := Ideal))) ⟨m, fun _ => 0, ρ⟩ (fun r => ∀ c : Dev nD,
      r.2.mem ((c.tc : Thread nD τ).loc main_v19) = out96 (resQ m c)
      ∧ r.2.mem ((c.tc : Thread nD τ).loc main_v21) = out96 (resK m c)
      ∧ r.2.mem ((c.tc : Thread nD τ).loc main_v23) = out64 (resV m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨
    ((h.1 c).2 main_v19 (Pipeline.mem_restRefs_of _ (by decide) (by decide))).trans (tail_v19 m c),
    ((h.1 c).2 main_v21 (Pipeline.mem_restRefs_of _ (by decide) (by decide))).trans (tail_v21 m c),
    ((h.1 c).2 main_v23 (Pipeline.mem_restRefs_of _ (by decide) (by decide))).trans (tail_v23 m c),
    h.2.1 c⟩) (θ_run_and (run_main m ρ) (frame m ρ))

end Tail

section Ref
open Cert.UpRefIdeal.Read

/-- The reference's angles, in both places. -/
theorem ref_ang (x5 : IVec S4096 32) (r : Fin 4096) (f : Fin 16) : val_main_v19 (F := Ideal) x5 (ix3 r 0 f) = ang (x5 (ix1 r)) f.val := by
  pointwise [val_main_v19, val_main_v18, val_main_v17, val_main_v16, val_main_v15, val_main_v14, val_main_v13, val_main_v12, val_main_cst_0, val_main_v11, val_main_v10, val_main_cst, val_main_v9, val_main_v8]
  rw [c10000, c16]
  unfold ang freq
  show (((x5 (ix1 r)).toInt : ℝ) : EReal) * Ideal.pow 10000 (Ideal.div (-(((BitVec.ofNat 32 f.val).toInt : ℝ) : EReal)) 16) = _
  rw [show (BitVec.ofNat 32 f.val).toInt = ((f.val : ℕ) : ℤ) by revert f; decide +kernel]
  norm_cast
theorem ref_ang' (x5 : IVec S4096 32) (r : Fin 4096) (f : Fin 16) : val_main_v50 (F := Ideal) x5 (ix3 r 0 f) = ang (x5 (ix1 r)) f.val := by
  refine Eq.trans ?_ (ref_ang x5 r f)
  pointwise [val_main_v50, val_main_v49, val_main_v48, val_main_v47, val_main_v46, val_main_v45, val_main_v44, val_main_v43, val_main_cst_3, val_main_v42, val_main_v41, val_main_cst_2, val_main_v40, val_main_v39,
    val_main_v19, val_main_v18, val_main_v17, val_main_v16, val_main_v15, val_main_v14, val_main_v13, val_main_v12, val_main_cst_0, val_main_v11, val_main_v10, val_main_cst, val_main_v9, val_main_v8]

/-- The queries' product at a head's column. -/
def colQ (x0 : FVec Ideal S4096x384 .bf16) (x2 : FVec Ideal S384x768 .f32) (r : Fin 4096) (h : Fin 8) (a : Fin 96) : EReal :=
  ∑ k : Fin 384, x0 (ix2 r k) * x2 (ix2 k ⟨h.val * 96 + a.val, by omega⟩)
def colKV (x1 : FVec Ideal S4096x256 .bf16) (x3 : FVec Ideal S256x1024 .f32) (r : Fin 4096) (h : Fin 8) (a : Fin 128) : EReal :=
  ∑ k : Fin 256, x1 (ix2 r k) * x3 (ix2 k ⟨h.val * 128 + a.val, by omega⟩)

theorem ref_cq (x0 : FVec Ideal S4096x384 .bf16) (x2 : FVec Ideal S384x768 .f32) (r : Fin 4096) (h : Fin 8) (a : Fin 96) :
    val_main_v2 (F := Ideal) x0 x2 (ix3 r h a) = colQ x0 x2 r h a := by
  unfold colQ
  pointwise [val_main_v2, val_main_v1, val_main_v0]
theorem ref_ckv (x1 : FVec Ideal S4096x256 .bf16) (x3 : FVec Ideal S256x1024 .f32) (r : Fin 4096) (h : Fin 8) (a : Fin 128) :
    val_main_v5 (F := Ideal) x1 x3 (ix3 r h a) = colKV x1 x3 r h a := by
  unfold colKV
  pointwise [val_main_v5, val_main_v4, val_main_v3]

theorem ref_q (x0 : FVec Ideal S4096x384 .bf16) (x2 : FVec Ideal S384x768 .f32) (x5 : IVec S4096 32) (r : Fin 4096) (h : Fin 8) (l : Fin 96) :
    val_main_v65 (F := Ideal) x0 x2 x5 (ix3 r h l) = (if h1 : l.val < 64 then colQ x0 x2 r h ⟨l.val, by omega⟩
      else if h2 : l.val - 64 < 16 then
        colQ x0 x2 r h ⟨64 + (l.val - 64), by omega⟩ * Ideal.cos (ang (x5 (ix1 r)) (l.val - 64))
          - colQ x0 x2 r h ⟨64 + (16 + (l.val - 64)), by omega⟩ * Ideal.sin (ang (x5 (ix1 r)) (l.val - 64))
      else colQ x0 x2 r h ⟨64 + (16 + (l.val - 64 - 16)), by omega⟩ * Ideal.cos (ang (x5 (ix1 r)) (l.val - 64 - 16))
          + colQ x0 x2 r h ⟨64 + (l.val - 64 - 16), by omega⟩ * Ideal.sin (ang (x5 (ix1 r)) (l.val - 64 - 16))) * scale := by
  pointwise [val_main_v65, val_main_v37, val_main_v36, val_main_cst_1, val_main_v35, val_main_v34, val_main_v33, val_main_v32, val_main_v31, val_main_v30, val_main_v29, val_main_v28,
    val_main_v27, val_main_v26, val_main_v25, val_main_v24, val_main_v23, val_main_v22, val_main_v21, val_main_v20, val_main_v7, val_main_v6]
  simp only [ref_ang, ref_cq]
  rfl

theorem ref_k (x1 : FVec Ideal S4096x256 .bf16) (x3 : FVec Ideal S256x1024 .f32) (x4 : FVec Ideal S4096x32 .f32) (x5 : IVec S4096 32) (r : Fin 4096) (h : Fin 8) (l : Fin 96) :
    val_main_v66 (F := Ideal) x1 x3 x4 x5 (ix3 r h l) = if h1 : l.val < 64 then colKV x1 x3 r h ⟨l.val, by omega⟩
      else if h2 : l.val - 64 < 16 then
        x4 (ix2 r ⟨l.val - 64, by omega⟩) * Ideal.cos (ang (x5 (ix1 r)) (l.val - 64))
          - x4 (ix2 r ⟨16 + (l.val - 64), by omega⟩) * Ideal.sin (ang (x5 (ix1 r)) (l.val - 64))
      else x4 (ix2 r ⟨16 + (l.val - 64 - 16), by omega⟩) * Ideal.cos (ang (x5 (ix1 r)) (l.val - 64 - 16))
          + x4 (ix2 r ⟨l.val - 64 - 16, by omega⟩) * Ideal.sin (ang (x5 (ix1 r)) (l.val - 64 - 16)) := by
  pointwise [val_main_v66, val_main_v64, val_main_v63, val_main_v62, val_main_v61, val_main_v60, val_main_v59, val_main_v58, val_main_v57, val_main_v56, val_main_v55, val_main_v54, val_main_v53,
    val_main_v52, val_main_v51, val_main_v38]
  simp only [ref_ang', ref_ckv]

theorem ref_v (x1 : FVec Ideal S4096x256 .bf16) (x3 : FVec Ideal S256x1024 .f32) (r : Fin 4096) (h : Fin 8) (l : Fin 64) :
    val_main_v68 (F := Ideal) x1 x3 (ix3 r h l) = colKV x1 x3 r h ⟨64 + l.val, by omega⟩ := by
  pointwise [val_main_v68, val_main_v67]
  exact ref_ckv x1 x3 r h _

variable (c : Dev nD)

theorem dot_q (r : Fin 4096) (h : Fin 8) (a : ℕ) (ha : a < 96) :
    dotX (aA m c) (wideQ (aWq m c)) r (h.val * 128 + a) = colQ (aA m c) (aWq m c) r h ⟨a, ha⟩ := by
  unfold dotX colQ
  rw [dif_pos (by omega)]
  exact Finset.sum_congr rfl fun k _ => by rw [wideQ_at _ _ _ ha]
theorem dot_k (r : Fin 4096) (h : Fin 8) (a : ℕ) (ha : a < 96) :
    dotX (aB m c) (wideK (aWkv m c)) r (h.val * 128 + a) = if h1 : a < 64 then colKV (aB m c) (aWkv m c) r h ⟨a, by omega⟩ else 0 := by
  unfold dotX colKV
  rw [dif_pos (by omega)]
  split_ifs with h1
  · exact Finset.sum_congr rfl fun k _ => by rw [wideK_at _ _ _ (by omega), dif_pos h1]
  · exact Finset.sum_eq_zero fun k _ => by rw [wideK_at _ _ _ (by omega), dif_neg h1, mul_zero]
theorem dot_v (r : Fin 4096) (h : Fin 8) (a : ℕ) (ha : a < 64) :
    dotX (aB m c) (wideV (aWkv m c)) r (h.val * 128 + a) = colKV (aB m c) (aWkv m c) r h ⟨64 + a, by omega⟩ := by
  unfold dotX colKV
  rw [dif_pos (by omega)]
  exact Finset.sum_congr rfl fun k _ => by rw [wideV_at _ _ _ ha]

theorem sub_mul_sin (x y s : EReal) : x + y * (0 - s) = x - y * s := by
  rw [zero_sub, mul_comm y, EReal.neg_mul, mul_comm s, sub_eq_add_neg]

theorem same_q_at (r : Fin 4096) (h : Fin 8) (l : Fin 96) :
    turn (fun a => dotX (aA m c) (wideQ (aWq m c)) r (h.val * 128 + a)) (aP m c (ix1 r)) l.val * scale
      = val_main_v65 (F := Ideal) (aA m c) (aWq m c) (aP m c) (ix3 r h l) := by
  refine Eq.trans ?_ (ref_q (aA m c) (aWq m c) (aP m c) r h l).symm
  refine congrArg (· * scale) ?_
  have hd := dot_q m c r h
  generalize aP m c (ix1 r) = w
  obtain ⟨l, hl⟩ := l
  unfold turn
  dsimp only
  by_cases h1 : l < 64
  · rw [if_neg (by omega), if_neg (by omega), hd _ hl, dif_pos h1]
  · by_cases h2 : l < 80
    · rw [if_pos (by omega), hd _ hl, hd _ (by omega), dif_neg h1, dif_pos (by omega), sub_mul_sin,
        fin_of (show 64 + (l - 64) = l by omega), fin_of (show 64 + (16 + (l - 64)) = l + 16 by omega)]
    · rw [if_neg (by omega), if_pos (by omega), hd _ hl, hd _ (by omega), dif_neg h1, dif_neg (by omega),
        fin_of (show 64 + (16 + (l - 64 - 16)) = l by omega), fin_of (show 64 + (l - 64 - 16) = l - 16 by omega)]
      rw [show l - 64 - 16 = l - 80 by omega]

theorem same_q : out96 (resQ m c) = val_main_v65 (F := Ideal) (aA m c) (aWq m c) (aP m c) := by
  funext i
  idx_vars i
  rw [out96_apply]
  unfold resQ
  have e1 : (i1.val * 128 + i2.val) / 128 = i1.val := by omega
  have e2 : (i1.val * 128 + i2.val) % 128 = i2.val := by omega
  show turn (fun a => dotX (aA m c) (wideQ (aWq m c)) i0 ((i1.val * 128 + i2.val) / 128 * 128 + a)) (aP m c (ix1 i0)) ((i1.val * 128 + i2.val) % 128) * scale = _
  simp only [e1, e2]
  exact same_q_at m c i0 i1 i2

theorem key_lane (r : Fin 4096) (a : ℕ) (h0 : 64 ≤ a) (h1 : a < 96) : keyX (wideR (aR m c)) r a = aR m c (ix2 r ⟨a - 64, by omega⟩) := by
  unfold keyX
  rw [if_pos ⟨h0, h1⟩, wideR_at _ _ _ h0 h1]
theorem key_zero (r : Fin 4096) (a : ℕ) (h0 : a < 64) : keyX (wideR (aR m c)) r a = 0 := by
  unfold keyX
  rw [if_neg (by omega)]

theorem same_k_at (r : Fin 4096) (h : Fin 8) (l : Fin 96) :
    dotX (aB m c) (wideK (aWkv m c)) r (h.val * 128 + l.val) + keyT (keyX (wideR (aR m c)) r) (aP m c (ix1 r)) l.val
      = val_main_v66 (F := Ideal) (aB m c) (aWkv m c) (aR m c) (aP m c) (ix3 r h l) := by
  refine Eq.trans ?_ (ref_k (aB m c) (aWkv m c) (aR m c) (aP m c) r h l).symm
  have hk := key_lane m c r
  have hz := key_zero m c r
  generalize aP m c (ix1 r) = w
  obtain ⟨l, hl⟩ := l
  rw [dot_k m c r h l hl]
  unfold keyT turn
  dsimp only
  rw [if_neg (by omega)]
  by_cases h1 : l < 64
  · rw [if_neg (by omega), if_neg (by omega), hz _ h1, dif_pos h1, dif_pos h1, add_zero]
  · by_cases h2 : l < 80
    · rw [if_pos (by omega), hk _ (by omega) (by omega), hk _ (by omega) (by omega), dif_neg h1, dif_neg h1, dif_pos (by omega), sub_mul_sin, zero_add,
        fin_of (show l + 16 - 64 = 16 + (l - 64) by omega)]
    · rw [if_neg (by omega), if_pos (by omega), hk _ (by omega) (by omega), hk _ (by omega) (by omega), dif_neg h1, dif_neg h1, dif_neg (by omega), zero_add,
        fin_of (show 16 + (l - 64 - 16) = l - 64 by omega), fin_of (show l - 16 - 64 = l - 64 - 16 by omega)]
      rw [show l - 80 = l - 64 - 16 by omega]

theorem same_k : out96 (resK m c) = val_main_v66 (F := Ideal) (aB m c) (aWkv m c) (aR m c) (aP m c) := by
  funext i
  idx_vars i
  rw [out96_apply]
  unfold resK
  have e2 : (i1.val * 128 + i2.val) % 128 = i2.val := by omega
  show dotX (aB m c) (wideK (aWkv m c)) i0 (i1.val * 128 + i2.val) + keyT (keyX (wideR (aR m c)) i0) (aP m c (ix1 i0)) ((i1.val * 128 + i2.val) % 128) = _
  simp only [e2]
  exact same_k_at m c i0 i1 i2

theorem same_v : out64 (resV m c) = val_main_v68 (F := Ideal) (aB m c) (aWkv m c) := by
  funext i
  idx_vars i
  rw [out64_apply, ref_v]
  unfold resV valT
  have hl : i2.val < 64 := i2.isLt
  show (if (i1.val * 128 + i2.val) % 128 = 64 ∨ (i1.val * 128 + i2.val) % 128 = 65 then (1 : EReal) else dotX (aB m c) (wideV (aWkv m c)) i0 (i1.val * 128 + i2.val)) = _
  rw [if_neg (by omega)]
  exact dot_v m c i0 i1 i2.val hl

end Ref

/-- The reference terminates, keeps its arguments, and leaves every counter at zero: it has none. -/
theorem frame_ref : Cert.quiescent_UpRefIdeal := fun m g _ => by
  refine (θ_run _ _ _).mono (fun r h => ⟨fun c => (h c).2.2.2, sem_eq_zero_of_no_sems (sig := Cert.UpRefIdeal.sig) rfl _⟩)
    (Cert.UpRefIdeal.Value.run m g)

theorem preserves : Cert.preserves_Up_UpIdeal :=
  IdealRules.named_const.statement Cert.UpIdeal.κ "rate" .f32 0xBF135D8E#32 ((-((Real.log 10000) * 16⁻¹) : ℝ) : EReal) rfl

/-- The claim: kernel and reference leave the same three arrays. -/
theorem algebraic : Cert.algebraic_UpIdeal_UpRefIdeal := by
  pair_intro
  · run_from run_results m g
  · refine (θ_run _ _ _).mono (fun r h c => ?_) (Cert.UpRefIdeal.Value.run m' g')
    obtain ⟨h0, h1, h2, hr⟩ := h c
    obtain ⟨a0, a1, a2, a3, a4, a5⟩ := hagree c
    rw [Cert.UpRefIdeal.Read.val_main_v65_eq, a0, a2, a5] at h0
    rw [Cert.UpRefIdeal.Read.val_main_v66_eq, a1, a3, a4, a5] at h1
    rw [Cert.UpRefIdeal.Read.val_main_v68_eq, a1, a3] at h2
    exact ⟨h0.trans (same_q m c).symm, h1.trans (same_k m c).symm, h2.trans (same_v m c).symm, hr⟩

end Cert.UpIdeal.Math

end
-- ==== Proof.Down.lean ====
/-
  The gradient of the FFN's down projection in its weights: the product of the activation's transpose and the cotangent, in
  blocks of 256 rows, is the reference's, as it stands and rounded.
-/
module

public import proofs.«01_k».proof.Defs
public import proofs.«01_k».proof.Proof.Gen.DownIdeal.Frame
public import proofs.«01_k».proof.Proof.Gen.DownRefIdeal.Read
public import proofs.«01_k».proof.Proof.Finite
public import Idealize.ShloMosaic.Lib.Claim
public import Idealize.ShloMosaic.Lib.Pointwise

@[expose] public section

set_option maxRecDepth 16384

noncomputable section

namespace Cert.DownIdeal.Math

open Cert.DownIdeal Cert.DownIdeal.Gen Idealize.ShloMosaic Idealize.ShloMosaic.TcCoe Idealize.SL.Sem
open Idealize.ShloMosaic.Pipeline (Dat)

variable (m : (ℓ : Loc nD τ sig) → Buf (Elt Ideal) ℓ)

section Ref
open Cert.DownRefIdeal.Read

variable (x0 : FVec Ideal S4096x2816 .bf16) (x1 : FVec Ideal S4096x1024 .bf16)

/-- A column of the activation against a column of the cotangent. -/
def prod (y : S2816x1024.Idx) : EReal := ∑ k : Fin 4096, x0 (ix2 k (y 0)) * x1 (ix2 k (y 1))

theorem refg_apply (y) : val_main_v5 (F := Ideal) x0 x1 y = prod x0 x1 y := by
  unfold prod
  simp only [fun k => mul_comm (x0 (ix2 k (y 0))) (x1 (ix2 k (y 1)))]
  pointwise [val_main_v5, val_main_v4, val_main_v3, val_main_v1]
  try rfl

theorem refb_apply (y) : val_main_v6 (F := Ideal) x0 x1 y = prod x0 x1 y := refg_apply x0 x1 y

end Ref

/-- The index maps: a block of the activation's columns meets the whole cotangent. -/
theorem idx : ∀ t : Fin cfg0.N, win0_0.index t = ![0, t.val] ∧ win0_1.index t = ![0, 0] ∧ win0_2.index t = ![t.val, 0] ∧ win0_3.index t = ![t.val, 0] :=
  (by decide +kernel : ∀ t : Fin grid0.N, _)

abbrev aA (c : Dev nD) : FVec Ideal S4096x2816 .bf16 := m ((c : Thread nD τ).loc main_arg0)
abbrev aD (c : Dev nD) : FVec Ideal S4096x1024 .bf16 := m ((c : Thread nD τ).loc main_arg1)

theorem final2 (c : Dev nD) : (dats m 0 c).arrAt 2 (cfgs 0).N = Cert.DownRefIdeal.Read.val_main_v5 (F := Ideal) (aA m c) (aD m c) := by
  refine (dats m 0 c).arrAt_eq_of_covers 2 _ (by decide +kernel) fun t _ y => ?_
  blk_simp
  rw [after0_2]
  frame_out
  rw [refg_apply]
  unfold prod
  pointwise [k0_pay1]
  blk_point [iblk, V, idx t]

theorem final3 (c : Dev nD) : (dats m 0 c).arrAt 3 (cfgs 0).N = Cert.DownRefIdeal.Read.val_main_v6 (F := Ideal) (aA m c) (aD m c) := by
  refine (dats m 0 c).arrAt_eq_of_covers 3 _ (by decide +kernel) fun t _ y => ?_
  blk_simp
  rw [after0_3]
  frame_out
  rw [refb_apply]
  unfold prod
  pointwise [k0_pay2, k0_pay1]
  blk_point [iblk, V, idx t]

/-- The reference terminates, keeps its arguments, and leaves every counter at zero: it has none. -/
theorem frame_ref : Cert.quiescent_DownRefIdeal := fun m g _ => by
  refine (θ_run _ _ _).mono (fun r h => ⟨fun c => (h c).2.2, sem_eq_zero_of_no_sems (sig := Cert.DownRefIdeal.sig) rfl _⟩)
    (Cert.DownRefIdeal.Value.run m g)

/-- The claim: kernel and reference leave the same two arrays. -/
theorem algebraic : Cert.algebraic_DownIdeal_DownRefIdeal := by
  pair_intro
  · run_from Cert.DownIdeal.Gen.run_main m g
  · run_from Cert.DownRefIdeal.Value.run m' g'
    all_goals obtain ⟨a0, a1⟩ := hagree c
    · exact (final2 m c).symm
    · exact (final3 m c).symm

end Cert.DownIdeal.Math

end
-- ==== Proof.Adam.lean ====
/-
  The optimiser's step on one device's rows of the FFN's down projection: the two halves of the gradient, the device's own
  and its sibling's, are put back in order, and each half of the columns takes the step of `AdamW`.
-/
module

public import proofs.«01_k».proof.Defs
public import proofs.«01_k».proof.Proof.Gen.Pre_a_core
public import proofs.«01_k».proof.Proof.Gen.AdamIdeal.Frame
public import proofs.«01_k».proof.Proof.Gen.AdamRefIdeal.Run
public import proofs.«01_k».proof.Proof.Gen.AdamRefIdeal.Read
public import proofs.«01_k».proof.Proof.Finite
public import Idealize.ShloMosaic.Lib.Claim
public import Idealize.ShloMosaic.Lib.Pointwise

@[expose] public section

set_option maxRecDepth 16384

noncomputable section

namespace Cert.AdamIdeal.Math

open Cert.AdamIdeal Cert.AdamIdeal.Gen Idealize.ShloMosaic Idealize.ShloMosaic.TcCoe Idealize.SL.Sem
open Idealize.ShloMosaic.Pipeline (Dat)

/-- No index map reads the table: the pipeline's condition on its contents holds of any. -/
theorem ok {F : FTy → Type} [FloatOps F] (m : (ℓ : Loc nD τ sig) → Buf (Elt F) ℓ) : Ok m := trivial

variable (m : (ℓ : Loc nD τ sig) → Buf (Elt Ideal) ℓ)

/-- The index maps: a half of the columns of the four arrays and of the results, the gradient's halves whole. -/
theorem maps : ∀ t : Fin grid0.N, cc0_transform_0 (grid0.coords t) = ![0, t.val] ∧ cc0_transform_1 (grid0.coords t) = ![0, t.val]
    ∧ cc0_transform_2 (grid0.coords t) = ![0, t.val] ∧ cc0_transform_3 (grid0.coords t) = ![0, 0] ∧ cc0_transform_4 (grid0.coords t) = ![0, 0]
    ∧ cc0_transform_5 (grid0.coords t) = ![0, t.val] ∧ cc0_transform_6 (grid0.coords t) = ![0, t.val]
    ∧ cc0_transform_7 (grid0.coords t) = ![0, t.val] ∧ cc0_transform_8 (grid0.coords t) = ![0, t.val] := by decide +kernel

theorem idx : ∀ t : Fin (cfgM m (ok m)).N, ((cfgM m (ok m)).win 0).index t = ![0, t.val] ∧ ((cfgM m (ok m)).win 1).index t = ![0, t.val]
    ∧ ((cfgM m (ok m)).win 2).index t = ![0, t.val] ∧ ((cfgM m (ok m)).win 3).index t = ![0, 0] ∧ ((cfgM m (ok m)).win 4).index t = ![0, 0]
    ∧ ((cfgM m (ok m)).win 5).index t = ![0, t.val] ∧ ((cfgM m (ok m)).win 6).index t = ![0, t.val]
    ∧ ((cfgM m (ok m)).win 7).index t = ![0, t.val] ∧ ((cfgM m (ok m)).win 8).index t = ![0, t.val] := fun t => maps t

section Block

variable (c : Dev nD) (i : grid0.Coords) (a2 : Memref sig .tc .vmem S704x512 .f32) (h2 : a2.IsWhole) (a3 : Memref sig .tc .vmem S704x512 .f32) (h3 : a3.IsWhole)
  (a4 : Memref sig .tc .vmem S704x512 .f32) (h4 : a4.IsWhole) (a5 : Memref sig .tc .vmem S704x512 .f32) (h5 : a5.IsWhole)
  (a6 : Memref sig .tc .vmem S704x512 .f32) (h6 : a6.IsWhole) (a7 : Memref sig .tc .vmem S704x512 .f32) (h7 : a7.IsWhole)
  (a8 : Memref sig .tc .vmem S704x512 .f32) (h8 : a8.IsWhole) (a9 : Memref sig .tc .vmem S704x512 .f32) (h9 : a9.IsWhole)
  (a10 : Memref sig .tc .vmem S704x512 .f32) (h10 : a10.IsWhole) (x0 x1 x2 x3 x4 : Vec Ideal S704x512 .f32) (xt : TbBuf0 (F := Ideal) c tbM0_0)

/-- The device's core, as the body reads it. -/
theorem word (h) : View.read (Elt Ideal) (View.whole main_arg4) xt (Shape.Idx.first (s := S1) h) = (show IVec S1 32 from xt) (ix1 0) :=
  congrArg (show IVec S1 32 from xt) (funext fun a => by fin_cases a; exact Subsingleton.elim (α := Fin 1) _ _)

theorem out5 (y : S704x512.Idx) : out0_A_5 c i a2 h2 a3 h3 a4 h4 a5 h5 a6 h6 a7 h7 a8 h8 a9 h9 a10 h10 x0 x1 x2 x3 x4 xt y
    = k0_pay1 i ((show IVec S1 32 from xt) (ix1 0)) x3 x4 y := by
  frame_out
  rw [word]

theorem out6 (y : S704x512.Idx) : out0_A_6 c i a2 h2 a3 h3 a4 h4 a5 h5 a6 h6 a7 h7 a8 h8 a9 h9 a10 h10 x0 x1 x2 x3 x4 xt y
    = k0_pay4 i ((show IVec S1 32 from xt) (ix1 0)) x3 x4 x0 x1 x2 y := by
  frame_out
  rw [word]

theorem out7 (y : S704x512.Idx) : out0_A_7 c i a2 h2 a3 h3 a4 h4 a5 h5 a6 h6 a7 h7 a8 h8 a9 h9 a10 h10 x0 x1 x2 x3 x4 xt y
    = k0_pay2 i ((show IVec S1 32 from xt) (ix1 0)) x3 x4 x1 y := by
  frame_out
  rw [word]

theorem out8 (y : S704x512.Idx) : out0_A_8 c i a2 h2 a3 h3 a4 h4 a5 h5 a6 h6 a7 h7 a8 h8 a9 h9 a10 h10 x0 x1 x2 x3 x4 xt y
    = k0_pay3 i ((show IVec S1 32 from xt) (ix1 0)) x3 x4 x2 y := by
  frame_out
  rw [word]

end Block

section Geometry

/-- Some contents of the table: where the blocks lie does not depend on them. -/
abbrev any : (pcfg0 (F := Ideal)).Adm := ⟨fun | 0 => fun _ => 0#32, trivial⟩

theorem cov5 : ((cfgM m (ok m)).win 5).Covers := (by decide +kernel : ((cfg0 any).win 5).Covers)
theorem cov6 : ((cfgM m (ok m)).win 6).Covers := (by decide +kernel : ((cfg0 any).win 6).Covers)
theorem cov7 : ((cfgM m (ok m)).win 7).Covers := (by decide +kernel : ((cfg0 any).win 7).Covers)
theorem cov8 : ((cfgM m (ok m)).win 8).Covers := (by decide +kernel : ((cfg0 any).win 8).Covers)

/-- Column `q` of half `t`. -/
def col (t : Fin (cfgM m (ok m)).N) (q : Fin 512) : Fin 1024 := ⟨t.val * 512 + q.val, by have : t.val < 2 := lt_of_lt_of_eq t.isLt N_0; omega⟩

/-- An index of the arrays with the block's two offsets and an index of the block. -/
theorem placed (t : Fin (cfgM m (ok m)).N) (p : Fin 704) (q : Fin 512) (i : S704x1024.Idx) (d : Fin 2 → ℕ) (h : d = ![0, t.val])
    (h0 : (i 0).val = d 0 * 704 + p.val) (h1 : (i 1).val = d 1 * 512 + q.val) : i = ix2 p (col m t q) := by
  subst h
  idx_vars i
  congr 1
  · exact Fin.ext (h0.trans (by show 0 * 704 + p.val = _; omega))
  · exact Fin.ext h1

theorem emb5 (t : Fin (cfgM m (ok m)).N) (p : Fin 704) (q : Fin 512) : (((cfgM m (ok m)).win 5).blk t).view.emb (ix2 p q) = ix2 p (col m t q) :=
  placed m t p q _ _ (idx m t).2.2.2.2.2.1 (ValueKit.view_emb_slice_whole_unit_val _ _ _ _ _ _) (ValueKit.view_emb_slice_whole_unit_val _ _ _ _ _ _)
theorem emb6 (t : Fin (cfgM m (ok m)).N) (p : Fin 704) (q : Fin 512) : (((cfgM m (ok m)).win 6).blk t).view.emb (ix2 p q) = ix2 p (col m t q) :=
  placed m t p q _ _ (idx m t).2.2.2.2.2.2.1 (ValueKit.view_emb_slice_whole_unit_val _ _ _ _ _ _) (ValueKit.view_emb_slice_whole_unit_val _ _ _ _ _ _)
theorem emb7 (t : Fin (cfgM m (ok m)).N) (p : Fin 704) (q : Fin 512) : (((cfgM m (ok m)).win 7).blk t).view.emb (ix2 p q) = ix2 p (col m t q) :=
  placed m t p q _ _ (idx m t).2.2.2.2.2.2.2.1 (ValueKit.view_emb_slice_whole_unit_val _ _ _ _ _ _) (ValueKit.view_emb_slice_whole_unit_val _ _ _ _ _ _)
theorem emb8 (t : Fin (cfgM m (ok m)).N) (p : Fin 704) (q : Fin 512) : (((cfgM m (ok m)).win 8).blk t).view.emb (ix2 p q) = ix2 p (col m t q) :=
  placed m t p q _ _ (idx m t).2.2.2.2.2.2.2.2 (ValueKit.view_emb_slice_whole_unit_val _ _ _ _ _ _) (ValueKit.view_emb_slice_whole_unit_val _ _ _ _ _ _)

theorem emb0 (t : Fin (cfgM m (ok m)).N) (p : Fin 704) (q : Fin 512) : (((cfgM m (ok m)).win 0).blk t).view.emb (ix2 p q) = ix2 p (col m t q) :=
  placed m t p q _ _ (idx m t).1 (ValueKit.view_emb_slice_whole_unit_val _ _ _ _ _ _) (ValueKit.view_emb_slice_whole_unit_val _ _ _ _ _ _)
theorem emb1 (t : Fin (cfgM m (ok m)).N) (p : Fin 704) (q : Fin 512) : (((cfgM m (ok m)).win 1).blk t).view.emb (ix2 p q) = ix2 p (col m t q) :=
  placed m t p q _ _ (idx m t).2.1 (ValueKit.view_emb_slice_whole_unit_val _ _ _ _ _ _) (ValueKit.view_emb_slice_whole_unit_val _ _ _ _ _ _)
theorem emb2 (t : Fin (cfgM m (ok m)).N) (p : Fin 704) (q : Fin 512) : (((cfgM m (ok m)).win 2).blk t).view.emb (ix2 p q) = ix2 p (col m t q) :=
  placed m t p q _ _ (idx m t).2.2.1 (ValueKit.view_emb_slice_whole_unit_val _ _ _ _ _ _) (ValueKit.view_emb_slice_whole_unit_val _ _ _ _ _ _)

/-- An index of a half that is one block. -/
theorem whole (p : Fin 704) (q : Fin 512) (i : S704x512.Idx) (d : Fin 2 → ℕ) (h : d = ![0, 0])
    (h0 : (i 0).val = d 0 * 704 + p.val) (h1 : (i 1).val = d 1 * 512 + q.val) : i = ix2 p q := by
  subst h
  idx_vars i
  congr 1
  · exact Fin.ext (h0.trans (by show 0 * 704 + p.val = _; omega))
  · exact Fin.ext (h1.trans (by show 0 * 512 + q.val = _; omega))

theorem emb3 (t : Fin (cfgM m (ok m)).N) (p : Fin 704) (q : Fin 512) : (((cfgM m (ok m)).win 3).blk t).view.emb (ix2 p q) = ix2 p q :=
  whole p q _ _ (idx m t).2.2.2.1 (ValueKit.view_emb_slice_whole_unit_val _ _ _ _ _ _) (ValueKit.view_emb_slice_whole_unit_val _ _ _ _ _ _)
theorem emb4 (t : Fin (cfgM m (ok m)).N) (p : Fin 704) (q : Fin 512) : (((cfgM m (ok m)).win 4).blk t).view.emb (ix2 p q) = ix2 p q :=
  whole p q _ _ (idx m t).2.2.2.2.1 (ValueKit.view_emb_slice_whole_unit_val _ _ _ _ _ _) (ValueKit.view_emb_slice_whole_unit_val _ _ _ _ _ _)

end Geometry

section Arrays

variable (c : Dev nD)

abbrev aW : FVec Ideal S704x1024 .f32 := m ((c : Thread nD τ).loc main_arg0)
abbrev aM : FVec Ideal S704x1024 .f32 := m ((c : Thread nD τ).loc main_arg1)
abbrev aV : FVec Ideal S704x1024 .f32 := m ((c : Thread nD τ).loc main_arg2)
abbrev aG : FVec Ideal S704x1024 .f32 := m ((c : Thread nD τ).loc main_arg3)
abbrev aC : IVec S1 32 := m ((c : Thread nD τ).loc main_arg4)

/-- The host's operations before the call, in one list. -/
theorem before (b : Ref sig .tc) : V m c b = StableHlo.after
    ((hostOps0 ++ (hostOps0_1 ++ (hostOps0_2 ++ (hostOps0_3 ++ [])))) : List (HloOp τ sig (Elt Ideal)))
    (fun b => m (c, b)) (Proc.devRef .tc b) := rfl

/-- The half of the gradient's columns that begins at `k` where the core is 0, the other where it is not. -/
def half (x : FVec Ideal S704x1024 .f32) (k : IVec S1 32) : FVec Ideal S704x512 .f32 :=
  select (broadcastInDim S704x512 ![] bcast_S_S704x512 (cmpi .eq (shapeCast S_ k shapeCasts_S1_S_) (constantI S_ 32 0#32)))
    (extractStridedSlice S704x512 ![0, 0] x slices_S704x1024_S704x512_0_0) (extractStridedSlice S704x512 ![0, 512] x slices_S704x1024_S704x512_0_512)
def rest (x : FVec Ideal S704x1024 .f32) (k : IVec S1 32) : FVec Ideal S704x512 .f32 :=
  select (broadcastInDim S704x512 ![] bcast_S_S704x512 (cmpi .eq (shapeCast S_ k shapeCasts_S1_S_) (constantI S_ 32 0#32)))
    (extractStridedSlice S704x512 ![0, 512] x slices_S704x1024_S704x512_0_512) (extractStridedSlice S704x512 ![0, 0] x slices_S704x1024_S704x512_0_0)

theorem V_mine : V m c main_v4 = half (aG m c) (aC m c) := by
  rw [before]
  simp only [hostOps0, hostOps0_1, hostOps0_2, hostOps0_3, List.cons_append, List.nil_append, List.append_nil,
    StableHlo.TRef.ternary, StableHlo.TRef.toBuf, StableHlo.TRef.ofBuf, cast_eq]
  after_results_simp
  rfl
theorem V_other : V m c main_v9 = rest (aG m c) (aC m c) := by
  rw [before]
  simp only [hostOps0, hostOps0_1, hostOps0_2, hostOps0_3, List.cons_append, List.nil_append, List.append_nil,
    StableHlo.TRef.ternary, StableHlo.TRef.toBuf, StableHlo.TRef.ofBuf, cast_eq]
  after_results_simp
  rfl

theorem sel_eq (a b : BitVec 32) (x y : EReal) : Scalar.select (IntOp.cmpi CmpIPredicate.eq a b) x y = if a = b then x else y := by
  by_cases h : a = b
  · subst h; simp [Scalar.select, IntOp.cmpi]
  · rw [if_neg h]
    have e : (a == b) = false := by simpa using h
    simp [Scalar.select, IntOp.cmpi, e]

theorem half_at (x : FVec Ideal S704x1024 .f32) (k : IVec S1 32) (p : Fin 704) (q : Fin 512) :
    half x k (ix2 p q) = if k (ix1 0) = 0#32 then x (ix2 p ⟨q.val, by omega⟩) else x (ix2 p ⟨512 + q.val, by omega⟩) := by
  pointwise [half]
  exact sel_eq _ _ _ _
theorem rest_at (x : FVec Ideal S704x1024 .f32) (k : IVec S1 32) (p : Fin 704) (q : Fin 512) :
    rest x k (ix2 p q) = if k (ix1 0) = 0#32 then x (ix2 p ⟨512 + q.val, by omega⟩) else x (ix2 p ⟨q.val, by omega⟩) := by
  pointwise [rest]
  exact sel_eq _ _ _ _

variable (t : Fin (cfgM m (ok m)).N) (p : Fin 704) (q : Fin 512)

theorem blk_W : (show Vec Ideal S704x512 .f32 from iblk m (ok m) c 0 t) (ix2 p q) = aW m c (ix2 p (col m t q)) := congrArg (aW m c) (emb0 m t p q)
theorem blk_M : (show Vec Ideal S704x512 .f32 from iblk m (ok m) c 1 t) (ix2 p q) = aM m c (ix2 p (col m t q)) := congrArg (aM m c) (emb1 m t p q)
theorem blk_V : (show Vec Ideal S704x512 .f32 from iblk m (ok m) c 2 t) (ix2 p q) = aV m c (ix2 p (col m t q)) := congrArg (aV m c) (emb2 m t p q)
theorem blk_mine : (show Vec Ideal S704x512 .f32 from iblk m (ok m) c 3 t) (ix2 p q) = half (aG m c) (aC m c) (ix2 p q) := by
  rw [← V_mine]
  exact congrArg (show FVec Ideal S704x512 .f32 from V m c main_v4) (emb3 m t p q)
theorem blk_other : (show Vec Ideal S704x512 .f32 from iblk m (ok m) c 4 t) (ix2 p q) = rest (aG m c) (aC m c) (ix2 p q) := by
  rw [← V_other]
  exact congrArg (show FVec Ideal S704x512 .f32 from V m c main_v9) (emb4 m t p q)

theorem tbl_eq : (show IVec S1 32 from tbl m 0) (ix1 0) = aC m c (ix1 0) := by
  obtain rfl : c = 0 := Subsingleton.elim _ _
  exact congrFun (V_main_arg4 m 0) _

/-- The point's coordinate is its number. -/
theorem coord : ∀ t : Fin grid0.N, (t.val = 0 ∧ BitVec.ofNat 32 (grid0.coords t 0).val = 0#32) ∨ (t.val = 1 ∧ BitVec.ofNat 32 (grid0.coords t 0).val = 1#32) := by
  decide +kernel

/-- The gradient's halves in order. -/
theorem grad (h : aC m c (ix1 0) = 0#32 ∨ aC m c (ix1 0) = 1#32) :
    k0_pay1 (F := Ideal) (grid0.coords t) ((show IVec S1 32 from tbl m 0) (ix1 0)) (iblk m (ok m) c 3 t) (iblk m (ok m) c 4 t) (ix2 p q) = aG m c (ix2 p (col m t q)) := by
  rw [tbl_eq m c]
  pointwise [k0_pay1]
  refine (sel_eq _ _ _ _).trans ?_
  rw [show iblk m (ok m) c 3 t (ix2 p q) = _ from blk_mine m c t p q, show iblk m (ok m) c 4 t (ix2 p q) = _ from blk_other m c t p q, half_at, rest_at]
  unfold col
  rcases coord t with ⟨h0, h1⟩ | ⟨h0, h1⟩ <;> rcases h with h | h <;> rw [h1, h] <;> simp [h0]

/-- A block's index is a row and a column. -/
theorem pair (y : S704x512.Idx) : ∃ (p : Fin 704) (q : Fin 512), y = ix2 p q := ⟨y 0, y 1, by idx_vars y⟩

open Cert.AdamRefIdeal.Read

/-- The step. -/
theorem pt6 (h : aC m c (ix1 0) = 0#32 ∨ aC m c (ix1 0) = 1#32) :
    k0_pay4 (F := Ideal) (grid0.coords t) ((show IVec S1 32 from tbl m 0) (ix1 0)) (iblk m (ok m) c 3 t) (iblk m (ok m) c 4 t) (iblk m (ok m) c 0 t) (iblk m (ok m) c 1 t) (iblk m (ok m) c 2 t) (ix2 p q)
      = val_main_v23 (F := Ideal) (aW m c) (aM m c) (aV m c) (aG m c) (ix2 p (col m t q)) := by
  pointwise [k0_pay4, k0_pay2, k0_pay3, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
  rw [grad m c t p q h, show iblk m (ok m) c 0 t (ix2 p q) = _ from blk_W m c t p q, show iblk m (ok m) c 1 t (ix2 p q) = _ from blk_M m c t p q, show iblk m (ok m) c 2 t (ix2 p q) = _ from blk_V m c t p q]

/-- The first moment. -/
theorem pt7 (h : aC m c (ix1 0) = 0#32 ∨ aC m c (ix1 0) = 1#32) :
    k0_pay2 (F := Ideal) (grid0.coords t) ((show IVec S1 32 from tbl m 0) (ix1 0)) (iblk m (ok m) c 3 t) (iblk m (ok m) c 4 t) (iblk m (ok m) c 1 t) (ix2 p q)
      = val_main_v4 (F := Ideal) (aM m c) (aG m c) (ix2 p (col m t q)) := by
  pointwise [k0_pay2, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
  rw [grad m c t p q h, show iblk m (ok m) c 1 t (ix2 p q) = _ from blk_M m c t p q]

/-- The second moment. -/
theorem pt8 (h : aC m c (ix1 0) = 0#32 ∨ aC m c (ix1 0) = 1#32) :
    k0_pay3 (F := Ideal) (grid0.coords t) ((show IVec S1 32 from tbl m 0) (ix1 0)) (iblk m (ok m) c 3 t) (iblk m (ok m) c 4 t) (iblk m (ok m) c 2 t) (ix2 p q)
      = val_main_v10 (F := Ideal) (aV m c) (aG m c) (ix2 p (col m t q)) := by
  pointwise [k0_pay3, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
  rw [grad m c t p q h, show iblk m (ok m) c 2 t (ix2 p q) = _ from blk_V m c t p q]

/-! What the launch leaves in each result. -/

set_option maxHeartbeats 4000000

theorem point5 (h : aC m c (ix1 0) = 0#32 ∨ aC m c (ix1 0) = 1#32) :
    out0_A_5 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t)
      (iblk m (ok m) c 0 t) (iblk m (ok m) c 1 t) (iblk m (ok m) c 2 t) (iblk m (ok m) c 3 t) (iblk m (ok m) c 4 t) (tbl m 0) (ix2 p q) = (aG m c) (ix2 p (col m t q)) :=
  Eq.trans (out5 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t)
    (iblk m (ok m) c 0 t) (iblk m (ok m) c 1 t) (iblk m (ok m) c 2 t) (iblk m (ok m) c 3 t) (iblk m (ok m) c 4 t) (tbl m 0) (ix2 p q)) (grad m c t p q h)
theorem cell5 (h : aC m c (ix1 0) = 0#32 ∨ aC m c (ix1 0) = 1#32) :
    (dats m (ok m) 0 c).after 5 t (ix2 p q) = (aG m c) (ix2 p (col m t q)) :=
  (congrFun (after0_5 m (ok m) c t) (ix2 p q)).trans (point5 m c t p q h)
/-- The gradient. -/
theorem final5 (h : aC m c (ix1 0) = 0#32 ∨ aC m c (ix1 0) = 1#32) :
    (dats m (ok m) 0 c).arrAt 5 (cfgM m (ok m)).N = aG m c := by
  refine (dats m (ok m) 0 c).arrAt_eq_of_covers 5 _ (cov5 m) fun t _ y => ?_
  obtain ⟨p, q, rfl⟩ := pair y
  exact (cell5 m c t p q h).trans (congrArg (aG m c) (emb5 m t p q).symm)

theorem point6 (h : aC m c (ix1 0) = 0#32 ∨ aC m c (ix1 0) = 1#32) :
    out0_A_6 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t)
      (iblk m (ok m) c 0 t) (iblk m (ok m) c 1 t) (iblk m (ok m) c 2 t) (iblk m (ok m) c 3 t) (iblk m (ok m) c 4 t) (tbl m 0) (ix2 p q) = (val_main_v23 (F := Ideal) (aW m c) (aM m c) (aV m c) (aG m c)) (ix2 p (col m t q)) :=
  Eq.trans (out6 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t)
    (iblk m (ok m) c 0 t) (iblk m (ok m) c 1 t) (iblk m (ok m) c 2 t) (iblk m (ok m) c 3 t) (iblk m (ok m) c 4 t) (tbl m 0) (ix2 p q)) (pt6 m c t p q h)
theorem cell6 (h : aC m c (ix1 0) = 0#32 ∨ aC m c (ix1 0) = 1#32) :
    (dats m (ok m) 0 c).after 6 t (ix2 p q) = (val_main_v23 (F := Ideal) (aW m c) (aM m c) (aV m c) (aG m c)) (ix2 p (col m t q)) :=
  (congrFun (after0_6 m (ok m) c t) (ix2 p q)).trans (point6 m c t p q h)
/-- The step. -/
theorem final6 (h : aC m c (ix1 0) = 0#32 ∨ aC m c (ix1 0) = 1#32) :
    (dats m (ok m) 0 c).arrAt 6 (cfgM m (ok m)).N = val_main_v23 (F := Ideal) (aW m c) (aM m c) (aV m c) (aG m c) := by
  refine (dats m (ok m) 0 c).arrAt_eq_of_covers 6 _ (cov6 m) fun t _ y => ?_
  obtain ⟨p, q, rfl⟩ := pair y
  exact (cell6 m c t p q h).trans (congrArg (val_main_v23 (F := Ideal) (aW m c) (aM m c) (aV m c) (aG m c)) (emb6 m t p q).symm)

theorem point7 (h : aC m c (ix1 0) = 0#32 ∨ aC m c (ix1 0) = 1#32) :
    out0_A_7 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t)
      (iblk m (ok m) c 0 t) (iblk m (ok m) c 1 t) (iblk m (ok m) c 2 t) (iblk m (ok m) c 3 t) (iblk m (ok m) c 4 t) (tbl m 0) (ix2 p q) = (val_main_v4 (F := Ideal) (aM m c) (aG m c)) (ix2 p (col m t q)) :=
  Eq.trans (out7 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t)
    (iblk m (ok m) c 0 t) (iblk m (ok m) c 1 t) (iblk m (ok m) c 2 t) (iblk m (ok m) c 3 t) (iblk m (ok m) c 4 t) (tbl m 0) (ix2 p q)) (pt7 m c t p q h)
theorem cell7 (h : aC m c (ix1 0) = 0#32 ∨ aC m c (ix1 0) = 1#32) :
    (dats m (ok m) 0 c).after 7 t (ix2 p q) = (val_main_v4 (F := Ideal) (aM m c) (aG m c)) (ix2 p (col m t q)) :=
  (congrFun (after0_7 m (ok m) c t) (ix2 p q)).trans (point7 m c t p q h)
/-- The first moment. -/
theorem final7 (h : aC m c (ix1 0) = 0#32 ∨ aC m c (ix1 0) = 1#32) :
    (dats m (ok m) 0 c).arrAt 7 (cfgM m (ok m)).N = val_main_v4 (F := Ideal) (aM m c) (aG m c) := by
  refine (dats m (ok m) 0 c).arrAt_eq_of_covers 7 _ (cov7 m) fun t _ y => ?_
  obtain ⟨p, q, rfl⟩ := pair y
  exact (cell7 m c t p q h).trans (congrArg (val_main_v4 (F := Ideal) (aM m c) (aG m c)) (emb7 m t p q).symm)

theorem point8 (h : aC m c (ix1 0) = 0#32 ∨ aC m c (ix1 0) = 1#32) :
    out0_A_8 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t)
      (iblk m (ok m) c 0 t) (iblk m (ok m) c 1 t) (iblk m (ok m) c 2 t) (iblk m (ok m) c 3 t) (iblk m (ok m) c 4 t) (tbl m 0) (ix2 p q) = (val_main_v10 (F := Ideal) (aV m c) (aG m c)) (ix2 p (col m t q)) :=
  Eq.trans (out8 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t)
    (iblk m (ok m) c 0 t) (iblk m (ok m) c 1 t) (iblk m (ok m) c 2 t) (iblk m (ok m) c 3 t) (iblk m (ok m) c 4 t) (tbl m 0) (ix2 p q)) (pt8 m c t p q h)
theorem cell8 (h : aC m c (ix1 0) = 0#32 ∨ aC m c (ix1 0) = 1#32) :
    (dats m (ok m) 0 c).after 8 t (ix2 p q) = (val_main_v10 (F := Ideal) (aV m c) (aG m c)) (ix2 p (col m t q)) :=
  (congrFun (after0_8 m (ok m) c t) (ix2 p q)).trans (point8 m c t p q h)
/-- The second moment. -/
theorem final8 (h : aC m c (ix1 0) = 0#32 ∨ aC m c (ix1 0) = 1#32) :
    (dats m (ok m) 0 c).arrAt 8 (cfgM m (ok m)).N = val_main_v10 (F := Ideal) (aV m c) (aG m c) := by
  refine (dats m (ok m) 0 c).arrAt_eq_of_covers 8 _ (cov8 m) fun t _ y => ?_
  obtain ⟨p, q, rfl⟩ := pair y
  exact (cell8 m c t p q h).trans (congrArg (val_main_v10 (F := Ideal) (aV m c) (aG m c)) (emb8 m t p q).symm)

/-- The precondition: the device's core is 0 or 1. -/
theorem core (h : Cert.Pre_AdamIdeal_a_core m) : aC m c (ix1 0) = 0#32 ∨ aC m c (ix1 0) = 1#32 := by
  have e := congrFun (h c) (ix1 0)
  simp only [Cert.Pre_a_core.fn] at e
  pointwise [] at e
  by_cases h0 : aC m c (ix1 0) = 0#32
  · exact .inl h0
  · by_cases h1 : aC m c (ix1 0) = 1#32
    · exact .inr h1
    · have e0 : (m (c.tc.loc main_arg4) (ix1 0) == 0#32) = false := by simpa using h0
      have e1 : (m (c.tc.loc main_arg4) (ix1 0) == 1#32) = false := by simpa using h1
      simp [IntOp.ori, IntOp.cmpi, e0, e1] at e

end Arrays

/-- The reference terminates, keeps its arguments, and leaves every counter at zero: it has none. -/
theorem frame_ref : Cert.quiescent_AdamRefIdeal := fun m g _ => by
  refine (θ_run _ _ _).mono (fun r h => ⟨fun c => (h c).2.2.2.2, sem_eq_zero_of_no_sems (sig := Cert.AdamRefIdeal.sig) rfl _⟩)
    (Cert.AdamRefIdeal.Value.run m g)

set_option maxHeartbeats 4000000 in
/-- The claim: kernel and reference leave the same four arrays. -/
theorem algebraic : Cert.algebraic_AdamIdeal_AdamRefIdeal_pre_a_core := by
  pair_intro
  · run_from (θ_run_and (Cert.AdamIdeal.Gen.run_main m g (ok m)) (Cert.AdamIdeal.Gen.unchanged m g (ok m)))
    · exact (hc.1 c).1 5
    · exact (hc.1 c).1 6
    · exact (hc.1 c).1 7
    · exact (hc.1 c).1 8
  · run_from Cert.AdamRefIdeal.Value.run m' g'
    · exact (final5 m c (core m c hpre)).symm
    · exact (final6 m c (core m c hpre)).symm
    · exact (final7 m c (core m c hpre)).symm
    · exact (final8 m c (core m c hpre)).symm

end Cert.AdamIdeal.Math

end
-- ==== Proof.Swap.lean ====
/-
  The exchange between the two cores of a chip: each core copies its block into the result of the other and waits
  for the copy that comes to it and for its own to be read. No core signals that its result may be written, so the
  result buffers change hands before the first step: the launch below deals every core the buffer that it writes,
  its sibling's, with the records of the two semaphores that a copy pays.
-/
module

public import proofs.«01_k».proof.Proof.Gen.SiblingIdeal
public import proofs.«01_k».proof.Proof.Gen.SiblingIdeal.Skeleton
public import proofs.«01_k».proof.Proof.Gen.SiblingIdeal.Launch
public import Idealize.ShloMosaic.Lib.Pipeline.Launch
public import Idealize.ShloMosaic.Lib.Pipeline.Kit
public import Idealize.ShloMosaic.Lib.Tactic

@[expose] public section

set_option Elab.async false

noncomputable section

namespace Cert.SiblingIdeal.Swap

open Cert.SiblingIdeal Cert.SiblingIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F]

/-- One copy of the rounds for the pipeline, one for the two semaphores of the exchange. -/
abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

variable (m : (ℓ : Loc nD τ sig) → Buf (Elt F) ℓ) (ρ : Dev nD → PrngReg)

/-! ## The other core of the chip -/

/-- The device beside `c`: the same place on the first two axes, the other one on the last. -/
def sib (c : Dev nD) : Dev nD := ⟨c.val + 1 - 2 * (c.val % 2), by have := c.isLt; revert this; generalize c.val = v; decide +revert⟩

theorem sib_sib (c : Dev nD) : sib (sib c) = c := by revert c; decide
theorem dev_eq (c : Dev nD) : (⟨k0_dev1 c, k0_dev1_lt c⟩ : Dev nD) = sib c := by
  refine Fin.ext ((k0_dev1_eq c).trans ?_)
  revert c; decide

/-- The swap of the two, as a permutation. -/
def sibs : Dev nD ≃ Dev nD := ⟨sib, sib, sib_sib, sib_sib⟩

/-! ## Buffers and semaphores -/

abbrev xM : Memref sig .tc .hbm S704x512 .f32 := Memref.whole main_arg0
abbrev oM : Memref sig .tc .hbm S704x512 .f32 := Memref.whole main_v1

abbrev sendS : DmaSem sig :=
  ((cc0_scratch0.slice (Rect.unit (s := S1) ![0] S1.size inb_S1_S1_0)).squeeze S_ squeezes_S1_S_).sem
abbrev recvS : DmaSem sig :=
  ((cc0_scratch1.slice (Rect.unit (s := S1) ![0] S1.size inb_S1_S1_0)).squeeze S_ squeezes_S1_S_).sem

abbrev sendC (c : Dev nD) : GSem nD τ sig := ((c : Thread nD τ), .dma sendS)
abbrev recvC (c : Dev nD) : GSem nD τ sig := ((c : Thread nD τ), .dma recvS)

abbrev osem : Fin 2 → SemLoc sig := fun | 0 => .dma sendS | 1 => .dma recvS
abbrev cellAt (ck : Dev nD × Fin 2) : GSem nD τ sig := ((ck.1 : Thread nD τ), osem ck.2)

/-- What a copy of the block credits. -/
abbrev N : ℕ := (oM : Memref sig .tc .hbm S704x512 .f32).view.dmaCredit
theorem N_pos : 0 < N := View.dmaCredit_pos _ (by decide)

/-! ## Contents -/

/-- The block a core starts from. -/
def own (c : Dev nD) : Buf (Elt F) ((xM : Memref sig .tc .hbm S704x512 .f32).view.loc (c : Thread nD τ)) :=
  m ((c : Thread nD τ).loc main_arg0)
/-- The block it ends with: its sibling's. -/
def got (c : Dev nD) : Buf (Elt F) ((oM : Memref sig .tc .hbm S704x512 .f32).view.loc (c : Thread nD τ)) := own m (sib c)

omit [FloatOps F] in
theorem copied (fd : (main_v1 : Ref sig .tc).ty.Contents (Elt F)) (fs : (main_arg0 : Ref sig .tc).ty.Contents (Elt F)) :
    (oM : Memref sig .tc .hbm S704x512 .f32).view.write (Elt F) fd ((xM : Memref sig .tc .hbm S704x512 .f32).view.read (Elt F) fs) Finset.univ = fs := by
  show (View.whole main_v1).write (Elt F) fd ((View.whole main_arg0).read (Elt F) fs) Finset.univ = fs
  rw [View.read_whole]; exact View.write_whole_univ _ _ _

def outPts (c : Dev nD) (f : Buf (Elt F) ((oM : Memref sig .tc .hbm S704x512 .f32).view.loc (c : Thread nD τ))) : sProp 𝕄 :=
  (oM : Memref sig .tc .hbm S704x512 .f32).view.loc (c : Thread nD τ) ↦[(oM : Memref sig .tc .hbm S704x512 .f32).view.set]{fullShare} f
def inPts (c : Dev nD) : sProp 𝕄 :=
  (xM : Memref sig .tc .hbm S704x512 .f32).view.loc (c : Thread nD τ) ↦[(xM : Memref sig .tc .hbm S704x512 .f32).view.set]{fullShare} own m c

omit [FloatOps F] in
instance outPts_storable (c : Dev nD) (f) : BI.Storable (upEmb : UEmb _ 𝕄) (outPts (F := F) c f) := by unfold outPts; infer_instance
omit [FloatOps F] in
instance inPts_storable (c : Dev nD) : BI.Storable (upEmb : UEmb _ 𝕄) (inPts (F := F) m c) := by unfold inPts; infer_instance

omit [FloatOps F] in
theorem outPts_eq (c : Dev nD) (f : Buf (Elt F) ((c : Thread nD τ).loc main_v1)) :
    outPts c f = (((c : Thread nD τ).loc main_v1) ↦{fullShare} f : sProp 𝕄) := by unfold outPts; rw [View.set_whole]
omit [FloatOps F] in
theorem inPts_eq (c : Dev nD) : inPts m c = (((c : Thread nD τ).loc main_arg0) ↦{fullShare} own m c : sProp 𝕄) := by
  unfold inPts; rw [View.set_whole]

/-! ## The rounds of the two semaphores: one round each -/

abbrev Used (g : GSem nD τ sig) : Prop := g.1.2 = .tc ∧ (g.2 = .dma sendS ∨ g.2 = .dma recvS)

/-- The sending semaphore gives the block read back, the receiving one the result filled. -/
def sched : Rounds.Schedule (GSem nD τ sig) Unit 𝕄 where
  duties g r := if r = 0 ∧ Used g then {()} else ∅
  unitless _ := False
  amount _ _ _ := N
  payload g _ _ := if g.2 = .dma recvS then outPts g.1.1 (got m g.1.1) else inPts m g.1.1
  amount_pos _ _ _ _ := N_pos

instance sched_storable (g : GSem nD τ sig) (r : ℕ) (d : Unit) : BI.Storable (upEmb : UEmb _ 𝕄) ((sched (F := F) m).payload g r d) := by
  show BI.Storable upEmb (if g.2 = .dma recvS then outPts g.1.1 (got m g.1.1) else inPts m g.1.1)
  split <;> infer_instance

theorem send_ne_recv : (SemLoc.dma sendS : SemLoc sig) ≠ .dma recvS := by decide

section Sched
variable (c : Dev nD)

omit [FloatOps F] in
theorem duties_send : (sched (F := F) m).duties (sendC c) 0 = {()} := by dsimp only [sched]; exact if_pos ⟨rfl, rfl, .inl rfl⟩
omit [FloatOps F] in
theorem duties_recv : (sched (F := F) m).duties (recvC c) 0 = {()} := by dsimp only [sched]; exact if_pos ⟨rfl, rfl, .inr rfl⟩
omit [FloatOps F] in
theorem duties_later (g : GSem nD τ sig) : ∀ r, 1 ≤ r → (sched (F := F) m).duties g r = ∅ :=
  fun r hr => by dsimp only [sched]; exact if_neg fun h => by omega
omit [FloatOps F] in
theorem expect_of {g : GSem nD τ sig} (h : (sched (F := F) m).duties g 0 = {()}) : (sched (F := F) m).expect g 0 = N := by
  unfold Schedule.expect Schedule.amountOf; rw [h, Finset.sum_singleton]; rfl
omit [FloatOps F] in
theorem payload_send (u : Unit) : (sched (F := F) m).payload (sendC c) 0 u = inPts m c := by dsimp only [sched]; exact if_neg send_ne_recv
omit [FloatOps F] in
theorem payload_recv (u : Unit) : (sched (F := F) m).payload (recvC c) 0 u = outPts c (got m c) := by dsimp only [sched]; exact if_pos rfl
omit [FloatOps F] in
theorem rest_send : bigSep ((sched (F := F) m).duties (sendC c) 0 \ ∅) (fun u => (sched (F := F) m).payload (sendC c) 0 u) = inPts m c := by
  rw [Finset.sdiff_empty, duties_send, bigSep_singleton, payload_send]
omit [FloatOps F] in
theorem rest_recv : bigSep ((sched (F := F) m).duties (recvC c) 0 \ ∅) (fun u => (sched (F := F) m).payload (recvC c) 0 u) = outPts c (got m c) := by
  rw [Finset.sdiff_empty, duties_recv, bigSep_singleton, payload_recv]

end Sched

/-! ## What a core holds -/

/-- At launch a core owes its sibling's receiving semaphore the credit of one block. -/
def O₀ (c : Dev nD) : CellTallies nD τ sig Unit := tallyAt (recvC (sib c)) () N

/-- The records of the semaphores a core uses, its position on its own two, and the duties it will pay. -/
def ghost (K : Dev nD × Fin 2 → ℕ) (c : Dev nD) : sProp 𝕄 :=
  iprop((cellInv ER (sched m) (K (c, 0)) (sendC c) ∗ cellInv ER (sched m) (K (c, 1)) (recvC c)
      ∗ cellInv ER (sched m) (K (sib c, 1)) (recvC (sib c)) ∗ reached ER (sendC c) 0 ∗ reached ER (recvC (sib c)) 0)
    ∗ (atPos ER (sendC c) 0 ∅ 0 ∗ atPos ER (recvC c) 0 ∅ 0) ∗ dutyTok ER (sendC c) 0 () ∗ dutyTok ER (recvC (sib c)) 0 ())

/-- Before the body: also the credit of the block that comes, its own block and its sibling's result. -/
def before (c : Dev nD) : sProp 𝕄 :=
  iprop((∃ K, ghost m K c) ∗ cred (tallyAt (recvC c) () N) ∗ inPts m c ∗ ∃ f, outPts (sib c) f)
/-- After it: its own block, its result filled, the two semaphores at zero. -/
def after (c : Dev nD) : sProp 𝕄 := iprop((inPts m c ∗ outPts c (got m c)) ∗ semVal (sendC c) 0 ∗ semVal (recvC c) 0)

/-- The call has no window. -/
def dats (_ : Fin 1) (c : Dev nD) : Dat τ (Elt F) Unit ℕ UU ℕ cfg0 c where
  A w := w.elim0
  after w := w.elim0
  Φ t := if t.val = 0 then before m c else after m c
  q w := w.elim0
  owed t := if t.val = 0 then O₀ c else 0

abbrev 𝒱₀ : Variants := Variants.none

omit [FloatOps F] in
theorem none_held (Φ : Fin 0 → sProp 𝕄) : bigSep Finset.univ Φ = (BI.emp : sProp 𝕄) := bigSep_univ_eq_bigSepL [] (by decide) (by decide) Φ

omit [FloatOps F] in
theorem nothing (Φ : Fin 0 → sProp 𝕄) : (BI.emp : sProp 𝕄) ⊢ bigSep Finset.univ Φ := Entails.of_eq (none_held Φ).symm

theorem owed_first (c : Dev nD) : (dats (F := F) m 0 c).owed 0 = O₀ c := by
  show (if (0 : Fin (cfg0.N + 1)).val = 0 then O₀ c else 0) = O₀ c
  rfl
theorem owed_last (c : Dev nD) : (dats (F := F) m 0 c).owed (Fin.last _) = 0 := by
  show (if (Fin.last cfg0.N).val = 0 then O₀ c else 0) = 0
  rw [Fin.val_last, if_neg (by rw [show cfg0.N = 1 from N_0]; decide)]
theorem phi_first (c : Dev nD) : (dats (F := F) m 0 c).Φ 0 = before m c := by
  show (if (0 : Fin (cfg0.N + 1)).val = 0 then before m c else after m c) = before m c
  rfl
theorem phi_last (c : Dev nD) : (dats (F := F) m 0 c).Φ (Fin.last _) = after m c := by
  show (if (Fin.last cfg0.N).val = 0 then before m c else after m c) = _
  rw [Fin.val_last, if_neg (by rw [show cfg0.N = 1 from N_0]; decide)]

/-! ## The body -/

/-- The copy to the sibling. -/
theorem wp_copy (K : Dev nD × Fin 2 → ℕ) (c n : Dev nD) (hn : n = sib c)
    {hsc : (oM : Memref sig (Dev.tc n : Thread nD τ).2.kind .hbm S704x512 .f32).view.ref.isScScratch = false}
    {hsrc : (xM : Memref sig .tc .hbm S704x512 .f32).view.WordExact} {hdst : (oM : Memref sig .tc .hbm S704x512 .f32).view.WordExact}
    {hsem : DmaTarget.Typed .hbm (.dma recvS) (.remote (Dev.tc n : Thread nD τ) (oM : Memref sig .tc .hbm S704x512 .f32) (.dma sendS) hsc)}
    {α : Type} {Q : α → sProp 𝕄} {k : PUnit → Prog (TpuEff nD τ sig (Elt F) Λ₀ .tc) α}
    (fn : Buf (Elt F) ((oM : Memref sig .tc .hbm S704x512 .f32).view.loc (sib c : Thread nD τ))) (W : Waits sig Unit) :
    iprop(cellInv ER (sched m) (K (c, 0)) (sendC c) ∗ cellInv ER (sched m) (K (sib c, 1)) (recvC (sib c))
        ∗ inPts m c ∗ outPts (sib c) fn ∗ owes (c : Thread nD τ) (tallyAt (recvC (sib c)) () N) W
        ∗ dutyTok ER (sendC c) 0 () ∗ reached ER (sendC c) 0 ∗ dutyTok ER (recvC (sib c)) 0 () ∗ reached ER (recvC (sib c)) 0)
      ⊢ iprop(((cred (tallyAt (sendC c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma xM (.remote (Dev.tc n : Thread nD τ) oM (.dma sendS) hsc) (.dma recvS) hsrc hdst hsem) k) Q) := by
  subst hn
  unfold inPts outPts
  exact Rounds.wp_send_pointsTo 𝒱₀ ER (sched m) (c : Thread nD τ) none (κ₁ := K (c, 0)) (κ₂ := K (sib c, 1))
    (r₁ := 0) (r₂ := 0) (d₁ := ()) (d₂ := ()) (fd := fn)
    (by rw [duties_send]; exact Finset.mem_singleton_self _) (by rw [duties_recv]; exact Finset.mem_singleton_self _)
    () () N rfl rfl rfl 0 (by rw [zero_add]) (W := W)
    (by rw [payload_send]; exact BI.Entails.refl _)
    (by rw [payload_recv]; unfold outPts got; rw [copied, sib_sib])

set_option maxHeartbeats 800000 in
/-- The copy, then the two waits: the result comes filled, the block comes back, the two semaphores are closed. -/
theorem body_runs (c : Dev nD) (W : Waits sig Unit) (Kt : PUnit → sProp 𝕄) :
    iprop((before m c ∗ owes (c : Thread nD τ) (O₀ c) W) ∗ ((after m c ∗ ∃ W', owes (c : Thread nD τ) 0 W') -∗ Kt ⟨⟩))
      ⊢ wp frame (wpE (defs₀ (F := F)) 𝒱₀ c none) Set.univ
          (cc0_sibling_result_late (Memref.whole main_arg0) (Memref.isWhole_whole _) (Memref.whole main_v1) (Memref.isWhole_whole _) cc0_scratch0 cc0_scratch1) Kt := by
  simp only [cc0_sibling_result_late_eq_skeleton]; unfold cc0_sibling_result_late_skel
  simp only [Prog.lift, Prog.bind_op, Prog.bind_ret, Prog.pure_eq_ret, wp_deviceId]
  unfold before ghost O₀
  iintro ⟨⟨⟨⟨%K, ⟨#Is, #Ir, #Io, #Rs, #Ro⟩, ⟨Hps, Hpr⟩, Hts, Htr⟩, Hc, Hx, ⟨%fn, Hn⟩⟩, HO⟩, Hk⟩
  iapply (wp_copy m K c _ (dev_eq c) fn W) $$ [Hx Hn HO Hts Htr]
  · isplitr; · iexact Is
    isplitr; · iexact Io
    isplitl [Hx]; · iexact Hx
    isplitl [Hn]; · iexact Hn
    isplitl [HO]; · iexact HO
    isplitl [Hts]; · iexact Hts
    isplitr; · iexact Rs
    isplitl [Htr]; · iexact Htr
    iexact Ro
  iintro ⟨Hcs, HO⟩
  iapply (Rounds.wp_wait_rest_token 𝒱₀ ER (sched m) (c : Thread nD τ) none (κ := K (c, 1))
      (wpE_waitDma2_eq 𝒱₀ (c : Thread nD τ) none Set.univ) (Set.mem_univ _) () (O := 0) (W := W) (R := 0) (m := 0) (T := ∅)
      (by rw [Nat.zero_add, expect_of m (duties_recv m c)])) $$ [Hc HO Hpr]
  · isplitr; · iexact Ir
    isplitl [Hc]; · iexact Hc
    isplitl [HO]; · iexact HO
    isplitr; · rw [MayWait_zero]; iempintro
    iexact Hpr
  iintro ⟨HO, Hpr, -, Hpay⟩
  ihave Hn := (Entails.of_eq (rest_recv m c)) $$ Hpay
  iapply (Rounds.wp_wait_rest_token 𝒱₀ ER (sched m) (c : Thread nD τ) none (κ := K (c, 0))
      (wpE_waitDma2_eq 𝒱₀ (c : Thread nD τ) none Set.univ) (Set.mem_univ _) () (O := 0)
      (W := insert (SemLoc.dma recvS, ()) W) (R := 0) (m := 0) (T := ∅)
      (by rw [Nat.zero_add, expect_of m (duties_send m c)])) $$ [Hcs HO Hps]
  · isplitr; · iexact Is
    isplitl [Hcs]; · iexact Hcs
    isplitl [HO]; · iexact HO
    isplitr; · rw [MayWait_zero]; iempintro
    iexact Hps
  iintro ⟨HO, Hps, -, Hpay⟩
  ihave Hx := (Entails.of_eq (rest_send m c)) $$ Hpay
  rw [wp_ret]
  imod (Rounds.cell_close ER (sched m) (Set.mem_univ (K (c, 0))) (fun h => h) (R := 0 + 1) (duties_later m (sendC c))) $$ [Hps] with Hzs
  · isplitr; · iexact Is
    iexact Hps
  imod (Rounds.cell_close ER (sched m) (Set.mem_univ (K (c, 1))) (fun h => h) (R := 0 + 1) (duties_later m (recvC c))) $$ [Hpr] with Hzr
  · isplitr; · iexact Ir
    iexact Hpr
  imodintro
  iapply Hk
  unfold after
  isplitr [HO]
  · isplitl [Hx Hn]
    · isplitl [Hx]; · iexact Hx
      iexact Hn
    isplitl [Hzs] <;> iassumption
  · iexists _; iexact HO

theorem body_at (c : Dev nD) : BodyObligation (dats (F := F) m 0 c) defs₀ 𝒱₀ () Set.univ := fun t => by
  obtain rfl := fin_N0 t
  rw [none_held, none_held]
  rw [show (dats m 0 c).Φ t0_0.castSucc = before m c from rfl, show (dats m 0 c).Φ t0_0.succ = after m c from rfl]
  unfold Dat.owesAt Pipeline.owesWithin
  rw [show (dats m 0 c).owed t0_0.castSucc = O₀ c from rfl, show (dats m 0 c).owed t0_0.succ = 0 from rfl]
  iintro ⟨Hb, ⟨%W, -, HO⟩, -⟩
  iapply (body_runs m c W _)
  isplitl [Hb HO]
  · isplitl [Hb] <;> iassumption
  iintro ⟨Ha, ⟨%W', HO⟩⟩
  isplitl [Ha]; · iexact Ha
  isplitl [HO]
  · iexists W'
    isplitr; · ipureintro; exact fun _ _ => Or.inl trivial
    iexact HO
  iempintro

/-! ## Dealing the records -/

theorem osem_facts : Pipeline.OwnSemFacts cfg0.spec osem := by decide

theorem cellAt_injective : Function.Injective (cellAt : Dev nD × Fin 2 → GSem nD τ sig) := by
  rintro ⟨c, k⟩ ⟨c', k'⟩ h
  exact Prod.ext (congrArg (fun g : GSem nD τ sig => g.1.1) h) (osem_facts.inj (congrArg Prod.snd h))

/-- The semaphores of the exchange on every core, and one duty of each. -/
def used : Finset (GSem nD τ sig) := Finset.univ.map ⟨cellAt, cellAt_injective⟩
def dues : Finset (GSem nD τ sig × ℕ × Unit) :=
  Finset.univ.map ⟨fun ck : Dev nD × Fin 2 => (cellAt ck, 0, ()), fun _ _ h => cellAt_injective (congrArg Prod.fst h)⟩

omit [FloatOps F] in
theorem over_used (Φ : GSem nD τ sig → sProp 𝕄) : bigSep used Φ = bigSep Finset.univ fun ck => Φ (cellAt ck) := by
  unfold used; rw [bigSep_map]; rfl
omit [FloatOps F] in
theorem over_two (Φ : Fin 2 → sProp 𝕄) : bigSep Finset.univ Φ = iprop(Φ 0 ∗ Φ 1) := bigSep_univ_eq_bigSepL [0, 1] (by decide) (by decide) Φ
omit [FloatOps F] in
/-- What every semaphore of every core has, core by core. -/
theorem by_core (Φ : Dev nD × Fin 2 → sProp 𝕄) :
    bigSep Finset.univ Φ = iprop((bigSep Finset.univ fun c => Φ (c, 0)) ∗ bigSep Finset.univ fun c => Φ (c, 1)) := by
  rw [bigSep_univ_prod, ← bigSep_sep']
  exact bigSep_congr fun c _ => over_two fun k => Φ (c, k)

/-- What all cores may read at once. -/
def shared (K : Dev nD × Fin 2 → ℕ) : sProp 𝕄 :=
  iprop((bigSep Finset.univ fun ck => cellInv ER (sched m) (K ck) (cellAt ck)) ∗ bigSep Finset.univ fun ck => reached ER (cellAt ck) 0)
instance shared_persistent (K : Dev nD × Fin 2 → ℕ) : BI.Persistent (shared (F := F) m K) := by unfold shared; infer_instance

/-- What is one core's alone. -/
def mine (c : Dev nD) : sProp 𝕄 :=
  iprop((atPos ER (sendC c) 0 ∅ 0 ∗ atPos ER (recvC c) 0 ∅ 0) ∗ dutyTok ER (sendC c) 0 () ∗ dutyTok ER (recvC (sib c)) 0 ())

omit [FloatOps F] in
theorem inv_of (K : Dev nD × Fin 2 → ℕ) (ck : Dev nD × Fin 2) : shared (F := F) m K ⊢ cellInv ER (sched m) (K ck) (cellAt ck) := by
  unfold shared; iintro ⟨H, -⟩
  iapply (show (bigSep Finset.univ fun ck => (cellInv ER (sched m) (K ck) (cellAt ck) : sProp 𝕄)) ⊢ _ from bigSep_elim (Finset.mem_univ ck)); iexact H
omit [FloatOps F] in
theorem reached_of (K : Dev nD × Fin 2 → ℕ) (ck : Dev nD × Fin 2) : shared (F := F) m K ⊢ reached ER (cellAt ck) 0 := by
  unfold shared; iintro ⟨-, H⟩
  iapply (show (bigSep Finset.univ fun ck => (reached ER (cellAt ck) 0 : sProp 𝕄)) ⊢ _ from bigSep_elim (Finset.mem_univ ck)); iexact H

omit [FloatOps F] in
theorem deal (K : Dev nD × Fin 2 → ℕ) (c : Dev nD) : iprop(shared m K ∗ mine c) ⊢ (iprop(∃ K, ghost m K c) : sProp 𝕄) := by
  unfold mine ghost
  iintro ⟨#HS, HP, HT⟩
  iexists K
  isplitr
  · isplitr; · iapply (inv_of m K (c, 0)); iexact HS
    isplitr; · iapply (inv_of m K (c, 1)); iexact HS
    isplitr; · iapply (inv_of m K (sib c, 1)); iexact HS
    isplitr; · iapply (reached_of m K (c, 0)); iexact HS
    iapply (reached_of m K (sib c, 1)); iexact HS
  isplitl [HP] <;> iassumption

omit [FloatOps F] in
/-- From the semaphores at zero and the rounds' first state, every core's records: the duty of a receiving semaphore
    goes to the sibling, which pays it. -/
theorem deal_all :
    iprop((bigSep Finset.univ fun c => Pipeline.ownSems0 (Ix := Unit) (Name := ℕ) (U := UU) (Lvl := ℕ) (Val := Elt F) (τ := τ) osem c)
        ∗ BI.own (ER (initOf used dues)))
      ⊢ (|={Set.univ}=> bigSep Finset.univ fun c => iprop(∃ K, ghost m K c) : sProp 𝕄) := by
  have hz : (bigSep Finset.univ fun c => Pipeline.ownSems0 (Ix := Unit) (Name := ℕ) (U := UU) (Lvl := ℕ) (Val := Elt F) (τ := τ) osem c : sProp 𝕄)
      = bigSep Finset.univ fun ck : Dev nD × Fin 2 => semVal (cellAt ck) 0 := by
    rw [bigSep_univ_prod]; rfl
  have hd : bigSep dues (fun x => (dutyTok ER x.1 x.2.1 x.2.2 : sProp 𝕄)) = bigSep Finset.univ fun ck : Dev nD × Fin 2 => dutyTok ER (cellAt ck) 0 () := by
    unfold dues; rw [bigSep_map]; rfl
  have hi : iprop((bigSep Finset.univ fun ck : Dev nD × Fin 2 => semVal (cellAt ck) 0) ∗ bigSep Finset.univ fun ck => roundState ER (sched m) (cellAt ck) 0)
      ⊢ (|={Set.univ}=> bigSep Finset.univ fun ck => iprop(∃ κ : ℕ, cellInv ER (sched m) κ (cellAt ck)) : sProp 𝕄) := by
    rw [← bigSep_sep']
    exact (bigSep_mono fun ck _ => (Rounds.body_intro ER (sched m) (cellAt ck)).trans inv_alloc).trans (bigSep_fupd _ _)
  rw [hz]
  iintro ⟨Hz, Hu⟩
  imod (Rounds.fund ER (sched m) used dues) $$ Hu with ⟨Hst, Hr, Hat, Htok⟩
  ihave Hst := (Entails.of_eq (over_used fun g => roundState ER (sched m) g 0)) $$ Hst
  ihave Hr := (Entails.of_eq (over_used fun g => reached ER g 0)) $$ Hr
  ihave Hat := (Entails.of_eq ((over_used fun g => atPos ER g 0 ∅ 0).trans (by_core _))) $$ Hat
  ihave Htok := (Entails.of_eq (hd.trans (by_core _))) $$ Htok
  icases Htok with ⟨Hts, Htr⟩
  ihave Htr := (Entails.of_eq (bigSep_univ_equiv sibs fun c : Dev nD => (dutyTok ER (recvC c) 0 () : sProp 𝕄))) $$ Htr
  imod hi $$ [Hz Hst] with Hi
  · isplitl [Hz] <;> iassumption
  ihave Hi := (BI.bigSep_exists_pi Finset.univ (fun (ck : Dev nD × Fin 2) (κ : ℕ) => (cellInv ER (sched m) κ (cellAt ck) : sProp 𝕄))) $$ Hi
  icases Hi with ⟨%K, Hi⟩
  imodintro
  iapply (bigSep_with_persistent (R := shared m K) (Φ := mine) fun c _ => deal m K c)
  unfold shared mine
  isplitl [Hi Hr]
  · isplitl [Hi] <;> iassumption
  simp only [bigSep_sep']
  isplitl [Hat]; · iexact Hat
  isplitl [Hts]; · iexact Hts
  iexact Htr

omit [FloatOps F] in
/-- The credit of the block that comes. -/
theorem credit_in (c : Dev nD) : (Pipeline.launchCred O₀ c : sProp 𝕄) ⊢ cred (tallyAt (recvC c) () N) :=
  Pipeline.launchCred_tallyAt (.dma recvS) sib sib sib_sib sib_sib () N c

/-! ## The launch -/

/-- The whole buffers of a core: its block and its result. -/
theorem buffers (c : Dev nD) :
    (unscopedBufs (Ix := Unit) (Name := ℕ) (U := UU) (Lvl := ℕ) c (fun b => m ((c : Thread nD τ).loc b)) : sProp 𝕄)
      ⊢ iprop(inPts m c ∗ ∃ f, outPts c f) := by
  rw [Pipeline.unscopedBufs_split cfgs 0 winFacts0.arr_unscoped winFacts0.arr_inj c, unscopedRest0_eq, inPts_eq]
  iintro ⟨-, Hx, Ho⟩
  isplitl [Hx]; · iexact Hx
  iexists _
  rw [outPts_eq]
  iexact Ho

/-- A core before the call and after it. -/
def start (c : Dev nD) : sProp 𝕄 :=
  iprop((scopedBufs (c : Thread nD τ) ∗ Pipeline.idleSems0 cfgs cellOf_inj 0 osem_facts c)
    ∗ owes (c : Thread nD τ) (O₀ c) ∅ ∗ before m c)
def finish (c : Dev nD) : sProp 𝕄 := iprop((inPts m c ∗ outPts c (got m c)) ∗ scopedSems0 (c : Thread nD τ))

def u₀ : UU := (initOf (Pipeline.cells cfgs cellOf_inj) (Pipeline.launchToks cfgs cellOf_inj), initOf used dues)

/-- What a core has of the launch. -/
theorem core_has (c : Dev nD) :
    coreInit (Ix := Unit) (Name := ℕ) (U := UU) (Lvl := ℕ) (Pipeline.owing O₀) 0 (⟨m, fun _ => 0, ρ⟩ : MemSt nD τ sig (Elt F)) (c : Thread nD τ)
      ⊢ (iprop((scopedBufs (c : Thread nD τ) ∗ Pipeline.idleSems0 cfgs cellOf_inj 0 osem_facts c)
          ∗ Pipeline.ownSems0 osem c ∗ owes (c : Thread nD τ) (O₀ c) ∅ ∗ cred (tallyAt (recvC c) () N) ∗ inPts m c ∗ ∃ f, outPts c f) : sProp 𝕄) := by
  refine (Pipeline.coreInit_boundary_owing O₀ m ρ c).trans ?_
  unfold boundary
  rw [Pipeline.scopedSems0_split cfgs cellOf_inj 0 winFacts0.to₀ osem_facts c]
  iintro ⟨⟨Hsc, ⟨⟨-, Hos⟩, Hidle⟩, -⟩, Hub, -, HO, -, -, Hcr⟩
  ihave Hb := (buffers m c) $$ Hub
  ihave Hc := (credit_in c) $$ Hcr
  icases Hb with ⟨Hx, Ho⟩
  isplitl [Hsc Hidle]
  · isplitl [Hsc] <;> iassumption
  isplitl [Hos]; · iexact Hos
  isplitl [HO]; · iexact HO
  isplitl [Hc]; · iexact Hc
  isplitl [Hx] <;> iassumption

/-- The launch: the results change hands, the records are dealt. -/
theorem launch :
    iprop((bigSep Finset.univ fun c : Dev nD =>
        coreInit (Ix := Unit) (Name := ℕ) (U := UU) (Lvl := ℕ) (Pipeline.owing O₀) 0 (⟨m, fun _ => 0, ρ⟩ : MemSt nD τ sig (Elt F)) (c : Thread nD τ))
        ∗ ownU u₀)
      ⊢ (|={Set.univ}=> bigSep Finset.univ (start m) : sProp 𝕄) := by
  have hcores : (bigSep Finset.univ fun c : Dev nD =>
        coreInit (Ix := Unit) (Name := ℕ) (U := UU) (Lvl := ℕ) (Pipeline.owing O₀) 0 (⟨m, fun _ => 0, ρ⟩ : MemSt nD τ sig (Elt F)) (c : Thread nD τ))
      ⊢ (iprop(((bigSep Finset.univ fun c : Dev nD => scopedBufs (c : Thread nD τ)) ∗ bigSep Finset.univ fun c => Pipeline.idleSems0 cfgs cellOf_inj 0 osem_facts c)
          ∗ (bigSep Finset.univ fun c => Pipeline.ownSems0 osem c) ∗ (bigSep Finset.univ fun c : Dev nD => owes (c : Thread nD τ) (O₀ c) ∅)
          ∗ (bigSep Finset.univ fun c => cred (tallyAt (recvC c) () N)) ∗ (bigSep Finset.univ fun c => inPts m c)
          ∗ bigSep Finset.univ fun c => iprop(∃ f, outPts c f)) : sProp 𝕄) := by
    refine (bigSep_mono fun c _ => core_has m ρ c).trans ?_
    simp only [bigSep_sep']
    exact BI.Entails.refl _
  iintro ⟨Hc, Hu⟩
  ihave H := hcores $$ Hc
  icases H with ⟨Hi, Hos, HO, Hc, Hx, Ho⟩
  unfold u₀
  ihave Hu := (ownU_pair _ _) $$ Hu
  icases Hu with ⟨-, Hu⟩
  imod (deal_all m) $$ [Hos Hu] with Hg
  · isplitl [Hos] <;> iassumption
  ihave Ho := (Entails.of_eq (bigSep_univ_equiv sibs fun c : Dev nD => (iprop(∃ f, outPts c f) : sProp 𝕄))) $$ Ho
  imodintro
  unfold start before
  simp only [bigSep_sep']
  icases Hi with ⟨Hi1, Hi2⟩
  isplitl [Hi1 Hi2]
  · isplitl [Hi1] <;> iassumption
  isplitl [HO]; · iexact HO
  isplitl [Hg]; · iexact Hg
  isplitl [Hc]; · iexact Hc
  isplitl [Hx]; · iexact Hx
  iexact Ho

theorem main_eq (c : Dev nD) : main (F := F) c = (.op (.customCall (Pipeline.entry 0) ()) fun _ => .ret ⟨⟩ :
    Prog (TpuEff nD τ sig (Elt F) (Pipeline.Sig Λ₀ (Fin 1) fun p => (pcfgs (F := F) p).Adm) .tc) PUnit) := (main_chain c).trans rfl

/-- The end of the body returns the scoped storage. -/
theorem body_out (c : Dev nD) :
    iprop((dats (F := F) m 0 c).Φ (Fin.last cfg0.N) ∗ Pipeline.cellsSems0 cfgs 0 c ∗ Dat.staging cfg0 c ∗ Pipeline.idleSems0 cfgs cellOf_inj 0 osem_facts c)
      ⊢ iprop((inPts m c ∗ outPts c (got m c)) ∗ scopedSems0 (c : Thread nD τ) ∗ scopedBufs (c : Thread nD τ)) := by
  have hown : (iprop(semVal (sendC c) 0 ∗ semVal (recvC c) 0) : sProp 𝕄) ⊢ Pipeline.ownSems0 osem c :=
    Entails.of_eq (over_two fun k => semVal (cellAt (c, k)) 0).symm
  rw [phi_last, Pipeline.scopedBufs_split cfgs 0 winFacts0.stage_scoped winFacts0.stage_inj stage_whole0 c,
    Pipeline.scopedSems0_split cfgs cellOf_inj 0 winFacts0.to₀ osem_facts c, scopedRest0_eq]
  unfold after
  iintro ⟨⟨HY, Hz⟩, Hcells, Hst, Hidle⟩
  ihave Hos := hown $$ Hz
  isplitl [HY]; · iexact HY
  isplitl [Hcells Hos Hidle]
  · isplitl [Hcells Hos]; · isplitl [Hcells] <;> iassumption
    iexact Hidle
  isplitl [Hst]; · iexact Hst
  iempintro

/-- What the entry of a call without windows asks: what the core owes. -/
theorem entry_pre (c : Dev nD) : (owes (c : Thread nD τ) (O₀ c) ∅ : sProp 𝕄) ⊢ Pipeline.EntryPre cfgs (dats m) () EP (fun _ => 0) 0 c := by
  unfold Pipeline.EntryPre Pipeline.PerCore.EntryPre Dat.owesAt Pipeline.owesWithin
  rw [owed_first]
  iintro HO
  isplitr; · iapply (show (BI.emp : sProp 𝕄) ⊢ (dats m 0 c).arrays ((dats m 0 c).arrAt · 0) from nothing _); iempintro
  isplitl [HO]
  · iexists ∅; isplitr; · ipureintro; rw [Finset.coe_empty]; exact Set.empty_subset _
    iexact HO
  isplitr
  · iapply (show (BI.emp : sProp 𝕄) ⊢ Pipeline.PerCore.cellsWaits (fun _ => cfgs) (dats m) () 0 c from nothing _); iempintro
  isplitr
  · iapply (show (BI.emp : sProp 𝕄) ⊢ Pipeline.PerCore.cellsInit (fun _ => cfgs) (dats m) EP (fun _ => 0) 0 c from nothing _); iempintro
  iapply (show (BI.emp : sProp 𝕄) ⊢ Pipeline.PerCore.toksInit (fun _ => cfgs) EP 0 c from nothing _); iempintro

theorem entry_post (c : Dev nD) : Pipeline.EntryPost cfgs (dats (F := F) m) () 0 c ⊢ (iprop(∃ W, owes (c : Thread nD τ) 0 W) : sProp 𝕄) := by
  unfold Pipeline.EntryPost Pipeline.PerCore.EntryPost Dat.owesAt Pipeline.owesWithin
  rw [owed_last]
  iintro ⟨-, ⟨%W, -, HO⟩⟩
  iexists W; iexact HO

/-- The call, entered and left. -/
theorem call (c : Dev nD) (Q : PUnit → sProp 𝕄) :
    iprop(Pipeline.EntryPre cfgs (dats m) () EP (fun _ => 0) 0 c ∗ Pipeline.prefHeld (pcfgs (F := F) 0).pre c (fun _ => fullShare) ((cfgs 0).toPCfg_adm (Val := Elt F)).1
        ∗ before m c ∗ Pipeline.idleSems0 cfgs cellOf_inj 0 osem_facts c ∗ scopedBufs (c : Thread nD τ))
      ⊢ iprop(((Pipeline.EntryPost cfgs (dats m) () 0 c ∗ (inPts m c ∗ outPts c (got m c)) ∗ scopedSems0 (c : Thread nD τ) ∗ scopedBufs (c : Thread nD τ))
            -∗ wp frame (wpE (defs (F := F)) (Variants.lift 𝒱₀) (c : Thread nD τ) none) Set.univ
              (.ret ⟨⟩ : Prog (TpuEff nD τ sig (Elt F) (Pipeline.Sig Λ₀ (Fin 1) fun p => (pcfgs (F := F) p).Adm) .tc) PUnit) Q)
          -∗ wp frame (wpE (defs (F := F)) (Variants.lift 𝒱₀) (c : Thread nD τ) none) Set.univ (main (F := F) c) Q) := by
  rw [main_eq c]
  exact Pipeline.wp_customCall_entry_frame pcfgs (fun p => (cfgs p).toPCfg_adm) (dats m) () EP (fun _ => 0) cellOf_inj 0 defs₀ 𝒱₀ (fun _ => fullShare)
    c Set.univ (fun _ _ => Set.mem_univ _) (body_at m c).loose block_pos0 none (fun u h => nomatch h)
    (X := before m c) (Y := iprop(inPts m c ∗ outPts c (got m c))) (R := Pipeline.scopedRest cfg0.spec c) (I := Pipeline.idleSems0 cfgs cellOf_inj 0 osem_facts c)
    (Entails.of_eq (Pipeline.scopedBufs_split cfgs 0 winFacts0.stage_scoped winFacts0.stage_inj stage_whole0 c))
    (by rw [phi_first]; iintro ⟨H, -, -⟩; iexact H)
    (body_out m c)
    (k := fun _ => .ret ⟨⟩) (Q := Q)

theorem no_tables (c : Dev nD) : (BI.emp : sProp 𝕄)
    ⊢ Pipeline.prefHeld (pcfgs (F := F) 0).pre c (fun _ => fullShare) ((cfgs 0).toPCfg_adm (Val := Elt F)).1 :=
  Entails.of_eq (none_held (F := F) _).symm

/-- A core's run of the call. -/
theorem core_runs (c : Dev nD) :
    start m c ⊢ wp frame (wpE (defs (F := F)) (Variants.lift 𝒱₀) (c : Thread nD τ) none) Set.univ (main (F := F) c)
      (fun _ => post (liftTc (finish m) BI.emp) (c : Thread nD τ)) := by
  unfold start
  iintro ⟨⟨Hsc, Hidle⟩, HO, Hb⟩
  iapply (call m c _) $$ [Hsc Hidle HO Hb]
  · isplitl [HO]; · iapply (entry_pre m c); iexact HO
    isplitr; · iapply (no_tables c); iempintro
    isplitl [Hb]; · iexact Hb
    isplitl [Hidle] <;> iassumption
  iintro ⟨Hpost, HY, Hz, -⟩
  ihave HO := (entry_post m c) $$ Hpost
  rw [wp_ret]; imodintro
  unfold post; simp only [liftTc_tc]
  unfold finish
  isplitr [HO]
  · isplitl [HY] <;> iassumption
  iexact HO

/-- What a core's end says of the memory. -/
theorem core_says (c : Dev nD) (s' : Phys nD τ sig (Elt F)) :
    iprop(finish m c ∗ SI s') ⊢ (|={Set.univ}=> iprop(⌜(s'.mem.mem ((c : Thread nD τ).loc main_arg0) = own m c
        ∧ s'.mem.mem ((c : Thread nD τ).loc main_v1) = own m (sib c))
        ∧ ∀ sm : SemLoc sig, sm.isScoped .tc = true → s'.mem.sem ((c : Thread nD τ), sm) = 0⌝ ∗ SI s') : sProp 𝕄) := by
  unfold finish
  rw [inPts_eq, outPts_eq]
  iintro ⟨⟨⟨Hx, Ho⟩, Hz⟩, HSI⟩
  ihave %hz := (tcScoped_read_pers c s') $$ [Hz HSI]
  · isplitl [Hz] <;> iassumption
  ihave H1 := (pointsTo_read_all (Finset.univ : Finset Unit) (fun _ => (c : Thread nD τ).loc main_arg0) (fun _ => own m c) s') $$ [Hx HSI]
  · isplitl [Hx]; · rw [show (Finset.univ : Finset Unit) = {()} from rfl, bigSep_singleton]; iexact Hx
    iexact HSI
  icases H1 with ⟨%h1, HSI⟩
  ihave H2 := (pointsTo_read_all (Finset.univ : Finset Unit) (fun _ => (c : Thread nD τ).loc main_v1) (fun _ => got m c) s') $$ [Ho HSI]
  · isplitl [Ho]; · rw [show (Finset.univ : Finset Unit) = {()} from rfl, bigSep_singleton]; iexact Ho
    iexact HSI
  icases H2 with ⟨%h2, HSI⟩
  imodintro
  isplitr
  · ipureintro; exact ⟨⟨h1 () (Finset.mem_univ _), h2 () (Finset.mem_univ _)⟩, hz⟩
  iexact HSI

/-- The program: every core's result is its sibling's block, its own block is unchanged, and every semaphore ends at zero. -/
theorem run_main : θ_run defs (onTc (τ := τ) (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_v1) = m ((sib c : Thread nD τ).loc main_arg0)) ∧ r.2.sem = fun _ => 0) := by
  refine (θ_run defs _ _).mono (Q := fun r => (∀ c : Dev nD, (r.2.mem ((c : Thread nD τ).loc main_arg0) = own m c
        ∧ r.2.mem ((c : Thread nD τ).loc main_v1) = own m (sib c))
        ∧ ∀ sm : SemLoc sig, sm.isScoped .tc = true → r.2.sem ((c : Thread nD τ), sm) = 0)
      ∧ ∀ g' : GSem nD τ sig, g'.1.2 ≠ .tc → r.2.sem g' = 0)
    (fun r hr => ⟨fun c => (hr.1 c).1, sem_eq_zero_of_scoped (by decide) (sems_of_reads (fun c => (hr.1 c).2) hr.2)⟩)
    (adequate_tpu defs _ _ _ (reflect_intro_fupd_tc_sems (Ix := Unit) (Name := ℕ) (U := UU) (Lvl := ℕ) (X := Unit) (Variants.lift 𝒱₀) (Pipeline.owing O₀) 0 (noBookings fun _ => le_rfl)
      (Pipeline.owing_of_ne O₀) u₀ (fun _ => start m) (fun _ => finish m) (fun _ => iprop(emp)) Set.univ ?_ (fun _ c => core_runs m c) fun _ => ?_))
  · iintro H
    imod (launch m ρ) $$ H with H
    imodintro
    iexists ()
    isplitl [H]; · iexact H
    iempintro
  · iintro ⟨H, -, Hsc⟩ %s' HSI
    ihave %hsc := (scSems_read_zero m ρ s') $$ [Hsc HSI]
    · isplitl [Hsc] <;> iassumption
    imod (posts_fupd Finset.univ (core_says m) s') $$ [H HSI] with %h
    · isplitl [H] <;> iassumption
    imodintro
    ipureintro
    exact ⟨fun c => h c (Finset.mem_univ c), hsc⟩

end Cert.SiblingIdeal.Swap

end
-- ==== Proof.Sibling.lean ====
/- The exchange with the other core: the frames, and the gathered result is the whole array with the two blocks of
   every chip swapped. -/
module

public import proofs.«01_k».proof.Defs
public import proofs.«01_k».proof.Proof.Swap
public import proofs.«01_k».proof.Proof.Gen.Sibling
public import proofs.«01_k».proof.Proof.Gen.SiblingRefIdeal.Run
public import Idealize.ShloMosaic.Lib.Pointwise
public import Idealize.ShloMosaic.Lib.Layout
public import Idealize.ShloMosaic.Lib.Pipeline.Value
public import Idealize.ShloMosaic.Lib.ValueIdx

@[expose] public section

noncomputable section

namespace Cert.SiblingIdeal.Math

open Cert.SiblingIdeal Cert.SiblingIdeal.Swap
open Idealize.ShloMosaic Idealize.ShloMosaic.TcCoe Idealize.SL.Sem
open Cert.SiblingRefIdeal.Gen (shapeCasts_S5632x512_S4x2x704x512 shapeCasts_S4x2x704x512_S5632x512)

variable {α : Type}

/-- The chip's pair of blocks reversed, as the reference writes it. -/
def swapped (W : Cert.SiblingRefIdeal.S5632x512.Idx → α) : Cert.SiblingRefIdeal.S5632x512.Idx → α :=
  shapeCast _ (Host.reverse [1] (shapeCast Cert.SiblingRefIdeal.S4x2x704x512 W shapeCasts_S5632x512_S4x2x704x512)) shapeCasts_S4x2x704x512_S5632x512

/-- Block `c` of the reversed array is the block beside `c`. -/
theorem block_swapped (W : Cert.SiblingRefIdeal.S5632x512.Idx → α) (c : Fin 8) :
    Layout.block ⟨2, ![704, 512]⟩ ⟨2, ![5632, 512]⟩ 0 8 c (swapped W) = Layout.block ⟨2, ![704, 512]⟩ ⟨2, ![5632, 512]⟩ 0 8 (sib c) W := by
  funext i
  have h0 : (i 0).val < 704 := (i 0).isLt
  have h1 : (i 1).val < 512 := (i 1).isLt
  have hc := c.isLt
  rw [Layout.block_apply, Layout.block_apply]
  unfold swapped
  rw [Idealize.ShloMosaic.shapeCast_apply _ _ _ (ix4 (⟨c.val / 2, by omega⟩ : Fin 4) (⟨c.val % 2, by omega⟩ : Fin 2) (⟨(i 0).val, h0⟩ : Fin 704) (⟨(i 1).val, h1⟩ : Fin 512)) (by
      rw [Shape.rowMajor_val_four, Shape.rowMajor_val_two]
      show ((c.val / 2 * 2 + c.val % 2) * 704 + (i 0).val) * 512 + (i 1).val = (c.val * 704 + (i 0).val) * 512 + (i 1).val
      omega), Host.reverse_apply]
  refine Idealize.ShloMosaic.shapeCast_apply _ _ _ _ ?_
  rw [Shape.rowMajor_val_four, Shape.rowMajor_val_two]
  show ((c.val + 1 - 2 * (c.val % 2)) * 704 + (i 0).val) * 512 + (i 1).val
    = ((c.val / 2 * 2 + (2 - (c.val % 2 + 1))) * 704 + (i 0).val) * 512 + (i 1).val
  have : c.val + 1 - 2 * (c.val % 2) = c.val / 2 * 2 + (2 - (c.val % 2 + 1)) := by omega
  rw [this]

theorem frame_bits : Cert.quiescent_Sibling := fun m g _ =>
  (θ_run Cert.SiblingIdeal.defs _ _).mono (fun _ h => ⟨fun c => (h.1 c).1, h.2⟩) (run_main (F := Bits) m g)
theorem frame_ideal : Cert.quiescent_SiblingIdeal := fun m g _ =>
  (θ_run _ _ _).mono (fun _ h => ⟨fun c => (h.1 c).1, h.2⟩) (run_main (F := Ideal) m g)
theorem frame_ref : Cert.quiescent_SiblingRefIdeal := fun m g _ =>
  (θ_run _ _ _).mono (fun r h => ⟨fun c => (h c).2, sem_eq_zero_of_no_sems (by decide) r.2⟩) (Cert.SiblingRefIdeal.Value.run (F := Ideal) m g)

theorem algebraic : Cert.algebraic_SiblingIdeal_SiblingRefIdeal := fun m g m' g' _ hm => by
  refine ⟨swapped (m' (((0 : Dev Cert.SiblingRefIdeal.nD).tc : Thread Cert.SiblingRefIdeal.nD Cert.SiblingRefIdeal.τ).loc Cert.SiblingRefIdeal.main_arg0)), ?_, ?_⟩
  · refine (θ_run _ _ _).mono (fun r h c => ⟨?_, (h.1 c).1⟩) (run_main (F := Ideal) m g)
    exact ((h.1 c).2.trans (hm (sib c))).trans (block_swapped _ c).symm
  · exact (θ_run _ _ _).mono (fun r h => ⟨(h 0).1, (h 0).2⟩) (Cert.SiblingRefIdeal.Value.run (F := Ideal) m' g')

end Cert.SiblingIdeal.Math

end
-- ==== Proof.lean ====
module

public import proofs.«01_k».proof.Defs
public import proofs.«01_k».proof.Proof.Gen.Swiglu
public import proofs.«01_k».proof.Proof.Gen.Swiglu.Skeleton
public import proofs.«01_k».proof.Proof.Gen.Swiglu.Launch
public import proofs.«01_k».proof.Proof.Gen.Swiglu.Points
public import proofs.«01_k».proof.Proof.Gen.Swiglu.Frame
public import proofs.«01_k».proof.Proof.Gen.SwigluIdeal
public import proofs.«01_k».proof.Proof.Gen.SwigluIdeal.Skeleton
public import proofs.«01_k».proof.Proof.Gen.SwigluIdeal.Launch
public import proofs.«01_k».proof.Proof.Gen.SwigluIdeal.Points
public import proofs.«01_k».proof.Proof.Gen.SwigluIdeal.Frame
public import proofs.«01_k».proof.Proof.Gen.SwigluIdeal.Value
public import proofs.«01_k».proof.Proof.Gen.SwigluRefIdeal
public import proofs.«01_k».proof.Proof.Gen.SwigluRefIdeal.Run
public import proofs.«01_k».proof.Proof.Gen.SwigluRefIdeal.Read
public import proofs.«01_k».proof.Proof.Gen.Pre_finite_swiglu
public import proofs.«01_k».proof.Proof.Swiglu
public import proofs.«01_k».proof.Proof.Gen.Attn
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Loops
public import proofs.«01_k».proof.Proof.Gen.AttnIdeal.Frame
public import proofs.«01_k».proof.Proof.Gen.AttnRefIdeal
public import proofs.«01_k».proof.Proof.Gen.AttnRefIdeal.Run
public import proofs.«01_k».proof.Proof.Gen.AttnRefIdeal.Read
public import proofs.«01_k».proof.Proof.Gen.Pre_finite_attn
public import proofs.«01_k».proof.Proof.AttnClaim
public import proofs.«01_k».proof.Proof.Gen.FfNorm
public import proofs.«01_k».proof.Proof.Gen.FfNorm.Skeleton
public import proofs.«01_k».proof.Proof.Gen.FfNorm.Launch
public import proofs.«01_k».proof.Proof.Gen.FfNorm.Points
public import proofs.«01_k».proof.Proof.Gen.FfNorm.Frame
public import proofs.«01_k».proof.Proof.Gen.FfNormIdeal
public import proofs.«01_k».proof.Proof.Gen.FfNormIdeal.Skeleton
public import proofs.«01_k».proof.Proof.Gen.FfNormIdeal.Launch
public import proofs.«01_k».proof.Proof.Gen.FfNormIdeal.Points
public import proofs.«01_k».proof.Proof.Gen.FfNormIdeal.Frame
public import proofs.«01_k».proof.Proof.Gen.FfNormIdeal.Value
public import proofs.«01_k».proof.Proof.Gen.FfNormRefIdeal
public import proofs.«01_k».proof.Proof.Gen.FfNormRefIdeal.Run
public import proofs.«01_k».proof.Proof.Gen.FfNormRefIdeal.Read
public import proofs.«01_k».proof.Proof.Gen.Pre_finite_ffnorm
public import proofs.«01_k».proof.Proof.FfNorm
public import proofs.«01_k».proof.Proof.Gen.QNorm
public import proofs.«01_k».proof.Proof.Gen.QNorm.Skeleton
public import proofs.«01_k».proof.Proof.Gen.QNorm.Launch
public import proofs.«01_k».proof.Proof.Gen.QNorm.Points
public import proofs.«01_k».proof.Proof.Gen.QNorm.Frame
public import proofs.«01_k».proof.Proof.Gen.QNormIdeal
public import proofs.«01_k».proof.Proof.Gen.QNormIdeal.Skeleton
public import proofs.«01_k».proof.Proof.Gen.QNormIdeal.Launch
public import proofs.«01_k».proof.Proof.Gen.QNormIdeal.Points
public import proofs.«01_k».proof.Proof.Gen.QNormIdeal.Frame
public import proofs.«01_k».proof.Proof.Gen.QNormIdeal.Value
public import proofs.«01_k».proof.Proof.Gen.QNormRefIdeal
public import proofs.«01_k».proof.Proof.Gen.QNormRefIdeal.Run
public import proofs.«01_k».proof.Proof.Gen.QNormRefIdeal.Read
public import proofs.«01_k».proof.Proof.Gen.Pre_finite_qnorm
public import proofs.«01_k».proof.Proof.QNorm
public import proofs.«01_k».proof.Proof.Gen.KvNorm
public import proofs.«01_k».proof.Proof.Gen.KvNorm.Skeleton
public import proofs.«01_k».proof.Proof.Gen.KvNorm.Launch
public import proofs.«01_k».proof.Proof.Gen.KvNorm.Points
public import proofs.«01_k».proof.Proof.Gen.KvNorm.Frame
public import proofs.«01_k».proof.Proof.Gen.KvNormIdeal
public import proofs.«01_k».proof.Proof.Gen.KvNormIdeal.Skeleton
public import proofs.«01_k».proof.Proof.Gen.KvNormIdeal.Launch
public import proofs.«01_k».proof.Proof.Gen.KvNormIdeal.Points
public import proofs.«01_k».proof.Proof.Gen.KvNormIdeal.Frame
public import proofs.«01_k».proof.Proof.Gen.KvNormIdeal.Value
public import proofs.«01_k».proof.Proof.Gen.KvNormRefIdeal
public import proofs.«01_k».proof.Proof.Gen.KvNormRefIdeal.Run
public import proofs.«01_k».proof.Proof.Gen.KvNormRefIdeal.Read
public import proofs.«01_k».proof.Proof.Gen.Pre_finite_kvnorm
public import proofs.«01_k».proof.Proof.KvNorm
public import proofs.«01_k».proof.Proof.Gen.InNorm
public import proofs.«01_k».proof.Proof.Gen.InNorm.Skeleton
public import proofs.«01_k».proof.Proof.Gen.InNorm.Launch
public import proofs.«01_k».proof.Proof.Gen.InNorm.Points
public import proofs.«01_k».proof.Proof.Gen.InNorm.Frame
public import proofs.«01_k».proof.Proof.Gen.InNormIdeal
public import proofs.«01_k».proof.Proof.Gen.InNormIdeal.Skeleton
public import proofs.«01_k».proof.Proof.Gen.InNormIdeal.Launch
public import proofs.«01_k».proof.Proof.Gen.InNormIdeal.Points
public import proofs.«01_k».proof.Proof.Gen.InNormIdeal.Frame
public import proofs.«01_k».proof.Proof.Gen.InNormIdeal.Value
public import proofs.«01_k».proof.Proof.Gen.InNormRefIdeal
public import proofs.«01_k».proof.Proof.Gen.InNormRefIdeal.Run
public import proofs.«01_k».proof.Proof.Gen.InNormRefIdeal.Read
public import proofs.«01_k».proof.Proof.Gen.Pre_finite_innorm
public import proofs.«01_k».proof.Proof.InNorm
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossIdeal.Value
public import proofs.«01_k».proof.Proof.Gen.LossRefIdeal
public import proofs.«01_k».proof.Proof.Gen.LossRefIdeal.Run
public import proofs.«01_k».proof.Proof.Gen.LossRefIdeal.Read
public import proofs.«01_k».proof.Proof.Gen.Pre_finite_loss
public import proofs.«01_k».proof.Proof.Loss
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjRefIdeal
public import proofs.«01_k».proof.Proof.Gen.OutProjRefIdeal.Run
public import proofs.«01_k».proof.Proof.Gen.OutProjRefIdeal.Read
public import proofs.«01_k».proof.Proof.Gen.Pre_finite_outproj
public import proofs.«01_k».proof.Proof.OutProj
public import proofs.«01_k».proof.Proof.Gen.Rope
public import proofs.«01_k».proof.Proof.Gen.Rope.Skeleton
public import proofs.«01_k».proof.Proof.Gen.Rope.Launch
public import proofs.«01_k».proof.Proof.Gen.Rope.Points
public import proofs.«01_k».proof.Proof.Gen.Rope.Frame
public import proofs.«01_k».proof.Proof.Gen.RopeIdeal
public import proofs.«01_k».proof.Proof.Gen.RopeIdeal.Skeleton
public import proofs.«01_k».proof.Proof.Gen.RopeIdeal.Launch
public import proofs.«01_k».proof.Proof.Gen.RopeIdeal.Points
public import proofs.«01_k».proof.Proof.Gen.RopeIdeal.Frame
public import proofs.«01_k».proof.Proof.Gen.RopeRefIdeal
public import proofs.«01_k».proof.Proof.Gen.RopeRefIdeal.Run
public import proofs.«01_k».proof.Proof.Gen.RopeRefIdeal.Read
public import proofs.«01_k».proof.Proof.Rope
public import proofs.«01_k».proof.Proof.Gen.Flash
public import proofs.«01_k».proof.Proof.Gen.Flash.Skeleton
public import proofs.«01_k».proof.Proof.Gen.Flash.Launch
public import proofs.«01_k».proof.Proof.Gen.Flash.Points
public import proofs.«01_k».proof.Proof.Gen.Flash.Loops
public import proofs.«01_k».proof.Proof.Gen.Flash.Frame
public import proofs.«01_k».proof.Proof.Gen.FlashIdeal
public import proofs.«01_k».proof.Proof.Gen.FlashIdeal.Skeleton
public import proofs.«01_k».proof.Proof.Gen.FlashIdeal.Launch
public import proofs.«01_k».proof.Proof.Gen.FlashIdeal.Points
public import proofs.«01_k».proof.Proof.Gen.FlashIdeal.Loops
public import proofs.«01_k».proof.Proof.Gen.FlashIdeal.Frame
public import proofs.«01_k».proof.Proof.Gen.FlashRefIdeal
public import proofs.«01_k».proof.Proof.Gen.FlashRefIdeal.Run
public import proofs.«01_k».proof.Proof.Gen.FlashRefIdeal.Read
public import proofs.«01_k».proof.Proof.Gen.Pre_finite_attn_fwd
public import proofs.«01_k».proof.Proof.FlashClaim
public import proofs.«01_k».proof.Proof.Gen.Latents
public import proofs.«01_k».proof.Proof.Gen.Latents.Skeleton
public import proofs.«01_k».proof.Proof.Gen.Latents.Launch
public import proofs.«01_k».proof.Proof.Gen.Latents.Points
public import proofs.«01_k».proof.Proof.Gen.Latents.Frame
public import proofs.«01_k».proof.Proof.Gen.LatentsIdeal
public import proofs.«01_k».proof.Proof.Gen.LatentsIdeal.Skeleton
public import proofs.«01_k».proof.Proof.Gen.LatentsIdeal.Launch
public import proofs.«01_k».proof.Proof.Gen.LatentsIdeal.Points
public import proofs.«01_k».proof.Proof.Gen.LatentsIdeal.Frame
public import proofs.«01_k».proof.Proof.Gen.LatentsRefIdeal
public import proofs.«01_k».proof.Proof.Gen.LatentsRefIdeal.Run
public import proofs.«01_k».proof.Proof.Gen.LatentsRefIdeal.Read
public import proofs.«01_k».proof.Proof.Latents
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixRefIdeal
public import proofs.«01_k».proof.Proof.Gen.MixRefIdeal.Run
public import proofs.«01_k».proof.Proof.Gen.MixRefIdeal.Read
public import proofs.«01_k».proof.Proof.Mix
public import proofs.«01_k».proof.Proof.Gen.GateUp
public import proofs.«01_k».proof.Proof.Gen.GateUp.Skeleton
public import proofs.«01_k».proof.Proof.Gen.GateUp.Launch
public import proofs.«01_k».proof.Proof.Gen.GateUp.Points
public import proofs.«01_k».proof.Proof.Gen.GateUp.Frame
public import proofs.«01_k».proof.Proof.Gen.GateUpIdeal
public import proofs.«01_k».proof.Proof.Gen.GateUpIdeal.Skeleton
public import proofs.«01_k».proof.Proof.Gen.GateUpIdeal.Launch
public import proofs.«01_k».proof.Proof.Gen.GateUpIdeal.Points
public import proofs.«01_k».proof.Proof.Gen.GateUpIdeal.Frame
public import proofs.«01_k».proof.Proof.Gen.GateUpRefIdeal
public import proofs.«01_k».proof.Proof.Gen.GateUpRefIdeal.Run
public import proofs.«01_k».proof.Proof.Gen.GateUpRefIdeal.Read
public import proofs.«01_k».proof.Proof.GateUp
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpRefIdeal
public import proofs.«01_k».proof.Proof.Gen.UpRefIdeal.Run
public import proofs.«01_k».proof.Proof.Gen.UpRefIdeal.Read
public import proofs.«01_k».proof.Proof.Up
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.DownRefIdeal.Read
public import proofs.«01_k».proof.Proof.Down
public import proofs.«01_k».proof.Proof.Gen.Adam
public import proofs.«01_k».proof.Proof.Gen.Adam.Skeleton
public import proofs.«01_k».proof.Proof.Gen.Adam.Launch
public import proofs.«01_k».proof.Proof.Gen.Adam.Points
public import proofs.«01_k».proof.Proof.Gen.Adam.Frame
public import proofs.«01_k».proof.Proof.Gen.AdamIdeal
public import proofs.«01_k».proof.Proof.Gen.AdamIdeal.Skeleton
public import proofs.«01_k».proof.Proof.Gen.AdamIdeal.Launch
public import proofs.«01_k».proof.Proof.Gen.AdamIdeal.Points
public import proofs.«01_k».proof.Proof.Gen.AdamIdeal.Frame
public import proofs.«01_k».proof.Proof.Gen.AdamRefIdeal
public import proofs.«01_k».proof.Proof.Gen.AdamRefIdeal.Run
public import proofs.«01_k».proof.Proof.Gen.AdamRefIdeal.Read
public import proofs.«01_k».proof.Proof.Gen.Pre_a_core
public import proofs.«01_k».proof.Proof.Adam
public import proofs.«01_k».proof.Proof.Gen.Sibling
public import proofs.«01_k».proof.Proof.Gen.Sibling.Skeleton
public import proofs.«01_k».proof.Proof.Gen.Sibling.Launch
public import proofs.«01_k».proof.Proof.Gen.Sibling.Points
public import proofs.«01_k».proof.Proof.Gen.Sibling.Frame
public import proofs.«01_k».proof.Proof.Gen.SiblingIdeal
public import proofs.«01_k».proof.Proof.Gen.SiblingIdeal.Skeleton
public import proofs.«01_k».proof.Proof.Gen.SiblingIdeal.Launch
public import proofs.«01_k».proof.Proof.Gen.SiblingIdeal.Points
public import proofs.«01_k».proof.Proof.Gen.SiblingIdeal.Frame
public import proofs.«01_k».proof.Proof.Gen.SiblingRefIdeal
public import proofs.«01_k».proof.Proof.Gen.SiblingRefIdeal.Run
public import proofs.«01_k».proof.Proof.Sibling

@[expose] public section

set_option maxRecDepth 16384

noncomputable section

namespace Cert.Proof

open Idealize.ShloMosaic Idealize.SL.Sem

theorem claim : Cert.Claim :=
  ⟨Cert.Swiglu.Gen.facts,
    Cert.SwigluIdeal.Gen.facts,
    Cert.SwigluRefIdeal.Gen.facts,
    Cert.Attn.Gen.facts,
    Cert.AttnIdeal.Gen.facts,
    Cert.AttnRefIdeal.Gen.facts,
    Cert.FfNorm.Gen.facts,
    Cert.FfNormIdeal.Gen.facts,
    Cert.FfNormRefIdeal.Gen.facts,
    Cert.QNorm.Gen.facts,
    Cert.QNormIdeal.Gen.facts,
    Cert.QNormRefIdeal.Gen.facts,
    Cert.KvNorm.Gen.facts,
    Cert.KvNormIdeal.Gen.facts,
    Cert.KvNormRefIdeal.Gen.facts,
    Cert.InNorm.Gen.facts,
    Cert.InNormIdeal.Gen.facts,
    Cert.InNormRefIdeal.Gen.facts,
    Cert.Loss.Gen.facts,
    Cert.LossIdeal.Gen.facts,
    Cert.LossRefIdeal.Gen.facts,
    Cert.OutProj.Gen.facts,
    Cert.OutProjIdeal.Gen.facts,
    Cert.OutProjRefIdeal.Gen.facts,
    Cert.Rope.Gen.facts,
    Cert.RopeIdeal.Gen.facts,
    Cert.RopeRefIdeal.Gen.facts,
    Cert.Flash.Gen.facts,
    Cert.FlashIdeal.Gen.facts,
    Cert.FlashRefIdeal.Gen.facts,
    Cert.Latents.Gen.facts,
    Cert.LatentsIdeal.Gen.facts,
    Cert.LatentsRefIdeal.Gen.facts,
    Cert.Mix.Gen.facts,
    Cert.MixIdeal.Gen.facts,
    Cert.MixRefIdeal.Gen.facts,
    Cert.GateUp.Gen.facts,
    Cert.GateUpIdeal.Gen.facts,
    Cert.GateUpRefIdeal.Gen.facts,
    Cert.Up.Gen.facts,
    Cert.UpIdeal.Gen.facts,
    Cert.UpRefIdeal.Gen.facts,
    Cert.Down.Gen.facts,
    Cert.DownIdeal.Gen.facts,
    Cert.DownRefIdeal.Gen.facts,
    Cert.Adam.Gen.facts,
    Cert.AdamIdeal.Gen.facts,
    Cert.AdamRefIdeal.Gen.facts,
    Cert.Sibling.Gen.facts,
    Cert.SiblingIdeal.Gen.facts,
    Cert.SiblingRefIdeal.Gen.facts,
    Cert.Pre_finite_swiglu.Gen.facts,
    Cert.Pre_finite_attn.Gen.facts,
    Cert.Pre_finite_ffnorm.Gen.facts,
    Cert.Pre_finite_qnorm.Gen.facts,
    Cert.Pre_finite_kvnorm.Gen.facts,
    Cert.Pre_finite_innorm.Gen.facts,
    Cert.Pre_finite_loss.Gen.facts,
    Cert.Pre_finite_outproj.Gen.facts,
    Cert.Pre_finite_attn_fwd.Gen.facts,
    Cert.Pre_a_core.Gen.facts,
    fun m g _ => Cert.Swiglu.Gen.frame m g,
    fun m g _ => Cert.SwigluIdeal.Gen.frame m g,
    fun m g _ => Cert.SwigluIdeal.Gen.frame m g,
    Cert.SwigluIdeal.Math.frame_ref,
    fun m g _ => Cert.SwigluIdeal.Math.frame_ref m g trivial,
    Cert.AttnIdeal.Own.frame_bits,
    Cert.AttnIdeal.Own.frame_ideal,
    fun m g _ => Cert.AttnIdeal.Own.frame_ideal m g trivial,
    Cert.AttnIdeal.Own.frame_ref,
    fun m g _ => Cert.AttnIdeal.Own.frame_ref m g trivial,
    fun m g _ => Cert.FfNorm.Gen.frame m g,
    fun m g _ => Cert.FfNormIdeal.Gen.frame m g,
    fun m g _ => Cert.FfNormIdeal.Gen.frame m g,
    Cert.FfNormIdeal.Math.frame_ref,
    fun m g _ => Cert.FfNormIdeal.Math.frame_ref m g trivial,
    fun m g _ => Cert.QNorm.Gen.frame m g,
    fun m g _ => Cert.QNormIdeal.Gen.frame m g,
    fun m g _ => Cert.QNormIdeal.Gen.frame m g,
    Cert.QNormIdeal.Math.frame_ref,
    fun m g _ => Cert.QNormIdeal.Math.frame_ref m g trivial,
    fun m g _ => Cert.KvNorm.Gen.frame m g,
    fun m g _ => Cert.KvNormIdeal.Gen.frame m g,
    fun m g _ => Cert.KvNormIdeal.Gen.frame m g,
    Cert.KvNormIdeal.Math.frame_ref,
    fun m g _ => Cert.KvNormIdeal.Math.frame_ref m g trivial,
    fun m g _ => Cert.InNorm.Gen.frame m g,
    fun m g _ => Cert.InNormIdeal.Gen.frame m g,
    fun m g _ => Cert.InNormIdeal.Gen.frame m g,
    Cert.InNormIdeal.Math.frame_ref,
    fun m g _ => Cert.InNormIdeal.Math.frame_ref m g trivial,
    fun m g _ => Cert.Loss.Gen.frame m g,
    fun m g _ => Cert.LossIdeal.Gen.frame m g,
    fun m g _ => Cert.LossIdeal.Gen.frame m g,
    Cert.LossIdeal.Math.frame_ref,
    fun m g _ => Cert.LossIdeal.Math.frame_ref m g trivial,
    fun m g _ => Cert.OutProj.Gen.frame m g,
    fun m g _ => Cert.OutProjIdeal.Gen.frame m g,
    fun m g _ => Cert.OutProjIdeal.Gen.frame m g,
    Cert.OutProjIdeal.Math.frame_ref,
    fun m g _ => Cert.OutProjIdeal.Math.frame_ref m g trivial,
    fun m g _ => Cert.Rope.Gen.frame m g,
    fun m g _ => Cert.RopeIdeal.Gen.frame m g,
    Cert.RopeIdeal.Math.frame_ref,
    Cert.FlashIdeal.Own.frame_bits,
    Cert.FlashIdeal.Own.frame_ideal,
    fun m g _ => Cert.FlashIdeal.Own.frame_ideal m g trivial,
    Cert.FlashIdeal.Own.frame_ref,
    fun m g _ => Cert.FlashIdeal.Own.frame_ref m g trivial,
    fun m g _ => Cert.Latents.Gen.frame m g,
    fun m g _ => Cert.LatentsIdeal.Gen.frame m g,
    Cert.LatentsIdeal.Math.frame_ref,
    fun m g _ => Cert.Mix.Gen.frame m g,
    fun m g _ => Cert.MixIdeal.Gen.frame m g,
    Cert.MixIdeal.Math.frame_ref,
    fun m g _ => Cert.GateUp.Gen.frame m g,
    fun m g _ => Cert.GateUpIdeal.Gen.frame m g,
    Cert.GateUpIdeal.Math.frame_ref,
    fun m g _ => Cert.Up.Gen.frame m g,
    fun m g _ => Cert.UpIdeal.Gen.frame m g,
    Cert.UpIdeal.Math.frame_ref,
    fun m g _ => Cert.Down.Gen.frame m g,
    fun m g _ => Cert.DownIdeal.Gen.frame m g,
    Cert.DownIdeal.Math.frame_ref,
    fun m g _ => Cert.Adam.Gen.frame m g trivial,
    fun m g _ => Cert.AdamIdeal.Gen.frame m g trivial,
    fun m g _ => Cert.AdamIdeal.Gen.frame m g trivial,
    Cert.AdamIdeal.Math.frame_ref,
    fun m g _ => Cert.AdamIdeal.Math.frame_ref m g trivial,
    Cert.SiblingIdeal.Math.frame_bits,
    Cert.SiblingIdeal.Math.frame_ideal,
    Cert.SiblingIdeal.Math.frame_ref,
    trivial,
    Cert.SwigluIdeal.Math.algebraic,
    trivial,
    Cert.AttnIdeal.Own.algebraic,
    trivial,
    Cert.FfNormIdeal.Math.algebraic,
    trivial,
    Cert.QNormIdeal.Math.algebraic,
    trivial,
    Cert.KvNormIdeal.Math.algebraic,
    trivial,
    Cert.InNormIdeal.Math.algebraic,
    trivial,
    Cert.LossIdeal.Math.algebraic,
    trivial,
    Cert.OutProjIdeal.Math.algebraic,
    Cert.RopeIdeal.Math.preserves,
    Cert.RopeIdeal.Math.algebraic,
    trivial,
    Cert.FlashIdeal.Own.algebraic,
    trivial,
    Cert.LatentsIdeal.Math.algebraic,
    trivial,
    Cert.MixIdeal.Math.algebraic,
    trivial,
    Cert.GateUpIdeal.Math.algebraic,
    Cert.UpIdeal.Math.preserves,
    Cert.UpIdeal.Math.algebraic,
    trivial,
    Cert.DownIdeal.Math.algebraic,
    trivial,
    Cert.AdamIdeal.Math.algebraic,
    trivial,
    Cert.SiblingIdeal.Math.algebraic⟩

end Cert.Proof

end
